-- ==== Defs.lean ====
def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvRIdeal (m : (ℓ : Loc Cert.ConvRIdeal.nD Cert.ConvRIdeal.τ Cert.ConvRIdeal.sig) → Buf (Elt Ideal) ℓ) : Prop :=
  True

def Pre_PrepK (m : (ℓ : Loc Cert.PrepK.nD Cert.PrepK.τ Cert.PrepK.sig) → Buf (Elt Bits) ℓ) : Prop :=
  True

def Pre_PrepKIdeal (m : (ℓ : Loc Cert.PrepKIdeal.nD Cert.PrepKIdeal.τ Cert.PrepKIdeal.sig) → Buf (Elt Ideal) ℓ) : Prop :=
  True

def Pre_PrepKIdeal_prep_finite [hPre_prep_finite : Cert.Pre_prep_finite.Facts] (m : (ℓ : Loc Cert.PrepKIdeal.nD Cert.PrepKIdeal.τ Cert.PrepKIdeal.sig) → Buf (Elt Ideal) ℓ) : Prop :=
  ∀ c : Dev Cert.PrepKIdeal.nD,
    (Cert.Pre_prep_finite.fn (F := Ideal) (m ((c.tc : Thread Cert.PrepKIdeal.nD Cert.PrepKIdeal.τ).loc Cert.PrepKIdeal.main_arg0)) (m ((c.tc : Thread Cert.PrepKIdeal.nD Cert.PrepKIdeal.τ).loc Cert.PrepKIdeal.main_arg1)) (m ((c.tc : Thread Cert.PrepKIdeal.nD Cert.PrepKIdeal.τ).loc Cert.PrepKIdeal.main_arg2)) (m ((c.tc : Thread Cert.PrepKIdeal.nD Cert.PrepKIdeal.τ).loc Cert.PrepKIdeal.main_arg3)) (m ((c.tc : Thread Cert.PrepKIdeal.nD Cert.PrepKIdeal.τ).loc Cert.PrepKIdeal.main_arg4)) (m ((c.tc : Thread Cert.PrepKIdeal.nD Cert.PrepKIdeal.τ).loc Cert.PrepKIdeal.main_arg5)) (m ((c.tc : Thread Cert.PrepKIdeal.nD Cert.PrepKIdeal.τ).loc Cert.PrepKIdeal.main_arg6)) (m ((c.tc : Thread Cert.PrepKIdeal.nD Cert.PrepKIdeal.τ).loc Cert.PrepKIdeal.main_arg7)) (m ((c.tc : Thread Cert.PrepKIdeal.nD Cert.PrepKIdeal.τ).loc Cert.PrepKIdeal.main_arg8)) (m ((c.tc : Thread Cert.PrepKIdeal.nD Cert.PrepKIdeal.τ).loc Cert.PrepKIdeal.main_arg9))).1 = (fun _ => 1#1)
    ∧ (Cert.Pre_prep_finite.fn (F := Ideal) (m ((c.tc : Thread Cert.PrepKIdeal.nD Cert.PrepKIdeal.τ).loc Cert.PrepKIdeal.main_arg0)) (m ((c.tc : Thread Cert.PrepKIdeal.nD Cert.PrepKIdeal.τ).loc Cert.PrepKIdeal.main_arg1)) (m ((c.tc : Thread Cert.PrepKIdeal.nD Cert.PrepKIdeal.τ).loc Cert.PrepKIdeal.main_arg2)) (m ((c.tc : Thread Cert.PrepKIdeal.nD Cert.PrepKIdeal.τ).loc Cert.PrepKIdeal.main_arg3)) (m ((c.tc : Thread Cert.PrepKIdeal.nD Cert.PrepKIdeal.τ).loc Cert.PrepKIdeal.main_arg4)) (m ((c.tc : Thread Cert.PrepKIdeal.nD Cert.PrepKIdeal.τ).loc Cert.PrepKIdeal.main_arg5)) (m ((c.tc : Thread Cert.PrepKIdeal.nD Cert.PrepKIdeal.τ).loc Cert.PrepKIdeal.main_arg6)) (m ((c.tc : Thread Cert.PrepKIdeal.nD Cert.PrepKIdeal.τ).loc Cert.PrepKIdeal.main_arg7)) (m ((c.tc : Thread Cert.PrepKIdeal.nD Cert.PrepKIdeal.τ).loc Cert.PrepKIdeal.main_arg8)) (m ((c.tc : Thread Cert.PrepKIdeal.nD Cert.PrepKIdeal.τ).loc Cert.PrepKIdeal.main_arg9))).2.1 = (fun _ => 1#1)
    ∧ (Cert.Pre_prep_finite.fn (F := Ideal) (m ((c.tc : Thread Cert.PrepKIdeal.nD Cert.PrepKIdeal.τ).loc Cert.PrepKIdeal.main_arg0)) (m ((c.tc : Thread Cert.PrepKIdeal.nD Cert.PrepKIdeal.τ).loc Cert.PrepKIdeal.main_arg1)) (m ((c.tc : Thread Cert.PrepKIdeal.nD Cert.PrepKIdeal.τ).loc Cert.PrepKIdeal.main_arg2)) (m ((c.tc : Thread Cert.PrepKIdeal.nD Cert.PrepKIdeal.τ).loc Cert.PrepKIdeal.main_arg3)) (m ((c.tc : Thread Cert.PrepKIdeal.nD Cert.PrepKIdeal.τ).loc Cert.PrepKIdeal.main_arg4)) (m ((c.tc : Thread Cert.PrepKIdeal.nD Cert.PrepKIdeal.τ).loc Cert.PrepKIdeal.main_arg5)) (m ((c.tc : Thread Cert.PrepKIdeal.nD Cert.PrepKIdeal.τ).loc Cert.PrepKIdeal.main_arg6)) (m ((c.tc : Thread Cert.PrepKIdeal.nD Cert.PrepKIdeal.τ).loc Cert.PrepKIdeal.main_arg7)) (m ((c.tc : Thread Cert.PrepKIdeal.nD Cert.PrepKIdeal.τ).loc Cert.PrepKIdeal.main_arg8)) (m ((c.tc : Thread Cert.PrepKIdeal.nD Cert.PrepKIdeal.τ).loc Cert.PrepKIdeal.main_arg9))).2.2.1 = (fun _ => 1#1)
    ∧ (Cert.Pre_prep_finite.fn (F := Ideal) (m ((c.tc : Thread Cert.PrepKIdeal.nD Cert.PrepKIdeal.τ).loc Cert.PrepKIdeal.main_arg0)) (m ((c.tc : Thread Cert.PrepKIdeal.nD Cert.PrepKIdeal.τ).loc Cert.PrepKIdeal.main_arg1)) (m ((c.tc : Thread Cert.PrepKIdeal.nD Cert.PrepKIdeal.τ).loc Cert.PrepKIdeal.main_arg2)) (m ((c.tc : Thread Cert.PrepKIdeal.nD Cert.PrepKIdeal.τ).loc Cert.PrepKIdeal.main_arg3)) (m ((c.tc : Thread Cert.PrepKIdeal.nD Cert.PrepKIdeal.τ).loc Cert.PrepKIdeal.main_arg4)) (m ((c.tc : Thread Cert.PrepKIdeal.nD Cert.PrepKIdeal.τ).loc Cert.PrepKIdeal.main_arg5)) (m ((c.tc : Thread Cert.PrepKIdeal.nD Cert.PrepKIdeal.τ).loc Cert.PrepKIdeal.main_arg6)) (m ((c.tc : Thread Cert.PrepKIdeal.nD Cert.PrepKIdeal.τ).loc Cert.PrepKIdeal.main_arg7)) (m ((c.tc : Thread Cert.PrepKIdeal.nD Cert.PrepKIdeal.τ).loc Cert.PrepKIdeal.main_arg8)) (m ((c.tc : Thread Cert.PrepKIdeal.nD Cert.PrepKIdeal.τ).loc Cert.PrepKIdeal.main_arg9))).2.2.2.1 = (fun _ => 1#1)
    ∧ (Cert.Pre_prep_finite.fn (F := Ideal) (m ((c.tc : Thread Cert.PrepKIdeal.nD Cert.PrepKIdeal.τ).loc Cert.PrepKIdeal.main_arg0)) (m ((c.tc : Thread Cert.PrepKIdeal.nD Cert.PrepKIdeal.τ).loc Cert.PrepKIdeal.main_arg1)) (m ((c.tc : Thread Cert.PrepKIdeal.nD Cert.PrepKIdeal.τ).loc Cert.PrepKIdeal.main_arg2)) (m ((c.tc : Thread Cert.PrepKIdeal.nD Cert.PrepKIdeal.τ).loc Cert.PrepKIdeal.main_arg3)) (m ((c.tc : Thread Cert.PrepKIdeal.nD Cert.PrepKIdeal.τ).loc Cert.PrepKIdeal.main_arg4)) (m ((c.tc : Thread Cert.PrepKIdeal.nD Cert.PrepKIdeal.τ).loc Cert.PrepKIdeal.main_arg5)) (m ((c.tc : Thread Cert.PrepKIdeal.nD Cert.PrepKIdeal.τ).loc Cert.PrepKIdeal.main_arg6)) (m ((c.tc : Thread Cert.PrepKIdeal.nD Cert.PrepKIdeal.τ).loc Cert.PrepKIdeal.main_arg7)) (m ((c.tc : Thread Cert.PrepKIdeal.nD Cert.PrepKIdeal.τ).loc Cert.PrepKIdeal.main_arg8)) (m ((c.tc : Thread Cert.PrepKIdeal.nD Cert.PrepKIdeal.τ).loc Cert.PrepKIdeal.main_arg9))).2.2.2.2.1 = (fun _ => 1#1)
    ∧ (Cert.Pre_prep_finite.fn (F := Ideal) (m ((c.tc : Thread Cert.PrepKIdeal.nD Cert.PrepKIdeal.τ).loc Cert.PrepKIdeal.main_arg0)) (m ((c.tc : Thread Cert.PrepKIdeal.nD Cert.PrepKIdeal.τ).loc Cert.PrepKIdeal.main_arg1)) (m ((c.tc : Thread Cert.PrepKIdeal.nD Cert.PrepKIdeal.τ).loc Cert.PrepKIdeal.main_arg2)) (m ((c.tc : Thread Cert.PrepKIdeal.nD Cert.PrepKIdeal.τ).loc Cert.PrepKIdeal.main_arg3)) (m ((c.tc : Thread Cert.PrepKIdeal.nD Cert.PrepKIdeal.τ).loc Cert.PrepKIdeal.main_arg4)) (m ((c.tc : Thread Cert.PrepKIdeal.nD Cert.PrepKIdeal.τ).loc Cert.PrepKIdeal.main_arg5)) (m ((c.tc : Thread Cert.PrepKIdeal.nD Cert.PrepKIdeal.τ).loc Cert.PrepKIdeal.main_arg6)) (m ((c.tc : Thread Cert.PrepKIdeal.nD Cert.PrepKIdeal.τ).loc Cert.PrepKIdeal.main_arg7)) (m ((c.tc : Thread Cert.PrepKIdeal.nD Cert.PrepKIdeal.τ).loc Cert.PrepKIdeal.main_arg8)) (m ((c.tc : Thread Cert.PrepKIdeal.nD Cert.PrepKIdeal.τ).loc Cert.PrepKIdeal.main_arg9))).2.2.2.2.2.1 = (fun _ => 1#1)
    ∧ (Cert.Pre_prep_finite.fn (F := Ideal) (m ((c.tc : Thread Cert.PrepKIdeal.nD Cert.PrepKIdeal.τ).loc Cert.PrepKIdeal.main_arg0)) (m ((c.tc : Thread Cert.PrepKIdeal.nD Cert.PrepKIdeal.τ).loc Cert.PrepKIdeal.main_arg1)) (m ((c.tc : Thread Cert.PrepKIdeal.nD Cert.PrepKIdeal.τ).loc Cert.PrepKIdeal.main_arg2)) (m ((c.tc : Thread Cert.PrepKIdeal.nD Cert.PrepKIdeal.τ).loc Cert.PrepKIdeal.main_arg3)) (m ((c.tc : Thread Cert.PrepKIdeal.nD Cert.PrepKIdeal.τ).loc Cert.PrepKIdeal.main_arg4)) (m ((c.tc : Thread Cert.PrepKIdeal.nD Cert.PrepKIdeal.τ).loc Cert.PrepKIdeal.main_arg5)) (m ((c.tc : Thread Cert.PrepKIdeal.nD Cert.PrepKIdeal.τ).loc Cert.PrepKIdeal.main_arg6)) (m ((c.tc : Thread Cert.PrepKIdeal.nD Cert.PrepKIdeal.τ).loc Cert.PrepKIdeal.main_arg7)) (m ((c.tc : Thread Cert.PrepKIdeal.nD Cert.PrepKIdeal.τ).loc Cert.PrepKIdeal.main_arg8)) (m ((c.tc : Thread Cert.PrepKIdeal.nD Cert.PrepKIdeal.τ).loc Cert.PrepKIdeal.main_arg9))).2.2.2.2.2.2.1 = (fun _ => 1#1)
    ∧ (Cert.Pre_prep_finite.fn (F := Ideal) (m ((c.tc : Thread Cert.PrepKIdeal.nD Cert.PrepKIdeal.τ).loc Cert.PrepKIdeal.main_arg0)) (m ((c.tc : Thread Cert.PrepKIdeal.nD Cert.PrepKIdeal.τ).loc Cert.PrepKIdeal.main_arg1)) (m ((c.tc : Thread Cert.PrepKIdeal.nD Cert.PrepKIdeal.τ).loc Cert.PrepKIdeal.main_arg2)) (m ((c.tc : Thread Cert.PrepKIdeal.nD Cert.PrepKIdeal.τ).loc Cert.PrepKIdeal.main_arg3)) (m ((c.tc : Thread Cert.PrepKIdeal.nD Cert.PrepKIdeal.τ).loc Cert.PrepKIdeal.main_arg4)) (m ((c.tc : Thread Cert.PrepKIdeal.nD Cert.PrepKIdeal.τ).loc Cert.PrepKIdeal.main_arg5)) (m ((c.tc : Thread Cert.PrepKIdeal.nD Cert.PrepKIdeal.τ).loc Cert.PrepKIdeal.main_arg6)) (m ((c.tc : Thread Cert.PrepKIdeal.nD Cert.PrepKIdeal.τ).loc Cert.PrepKIdeal.main_arg7)) (m ((c.tc : Thread Cert.PrepKIdeal.nD Cert.PrepKIdeal.τ).loc Cert.PrepKIdeal.main_arg8)) (m ((c.tc : Thread Cert.PrepKIdeal.nD Cert.PrepKIdeal.τ).loc Cert.PrepKIdeal.main_arg9))).2.2.2.2.2.2.2.1 = (fun _ => 1#1)
    ∧ (Cert.Pre_prep_finite.fn (F := Ideal) (m ((c.tc : Thread Cert.PrepKIdeal.nD Cert.PrepKIdeal.τ).loc Cert.PrepKIdeal.main_arg0)) (m ((c.tc : Thread Cert.PrepKIdeal.nD Cert.PrepKIdeal.τ).loc Cert.PrepKIdeal.main_arg1)) (m ((c.tc : Thread Cert.PrepKIdeal.nD Cert.PrepKIdeal.τ).loc Cert.PrepKIdeal.main_arg2)) (m ((c.tc : Thread Cert.PrepKIdeal.nD Cert.PrepKIdeal.τ).loc Cert.PrepKIdeal.main_arg3)) (m ((c.tc : Thread Cert.PrepKIdeal.nD Cert.PrepKIdeal.τ).loc Cert.PrepKIdeal.main_arg4)) (m ((c.tc : Thread Cert.PrepKIdeal.nD Cert.PrepKIdeal.τ).loc Cert.PrepKIdeal.main_arg5)) (m ((c.tc : Thread Cert.PrepKIdeal.nD Cert.PrepKIdeal.τ).loc Cert.PrepKIdeal.main_arg6)) (m ((c.tc : Thread Cert.PrepKIdeal.nD Cert.PrepKIdeal.τ).loc Cert.PrepKIdeal.main_arg7)) (m ((c.tc : Thread Cert.PrepKIdeal.nD Cert.PrepKIdeal.τ).loc Cert.PrepKIdeal.main_arg8)) (m ((c.tc : Thread Cert.PrepKIdeal.nD Cert.PrepKIdeal.τ).loc Cert.PrepKIdeal.main_arg9))).2.2.2.2.2.2.2.2 = (fun _ => 1#1)

def Pre_PrepRIdeal (m : (ℓ : Loc Cert.PrepRIdeal.nD Cert.PrepRIdeal.τ Cert.PrepRIdeal.sig) → Buf (Elt Ideal) ℓ) : Prop :=
  True

def Pre_PrepRIdeal_prep_finite [hPre_prep_finite : Cert.Pre_prep_finite.Facts] (m : (ℓ : Loc Cert.PrepRIdeal.nD Cert.PrepRIdeal.τ Cert.PrepRIdeal.sig) → Buf (Elt Ideal) ℓ) : Prop :=
  ∀ c : Dev Cert.PrepRIdeal.nD,
    (Cert.Pre_prep_finite.fn (F := Ideal) (m ((c.tc : Thread Cert.PrepRIdeal.nD Cert.PrepRIdeal.τ).loc Cert.PrepRIdeal.main_arg0)) (m ((c.tc : Thread Cert.PrepRIdeal.nD Cert.PrepRIdeal.τ).loc Cert.PrepRIdeal.main_arg1)) (m ((c.tc : Thread Cert.PrepRIdeal.nD Cert.PrepRIdeal.τ).loc Cert.PrepRIdeal.main_arg2)) (m ((c.tc : Thread Cert.PrepRIdeal.nD Cert.PrepRIdeal.τ).loc Cert.PrepRIdeal.main_arg3)) (m ((c.tc : Thread Cert.PrepRIdeal.nD Cert.PrepRIdeal.τ).loc Cert.PrepRIdeal.main_arg4)) (m ((c.tc : Thread Cert.PrepRIdeal.nD Cert.PrepRIdeal.τ).loc Cert.PrepRIdeal.main_arg5)) (m ((c.tc : Thread Cert.PrepRIdeal.nD Cert.PrepRIdeal.τ).loc Cert.PrepRIdeal.main_arg6)) (m ((c.tc : Thread Cert.PrepRIdeal.nD Cert.PrepRIdeal.τ).loc Cert.PrepRIdeal.main_arg7)) (m ((c.tc : Thread Cert.PrepRIdeal.nD Cert.PrepRIdeal.τ).loc Cert.PrepRIdeal.main_arg8)) (m ((c.tc : Thread Cert.PrepRIdeal.nD Cert.PrepRIdeal.τ).loc Cert.PrepRIdeal.main_arg9))).1 = (fun _ => 1#1)
    ∧ (Cert.Pre_prep_finite.fn (F := Ideal) (m ((c.tc : Thread Cert.PrepRIdeal.nD Cert.PrepRIdeal.τ).loc Cert.PrepRIdeal.main_arg0)) (m ((c.tc : Thread Cert.PrepRIdeal.nD Cert.PrepRIdeal.τ).loc Cert.PrepRIdeal.main_arg1)) (m ((c.tc : Thread Cert.PrepRIdeal.nD Cert.PrepRIdeal.τ).loc Cert.PrepRIdeal.main_arg2)) (m ((c.tc : Thread Cert.PrepRIdeal.nD Cert.PrepRIdeal.τ).loc Cert.PrepRIdeal.main_arg3)) (m ((c.tc : Thread Cert.PrepRIdeal.nD Cert.PrepRIdeal.τ).loc Cert.PrepRIdeal.main_arg4)) (m ((c.tc : Thread Cert.PrepRIdeal.nD Cert.PrepRIdeal.τ).loc Cert.PrepRIdeal.main_arg5)) (m ((c.tc : Thread Cert.PrepRIdeal.nD Cert.PrepRIdeal.τ).loc Cert.PrepRIdeal.main_arg6)) (m ((c.tc : Thread Cert.PrepRIdeal.nD Cert.PrepRIdeal.τ).loc Cert.PrepRIdeal.main_arg7)) (m ((c.tc : Thread Cert.PrepRIdeal.nD Cert.PrepRIdeal.τ).loc Cert.PrepRIdeal.main_arg8)) (m ((c.tc : Thread Cert.PrepRIdeal.nD Cert.PrepRIdeal.τ).loc Cert.PrepRIdeal.main_arg9))).2.1 = (fun _ => 1#1)
    ∧ (Cert.Pre_prep_finite.fn (F := Ideal) (m ((c.tc : Thread Cert.PrepRIdeal.nD Cert.PrepRIdeal.τ).loc Cert.PrepRIdeal.main_arg0)) (m ((c.tc : Thread Cert.PrepRIdeal.nD Cert.PrepRIdeal.τ).loc Cert.PrepRIdeal.main_arg1)) (m ((c.tc : Thread Cert.PrepRIdeal.nD Cert.PrepRIdeal.τ).loc Cert.PrepRIdeal.main_arg2)) (m ((c.tc : Thread Cert.PrepRIdeal.nD Cert.PrepRIdeal.τ).loc Cert.PrepRIdeal.main_arg3)) (m ((c.tc : Thread Cert.PrepRIdeal.nD Cert.PrepRIdeal.τ).loc Cert.PrepRIdeal.main_arg4)) (m ((c.tc : Thread Cert.PrepRIdeal.nD Cert.PrepRIdeal.τ).loc Cert.PrepRIdeal.main_arg5)) (m ((c.tc : Thread Cert.PrepRIdeal.nD Cert.PrepRIdeal.τ).loc Cert.PrepRIdeal.main_arg6)) (m ((c.tc : Thread Cert.PrepRIdeal.nD Cert.PrepRIdeal.τ).loc Cert.PrepRIdeal.main_arg7)) (m ((c.tc : Thread Cert.PrepRIdeal.nD Cert.PrepRIdeal.τ).loc Cert.PrepRIdeal.main_arg8)) (m ((c.tc : Thread Cert.PrepRIdeal.nD Cert.PrepRIdeal.τ).loc Cert.PrepRIdeal.main_arg9))).2.2.1 = (fun _ => 1#1)
    ∧ (Cert.Pre_prep_finite.fn (F := Ideal) (m ((c.tc : Thread Cert.PrepRIdeal.nD Cert.PrepRIdeal.τ).loc Cert.PrepRIdeal.main_arg0)) (m ((c.tc : Thread Cert.PrepRIdeal.nD Cert.PrepRIdeal.τ).loc Cert.PrepRIdeal.main_arg1)) (m ((c.tc : Thread Cert.PrepRIdeal.nD Cert.PrepRIdeal.τ).loc Cert.PrepRIdeal.main_arg2)) (m ((c.tc : Thread Cert.PrepRIdeal.nD Cert.PrepRIdeal.τ).loc Cert.PrepRIdeal.main_arg3)) (m ((c.tc : Thread Cert.PrepRIdeal.nD Cert.PrepRIdeal.τ).loc Cert.PrepRIdeal.main_arg4)) (m ((c.tc : Thread Cert.PrepRIdeal.nD Cert.PrepRIdeal.τ).loc Cert.PrepRIdeal.main_arg5)) (m ((c.tc : Thread Cert.PrepRIdeal.nD Cert.PrepRIdeal.τ).loc Cert.PrepRIdeal.main_arg6)) (m ((c.tc : Thread Cert.PrepRIdeal.nD Cert.PrepRIdeal.τ).loc Cert.PrepRIdeal.main_arg7)) (m ((c.tc : Thread Cert.PrepRIdeal.nD Cert.PrepRIdeal.τ).loc Cert.PrepRIdeal.main_arg8)) (m ((c.tc : Thread Cert.PrepRIdeal.nD Cert.PrepRIdeal.τ).loc Cert.PrepRIdeal.main_arg9))).2.2.2.1 = (fun _ => 1#1)
    ∧ (Cert.Pre_prep_finite.fn (F := Ideal) (m ((c.tc : Thread Cert.PrepRIdeal.nD Cert.PrepRIdeal.τ).loc Cert.PrepRIdeal.main_arg0)) (m ((c.tc : Thread Cert.PrepRIdeal.nD Cert.PrepRIdeal.τ).loc Cert.PrepRIdeal.main_arg1)) (m ((c.tc : Thread Cert.PrepRIdeal.nD Cert.PrepRIdeal.τ).loc Cert.PrepRIdeal.main_arg2)) (m ((c.tc : Thread Cert.PrepRIdeal.nD Cert.PrepRIdeal.τ).loc Cert.PrepRIdeal.main_arg3)) (m ((c.tc : Thread Cert.PrepRIdeal.nD Cert.PrepRIdeal.τ).loc Cert.PrepRIdeal.main_arg4)) (m ((c.tc : Thread Cert.PrepRIdeal.nD Cert.PrepRIdeal.τ).loc Cert.PrepRIdeal.main_arg5)) (m ((c.tc : Thread Cert.PrepRIdeal.nD Cert.PrepRIdeal.τ).loc Cert.PrepRIdeal.main_arg6)) (m ((c.tc : Thread Cert.PrepRIdeal.nD Cert.PrepRIdeal.τ).loc Cert.PrepRIdeal.main_arg7)) (m ((c.tc : Thread Cert.PrepRIdeal.nD Cert.PrepRIdeal.τ).loc Cert.PrepRIdeal.main_arg8)) (m ((c.tc : Thread Cert.PrepRIdeal.nD Cert.PrepRIdeal.τ).loc Cert.PrepRIdeal.main_arg9))).2.2.2.2.1 = (fun _ => 1#1)
    ∧ (Cert.Pre_prep_finite.fn (F := Ideal) (m ((c.tc : Thread Cert.PrepRIdeal.nD Cert.PrepRIdeal.τ).loc Cert.PrepRIdeal.main_arg0)) (m ((c.tc : Thread Cert.PrepRIdeal.nD Cert.PrepRIdeal.τ).loc Cert.PrepRIdeal.main_arg1)) (m ((c.tc : Thread Cert.PrepRIdeal.nD Cert.PrepRIdeal.τ).loc Cert.PrepRIdeal.main_arg2)) (m ((c.tc : Thread Cert.PrepRIdeal.nD Cert.PrepRIdeal.τ).loc Cert.PrepRIdeal.main_arg3)) (m ((c.tc : Thread Cert.PrepRIdeal.nD Cert.PrepRIdeal.τ).loc Cert.PrepRIdeal.main_arg4)) (m ((c.tc : Thread Cert.PrepRIdeal.nD Cert.PrepRIdeal.τ).loc Cert.PrepRIdeal.main_arg5)) (m ((c.tc : Thread Cert.PrepRIdeal.nD Cert.PrepRIdeal.τ).loc Cert.PrepRIdeal.main_arg6)) (m ((c.tc : Thread Cert.PrepRIdeal.nD Cert.PrepRIdeal.τ).loc Cert.PrepRIdeal.main_arg7)) (m ((c.tc : Thread Cert.PrepRIdeal.nD Cert.PrepRIdeal.τ).loc Cert.PrepRIdeal.main_arg8)) (m ((c.tc : Thread Cert.PrepRIdeal.nD Cert.PrepRIdeal.τ).loc Cert.PrepRIdeal.main_arg9))).2.2.2.2.2.1 = (fun _ => 1#1)
    ∧ (Cert.Pre_prep_finite.fn (F := Ideal) (m ((c.tc : Thread Cert.PrepRIdeal.nD Cert.PrepRIdeal.τ).loc Cert.PrepRIdeal.main_arg0)) (m ((c.tc : Thread Cert.PrepRIdeal.nD Cert.PrepRIdeal.τ).loc Cert.PrepRIdeal.main_arg1)) (m ((c.tc : Thread Cert.PrepRIdeal.nD Cert.PrepRIdeal.τ).loc Cert.PrepRIdeal.main_arg2)) (m ((c.tc : Thread Cert.PrepRIdeal.nD Cert.PrepRIdeal.τ).loc Cert.PrepRIdeal.main_arg3)) (m ((c.tc : Thread Cert.PrepRIdeal.nD Cert.PrepRIdeal.τ).loc Cert.PrepRIdeal.main_arg4)) (m ((c.tc : Thread Cert.PrepRIdeal.nD Cert.PrepRIdeal.τ).loc Cert.PrepRIdeal.main_arg5)) (m ((c.tc : Thread Cert.PrepRIdeal.nD Cert.PrepRIdeal.τ).loc Cert.PrepRIdeal.main_arg6)) (m ((c.tc : Thread Cert.PrepRIdeal.nD Cert.PrepRIdeal.τ).loc Cert.PrepRIdeal.main_arg7)) (m ((c.tc : Thread Cert.PrepRIdeal.nD Cert.PrepRIdeal.τ).loc Cert.PrepRIdeal.main_arg8)) (m ((c.tc : Thread Cert.PrepRIdeal.nD Cert.PrepRIdeal.τ).loc Cert.PrepRIdeal.main_arg9))).2.2.2.2.2.2.1 = (fun _ => 1#1)
    ∧ (Cert.Pre_prep_finite.fn (F := Ideal) (m ((c.tc : Thread Cert.PrepRIdeal.nD Cert.PrepRIdeal.τ).loc Cert.PrepRIdeal.main_arg0)) (m ((c.tc : Thread Cert.PrepRIdeal.nD Cert.PrepRIdeal.τ).loc Cert.PrepRIdeal.main_arg1)) (m ((c.tc : Thread Cert.PrepRIdeal.nD Cert.PrepRIdeal.τ).loc Cert.PrepRIdeal.main_arg2)) (m ((c.tc : Thread Cert.PrepRIdeal.nD Cert.PrepRIdeal.τ).loc Cert.PrepRIdeal.main_arg3)) (m ((c.tc : Thread Cert.PrepRIdeal.nD Cert.PrepRIdeal.τ).loc Cert.PrepRIdeal.main_arg4)) (m ((c.tc : Thread Cert.PrepRIdeal.nD Cert.PrepRIdeal.τ).loc Cert.PrepRIdeal.main_arg5)) (m ((c.tc : Thread Cert.PrepRIdeal.nD Cert.PrepRIdeal.τ).loc Cert.PrepRIdeal.main_arg6)) (m ((c.tc : Thread Cert.PrepRIdeal.nD Cert.PrepRIdeal.τ).loc Cert.PrepRIdeal.main_arg7)) (m ((c.tc : Thread Cert.PrepRIdeal.nD Cert.PrepRIdeal.τ).loc Cert.PrepRIdeal.main_arg8)) (m ((c.tc : Thread Cert.PrepRIdeal.nD Cert.PrepRIdeal.τ).loc Cert.PrepRIdeal.main_arg9))).2.2.2.2.2.2.2.1 = (fun _ => 1#1)
    ∧ (Cert.Pre_prep_finite.fn (F := Ideal) (m ((c.tc : Thread Cert.PrepRIdeal.nD Cert.PrepRIdeal.τ).loc Cert.PrepRIdeal.main_arg0)) (m ((c.tc : Thread Cert.PrepRIdeal.nD Cert.PrepRIdeal.τ).loc Cert.PrepRIdeal.main_arg1)) (m ((c.tc : Thread Cert.PrepRIdeal.nD Cert.PrepRIdeal.τ).loc Cert.PrepRIdeal.main_arg2)) (m ((c.tc : Thread Cert.PrepRIdeal.nD Cert.PrepRIdeal.τ).loc Cert.PrepRIdeal.main_arg3)) (m ((c.tc : Thread Cert.PrepRIdeal.nD Cert.PrepRIdeal.τ).loc Cert.PrepRIdeal.main_arg4)) (m ((c.tc : Thread Cert.PrepRIdeal.nD Cert.PrepRIdeal.τ).loc Cert.PrepRIdeal.main_arg5)) (m ((c.tc : Thread Cert.PrepRIdeal.nD Cert.PrepRIdeal.τ).loc Cert.PrepRIdeal.main_arg6)) (m ((c.tc : Thread Cert.PrepRIdeal.nD Cert.PrepRIdeal.τ).loc Cert.PrepRIdeal.main_arg7)) (m ((c.tc : Thread Cert.PrepRIdeal.nD Cert.PrepRIdeal.τ).loc Cert.PrepRIdeal.main_arg8)) (m ((c.tc : Thread Cert.PrepRIdeal.nD Cert.PrepRIdeal.τ).loc Cert.PrepRIdeal.main_arg9))).2.2.2.2.2.2.2.2 = (fun _ => 1#1)

def Pre_UpK (m : (ℓ : Loc Cert.UpK.nD Cert.UpK.τ Cert.UpK.sig) → Buf (Elt Bits) ℓ) : Prop :=
  True

def Pre_UpKIdeal (m : (ℓ : Loc Cert.UpKIdeal.nD Cert.UpKIdeal.τ Cert.UpKIdeal.sig) → Buf (Elt Ideal) ℓ) : Prop :=
  True

def Pre_UpKIdeal_up_finite [hPre_up_finite : Cert.Pre_up_finite.Facts] (m : (ℓ : Loc Cert.UpKIdeal.nD Cert.UpKIdeal.τ Cert.UpKIdeal.sig) → Buf (Elt Ideal) ℓ) : Prop :=
  ∀ c : Dev Cert.UpKIdeal.nD,
    (Cert.Pre_up_finite.fn (F := Ideal) (m ((c.tc : Thread Cert.UpKIdeal.nD Cert.UpKIdeal.τ).loc Cert.UpKIdeal.main_arg0)) (m ((c.tc : Thread Cert.UpKIdeal.nD Cert.UpKIdeal.τ).loc Cert.UpKIdeal.main_arg1)) (m ((c.tc : Thread Cert.UpKIdeal.nD Cert.UpKIdeal.τ).loc Cert.UpKIdeal.main_arg2)) (m ((c.tc : Thread Cert.UpKIdeal.nD Cert.UpKIdeal.τ).loc Cert.UpKIdeal.main_arg3)) (m ((c.tc : Thread Cert.UpKIdeal.nD Cert.UpKIdeal.τ).loc Cert.UpKIdeal.main_arg4))).1 = (fun _ => 1#1)
    ∧ (Cert.Pre_up_finite.fn (F := Ideal) (m ((c.tc : Thread Cert.UpKIdeal.nD Cert.UpKIdeal.τ).loc Cert.UpKIdeal.main_arg0)) (m ((c.tc : Thread Cert.UpKIdeal.nD Cert.UpKIdeal.τ).loc Cert.UpKIdeal.main_arg1)) (m ((c.tc : Thread Cert.UpKIdeal.nD Cert.UpKIdeal.τ).loc Cert.UpKIdeal.main_arg2)) (m ((c.tc : Thread Cert.UpKIdeal.nD Cert.UpKIdeal.τ).loc Cert.UpKIdeal.main_arg3)) (m ((c.tc : Thread Cert.UpKIdeal.nD Cert.UpKIdeal.τ).loc Cert.UpKIdeal.main_arg4))).2.1 = (fun _ => 1#1)
    ∧ (Cert.Pre_up_finite.fn (F := Ideal) (m ((c.tc : Thread Cert.UpKIdeal.nD Cert.UpKIdeal.τ).loc Cert.UpKIdeal.main_arg0)) (m ((c.tc : Thread Cert.UpKIdeal.nD Cert.UpKIdeal.τ).loc Cert.UpKIdeal.main_arg1)) (m ((c.tc : Thread Cert.UpKIdeal.nD Cert.UpKIdeal.τ).loc Cert.UpKIdeal.main_arg2)) (m ((c.tc : Thread Cert.UpKIdeal.nD Cert.UpKIdeal.τ).loc Cert.UpKIdeal.main_arg3)) (m ((c.tc : Thread Cert.UpKIdeal.nD Cert.UpKIdeal.τ).loc Cert.UpKIdeal.main_arg4))).2.2.1 = (fun _ => 1#1)
    ∧ (Cert.Pre_up_finite.fn (F := Ideal) (m ((c.tc : Thread Cert.UpKIdeal.nD Cert.UpKIdeal.τ).loc Cert.UpKIdeal.main_arg0)) (m ((c.tc : Thread Cert.UpKIdeal.nD Cert.UpKIdeal.τ).loc Cert.UpKIdeal.main_arg1)) (m ((c.tc : Thread Cert.UpKIdeal.nD Cert.UpKIdeal.τ).loc Cert.UpKIdeal.main_arg2)) (m ((c.tc : Thread Cert.UpKIdeal.nD Cert.UpKIdeal.τ).loc Cert.UpKIdeal.main_arg3)) (m ((c.tc : Thread Cert.UpKIdeal.nD Cert.UpKIdeal.τ).loc Cert.UpKIdeal.main_arg4))).2.2.2 = (fun _ => 1#1)

def Pre_UpRIdeal (m : (ℓ : Loc Cert.UpRIdeal.nD Cert.UpRIdeal.τ Cert.UpRIdeal.sig) → Buf (Elt Ideal) ℓ) : Prop :=
  True

def Pre_UpRIdeal_up_finite [hPre_up_finite : Cert.Pre_up_finite.Facts] (m : (ℓ : Loc Cert.UpRIdeal.nD Cert.UpRIdeal.τ Cert.UpRIdeal.sig) → Buf (Elt Ideal) ℓ) : Prop :=
  ∀ c : Dev Cert.UpRIdeal.nD,
    (Cert.Pre_up_finite.fn (F := Ideal) (m ((c.tc : Thread Cert.UpRIdeal.nD Cert.UpRIdeal.τ).loc Cert.UpRIdeal.main_arg0)) (m ((c.tc : Thread Cert.UpRIdeal.nD Cert.UpRIdeal.τ).loc Cert.UpRIdeal.main_arg1)) (m ((c.tc : Thread Cert.UpRIdeal.nD Cert.UpRIdeal.τ).loc Cert.UpRIdeal.main_arg2)) (m ((c.tc : Thread Cert.UpRIdeal.nD Cert.UpRIdeal.τ).loc Cert.UpRIdeal.main_arg3)) (m ((c.tc : Thread Cert.UpRIdeal.nD Cert.UpRIdeal.τ).loc Cert.UpRIdeal.main_arg4))).1 = (fun _ => 1#1)
    ∧ (Cert.Pre_up_finite.fn (F := Ideal) (m ((c.tc : Thread Cert.UpRIdeal.nD Cert.UpRIdeal.τ).loc Cert.UpRIdeal.main_arg0)) (m ((c.tc : Thread Cert.UpRIdeal.nD Cert.UpRIdeal.τ).loc Cert.UpRIdeal.main_arg1)) (m ((c.tc : Thread Cert.UpRIdeal.nD Cert.UpRIdeal.τ).loc Cert.UpRIdeal.main_arg2)) (m ((c.tc : Thread Cert.UpRIdeal.nD Cert.UpRIdeal.τ).loc Cert.UpRIdeal.main_arg3)) (m ((c.tc : Thread Cert.UpRIdeal.nD Cert.UpRIdeal.τ).loc Cert.UpRIdeal.main_arg4))).2.1 = (fun _ => 1#1)
    ∧ (Cert.Pre_up_finite.fn (F := Ideal) (m ((c.tc : Thread Cert.UpRIdeal.nD Cert.UpRIdeal.τ).loc Cert.UpRIdeal.main_arg0)) (m ((c.tc : Thread Cert.UpRIdeal.nD Cert.UpRIdeal.τ).loc Cert.UpRIdeal.main_arg1)) (m ((c.tc : Thread Cert.UpRIdeal.nD Cert.UpRIdeal.τ).loc Cert.UpRIdeal.main_arg2)) (m ((c.tc : Thread Cert.UpRIdeal.nD Cert.UpRIdeal.τ).loc Cert.UpRIdeal.main_arg3)) (m ((c.tc : Thread Cert.UpRIdeal.nD Cert.UpRIdeal.τ).loc Cert.UpRIdeal.main_arg4))).2.2.1 = (fun _ => 1#1)
    ∧ (Cert.Pre_up_finite.fn (F := Ideal) (m ((c.tc : Thread Cert.UpRIdeal.nD Cert.UpRIdeal.τ).loc Cert.UpRIdeal.main_arg0)) (m ((c.tc : Thread Cert.UpRIdeal.nD Cert.UpRIdeal.τ).loc Cert.UpRIdeal.main_arg1)) (m ((c.tc : Thread Cert.UpRIdeal.nD Cert.UpRIdeal.τ).loc Cert.UpRIdeal.main_arg2)) (m ((c.tc : Thread Cert.UpRIdeal.nD Cert.UpRIdeal.τ).loc Cert.UpRIdeal.main_arg3)) (m ((c.tc : Thread Cert.UpRIdeal.nD Cert.UpRIdeal.τ).loc Cert.UpRIdeal.main_arg4))).2.2.2 = (fun _ => 1#1)

def Pre_FfnK (m : (ℓ : Loc Cert.FfnK.nD Cert.FfnK.τ Cert.FfnK.sig) → Buf (Elt Bits) ℓ) : Prop :=
  True

def Pre_FfnKIdeal (m : (ℓ : Loc Cert.FfnKIdeal.nD Cert.FfnKIdeal.τ Cert.FfnKIdeal.sig) → Buf (Elt Ideal) ℓ) : Prop :=
  True

def Pre_FfnKIdeal_ffnb_finite [hPre_ffnb_finite : Cert.Pre_ffnb_finite.Facts] (m : (ℓ : Loc Cert.FfnKIdeal.nD Cert.FfnKIdeal.τ Cert.FfnKIdeal.sig) → Buf (Elt Ideal) ℓ) : Prop :=
  ∀ c : Dev Cert.FfnKIdeal.nD,
    (Cert.Pre_ffnb_finite.fn (F := Ideal) (m ((c.tc : Thread Cert.FfnKIdeal.nD Cert.FfnKIdeal.τ).loc Cert.FfnKIdeal.main_arg0)) (m ((c.tc : Thread Cert.FfnKIdeal.nD Cert.FfnKIdeal.τ).loc Cert.FfnKIdeal.main_arg1)) (m ((c.tc : Thread Cert.FfnKIdeal.nD Cert.FfnKIdeal.τ).loc Cert.FfnKIdeal.main_arg2)) (m ((c.tc : Thread Cert.FfnKIdeal.nD Cert.FfnKIdeal.τ).loc Cert.FfnKIdeal.main_arg3)) (m ((c.tc : Thread Cert.FfnKIdeal.nD Cert.FfnKIdeal.τ).loc Cert.FfnKIdeal.main_arg4))).1 = (fun _ => 1#1)
    ∧ (Cert.Pre_ffnb_finite.fn (F := Ideal) (m ((c.tc : Thread Cert.FfnKIdeal.nD Cert.FfnKIdeal.τ).loc Cert.FfnKIdeal.main_arg0)) (m ((c.tc : Thread Cert.FfnKIdeal.nD Cert.FfnKIdeal.τ).loc Cert.FfnKIdeal.main_arg1)) (m ((c.tc : Thread Cert.FfnKIdeal.nD Cert.FfnKIdeal.τ).loc Cert.FfnKIdeal.main_arg2)) (m ((c.tc : Thread Cert.FfnKIdeal.nD Cert.FfnKIdeal.τ).loc Cert.FfnKIdeal.main_arg3)) (m ((c.tc : Thread Cert.FfnKIdeal.nD Cert.FfnKIdeal.τ).loc Cert.FfnKIdeal.main_arg4))).2.1 = (fun _ => 1#1)
    ∧ (Cert.Pre_ffnb_finite.fn (F := Ideal) (m ((c.tc : Thread Cert.FfnKIdeal.nD Cert.FfnKIdeal.τ).loc Cert.FfnKIdeal.main_arg0)) (m ((c.tc : Thread Cert.FfnKIdeal.nD Cert.FfnKIdeal.τ).loc Cert.FfnKIdeal.main_arg1)) (m ((c.tc : Thread Cert.FfnKIdeal.nD Cert.FfnKIdeal.τ).loc Cert.FfnKIdeal.main_arg2)) (m ((c.tc : Thread Cert.FfnKIdeal.nD Cert.FfnKIdeal.τ).loc Cert.FfnKIdeal.main_arg3)) (m ((c.tc : Thread Cert.FfnKIdeal.nD Cert.FfnKIdeal.τ).loc Cert.FfnKIdeal.main_arg4))).2.2.1 = (fun _ => 1#1)
    ∧ (Cert.Pre_ffnb_finite.fn (F := Ideal) (m ((c.tc : Thread Cert.FfnKIdeal.nD Cert.FfnKIdeal.τ).loc Cert.FfnKIdeal.main_arg0)) (m ((c.tc : Thread Cert.FfnKIdeal.nD Cert.FfnKIdeal.τ).loc Cert.FfnKIdeal.main_arg1)) (m ((c.tc : Thread Cert.FfnKIdeal.nD Cert.FfnKIdeal.τ).loc Cert.FfnKIdeal.main_arg2)) (m ((c.tc : Thread Cert.FfnKIdeal.nD Cert.FfnKIdeal.τ).loc Cert.FfnKIdeal.main_arg3)) (m ((c.tc : Thread Cert.FfnKIdeal.nD Cert.FfnKIdeal.τ).loc Cert.FfnKIdeal.main_arg4))).2.2.2.1 = (fun _ => 1#1)
    ∧ (Cert.Pre_ffnb_finite.fn (F := Ideal) (m ((c.tc : Thread Cert.FfnKIdeal.nD Cert.FfnKIdeal.τ).loc Cert.FfnKIdeal.main_arg0)) (m ((c.tc : Thread Cert.FfnKIdeal.nD Cert.FfnKIdeal.τ).loc Cert.FfnKIdeal.main_arg1)) (m ((c.tc : Thread Cert.FfnKIdeal.nD Cert.FfnKIdeal.τ).loc Cert.FfnKIdeal.main_arg2)) (m ((c.tc : Thread Cert.FfnKIdeal.nD Cert.FfnKIdeal.τ).loc Cert.FfnKIdeal.main_arg3)) (m ((c.tc : Thread Cert.FfnKIdeal.nD Cert.FfnKIdeal.τ).loc Cert.FfnKIdeal.main_arg4))).2.2.2.2 = (fun _ => 1#1)

def Pre_FfnRIdeal (m : (ℓ : Loc Cert.FfnRIdeal.nD Cert.FfnRIdeal.τ Cert.FfnRIdeal.sig) → Buf (Elt Ideal) ℓ) : Prop :=
  True

def Pre_FfnRIdeal_ffnb_finite [hPre_ffnb_finite : Cert.Pre_ffnb_finite.Facts] (m : (ℓ : Loc Cert.FfnRIdeal.nD Cert.FfnRIdeal.τ Cert.FfnRIdeal.sig) → Buf (Elt Ideal) ℓ) : Prop :=
  ∀ c : Dev Cert.FfnRIdeal.nD,
    (Cert.Pre_ffnb_finite.fn (F := Ideal) (m ((c.tc : Thread Cert.FfnRIdeal.nD Cert.FfnRIdeal.τ).loc Cert.FfnRIdeal.main_arg0)) (m ((c.tc : Thread Cert.FfnRIdeal.nD Cert.FfnRIdeal.τ).loc Cert.FfnRIdeal.main_arg1)) (m ((c.tc : Thread Cert.FfnRIdeal.nD Cert.FfnRIdeal.τ).loc Cert.FfnRIdeal.main_arg2)) (m ((c.tc : Thread Cert.FfnRIdeal.nD Cert.FfnRIdeal.τ).loc Cert.FfnRIdeal.main_arg3)) (m ((c.tc : Thread Cert.FfnRIdeal.nD Cert.FfnRIdeal.τ).loc Cert.FfnRIdeal.main_arg4))).1 = (fun _ => 1#1)
    ∧ (Cert.Pre_ffnb_finite.fn (F := Ideal) (m ((c.tc : Thread Cert.FfnRIdeal.nD Cert.FfnRIdeal.τ).loc Cert.FfnRIdeal.main_arg0)) (m ((c.tc : Thread Cert.FfnRIdeal.nD Cert.FfnRIdeal.τ).loc Cert.FfnRIdeal.main_arg1)) (m ((c.tc : Thread Cert.FfnRIdeal.nD Cert.FfnRIdeal.τ).loc Cert.FfnRIdeal.main_arg2)) (m ((c.tc : Thread Cert.FfnRIdeal.nD Cert.FfnRIdeal.τ).loc Cert.FfnRIdeal.main_arg3)) (m ((c.tc : Thread Cert.FfnRIdeal.nD Cert.FfnRIdeal.τ).loc Cert.FfnRIdeal.main_arg4))).2.1 = (fun _ => 1#1)
    ∧ (Cert.Pre_ffnb_finite.fn (F := Ideal) (m ((c.tc : Thread Cert.FfnRIdeal.nD Cert.FfnRIdeal.τ).loc Cert.FfnRIdeal.main_arg0)) (m ((c.tc : Thread Cert.FfnRIdeal.nD Cert.FfnRIdeal.τ).loc Cert.FfnRIdeal.main_arg1)) (m ((c.tc : Thread Cert.FfnRIdeal.nD Cert.FfnRIdeal.τ).loc Cert.FfnRIdeal.main_arg2)) (m ((c.tc : Thread Cert.FfnRIdeal.nD Cert.FfnRIdeal.τ).loc Cert.FfnRIdeal.main_arg3)) (m ((c.tc : Thread Cert.FfnRIdeal.nD Cert.FfnRIdeal.τ).loc Cert.FfnRIdeal.main_arg4))).2.2.1 = (fun _ => 1#1)
    ∧ (Cert.Pre_ffnb_finite.fn (F := Ideal) (m ((c.tc : Thread Cert.FfnRIdeal.nD Cert.FfnRIdeal.τ).loc Cert.FfnRIdeal.main_arg0)) (m ((c.tc : Thread Cert.FfnRIdeal.nD Cert.FfnRIdeal.τ).loc Cert.FfnRIdeal.main_arg1)) (m ((c.tc : Thread Cert.FfnRIdeal.nD Cert.FfnRIdeal.τ).loc Cert.FfnRIdeal.main_arg2)) (m ((c.tc : Thread Cert.FfnRIdeal.nD Cert.FfnRIdeal.τ).loc Cert.FfnRIdeal.main_arg3)) (m ((c.tc : Thread Cert.FfnRIdeal.nD Cert.FfnRIdeal.τ).loc Cert.FfnRIdeal.main_arg4))).2.2.2.1 = (fun _ => 1#1)
    ∧ (Cert.Pre_ffnb_finite.fn (F := Ideal) (m ((c.tc : Thread Cert.FfnRIdeal.nD Cert.FfnRIdeal.τ).loc Cert.FfnRIdeal.main_arg0)) (m ((c.tc : Thread Cert.FfnRIdeal.nD Cert.FfnRIdeal.τ).loc Cert.FfnRIdeal.main_arg1)) (m ((c.tc : Thread Cert.FfnRIdeal.nD Cert.FfnRIdeal.τ).loc Cert.FfnRIdeal.main_arg2)) (m ((c.tc : Thread Cert.FfnRIdeal.nD Cert.FfnRIdeal.τ).loc Cert.FfnRIdeal.main_arg3)) (m ((c.tc : Thread Cert.FfnRIdeal.nD Cert.FfnRIdeal.τ).loc Cert.FfnRIdeal.main_arg4))).2.2.2.2 = (fun _ => 1#1)

def Pre_LossK (m : (ℓ : Loc Cert.LossK.nD Cert.LossK.τ Cert.LossK.sig) → Buf (Elt Bits) ℓ) : Prop :=
  True

def Pre_LossKIdeal (m : (ℓ : Loc Cert.LossKIdeal.nD Cert.LossKIdeal.τ Cert.LossKIdeal.sig) → Buf (Elt Ideal) ℓ) : Prop :=
  True

def Pre_LossKIdeal_loss_finite [hPre_loss_finite : Cert.Pre_loss_finite.Facts] (m : (ℓ : Loc Cert.LossKIdeal.nD Cert.LossKIdeal.τ Cert.LossKIdeal.sig) → Buf (Elt Ideal) ℓ) : Prop :=
  ∀ c : Dev Cert.LossKIdeal.nD,
    (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4)) (m ((c.tc : Thread Cert.LossKIdeal.nD Cert.LossKIdeal.τ).loc Cert.LossKIdeal.main_arg5)) (m ((c.tc : Thread Cert.LossKIdeal.nD Cert.LossKIdeal.τ).loc Cert.LossKIdeal.main_arg6))).1 = (fun _ => 1#1)
    ∧ (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4)) (m ((c.tc : Thread Cert.LossKIdeal.nD Cert.LossKIdeal.τ).loc Cert.LossKIdeal.main_arg5)) (m ((c.tc : Thread Cert.LossKIdeal.nD Cert.LossKIdeal.τ).loc Cert.LossKIdeal.main_arg6))).2.1 = (fun _ => 1#1)
    ∧ (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4)) (m ((c.tc : Thread Cert.LossKIdeal.nD Cert.LossKIdeal.τ).loc Cert.LossKIdeal.main_arg5)) (m ((c.tc : Thread Cert.LossKIdeal.nD Cert.LossKIdeal.τ).loc Cert.LossKIdeal.main_arg6))).2.2.1 = (fun _ => 1#1)
    ∧ (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4)) (m ((c.tc : Thread Cert.LossKIdeal.nD Cert.LossKIdeal.τ).loc Cert.LossKIdeal.main_arg5)) (m ((c.tc : Thread Cert.LossKIdeal.nD Cert.LossKIdeal.τ).loc Cert.LossKIdeal.main_arg6))).2.2.2.1 = (fun _ => 1#1)
    ∧ (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4)) (m ((c.tc : Thread Cert.LossKIdeal.nD Cert.LossKIdeal.τ).loc Cert.LossKIdeal.main_arg5)) (m ((c.tc : Thread Cert.LossKIdeal.nD Cert.LossKIdeal.τ).loc Cert.LossKIdeal.main_arg6))).2.2.2.2.1 = (fun _ => 1#1)
    ∧ (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4)) (m ((c.tc : Thread Cert.LossKIdeal.nD Cert.LossKIdeal.τ).loc Cert.LossKIdeal.main_arg5)) (m ((c.tc : Thread Cert.LossKIdeal.nD Cert.LossKIdeal.τ).loc Cert.LossKIdeal.main_arg6))).2.2.2.2.2.1 = (fun _ => 1#1)
    ∧ (Cert.Pre_loss_finite.fn (F := Ideal) (m ((c.tc : Thread Cert.LossKIdeal.nD Cert.LossKIdeal.τ).loc Cert.LossKIdeal.main_arg0)) (m ((c.tc : Thread Cert.LossKIdeal.nD Cert.LossKIdeal.τ).loc Cert.LossKIdeal.main_arg1)) (m ((c.tc : Thread Cert.LossKIdeal.nD Cert.LossKIdeal.τ).loc Cert.LossKIdeal.main_arg2)) (m ((c.tc : Thread Cert.LossKIdeal.nD Cert.LossKIdeal.τ).loc Cert.LossKIdeal.main_arg3)) (m ((c.tc : Thread Cert.LossKIdeal.nD Cert.LossKIdeal.τ).loc Cert.LossKIdeal.main_arg4)) (m ((c.tc : Thread Cert.LossKIdeal.nD Cert.LossKIdeal.τ).loc Cert.LossKIdeal.main_arg5)) (m ((c.tc : Thread Cert.LossKIdeal.nD Cert.LossKIdeal.τ).loc Cert.LossKIdeal.main_arg6))).2.2.2.2.2.2 = (fun _ => 1#1)

def Pre_LossRIdeal (m : (ℓ : Loc Cert.LossRIdeal.nD Cert.LossRIdeal.τ Cert.LossRIdeal.sig) → Buf (Elt Ideal) ℓ) : Prop :=
  True

def Pre_LossRIdeal_loss_finite [hPre_loss_finite : Cert.Pre_loss_finite.Facts] (m : (ℓ : Loc Cert.LossRIdeal.nD Cert.LossRIdeal.τ Cert.LossRIdeal.sig) → Buf (Elt Ideal) ℓ) : Prop :=
  ∀ c : Dev Cert.LossRIdeal.nD,
    (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4)) (m ((c.tc : Thread Cert.LossRIdeal.nD Cert.LossRIdeal.τ).loc Cert.LossRIdeal.main_arg5)) (m ((c.tc : Thread Cert.LossRIdeal.nD Cert.LossRIdeal.τ).loc Cert.LossRIdeal.main_arg6))).1 = (fun _ => 1#1)
    ∧ (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4)) (m ((c.tc : Thread Cert.LossRIdeal.nD Cert.LossRIdeal.τ).loc Cert.LossRIdeal.main_arg5)) (m ((c.tc : Thread Cert.LossRIdeal.nD Cert.LossRIdeal.τ).loc Cert.LossRIdeal.main_arg6))).2.1 = (fun _ => 1#1)
    ∧ (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4)) (m ((c.tc : Thread Cert.LossRIdeal.nD Cert.LossRIdeal.τ).loc Cert.LossRIdeal.main_arg5)) (m ((c.tc : Thread Cert.LossRIdeal.nD Cert.LossRIdeal.τ).loc Cert.LossRIdeal.main_arg6))).2.2.1 = (fun _ => 1#1)
    ∧ (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4)) (m ((c.tc : Thread Cert.LossRIdeal.nD Cert.LossRIdeal.τ).loc Cert.LossRIdeal.main_arg5)) (m ((c.tc : Thread Cert.LossRIdeal.nD Cert.LossRIdeal.τ).loc Cert.LossRIdeal.main_arg6))).2.2.2.1 = (fun _ => 1#1)
    ∧ (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4)) (m ((c.tc : Thread Cert.LossRIdeal.nD Cert.LossRIdeal.τ).loc Cert.LossRIdeal.main_arg5)) (m ((c.tc : Thread Cert.LossRIdeal.nD Cert.LossRIdeal.τ).loc Cert.LossRIdeal.main_arg6))).2.2.2.2.1 = (fun _ => 1#1)
    ∧ (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4)) (m ((c.tc : Thread Cert.LossRIdeal.nD Cert.LossRIdeal.τ).loc Cert.LossRIdeal.main_arg5)) (m ((c.tc : Thread Cert.LossRIdeal.nD Cert.LossRIdeal.τ).loc Cert.LossRIdeal.main_arg6))).2.2.2.2.2.1 = (fun _ => 1#1)
    ∧ (Cert.Pre_loss_finite.fn (F := Ideal) (m ((c.tc : Thread Cert.LossRIdeal.nD Cert.LossRIdeal.τ).loc Cert.LossRIdeal.main_arg0)) (m ((c.tc : Thread Cert.LossRIdeal.nD Cert.LossRIdeal.τ).loc Cert.LossRIdeal.main_arg1)) (m ((c.tc : Thread Cert.LossRIdeal.nD Cert.LossRIdeal.τ).loc Cert.LossRIdeal.main_arg2)) (m ((c.tc : Thread Cert.LossRIdeal.nD Cert.LossRIdeal.τ).loc Cert.LossRIdeal.main_arg3)) (m ((c.tc : Thread Cert.LossRIdeal.nD Cert.LossRIdeal.τ).loc Cert.LossRIdeal.main_arg4)) (m ((c.tc : Thread Cert.LossRIdeal.nD Cert.LossRIdeal.τ).loc Cert.LossRIdeal.main_arg5)) (m ((c.tc : Thread Cert.LossRIdeal.nD Cert.LossRIdeal.τ).loc Cert.LossRIdeal.main_arg6))).2.2.2.2.2.2 = (fun _ => 1#1)

def Pre_ChunkK (m : (ℓ : Loc Cert.ChunkK.nD Cert.ChunkK.τ Cert.ChunkK.sig) → Buf (Elt Bits) ℓ) : Prop :=
  True

def Pre_ChunkKIdeal (m : (ℓ : Loc Cert.ChunkKIdeal.nD Cert.ChunkKIdeal.τ Cert.ChunkKIdeal.sig) → Buf (Elt Ideal) ℓ) : Prop :=
  True

def Pre_ChunkKIdeal_chunk_finite [hPre_chunk_finite : Cert.Pre_chunk_finite.Facts] (m : (ℓ : Loc Cert.ChunkKIdeal.nD Cert.ChunkKIdeal.τ Cert.ChunkKIdeal.sig) → Buf (Elt Ideal) ℓ) : Prop :=
  ∀ c : Dev Cert.ChunkKIdeal.nD,
    (Cert.Pre_chunk_finite.fn (F := Ideal) (m ((c.tc : Thread Cert.ChunkKIdeal.nD Cert.ChunkKIdeal.τ).loc Cert.ChunkKIdeal.main_arg0)) (m ((c.tc : Thread Cert.ChunkKIdeal.nD Cert.ChunkKIdeal.τ).loc Cert.ChunkKIdeal.main_arg1)) (m ((c.tc : Thread Cert.ChunkKIdeal.nD Cert.ChunkKIdeal.τ).loc Cert.ChunkKIdeal.main_arg2)) (m ((c.tc : Thread Cert.ChunkKIdeal.nD Cert.ChunkKIdeal.τ).loc Cert.ChunkKIdeal.main_arg3)) (m ((c.tc : Thread Cert.ChunkKIdeal.nD Cert.ChunkKIdeal.τ).loc Cert.ChunkKIdeal.main_arg4)) (m ((c.tc : Thread Cert.ChunkKIdeal.nD Cert.ChunkKIdeal.τ).loc Cert.ChunkKIdeal.main_arg5)) (m ((c.tc : Thread Cert.ChunkKIdeal.nD Cert.ChunkKIdeal.τ).loc Cert.ChunkKIdeal.main_arg6)) (m ((c.tc : Thread Cert.ChunkKIdeal.nD Cert.ChunkKIdeal.τ).loc Cert.ChunkKIdeal.main_arg7)) (m ((c.tc : Thread Cert.ChunkKIdeal.nD Cert.ChunkKIdeal.τ).loc Cert.ChunkKIdeal.main_arg8)) (m ((c.tc : Thread Cert.ChunkKIdeal.nD Cert.ChunkKIdeal.τ).loc Cert.ChunkKIdeal.main_arg9)) (m ((c.tc : Thread Cert.ChunkKIdeal.nD Cert.ChunkKIdeal.τ).loc Cert.ChunkKIdeal.main_arg10))).1 = (fun _ => 1#1)
    ∧ (Cert.Pre_chunk_finite.fn (F := Ideal) (m ((c.tc : Thread Cert.ChunkKIdeal.nD Cert.ChunkKIdeal.τ).loc Cert.ChunkKIdeal.main_arg0)) (m ((c.tc : Thread Cert.ChunkKIdeal.nD Cert.ChunkKIdeal.τ).loc Cert.ChunkKIdeal.main_arg1)) (m ((c.tc : Thread Cert.ChunkKIdeal.nD Cert.ChunkKIdeal.τ).loc Cert.ChunkKIdeal.main_arg2)) (m ((c.tc : Thread Cert.ChunkKIdeal.nD Cert.ChunkKIdeal.τ).loc Cert.ChunkKIdeal.main_arg3)) (m ((c.tc : Thread Cert.ChunkKIdeal.nD Cert.ChunkKIdeal.τ).loc Cert.ChunkKIdeal.main_arg4)) (m ((c.tc : Thread Cert.ChunkKIdeal.nD Cert.ChunkKIdeal.τ).loc Cert.ChunkKIdeal.main_arg5)) (m ((c.tc : Thread Cert.ChunkKIdeal.nD Cert.ChunkKIdeal.τ).loc Cert.ChunkKIdeal.main_arg6)) (m ((c.tc : Thread Cert.ChunkKIdeal.nD Cert.ChunkKIdeal.τ).loc Cert.ChunkKIdeal.main_arg7)) (m ((c.tc : Thread Cert.ChunkKIdeal.nD Cert.ChunkKIdeal.τ).loc Cert.ChunkKIdeal.main_arg8)) (m ((c.tc : Thread Cert.ChunkKIdeal.nD Cert.ChunkKIdeal.τ).loc Cert.ChunkKIdeal.main_arg9)) (m ((c.tc : Thread Cert.ChunkKIdeal.nD Cert.ChunkKIdeal.τ).loc Cert.ChunkKIdeal.main_arg10))).2.1 = (fun _ => 1#1)
    ∧ (Cert.Pre_chunk_finite.fn (F := Ideal) (m ((c.tc : Thread Cert.ChunkKIdeal.nD Cert.ChunkKIdeal.τ).loc Cert.ChunkKIdeal.main_arg0)) (m ((c.tc : Thread Cert.ChunkKIdeal.nD Cert.ChunkKIdeal.τ).loc Cert.ChunkKIdeal.main_arg1)) (m ((c.tc : Thread Cert.ChunkKIdeal.nD Cert.ChunkKIdeal.τ).loc Cert.ChunkKIdeal.main_arg2)) (m ((c.tc : Thread Cert.ChunkKIdeal.nD Cert.ChunkKIdeal.τ).loc Cert.ChunkKIdeal.main_arg3)) (m ((c.tc : Thread Cert.ChunkKIdeal.nD Cert.ChunkKIdeal.τ).loc Cert.ChunkKIdeal.main_arg4)) (m ((c.tc : Thread Cert.ChunkKIdeal.nD Cert.ChunkKIdeal.τ).loc Cert.ChunkKIdeal.main_arg5)) (m ((c.tc : Thread Cert.ChunkKIdeal.nD Cert.ChunkKIdeal.τ).loc Cert.ChunkKIdeal.main_arg6)) (m ((c.tc : Thread Cert.ChunkKIdeal.nD Cert.ChunkKIdeal.τ).loc Cert.ChunkKIdeal.main_arg7)) (m ((c.tc : Thread Cert.ChunkKIdeal.nD Cert.ChunkKIdeal.τ).loc Cert.ChunkKIdeal.main_arg8)) (m ((c.tc : Thread Cert.ChunkKIdeal.nD Cert.ChunkKIdeal.τ).loc Cert.ChunkKIdeal.main_arg9)) (m ((c.tc : Thread Cert.ChunkKIdeal.nD Cert.ChunkKIdeal.τ).loc Cert.ChunkKIdeal.main_arg10))).2.2.1 = (fun _ => 1#1)
    ∧ (Cert.Pre_chunk_finite.fn (F := Ideal) (m ((c.tc : Thread Cert.ChunkKIdeal.nD Cert.ChunkKIdeal.τ).loc Cert.ChunkKIdeal.main_arg0)) (m ((c.tc : Thread Cert.ChunkKIdeal.nD Cert.ChunkKIdeal.τ).loc Cert.ChunkKIdeal.main_arg1)) (m ((c.tc : Thread Cert.ChunkKIdeal.nD Cert.ChunkKIdeal.τ).loc Cert.ChunkKIdeal.main_arg2)) (m ((c.tc : Thread Cert.ChunkKIdeal.nD Cert.ChunkKIdeal.τ).loc Cert.ChunkKIdeal.main_arg3)) (m ((c.tc : Thread Cert.ChunkKIdeal.nD Cert.ChunkKIdeal.τ).loc Cert.ChunkKIdeal.main_arg4)) (m ((c.tc : Thread Cert.ChunkKIdeal.nD Cert.ChunkKIdeal.τ).loc Cert.ChunkKIdeal.main_arg5)) (m ((c.tc : Thread Cert.ChunkKIdeal.nD Cert.ChunkKIdeal.τ).loc Cert.ChunkKIdeal.main_arg6)) (m ((c.tc : Thread Cert.ChunkKIdeal.nD Cert.ChunkKIdeal.τ).loc Cert.ChunkKIdeal.main_arg7)) (m ((c.tc : Thread Cert.ChunkKIdeal.nD Cert.ChunkKIdeal.τ).loc Cert.ChunkKIdeal.main_arg8)) (m ((c.tc : Thread Cert.ChunkKIdeal.nD Cert.ChunkKIdeal.τ).loc Cert.ChunkKIdeal.main_arg9)) (m ((c.tc : Thread Cert.ChunkKIdeal.nD Cert.ChunkKIdeal.τ).loc Cert.ChunkKIdeal.main_arg10))).2.2.2.1 = (fun _ => 1#1)
    ∧ (Cert.Pre_chunk_finite.fn (F := Ideal) (m ((c.tc : Thread Cert.ChunkKIdeal.nD Cert.ChunkKIdeal.τ).loc Cert.ChunkKIdeal.main_arg0)) (m ((c.tc : Thread Cert.ChunkKIdeal.nD Cert.ChunkKIdeal.τ).loc Cert.ChunkKIdeal.main_arg1)) (m ((c.tc : Thread Cert.ChunkKIdeal.nD Cert.ChunkKIdeal.τ).loc Cert.ChunkKIdeal.main_arg2)) (m ((c.tc : Thread Cert.ChunkKIdeal.nD Cert.ChunkKIdeal.τ).loc Cert.ChunkKIdeal.main_arg3)) (m ((c.tc : Thread Cert.ChunkKIdeal.nD Cert.ChunkKIdeal.τ).loc Cert.ChunkKIdeal.main_arg4)) (m ((c.tc : Thread Cert.ChunkKIdeal.nD Cert.ChunkKIdeal.τ).loc Cert.ChunkKIdeal.main_arg5)) (m ((c.tc : Thread Cert.ChunkKIdeal.nD Cert.ChunkKIdeal.τ).loc Cert.ChunkKIdeal.main_arg6)) (m ((c.tc : Thread Cert.ChunkKIdeal.nD Cert.ChunkKIdeal.τ).loc Cert.ChunkKIdeal.main_arg7)) (m ((c.tc : Thread Cert.ChunkKIdeal.nD Cert.ChunkKIdeal.τ).loc Cert.ChunkKIdeal.main_arg8)) (m ((c.tc : Thread Cert.ChunkKIdeal.nD Cert.ChunkKIdeal.τ).loc Cert.ChunkKIdeal.main_arg9)) (m ((c.tc : Thread Cert.ChunkKIdeal.nD Cert.ChunkKIdeal.τ).loc Cert.ChunkKIdeal.main_arg10))).2.2.2.2.1 = (fun _ => 1#1)
    ∧ (Cert.Pre_chunk_finite.fn (F := Ideal) (m ((c.tc : Thread Cert.ChunkKIdeal.nD Cert.ChunkKIdeal.τ).loc Cert.ChunkKIdeal.main_arg0)) (m ((c.tc : Thread Cert.ChunkKIdeal.nD Cert.ChunkKIdeal.τ).loc Cert.ChunkKIdeal.main_arg1)) (m ((c.tc : Thread Cert.ChunkKIdeal.nD Cert.ChunkKIdeal.τ).loc Cert.ChunkKIdeal.main_arg2)) (m ((c.tc : Thread Cert.ChunkKIdeal.nD Cert.ChunkKIdeal.τ).loc Cert.ChunkKIdeal.main_arg3)) (m ((c.tc : Thread Cert.ChunkKIdeal.nD Cert.ChunkKIdeal.τ).loc Cert.ChunkKIdeal.main_arg4)) (m ((c.tc : Thread Cert.ChunkKIdeal.nD Cert.ChunkKIdeal.τ).loc Cert.ChunkKIdeal.main_arg5)) (m ((c.tc : Thread Cert.ChunkKIdeal.nD Cert.ChunkKIdeal.τ).loc Cert.ChunkKIdeal.main_arg6)) (m ((c.tc : Thread Cert.ChunkKIdeal.nD Cert.ChunkKIdeal.τ).loc Cert.ChunkKIdeal.main_arg7)) (m ((c.tc : Thread Cert.ChunkKIdeal.nD Cert.ChunkKIdeal.τ).loc Cert.ChunkKIdeal.main_arg8)) (m ((c.tc : Thread Cert.ChunkKIdeal.nD Cert.ChunkKIdeal.τ).loc Cert.ChunkKIdeal.main_arg9)) (m ((c.tc : Thread Cert.ChunkKIdeal.nD Cert.ChunkKIdeal.τ).loc Cert.ChunkKIdeal.main_arg10))).2.2.2.2.2.1 = (fun _ => 1#1)
    ∧ (Cert.Pre_chunk_finite.fn (F := Ideal) (m ((c.tc : Thread Cert.ChunkKIdeal.nD Cert.ChunkKIdeal.τ).loc Cert.ChunkKIdeal.main_arg0)) (m ((c.tc : Thread Cert.ChunkKIdeal.nD Cert.ChunkKIdeal.τ).loc Cert.ChunkKIdeal.main_arg1)) (m ((c.tc : Thread Cert.ChunkKIdeal.nD Cert.ChunkKIdeal.τ).loc Cert.ChunkKIdeal.main_arg2)) (m ((c.tc : Thread Cert.ChunkKIdeal.nD Cert.ChunkKIdeal.τ).loc Cert.ChunkKIdeal.main_arg3)) (m ((c.tc : Thread Cert.ChunkKIdeal.nD Cert.ChunkKIdeal.τ).loc Cert.ChunkKIdeal.main_arg4)) (m ((c.tc : Thread Cert.ChunkKIdeal.nD Cert.ChunkKIdeal.τ).loc Cert.ChunkKIdeal.main_arg5)) (m ((c.tc : Thread Cert.ChunkKIdeal.nD Cert.ChunkKIdeal.τ).loc Cert.ChunkKIdeal.main_arg6)) (m ((c.tc : Thread Cert.ChunkKIdeal.nD Cert.ChunkKIdeal.τ).loc Cert.ChunkKIdeal.main_arg7)) (m ((c.tc : Thread Cert.ChunkKIdeal.nD Cert.ChunkKIdeal.τ).loc Cert.ChunkKIdeal.main_arg8)) (m ((c.tc : Thread Cert.ChunkKIdeal.nD Cert.ChunkKIdeal.τ).loc Cert.ChunkKIdeal.main_arg9)) (m ((c.tc : Thread Cert.ChunkKIdeal.nD Cert.ChunkKIdeal.τ).loc Cert.ChunkKIdeal.main_arg10))).2.2.2.2.2.2.1 = (fun _ => 1#1)
    ∧ (Cert.Pre_chunk_finite.fn (F := Ideal) (m ((c.tc : Thread Cert.ChunkKIdeal.nD Cert.ChunkKIdeal.τ).loc Cert.ChunkKIdeal.main_arg0)) (m ((c.tc : Thread Cert.ChunkKIdeal.nD Cert.ChunkKIdeal.τ).loc Cert.ChunkKIdeal.main_arg1)) (m ((c.tc : Thread Cert.ChunkKIdeal.nD Cert.ChunkKIdeal.τ).loc Cert.ChunkKIdeal.main_arg2)) (m ((c.tc : Thread Cert.ChunkKIdeal.nD Cert.ChunkKIdeal.τ).loc Cert.ChunkKIdeal.main_arg3)) (m ((c.tc : Thread Cert.ChunkKIdeal.nD Cert.ChunkKIdeal.τ).loc Cert.ChunkKIdeal.main_arg4)) (m ((c.tc : Thread Cert.ChunkKIdeal.nD Cert.ChunkKIdeal.τ).loc Cert.ChunkKIdeal.main_arg5)) (m ((c.tc : Thread Cert.ChunkKIdeal.nD Cert.ChunkKIdeal.τ).loc Cert.ChunkKIdeal.main_arg6)) (m ((c.tc : Thread Cert.ChunkKIdeal.nD Cert.ChunkKIdeal.τ).loc Cert.ChunkKIdeal.main_arg7)) (m ((c.tc : Thread Cert.ChunkKIdeal.nD Cert.ChunkKIdeal.τ).loc Cert.ChunkKIdeal.main_arg8)) (m ((c.tc : Thread Cert.ChunkKIdeal.nD Cert.ChunkKIdeal.τ).loc Cert.ChunkKIdeal.main_arg9)) (m ((c.tc : Thread Cert.ChunkKIdeal.nD Cert.ChunkKIdeal.τ).loc Cert.ChunkKIdeal.main_arg10))).2.2.2.2.2.2.2.1 = (fun _ => 1#1)
    ∧ (Cert.Pre_chunk_finite.fn (F := Ideal) (m ((c.tc : Thread Cert.ChunkKIdeal.nD Cert.ChunkKIdeal.τ).loc Cert.ChunkKIdeal.main_arg0)) (m ((c.tc : Thread Cert.ChunkKIdeal.nD Cert.ChunkKIdeal.τ).loc Cert.ChunkKIdeal.main_arg1)) (m ((c.tc : Thread Cert.ChunkKIdeal.nD Cert.ChunkKIdeal.τ).loc Cert.ChunkKIdeal.main_arg2)) (m ((c.tc : Thread Cert.ChunkKIdeal.nD Cert.ChunkKIdeal.τ).loc Cert.ChunkKIdeal.main_arg3)) (m ((c.tc : Thread Cert.ChunkKIdeal.nD Cert.ChunkKIdeal.τ).loc Cert.ChunkKIdeal.main_arg4)) (m ((c.tc : Thread Cert.ChunkKIdeal.nD Cert.ChunkKIdeal.τ).loc Cert.ChunkKIdeal.main_arg5)) (m ((c.tc : Thread Cert.ChunkKIdeal.nD Cert.ChunkKIdeal.τ).loc Cert.ChunkKIdeal.main_arg6)) (m ((c.tc : Thread Cert.ChunkKIdeal.nD Cert.ChunkKIdeal.τ).loc Cert.ChunkKIdeal.main_arg7)) (m ((c.tc : Thread Cert.ChunkKIdeal.nD Cert.ChunkKIdeal.τ).loc Cert.ChunkKIdeal.main_arg8)) (m ((c.tc : Thread Cert.ChunkKIdeal.nD Cert.ChunkKIdeal.τ).loc Cert.ChunkKIdeal.main_arg9)) (m ((c.tc : Thread Cert.ChunkKIdeal.nD Cert.ChunkKIdeal.τ).loc Cert.ChunkKIdeal.main_arg10))).2.2.2.2.2.2.2.2.1 = (fun _ => 1#1)
    ∧ (Cert.Pre_chunk_finite.fn (F := Ideal) (m ((c.tc : Thread Cert.ChunkKIdeal.nD Cert.ChunkKIdeal.τ).loc Cert.ChunkKIdeal.main_arg0)) (m ((c.tc : Thread Cert.ChunkKIdeal.nD Cert.ChunkKIdeal.τ).loc Cert.ChunkKIdeal.main_arg1)) (m ((c.tc : Thread Cert.ChunkKIdeal.nD Cert.ChunkKIdeal.τ).loc Cert.ChunkKIdeal.main_arg2)) (m ((c.tc : Thread Cert.ChunkKIdeal.nD Cert.ChunkKIdeal.τ).loc Cert.ChunkKIdeal.main_arg3)) (m ((c.tc : Thread Cert.ChunkKIdeal.nD Cert.ChunkKIdeal.τ).loc Cert.ChunkKIdeal.main_arg4)) (m ((c.tc : Thread Cert.ChunkKIdeal.nD Cert.ChunkKIdeal.τ).loc Cert.ChunkKIdeal.main_arg5)) (m ((c.tc : Thread Cert.ChunkKIdeal.nD Cert.ChunkKIdeal.τ).loc Cert.ChunkKIdeal.main_arg6)) (m ((c.tc : Thread Cert.ChunkKIdeal.nD Cert.ChunkKIdeal.τ).loc Cert.ChunkKIdeal.main_arg7)) (m ((c.tc : Thread Cert.ChunkKIdeal.nD Cert.ChunkKIdeal.τ).loc Cert.ChunkKIdeal.main_arg8)) (m ((c.tc : Thread Cert.ChunkKIdeal.nD Cert.ChunkKIdeal.τ).loc Cert.ChunkKIdeal.main_arg9)) (m ((c.tc : Thread Cert.ChunkKIdeal.nD Cert.ChunkKIdeal.τ).loc Cert.ChunkKIdeal.main_arg10))).2.2.2.2.2.2.2.2.2.1 = (fun _ => 1#1)
    ∧ (Cert.Pre_chunk_finite.fn (F := Ideal) (m ((c.tc : Thread Cert.ChunkKIdeal.nD Cert.ChunkKIdeal.τ).loc Cert.ChunkKIdeal.main_arg0)) (m ((c.tc : Thread Cert.ChunkKIdeal.nD Cert.ChunkKIdeal.τ).loc Cert.ChunkKIdeal.main_arg1)) (m ((c.tc : Thread Cert.ChunkKIdeal.nD Cert.ChunkKIdeal.τ).loc Cert.ChunkKIdeal.main_arg2)) (m ((c.tc : Thread Cert.ChunkKIdeal.nD Cert.ChunkKIdeal.τ).loc Cert.ChunkKIdeal.main_arg3)) (m ((c.tc : Thread Cert.ChunkKIdeal.nD Cert.ChunkKIdeal.τ).loc Cert.ChunkKIdeal.main_arg4)) (m ((c.tc : Thread Cert.ChunkKIdeal.nD Cert.ChunkKIdeal.τ).loc Cert.ChunkKIdeal.main_arg5)) (m ((c.tc : Thread Cert.ChunkKIdeal.nD Cert.ChunkKIdeal.τ).loc Cert.ChunkKIdeal.main_arg6)) (m ((c.tc : Thread Cert.ChunkKIdeal.nD Cert.ChunkKIdeal.τ).loc Cert.ChunkKIdeal.main_arg7)) (m ((c.tc : Thread Cert.ChunkKIdeal.nD Cert.ChunkKIdeal.τ).loc Cert.ChunkKIdeal.main_arg8)) (m ((c.tc : Thread Cert.ChunkKIdeal.nD Cert.ChunkKIdeal.τ).loc Cert.ChunkKIdeal.main_arg9)) (m ((c.tc : Thread Cert.ChunkKIdeal.nD Cert.ChunkKIdeal.τ).loc Cert.ChunkKIdeal.main_arg10))).2.2.2.2.2.2.2.2.2.2 = (fun _ => 1#1)

def Pre_ChunkRIdeal (m : (ℓ : Loc Cert.ChunkRIdeal.nD Cert.ChunkRIdeal.τ Cert.ChunkRIdeal.sig) → Buf (Elt Ideal) ℓ) : Prop :=
  True

def Pre_ChunkRIdeal_chunk_finite [hPre_chunk_finite : Cert.Pre_chunk_finite.Facts] (m : (ℓ : Loc Cert.ChunkRIdeal.nD Cert.ChunkRIdeal.τ Cert.ChunkRIdeal.sig) → Buf (Elt Ideal) ℓ) : Prop :=
  ∀ c : Dev Cert.ChunkRIdeal.nD,
    (Cert.Pre_chunk_finite.fn (F := Ideal) (m ((c.tc : Thread Cert.ChunkRIdeal.nD Cert.ChunkRIdeal.τ).loc Cert.ChunkRIdeal.main_arg0)) (m ((c.tc : Thread Cert.ChunkRIdeal.nD Cert.ChunkRIdeal.τ).loc Cert.ChunkRIdeal.main_arg1)) (m ((c.tc : Thread Cert.ChunkRIdeal.nD Cert.ChunkRIdeal.τ).loc Cert.ChunkRIdeal.main_arg2)) (m ((c.tc : Thread Cert.ChunkRIdeal.nD Cert.ChunkRIdeal.τ).loc Cert.ChunkRIdeal.main_arg3)) (m ((c.tc : Thread Cert.ChunkRIdeal.nD Cert.ChunkRIdeal.τ).loc Cert.ChunkRIdeal.main_arg4)) (m ((c.tc : Thread Cert.ChunkRIdeal.nD Cert.ChunkRIdeal.τ).loc Cert.ChunkRIdeal.main_arg5)) (m ((c.tc : Thread Cert.ChunkRIdeal.nD Cert.ChunkRIdeal.τ).loc Cert.ChunkRIdeal.main_arg6)) (m ((c.tc : Thread Cert.ChunkRIdeal.nD Cert.ChunkRIdeal.τ).loc Cert.ChunkRIdeal.main_arg7)) (m ((c.tc : Thread Cert.ChunkRIdeal.nD Cert.ChunkRIdeal.τ).loc Cert.ChunkRIdeal.main_arg8)) (m ((c.tc : Thread Cert.ChunkRIdeal.nD Cert.ChunkRIdeal.τ).loc Cert.ChunkRIdeal.main_arg9)) (m ((c.tc : Thread Cert.ChunkRIdeal.nD Cert.ChunkRIdeal.τ).loc Cert.ChunkRIdeal.main_arg10))).1 = (fun _ => 1#1)
    ∧ (Cert.Pre_chunk_finite.fn (F := Ideal) (m ((c.tc : Thread Cert.ChunkRIdeal.nD Cert.ChunkRIdeal.τ).loc Cert.ChunkRIdeal.main_arg0)) (m ((c.tc : Thread Cert.ChunkRIdeal.nD Cert.ChunkRIdeal.τ).loc Cert.ChunkRIdeal.main_arg1)) (m ((c.tc : Thread Cert.ChunkRIdeal.nD Cert.ChunkRIdeal.τ).loc Cert.ChunkRIdeal.main_arg2)) (m ((c.tc : Thread Cert.ChunkRIdeal.nD Cert.ChunkRIdeal.τ).loc Cert.ChunkRIdeal.main_arg3)) (m ((c.tc : Thread Cert.ChunkRIdeal.nD Cert.ChunkRIdeal.τ).loc Cert.ChunkRIdeal.main_arg4)) (m ((c.tc : Thread Cert.ChunkRIdeal.nD Cert.ChunkRIdeal.τ).loc Cert.ChunkRIdeal.main_arg5)) (m ((c.tc : Thread Cert.ChunkRIdeal.nD Cert.ChunkRIdeal.τ).loc Cert.ChunkRIdeal.main_arg6)) (m ((c.tc : Thread Cert.ChunkRIdeal.nD Cert.ChunkRIdeal.τ).loc Cert.ChunkRIdeal.main_arg7)) (m ((c.tc : Thread Cert.ChunkRIdeal.nD Cert.ChunkRIdeal.τ).loc Cert.ChunkRIdeal.main_arg8)) (m ((c.tc : Thread Cert.ChunkRIdeal.nD Cert.ChunkRIdeal.τ).loc Cert.ChunkRIdeal.main_arg9)) (m ((c.tc : Thread Cert.ChunkRIdeal.nD Cert.ChunkRIdeal.τ).loc Cert.ChunkRIdeal.main_arg10))).2.1 = (fun _ => 1#1)
    ∧ (Cert.Pre_chunk_finite.fn (F := Ideal) (m ((c.tc : Thread Cert.ChunkRIdeal.nD Cert.ChunkRIdeal.τ).loc Cert.ChunkRIdeal.main_arg0)) (m ((c.tc : Thread Cert.ChunkRIdeal.nD Cert.ChunkRIdeal.τ).loc Cert.ChunkRIdeal.main_arg1)) (m ((c.tc : Thread Cert.ChunkRIdeal.nD Cert.ChunkRIdeal.τ).loc Cert.ChunkRIdeal.main_arg2)) (m ((c.tc : Thread Cert.ChunkRIdeal.nD Cert.ChunkRIdeal.τ).loc Cert.ChunkRIdeal.main_arg3)) (m ((c.tc : Thread Cert.ChunkRIdeal.nD Cert.ChunkRIdeal.τ).loc Cert.ChunkRIdeal.main_arg4)) (m ((c.tc : Thread Cert.ChunkRIdeal.nD Cert.ChunkRIdeal.τ).loc Cert.ChunkRIdeal.main_arg5)) (m ((c.tc : Thread Cert.ChunkRIdeal.nD Cert.ChunkRIdeal.τ).loc Cert.ChunkRIdeal.main_arg6)) (m ((c.tc : Thread Cert.ChunkRIdeal.nD Cert.ChunkRIdeal.τ).loc Cert.ChunkRIdeal.main_arg7)) (m ((c.tc : Thread Cert.ChunkRIdeal.nD Cert.ChunkRIdeal.τ).loc Cert.ChunkRIdeal.main_arg8)) (m ((c.tc : Thread Cert.ChunkRIdeal.nD Cert.ChunkRIdeal.τ).loc Cert.ChunkRIdeal.main_arg9)) (m ((c.tc : Thread Cert.ChunkRIdeal.nD Cert.ChunkRIdeal.τ).loc Cert.ChunkRIdeal.main_arg10))).2.2.1 = (fun _ => 1#1)
    ∧ (Cert.Pre_chunk_finite.fn (F := Ideal) (m ((c.tc : Thread Cert.ChunkRIdeal.nD Cert.ChunkRIdeal.τ).loc Cert.ChunkRIdeal.main_arg0)) (m ((c.tc : Thread Cert.ChunkRIdeal.nD Cert.ChunkRIdeal.τ).loc Cert.ChunkRIdeal.main_arg1)) (m ((c.tc : Thread Cert.ChunkRIdeal.nD Cert.ChunkRIdeal.τ).loc Cert.ChunkRIdeal.main_arg2)) (m ((c.tc : Thread Cert.ChunkRIdeal.nD Cert.ChunkRIdeal.τ).loc Cert.ChunkRIdeal.main_arg3)) (m ((c.tc : Thread Cert.ChunkRIdeal.nD Cert.ChunkRIdeal.τ).loc Cert.ChunkRIdeal.main_arg4)) (m ((c.tc : Thread Cert.ChunkRIdeal.nD Cert.ChunkRIdeal.τ).loc Cert.ChunkRIdeal.main_arg5)) (m ((c.tc : Thread Cert.ChunkRIdeal.nD Cert.ChunkRIdeal.τ).loc Cert.ChunkRIdeal.main_arg6)) (m ((c.tc : Thread Cert.ChunkRIdeal.nD Cert.ChunkRIdeal.τ).loc Cert.ChunkRIdeal.main_arg7)) (m ((c.tc : Thread Cert.ChunkRIdeal.nD Cert.ChunkRIdeal.τ).loc Cert.ChunkRIdeal.main_arg8)) (m ((c.tc : Thread Cert.ChunkRIdeal.nD Cert.ChunkRIdeal.τ).loc Cert.ChunkRIdeal.main_arg9)) (m ((c.tc : Thread Cert.ChunkRIdeal.nD Cert.ChunkRIdeal.τ).loc Cert.ChunkRIdeal.main_arg10))).2.2.2.1 = (fun _ => 1#1)
    ∧ (Cert.Pre_chunk_finite.fn (F := Ideal) (m ((c.tc : Thread Cert.ChunkRIdeal.nD Cert.ChunkRIdeal.τ).loc Cert.ChunkRIdeal.main_arg0)) (m ((c.tc : Thread Cert.ChunkRIdeal.nD Cert.ChunkRIdeal.τ).loc Cert.ChunkRIdeal.main_arg1)) (m ((c.tc : Thread Cert.ChunkRIdeal.nD Cert.ChunkRIdeal.τ).loc Cert.ChunkRIdeal.main_arg2)) (m ((c.tc : Thread Cert.ChunkRIdeal.nD Cert.ChunkRIdeal.τ).loc Cert.ChunkRIdeal.main_arg3)) (m ((c.tc : Thread Cert.ChunkRIdeal.nD Cert.ChunkRIdeal.τ).loc Cert.ChunkRIdeal.main_arg4)) (m ((c.tc : Thread Cert.ChunkRIdeal.nD Cert.ChunkRIdeal.τ).loc Cert.ChunkRIdeal.main_arg5)) (m ((c.tc : Thread Cert.ChunkRIdeal.nD Cert.ChunkRIdeal.τ).loc Cert.ChunkRIdeal.main_arg6)) (m ((c.tc : Thread Cert.ChunkRIdeal.nD Cert.ChunkRIdeal.τ).loc Cert.ChunkRIdeal.main_arg7)) (m ((c.tc : Thread Cert.ChunkRIdeal.nD Cert.ChunkRIdeal.τ).loc Cert.ChunkRIdeal.main_arg8)) (m ((c.tc : Thread Cert.ChunkRIdeal.nD Cert.ChunkRIdeal.τ).loc Cert.ChunkRIdeal.main_arg9)) (m ((c.tc : Thread Cert.ChunkRIdeal.nD Cert.ChunkRIdeal.τ).loc Cert.ChunkRIdeal.main_arg10))).2.2.2.2.1 = (fun _ => 1#1)
    ∧ (Cert.Pre_chunk_finite.fn (F := Ideal) (m ((c.tc : Thread Cert.ChunkRIdeal.nD Cert.ChunkRIdeal.τ).loc Cert.ChunkRIdeal.main_arg0)) (m ((c.tc : Thread Cert.ChunkRIdeal.nD Cert.ChunkRIdeal.τ).loc Cert.ChunkRIdeal.main_arg1)) (m ((c.tc : Thread Cert.ChunkRIdeal.nD Cert.ChunkRIdeal.τ).loc Cert.ChunkRIdeal.main_arg2)) (m ((c.tc : Thread Cert.ChunkRIdeal.nD Cert.ChunkRIdeal.τ).loc Cert.ChunkRIdeal.main_arg3)) (m ((c.tc : Thread Cert.ChunkRIdeal.nD Cert.ChunkRIdeal.τ).loc Cert.ChunkRIdeal.main_arg4)) (m ((c.tc : Thread Cert.ChunkRIdeal.nD Cert.ChunkRIdeal.τ).loc Cert.ChunkRIdeal.main_arg5)) (m ((c.tc : Thread Cert.ChunkRIdeal.nD Cert.ChunkRIdeal.τ).loc Cert.ChunkRIdeal.main_arg6)) (m ((c.tc : Thread Cert.ChunkRIdeal.nD Cert.ChunkRIdeal.τ).loc Cert.ChunkRIdeal.main_arg7)) (m ((c.tc : Thread Cert.ChunkRIdeal.nD Cert.ChunkRIdeal.τ).loc Cert.ChunkRIdeal.main_arg8)) (m ((c.tc : Thread Cert.ChunkRIdeal.nD Cert.ChunkRIdeal.τ).loc Cert.ChunkRIdeal.main_arg9)) (m ((c.tc : Thread Cert.ChunkRIdeal.nD Cert.ChunkRIdeal.τ).loc Cert.ChunkRIdeal.main_arg10))).2.2.2.2.2.1 = (fun _ => 1#1)
    ∧ (Cert.Pre_chunk_finite.fn (F := Ideal) (m ((c.tc : Thread Cert.ChunkRIdeal.nD Cert.ChunkRIdeal.τ).loc Cert.ChunkRIdeal.main_arg0)) (m ((c.tc : Thread Cert.ChunkRIdeal.nD Cert.ChunkRIdeal.τ).loc Cert.ChunkRIdeal.main_arg1)) (m ((c.tc : Thread Cert.ChunkRIdeal.nD Cert.ChunkRIdeal.τ).loc Cert.ChunkRIdeal.main_arg2)) (m ((c.tc : Thread Cert.ChunkRIdeal.nD Cert.ChunkRIdeal.τ).loc Cert.ChunkRIdeal.main_arg3)) (m ((c.tc : Thread Cert.ChunkRIdeal.nD Cert.ChunkRIdeal.τ).loc Cert.ChunkRIdeal.main_arg4)) (m ((c.tc : Thread Cert.ChunkRIdeal.nD Cert.ChunkRIdeal.τ).loc Cert.ChunkRIdeal.main_arg5)) (m ((c.tc : Thread Cert.ChunkRIdeal.nD Cert.ChunkRIdeal.τ).loc Cert.ChunkRIdeal.main_arg6)) (m ((c.tc : Thread Cert.ChunkRIdeal.nD Cert.ChunkRIdeal.τ).loc Cert.ChunkRIdeal.main_arg7)) (m ((c.tc : Thread Cert.ChunkRIdeal.nD Cert.ChunkRIdeal.τ).loc Cert.ChunkRIdeal.main_arg8)) (m ((c.tc : Thread Cert.ChunkRIdeal.nD Cert.ChunkRIdeal.τ).loc Cert.ChunkRIdeal.main_arg9)) (m ((c.tc : Thread Cert.ChunkRIdeal.nD Cert.ChunkRIdeal.τ).loc Cert.ChunkRIdeal.main_arg10))).2.2.2.2.2.2.1 = (fun _ => 1#1)
    ∧ (Cert.Pre_chunk_finite.fn (F := Ideal) (m ((c.tc : Thread Cert.ChunkRIdeal.nD Cert.ChunkRIdeal.τ).loc Cert.ChunkRIdeal.main_arg0)) (m ((c.tc : Thread Cert.ChunkRIdeal.nD Cert.ChunkRIdeal.τ).loc Cert.ChunkRIdeal.main_arg1)) (m ((c.tc : Thread Cert.ChunkRIdeal.nD Cert.ChunkRIdeal.τ).loc Cert.ChunkRIdeal.main_arg2)) (m ((c.tc : Thread Cert.ChunkRIdeal.nD Cert.ChunkRIdeal.τ).loc Cert.ChunkRIdeal.main_arg3)) (m ((c.tc : Thread Cert.ChunkRIdeal.nD Cert.ChunkRIdeal.τ).loc Cert.ChunkRIdeal.main_arg4)) (m ((c.tc : Thread Cert.ChunkRIdeal.nD Cert.ChunkRIdeal.τ).loc Cert.ChunkRIdeal.main_arg5)) (m ((c.tc : Thread Cert.ChunkRIdeal.nD Cert.ChunkRIdeal.τ).loc Cert.ChunkRIdeal.main_arg6)) (m ((c.tc : Thread Cert.ChunkRIdeal.nD Cert.ChunkRIdeal.τ).loc Cert.ChunkRIdeal.main_arg7)) (m ((c.tc : Thread Cert.ChunkRIdeal.nD Cert.ChunkRIdeal.τ).loc Cert.ChunkRIdeal.main_arg8)) (m ((c.tc : Thread Cert.ChunkRIdeal.nD Cert.ChunkRIdeal.τ).loc Cert.ChunkRIdeal.main_arg9)) (m ((c.tc : Thread Cert.ChunkRIdeal.nD Cert.ChunkRIdeal.τ).loc Cert.ChunkRIdeal.main_arg10))).2.2.2.2.2.2.2.1 = (fun _ => 1#1)
    ∧ (Cert.Pre_chunk_finite.fn (F := Ideal) (m ((c.tc : Thread Cert.ChunkRIdeal.nD Cert.ChunkRIdeal.τ).loc Cert.ChunkRIdeal.main_arg0)) (m ((c.tc : Thread Cert.ChunkRIdeal.nD Cert.ChunkRIdeal.τ).loc Cert.ChunkRIdeal.main_arg1)) (m ((c.tc : Thread Cert.ChunkRIdeal.nD Cert.ChunkRIdeal.τ).loc Cert.ChunkRIdeal.main_arg2)) (m ((c.tc : Thread Cert.ChunkRIdeal.nD Cert.ChunkRIdeal.τ).loc Cert.ChunkRIdeal.main_arg3)) (m ((c.tc : Thread Cert.ChunkRIdeal.nD Cert.ChunkRIdeal.τ).loc Cert.ChunkRIdeal.main_arg4)) (m ((c.tc : Thread Cert.ChunkRIdeal.nD Cert.ChunkRIdeal.τ).loc Cert.ChunkRIdeal.main_arg5)) (m ((c.tc : Thread Cert.ChunkRIdeal.nD Cert.ChunkRIdeal.τ).loc Cert.ChunkRIdeal.main_arg6)) (m ((c.tc : Thread Cert.ChunkRIdeal.nD Cert.ChunkRIdeal.τ).loc Cert.ChunkRIdeal.main_arg7)) (m ((c.tc : Thread Cert.ChunkRIdeal.nD Cert.ChunkRIdeal.τ).loc Cert.ChunkRIdeal.main_arg8)) (m ((c.tc : Thread Cert.ChunkRIdeal.nD Cert.ChunkRIdeal.τ).loc Cert.ChunkRIdeal.main_arg9)) (m ((c.tc : Thread Cert.ChunkRIdeal.nD Cert.ChunkRIdeal.τ).loc Cert.ChunkRIdeal.main_arg10))).2.2.2.2.2.2.2.2.1 = (fun _ => 1#1)
    ∧ (Cert.Pre_chunk_finite.fn (F := Ideal) (m ((c.tc : Thread Cert.ChunkRIdeal.nD Cert.ChunkRIdeal.τ).loc Cert.ChunkRIdeal.main_arg0)) (m ((c.tc : Thread Cert.ChunkRIdeal.nD Cert.ChunkRIdeal.τ).loc Cert.ChunkRIdeal.main_arg1)) (m ((c.tc : Thread Cert.ChunkRIdeal.nD Cert.ChunkRIdeal.τ).loc Cert.ChunkRIdeal.main_arg2)) (m ((c.tc : Thread Cert.ChunkRIdeal.nD Cert.ChunkRIdeal.τ).loc Cert.ChunkRIdeal.main_arg3)) (m ((c.tc : Thread Cert.ChunkRIdeal.nD Cert.ChunkRIdeal.τ).loc Cert.ChunkRIdeal.main_arg4)) (m ((c.tc : Thread Cert.ChunkRIdeal.nD Cert.ChunkRIdeal.τ).loc Cert.ChunkRIdeal.main_arg5)) (m ((c.tc : Thread Cert.ChunkRIdeal.nD Cert.ChunkRIdeal.τ).loc Cert.ChunkRIdeal.main_arg6)) (m ((c.tc : Thread Cert.ChunkRIdeal.nD Cert.ChunkRIdeal.τ).loc Cert.ChunkRIdeal.main_arg7)) (m ((c.tc : Thread Cert.ChunkRIdeal.nD Cert.ChunkRIdeal.τ).loc Cert.ChunkRIdeal.main_arg8)) (m ((c.tc : Thread Cert.ChunkRIdeal.nD Cert.ChunkRIdeal.τ).loc Cert.ChunkRIdeal.main_arg9)) (m ((c.tc : Thread Cert.ChunkRIdeal.nD Cert.ChunkRIdeal.τ).loc Cert.ChunkRIdeal.main_arg10))).2.2.2.2.2.2.2.2.2.1 = (fun _ => 1#1)
    ∧ (Cert.Pre_chunk_finite.fn (F := Ideal) (m ((c.tc : Thread Cert.ChunkRIdeal.nD Cert.ChunkRIdeal.τ).loc Cert.ChunkRIdeal.main_arg0)) (m ((c.tc : Thread Cert.ChunkRIdeal.nD Cert.ChunkRIdeal.τ).loc Cert.ChunkRIdeal.main_arg1)) (m ((c.tc : Thread Cert.ChunkRIdeal.nD Cert.ChunkRIdeal.τ).loc Cert.ChunkRIdeal.main_arg2)) (m ((c.tc : Thread Cert.ChunkRIdeal.nD Cert.ChunkRIdeal.τ).loc Cert.ChunkRIdeal.main_arg3)) (m ((c.tc : Thread Cert.ChunkRIdeal.nD Cert.ChunkRIdeal.τ).loc Cert.ChunkRIdeal.main_arg4)) (m ((c.tc : Thread Cert.ChunkRIdeal.nD Cert.ChunkRIdeal.τ).loc Cert.ChunkRIdeal.main_arg5)) (m ((c.tc : Thread Cert.ChunkRIdeal.nD Cert.ChunkRIdeal.τ).loc Cert.ChunkRIdeal.main_arg6)) (m ((c.tc : Thread Cert.ChunkRIdeal.nD Cert.ChunkRIdeal.τ).loc Cert.ChunkRIdeal.main_arg7)) (m ((c.tc : Thread Cert.ChunkRIdeal.nD Cert.ChunkRIdeal.τ).loc Cert.ChunkRIdeal.main_arg8)) (m ((c.tc : Thread Cert.ChunkRIdeal.nD Cert.ChunkRIdeal.τ).loc Cert.ChunkRIdeal.main_arg9)) (m ((c.tc : Thread Cert.ChunkRIdeal.nD Cert.ChunkRIdeal.τ).loc Cert.ChunkRIdeal.main_arg10))).2.2.2.2.2.2.2.2.2.2 = (fun _ => 1#1)

def Pre_DeltaK (m : (ℓ : Loc Cert.DeltaK.nD Cert.DeltaK.τ Cert.DeltaK.sig) → Buf (Elt Bits) ℓ) : Prop :=
  True

def Pre_DeltaKIdeal (m : (ℓ : Loc Cert.DeltaKIdeal.nD Cert.DeltaKIdeal.τ Cert.DeltaKIdeal.sig) → Buf (Elt Ideal) ℓ) : Prop :=
  True

def Pre_DeltaKIdeal_delta_finite [hPre_delta_finite : Cert.Pre_delta_finite.Facts] (m : (ℓ : Loc Cert.DeltaKIdeal.nD Cert.DeltaKIdeal.τ Cert.DeltaKIdeal.sig) → Buf (Elt Ideal) ℓ) : Prop :=
  ∀ c : Dev Cert.DeltaKIdeal.nD,
    (Cert.Pre_delta_finite.fn (F := Ideal) (m ((c.tc : Thread Cert.DeltaKIdeal.nD Cert.DeltaKIdeal.τ).loc Cert.DeltaKIdeal.main_arg0)) (m ((c.tc : Thread Cert.DeltaKIdeal.nD Cert.DeltaKIdeal.τ).loc Cert.DeltaKIdeal.main_arg1)) (m ((c.tc : Thread Cert.DeltaKIdeal.nD Cert.DeltaKIdeal.τ).loc Cert.DeltaKIdeal.main_arg2)) (m ((c.tc : Thread Cert.DeltaKIdeal.nD Cert.DeltaKIdeal.τ).loc Cert.DeltaKIdeal.main_arg3)) (m ((c.tc : Thread Cert.DeltaKIdeal.nD Cert.DeltaKIdeal.τ).loc Cert.DeltaKIdeal.main_arg4))).1 = (fun _ => 1#1)
    ∧ (Cert.Pre_delta_finite.fn (F := Ideal) (m ((c.tc : Thread Cert.DeltaKIdeal.nD Cert.DeltaKIdeal.τ).loc Cert.DeltaKIdeal.main_arg0)) (m ((c.tc : Thread Cert.DeltaKIdeal.nD Cert.DeltaKIdeal.τ).loc Cert.DeltaKIdeal.main_arg1)) (m ((c.tc : Thread Cert.DeltaKIdeal.nD Cert.DeltaKIdeal.τ).loc Cert.DeltaKIdeal.main_arg2)) (m ((c.tc : Thread Cert.DeltaKIdeal.nD Cert.DeltaKIdeal.τ).loc Cert.DeltaKIdeal.main_arg3)) (m ((c.tc : Thread Cert.DeltaKIdeal.nD Cert.DeltaKIdeal.τ).loc Cert.DeltaKIdeal.main_arg4))).2.1 = (fun _ => 1#1)
    ∧ (Cert.Pre_delta_finite.fn (F := Ideal) (m ((c.tc : Thread Cert.DeltaKIdeal.nD Cert.DeltaKIdeal.τ).loc Cert.DeltaKIdeal.main_arg0)) (m ((c.tc : Thread Cert.DeltaKIdeal.nD Cert.DeltaKIdeal.τ).loc Cert.DeltaKIdeal.main_arg1)) (m ((c.tc : Thread Cert.DeltaKIdeal.nD Cert.DeltaKIdeal.τ).loc Cert.DeltaKIdeal.main_arg2)) (m ((c.tc : Thread Cert.DeltaKIdeal.nD Cert.DeltaKIdeal.τ).loc Cert.DeltaKIdeal.main_arg3)) (m ((c.tc : Thread Cert.DeltaKIdeal.nD Cert.DeltaKIdeal.τ).loc Cert.DeltaKIdeal.main_arg4))).2.2.1 = (fun _ => 1#1)
    ∧ (Cert.Pre_delta_finite.fn (F := Ideal) (m ((c.tc : Thread Cert.DeltaKIdeal.nD Cert.DeltaKIdeal.τ).loc Cert.DeltaKIdeal.main_arg0)) (m ((c.tc : Thread Cert.DeltaKIdeal.nD Cert.DeltaKIdeal.τ).loc Cert.DeltaKIdeal.main_arg1)) (m ((c.tc : Thread Cert.DeltaKIdeal.nD Cert.DeltaKIdeal.τ).loc Cert.DeltaKIdeal.main_arg2)) (m ((c.tc : Thread Cert.DeltaKIdeal.nD Cert.DeltaKIdeal.τ).loc Cert.DeltaKIdeal.main_arg3)) (m ((c.tc : Thread Cert.DeltaKIdeal.nD Cert.DeltaKIdeal.τ).loc Cert.DeltaKIdeal.main_arg4))).2.2.2.1 = (fun _ => 1#1)
    ∧ (Cert.Pre_delta_finite.fn (F := Ideal) (m ((c.tc : Thread Cert.DeltaKIdeal.nD Cert.DeltaKIdeal.τ).loc Cert.DeltaKIdeal.main_arg0)) (m ((c.tc : Thread Cert.DeltaKIdeal.nD Cert.DeltaKIdeal.τ).loc Cert.DeltaKIdeal.main_arg1)) (m ((c.tc : Thread Cert.DeltaKIdeal.nD Cert.DeltaKIdeal.τ).loc Cert.DeltaKIdeal.main_arg2)) (m ((c.tc : Thread Cert.DeltaKIdeal.nD Cert.DeltaKIdeal.τ).loc Cert.DeltaKIdeal.main_arg3)) (m ((c.tc : Thread Cert.DeltaKIdeal.nD Cert.DeltaKIdeal.τ).loc Cert.DeltaKIdeal.main_arg4))).2.2.2.2 = (fun _ => 1#1)

def Pre_DeltaRIdeal (m : (ℓ : Loc Cert.DeltaRIdeal.nD Cert.DeltaRIdeal.τ Cert.DeltaRIdeal.sig) → Buf (Elt Ideal) ℓ) : Prop :=
  True

def Pre_DeltaRIdeal_delta_finite [hPre_delta_finite : Cert.Pre_delta_finite.Facts] (m : (ℓ : Loc Cert.DeltaRIdeal.nD Cert.DeltaRIdeal.τ Cert.DeltaRIdeal.sig) → Buf (Elt Ideal) ℓ) : Prop :=
  ∀ c : Dev Cert.DeltaRIdeal.nD,
    (Cert.Pre_delta_finite.fn (F := Ideal) (m ((c.tc : Thread Cert.DeltaRIdeal.nD Cert.DeltaRIdeal.τ).loc Cert.DeltaRIdeal.main_arg0)) (m ((c.tc : Thread Cert.DeltaRIdeal.nD Cert.DeltaRIdeal.τ).loc Cert.DeltaRIdeal.main_arg1)) (m ((c.tc : Thread Cert.DeltaRIdeal.nD Cert.DeltaRIdeal.τ).loc Cert.DeltaRIdeal.main_arg2)) (m ((c.tc : Thread Cert.DeltaRIdeal.nD Cert.DeltaRIdeal.τ).loc Cert.DeltaRIdeal.main_arg3)) (m ((c.tc : Thread Cert.DeltaRIdeal.nD Cert.DeltaRIdeal.τ).loc Cert.DeltaRIdeal.main_arg4))).1 = (fun _ => 1#1)
    ∧ (Cert.Pre_delta_finite.fn (F := Ideal) (m ((c.tc : Thread Cert.DeltaRIdeal.nD Cert.DeltaRIdeal.τ).loc Cert.DeltaRIdeal.main_arg0)) (m ((c.tc : Thread Cert.DeltaRIdeal.nD Cert.DeltaRIdeal.τ).loc Cert.DeltaRIdeal.main_arg1)) (m ((c.tc : Thread Cert.DeltaRIdeal.nD Cert.DeltaRIdeal.τ).loc Cert.DeltaRIdeal.main_arg2)) (m ((c.tc : Thread Cert.DeltaRIdeal.nD Cert.DeltaRIdeal.τ).loc Cert.DeltaRIdeal.main_arg3)) (m ((c.tc : Thread Cert.DeltaRIdeal.nD Cert.DeltaRIdeal.τ).loc Cert.DeltaRIdeal.main_arg4))).2.1 = (fun _ => 1#1)
    ∧ (Cert.Pre_delta_finite.fn (F := Ideal) (m ((c.tc : Thread Cert.DeltaRIdeal.nD Cert.DeltaRIdeal.τ).loc Cert.DeltaRIdeal.main_arg0)) (m ((c.tc : Thread Cert.DeltaRIdeal.nD Cert.DeltaRIdeal.τ).loc Cert.DeltaRIdeal.main_arg1)) (m ((c.tc : Thread Cert.DeltaRIdeal.nD Cert.DeltaRIdeal.τ).loc Cert.DeltaRIdeal.main_arg2)) (m ((c.tc : Thread Cert.DeltaRIdeal.nD Cert.DeltaRIdeal.τ).loc Cert.DeltaRIdeal.main_arg3)) (m ((c.tc : Thread Cert.DeltaRIdeal.nD Cert.DeltaRIdeal.τ).loc Cert.DeltaRIdeal.main_arg4))).2.2.1 = (fun _ => 1#1)
    ∧ (Cert.Pre_delta_finite.fn (F := Ideal) (m ((c.tc : Thread Cert.DeltaRIdeal.nD Cert.DeltaRIdeal.τ).loc Cert.DeltaRIdeal.main_arg0)) (m ((c.tc : Thread Cert.DeltaRIdeal.nD Cert.DeltaRIdeal.τ).loc Cert.DeltaRIdeal.main_arg1)) (m ((c.tc : Thread Cert.DeltaRIdeal.nD Cert.DeltaRIdeal.τ).loc Cert.DeltaRIdeal.main_arg2)) (m ((c.tc : Thread Cert.DeltaRIdeal.nD Cert.DeltaRIdeal.τ).loc Cert.DeltaRIdeal.main_arg3)) (m ((c.tc : Thread Cert.DeltaRIdeal.nD Cert.DeltaRIdeal.τ).loc Cert.DeltaRIdeal.main_arg4))).2.2.2.1 = (fun _ => 1#1)
    ∧ (Cert.Pre_delta_finite.fn (F := Ideal) (m ((c.tc : Thread Cert.DeltaRIdeal.nD Cert.DeltaRIdeal.τ).loc Cert.DeltaRIdeal.main_arg0)) (m ((c.tc : Thread Cert.DeltaRIdeal.nD Cert.DeltaRIdeal.τ).loc Cert.DeltaRIdeal.main_arg1)) (m ((c.tc : Thread Cert.DeltaRIdeal.nD Cert.DeltaRIdeal.τ).loc Cert.DeltaRIdeal.main_arg2)) (m ((c.tc : Thread Cert.DeltaRIdeal.nD Cert.DeltaRIdeal.τ).loc Cert.DeltaRIdeal.main_arg3)) (m ((c.tc : Thread Cert.DeltaRIdeal.nD Cert.DeltaRIdeal.τ).loc Cert.DeltaRIdeal.main_arg4))).2.2.2.2 = (fun _ => 1#1)

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1)
      ∧ r.2.mem ((c.tc : Thread Cert.ConvK.nD Cert.ConvK.τ).loc Cert.ConvK.main_arg2) = m ((c.tc : Thread Cert.ConvK.nD Cert.ConvK.τ).loc Cert.ConvK.main_arg2)
      ∧ r.2.mem ((c.tc : Thread Cert.ConvK.nD Cert.ConvK.τ).loc Cert.ConvK.main_arg3) = m ((c.tc : Thread Cert.ConvK.nD Cert.ConvK.τ).loc Cert.ConvK.main_arg3)
      ∧ r.2.mem ((c.tc : Thread Cert.ConvK.nD Cert.ConvK.τ).loc Cert.ConvK.main_arg4) = m ((c.tc : Thread Cert.ConvK.nD Cert.ConvK.τ).loc Cert.ConvK.main_arg4))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
      ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3)
      ∧ r.2.mem ((c.tc : Thread Cert.ConvKIdeal.nD Cert.ConvKIdeal.τ).loc Cert.ConvKIdeal.main_arg4) = m ((c.tc : Thread Cert.ConvKIdeal.nD Cert.ConvKIdeal.τ).loc Cert.ConvKIdeal.main_arg4))
      ∧ r.2.sem = fun _ => 0)

def quiescent_ConvRIdeal [hConvRIdeal : Cert.ConvRIdeal.Facts] : Prop :=
  ∀ (m : (ℓ : Loc Cert.ConvRIdeal.nD Cert.ConvRIdeal.τ Cert.ConvRIdeal.sig) → Buf (Elt Ideal) ℓ) (g : Dev Cert.ConvRIdeal.nD → PrngReg), Pre_ConvRIdeal m →
    θ_run (Cert.ConvRIdeal.defs (F := Ideal)) (onTc (τ := Cert.ConvRIdeal.τ) (Cert.ConvRIdeal.main (F := Ideal))) ⟨m, fun _ => 0, g⟩ (fun r => (∀ c : Dev Cert.ConvRIdeal.nD,
      r.2.mem ((c.tc : Thread Cert.ConvRIdeal.nD Cert.ConvRIdeal.τ).loc Cert.ConvRIdeal.main_arg0) = m ((c.tc : Thread Cert.ConvRIdeal.nD Cert.ConvRIdeal.τ).loc Cert.ConvRIdeal.main_arg0)
      ∧ r.2.mem ((c.tc : Thread Cert.ConvRIdeal.nD Cert.ConvRIdeal.τ).loc Cert.ConvRIdeal.main_arg1) = m ((c.tc : Thread Cert.ConvRIdeal.nD Cert.ConvRIdeal.τ).loc Cert.ConvRIdeal.main_arg1)
      ∧ r.2.mem ((c.tc : Thread Cert.ConvRIdeal.nD Cert.ConvRIdeal.τ).loc Cert.ConvRIdeal.main_arg2) = m ((c.tc : Thread Cert.ConvRIdeal.nD Cert.ConvRIdeal.τ).loc Cert.ConvRIdeal.main_arg2)
      ∧ r.2.mem ((c.tc : Thread Cert.ConvRIdeal.nD Cert.ConvRIdeal.τ).loc Cert.ConvRIdeal.main_arg3) = m ((c.tc : Thread Cert.ConvRIdeal.nD Cert.ConvRIdeal.τ).loc Cert.ConvRIdeal.main_arg3)
      ∧ r.2.mem ((c.tc : Thread Cert.ConvRIdeal.nD Cert.ConvRIdeal.τ).loc Cert.ConvRIdeal.main_arg4) = m ((c.tc : Thread Cert.ConvRIdeal.nD Cert.ConvRIdeal.τ).loc Cert.ConvRIdeal.main_arg4))
      ∧ r.2.sem = fun _ => 0)

def quiescent_PrepK [hPrepK : Cert.PrepK.Facts] : Prop :=
  ∀ (m : (ℓ : Loc Cert.PrepK.nD Cert.PrepK.τ Cert.PrepK.sig) → Buf (Elt Bits) ℓ) (g : Dev Cert.PrepK.nD → PrngReg), Pre_PrepK m →
    θ_run (Cert.PrepK.defs (F := Bits)) (onTc (τ := Cert.PrepK.τ) (Cert.PrepK.main (F := Bits))) ⟨m, fun _ => 0, g⟩ (fun r => (∀ c : Dev Cert.PrepK.nD,
      r.2.mem ((c.tc : Thread Cert.PrepK.nD Cert.PrepK.τ).loc Cert.PrepK.main_arg0) = m ((c.tc : Thread Cert.PrepK.nD Cert.PrepK.τ).loc Cert.PrepK.main_arg0)
      ∧ r.2.mem ((c.tc : Thread Cert.PrepK.nD Cert.PrepK.τ).loc Cert.PrepK.main_arg1) = m ((c.tc : Thread Cert.PrepK.nD Cert.PrepK.τ).loc Cert.PrepK.main_arg1)
      ∧ r.2.mem ((c.tc : Thread Cert.PrepK.nD Cert.PrepK.τ).loc Cert.PrepK.main_arg2) = m ((c.tc : Thread Cert.PrepK.nD Cert.PrepK.τ).loc Cert.PrepK.main_arg2)
      ∧ r.2.mem ((c.tc : Thread Cert.PrepK.nD Cert.PrepK.τ).loc Cert.PrepK.main_arg3) = m ((c.tc : Thread Cert.PrepK.nD Cert.PrepK.τ).loc Cert.PrepK.main_arg3)
      ∧ r.2.mem ((c.tc : Thread Cert.PrepK.nD Cert.PrepK.τ).loc Cert.PrepK.main_arg4) = m ((c.tc : Thread Cert.PrepK.nD Cert.PrepK.τ).loc Cert.PrepK.main_arg4)
      ∧ r.2.mem ((c.tc : Thread Cert.PrepK.nD Cert.PrepK.τ).loc Cert.PrepK.main_arg5) = m ((c.tc : Thread Cert.PrepK.nD Cert.PrepK.τ).loc Cert.PrepK.main_arg5)
      ∧ r.2.mem ((c.tc : Thread Cert.PrepK.nD Cert.PrepK.τ).loc Cert.PrepK.main_arg6) = m ((c.tc : Thread Cert.PrepK.nD Cert.PrepK.τ).loc Cert.PrepK.main_arg6)
      ∧ r.2.mem ((c.tc : Thread Cert.PrepK.nD Cert.PrepK.τ).loc Cert.PrepK.main_arg7) = m ((c.tc : Thread Cert.PrepK.nD Cert.PrepK.τ).loc Cert.PrepK.main_arg7)
      ∧ r.2.mem ((c.tc : Thread Cert.PrepK.nD Cert.PrepK.τ).loc Cert.PrepK.main_arg8) = m ((c.tc : Thread Cert.PrepK.nD Cert.PrepK.τ).loc Cert.PrepK.main_arg8)
      ∧ r.2.mem ((c.tc : Thread Cert.PrepK.nD Cert.PrepK.τ).loc Cert.PrepK.main_arg9) = m ((c.tc : Thread Cert.PrepK.nD Cert.PrepK.τ).loc Cert.PrepK.main_arg9))
      ∧ r.2.sem = fun _ => 0)

def quiescent_PrepKIdeal [hPrepKIdeal : Cert.PrepKIdeal.Facts] : Prop :=
  ∀ (m : (ℓ : Loc Cert.PrepKIdeal.nD Cert.PrepKIdeal.τ Cert.PrepKIdeal.sig) → Buf (Elt Ideal) ℓ) (g : Dev Cert.PrepKIdeal.nD → PrngReg), Pre_PrepKIdeal m →
    θ_run (Cert.PrepKIdeal.defs (F := Ideal)) (onTc (τ := Cert.PrepKIdeal.τ) (Cert.PrepKIdeal.main (F := Ideal))) ⟨m, fun _ => 0, g⟩ (fun r => (∀ c : Dev Cert.PrepKIdeal.nD,
      r.2.mem ((c.tc : Thread Cert.PrepKIdeal.nD Cert.PrepKIdeal.τ).loc Cert.PrepKIdeal.main_arg0) = m ((c.tc : Thread Cert.PrepKIdeal.nD Cert.PrepKIdeal.τ).loc Cert.PrepKIdeal.main_arg0)
      ∧ r.2.mem ((c.tc : Thread Cert.PrepKIdeal.nD Cert.PrepKIdeal.τ).loc Cert.PrepKIdeal.main_arg1) = m ((c.tc : Thread Cert.PrepKIdeal.nD Cert.PrepKIdeal.τ).loc Cert.PrepKIdeal.main_arg1)
      ∧ r.2.mem ((c.tc : Thread Cert.PrepKIdeal.nD Cert.PrepKIdeal.τ).loc Cert.PrepKIdeal.main_arg2) = m ((c.tc : Thread Cert.PrepKIdeal.nD Cert.PrepKIdeal.τ).loc Cert.PrepKIdeal.main_arg2)
      ∧ r.2.mem ((c.tc : Thread Cert.PrepKIdeal.nD Cert.PrepKIdeal.τ).loc Cert.PrepKIdeal.main_arg3) = m ((c.tc : Thread Cert.PrepKIdeal.nD Cert.PrepKIdeal.τ).loc Cert.PrepKIdeal.main_arg3)
      ∧ r.2.mem ((c.tc : Thread Cert.PrepKIdeal.nD Cert.PrepKIdeal.τ).loc Cert.PrepKIdeal.main_arg4) = m ((c.tc : Thread Cert.PrepKIdeal.nD Cert.PrepKIdeal.τ).loc Cert.PrepKIdeal.main_arg4)
      ∧ r.2.mem ((c.tc : Thread Cert.PrepKIdeal.nD Cert.PrepKIdeal.τ).loc Cert.PrepKIdeal.main_arg5) = m ((c.tc : Thread Cert.PrepKIdeal.nD Cert.PrepKIdeal.τ).loc Cert.PrepKIdeal.main_arg5)
      ∧ r.2.mem ((c.tc : Thread Cert.PrepKIdeal.nD Cert.PrepKIdeal.τ).loc Cert.PrepKIdeal.main_arg6) = m ((c.tc : Thread Cert.PrepKIdeal.nD Cert.PrepKIdeal.τ).loc Cert.PrepKIdeal.main_arg6)
      ∧ r.2.mem ((c.tc : Thread Cert.PrepKIdeal.nD Cert.PrepKIdeal.τ).loc Cert.PrepKIdeal.main_arg7) = m ((c.tc : Thread Cert.PrepKIdeal.nD Cert.PrepKIdeal.τ).loc Cert.PrepKIdeal.main_arg7)
      ∧ r.2.mem ((c.tc : Thread Cert.PrepKIdeal.nD Cert.PrepKIdeal.τ).loc Cert.PrepKIdeal.main_arg8) = m ((c.tc : Thread Cert.PrepKIdeal.nD Cert.PrepKIdeal.τ).loc Cert.PrepKIdeal.main_arg8)
      ∧ r.2.mem ((c.tc : Thread Cert.PrepKIdeal.nD Cert.PrepKIdeal.τ).loc Cert.PrepKIdeal.main_arg9) = m ((c.tc : Thread Cert.PrepKIdeal.nD Cert.PrepKIdeal.τ).loc Cert.PrepKIdeal.main_arg9))
      ∧ r.2.sem = fun _ => 0)

def quiescent_PrepKIdeal_pre_prep_finite [hPrepKIdeal : Cert.PrepKIdeal.Facts] [hPre_prep_finite : Cert.Pre_prep_finite.Facts] : Prop :=
  ∀ (m : (ℓ : Loc Cert.PrepKIdeal.nD Cert.PrepKIdeal.τ Cert.PrepKIdeal.sig) → Buf (Elt Ideal) ℓ) (g : Dev Cert.PrepKIdeal.nD → PrngReg), Pre_PrepKIdeal_prep_finite m →
    θ_run (Cert.PrepKIdeal.defs (F := Ideal)) (onTc (τ := Cert.PrepKIdeal.τ) (Cert.PrepKIdeal.main (F := Ideal))) ⟨m, fun _ => 0, g⟩ (fun r => (∀ c : Dev Cert.PrepKIdeal.nD,
      r.2.mem ((c.tc : Thread Cert.PrepKIdeal.nD Cert.PrepKIdeal.τ).loc Cert.PrepKIdeal.main_arg0) = m ((c.tc : Thread Cert.PrepKIdeal.nD Cert.PrepKIdeal.τ).loc Cert.PrepKIdeal.main_arg0)
      ∧ r.2.mem ((c.tc : Thread Cert.PrepKIdeal.nD Cert.PrepKIdeal.τ).loc Cert.PrepKIdeal.main_arg1) = m ((c.tc : Thread Cert.PrepKIdeal.nD Cert.PrepKIdeal.τ).loc Cert.PrepKIdeal.main_arg1)
      ∧ r.2.mem ((c.tc : Thread Cert.PrepKIdeal.nD Cert.PrepKIdeal.τ).loc Cert.PrepKIdeal.main_arg2) = m ((c.tc : Thread Cert.PrepKIdeal.nD Cert.PrepKIdeal.τ).loc Cert.PrepKIdeal.main_arg2)
      ∧ r.2.mem ((c.tc : Thread Cert.PrepKIdeal.nD Cert.PrepKIdeal.τ).loc Cert.PrepKIdeal.main_arg3) = m ((c.tc : Thread Cert.PrepKIdeal.nD Cert.PrepKIdeal.τ).loc Cert.PrepKIdeal.main_arg3)
      ∧ r.2.mem ((c.tc : Thread Cert.PrepKIdeal.nD Cert.PrepKIdeal.τ).loc Cert.PrepKIdeal.main_arg4) = m ((c.tc : Thread Cert.PrepKIdeal.nD Cert.PrepKIdeal.τ).loc Cert.PrepKIdeal.main_arg4)
      ∧ r.2.mem ((c.tc : Thread Cert.PrepKIdeal.nD Cert.PrepKIdeal.τ).loc Cert.PrepKIdeal.main_arg5) = m ((c.tc : Thread Cert.PrepKIdeal.nD Cert.PrepKIdeal.τ).loc Cert.PrepKIdeal.main_arg5)
      ∧ r.2.mem ((c.tc : Thread Cert.PrepKIdeal.nD Cert.PrepKIdeal.τ).loc Cert.PrepKIdeal.main_arg6) = m ((c.tc : Thread Cert.PrepKIdeal.nD Cert.PrepKIdeal.τ).loc Cert.PrepKIdeal.main_arg6)
      ∧ r.2.mem ((c.tc : Thread Cert.PrepKIdeal.nD Cert.PrepKIdeal.τ).loc Cert.PrepKIdeal.main_arg7) = m ((c.tc : Thread Cert.PrepKIdeal.nD Cert.PrepKIdeal.τ).loc Cert.PrepKIdeal.main_arg7)
      ∧ r.2.mem ((c.tc : Thread Cert.PrepKIdeal.nD Cert.PrepKIdeal.τ).loc Cert.PrepKIdeal.main_arg8) = m ((c.tc : Thread Cert.PrepKIdeal.nD Cert.PrepKIdeal.τ).loc Cert.PrepKIdeal.main_arg8)
      ∧ r.2.mem ((c.tc : Thread Cert.PrepKIdeal.nD Cert.PrepKIdeal.τ).loc Cert.PrepKIdeal.main_arg9) = m ((c.tc : Thread Cert.PrepKIdeal.nD Cert.PrepKIdeal.τ).loc Cert.PrepKIdeal.main_arg9))
      ∧ r.2.sem = fun _ => 0)

def quiescent_PrepRIdeal [hPrepRIdeal : Cert.PrepRIdeal.Facts] : Prop :=
  ∀ (m : (ℓ : Loc Cert.PrepRIdeal.nD Cert.PrepRIdeal.τ Cert.PrepRIdeal.sig) → Buf (Elt Ideal) ℓ) (g : Dev Cert.PrepRIdeal.nD → PrngReg), Pre_PrepRIdeal m →
    θ_run (Cert.PrepRIdeal.defs (F := Ideal)) (onTc (τ := Cert.PrepRIdeal.τ) (Cert.PrepRIdeal.main (F := Ideal))) ⟨m, fun _ => 0, g⟩ (fun r => (∀ c : Dev Cert.PrepRIdeal.nD,
      r.2.mem ((c.tc : Thread Cert.PrepRIdeal.nD Cert.PrepRIdeal.τ).loc Cert.PrepRIdeal.main_arg0) = m ((c.tc : Thread Cert.PrepRIdeal.nD Cert.PrepRIdeal.τ).loc Cert.PrepRIdeal.main_arg0)
      ∧ r.2.mem ((c.tc : Thread Cert.PrepRIdeal.nD Cert.PrepRIdeal.τ).loc Cert.PrepRIdeal.main_arg1) = m ((c.tc : Thread Cert.PrepRIdeal.nD Cert.PrepRIdeal.τ).loc Cert.PrepRIdeal.main_arg1)
      ∧ r.2.mem ((c.tc : Thread Cert.PrepRIdeal.nD Cert.PrepRIdeal.τ).loc Cert.PrepRIdeal.main_arg2) = m ((c.tc : Thread Cert.PrepRIdeal.nD Cert.PrepRIdeal.τ).loc Cert.PrepRIdeal.main_arg2)
      ∧ r.2.mem ((c.tc : Thread Cert.PrepRIdeal.nD Cert.PrepRIdeal.τ).loc Cert.PrepRIdeal.main_arg3) = m ((c.tc : Thread Cert.PrepRIdeal.nD Cert.PrepRIdeal.τ).loc Cert.PrepRIdeal.main_arg3)
      ∧ r.2.mem ((c.tc : Thread Cert.PrepRIdeal.nD Cert.PrepRIdeal.τ).loc Cert.PrepRIdeal.main_arg4) = m ((c.tc : Thread Cert.PrepRIdeal.nD Cert.PrepRIdeal.τ).loc Cert.PrepRIdeal.main_arg4)
      ∧ r.2.mem ((c.tc : Thread Cert.PrepRIdeal.nD Cert.PrepRIdeal.τ).loc Cert.PrepRIdeal.main_arg5) = m ((c.tc : Thread Cert.PrepRIdeal.nD Cert.PrepRIdeal.τ).loc Cert.PrepRIdeal.main_arg5)
      ∧ r.2.mem ((c.tc : Thread Cert.PrepRIdeal.nD Cert.PrepRIdeal.τ).loc Cert.PrepRIdeal.main_arg6) = m ((c.tc : Thread Cert.PrepRIdeal.nD Cert.PrepRIdeal.τ).loc Cert.PrepRIdeal.main_arg6)
      ∧ r.2.mem ((c.tc : Thread Cert.PrepRIdeal.nD Cert.PrepRIdeal.τ).loc Cert.PrepRIdeal.main_arg7) = m ((c.tc : Thread Cert.PrepRIdeal.nD Cert.PrepRIdeal.τ).loc Cert.PrepRIdeal.main_arg7)
      ∧ r.2.mem ((c.tc : Thread Cert.PrepRIdeal.nD Cert.PrepRIdeal.τ).loc Cert.PrepRIdeal.main_arg8) = m ((c.tc : Thread Cert.PrepRIdeal.nD Cert.PrepRIdeal.τ).loc Cert.PrepRIdeal.main_arg8)
      ∧ r.2.mem ((c.tc : Thread Cert.PrepRIdeal.nD Cert.PrepRIdeal.τ).loc Cert.PrepRIdeal.main_arg9) = m ((c.tc : Thread Cert.PrepRIdeal.nD Cert.PrepRIdeal.τ).loc Cert.PrepRIdeal.main_arg9))
      ∧ r.2.sem = fun _ => 0)

def quiescent_PrepRIdeal_pre_prep_finite [hPrepRIdeal : Cert.PrepRIdeal.Facts] [hPre_prep_finite : Cert.Pre_prep_finite.Facts] : Prop :=
  ∀ (m : (ℓ : Loc Cert.PrepRIdeal.nD Cert.PrepRIdeal.τ Cert.PrepRIdeal.sig) → Buf (Elt Ideal) ℓ) (g : Dev Cert.PrepRIdeal.nD → PrngReg), Pre_PrepRIdeal_prep_finite m →
    θ_run (Cert.PrepRIdeal.defs (F := Ideal)) (onTc (τ := Cert.PrepRIdeal.τ) (Cert.PrepRIdeal.main (F := Ideal))) ⟨m, fun _ => 0, g⟩ (fun r => (∀ c : Dev Cert.PrepRIdeal.nD,
      r.2.mem ((c.tc : Thread Cert.PrepRIdeal.nD Cert.PrepRIdeal.τ).loc Cert.PrepRIdeal.main_arg0) = m ((c.tc : Thread Cert.PrepRIdeal.nD Cert.PrepRIdeal.τ).loc Cert.PrepRIdeal.main_arg0)
      ∧ r.2.mem ((c.tc : Thread Cert.PrepRIdeal.nD Cert.PrepRIdeal.τ).loc Cert.PrepRIdeal.main_arg1) = m ((c.tc : Thread Cert.PrepRIdeal.nD Cert.PrepRIdeal.τ).loc Cert.PrepRIdeal.main_arg1)
      ∧ r.2.mem ((c.tc : Thread Cert.PrepRIdeal.nD Cert.PrepRIdeal.τ).loc Cert.PrepRIdeal.main_arg2) = m ((c.tc : Thread Cert.PrepRIdeal.nD Cert.PrepRIdeal.τ).loc Cert.PrepRIdeal.main_arg2)
      ∧ r.2.mem ((c.tc : Thread Cert.PrepRIdeal.nD Cert.PrepRIdeal.τ).loc Cert.PrepRIdeal.main_arg3) = m ((c.tc : Thread Cert.PrepRIdeal.nD Cert.PrepRIdeal.τ).loc Cert.PrepRIdeal.main_arg3)
      ∧ r.2.mem ((c.tc : Thread Cert.PrepRIdeal.nD Cert.PrepRIdeal.τ).loc Cert.PrepRIdeal.main_arg4) = m ((c.tc : Thread Cert.PrepRIdeal.nD Cert.PrepRIdeal.τ).loc Cert.PrepRIdeal.main_arg4)
      ∧ r.2.mem ((c.tc : Thread Cert.PrepRIdeal.nD Cert.PrepRIdeal.τ).loc Cert.PrepRIdeal.main_arg5) = m ((c.tc : Thread Cert.PrepRIdeal.nD Cert.PrepRIdeal.τ).loc Cert.PrepRIdeal.main_arg5)
      ∧ r.2.mem ((c.tc : Thread Cert.PrepRIdeal.nD Cert.PrepRIdeal.τ).loc Cert.PrepRIdeal.main_arg6) = m ((c.tc : Thread Cert.PrepRIdeal.nD Cert.PrepRIdeal.τ).loc Cert.PrepRIdeal.main_arg6)
      ∧ r.2.mem ((c.tc : Thread Cert.PrepRIdeal.nD Cert.PrepRIdeal.τ).loc Cert.PrepRIdeal.main_arg7) = m ((c.tc : Thread Cert.PrepRIdeal.nD Cert.PrepRIdeal.τ).loc Cert.PrepRIdeal.main_arg7)
      ∧ r.2.mem ((c.tc : Thread Cert.PrepRIdeal.nD Cert.PrepRIdeal.τ).loc Cert.PrepRIdeal.main_arg8) = m ((c.tc : Thread Cert.PrepRIdeal.nD Cert.PrepRIdeal.τ).loc Cert.PrepRIdeal.main_arg8)
      ∧ r.2.mem ((c.tc : Thread Cert.PrepRIdeal.nD Cert.PrepRIdeal.τ).loc Cert.PrepRIdeal.main_arg9) = m ((c.tc : Thread Cert.PrepRIdeal.nD Cert.PrepRIdeal.τ).loc Cert.PrepRIdeal.main_arg9))
      ∧ r.2.sem = fun _ => 0)

def quiescent_UpK [hUpK : Cert.UpK.Facts] : Prop :=
  ∀ (m : (ℓ : Loc Cert.UpK.nD Cert.UpK.τ Cert.UpK.sig) → Buf (Elt Bits) ℓ) (g : Dev Cert.UpK.nD → PrngReg), Pre_UpK m →
    θ_run (Cert.UpK.defs (F := Bits)) (onTc (τ := Cert.UpK.τ) (Cert.UpK.main (F := Bits))) ⟨m, fun _ => 0, g⟩ (fun r => (∀ c : Dev Cert.UpK.nD,
      r.2.mem ((c.tc : Thread Cert.UpK.nD Cert.UpK.τ).loc Cert.UpK.main_arg0) = m ((c.tc : Thread Cert.UpK.nD Cert.UpK.τ).loc Cert.UpK.main_arg0)
      ∧ r.2.mem ((c.tc : Thread Cert.UpK.nD Cert.UpK.τ).loc Cert.UpK.main_arg1) = m ((c.tc : Thread Cert.UpK.nD Cert.UpK.τ).loc Cert.UpK.main_arg1)
      ∧ r.2.mem ((c.tc : Thread Cert.UpK.nD Cert.UpK.τ).loc Cert.UpK.main_arg2) = m ((c.tc : Thread Cert.UpK.nD Cert.UpK.τ).loc Cert.UpK.main_arg2)
      ∧ r.2.mem ((c.tc : Thread Cert.UpK.nD Cert.UpK.τ).loc Cert.UpK.main_arg3) = m ((c.tc : Thread Cert.UpK.nD Cert.UpK.τ).loc Cert.UpK.main_arg3)
      ∧ r.2.mem ((c.tc : Thread Cert.UpK.nD Cert.UpK.τ).loc Cert.UpK.main_arg4) = m ((c.tc : Thread Cert.UpK.nD Cert.UpK.τ).loc Cert.UpK.main_arg4))
      ∧ r.2.sem = fun _ => 0)

def quiescent_UpKIdeal [hUpKIdeal : Cert.UpKIdeal.Facts] : Prop :=
  ∀ (m : (ℓ : Loc Cert.UpKIdeal.nD Cert.UpKIdeal.τ Cert.UpKIdeal.sig) → Buf (Elt Ideal) ℓ) (g : Dev Cert.UpKIdeal.nD → PrngReg), Pre_UpKIdeal m →
    θ_run (Cert.UpKIdeal.defs (F := Ideal)) (onTc (τ := Cert.UpKIdeal.τ) (Cert.UpKIdeal.main (F := Ideal))) ⟨m, fun _ => 0, g⟩ (fun r => (∀ c : Dev Cert.UpKIdeal.nD,
      r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
      ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1)
      ∧ r.2.mem ((c.tc : Thread Cert.UpKIdeal.nD Cert.UpKIdeal.τ).loc Cert.UpKIdeal.main_arg2) = m ((c.tc : Thread Cert.UpKIdeal.nD Cert.UpKIdeal.τ).loc Cert.UpKIdeal.main_arg2)
      ∧ r.2.mem ((c.tc : Thread Cert.UpKIdeal.nD Cert.UpKIdeal.τ).loc Cert.UpKIdeal.main_arg3) = m ((c.tc : Thread Cert.UpKIdeal.nD Cert.UpKIdeal.τ).loc Cert.UpKIdeal.main_arg3)
      ∧ r.2.mem ((c.tc : Thread Cert.UpKIdeal.nD Cert.UpKIdeal.τ).loc Cert.UpKIdeal.main_arg4) = m ((c.tc : Thread Cert.UpKIdeal.nD Cert.UpKIdeal.τ).loc Cert.UpKIdeal.main_arg4))
      ∧ r.2.sem = fun _ => 0)

def quiescent_UpKIdeal_pre_up_finite [hUpKIdeal : Cert.UpKIdeal.Facts] [hPre_up_finite : Cert.Pre_up_finite.Facts] : Prop :=
  ∀ (m : (ℓ : Loc Cert.UpKIdeal.nD Cert.UpKIdeal.τ Cert.UpKIdeal.sig) → Buf (Elt Ideal) ℓ) (g : Dev Cert.UpKIdeal.nD → PrngReg), Pre_UpKIdeal_up_finite m →
    θ_run (Cert.UpKIdeal.defs (F := Ideal)) (onTc (τ := Cert.UpKIdeal.τ) (Cert.UpKIdeal.main (F := Ideal))) ⟨m, fun _ => 0, g⟩ (fun r => (∀ c : Dev Cert.UpKIdeal.nD,
      r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
      ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1)
      ∧ r.2.mem ((c.tc : Thread Cert.UpKIdeal.nD Cert.UpKIdeal.τ).loc Cert.UpKIdeal.main_arg2) = m ((c.tc : Thread Cert.UpKIdeal.nD Cert.UpKIdeal.τ).loc Cert.UpKIdeal.main_arg2)
      ∧ r.2.mem ((c.tc : Thread Cert.UpKIdeal.nD Cert.UpKIdeal.τ).loc Cert.UpKIdeal.main_arg3) = m ((c.tc : Thread Cert.UpKIdeal.nD Cert.UpKIdeal.τ).loc Cert.UpKIdeal.main_arg3)
      ∧ r.2.mem ((c.tc : Thread Cert.UpKIdeal.nD Cert.UpKIdeal.τ).loc Cert.UpKIdeal.main_arg4) = m ((c.tc : Thread Cert.UpKIdeal.nD Cert.UpKIdeal.τ).loc Cert.UpKIdeal.main_arg4))
      ∧ r.2.sem = fun _ => 0)

def quiescent_UpRIdeal [hUpRIdeal : Cert.UpRIdeal.Facts] : Prop :=
  ∀ (m : (ℓ : Loc Cert.UpRIdeal.nD Cert.UpRIdeal.τ Cert.UpRIdeal.sig) → Buf (Elt Ideal) ℓ) (g : Dev Cert.UpRIdeal.nD → PrngReg), Pre_UpRIdeal m →
    θ_run (Cert.UpRIdeal.defs (F := Ideal)) (onTc (τ := Cert.UpRIdeal.τ) (Cert.UpRIdeal.main (F := Ideal))) ⟨m, fun _ => 0, g⟩ (fun r => (∀ c : Dev Cert.UpRIdeal.nD,
      r.2.mem ((c.tc : Thread Cert.UpRIdeal.nD Cert.UpRIdeal.τ).loc Cert.UpRIdeal.main_arg0) = m ((c.tc : Thread Cert.UpRIdeal.nD Cert.UpRIdeal.τ).loc Cert.UpRIdeal.main_arg0)
      ∧ r.2.mem ((c.tc : Thread Cert.UpRIdeal.nD Cert.UpRIdeal.τ).loc Cert.UpRIdeal.main_arg1) = m ((c.tc : Thread Cert.UpRIdeal.nD Cert.UpRIdeal.τ).loc Cert.UpRIdeal.main_arg1)
      ∧ r.2.mem ((c.tc : Thread Cert.UpRIdeal.nD Cert.UpRIdeal.τ).loc Cert.UpRIdeal.main_arg2) = m ((c.tc : Thread Cert.UpRIdeal.nD Cert.UpRIdeal.τ).loc Cert.UpRIdeal.main_arg2)
      ∧ r.2.mem ((c.tc : Thread Cert.UpRIdeal.nD Cert.UpRIdeal.τ).loc Cert.UpRIdeal.main_arg3) = m ((c.tc : Thread Cert.UpRIdeal.nD Cert.UpRIdeal.τ).loc Cert.UpRIdeal.main_arg3)
      ∧ r.2.mem ((c.tc : Thread Cert.UpRIdeal.nD Cert.UpRIdeal.τ).loc Cert.UpRIdeal.main_arg4) = m ((c.tc : Thread Cert.UpRIdeal.nD Cert.UpRIdeal.τ).loc Cert.UpRIdeal.main_arg4))
      ∧ r.2.sem = fun _ => 0)

def quiescent_UpRIdeal_pre_up_finite [hUpRIdeal : Cert.UpRIdeal.Facts] [hPre_up_finite : Cert.Pre_up_finite.Facts] : Prop :=
  ∀ (m : (ℓ : Loc Cert.UpRIdeal.nD Cert.UpRIdeal.τ Cert.UpRIdeal.sig) → Buf (Elt Ideal) ℓ) (g : Dev Cert.UpRIdeal.nD → PrngReg), Pre_UpRIdeal_up_finite m →
    θ_run (Cert.UpRIdeal.defs (F := Ideal)) (onTc (τ := Cert.UpRIdeal.τ) (Cert.UpRIdeal.main (F := Ideal))) ⟨m, fun _ => 0, g⟩ (fun r => (∀ c : Dev Cert.UpRIdeal.nD,
      r.2.mem ((c.tc : Thread Cert.UpRIdeal.nD Cert.UpRIdeal.τ).loc Cert.UpRIdeal.main_arg0) = m ((c.tc : Thread Cert.UpRIdeal.nD Cert.UpRIdeal.τ).loc Cert.UpRIdeal.main_arg0)
      ∧ r.2.mem ((c.tc : Thread Cert.UpRIdeal.nD Cert.UpRIdeal.τ).loc Cert.UpRIdeal.main_arg1) = m ((c.tc : Thread Cert.UpRIdeal.nD Cert.UpRIdeal.τ).loc Cert.UpRIdeal.main_arg1)
      ∧ r.2.mem ((c.tc : Thread Cert.UpRIdeal.nD Cert.UpRIdeal.τ).loc Cert.UpRIdeal.main_arg2) = m ((c.tc : Thread Cert.UpRIdeal.nD Cert.UpRIdeal.τ).loc Cert.UpRIdeal.main_arg2)
      ∧ r.2.mem ((c.tc : Thread Cert.UpRIdeal.nD Cert.UpRIdeal.τ).loc Cert.UpRIdeal.main_arg3) = m ((c.tc : Thread Cert.UpRIdeal.nD Cert.UpRIdeal.τ).loc Cert.UpRIdeal.main_arg3)
      ∧ r.2.mem ((c.tc : Thread Cert.UpRIdeal.nD Cert.UpRIdeal.τ).loc Cert.UpRIdeal.main_arg4) = m ((c.tc : Thread Cert.UpRIdeal.nD Cert.UpRIdeal.τ).loc Cert.UpRIdeal.main_arg4))
      ∧ r.2.sem = fun _ => 0)

def quiescent_FfnK [hFfnK : Cert.FfnK.Facts] : Prop :=
  ∀ (m : (ℓ : Loc Cert.FfnK.nD Cert.FfnK.τ Cert.FfnK.sig) → Buf (Elt Bits) ℓ) (g : Dev Cert.FfnK.nD → PrngReg), Pre_FfnK m →
    θ_run (Cert.FfnK.defs (F := Bits)) (onTc (τ := Cert.FfnK.τ) (Cert.FfnK.main (F := Bits))) ⟨m, fun _ => 0, g⟩ (fun r => (∀ c : Dev Cert.FfnK.nD,
      r.2.mem ((c.tc : Thread Cert.FfnK.nD Cert.FfnK.τ).loc Cert.FfnK.main_arg0) = m ((c.tc : Thread Cert.FfnK.nD Cert.FfnK.τ).loc Cert.FfnK.main_arg0)
      ∧ r.2.mem ((c.tc : Thread Cert.FfnK.nD Cert.FfnK.τ).loc Cert.FfnK.main_arg1) = m ((c.tc : Thread Cert.FfnK.nD Cert.FfnK.τ).loc Cert.FfnK.main_arg1)
      ∧ r.2.mem ((c.tc : Thread Cert.FfnK.nD Cert.FfnK.τ).loc Cert.FfnK.main_arg2) = m ((c.tc : Thread Cert.FfnK.nD Cert.FfnK.τ).loc Cert.FfnK.main_arg2)
      ∧ r.2.mem ((c.tc : Thread Cert.FfnK.nD Cert.FfnK.τ).loc Cert.FfnK.main_arg3) = m ((c.tc : Thread Cert.FfnK.nD Cert.FfnK.τ).loc Cert.FfnK.main_arg3)
      ∧ r.2.mem ((c.tc : Thread Cert.FfnK.nD Cert.FfnK.τ).loc Cert.FfnK.main_arg4) = m ((c.tc : Thread Cert.FfnK.nD Cert.FfnK.τ).loc Cert.FfnK.main_arg4))
      ∧ r.2.sem = fun _ => 0)

def quiescent_FfnKIdeal [hFfnKIdeal : Cert.FfnKIdeal.Facts] : Prop :=
  ∀ (m : (ℓ : Loc Cert.FfnKIdeal.nD Cert.FfnKIdeal.τ Cert.FfnKIdeal.sig) → Buf (Elt Ideal) ℓ) (g : Dev Cert.FfnKIdeal.nD → PrngReg), Pre_FfnKIdeal m →
    θ_run (Cert.FfnKIdeal.defs (F := Ideal)) (onTc (τ := Cert.FfnKIdeal.τ) (Cert.FfnKIdeal.main (F := Ideal))) ⟨m, fun _ => 0, g⟩ (fun r => (∀ c : Dev Cert.FfnKIdeal.nD,
      r.2.mem ((c.tc : Thread Cert.FfnKIdeal.nD Cert.FfnKIdeal.τ).loc Cert.FfnKIdeal.main_arg0) = m ((c.tc : Thread Cert.FfnKIdeal.nD Cert.FfnKIdeal.τ).loc Cert.FfnKIdeal.main_arg0)
      ∧ r.2.mem ((c.tc : Thread Cert.FfnKIdeal.nD Cert.FfnKIdeal.τ).loc Cert.FfnKIdeal.main_arg1) = m ((c.tc : Thread Cert.FfnKIdeal.nD Cert.FfnKIdeal.τ).loc Cert.FfnKIdeal.main_arg1)
      ∧ r.2.mem ((c.tc : Thread Cert.FfnKIdeal.nD Cert.FfnKIdeal.τ).loc Cert.FfnKIdeal.main_arg2) = m ((c.tc : Thread Cert.FfnKIdeal.nD Cert.FfnKIdeal.τ).loc Cert.FfnKIdeal.main_arg2)
      ∧ r.2.mem ((c.tc : Thread Cert.FfnKIdeal.nD Cert.FfnKIdeal.τ).loc Cert.FfnKIdeal.main_arg3) = m ((c.tc : Thread Cert.FfnKIdeal.nD Cert.FfnKIdeal.τ).loc Cert.FfnKIdeal.main_arg3)
      ∧ r.2.mem ((c.tc : Thread Cert.FfnKIdeal.nD Cert.FfnKIdeal.τ).loc Cert.FfnKIdeal.main_arg4) = m ((c.tc : Thread Cert.FfnKIdeal.nD Cert.FfnKIdeal.τ).loc Cert.FfnKIdeal.main_arg4))
      ∧ r.2.sem = fun _ => 0)

def quiescent_FfnKIdeal_pre_ffnb_finite [hFfnKIdeal : Cert.FfnKIdeal.Facts] [hPre_ffnb_finite : Cert.Pre_ffnb_finite.Facts] : Prop :=
  ∀ (m : (ℓ : Loc Cert.FfnKIdeal.nD Cert.FfnKIdeal.τ Cert.FfnKIdeal.sig) → Buf (Elt Ideal) ℓ) (g : Dev Cert.FfnKIdeal.nD → PrngReg), Pre_FfnKIdeal_ffnb_finite m →
    θ_run (Cert.FfnKIdeal.defs (F := Ideal)) (onTc (τ := Cert.FfnKIdeal.τ) (Cert.FfnKIdeal.main (F := Ideal))) ⟨m, fun _ => 0, g⟩ (fun r => (∀ c : Dev Cert.FfnKIdeal.nD,
      r.2.mem ((c.tc : Thread Cert.FfnKIdeal.nD Cert.FfnKIdeal.τ).loc Cert.FfnKIdeal.main_arg0) = m ((c.tc : Thread Cert.FfnKIdeal.nD Cert.FfnKIdeal.τ).loc Cert.FfnKIdeal.main_arg0)
      ∧ r.2.mem ((c.tc : Thread Cert.FfnKIdeal.nD Cert.FfnKIdeal.τ).loc Cert.FfnKIdeal.main_arg1) = m ((c.tc : Thread Cert.FfnKIdeal.nD Cert.FfnKIdeal.τ).loc Cert.FfnKIdeal.main_arg1)
      ∧ r.2.mem ((c.tc : Thread Cert.FfnKIdeal.nD Cert.FfnKIdeal.τ).loc Cert.FfnKIdeal.main_arg2) = m ((c.tc : Thread Cert.FfnKIdeal.nD Cert.FfnKIdeal.τ).loc Cert.FfnKIdeal.main_arg2)
      ∧ r.2.mem ((c.tc : Thread Cert.FfnKIdeal.nD Cert.FfnKIdeal.τ).loc Cert.FfnKIdeal.main_arg3) = m ((c.tc : Thread Cert.FfnKIdeal.nD Cert.FfnKIdeal.τ).loc Cert.FfnKIdeal.main_arg3)
      ∧ r.2.mem ((c.tc : Thread Cert.FfnKIdeal.nD Cert.FfnKIdeal.τ).loc Cert.FfnKIdeal.main_arg4) = m ((c.tc : Thread Cert.FfnKIdeal.nD Cert.FfnKIdeal.τ).loc Cert.FfnKIdeal.main_arg4))
      ∧ r.2.sem = fun _ => 0)

def quiescent_FfnRIdeal [hFfnRIdeal : Cert.FfnRIdeal.Facts] : Prop :=
  ∀ (m : (ℓ : Loc Cert.FfnRIdeal.nD Cert.FfnRIdeal.τ Cert.FfnRIdeal.sig) → Buf (Elt Ideal) ℓ) (g : Dev Cert.FfnRIdeal.nD → PrngReg), Pre_FfnRIdeal m →
    θ_run (Cert.FfnRIdeal.defs (F := Ideal)) (onTc (τ := Cert.FfnRIdeal.τ) (Cert.FfnRIdeal.main (F := Ideal))) ⟨m, fun _ => 0, g⟩ (fun r => (∀ c : Dev Cert.FfnRIdeal.nD,
      r.2.mem ((c.tc : Thread Cert.FfnRIdeal.nD Cert.FfnRIdeal.τ).loc Cert.FfnRIdeal.main_arg0) = m ((c.tc : Thread Cert.FfnRIdeal.nD Cert.FfnRIdeal.τ).loc Cert.FfnRIdeal.main_arg0)
      ∧ r.2.mem ((c.tc : Thread Cert.FfnRIdeal.nD Cert.FfnRIdeal.τ).loc Cert.FfnRIdeal.main_arg1) = m ((c.tc : Thread Cert.FfnRIdeal.nD Cert.FfnRIdeal.τ).loc Cert.FfnRIdeal.main_arg1)
      ∧ r.2.mem ((c.tc : Thread Cert.FfnRIdeal.nD Cert.FfnRIdeal.τ).loc Cert.FfnRIdeal.main_arg2) = m ((c.tc : Thread Cert.FfnRIdeal.nD Cert.FfnRIdeal.τ).loc Cert.FfnRIdeal.main_arg2)
      ∧ r.2.mem ((c.tc : Thread Cert.FfnRIdeal.nD Cert.FfnRIdeal.τ).loc Cert.FfnRIdeal.main_arg3) = m ((c.tc : Thread Cert.FfnRIdeal.nD Cert.FfnRIdeal.τ).loc Cert.FfnRIdeal.main_arg3)
      ∧ r.2.mem ((c.tc : Thread Cert.FfnRIdeal.nD Cert.FfnRIdeal.τ).loc Cert.FfnRIdeal.main_arg4) = m ((c.tc : Thread Cert.FfnRIdeal.nD Cert.FfnRIdeal.τ).loc Cert.FfnRIdeal.main_arg4))
      ∧ r.2.sem = fun _ => 0)

def quiescent_FfnRIdeal_pre_ffnb_finite [hFfnRIdeal : Cert.FfnRIdeal.Facts] [hPre_ffnb_finite : Cert.Pre_ffnb_finite.Facts] : Prop :=
  ∀ (m : (ℓ : Loc Cert.FfnRIdeal.nD Cert.FfnRIdeal.τ Cert.FfnRIdeal.sig) → Buf (Elt Ideal) ℓ) (g : Dev Cert.FfnRIdeal.nD → PrngReg), Pre_FfnRIdeal_ffnb_finite m →
    θ_run (Cert.FfnRIdeal.defs (F := Ideal)) (onTc (τ := Cert.FfnRIdeal.τ) (Cert.FfnRIdeal.main (F := Ideal))) ⟨m, fun _ => 0, g⟩ (fun r => (∀ c : Dev Cert.FfnRIdeal.nD,
      r.2.mem ((c.tc : Thread Cert.FfnRIdeal.nD Cert.FfnRIdeal.τ).loc Cert.FfnRIdeal.main_arg0) = m ((c.tc : Thread Cert.FfnRIdeal.nD Cert.FfnRIdeal.τ).loc Cert.FfnRIdeal.main_arg0)
      ∧ r.2.mem ((c.tc : Thread Cert.FfnRIdeal.nD Cert.FfnRIdeal.τ).loc Cert.FfnRIdeal.main_arg1) = m ((c.tc : Thread Cert.FfnRIdeal.nD Cert.FfnRIdeal.τ).loc Cert.FfnRIdeal.main_arg1)
      ∧ r.2.mem ((c.tc : Thread Cert.FfnRIdeal.nD Cert.FfnRIdeal.τ).loc Cert.FfnRIdeal.main_arg2) = m ((c.tc : Thread Cert.FfnRIdeal.nD Cert.FfnRIdeal.τ).loc Cert.FfnRIdeal.main_arg2)
      ∧ r.2.mem ((c.tc : Thread Cert.FfnRIdeal.nD Cert.FfnRIdeal.τ).loc Cert.FfnRIdeal.main_arg3) = m ((c.tc : Thread Cert.FfnRIdeal.nD Cert.FfnRIdeal.τ).loc Cert.FfnRIdeal.main_arg3)
      ∧ r.2.mem ((c.tc : Thread Cert.FfnRIdeal.nD Cert.FfnRIdeal.τ).loc Cert.FfnRIdeal.main_arg4) = m ((c.tc : Thread Cert.FfnRIdeal.nD Cert.FfnRIdeal.τ).loc Cert.FfnRIdeal.main_arg4))
      ∧ r.2.sem = fun _ => 0)

def quiescent_LossK [hLossK : Cert.LossK.Facts] : Prop :=
  ∀ (m : (ℓ : Loc Cert.LossK.nD Cert.LossK.τ Cert.LossK.sig) → Buf (Elt Bits) ℓ) (g : Dev Cert.LossK.nD → PrngReg), Pre_LossK m →
    θ_run (Cert.LossK.defs (F := Bits)) (onTc (τ := Cert.LossK.τ) (Cert.LossK.main (F := Bits))) ⟨m, fun _ => 0, g⟩ (fun r => (∀ c : Dev Cert.LossK.nD,
      r.2.mem ((c.tc : Thread Cert.LossK.nD Cert.LossK.τ).loc Cert.LossK.main_arg0) = m ((c.tc : Thread Cert.LossK.nD Cert.LossK.τ).loc Cert.LossK.main_arg0)
      ∧ r.2.mem ((c.tc : Thread Cert.LossK.nD Cert.LossK.τ).loc Cert.LossK.main_arg1) = m ((c.tc : Thread Cert.LossK.nD Cert.LossK.τ).loc Cert.LossK.main_arg1)
      ∧ r.2.mem ((c.tc : Thread Cert.LossK.nD Cert.LossK.τ).loc Cert.LossK.main_arg2) = m ((c.tc : Thread Cert.LossK.nD Cert.LossK.τ).loc Cert.LossK.main_arg2)
      ∧ r.2.mem ((c.tc : Thread Cert.LossK.nD Cert.LossK.τ).loc Cert.LossK.main_arg3) = m ((c.tc : Thread Cert.LossK.nD Cert.LossK.τ).loc Cert.LossK.main_arg3)
      ∧ r.2.mem ((c.tc : Thread Cert.LossK.nD Cert.LossK.τ).loc Cert.LossK.main_arg4) = m ((c.tc : Thread Cert.LossK.nD Cert.LossK.τ).loc Cert.LossK.main_arg4)
      ∧ r.2.mem ((c.tc : Thread Cert.LossK.nD Cert.LossK.τ).loc Cert.LossK.main_arg5) = m ((c.tc : Thread Cert.LossK.nD Cert.LossK.τ).loc Cert.LossK.main_arg5)
      ∧ r.2.mem ((c.tc : Thread Cert.LossK.nD Cert.LossK.τ).loc Cert.LossK.main_arg6) = m ((c.tc : Thread Cert.LossK.nD Cert.LossK.τ).loc Cert.LossK.main_arg6))
      ∧ r.2.sem = fun _ => 0)

def quiescent_LossKIdeal [hLossKIdeal : Cert.LossKIdeal.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
      ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
      ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4)
      ∧ r.2.mem ((c.tc : Thread Cert.LossKIdeal.nD Cert.LossKIdeal.τ).loc Cert.LossKIdeal.main_arg5) = m ((c.tc : Thread Cert.LossKIdeal.nD Cert.LossKIdeal.τ).loc Cert.LossKIdeal.main_arg5)
      ∧ r.2.mem ((c.tc : Thread Cert.LossKIdeal.nD Cert.LossKIdeal.τ).loc Cert.LossKIdeal.main_arg6) = m ((c.tc : Thread Cert.LossKIdeal.nD Cert.LossKIdeal.τ).loc Cert.LossKIdeal.main_arg6))
      ∧ r.2.sem = fun _ => 0)

def quiescent_LossKIdeal_pre_loss_finite [hLossKIdeal : Cert.LossKIdeal.Facts] [hPre_loss_finite : Cert.Pre_loss_finite.Facts] : Prop :=
  ∀ (m : (ℓ : Loc Cert.LossKIdeal.nD Cert.LossKIdeal.τ Cert.LossKIdeal.sig) → Buf (Elt Ideal) ℓ) (g : Dev Cert.LossKIdeal.nD → PrngReg), Pre_LossKIdeal_loss_finite m →
    θ_run (Cert.LossKIdeal.defs (F := Ideal)) (onTc (τ := Cert.LossKIdeal.τ) (Cert.LossKIdeal.main (F := Ideal))) ⟨m, fun _ => 0, g⟩ (fun r => (∀ c : Dev Cert.LossKIdeal.nD,
      r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
      ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
      ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
      ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
      ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4)
      ∧ r.2.mem ((c.tc : Thread Cert.LossKIdeal.nD Cert.LossKIdeal.τ).loc Cert.LossKIdeal.main_arg5) = m ((c.tc : Thread Cert.LossKIdeal.nD Cert.LossKIdeal.τ).loc Cert.LossKIdeal.main_arg5)
      ∧ r.2.mem ((c.tc : Thread Cert.LossKIdeal.nD Cert.LossKIdeal.τ).loc Cert.LossKIdeal.main_arg6) = m ((c.tc : Thread Cert.LossKIdeal.nD Cert.LossKIdeal.τ).loc Cert.LossKIdeal.main_arg6))
      ∧ r.2.sem = fun _ => 0)

def quiescent_LossRIdeal [hLossRIdeal : Cert.LossRIdeal.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2)
      ∧ r.2.mem ((c.tc : Thread Cert.LossRIdeal.nD Cert.LossRIdeal.τ).loc Cert.LossRIdeal.main_arg3) = m ((c.tc : Thread Cert.LossRIdeal.nD Cert.LossRIdeal.τ).loc Cert.LossRIdeal.main_arg3)
      ∧ r.2.mem ((c.tc : Thread Cert.LossRIdeal.nD Cert.LossRIdeal.τ).loc Cert.LossRIdeal.main_arg4) = m ((c.tc : Thread Cert.LossRIdeal.nD Cert.LossRIdeal.τ).loc Cert.LossRIdeal.main_arg4)
      ∧ r.2.mem ((c.tc : Thread Cert.LossRIdeal.nD Cert.LossRIdeal.τ).loc Cert.LossRIdeal.main_arg5) = m ((c.tc : Thread Cert.LossRIdeal.nD Cert.LossRIdeal.τ).loc Cert.LossRIdeal.main_arg5)
      ∧ r.2.mem ((c.tc : Thread Cert.LossRIdeal.nD Cert.LossRIdeal.τ).loc Cert.LossRIdeal.main_arg6) = m ((c.tc : Thread Cert.LossRIdeal.nD Cert.LossRIdeal.τ).loc Cert.LossRIdeal.main_arg6))
      ∧ r.2.sem = fun _ => 0)

def quiescent_LossRIdeal_pre_loss_finite [hLossRIdeal : Cert.LossRIdeal.Facts] [hPre_loss_finite : Cert.Pre_loss_finite.Facts] : Prop :=
  ∀ (m : (ℓ : Loc Cert.LossRIdeal.nD Cert.LossRIdeal.τ Cert.LossRIdeal.sig) → Buf (Elt Ideal) ℓ) (g : Dev Cert.LossRIdeal.nD → PrngReg), Pre_LossRIdeal_loss_finite m →
    θ_run (Cert.LossRIdeal.defs (F := Ideal)) (onTc (τ := Cert.LossRIdeal.τ) (Cert.LossRIdeal.main (F := Ideal))) ⟨m, fun _ => 0, g⟩ (fun r => (∀ c : Dev Cert.LossRIdeal.nD,
      r.2.mem ((c.tc : Thread Cert.LossRIdeal.nD Cert.LossRIdeal.τ).loc Cert.LossRIdeal.main_arg0) = m ((c.tc : Thread Cert.LossRIdeal.nD Cert.LossRIdeal.τ).loc Cert.LossRIdeal.main_arg0)
      ∧ r.2.mem ((c.tc : Thread Cert.LossRIdeal.nD Cert.LossRIdeal.τ).loc Cert.LossRIdeal.main_arg1) = m ((c.tc : Thread Cert.LossRIdeal.nD Cert.LossRIdeal.τ).loc Cert.LossRIdeal.main_arg1)
      ∧ r.2.mem ((c.tc : Thread Cert.LossRIdeal.nD Cert.LossRIdeal.τ).loc Cert.LossRIdeal.main_arg2) = m ((c.tc : Thread Cert.LossRIdeal.nD Cert.LossRIdeal.τ).loc Cert.LossRIdeal.main_arg2)
      ∧ r.2.mem ((c.tc : Thread Cert.LossRIdeal.nD Cert.LossRIdeal.τ).loc Cert.LossRIdeal.main_arg3) = m ((c.tc : Thread Cert.LossRIdeal.nD Cert.LossRIdeal.τ).loc Cert.LossRIdeal.main_arg3)
      ∧ r.2.mem ((c.tc : Thread Cert.LossRIdeal.nD Cert.LossRIdeal.τ).loc Cert.LossRIdeal.main_arg4) = m ((c.tc : Thread Cert.LossRIdeal.nD Cert.LossRIdeal.τ).loc Cert.LossRIdeal.main_arg4)
      ∧ r.2.mem ((c.tc : Thread Cert.LossRIdeal.nD Cert.LossRIdeal.τ).loc Cert.LossRIdeal.main_arg5) = m ((c.tc : Thread Cert.LossRIdeal.nD Cert.LossRIdeal.τ).loc Cert.LossRIdeal.main_arg5)
      ∧ r.2.mem ((c.tc : Thread Cert.LossRIdeal.nD Cert.LossRIdeal.τ).loc Cert.LossRIdeal.main_arg6) = m ((c.tc : Thread Cert.LossRIdeal.nD Cert.LossRIdeal.τ).loc Cert.LossRIdeal.main_arg6))
      ∧ r.2.sem = fun _ => 0)

def quiescent_ChunkK [hChunkK : Cert.ChunkK.Facts] : Prop :=
  ∀ (m : (ℓ : Loc Cert.ChunkK.nD Cert.ChunkK.τ Cert.ChunkK.sig) → Buf (Elt Bits) ℓ) (g : Dev Cert.ChunkK.nD → PrngReg), Pre_ChunkK m →
    θ_run (Cert.ChunkK.defs (F := Bits)) (onTc (τ := Cert.ChunkK.τ) (Cert.ChunkK.main (F := Bits))) ⟨m, fun _ => 0, g⟩ (fun r => (∀ c : Dev Cert.ChunkK.nD,
      r.2.mem ((c.tc : Thread Cert.ChunkK.nD Cert.ChunkK.τ).loc Cert.ChunkK.main_arg0) = m ((c.tc : Thread Cert.ChunkK.nD Cert.ChunkK.τ).loc Cert.ChunkK.main_arg0)
      ∧ r.2.mem ((c.tc : Thread Cert.ChunkK.nD Cert.ChunkK.τ).loc Cert.ChunkK.main_arg1) = m ((c.tc : Thread Cert.ChunkK.nD Cert.ChunkK.τ).loc Cert.ChunkK.main_arg1)
      ∧ r.2.mem ((c.tc : Thread Cert.ChunkK.nD Cert.ChunkK.τ).loc Cert.ChunkK.main_arg2) = m ((c.tc : Thread Cert.ChunkK.nD Cert.ChunkK.τ).loc Cert.ChunkK.main_arg2)
      ∧ r.2.mem ((c.tc : Thread Cert.ChunkK.nD Cert.ChunkK.τ).loc Cert.ChunkK.main_arg3) = m ((c.tc : Thread Cert.ChunkK.nD Cert.ChunkK.τ).loc Cert.ChunkK.main_arg3)
      ∧ r.2.mem ((c.tc : Thread Cert.ChunkK.nD Cert.ChunkK.τ).loc Cert.ChunkK.main_arg4) = m ((c.tc : Thread Cert.ChunkK.nD Cert.ChunkK.τ).loc Cert.ChunkK.main_arg4)
      ∧ r.2.mem ((c.tc : Thread Cert.ChunkK.nD Cert.ChunkK.τ).loc Cert.ChunkK.main_arg5) = m ((c.tc : Thread Cert.ChunkK.nD Cert.ChunkK.τ).loc Cert.ChunkK.main_arg5)
      ∧ r.2.mem ((c.tc : Thread Cert.ChunkK.nD Cert.ChunkK.τ).loc Cert.ChunkK.main_arg6) = m ((c.tc : Thread Cert.ChunkK.nD Cert.ChunkK.τ).loc Cert.ChunkK.main_arg6)
      ∧ r.2.mem ((c.tc : Thread Cert.ChunkK.nD Cert.ChunkK.τ).loc Cert.ChunkK.main_arg7) = m ((c.tc : Thread Cert.ChunkK.nD Cert.ChunkK.τ).loc Cert.ChunkK.main_arg7)
      ∧ r.2.mem ((c.tc : Thread Cert.ChunkK.nD Cert.ChunkK.τ).loc Cert.ChunkK.main_arg8) = m ((c.tc : Thread Cert.ChunkK.nD Cert.ChunkK.τ).loc Cert.ChunkK.main_arg8)
      ∧ r.2.mem ((c.tc : Thread Cert.ChunkK.nD Cert.ChunkK.τ).loc Cert.ChunkK.main_arg9) = m ((c.tc : Thread Cert.ChunkK.nD Cert.ChunkK.τ).loc Cert.ChunkK.main_arg9)
      ∧ r.2.mem ((c.tc : Thread Cert.ChunkK.nD Cert.ChunkK.τ).loc Cert.ChunkK.main_arg10) = m ((c.tc : Thread Cert.ChunkK.nD Cert.ChunkK.τ).loc Cert.ChunkK.main_arg10))
      ∧ r.2.sem = fun _ => 0)

def quiescent_ChunkKIdeal [hChunkKIdeal : Cert.ChunkKIdeal.Facts] : Prop :=
  ∀ (m : (ℓ : Loc Cert.ChunkKIdeal.nD Cert.ChunkKIdeal.τ Cert.ChunkKIdeal.sig) → Buf (Elt Ideal) ℓ) (g : Dev Cert.ChunkKIdeal.nD → PrngReg), Pre_ChunkKIdeal m →
    θ_run (Cert.ChunkKIdeal.defs (F := Ideal)) (onTc (τ := Cert.ChunkKIdeal.τ) (Cert.ChunkKIdeal.main (F := Ideal))) ⟨m, fun _ => 0, g⟩ (fun r => (∀ c : Dev Cert.ChunkKIdeal.nD,
      r.2.mem ((c.tc : Thread Cert.ChunkKIdeal.nD Cert.ChunkKIdeal.τ).loc Cert.ChunkKIdeal.main_arg0) = m ((c.tc : Thread Cert.ChunkKIdeal.nD Cert.ChunkKIdeal.τ).loc Cert.ChunkKIdeal.main_arg0)
      ∧ r.2.mem ((c.tc : Thread Cert.ChunkKIdeal.nD Cert.ChunkKIdeal.τ).loc Cert.ChunkKIdeal.main_arg1) = m ((c.tc : Thread Cert.ChunkKIdeal.nD Cert.ChunkKIdeal.τ).loc Cert.ChunkKIdeal.main_arg1)
      ∧ r.2.mem ((c.tc : Thread Cert.ChunkKIdeal.nD Cert.ChunkKIdeal.τ).loc Cert.ChunkKIdeal.main_arg2) = m ((c.tc : Thread Cert.ChunkKIdeal.nD Cert.ChunkKIdeal.τ).loc Cert.ChunkKIdeal.main_arg2)
      ∧ r.2.mem ((c.tc : Thread Cert.ChunkKIdeal.nD Cert.ChunkKIdeal.τ).loc Cert.ChunkKIdeal.main_arg3) = m ((c.tc : Thread Cert.ChunkKIdeal.nD Cert.ChunkKIdeal.τ).loc Cert.ChunkKIdeal.main_arg3)
      ∧ r.2.mem ((c.tc : Thread Cert.ChunkKIdeal.nD Cert.ChunkKIdeal.τ).loc Cert.ChunkKIdeal.main_arg4) = m ((c.tc : Thread Cert.ChunkKIdeal.nD Cert.ChunkKIdeal.τ).loc Cert.ChunkKIdeal.main_arg4)
      ∧ r.2.mem ((c.tc : Thread Cert.ChunkKIdeal.nD Cert.ChunkKIdeal.τ).loc Cert.ChunkKIdeal.main_arg5) = m ((c.tc : Thread Cert.ChunkKIdeal.nD Cert.ChunkKIdeal.τ).loc Cert.ChunkKIdeal.main_arg5)
      ∧ r.2.mem ((c.tc : Thread Cert.ChunkKIdeal.nD Cert.ChunkKIdeal.τ).loc Cert.ChunkKIdeal.main_arg6) = m ((c.tc : Thread Cert.ChunkKIdeal.nD Cert.ChunkKIdeal.τ).loc Cert.ChunkKIdeal.main_arg6)
      ∧ r.2.mem ((c.tc : Thread Cert.ChunkKIdeal.nD Cert.ChunkKIdeal.τ).loc Cert.ChunkKIdeal.main_arg7) = m ((c.tc : Thread Cert.ChunkKIdeal.nD Cert.ChunkKIdeal.τ).loc Cert.ChunkKIdeal.main_arg7)
      ∧ r.2.mem ((c.tc : Thread Cert.ChunkKIdeal.nD Cert.ChunkKIdeal.τ).loc Cert.ChunkKIdeal.main_arg8) = m ((c.tc : Thread Cert.ChunkKIdeal.nD Cert.ChunkKIdeal.τ).loc Cert.ChunkKIdeal.main_arg8)
      ∧ r.2.mem ((c.tc : Thread Cert.ChunkKIdeal.nD Cert.ChunkKIdeal.τ).loc Cert.ChunkKIdeal.main_arg9) = m ((c.tc : Thread Cert.ChunkKIdeal.nD Cert.ChunkKIdeal.τ).loc Cert.ChunkKIdeal.main_arg9)
      ∧ r.2.mem ((c.tc : Thread Cert.ChunkKIdeal.nD Cert.ChunkKIdeal.τ).loc Cert.ChunkKIdeal.main_arg10) = m ((c.tc : Thread Cert.ChunkKIdeal.nD Cert.ChunkKIdeal.τ).loc Cert.ChunkKIdeal.main_arg10))
      ∧ r.2.sem = fun _ => 0)

def quiescent_ChunkKIdeal_pre_chunk_finite [hChunkKIdeal : Cert.ChunkKIdeal.Facts] [hPre_chunk_finite : Cert.Pre_chunk_finite.Facts] : Prop :=
  ∀ (m : (ℓ : Loc Cert.ChunkKIdeal.nD Cert.ChunkKIdeal.τ Cert.ChunkKIdeal.sig) → Buf (Elt Ideal) ℓ) (g : Dev Cert.ChunkKIdeal.nD → PrngReg), Pre_ChunkKIdeal_chunk_finite m →
    θ_run (Cert.ChunkKIdeal.defs (F := Ideal)) (onTc (τ := Cert.ChunkKIdeal.τ) (Cert.ChunkKIdeal.main (F := Ideal))) ⟨m, fun _ => 0, g⟩ (fun r => (∀ c : Dev Cert.ChunkKIdeal.nD,
      r.2.mem ((c.tc : Thread Cert.ChunkKIdeal.nD Cert.ChunkKIdeal.τ).loc Cert.ChunkKIdeal.main_arg0) = m ((c.tc : Thread Cert.ChunkKIdeal.nD Cert.ChunkKIdeal.τ).loc Cert.ChunkKIdeal.main_arg0)
      ∧ r.2.mem ((c.tc : Thread Cert.ChunkKIdeal.nD Cert.ChunkKIdeal.τ).loc Cert.ChunkKIdeal.main_arg1) = m ((c.tc : Thread Cert.ChunkKIdeal.nD Cert.ChunkKIdeal.τ).loc Cert.ChunkKIdeal.main_arg1)
      ∧ r.2.mem ((c.tc : Thread Cert.ChunkKIdeal.nD Cert.ChunkKIdeal.τ).loc Cert.ChunkKIdeal.main_arg2) = m ((c.tc : Thread Cert.ChunkKIdeal.nD Cert.ChunkKIdeal.τ).loc Cert.ChunkKIdeal.main_arg2)
      ∧ r.2.mem ((c.tc : Thread Cert.ChunkKIdeal.nD Cert.ChunkKIdeal.τ).loc Cert.ChunkKIdeal.main_arg3) = m ((c.tc : Thread Cert.ChunkKIdeal.nD Cert.ChunkKIdeal.τ).loc Cert.ChunkKIdeal.main_arg3)
      ∧ r.2.mem ((c.tc : Thread Cert.ChunkKIdeal.nD Cert.ChunkKIdeal.τ).loc Cert.ChunkKIdeal.main_arg4) = m ((c.tc : Thread Cert.ChunkKIdeal.nD Cert.ChunkKIdeal.τ).loc Cert.ChunkKIdeal.main_arg4)
      ∧ r.2.mem ((c.tc : Thread Cert.ChunkKIdeal.nD Cert.ChunkKIdeal.τ).loc Cert.ChunkKIdeal.main_arg5) = m ((c.tc : Thread Cert.ChunkKIdeal.nD Cert.ChunkKIdeal.τ).loc Cert.ChunkKIdeal.main_arg5)
      ∧ r.2.mem ((c.tc : Thread Cert.ChunkKIdeal.nD Cert.ChunkKIdeal.τ).loc Cert.ChunkKIdeal.main_arg6) = m ((c.tc : Thread Cert.ChunkKIdeal.nD Cert.ChunkKIdeal.τ).loc Cert.ChunkKIdeal.main_arg6)
      ∧ r.2.mem ((c.tc : Thread Cert.ChunkKIdeal.nD Cert.ChunkKIdeal.τ).loc Cert.ChunkKIdeal.main_arg7) = m ((c.tc : Thread Cert.ChunkKIdeal.nD Cert.ChunkKIdeal.τ).loc Cert.ChunkKIdeal.main_arg7)
      ∧ r.2.mem ((c.tc : Thread Cert.ChunkKIdeal.nD Cert.ChunkKIdeal.τ).loc Cert.ChunkKIdeal.main_arg8) = m ((c.tc : Thread Cert.ChunkKIdeal.nD Cert.ChunkKIdeal.τ).loc Cert.ChunkKIdeal.main_arg8)
      ∧ r.2.mem ((c.tc : Thread Cert.ChunkKIdeal.nD Cert.ChunkKIdeal.τ).loc Cert.ChunkKIdeal.main_arg9) = m ((c.tc : Thread Cert.ChunkKIdeal.nD Cert.ChunkKIdeal.τ).loc Cert.ChunkKIdeal.main_arg9)
      ∧ r.2.mem ((c.tc : Thread Cert.ChunkKIdeal.nD Cert.ChunkKIdeal.τ).loc Cert.ChunkKIdeal.main_arg10) = m ((c.tc : Thread Cert.ChunkKIdeal.nD Cert.ChunkKIdeal.τ).loc Cert.ChunkKIdeal.main_arg10))
      ∧ r.2.sem = fun _ => 0)

def quiescent_ChunkRIdeal [hChunkRIdeal : Cert.ChunkRIdeal.Facts] : Prop :=
  ∀ (m : (ℓ : Loc Cert.ChunkRIdeal.nD Cert.ChunkRIdeal.τ Cert.ChunkRIdeal.sig) → Buf (Elt Ideal) ℓ) (g : Dev Cert.ChunkRIdeal.nD → PrngReg), Pre_ChunkRIdeal m →
    θ_run (Cert.ChunkRIdeal.defs (F := Ideal)) (onTc (τ := Cert.ChunkRIdeal.τ) (Cert.ChunkRIdeal.main (F := Ideal))) ⟨m, fun _ => 0, g⟩ (fun r => (∀ c : Dev Cert.ChunkRIdeal.nD,
      r.2.mem ((c.tc : Thread Cert.ChunkRIdeal.nD Cert.ChunkRIdeal.τ).loc Cert.ChunkRIdeal.main_arg0) = m ((c.tc : Thread Cert.ChunkRIdeal.nD Cert.ChunkRIdeal.τ).loc Cert.ChunkRIdeal.main_arg0)
      ∧ r.2.mem ((c.tc : Thread Cert.ChunkRIdeal.nD Cert.ChunkRIdeal.τ).loc Cert.ChunkRIdeal.main_arg1) = m ((c.tc : Thread Cert.ChunkRIdeal.nD Cert.ChunkRIdeal.τ).loc Cert.ChunkRIdeal.main_arg1)
      ∧ r.2.mem ((c.tc : Thread Cert.ChunkRIdeal.nD Cert.ChunkRIdeal.τ).loc Cert.ChunkRIdeal.main_arg2) = m ((c.tc : Thread Cert.ChunkRIdeal.nD Cert.ChunkRIdeal.τ).loc Cert.ChunkRIdeal.main_arg2)
      ∧ r.2.mem ((c.tc : Thread Cert.ChunkRIdeal.nD Cert.ChunkRIdeal.τ).loc Cert.ChunkRIdeal.main_arg3) = m ((c.tc : Thread Cert.ChunkRIdeal.nD Cert.ChunkRIdeal.τ).loc Cert.ChunkRIdeal.main_arg3)
      ∧ r.2.mem ((c.tc : Thread Cert.ChunkRIdeal.nD Cert.ChunkRIdeal.τ).loc Cert.ChunkRIdeal.main_arg4) = m ((c.tc : Thread Cert.ChunkRIdeal.nD Cert.ChunkRIdeal.τ).loc Cert.ChunkRIdeal.main_arg4)
      ∧ r.2.mem ((c.tc : Thread Cert.ChunkRIdeal.nD Cert.ChunkRIdeal.τ).loc Cert.ChunkRIdeal.main_arg5) = m ((c.tc : Thread Cert.ChunkRIdeal.nD Cert.ChunkRIdeal.τ).loc Cert.ChunkRIdeal.main_arg5)
      ∧ r.2.mem ((c.tc : Thread Cert.ChunkRIdeal.nD Cert.ChunkRIdeal.τ).loc Cert.ChunkRIdeal.main_arg6) = m ((c.tc : Thread Cert.ChunkRIdeal.nD Cert.ChunkRIdeal.τ).loc Cert.ChunkRIdeal.main_arg6)
      ∧ r.2.mem ((c.tc : Thread Cert.ChunkRIdeal.nD Cert.ChunkRIdeal.τ).loc Cert.ChunkRIdeal.main_arg7) = m ((c.tc : Thread Cert.ChunkRIdeal.nD Cert.ChunkRIdeal.τ).loc Cert.ChunkRIdeal.main_arg7)
      ∧ r.2.mem ((c.tc : Thread Cert.ChunkRIdeal.nD Cert.ChunkRIdeal.τ).loc Cert.ChunkRIdeal.main_arg8) = m ((c.tc : Thread Cert.ChunkRIdeal.nD Cert.ChunkRIdeal.τ).loc Cert.ChunkRIdeal.main_arg8)
      ∧ r.2.mem ((c.tc : Thread Cert.ChunkRIdeal.nD Cert.ChunkRIdeal.τ).loc Cert.ChunkRIdeal.main_arg9) = m ((c.tc : Thread Cert.ChunkRIdeal.nD Cert.ChunkRIdeal.τ).loc Cert.ChunkRIdeal.main_arg9)
      ∧ r.2.mem ((c.tc : Thread Cert.ChunkRIdeal.nD Cert.ChunkRIdeal.τ).loc Cert.ChunkRIdeal.main_arg10) = m ((c.tc : Thread Cert.ChunkRIdeal.nD Cert.ChunkRIdeal.τ).loc Cert.ChunkRIdeal.main_arg10))
      ∧ r.2.sem = fun _ => 0)

def quiescent_ChunkRIdeal_pre_chunk_finite [hChunkRIdeal : Cert.ChunkRIdeal.Facts] [hPre_chunk_finite : Cert.Pre_chunk_finite.Facts] : Prop :=
  ∀ (m : (ℓ : Loc Cert.ChunkRIdeal.nD Cert.ChunkRIdeal.τ Cert.ChunkRIdeal.sig) → Buf (Elt Ideal) ℓ) (g : Dev Cert.ChunkRIdeal.nD → PrngReg), Pre_ChunkRIdeal_chunk_finite m →
    θ_run (Cert.ChunkRIdeal.defs (F := Ideal)) (onTc (τ := Cert.ChunkRIdeal.τ) (Cert.ChunkRIdeal.main (F := Ideal))) ⟨m, fun _ => 0, g⟩ (fun r => (∀ c : Dev Cert.ChunkRIdeal.nD,
      r.2.mem ((c.tc : Thread Cert.ChunkRIdeal.nD Cert.ChunkRIdeal.τ).loc Cert.ChunkRIdeal.main_arg0) = m ((c.tc : Thread Cert.ChunkRIdeal.nD Cert.ChunkRIdeal.τ).loc Cert.ChunkRIdeal.main_arg0)
      ∧ r.2.mem ((c.tc : Thread Cert.ChunkRIdeal.nD Cert.ChunkRIdeal.τ).loc Cert.ChunkRIdeal.main_arg1) = m ((c.tc : Thread Cert.ChunkRIdeal.nD Cert.ChunkRIdeal.τ).loc Cert.ChunkRIdeal.main_arg1)
      ∧ r.2.mem ((c.tc : Thread Cert.ChunkRIdeal.nD Cert.ChunkRIdeal.τ).loc Cert.ChunkRIdeal.main_arg2) = m ((c.tc : Thread Cert.ChunkRIdeal.nD Cert.ChunkRIdeal.τ).loc Cert.ChunkRIdeal.main_arg2)
      ∧ r.2.mem ((c.tc : Thread Cert.ChunkRIdeal.nD Cert.ChunkRIdeal.τ).loc Cert.ChunkRIdeal.main_arg3) = m ((c.tc : Thread Cert.ChunkRIdeal.nD Cert.ChunkRIdeal.τ).loc Cert.ChunkRIdeal.main_arg3)
      ∧ r.2.mem ((c.tc : Thread Cert.ChunkRIdeal.nD Cert.ChunkRIdeal.τ).loc Cert.ChunkRIdeal.main_arg4) = m ((c.tc : Thread Cert.ChunkRIdeal.nD Cert.ChunkRIdeal.τ).loc Cert.ChunkRIdeal.main_arg4)
      ∧ r.2.mem ((c.tc : Thread Cert.ChunkRIdeal.nD Cert.ChunkRIdeal.τ).loc Cert.ChunkRIdeal.main_arg5) = m ((c.tc : Thread Cert.ChunkRIdeal.nD Cert.ChunkRIdeal.τ).loc Cert.ChunkRIdeal.main_arg5)
      ∧ r.2.mem ((c.tc : Thread Cert.ChunkRIdeal.nD Cert.ChunkRIdeal.τ).loc Cert.ChunkRIdeal.main_arg6) = m ((c.tc : Thread Cert.ChunkRIdeal.nD Cert.ChunkRIdeal.τ).loc Cert.ChunkRIdeal.main_arg6)
      ∧ r.2.mem ((c.tc : Thread Cert.ChunkRIdeal.nD Cert.ChunkRIdeal.τ).loc Cert.ChunkRIdeal.main_arg7) = m ((c.tc : Thread Cert.ChunkRIdeal.nD Cert.ChunkRIdeal.τ).loc Cert.ChunkRIdeal.main_arg7)
      ∧ r.2.mem ((c.tc : Thread Cert.ChunkRIdeal.nD Cert.ChunkRIdeal.τ).loc Cert.ChunkRIdeal.main_arg8) = m ((c.tc : Thread Cert.ChunkRIdeal.nD Cert.ChunkRIdeal.τ).loc Cert.ChunkRIdeal.main_arg8)
      ∧ r.2.mem ((c.tc : Thread Cert.ChunkRIdeal.nD Cert.ChunkRIdeal.τ).loc Cert.ChunkRIdeal.main_arg9) = m ((c.tc : Thread Cert.ChunkRIdeal.nD Cert.ChunkRIdeal.τ).loc Cert.ChunkRIdeal.main_arg9)
      ∧ r.2.mem ((c.tc : Thread Cert.ChunkRIdeal.nD Cert.ChunkRIdeal.τ).loc Cert.ChunkRIdeal.main_arg10) = m ((c.tc : Thread Cert.ChunkRIdeal.nD Cert.ChunkRIdeal.τ).loc Cert.ChunkRIdeal.main_arg10))
      ∧ r.2.sem = fun _ => 0)

def quiescent_DeltaK [hDeltaK : Cert.DeltaK.Facts] : Prop :=
  ∀ (m : (ℓ : Loc Cert.DeltaK.nD Cert.DeltaK.τ Cert.DeltaK.sig) → Buf (Elt Bits) ℓ) (g : Dev Cert.DeltaK.nD → PrngReg), Pre_DeltaK m →
    θ_run (Cert.DeltaK.defs (F := Bits)) (onTc (τ := Cert.DeltaK.τ) (Cert.DeltaK.main (F := Bits))) ⟨m, fun _ => 0, g⟩ (fun r => (∀ c : Dev Cert.DeltaK.nD,
      r.2.mem ((c.tc : Thread Cert.DeltaK.nD Cert.DeltaK.τ).loc Cert.DeltaK.main_arg0) = m ((c.tc : Thread Cert.DeltaK.nD Cert.DeltaK.τ).loc Cert.DeltaK.main_arg0)
      ∧ r.2.mem ((c.tc : Thread Cert.DeltaK.nD Cert.DeltaK.τ).loc Cert.DeltaK.main_arg1) = m ((c.tc : Thread Cert.DeltaK.nD Cert.DeltaK.τ).loc Cert.DeltaK.main_arg1)
      ∧ r.2.mem ((c.tc : Thread Cert.DeltaK.nD Cert.DeltaK.τ).loc Cert.DeltaK.main_arg2) = m ((c.tc : Thread Cert.DeltaK.nD Cert.DeltaK.τ).loc Cert.DeltaK.main_arg2)
      ∧ r.2.mem ((c.tc : Thread Cert.DeltaK.nD Cert.DeltaK.τ).loc Cert.DeltaK.main_arg3) = m ((c.tc : Thread Cert.DeltaK.nD Cert.DeltaK.τ).loc Cert.DeltaK.main_arg3)
      ∧ r.2.mem ((c.tc : Thread Cert.DeltaK.nD Cert.DeltaK.τ).loc Cert.DeltaK.main_arg4) = m ((c.tc : Thread Cert.DeltaK.nD Cert.DeltaK.τ).loc Cert.DeltaK.main_arg4))
      ∧ r.2.sem = fun _ => 0)

def quiescent_DeltaKIdeal [hDeltaKIdeal : Cert.DeltaKIdeal.Facts] : Prop :=
  ∀ (m : (ℓ : Loc Cert.DeltaKIdeal.nD Cert.DeltaKIdeal.τ Cert.DeltaKIdeal.sig) → Buf (Elt Ideal) ℓ) (g : Dev Cert.DeltaKIdeal.nD → PrngReg), Pre_DeltaKIdeal m →
    θ_run (Cert.DeltaKIdeal.defs (F := Ideal)) (onTc (τ := Cert.DeltaKIdeal.τ) (Cert.DeltaKIdeal.main (F := Ideal))) ⟨m, fun _ => 0, g⟩ (fun r => (∀ c : Dev Cert.DeltaKIdeal.nD,
      r.2.mem ((c.tc : Thread Cert.DeltaKIdeal.nD Cert.DeltaKIdeal.τ).loc Cert.DeltaKIdeal.main_arg0) = m ((c.tc : Thread Cert.DeltaKIdeal.nD Cert.DeltaKIdeal.τ).loc Cert.DeltaKIdeal.main_arg0)
      ∧ r.2.mem ((c.tc : Thread Cert.DeltaKIdeal.nD Cert.DeltaKIdeal.τ).loc Cert.DeltaKIdeal.main_arg1) = m ((c.tc : Thread Cert.DeltaKIdeal.nD Cert.DeltaKIdeal.τ).loc Cert.DeltaKIdeal.main_arg1)
      ∧ r.2.mem ((c.tc : Thread Cert.DeltaKIdeal.nD Cert.DeltaKIdeal.τ).loc Cert.DeltaKIdeal.main_arg2) = m ((c.tc : Thread Cert.DeltaKIdeal.nD Cert.DeltaKIdeal.τ).loc Cert.DeltaKIdeal.main_arg2)
      ∧ r.2.mem ((c.tc : Thread Cert.DeltaKIdeal.nD Cert.DeltaKIdeal.τ).loc Cert.DeltaKIdeal.main_arg3) = m ((c.tc : Thread Cert.DeltaKIdeal.nD Cert.DeltaKIdeal.τ).loc Cert.DeltaKIdeal.main_arg3)
      ∧ r.2.mem ((c.tc : Thread Cert.DeltaKIdeal.nD Cert.DeltaKIdeal.τ).loc Cert.DeltaKIdeal.main_arg4) = m ((c.tc : Thread Cert.DeltaKIdeal.nD Cert.DeltaKIdeal.τ).loc Cert.DeltaKIdeal.main_arg4))
      ∧ r.2.sem = fun _ => 0)

def quiescent_DeltaKIdeal_pre_delta_finite [hDeltaKIdeal : Cert.DeltaKIdeal.Facts] [hPre_delta_finite : Cert.Pre_delta_finite.Facts] : Prop :=
  ∀ (m : (ℓ : Loc Cert.DeltaKIdeal.nD Cert.DeltaKIdeal.τ Cert.DeltaKIdeal.sig) → Buf (Elt Ideal) ℓ) (g : Dev Cert.DeltaKIdeal.nD → PrngReg), Pre_DeltaKIdeal_delta_finite m →
    θ_run (Cert.DeltaKIdeal.defs (F := Ideal)) (onTc (τ := Cert.DeltaKIdeal.τ) (Cert.DeltaKIdeal.main (F := Ideal))) ⟨m, fun _ => 0, g⟩ (fun r => (∀ c : Dev Cert.DeltaKIdeal.nD,
      r.2.mem ((c.tc : Thread Cert.DeltaKIdeal.nD Cert.DeltaKIdeal.τ).loc Cert.DeltaKIdeal.main_arg0) = m ((c.tc : Thread Cert.DeltaKIdeal.nD Cert.DeltaKIdeal.τ).loc Cert.DeltaKIdeal.main_arg0)
      ∧ r.2.mem ((c.tc : Thread Cert.DeltaKIdeal.nD Cert.DeltaKIdeal.τ).loc Cert.DeltaKIdeal.main_arg1) = m ((c.tc : Thread Cert.DeltaKIdeal.nD Cert.DeltaKIdeal.τ).loc Cert.DeltaKIdeal.main_arg1)
      ∧ r.2.mem ((c.tc : Thread Cert.DeltaKIdeal.nD Cert.DeltaKIdeal.τ).loc Cert.DeltaKIdeal.main_arg2) = m ((c.tc : Thread Cert.DeltaKIdeal.nD Cert.DeltaKIdeal.τ).loc Cert.DeltaKIdeal.main_arg2)
      ∧ r.2.mem ((c.tc : Thread Cert.DeltaKIdeal.nD Cert.DeltaKIdeal.τ).loc Cert.DeltaKIdeal.main_arg3) = m ((c.tc : Thread Cert.DeltaKIdeal.nD Cert.DeltaKIdeal.τ).loc Cert.DeltaKIdeal.main_arg3)
      ∧ r.2.mem ((c.tc : Thread Cert.DeltaKIdeal.nD Cert.DeltaKIdeal.τ).loc Cert.DeltaKIdeal.main_arg4) = m ((c.tc : Thread Cert.DeltaKIdeal.nD Cert.DeltaKIdeal.τ).loc Cert.DeltaKIdeal.main_arg4))
      ∧ r.2.sem = fun _ => 0)

def quiescent_DeltaRIdeal [hDeltaRIdeal : Cert.DeltaRIdeal.Facts] : Prop :=
  ∀ (m : (ℓ : Loc Cert.DeltaRIdeal.nD Cert.DeltaRIdeal.τ Cert.DeltaRIdeal.sig) → Buf (Elt Ideal) ℓ) (g : Dev Cert.DeltaRIdeal.nD → PrngReg), Pre_DeltaRIdeal m →
    θ_run (Cert.DeltaRIdeal.defs (F := Ideal)) (onTc (τ := Cert.DeltaRIdeal.τ) (Cert.DeltaRIdeal.main (F := Ideal))) ⟨m, fun _ => 0, g⟩ (fun r => (∀ c : Dev Cert.DeltaRIdeal.nD,
      r.2.mem ((c.tc : Thread Cert.DeltaRIdeal.nD Cert.DeltaRIdeal.τ).loc Cert.DeltaRIdeal.main_arg0) = m ((c.tc : Thread Cert.DeltaRIdeal.nD Cert.DeltaRIdeal.τ).loc Cert.DeltaRIdeal.main_arg0)
      ∧ r.2.mem ((c.tc : Thread Cert.DeltaRIdeal.nD Cert.DeltaRIdeal.τ).loc Cert.DeltaRIdeal.main_arg1) = m ((c.tc : Thread Cert.DeltaRIdeal.nD Cert.DeltaRIdeal.τ).loc Cert.DeltaRIdeal.main_arg1)
      ∧ r.2.mem ((c.tc : Thread Cert.DeltaRIdeal.nD Cert.DeltaRIdeal.τ).loc Cert.DeltaRIdeal.main_arg2) = m ((c.tc : Thread Cert.DeltaRIdeal.nD Cert.DeltaRIdeal.τ).loc Cert.DeltaRIdeal.main_arg2)
      ∧ r.2.mem ((c.tc : Thread Cert.DeltaRIdeal.nD Cert.DeltaRIdeal.τ).loc Cert.DeltaRIdeal.main_arg3) = m ((c.tc : Thread Cert.DeltaRIdeal.nD Cert.DeltaRIdeal.τ).loc Cert.DeltaRIdeal.main_arg3)
      ∧ r.2.mem ((c.tc : Thread Cert.DeltaRIdeal.nD Cert.DeltaRIdeal.τ).loc Cert.DeltaRIdeal.main_arg4) = m ((c.tc : Thread Cert.DeltaRIdeal.nD Cert.DeltaRIdeal.τ).loc Cert.DeltaRIdeal.main_arg4))
      ∧ r.2.sem = fun _ => 0)

def quiescent_DeltaRIdeal_pre_delta_finite [hDeltaRIdeal : Cert.DeltaRIdeal.Facts] [hPre_delta_finite : Cert.Pre_delta_finite.Facts] : Prop :=
  ∀ (m : (ℓ : Loc Cert.DeltaRIdeal.nD Cert.DeltaRIdeal.τ Cert.DeltaRIdeal.sig) → Buf (Elt Ideal) ℓ) (g : Dev Cert.DeltaRIdeal.nD → PrngReg), Pre_DeltaRIdeal_delta_finite m →
    θ_run (Cert.DeltaRIdeal.defs (F := Ideal)) (onTc (τ := Cert.DeltaRIdeal.τ) (Cert.DeltaRIdeal.main (F := Ideal))) ⟨m, fun _ => 0, g⟩ (fun r => (∀ c : Dev Cert.DeltaRIdeal.nD,
      r.2.mem ((c.tc : Thread Cert.DeltaRIdeal.nD Cert.DeltaRIdeal.τ).loc Cert.DeltaRIdeal.main_arg0) = m ((c.tc : Thread Cert.DeltaRIdeal.nD Cert.DeltaRIdeal.τ).loc Cert.DeltaRIdeal.main_arg0)
      ∧ r.2.mem ((c.tc : Thread Cert.DeltaRIdeal.nD Cert.DeltaRIdeal.τ).loc Cert.DeltaRIdeal.main_arg1) = m ((c.tc : Thread Cert.DeltaRIdeal.nD Cert.DeltaRIdeal.τ).loc Cert.DeltaRIdeal.main_arg1)
      ∧ r.2.mem ((c.tc : Thread Cert.DeltaRIdeal.nD Cert.DeltaRIdeal.τ).loc Cert.DeltaRIdeal.main_arg2) = m ((c.tc : Thread Cert.DeltaRIdeal.nD Cert.DeltaRIdeal.τ).loc Cert.DeltaRIdeal.main_arg2)
      ∧ r.2.mem ((c.tc : Thread Cert.DeltaRIdeal.nD Cert.DeltaRIdeal.τ).loc Cert.DeltaRIdeal.main_arg3) = m ((c.tc : Thread Cert.DeltaRIdeal.nD Cert.DeltaRIdeal.τ).loc Cert.DeltaRIdeal.main_arg3)
      ∧ r.2.mem ((c.tc : Thread Cert.DeltaRIdeal.nD Cert.DeltaRIdeal.τ).loc Cert.DeltaRIdeal.main_arg4) = m ((c.tc : Thread Cert.DeltaRIdeal.nD Cert.DeltaRIdeal.τ).loc Cert.DeltaRIdeal.main_arg4))
      ∧ r.2.sem = fun _ => 0)

def preserves_ConvK_ConvKIdeal : Prop :=
  True

def algebraic_ConvKIdeal_ConvRIdeal [hConvKIdeal : Cert.ConvKIdeal.Facts] [hConvRIdeal : Cert.ConvRIdeal.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvRIdeal.nD Cert.ConvRIdeal.τ Cert.ConvRIdeal.sig) → Buf (Elt Ideal) ℓ) (g' : Dev Cert.ConvRIdeal.nD → PrngReg), Pre_ConvKIdeal m →
    (∀ c : Dev Cert.ConvKIdeal.nD,
      m' ((c.tc : Thread Cert.ConvRIdeal.nD Cert.ConvRIdeal.τ).loc Cert.ConvRIdeal.main_arg0) = m ((c.tc : Thread Cert.ConvKIdeal.nD Cert.ConvKIdeal.τ).loc Cert.ConvKIdeal.main_arg0)
      ∧ m' ((c.tc : Thread Cert.ConvRIdeal.nD Cert.ConvRIdeal.τ).loc Cert.ConvRIdeal.main_arg1) = m ((c.tc : Thread Cert.ConvKIdeal.nD Cert.ConvKIdeal.τ).loc Cert.ConvKIdeal.main_arg1)
      ∧ m' ((c.tc : Thread Cert.ConvRIdeal.nD Cert.ConvRIdeal.τ).loc Cert.ConvRIdeal.main_arg2) = m ((c.tc : Thread Cert.ConvKIdeal.nD Cert.ConvKIdeal.τ).loc Cert.ConvKIdeal.main_arg2)
      ∧ m' ((c.tc : Thread Cert.ConvRIdeal.nD Cert.ConvRIdeal.τ).loc Cert.ConvRIdeal.main_arg3) = m ((c.tc : Thread Cert.ConvKIdeal.nD Cert.ConvKIdeal.τ).loc Cert.ConvKIdeal.main_arg3)
      ∧ m' ((c.tc : Thread Cert.ConvRIdeal.nD Cert.ConvRIdeal.τ).loc Cert.ConvRIdeal.main_arg4) = m ((c.tc : Thread Cert.ConvKIdeal.nD Cert.ConvKIdeal.τ).loc Cert.ConvKIdeal.main_arg4)) →
    ∃ (v0 : (c : Dev Cert.ConvKIdeal.nD) → Buf (Elt Ideal) ((c.tc : Thread Cert.ConvKIdeal.nD Cert.ConvKIdeal.τ).loc Cert.ConvKIdeal.main_v3_0)) (v1 : (c : Dev Cert.ConvKIdeal.nD) → Buf (Elt Ideal) ((c.tc : Thread Cert.ConvKIdeal.nD Cert.ConvKIdeal.τ).loc Cert.ConvKIdeal.main_v3_1)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v3_0) = v0 c
          ∧ r.2.mem ((c.tc : Thread Cert.ConvKIdeal.nD Cert.ConvKIdeal.τ).loc Cert.ConvKIdeal.main_v3_1) = v1 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
          ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2)
          ∧ r.2.mem ((c.tc : Thread Cert.ConvKIdeal.nD Cert.ConvKIdeal.τ).loc Cert.ConvKIdeal.main_arg3) = m ((c.tc : Thread Cert.ConvKIdeal.nD Cert.ConvKIdeal.τ).loc Cert.ConvKIdeal.main_arg3)
          ∧ r.2.mem ((c.tc : Thread Cert.ConvKIdeal.nD Cert.ConvKIdeal.τ).loc Cert.ConvKIdeal.main_arg4) = m ((c.tc : Thread Cert.ConvKIdeal.nD Cert.ConvKIdeal.τ).loc Cert.ConvKIdeal.main_arg4))
      ∧ θ_run (Cert.ConvRIdeal.defs (F := Ideal)) (onTc (τ := Cert.ConvRIdeal.τ) (Cert.ConvRIdeal.main (F := Ideal))) ⟨m', fun _ => 0, g'⟩ (fun r => ∀ c : Dev Cert.ConvRIdeal.nD,
          r.2.mem ((c.tc : Thread Cert.ConvRIdeal.nD Cert.ConvRIdeal.τ).loc Cert.ConvRIdeal.main_v78) = v0 c
          ∧ r.2.mem ((c.tc : Thread Cert.ConvRIdeal.nD Cert.ConvRIdeal.τ).loc Cert.ConvRIdeal.main_v71) = v1 c
          ∧ r.2.mem ((c.tc : Thread Cert.ConvRIdeal.nD Cert.ConvRIdeal.τ).loc Cert.ConvRIdeal.main_arg0) = m' ((c.tc : Thread Cert.ConvRIdeal.nD Cert.ConvRIdeal.τ).loc Cert.ConvRIdeal.main_arg0)
          ∧ r.2.mem ((c.tc : Thread Cert.ConvRIdeal.nD Cert.ConvRIdeal.τ).loc Cert.ConvRIdeal.main_arg1) = m' ((c.tc : Thread Cert.ConvRIdeal.nD Cert.ConvRIdeal.τ).loc Cert.ConvRIdeal.main_arg1)
          ∧ r.2.mem ((c.tc : Thread Cert.ConvRIdeal.nD Cert.ConvRIdeal.τ).loc Cert.ConvRIdeal.main_arg2) = m' ((c.tc : Thread Cert.ConvRIdeal.nD Cert.ConvRIdeal.τ).loc Cert.ConvRIdeal.main_arg2)
          ∧ r.2.mem ((c.tc : Thread Cert.ConvRIdeal.nD Cert.ConvRIdeal.τ).loc Cert.ConvRIdeal.main_arg3) = m' ((c.tc : Thread Cert.ConvRIdeal.nD Cert.ConvRIdeal.τ).loc Cert.ConvRIdeal.main_arg3)
          ∧ r.2.mem ((c.tc : Thread Cert.ConvRIdeal.nD Cert.ConvRIdeal.τ).loc Cert.ConvRIdeal.main_arg4) = m' ((c.tc : Thread Cert.ConvRIdeal.nD Cert.ConvRIdeal.τ).loc Cert.ConvRIdeal.main_arg4))

def preserves_PrepK_PrepKIdeal : Prop :=
  True

def algebraic_PrepKIdeal_PrepRIdeal_pre_prep_finite [hPrepKIdeal : Cert.PrepKIdeal.Facts] [hPrepRIdeal : Cert.PrepRIdeal.Facts] [hPre_prep_finite : Cert.Pre_prep_finite.Facts] : Prop :=
  ∀ (m : (ℓ : Loc Cert.PrepKIdeal.nD Cert.PrepKIdeal.τ Cert.PrepKIdeal.sig) → Buf (Elt Ideal) ℓ) (g : Dev Cert.PrepKIdeal.nD → PrngReg)
    (m' : (ℓ : Loc Cert.PrepRIdeal.nD Cert.PrepRIdeal.τ Cert.PrepRIdeal.sig) → Buf (Elt Ideal) ℓ) (g' : Dev Cert.PrepRIdeal.nD → PrngReg), Pre_PrepKIdeal_prep_finite m →
    (∀ c : Dev Cert.PrepKIdeal.nD,
      m' ((c.tc : Thread Cert.PrepRIdeal.nD Cert.PrepRIdeal.τ).loc Cert.PrepRIdeal.main_arg0) = m ((c.tc : Thread Cert.PrepKIdeal.nD Cert.PrepKIdeal.τ).loc Cert.PrepKIdeal.main_arg0)
      ∧ m' ((c.tc : Thread Cert.PrepRIdeal.nD Cert.PrepRIdeal.τ).loc Cert.PrepRIdeal.main_arg1) = m ((c.tc : Thread Cert.PrepKIdeal.nD Cert.PrepKIdeal.τ).loc Cert.PrepKIdeal.main_arg1)
      ∧ m' ((c.tc : Thread Cert.PrepRIdeal.nD Cert.PrepRIdeal.τ).loc Cert.PrepRIdeal.main_arg2) = m ((c.tc : Thread Cert.PrepKIdeal.nD Cert.PrepKIdeal.τ).loc Cert.PrepKIdeal.main_arg2)
      ∧ m' ((c.tc : Thread Cert.PrepRIdeal.nD Cert.PrepRIdeal.τ).loc Cert.PrepRIdeal.main_arg3) = m ((c.tc : Thread Cert.PrepKIdeal.nD Cert.PrepKIdeal.τ).loc Cert.PrepKIdeal.main_arg3)
      ∧ m' ((c.tc : Thread Cert.PrepRIdeal.nD Cert.PrepRIdeal.τ).loc Cert.PrepRIdeal.main_arg4) = m ((c.tc : Thread Cert.PrepKIdeal.nD Cert.PrepKIdeal.τ).loc Cert.PrepKIdeal.main_arg4)
      ∧ m' ((c.tc : Thread Cert.PrepRIdeal.nD Cert.PrepRIdeal.τ).loc Cert.PrepRIdeal.main_arg5) = m ((c.tc : Thread Cert.PrepKIdeal.nD Cert.PrepKIdeal.τ).loc Cert.PrepKIdeal.main_arg5)
      ∧ m' ((c.tc : Thread Cert.PrepRIdeal.nD Cert.PrepRIdeal.τ).loc Cert.PrepRIdeal.main_arg6) = m ((c.tc : Thread Cert.PrepKIdeal.nD Cert.PrepKIdeal.τ).loc Cert.PrepKIdeal.main_arg6)
      ∧ m' ((c.tc : Thread Cert.PrepRIdeal.nD Cert.PrepRIdeal.τ).loc Cert.PrepRIdeal.main_arg7) = m ((c.tc : Thread Cert.PrepKIdeal.nD Cert.PrepKIdeal.τ).loc Cert.PrepKIdeal.main_arg7)
      ∧ m' ((c.tc : Thread Cert.PrepRIdeal.nD Cert.PrepRIdeal.τ).loc Cert.PrepRIdeal.main_arg8) = m ((c.tc : Thread Cert.PrepKIdeal.nD Cert.PrepKIdeal.τ).loc Cert.PrepKIdeal.main_arg8)
      ∧ m' ((c.tc : Thread Cert.PrepRIdeal.nD Cert.PrepRIdeal.τ).loc Cert.PrepRIdeal.main_arg9) = m ((c.tc : Thread Cert.PrepKIdeal.nD Cert.PrepKIdeal.τ).loc Cert.PrepKIdeal.main_arg9)) →
    ∃ (v0 : (c : Dev Cert.PrepKIdeal.nD) → Buf (Elt Ideal) ((c.tc : Thread Cert.PrepKIdeal.nD Cert.PrepKIdeal.τ).loc Cert.PrepKIdeal.main_v6_0)) (v1 : (c : Dev Cert.PrepKIdeal.nD) → Buf (Elt Ideal) ((c.tc : Thread Cert.PrepKIdeal.nD Cert.PrepKIdeal.τ).loc Cert.PrepKIdeal.main_v6_1)) (v2 : (c : Dev Cert.PrepKIdeal.nD) → Buf (Elt Ideal) ((c.tc : Thread Cert.PrepKIdeal.nD Cert.PrepKIdeal.τ).loc Cert.PrepKIdeal.main_v6_2)),
      θ_run (Cert.PrepKIdeal.defs (F := Ideal)) (onTc (τ := Cert.PrepKIdeal.τ) (Cert.PrepKIdeal.main (F := Ideal))) ⟨m, fun _ => 0, g⟩ (fun r => ∀ c : Dev Cert.PrepKIdeal.nD,
          r.2.mem ((c.tc : Thread Cert.PrepKIdeal.nD Cert.PrepKIdeal.τ).loc Cert.PrepKIdeal.main_v6_0) = v0 c
          ∧ r.2.mem ((c.tc : Thread Cert.PrepKIdeal.nD Cert.PrepKIdeal.τ).loc Cert.PrepKIdeal.main_v6_1) = v1 c
          ∧ r.2.mem ((c.tc : Thread Cert.PrepKIdeal.nD Cert.PrepKIdeal.τ).loc Cert.PrepKIdeal.main_v6_2) = v2 c
          ∧ r.2.mem ((c.tc : Thread Cert.PrepKIdeal.nD Cert.PrepKIdeal.τ).loc Cert.PrepKIdeal.main_arg0) = m ((c.tc : Thread Cert.PrepKIdeal.nD Cert.PrepKIdeal.τ).loc Cert.PrepKIdeal.main_arg0)
          ∧ r.2.mem ((c.tc : Thread Cert.PrepKIdeal.nD Cert.PrepKIdeal.τ).loc Cert.PrepKIdeal.main_arg1) = m ((c.tc : Thread Cert.PrepKIdeal.nD Cert.PrepKIdeal.τ).loc Cert.PrepKIdeal.main_arg1)
          ∧ r.2.mem ((c.tc : Thread Cert.PrepKIdeal.nD Cert.PrepKIdeal.τ).loc Cert.PrepKIdeal.main_arg2) = m ((c.tc : Thread Cert.PrepKIdeal.nD Cert.PrepKIdeal.τ).loc Cert.PrepKIdeal.main_arg2)
          ∧ r.2.mem ((c.tc : Thread Cert.PrepKIdeal.nD Cert.PrepKIdeal.τ).loc Cert.PrepKIdeal.main_arg3) = m ((c.tc : Thread Cert.PrepKIdeal.nD Cert.PrepKIdeal.τ).loc Cert.PrepKIdeal.main_arg3)
          ∧ r.2.mem ((c.tc : Thread Cert.PrepKIdeal.nD Cert.PrepKIdeal.τ).loc Cert.PrepKIdeal.main_arg4) = m ((c.tc : Thread Cert.PrepKIdeal.nD Cert.PrepKIdeal.τ).loc Cert.PrepKIdeal.main_arg4)
          ∧ r.2.mem ((c.tc : Thread Cert.PrepKIdeal.nD Cert.PrepKIdeal.τ).loc Cert.PrepKIdeal.main_arg5) = m ((c.tc : Thread Cert.PrepKIdeal.nD Cert.PrepKIdeal.τ).loc Cert.PrepKIdeal.main_arg5)
          ∧ r.2.mem ((c.tc : Thread Cert.PrepKIdeal.nD Cert.PrepKIdeal.τ).loc Cert.PrepKIdeal.main_arg6) = m ((c.tc : Thread Cert.PrepKIdeal.nD Cert.PrepKIdeal.τ).loc Cert.PrepKIdeal.main_arg6)
          ∧ r.2.mem ((c.tc : Thread Cert.PrepKIdeal.nD Cert.PrepKIdeal.τ).loc Cert.PrepKIdeal.main_arg7) = m ((c.tc : Thread Cert.PrepKIdeal.nD Cert.PrepKIdeal.τ).loc Cert.PrepKIdeal.main_arg7)
          ∧ r.2.mem ((c.tc : Thread Cert.PrepKIdeal.nD Cert.PrepKIdeal.τ).loc Cert.PrepKIdeal.main_arg8) = m ((c.tc : Thread Cert.PrepKIdeal.nD Cert.PrepKIdeal.τ).loc Cert.PrepKIdeal.main_arg8)
          ∧ r.2.mem ((c.tc : Thread Cert.PrepKIdeal.nD Cert.PrepKIdeal.τ).loc Cert.PrepKIdeal.main_arg9) = m ((c.tc : Thread Cert.PrepKIdeal.nD Cert.PrepKIdeal.τ).loc Cert.PrepKIdeal.main_arg9))
      ∧ θ_run (Cert.PrepRIdeal.defs (F := Ideal)) (onTc (τ := Cert.PrepRIdeal.τ) (Cert.PrepRIdeal.main (F := Ideal))) ⟨m', fun _ => 0, g'⟩ (fun r => ∀ c : Dev Cert.PrepRIdeal.nD,
          r.2.mem ((c.tc : Thread Cert.PrepRIdeal.nD Cert.PrepRIdeal.τ).loc Cert.PrepRIdeal.main_v129) = v0 c
          ∧ r.2.mem ((c.tc : Thread Cert.PrepRIdeal.nD Cert.PrepRIdeal.τ).loc Cert.PrepRIdeal.main_v131) = v1 c
          ∧ r.2.mem ((c.tc : Thread Cert.PrepRIdeal.nD Cert.PrepRIdeal.τ).loc Cert.PrepRIdeal.main_v134) = v2 c
          ∧ r.2.mem ((c.tc : Thread Cert.PrepRIdeal.nD Cert.PrepRIdeal.τ).loc Cert.PrepRIdeal.main_arg0) = m' ((c.tc : Thread Cert.PrepRIdeal.nD Cert.PrepRIdeal.τ).loc Cert.PrepRIdeal.main_arg0)
          ∧ r.2.mem ((c.tc : Thread Cert.PrepRIdeal.nD Cert.PrepRIdeal.τ).loc Cert.PrepRIdeal.main_arg1) = m' ((c.tc : Thread Cert.PrepRIdeal.nD Cert.PrepRIdeal.τ).loc Cert.PrepRIdeal.main_arg1)
          ∧ r.2.mem ((c.tc : Thread Cert.PrepRIdeal.nD Cert.PrepRIdeal.τ).loc Cert.PrepRIdeal.main_arg2) = m' ((c.tc : Thread Cert.PrepRIdeal.nD Cert.PrepRIdeal.τ).loc Cert.PrepRIdeal.main_arg2)
          ∧ r.2.mem ((c.tc : Thread Cert.PrepRIdeal.nD Cert.PrepRIdeal.τ).loc Cert.PrepRIdeal.main_arg3) = m' ((c.tc : Thread Cert.PrepRIdeal.nD Cert.PrepRIdeal.τ).loc Cert.PrepRIdeal.main_arg3)
          ∧ r.2.mem ((c.tc : Thread Cert.PrepRIdeal.nD Cert.PrepRIdeal.τ).loc Cert.PrepRIdeal.main_arg4) = m' ((c.tc : Thread Cert.PrepRIdeal.nD Cert.PrepRIdeal.τ).loc Cert.PrepRIdeal.main_arg4)
          ∧ r.2.mem ((c.tc : Thread Cert.PrepRIdeal.nD Cert.PrepRIdeal.τ).loc Cert.PrepRIdeal.main_arg5) = m' ((c.tc : Thread Cert.PrepRIdeal.nD Cert.PrepRIdeal.τ).loc Cert.PrepRIdeal.main_arg5)
          ∧ r.2.mem ((c.tc : Thread Cert.PrepRIdeal.nD Cert.PrepRIdeal.τ).loc Cert.PrepRIdeal.main_arg6) = m' ((c.tc : Thread Cert.PrepRIdeal.nD Cert.PrepRIdeal.τ).loc Cert.PrepRIdeal.main_arg6)
          ∧ r.2.mem ((c.tc : Thread Cert.PrepRIdeal.nD Cert.PrepRIdeal.τ).loc Cert.PrepRIdeal.main_arg7) = m' ((c.tc : Thread Cert.PrepRIdeal.nD Cert.PrepRIdeal.τ).loc Cert.PrepRIdeal.main_arg7)
          ∧ r.2.mem ((c.tc : Thread Cert.PrepRIdeal.nD Cert.PrepRIdeal.τ).loc Cert.PrepRIdeal.main_arg8) = m' ((c.tc : Thread Cert.PrepRIdeal.nD Cert.PrepRIdeal.τ).loc Cert.PrepRIdeal.main_arg8)
          ∧ r.2.mem ((c.tc : Thread Cert.PrepRIdeal.nD Cert.PrepRIdeal.τ).loc Cert.PrepRIdeal.main_arg9) = m' ((c.tc : Thread Cert.PrepRIdeal.nD Cert.PrepRIdeal.τ).loc Cert.PrepRIdeal.main_arg9))

def preserves_UpK_UpKIdeal : Prop :=
  True

def algebraic_UpKIdeal_UpRIdeal_pre_up_finite [hUpKIdeal : Cert.UpKIdeal.Facts] [hUpRIdeal : Cert.UpRIdeal.Facts] [hPre_up_finite : Cert.Pre_up_finite.Facts] : Prop :=
  ∀ (m : (ℓ : Loc Cert.UpKIdeal.nD Cert.UpKIdeal.τ Cert.UpKIdeal.sig) → Buf (Elt Ideal) ℓ) (g : Dev Cert.UpKIdeal.nD → PrngReg)
    (m' : (ℓ : Loc Cert.UpRIdeal.nD Cert.UpRIdeal.τ Cert.UpRIdeal.sig) → Buf (Elt Ideal) ℓ) (g' : Dev Cert.UpRIdeal.nD → PrngReg), Pre_UpKIdeal_up_finite m →
    (∀ c : Dev Cert.UpKIdeal.nD,
      m' ((c.tc : Thread Cert.UpRIdeal.nD Cert.UpRIdeal.τ).loc Cert.UpRIdeal.main_arg0) = m ((c.tc : Thread Cert.UpKIdeal.nD Cert.UpKIdeal.τ).loc Cert.UpKIdeal.main_arg0)
      ∧ m' ((c.tc : Thread Cert.UpRIdeal.nD Cert.UpRIdeal.τ).loc Cert.UpRIdeal.main_arg1) = m ((c.tc : Thread Cert.UpKIdeal.nD Cert.UpKIdeal.τ).loc Cert.UpKIdeal.main_arg1)
      ∧ m' ((c.tc : Thread Cert.UpRIdeal.nD Cert.UpRIdeal.τ).loc Cert.UpRIdeal.main_arg2) = m ((c.tc : Thread Cert.UpKIdeal.nD Cert.UpKIdeal.τ).loc Cert.UpKIdeal.main_arg2)
      ∧ m' ((c.tc : Thread Cert.UpRIdeal.nD Cert.UpRIdeal.τ).loc Cert.UpRIdeal.main_arg3) = m ((c.tc : Thread Cert.UpKIdeal.nD Cert.UpKIdeal.τ).loc Cert.UpKIdeal.main_arg3)
      ∧ m' ((c.tc : Thread Cert.UpRIdeal.nD Cert.UpRIdeal.τ).loc Cert.UpRIdeal.main_arg4) = m ((c.tc : Thread Cert.UpKIdeal.nD Cert.UpKIdeal.τ).loc Cert.UpKIdeal.main_arg4)) →
    ∃ (v0 : (c : Dev Cert.UpKIdeal.nD) → Buf (Elt Ideal) ((c.tc : Thread Cert.UpKIdeal.nD Cert.UpKIdeal.τ).loc Cert.UpKIdeal.main_v8_0)) (v1 : (c : Dev Cert.UpKIdeal.nD) → Buf (Elt Ideal) ((c.tc : Thread Cert.UpKIdeal.nD Cert.UpKIdeal.τ).loc Cert.UpKIdeal.main_v8_1)),
      θ_run (Cert.UpKIdeal.defs (F := Ideal)) (onTc (τ := Cert.UpKIdeal.τ) (Cert.UpKIdeal.main (F := Ideal))) ⟨m, fun _ => 0, g⟩ (fun r => ∀ c : Dev Cert.UpKIdeal.nD,
          r.2.mem ((c.tc : Thread Cert.UpKIdeal.nD Cert.UpKIdeal.τ).loc Cert.UpKIdeal.main_v8_0) = v0 c
          ∧ r.2.mem ((c.tc : Thread Cert.UpKIdeal.nD Cert.UpKIdeal.τ).loc Cert.UpKIdeal.main_v8_1) = v1 c
          ∧ r.2.mem ((c.tc : Thread Cert.UpKIdeal.nD Cert.UpKIdeal.τ).loc Cert.UpKIdeal.main_arg0) = m ((c.tc : Thread Cert.UpKIdeal.nD Cert.UpKIdeal.τ).loc Cert.UpKIdeal.main_arg0)
          ∧ r.2.mem ((c.tc : Thread Cert.UpKIdeal.nD Cert.UpKIdeal.τ).loc Cert.UpKIdeal.main_arg1) = m ((c.tc : Thread Cert.UpKIdeal.nD Cert.UpKIdeal.τ).loc Cert.UpKIdeal.main_arg1)
          ∧ r.2.mem ((c.tc : Thread Cert.UpKIdeal.nD Cert.UpKIdeal.τ).loc Cert.UpKIdeal.main_arg2) = m ((c.tc : Thread Cert.UpKIdeal.nD Cert.UpKIdeal.τ).loc Cert.UpKIdeal.main_arg2)
          ∧ r.2.mem ((c.tc : Thread Cert.UpKIdeal.nD Cert.UpKIdeal.τ).loc Cert.UpKIdeal.main_arg3) = m ((c.tc : Thread Cert.UpKIdeal.nD Cert.UpKIdeal.τ).loc Cert.UpKIdeal.main_arg3)
          ∧ r.2.mem ((c.tc : Thread Cert.UpKIdeal.nD Cert.UpKIdeal.τ).loc Cert.UpKIdeal.main_arg4) = m ((c.tc : Thread Cert.UpKIdeal.nD Cert.UpKIdeal.τ).loc Cert.UpKIdeal.main_arg4))
      ∧ θ_run (Cert.UpRIdeal.defs (F := Ideal)) (onTc (τ := Cert.UpRIdeal.τ) (Cert.UpRIdeal.main (F := Ideal))) ⟨m', fun _ => 0, g'⟩ (fun r => ∀ c : Dev Cert.UpRIdeal.nD,
          r.2.mem ((c.tc : Thread Cert.UpRIdeal.nD Cert.UpRIdeal.τ).loc Cert.UpRIdeal.main_v38) = v0 c
          ∧ r.2.mem ((c.tc : Thread Cert.UpRIdeal.nD Cert.UpRIdeal.τ).loc Cert.UpRIdeal.main_v39) = v1 c
          ∧ r.2.mem ((c.tc : Thread Cert.UpRIdeal.nD Cert.UpRIdeal.τ).loc Cert.UpRIdeal.main_arg0) = m' ((c.tc : Thread Cert.UpRIdeal.nD Cert.UpRIdeal.τ).loc Cert.UpRIdeal.main_arg0)
          ∧ r.2.mem ((c.tc : Thread Cert.UpRIdeal.nD Cert.UpRIdeal.τ).loc Cert.UpRIdeal.main_arg1) = m' ((c.tc : Thread Cert.UpRIdeal.nD Cert.UpRIdeal.τ).loc Cert.UpRIdeal.main_arg1)
          ∧ r.2.mem ((c.tc : Thread Cert.UpRIdeal.nD Cert.UpRIdeal.τ).loc Cert.UpRIdeal.main_arg2) = m' ((c.tc : Thread Cert.UpRIdeal.nD Cert.UpRIdeal.τ).loc Cert.UpRIdeal.main_arg2)
          ∧ r.2.mem ((c.tc : Thread Cert.UpRIdeal.nD Cert.UpRIdeal.τ).loc Cert.UpRIdeal.main_arg3) = m' ((c.tc : Thread Cert.UpRIdeal.nD Cert.UpRIdeal.τ).loc Cert.UpRIdeal.main_arg3)
          ∧ r.2.mem ((c.tc : Thread Cert.UpRIdeal.nD Cert.UpRIdeal.τ).loc Cert.UpRIdeal.main_arg4) = m' ((c.tc : Thread Cert.UpRIdeal.nD Cert.UpRIdeal.τ).loc Cert.UpRIdeal.main_arg4))

def preserves_FfnK_FfnKIdeal : Prop :=
  True

def algebraic_FfnKIdeal_FfnRIdeal_pre_ffnb_finite [hFfnKIdeal : Cert.FfnKIdeal.Facts] [hFfnRIdeal : Cert.FfnRIdeal.Facts] [hPre_ffnb_finite : Cert.Pre_ffnb_finite.Facts] : Prop :=
  ∀ (m : (ℓ : Loc Cert.FfnKIdeal.nD Cert.FfnKIdeal.τ Cert.FfnKIdeal.sig) → Buf (Elt Ideal) ℓ) (g : Dev Cert.FfnKIdeal.nD → PrngReg)
    (m' : (ℓ : Loc Cert.FfnRIdeal.nD Cert.FfnRIdeal.τ Cert.FfnRIdeal.sig) → Buf (Elt Ideal) ℓ) (g' : Dev Cert.FfnRIdeal.nD → PrngReg), Pre_FfnKIdeal_ffnb_finite m →
    (∀ c : Dev Cert.FfnKIdeal.nD,
      m' ((c.tc : Thread Cert.FfnRIdeal.nD Cert.FfnRIdeal.τ).loc Cert.FfnRIdeal.main_arg0) = m ((c.tc : Thread Cert.FfnKIdeal.nD Cert.FfnKIdeal.τ).loc Cert.FfnKIdeal.main_arg0)
      ∧ m' ((c.tc : Thread Cert.FfnRIdeal.nD Cert.FfnRIdeal.τ).loc Cert.FfnRIdeal.main_arg1) = m ((c.tc : Thread Cert.FfnKIdeal.nD Cert.FfnKIdeal.τ).loc Cert.FfnKIdeal.main_arg1)
      ∧ m' ((c.tc : Thread Cert.FfnRIdeal.nD Cert.FfnRIdeal.τ).loc Cert.FfnRIdeal.main_arg2) = m ((c.tc : Thread Cert.FfnKIdeal.nD Cert.FfnKIdeal.τ).loc Cert.FfnKIdeal.main_arg2)
      ∧ m' ((c.tc : Thread Cert.FfnRIdeal.nD Cert.FfnRIdeal.τ).loc Cert.FfnRIdeal.main_arg3) = m ((c.tc : Thread Cert.FfnKIdeal.nD Cert.FfnKIdeal.τ).loc Cert.FfnKIdeal.main_arg3)
      ∧ m' ((c.tc : Thread Cert.FfnRIdeal.nD Cert.FfnRIdeal.τ).loc Cert.FfnRIdeal.main_arg4) = m ((c.tc : Thread Cert.FfnKIdeal.nD Cert.FfnKIdeal.τ).loc Cert.FfnKIdeal.main_arg4)) →
    ∃ (v0 : (c : Dev Cert.FfnKIdeal.nD) → Buf (Elt Ideal) ((c.tc : Thread Cert.FfnKIdeal.nD Cert.FfnKIdeal.τ).loc Cert.FfnKIdeal.main_v13_0)) (v1 : (c : Dev Cert.FfnKIdeal.nD) → Buf (Elt Ideal) ((c.tc : Thread Cert.FfnKIdeal.nD Cert.FfnKIdeal.τ).loc Cert.FfnKIdeal.main_v13_1)) (v2 : (c : Dev Cert.FfnKIdeal.nD) → Buf (Elt Ideal) ((c.tc : Thread Cert.FfnKIdeal.nD Cert.FfnKIdeal.τ).loc Cert.FfnKIdeal.main_v13_2)) (v3 : (c : Dev Cert.FfnKIdeal.nD) → Buf (Elt Ideal) ((c.tc : Thread Cert.FfnKIdeal.nD Cert.FfnKIdeal.τ).loc Cert.FfnKIdeal.main_v13_3)),
      θ_run (Cert.FfnKIdeal.defs (F := Ideal)) (onTc (τ := Cert.FfnKIdeal.τ) (Cert.FfnKIdeal.main (F := Ideal))) ⟨m, fun _ => 0, g⟩ (fun r => ∀ c : Dev Cert.FfnKIdeal.nD,
          r.2.mem ((c.tc : Thread Cert.FfnKIdeal.nD Cert.FfnKIdeal.τ).loc Cert.FfnKIdeal.main_v13_0) = v0 c
          ∧ r.2.mem ((c.tc : Thread Cert.FfnKIdeal.nD Cert.FfnKIdeal.τ).loc Cert.FfnKIdeal.main_v13_1) = v1 c
          ∧ r.2.mem ((c.tc : Thread Cert.FfnKIdeal.nD Cert.FfnKIdeal.τ).loc Cert.FfnKIdeal.main_v13_2) = v2 c
          ∧ r.2.mem ((c.tc : Thread Cert.FfnKIdeal.nD Cert.FfnKIdeal.τ).loc Cert.FfnKIdeal.main_v13_3) = v3 c
          ∧ r.2.mem ((c.tc : Thread Cert.FfnKIdeal.nD Cert.FfnKIdeal.τ).loc Cert.FfnKIdeal.main_arg0) = m ((c.tc : Thread Cert.FfnKIdeal.nD Cert.FfnKIdeal.τ).loc Cert.FfnKIdeal.main_arg0)
          ∧ r.2.mem ((c.tc : Thread Cert.FfnKIdeal.nD Cert.FfnKIdeal.τ).loc Cert.FfnKIdeal.main_arg1) = m ((c.tc : Thread Cert.FfnKIdeal.nD Cert.FfnKIdeal.τ).loc Cert.FfnKIdeal.main_arg1)
          ∧ r.2.mem ((c.tc : Thread Cert.FfnKIdeal.nD Cert.FfnKIdeal.τ).loc Cert.FfnKIdeal.main_arg2) = m ((c.tc : Thread Cert.FfnKIdeal.nD Cert.FfnKIdeal.τ).loc Cert.FfnKIdeal.main_arg2)
          ∧ r.2.mem ((c.tc : Thread Cert.FfnKIdeal.nD Cert.FfnKIdeal.τ).loc Cert.FfnKIdeal.main_arg3) = m ((c.tc : Thread Cert.FfnKIdeal.nD Cert.FfnKIdeal.τ).loc Cert.FfnKIdeal.main_arg3)
          ∧ r.2.mem ((c.tc : Thread Cert.FfnKIdeal.nD Cert.FfnKIdeal.τ).loc Cert.FfnKIdeal.main_arg4) = m ((c.tc : Thread Cert.FfnKIdeal.nD Cert.FfnKIdeal.τ).loc Cert.FfnKIdeal.main_arg4))
      ∧ θ_run (Cert.FfnRIdeal.defs (F := Ideal)) (onTc (τ := Cert.FfnRIdeal.τ) (Cert.FfnRIdeal.main (F := Ideal))) ⟨m', fun _ => 0, g'⟩ (fun r => ∀ c : Dev Cert.FfnRIdeal.nD,
          r.2.mem ((c.tc : Thread Cert.FfnRIdeal.nD Cert.FfnRIdeal.τ).loc Cert.FfnRIdeal.main_v75) = v0 c
          ∧ r.2.mem ((c.tc : Thread Cert.FfnRIdeal.nD Cert.FfnRIdeal.τ).loc Cert.FfnRIdeal.main_v76) = v1 c
          ∧ r.2.mem ((c.tc : Thread Cert.FfnRIdeal.nD Cert.FfnRIdeal.τ).loc Cert.FfnRIdeal.main_v80) = v2 c
          ∧ r.2.mem ((c.tc : Thread Cert.FfnRIdeal.nD Cert.FfnRIdeal.τ).loc Cert.FfnRIdeal.main_v82) = v3 c
          ∧ r.2.mem ((c.tc : Thread Cert.FfnRIdeal.nD Cert.FfnRIdeal.τ).loc Cert.FfnRIdeal.main_arg0) = m' ((c.tc : Thread Cert.FfnRIdeal.nD Cert.FfnRIdeal.τ).loc Cert.FfnRIdeal.main_arg0)
          ∧ r.2.mem ((c.tc : Thread Cert.FfnRIdeal.nD Cert.FfnRIdeal.τ).loc Cert.FfnRIdeal.main_arg1) = m' ((c.tc : Thread Cert.FfnRIdeal.nD Cert.FfnRIdeal.τ).loc Cert.FfnRIdeal.main_arg1)
          ∧ r.2.mem ((c.tc : Thread Cert.FfnRIdeal.nD Cert.FfnRIdeal.τ).loc Cert.FfnRIdeal.main_arg2) = m' ((c.tc : Thread Cert.FfnRIdeal.nD Cert.FfnRIdeal.τ).loc Cert.FfnRIdeal.main_arg2)
          ∧ r.2.mem ((c.tc : Thread Cert.FfnRIdeal.nD Cert.FfnRIdeal.τ).loc Cert.FfnRIdeal.main_arg3) = m' ((c.tc : Thread Cert.FfnRIdeal.nD Cert.FfnRIdeal.τ).loc Cert.FfnRIdeal.main_arg3)
          ∧ r.2.mem ((c.tc : Thread Cert.FfnRIdeal.nD Cert.FfnRIdeal.τ).loc Cert.FfnRIdeal.main_arg4) = m' ((c.tc : Thread Cert.FfnRIdeal.nD Cert.FfnRIdeal.τ).loc Cert.FfnRIdeal.main_arg4))

def preserves_LossK_LossKIdeal : Prop :=
  True

def algebraic_LossKIdeal_LossRIdeal_pre_loss_finite [hLossKIdeal : Cert.LossKIdeal.Facts] [hLossRIdeal : Cert.LossRIdeal.Facts] [hPre_loss_finite : Cert.Pre_loss_finite.Facts] : Prop :=
  ∀ (m : (ℓ : Loc Cert.LossKIdeal.nD Cert.LossKIdeal.τ Cert.LossKIdeal.sig) → Buf (Elt Ideal) ℓ) (g : Dev Cert.LossKIdeal.nD → PrngReg)
    (m' : (ℓ : Loc Cert.LossRIdeal.nD Cert.LossRIdeal.τ Cert.LossRIdeal.sig) → Buf (Elt Ideal) ℓ) (g' : Dev Cert.LossRIdeal.nD → PrngReg), Pre_LossKIdeal_loss_finite m →
    (∀ c : Dev Cert.LossKIdeal.nD,
      m' ((c.tc : Thread Cert.LossRIdeal.nD Cert.LossRIdeal.τ).loc Cert.LossRIdeal.main_arg0) = m ((c.tc : Thread Cert.LossKIdeal.nD Cert.LossKIdeal.τ).loc Cert.LossKIdeal.main_arg0)
      ∧ m' ((c.tc : Thread Cert.LossRIdeal.nD Cert.LossRIdeal.τ).loc Cert.LossRIdeal.main_arg1) = m ((c.tc : Thread Cert.LossKIdeal.nD Cert.LossKIdeal.τ).loc Cert.LossKIdeal.main_arg1)
      ∧ m' ((c.tc : Thread Cert.LossRIdeal.nD Cert.LossRIdeal.τ).loc Cert.LossRIdeal.main_arg2) = m ((c.tc : Thread Cert.LossKIdeal.nD Cert.LossKIdeal.τ).loc Cert.LossKIdeal.main_arg2)
      ∧ m' ((c.tc : Thread Cert.LossRIdeal.nD Cert.LossRIdeal.τ).loc Cert.LossRIdeal.main_arg3) = m ((c.tc : Thread Cert.LossKIdeal.nD Cert.LossKIdeal.τ).loc Cert.LossKIdeal.main_arg3)
      ∧ m' ((c.tc : Thread Cert.LossRIdeal.nD Cert.LossRIdeal.τ).loc Cert.LossRIdeal.main_arg4) = m ((c.tc : Thread Cert.LossKIdeal.nD Cert.LossKIdeal.τ).loc Cert.LossKIdeal.main_arg4)
      ∧ m' ((c.tc : Thread Cert.LossRIdeal.nD Cert.LossRIdeal.τ).loc Cert.LossRIdeal.main_arg5) = m ((c.tc : Thread Cert.LossKIdeal.nD Cert.LossKIdeal.τ).loc Cert.LossKIdeal.main_arg5)
      ∧ m' ((c.tc : Thread Cert.LossRIdeal.nD Cert.LossRIdeal.τ).loc Cert.LossRIdeal.main_arg6) = m ((c.tc : Thread Cert.LossKIdeal.nD Cert.LossKIdeal.τ).loc Cert.LossKIdeal.main_arg6)) →
    ∃ (v0 : (c : Dev Cert.LossKIdeal.nD) → Buf (Elt Ideal) ((c.tc : Thread Cert.LossKIdeal.nD Cert.LossKIdeal.τ).loc Cert.LossKIdeal.main_v8_0)) (v1 : (c : Dev Cert.LossKIdeal.nD) → Buf (Elt Ideal) ((c.tc : Thread Cert.LossKIdeal.nD Cert.LossKIdeal.τ).loc Cert.LossKIdeal.main_v8_1)) (v2 : (c : Dev Cert.LossKIdeal.nD) → Buf (Elt Ideal) ((c.tc : Thread Cert.LossKIdeal.nD Cert.LossKIdeal.τ).loc Cert.LossKIdeal.main_v8_2)) (v3 : (c : Dev Cert.LossKIdeal.nD) → Buf (Elt Ideal) ((c.tc : Thread Cert.LossKIdeal.nD Cert.LossKIdeal.τ).loc Cert.LossKIdeal.main_v8_3)) (v4 : (c : Dev Cert.LossKIdeal.nD) → Buf (Elt Ideal) ((c.tc : Thread Cert.LossKIdeal.nD Cert.LossKIdeal.τ).loc Cert.LossKIdeal.main_v8_4)) (v5 : (c : Dev Cert.LossKIdeal.nD) → Buf (Elt Ideal) ((c.tc : Thread Cert.LossKIdeal.nD Cert.LossKIdeal.τ).loc Cert.LossKIdeal.main_v8_5)),
      θ_run (Cert.LossKIdeal.defs (F := Ideal)) (onTc (τ := Cert.LossKIdeal.τ) (Cert.LossKIdeal.main (F := Ideal))) ⟨m, fun _ => 0, g⟩ (fun r => ∀ c : Dev Cert.LossKIdeal.nD,
          r.2.mem ((c.tc : Thread Cert.LossKIdeal.nD Cert.LossKIdeal.τ).loc Cert.LossKIdeal.main_v8_0) = v0 c
          ∧ r.2.mem ((c.tc : Thread Cert.LossKIdeal.nD Cert.LossKIdeal.τ).loc Cert.LossKIdeal.main_v8_1) = v1 c
          ∧ r.2.mem ((c.tc : Thread Cert.LossKIdeal.nD Cert.LossKIdeal.τ).loc Cert.LossKIdeal.main_v8_2) = v2 c
          ∧ r.2.mem ((c.tc : Thread Cert.LossKIdeal.nD Cert.LossKIdeal.τ).loc Cert.LossKIdeal.main_v8_3) = v3 c
          ∧ r.2.mem ((c.tc : Thread Cert.LossKIdeal.nD Cert.LossKIdeal.τ).loc Cert.LossKIdeal.main_v8_4) = v4 c
          ∧ r.2.mem ((c.tc : Thread Cert.LossKIdeal.nD Cert.LossKIdeal.τ).loc Cert.LossKIdeal.main_v8_5) = v5 c
          ∧ r.2.mem ((c.tc : Thread Cert.LossKIdeal.nD Cert.LossKIdeal.τ).loc Cert.LossKIdeal.main_arg0) = m ((c.tc : Thread Cert.LossKIdeal.nD Cert.LossKIdeal.τ).loc Cert.LossKIdeal.main_arg0)
          ∧ r.2.mem ((c.tc : Thread Cert.LossKIdeal.nD Cert.LossKIdeal.τ).loc Cert.LossKIdeal.main_arg1) = m ((c.tc : Thread Cert.LossKIdeal.nD Cert.LossKIdeal.τ).loc Cert.LossKIdeal.main_arg1)
          ∧ r.2.mem ((c.tc : Thread Cert.LossKIdeal.nD Cert.LossKIdeal.τ).loc Cert.LossKIdeal.main_arg2) = m ((c.tc : Thread Cert.LossKIdeal.nD Cert.LossKIdeal.τ).loc Cert.LossKIdeal.main_arg2)
          ∧ r.2.mem ((c.tc : Thread Cert.LossKIdeal.nD Cert.LossKIdeal.τ).loc Cert.LossKIdeal.main_arg3) = m ((c.tc : Thread Cert.LossKIdeal.nD Cert.LossKIdeal.τ).loc Cert.LossKIdeal.main_arg3)
          ∧ r.2.mem ((c.tc : Thread Cert.LossKIdeal.nD Cert.LossKIdeal.τ).loc Cert.LossKIdeal.main_arg4) = m ((c.tc : Thread Cert.LossKIdeal.nD Cert.LossKIdeal.τ).loc Cert.LossKIdeal.main_arg4)
          ∧ r.2.mem ((c.tc : Thread Cert.LossKIdeal.nD Cert.LossKIdeal.τ).loc Cert.LossKIdeal.main_arg5) = m ((c.tc : Thread Cert.LossKIdeal.nD Cert.LossKIdeal.τ).loc Cert.LossKIdeal.main_arg5)
          ∧ r.2.mem ((c.tc : Thread Cert.LossKIdeal.nD Cert.LossKIdeal.τ).loc Cert.LossKIdeal.main_arg6) = m ((c.tc : Thread Cert.LossKIdeal.nD Cert.LossKIdeal.τ).loc Cert.LossKIdeal.main_arg6))
      ∧ θ_run (Cert.LossRIdeal.defs (F := Ideal)) (onTc (τ := Cert.LossRIdeal.τ) (Cert.LossRIdeal.main (F := Ideal))) ⟨m', fun _ => 0, g'⟩ (fun r => ∀ c : Dev Cert.LossRIdeal.nD,
          r.2.mem ((c.tc : Thread Cert.LossRIdeal.nD Cert.LossRIdeal.τ).loc Cert.LossRIdeal.main_v80) = v0 c
          ∧ r.2.mem ((c.tc : Thread Cert.LossRIdeal.nD Cert.LossRIdeal.τ).loc Cert.LossRIdeal.main_v84) = v1 c
          ∧ r.2.mem ((c.tc : Thread Cert.LossRIdeal.nD Cert.LossRIdeal.τ).loc Cert.LossRIdeal.main_v85) = v2 c
          ∧ r.2.mem ((c.tc : Thread Cert.LossRIdeal.nD Cert.LossRIdeal.τ).loc Cert.LossRIdeal.main_v86) = v3 c
          ∧ r.2.mem ((c.tc : Thread Cert.LossRIdeal.nD Cert.LossRIdeal.τ).loc Cert.LossRIdeal.main_v88) = v4 c
          ∧ r.2.mem ((c.tc : Thread Cert.LossRIdeal.nD Cert.LossRIdeal.τ).loc Cert.LossRIdeal.main_v90) = v5 c
          ∧ r.2.mem ((c.tc : Thread Cert.LossRIdeal.nD Cert.LossRIdeal.τ).loc Cert.LossRIdeal.main_arg0) = m' ((c.tc : Thread Cert.LossRIdeal.nD Cert.LossRIdeal.τ).loc Cert.LossRIdeal.main_arg0)
          ∧ r.2.mem ((c.tc : Thread Cert.LossRIdeal.nD Cert.LossRIdeal.τ).loc Cert.LossRIdeal.main_arg1) = m' ((c.tc : Thread Cert.LossRIdeal.nD Cert.LossRIdeal.τ).loc Cert.LossRIdeal.main_arg1)
          ∧ r.2.mem ((c.tc : Thread Cert.LossRIdeal.nD Cert.LossRIdeal.τ).loc Cert.LossRIdeal.main_arg2) = m' ((c.tc : Thread Cert.LossRIdeal.nD Cert.LossRIdeal.τ).loc Cert.LossRIdeal.main_arg2)
          ∧ r.2.mem ((c.tc : Thread Cert.LossRIdeal.nD Cert.LossRIdeal.τ).loc Cert.LossRIdeal.main_arg3) = m' ((c.tc : Thread Cert.LossRIdeal.nD Cert.LossRIdeal.τ).loc Cert.LossRIdeal.main_arg3)
          ∧ r.2.mem ((c.tc : Thread Cert.LossRIdeal.nD Cert.LossRIdeal.τ).loc Cert.LossRIdeal.main_arg4) = m' ((c.tc : Thread Cert.LossRIdeal.nD Cert.LossRIdeal.τ).loc Cert.LossRIdeal.main_arg4)
          ∧ r.2.mem ((c.tc : Thread Cert.LossRIdeal.nD Cert.LossRIdeal.τ).loc Cert.LossRIdeal.main_arg5) = m' ((c.tc : Thread Cert.LossRIdeal.nD Cert.LossRIdeal.τ).loc Cert.LossRIdeal.main_arg5)
          ∧ r.2.mem ((c.tc : Thread Cert.LossRIdeal.nD Cert.LossRIdeal.τ).loc Cert.LossRIdeal.main_arg6) = m' ((c.tc : Thread Cert.LossRIdeal.nD Cert.LossRIdeal.τ).loc Cert.LossRIdeal.main_arg6))

def preserves_ChunkK_ChunkKIdeal : Prop :=
  True

def algebraic_ChunkKIdeal_ChunkRIdeal_pre_chunk_finite [hChunkKIdeal : Cert.ChunkKIdeal.Facts] [hChunkRIdeal : Cert.ChunkRIdeal.Facts] [hPre_chunk_finite : Cert.Pre_chunk_finite.Facts] : Prop :=
  ∀ (m : (ℓ : Loc Cert.ChunkKIdeal.nD Cert.ChunkKIdeal.τ Cert.ChunkKIdeal.sig) → Buf (Elt Ideal) ℓ) (g : Dev Cert.ChunkKIdeal.nD → PrngReg)
    (m' : (ℓ : Loc Cert.ChunkRIdeal.nD Cert.ChunkRIdeal.τ Cert.ChunkRIdeal.sig) → Buf (Elt Ideal) ℓ) (g' : Dev Cert.ChunkRIdeal.nD → PrngReg), Pre_ChunkKIdeal_chunk_finite m →
    (∀ c : Dev Cert.ChunkKIdeal.nD,
      m' ((c.tc : Thread Cert.ChunkRIdeal.nD Cert.ChunkRIdeal.τ).loc Cert.ChunkRIdeal.main_arg0) = m ((c.tc : Thread Cert.ChunkKIdeal.nD Cert.ChunkKIdeal.τ).loc Cert.ChunkKIdeal.main_arg0)
      ∧ m' ((c.tc : Thread Cert.ChunkRIdeal.nD Cert.ChunkRIdeal.τ).loc Cert.ChunkRIdeal.main_arg1) = m ((c.tc : Thread Cert.ChunkKIdeal.nD Cert.ChunkKIdeal.τ).loc Cert.ChunkKIdeal.main_arg1)
      ∧ m' ((c.tc : Thread Cert.ChunkRIdeal.nD Cert.ChunkRIdeal.τ).loc Cert.ChunkRIdeal.main_arg2) = m ((c.tc : Thread Cert.ChunkKIdeal.nD Cert.ChunkKIdeal.τ).loc Cert.ChunkKIdeal.main_arg2)
      ∧ m' ((c.tc : Thread Cert.ChunkRIdeal.nD Cert.ChunkRIdeal.τ).loc Cert.ChunkRIdeal.main_arg3) = m ((c.tc : Thread Cert.ChunkKIdeal.nD Cert.ChunkKIdeal.τ).loc Cert.ChunkKIdeal.main_arg3)
      ∧ m' ((c.tc : Thread Cert.ChunkRIdeal.nD Cert.ChunkRIdeal.τ).loc Cert.ChunkRIdeal.main_arg4) = m ((c.tc : Thread Cert.ChunkKIdeal.nD Cert.ChunkKIdeal.τ).loc Cert.ChunkKIdeal.main_arg4)
      ∧ m' ((c.tc : Thread Cert.ChunkRIdeal.nD Cert.ChunkRIdeal.τ).loc Cert.ChunkRIdeal.main_arg5) = m ((c.tc : Thread Cert.ChunkKIdeal.nD Cert.ChunkKIdeal.τ).loc Cert.ChunkKIdeal.main_arg5)
      ∧ m' ((c.tc : Thread Cert.ChunkRIdeal.nD Cert.ChunkRIdeal.τ).loc Cert.ChunkRIdeal.main_arg6) = m ((c.tc : Thread Cert.ChunkKIdeal.nD Cert.ChunkKIdeal.τ).loc Cert.ChunkKIdeal.main_arg6)
      ∧ m' ((c.tc : Thread Cert.ChunkRIdeal.nD Cert.ChunkRIdeal.τ).loc Cert.ChunkRIdeal.main_arg7) = m ((c.tc : Thread Cert.ChunkKIdeal.nD Cert.ChunkKIdeal.τ).loc Cert.ChunkKIdeal.main_arg7)
      ∧ m' ((c.tc : Thread Cert.ChunkRIdeal.nD Cert.ChunkRIdeal.τ).loc Cert.ChunkRIdeal.main_arg8) = m ((c.tc : Thread Cert.ChunkKIdeal.nD Cert.ChunkKIdeal.τ).loc Cert.ChunkKIdeal.main_arg8)
      ∧ m' ((c.tc : Thread Cert.ChunkRIdeal.nD Cert.ChunkRIdeal.τ).loc Cert.ChunkRIdeal.main_arg9) = m ((c.tc : Thread Cert.ChunkKIdeal.nD Cert.ChunkKIdeal.τ).loc Cert.ChunkKIdeal.main_arg9)
      ∧ m' ((c.tc : Thread Cert.ChunkRIdeal.nD Cert.ChunkRIdeal.τ).loc Cert.ChunkRIdeal.main_arg10) = m ((c.tc : Thread Cert.ChunkKIdeal.nD Cert.ChunkKIdeal.τ).loc Cert.ChunkKIdeal.main_arg10)) →
    ∃ (v0 : (c : Dev Cert.ChunkKIdeal.nD) → Buf (Elt Ideal) ((c.tc : Thread Cert.ChunkKIdeal.nD Cert.ChunkKIdeal.τ).loc Cert.ChunkKIdeal.main_v100_0)) (v1 : (c : Dev Cert.ChunkKIdeal.nD) → Buf (Elt Ideal) ((c.tc : Thread Cert.ChunkKIdeal.nD Cert.ChunkKIdeal.τ).loc Cert.ChunkKIdeal.main_v100_1)) (v2 : (c : Dev Cert.ChunkKIdeal.nD) → Buf (Elt Ideal) ((c.tc : Thread Cert.ChunkKIdeal.nD Cert.ChunkKIdeal.τ).loc Cert.ChunkKIdeal.main_v100_2)) (v3 : (c : Dev Cert.ChunkKIdeal.nD) → Buf (Elt Ideal) ((c.tc : Thread Cert.ChunkKIdeal.nD Cert.ChunkKIdeal.τ).loc Cert.ChunkKIdeal.main_v100_3)) (v4 : (c : Dev Cert.ChunkKIdeal.nD) → Buf (Elt Ideal) ((c.tc : Thread Cert.ChunkKIdeal.nD Cert.ChunkKIdeal.τ).loc Cert.ChunkKIdeal.main_v100_4)),
      θ_run (Cert.ChunkKIdeal.defs (F := Ideal)) (onTc (τ := Cert.ChunkKIdeal.τ) (Cert.ChunkKIdeal.main (F := Ideal))) ⟨m, fun _ => 0, g⟩ (fun r => ∀ c : Dev Cert.ChunkKIdeal.nD,
          r.2.mem ((c.tc : Thread Cert.ChunkKIdeal.nD Cert.ChunkKIdeal.τ).loc Cert.ChunkKIdeal.main_v100_0) = v0 c
          ∧ r.2.mem ((c.tc : Thread Cert.ChunkKIdeal.nD Cert.ChunkKIdeal.τ).loc Cert.ChunkKIdeal.main_v100_1) = v1 c
          ∧ r.2.mem ((c.tc : Thread Cert.ChunkKIdeal.nD Cert.ChunkKIdeal.τ).loc Cert.ChunkKIdeal.main_v100_2) = v2 c
          ∧ r.2.mem ((c.tc : Thread Cert.ChunkKIdeal.nD Cert.ChunkKIdeal.τ).loc Cert.ChunkKIdeal.main_v100_3) = v3 c
          ∧ r.2.mem ((c.tc : Thread Cert.ChunkKIdeal.nD Cert.ChunkKIdeal.τ).loc Cert.ChunkKIdeal.main_v100_4) = v4 c
          ∧ r.2.mem ((c.tc : Thread Cert.ChunkKIdeal.nD Cert.ChunkKIdeal.τ).loc Cert.ChunkKIdeal.main_arg0) = m ((c.tc : Thread Cert.ChunkKIdeal.nD Cert.ChunkKIdeal.τ).loc Cert.ChunkKIdeal.main_arg0)
          ∧ r.2.mem ((c.tc : Thread Cert.ChunkKIdeal.nD Cert.ChunkKIdeal.τ).loc Cert.ChunkKIdeal.main_arg1) = m ((c.tc : Thread Cert.ChunkKIdeal.nD Cert.ChunkKIdeal.τ).loc Cert.ChunkKIdeal.main_arg1)
          ∧ r.2.mem ((c.tc : Thread Cert.ChunkKIdeal.nD Cert.ChunkKIdeal.τ).loc Cert.ChunkKIdeal.main_arg2) = m ((c.tc : Thread Cert.ChunkKIdeal.nD Cert.ChunkKIdeal.τ).loc Cert.ChunkKIdeal.main_arg2)
          ∧ r.2.mem ((c.tc : Thread Cert.ChunkKIdeal.nD Cert.ChunkKIdeal.τ).loc Cert.ChunkKIdeal.main_arg3) = m ((c.tc : Thread Cert.ChunkKIdeal.nD Cert.ChunkKIdeal.τ).loc Cert.ChunkKIdeal.main_arg3)
          ∧ r.2.mem ((c.tc : Thread Cert.ChunkKIdeal.nD Cert.ChunkKIdeal.τ).loc Cert.ChunkKIdeal.main_arg4) = m ((c.tc : Thread Cert.ChunkKIdeal.nD Cert.ChunkKIdeal.τ).loc Cert.ChunkKIdeal.main_arg4)
          ∧ r.2.mem ((c.tc : Thread Cert.ChunkKIdeal.nD Cert.ChunkKIdeal.τ).loc Cert.ChunkKIdeal.main_arg5) = m ((c.tc : Thread Cert.ChunkKIdeal.nD Cert.ChunkKIdeal.τ).loc Cert.ChunkKIdeal.main_arg5)
          ∧ r.2.mem ((c.tc : Thread Cert.ChunkKIdeal.nD Cert.ChunkKIdeal.τ).loc Cert.ChunkKIdeal.main_arg6) = m ((c.tc : Thread Cert.ChunkKIdeal.nD Cert.ChunkKIdeal.τ).loc Cert.ChunkKIdeal.main_arg6)
          ∧ r.2.mem ((c.tc : Thread Cert.ChunkKIdeal.nD Cert.ChunkKIdeal.τ).loc Cert.ChunkKIdeal.main_arg7) = m ((c.tc : Thread Cert.ChunkKIdeal.nD Cert.ChunkKIdeal.τ).loc Cert.ChunkKIdeal.main_arg7)
          ∧ r.2.mem ((c.tc : Thread Cert.ChunkKIdeal.nD Cert.ChunkKIdeal.τ).loc Cert.ChunkKIdeal.main_arg8) = m ((c.tc : Thread Cert.ChunkKIdeal.nD Cert.ChunkKIdeal.τ).loc Cert.ChunkKIdeal.main_arg8)
          ∧ r.2.mem ((c.tc : Thread Cert.ChunkKIdeal.nD Cert.ChunkKIdeal.τ).loc Cert.ChunkKIdeal.main_arg9) = m ((c.tc : Thread Cert.ChunkKIdeal.nD Cert.ChunkKIdeal.τ).loc Cert.ChunkKIdeal.main_arg9)
          ∧ r.2.mem ((c.tc : Thread Cert.ChunkKIdeal.nD Cert.ChunkKIdeal.τ).loc Cert.ChunkKIdeal.main_arg10) = m ((c.tc : Thread Cert.ChunkKIdeal.nD Cert.ChunkKIdeal.τ).loc Cert.ChunkKIdeal.main_arg10))
      ∧ θ_run (Cert.ChunkRIdeal.defs (F := Ideal)) (onTc (τ := Cert.ChunkRIdeal.τ) (Cert.ChunkRIdeal.main (F := Ideal))) ⟨m', fun _ => 0, g'⟩ (fun r => ∀ c : Dev Cert.ChunkRIdeal.nD,
          r.2.mem ((c.tc : Thread Cert.ChunkRIdeal.nD Cert.ChunkRIdeal.τ).loc Cert.ChunkRIdeal.main_v239) = v0 c
          ∧ r.2.mem ((c.tc : Thread Cert.ChunkRIdeal.nD Cert.ChunkRIdeal.τ).loc Cert.ChunkRIdeal.main_v237) = v1 c
          ∧ r.2.mem ((c.tc : Thread Cert.ChunkRIdeal.nD Cert.ChunkRIdeal.τ).loc Cert.ChunkRIdeal.main_v235) = v2 c
          ∧ r.2.mem ((c.tc : Thread Cert.ChunkRIdeal.nD Cert.ChunkRIdeal.τ).loc Cert.ChunkRIdeal.main_v241) = v3 c
          ∧ r.2.mem ((c.tc : Thread Cert.ChunkRIdeal.nD Cert.ChunkRIdeal.τ).loc Cert.ChunkRIdeal.main_v243) = v4 c
          ∧ r.2.mem ((c.tc : Thread Cert.ChunkRIdeal.nD Cert.ChunkRIdeal.τ).loc Cert.ChunkRIdeal.main_arg0) = m' ((c.tc : Thread Cert.ChunkRIdeal.nD Cert.ChunkRIdeal.τ).loc Cert.ChunkRIdeal.main_arg0)
          ∧ r.2.mem ((c.tc : Thread Cert.ChunkRIdeal.nD Cert.ChunkRIdeal.τ).loc Cert.ChunkRIdeal.main_arg1) = m' ((c.tc : Thread Cert.ChunkRIdeal.nD Cert.ChunkRIdeal.τ).loc Cert.ChunkRIdeal.main_arg1)
          ∧ r.2.mem ((c.tc : Thread Cert.ChunkRIdeal.nD Cert.ChunkRIdeal.τ).loc Cert.ChunkRIdeal.main_arg2) = m' ((c.tc : Thread Cert.ChunkRIdeal.nD Cert.ChunkRIdeal.τ).loc Cert.ChunkRIdeal.main_arg2)
          ∧ r.2.mem ((c.tc : Thread Cert.ChunkRIdeal.nD Cert.ChunkRIdeal.τ).loc Cert.ChunkRIdeal.main_arg3) = m' ((c.tc : Thread Cert.ChunkRIdeal.nD Cert.ChunkRIdeal.τ).loc Cert.ChunkRIdeal.main_arg3)
          ∧ r.2.mem ((c.tc : Thread Cert.ChunkRIdeal.nD Cert.ChunkRIdeal.τ).loc Cert.ChunkRIdeal.main_arg4) = m' ((c.tc : Thread Cert.ChunkRIdeal.nD Cert.ChunkRIdeal.τ).loc Cert.ChunkRIdeal.main_arg4)
          ∧ r.2.mem ((c.tc : Thread Cert.ChunkRIdeal.nD Cert.ChunkRIdeal.τ).loc Cert.ChunkRIdeal.main_arg5) = m' ((c.tc : Thread Cert.ChunkRIdeal.nD Cert.ChunkRIdeal.τ).loc Cert.ChunkRIdeal.main_arg5)
          ∧ r.2.mem ((c.tc : Thread Cert.ChunkRIdeal.nD Cert.ChunkRIdeal.τ).loc Cert.ChunkRIdeal.main_arg6) = m' ((c.tc : Thread Cert.ChunkRIdeal.nD Cert.ChunkRIdeal.τ).loc Cert.ChunkRIdeal.main_arg6)
          ∧ r.2.mem ((c.tc : Thread Cert.ChunkRIdeal.nD Cert.ChunkRIdeal.τ).loc Cert.ChunkRIdeal.main_arg7) = m' ((c.tc : Thread Cert.ChunkRIdeal.nD Cert.ChunkRIdeal.τ).loc Cert.ChunkRIdeal.main_arg7)
          ∧ r.2.mem ((c.tc : Thread Cert.ChunkRIdeal.nD Cert.ChunkRIdeal.τ).loc Cert.ChunkRIdeal.main_arg8) = m' ((c.tc : Thread Cert.ChunkRIdeal.nD Cert.ChunkRIdeal.τ).loc Cert.ChunkRIdeal.main_arg8)
          ∧ r.2.mem ((c.tc : Thread Cert.ChunkRIdeal.nD Cert.ChunkRIdeal.τ).loc Cert.ChunkRIdeal.main_arg9) = m' ((c.tc : Thread Cert.ChunkRIdeal.nD Cert.ChunkRIdeal.τ).loc Cert.ChunkRIdeal.main_arg9)
          ∧ r.2.mem ((c.tc : Thread Cert.ChunkRIdeal.nD Cert.ChunkRIdeal.τ).loc Cert.ChunkRIdeal.main_arg10) = m' ((c.tc : Thread Cert.ChunkRIdeal.nD Cert.ChunkRIdeal.τ).loc Cert.ChunkRIdeal.main_arg10))

def preserves_DeltaK_DeltaKIdeal : Prop :=
  True

def algebraic_DeltaKIdeal_DeltaRIdeal_pre_delta_finite [hDeltaKIdeal : Cert.DeltaKIdeal.Facts] [hDeltaRIdeal : Cert.DeltaRIdeal.Facts] [hPre_delta_finite : Cert.Pre_delta_finite.Facts] : Prop :=
  ∀ (m : (ℓ : Loc Cert.DeltaKIdeal.nD Cert.DeltaKIdeal.τ Cert.DeltaKIdeal.sig) → Buf (Elt Ideal) ℓ) (g : Dev Cert.DeltaKIdeal.nD → PrngReg)
    (m' : (ℓ : Loc Cert.DeltaRIdeal.nD Cert.DeltaRIdeal.τ Cert.DeltaRIdeal.sig) → Buf (Elt Ideal) ℓ) (g' : Dev Cert.DeltaRIdeal.nD → PrngReg), Pre_DeltaKIdeal_delta_finite m →
    (∀ c : Dev Cert.DeltaKIdeal.nD,
      m' ((c.tc : Thread Cert.DeltaRIdeal.nD Cert.DeltaRIdeal.τ).loc Cert.DeltaRIdeal.main_arg0) = m ((c.tc : Thread Cert.DeltaKIdeal.nD Cert.DeltaKIdeal.τ).loc Cert.DeltaKIdeal.main_arg0)
      ∧ m' ((c.tc : Thread Cert.DeltaRIdeal.nD Cert.DeltaRIdeal.τ).loc Cert.DeltaRIdeal.main_arg1) = m ((c.tc : Thread Cert.DeltaKIdeal.nD Cert.DeltaKIdeal.τ).loc Cert.DeltaKIdeal.main_arg1)
      ∧ m' ((c.tc : Thread Cert.DeltaRIdeal.nD Cert.DeltaRIdeal.τ).loc Cert.DeltaRIdeal.main_arg2) = m ((c.tc : Thread Cert.DeltaKIdeal.nD Cert.DeltaKIdeal.τ).loc Cert.DeltaKIdeal.main_arg2)
      ∧ m' ((c.tc : Thread Cert.DeltaRIdeal.nD Cert.DeltaRIdeal.τ).loc Cert.DeltaRIdeal.main_arg3) = m ((c.tc : Thread Cert.DeltaKIdeal.nD Cert.DeltaKIdeal.τ).loc Cert.DeltaKIdeal.main_arg3)
      ∧ m' ((c.tc : Thread Cert.DeltaRIdeal.nD Cert.DeltaRIdeal.τ).loc Cert.DeltaRIdeal.main_arg4) = m ((c.tc : Thread Cert.DeltaKIdeal.nD Cert.DeltaKIdeal.τ).loc Cert.DeltaKIdeal.main_arg4)) →
    ∃ (v0 : (c : Dev Cert.DeltaKIdeal.nD) → Buf (Elt Ideal) ((c.tc : Thread Cert.DeltaKIdeal.nD Cert.DeltaKIdeal.τ).loc Cert.DeltaKIdeal.main_v11_0)) (v1 : (c : Dev Cert.DeltaKIdeal.nD) → Buf (Elt Ideal) ((c.tc : Thread Cert.DeltaKIdeal.nD Cert.DeltaKIdeal.τ).loc Cert.DeltaKIdeal.main_v11_1)) (v2 : (c : Dev Cert.DeltaKIdeal.nD) → Buf (Elt Ideal) ((c.tc : Thread Cert.DeltaKIdeal.nD Cert.DeltaKIdeal.τ).loc Cert.DeltaKIdeal.main_v11_2)) (v3 : (c : Dev Cert.DeltaKIdeal.nD) → Buf (Elt Ideal) ((c.tc : Thread Cert.DeltaKIdeal.nD Cert.DeltaKIdeal.τ).loc Cert.DeltaKIdeal.main_v11_3)) (v4 : (c : Dev Cert.DeltaKIdeal.nD) → Buf (Elt Ideal) ((c.tc : Thread Cert.DeltaKIdeal.nD Cert.DeltaKIdeal.τ).loc Cert.DeltaKIdeal.main_v11_4)) (v5 : (c : Dev Cert.DeltaKIdeal.nD) → Buf (Elt Ideal) ((c.tc : Thread Cert.DeltaKIdeal.nD Cert.DeltaKIdeal.τ).loc Cert.DeltaKIdeal.main_v11_5)) (v6 : (c : Dev Cert.DeltaKIdeal.nD) → Buf (Elt Ideal) ((c.tc : Thread Cert.DeltaKIdeal.nD Cert.DeltaKIdeal.τ).loc Cert.DeltaKIdeal.main_v11_6)),
      θ_run (Cert.DeltaKIdeal.defs (F := Ideal)) (onTc (τ := Cert.DeltaKIdeal.τ) (Cert.DeltaKIdeal.main (F := Ideal))) ⟨m, fun _ => 0, g⟩ (fun r => ∀ c : Dev Cert.DeltaKIdeal.nD,
          r.2.mem ((c.tc : Thread Cert.DeltaKIdeal.nD Cert.DeltaKIdeal.τ).loc Cert.DeltaKIdeal.main_v11_0) = v0 c
          ∧ r.2.mem ((c.tc : Thread Cert.DeltaKIdeal.nD Cert.DeltaKIdeal.τ).loc Cert.DeltaKIdeal.main_v11_1) = v1 c
          ∧ r.2.mem ((c.tc : Thread Cert.DeltaKIdeal.nD Cert.DeltaKIdeal.τ).loc Cert.DeltaKIdeal.main_v11_2) = v2 c
          ∧ r.2.mem ((c.tc : Thread Cert.DeltaKIdeal.nD Cert.DeltaKIdeal.τ).loc Cert.DeltaKIdeal.main_v11_3) = v3 c
          ∧ r.2.mem ((c.tc : Thread Cert.DeltaKIdeal.nD Cert.DeltaKIdeal.τ).loc Cert.DeltaKIdeal.main_v11_4) = v4 c
          ∧ r.2.mem ((c.tc : Thread Cert.DeltaKIdeal.nD Cert.DeltaKIdeal.τ).loc Cert.DeltaKIdeal.main_v11_5) = v5 c
          ∧ r.2.mem ((c.tc : Thread Cert.DeltaKIdeal.nD Cert.DeltaKIdeal.τ).loc Cert.DeltaKIdeal.main_v11_6) = v6 c
          ∧ r.2.mem ((c.tc : Thread Cert.DeltaKIdeal.nD Cert.DeltaKIdeal.τ).loc Cert.DeltaKIdeal.main_arg0) = m ((c.tc : Thread Cert.DeltaKIdeal.nD Cert.DeltaKIdeal.τ).loc Cert.DeltaKIdeal.main_arg0)
          ∧ r.2.mem ((c.tc : Thread Cert.DeltaKIdeal.nD Cert.DeltaKIdeal.τ).loc Cert.DeltaKIdeal.main_arg1) = m ((c.tc : Thread Cert.DeltaKIdeal.nD Cert.DeltaKIdeal.τ).loc Cert.DeltaKIdeal.main_arg1)
          ∧ r.2.mem ((c.tc : Thread Cert.DeltaKIdeal.nD Cert.DeltaKIdeal.τ).loc Cert.DeltaKIdeal.main_arg2) = m ((c.tc : Thread Cert.DeltaKIdeal.nD Cert.DeltaKIdeal.τ).loc Cert.DeltaKIdeal.main_arg2)
          ∧ r.2.mem ((c.tc : Thread Cert.DeltaKIdeal.nD Cert.DeltaKIdeal.τ).loc Cert.DeltaKIdeal.main_arg3) = m ((c.tc : Thread Cert.DeltaKIdeal.nD Cert.DeltaKIdeal.τ).loc Cert.DeltaKIdeal.main_arg3)
          ∧ r.2.mem ((c.tc : Thread Cert.DeltaKIdeal.nD Cert.DeltaKIdeal.τ).loc Cert.DeltaKIdeal.main_arg4) = m ((c.tc : Thread Cert.DeltaKIdeal.nD Cert.DeltaKIdeal.τ).loc Cert.DeltaKIdeal.main_arg4))
      ∧ θ_run (Cert.DeltaRIdeal.defs (F := Ideal)) (onTc (τ := Cert.DeltaRIdeal.τ) (Cert.DeltaRIdeal.main (F := Ideal))) ⟨m', fun _ => 0, g'⟩ (fun r => ∀ c : Dev Cert.DeltaRIdeal.nD,
          r.2.mem ((c.tc : Thread Cert.DeltaRIdeal.nD Cert.DeltaRIdeal.τ).loc Cert.DeltaRIdeal.main_v137) = v0 c
          ∧ r.2.mem ((c.tc : Thread Cert.DeltaRIdeal.nD Cert.DeltaRIdeal.τ).loc Cert.DeltaRIdeal.main_v139) = v1 c
          ∧ r.2.mem ((c.tc : Thread Cert.DeltaRIdeal.nD Cert.DeltaRIdeal.τ).loc Cert.DeltaRIdeal.main_v151) = v2 c
          ∧ r.2.mem ((c.tc : Thread Cert.DeltaRIdeal.nD Cert.DeltaRIdeal.τ).loc Cert.DeltaRIdeal.main_v163) = v3 c
          ∧ r.2.mem ((c.tc : Thread Cert.DeltaRIdeal.nD Cert.DeltaRIdeal.τ).loc Cert.DeltaRIdeal.main_v176) = v4 c
          ∧ r.2.mem ((c.tc : Thread Cert.DeltaRIdeal.nD Cert.DeltaRIdeal.τ).loc Cert.DeltaRIdeal.main_v189) = v5 c
          ∧ r.2.mem ((c.tc : Thread Cert.DeltaRIdeal.nD Cert.DeltaRIdeal.τ).loc Cert.DeltaRIdeal.main_v202) = v6 c
          ∧ r.2.mem ((c.tc : Thread Cert.DeltaRIdeal.nD Cert.DeltaRIdeal.τ).loc Cert.DeltaRIdeal.main_arg0) = m' ((c.tc : Thread Cert.DeltaRIdeal.nD Cert.DeltaRIdeal.τ).loc Cert.DeltaRIdeal.main_arg0)
          ∧ r.2.mem ((c.tc : Thread Cert.DeltaRIdeal.nD Cert.DeltaRIdeal.τ).loc Cert.DeltaRIdeal.main_arg1) = m' ((c.tc : Thread Cert.DeltaRIdeal.nD Cert.DeltaRIdeal.τ).loc Cert.DeltaRIdeal.main_arg1)
          ∧ r.2.mem ((c.tc : Thread Cert.DeltaRIdeal.nD Cert.DeltaRIdeal.τ).loc Cert.DeltaRIdeal.main_arg2) = m' ((c.tc : Thread Cert.DeltaRIdeal.nD Cert.DeltaRIdeal.τ).loc Cert.DeltaRIdeal.main_arg2)
          ∧ r.2.mem ((c.tc : Thread Cert.DeltaRIdeal.nD Cert.DeltaRIdeal.τ).loc Cert.DeltaRIdeal.main_arg3) = m' ((c.tc : Thread Cert.DeltaRIdeal.nD Cert.DeltaRIdeal.τ).loc Cert.DeltaRIdeal.main_arg3)
          ∧ r.2.mem ((c.tc : Thread Cert.DeltaRIdeal.nD Cert.DeltaRIdeal.τ).loc Cert.DeltaRIdeal.main_arg4) = m' ((c.tc : Thread Cert.DeltaRIdeal.nD Cert.DeltaRIdeal.τ).loc Cert.DeltaRIdeal.main_arg4))

def Claim : Prop :=
  ∃ (hConvK : Cert.ConvK.Facts) (hConvKIdeal : Cert.ConvKIdeal.Facts) (hConvRIdeal : Cert.ConvRIdeal.Facts) (hPrepK : Cert.PrepK.Facts) (hPrepKIdeal : Cert.PrepKIdeal.Facts) (hPrepRIdeal : Cert.PrepRIdeal.Facts) (hUpK : Cert.UpK.Facts) (hUpKIdeal : Cert.UpKIdeal.Facts) (hUpRIdeal : Cert.UpRIdeal.Facts) (hFfnK : Cert.FfnK.Facts) (hFfnKIdeal : Cert.FfnKIdeal.Facts) (hFfnRIdeal : Cert.FfnRIdeal.Facts) (hLossK : Cert.LossK.Facts) (hLossKIdeal : Cert.LossKIdeal.Facts) (hLossRIdeal : Cert.LossRIdeal.Facts) (hChunkK : Cert.ChunkK.Facts) (hChunkKIdeal : Cert.ChunkKIdeal.Facts) (hChunkRIdeal : Cert.ChunkRIdeal.Facts) (hDeltaK : Cert.DeltaK.Facts) (hDeltaKIdeal : Cert.DeltaKIdeal.Facts) (hDeltaRIdeal : Cert.DeltaRIdeal.Facts) (hPre_prep_finite : Cert.Pre_prep_finite.Facts) (hPre_up_finite : Cert.Pre_up_finite.Facts) (hPre_ffnb_finite : Cert.Pre_ffnb_finite.Facts) (hPre_loss_finite : Cert.Pre_loss_finite.Facts) (hPre_chunk_finite : Cert.Pre_chunk_finite.Facts) (hPre_delta_finite : Cert.Pre_delta_finite.Facts),
    quiescent_ConvK (hConvK := hConvK)
    ∧ quiescent_ConvKIdeal (hConvKIdeal := hConvKIdeal)
    ∧ quiescent_ConvRIdeal (hConvRIdeal := hConvRIdeal)
    ∧ quiescent_PrepK (hPrepK := hPrepK)
    ∧ quiescent_PrepKIdeal (hPrepKIdeal := hPrepKIdeal)
    ∧ quiescent_PrepKIdeal_pre_prep_finite (hPrepKIdeal := hPrepKIdeal) (hPre_prep_finite := hPre_prep_finite)
    ∧ quiescent_PrepRIdeal (hPrepRIdeal := hPrepRIdeal)
    ∧ quiescent_PrepRIdeal_pre_prep_finite (hPrepRIdeal := hPrepRIdeal) (hPre_prep_finite := hPre_prep_finite)
    ∧ quiescent_UpK (hUpK := hUpK)
    ∧ quiescent_UpKIdeal (hUpKIdeal := hUpKIdeal)
    ∧ quiescent_UpKIdeal_pre_up_finite (hUpKIdeal := hUpKIdeal) (hPre_up_finite := hPre_up_finite)
    ∧ quiescent_UpRIdeal (hUpRIdeal := hUpRIdeal)
    ∧ quiescent_UpRIdeal_pre_up_finite (hUpRIdeal := hUpRIdeal) (hPre_up_finite := hPre_up_finite)
    ∧ quiescent_FfnK (hFfnK := hFfnK)
    ∧ quiescent_FfnKIdeal (hFfnKIdeal := hFfnKIdeal)
    ∧ quiescent_FfnKIdeal_pre_ffnb_finite (hFfnKIdeal := hFfnKIdeal) (hPre_ffnb_finite := hPre_ffnb_finite)
    ∧ quiescent_FfnRIdeal (hFfnRIdeal := hFfnRIdeal)
    ∧ quiescent_FfnRIdeal_pre_ffnb_finite (hFfnRIdeal := hFfnRIdeal) (hPre_ffnb_finite := hPre_ffnb_finite)
    ∧ quiescent_LossK (hLossK := hLossK)
    ∧ quiescent_LossKIdeal (hLossKIdeal := hLossKIdeal)
    ∧ quiescent_LossKIdeal_pre_loss_finite (hLossKIdeal := hLossKIdeal) (hPre_loss_finite := hPre_loss_finite)
    ∧ quiescent_LossRIdeal (hLossRIdeal := hLossRIdeal)
    ∧ quiescent_LossRIdeal_pre_loss_finite (hLossRIdeal := hLossRIdeal) (hPre_loss_finite := hPre_loss_finite)
    ∧ quiescent_ChunkK (hChunkK := hChunkK)
    ∧ quiescent_ChunkKIdeal (hChunkKIdeal := hChunkKIdeal)
    ∧ quiescent_ChunkKIdeal_pre_chunk_finite (hChunkKIdeal := hChunkKIdeal) (hPre_chunk_finite := hPre_chunk_finite)
    ∧ quiescent_ChunkRIdeal (hChunkRIdeal := hChunkRIdeal)
    ∧ quiescent_ChunkRIdeal_pre_chunk_finite (hChunkRIdeal := hChunkRIdeal) (hPre_chunk_finite := hPre_chunk_finite)
    ∧ quiescent_DeltaK (hDeltaK := hDeltaK)
    ∧ quiescent_DeltaKIdeal (hDeltaKIdeal := hDeltaKIdeal)
    ∧ quiescent_DeltaKIdeal_pre_delta_finite (hDeltaKIdeal := hDeltaKIdeal) (hPre_delta_finite := hPre_delta_finite)
    ∧ quiescent_DeltaRIdeal (hDeltaRIdeal := hDeltaRIdeal)
    ∧ quiescent_DeltaRIdeal_pre_delta_finite (hDeltaRIdeal := hDeltaRIdeal) (hPre_delta_finite := hPre_delta_finite)
    ∧ preserves_ConvK_ConvKIdeal
    ∧ algebraic_ConvKIdeal_ConvRIdeal (hConvKIdeal := hConvKIdeal) (hConvRIdeal := hConvRIdeal)
    ∧ preserves_PrepK_PrepKIdeal
    ∧ algebraic_PrepKIdeal_PrepRIdeal_pre_prep_finite (hPrepKIdeal := hPrepKIdeal) (hPrepRIdeal := hPrepRIdeal) (hPre_prep_finite := hPre_prep_finite)
    ∧ preserves_UpK_UpKIdeal
    ∧ algebraic_UpKIdeal_UpRIdeal_pre_up_finite (hUpKIdeal := hUpKIdeal) (hUpRIdeal := hUpRIdeal) (hPre_up_finite := hPre_up_finite)
    ∧ preserves_FfnK_FfnKIdeal
    ∧ algebraic_FfnKIdeal_FfnRIdeal_pre_ffnb_finite (hFfnKIdeal := hFfnKIdeal) (hFfnRIdeal := hFfnRIdeal) (hPre_ffnb_finite := hPre_ffnb_finite)
    ∧ preserves_LossK_LossKIdeal
    ∧ algebraic_LossKIdeal_LossRIdeal_pre_loss_finite (hLossKIdeal := hLossKIdeal) (hLossRIdeal := hLossRIdeal) (hPre_loss_finite := hPre_loss_finite)
    ∧ preserves_ChunkK_ChunkKIdeal
    ∧ algebraic_ChunkKIdeal_ChunkRIdeal_pre_chunk_finite (hChunkKIdeal := hChunkKIdeal) (hChunkRIdeal := hChunkRIdeal) (hPre_chunk_finite := hPre_chunk_finite)
    ∧ preserves_DeltaK_DeltaKIdeal
    ∧ algebraic_DeltaKIdeal_DeltaRIdeal_pre_delta_finite (hDeltaKIdeal := hDeltaKIdeal) (hDeltaRIdeal := hDeltaRIdeal) (hPre_delta_finite := hPre_delta_finite)
-- ==== Pre_chunk_finite.lean ====
abbrev S2048x512 : Shape := ⟨2, ![2048, 512]⟩
abbrev S2048x4 : Shape := ⟨2, ![2048, 4]⟩
abbrev S32x4x64x128 : Shape := ⟨4, ![32, 4, 64, 128]⟩
abbrev S32x4x64x64 : Shape := ⟨4, ![32, 4, 64, 64]⟩
abbrev S32x4 : Shape := ⟨2, ![32, 4]⟩
abbrev S_ : Shape := ⟨0, ![]⟩

class Facts : Prop where
  bcast_S_S2048x512 : S_.BroadcastsInDim S2048x512 (![] : Fin 0 → Fin S2048x512.rank)
  bcast_S_S2048x4 : S_.BroadcastsInDim S2048x4 (![] : Fin 0 → Fin S2048x4.rank)
  bcast_S_S32x4x64x128 : S_.BroadcastsInDim S32x4x64x128 (![] : Fin 0 → Fin S32x4x64x128.rank)
  bcast_S_S32x4x64x64 : S_.BroadcastsInDim S32x4x64x64 (![] : Fin 0 → Fin S32x4x64x64.rank)
  bcast_S_S32x4 : S_.BroadcastsInDim S32x4 (![] : Fin 0 → Fin S32x4.rank)

variable [Facts]

def fn_part1 {F : FTy → Type} [FloatOps F] (main_arg6 : FVec F S32x4x64x128 .f32) (main_arg7 : FVec F S32x4x64x64 .f32) (main_arg8 : FVec F S32x4x64x128 .f32) (main_arg9 : FVec F S32x4x64x128 .f32) (main_arg10 : FVec F S32x4 .f32) (main_v2 : IVec S2048x512 1) (main_v5 : IVec S2048x512 1) (main_v8 : IVec S2048x512 1) (main_v11 : IVec S2048x4 1) (main_v14 : IVec S2048x4 1) (main_v17 : IVec S32x4x64x128 1) : IVec S2048x512 1 × IVec S2048x512 1 × IVec S2048x512 1 × IVec S2048x4 1 × IVec S2048x4 1 × IVec S32x4x64x128 1 × IVec S32x4x64x128 1 × IVec S32x4x64x64 1 × IVec S32x4x64x128 1 × IVec S32x4x64x128 1 × IVec S32x4 1 :=
  let main_v18 : FVec F S32x4x64x128 .f32 := Host.absf main_arg6
  let main_cst_5 : FVec F S_ .f32 := constant S_ .f32 0x7F800000#32
  let main_v19 : FVec F S32x4x64x128 .f32 := broadcastInDim S32x4x64x128 ![] bcast_S_S32x4x64x128 main_cst_5
  let main_v20 : IVec S32x4x64x128 1 := cmpf .olt main_v18 main_v19
  let main_v21 : FVec F S32x4x64x64 .f32 := Host.absf main_arg7
  let main_cst_6 : FVec F S_ .f32 := constant S_ .f32 0x7F800000#32
  let main_v22 : FVec F S32x4x64x64 .f32 := broadcastInDim S32x4x64x64 ![] bcast_S_S32x4x64x64 main_cst_6
  let main_v23 : IVec S32x4x64x64 1 := cmpf .olt main_v21 main_v22
  let main_v24 : FVec F S32x4x64x128 .f32 := Host.absf main_arg8
  let main_cst_7 : FVec F S_ .f32 := constant S_ .f32 0x7F800000#32
  let main_v25 : FVec F S32x4x64x128 .f32 := broadcastInDim S32x4x64x128 ![] bcast_S_S32x4x64x128 main_cst_7
  let main_v26 : IVec S32x4x64x128 1 := cmpf .olt main_v24 main_v25
  let main_v27 : FVec F S32x4x64x128 .f32 := Host.absf main_arg9
  let main_cst_8 : FVec F S_ .f32 := constant S_ .f32 0x7F800000#32
  let main_v28 : FVec F S32x4x64x128 .f32 := broadcastInDim S32x4x64x128 ![] bcast_S_S32x4x64x128 main_cst_8
  let main_v29 : IVec S32x4x64x128 1 := cmpf .olt main_v27 main_v28
  let main_v30 : FVec F S32x4 .f32 := Host.absf main_arg10
  let main_cst_9 : FVec F S_ .f32 := constant S_ .f32 0x7F800000#32
  let main_v31 : FVec F S32x4 .f32 := broadcastInDim S32x4 ![] bcast_S_S32x4 main_cst_9
  let main_v32 : IVec S32x4 1 := cmpf .olt main_v30 main_v31
  (main_v2, main_v5, main_v8, main_v11, main_v14, main_v17, main_v20, main_v23, main_v26, main_v29, main_v32)

def fn {F : FTy → Type} [FloatOps F] (main_arg0 : FVec F S2048x512 .f32) (main_arg1 : FVec F S2048x512 .f32) (main_arg2 : FVec F S2048x512 .f32) (main_arg3 : FVec F S2048x4 .f32) (main_arg4 : FVec F S2048x4 .f32) (main_arg5 : FVec F S32x4x64x128 .f32) (main_arg6 : FVec F S32x4x64x128 .f32) (main_arg7 : FVec F S32x4x64x64 .f32) (main_arg8 : FVec F S32x4x64x128 .f32) (main_arg9 : FVec F S32x4x64x128 .f32) (main_arg10 : FVec F S32x4 .f32) : IVec S2048x512 1 × IVec S2048x512 1 × IVec S2048x512 1 × IVec S2048x4 1 × IVec S2048x4 1 × IVec S32x4x64x128 1 × IVec S32x4x64x128 1 × IVec S32x4x64x64 1 × IVec S32x4x64x128 1 × IVec S32x4x64x128 1 × IVec S32x4 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S2048x4 .f32 := Host.absf main_arg3
  let main_cst_2 : FVec F S_ .f32 := constant S_ .f32 0x7F800000#32
  let main_v10 : FVec F S2048x4 .f32 := broadcastInDim S2048x4 ![] bcast_S_S2048x4 main_cst_2
  let main_v11 : IVec S2048x4 1 := cmpf .olt main_v9 main_v10
  let main_v12 : FVec F S2048x4 .f32 := Host.absf main_arg4
  let main_cst_3 : FVec F S_ .f32 := constant S_ .f32 0x7F800000#32
  let main_v13 : FVec F S2048x4 .f32 := broadcastInDim S2048x4 ![] bcast_S_S2048x4 main_cst_3
  let main_v14 : IVec S2048x4 1 := cmpf .olt main_v12 main_v13
  let main_v15 : FVec F S32x4x64x128 .f32 := Host.absf main_arg5
  let main_cst_4 : FVec F S_ .f32 := constant S_ .f32 0x7F800000#32
  let main_v16 : FVec F S32x4x64x128 .f32 := broadcastInDim S32x4x64x128 ![] bcast_S_S32x4x64x128 main_cst_4
  let main_v17 : IVec S32x4x64x128 1 := cmpf .olt main_v15 main_v16
  fn_part1 (F := F) main_arg6 main_arg7 main_arg8 main_arg9 main_arg10 main_v2 main_v5 main_v8 main_v11 main_v14 main_v17
-- ==== Pre_delta_finite.lean ====
abbrev S2048x512 : Shape := ⟨2, ![2048, 512]⟩
abbrev S2048x4 : Shape := ⟨2, ![2048, 4]⟩
abbrev S_ : Shape := ⟨0, ![]⟩

class Facts : Prop where
  bcast_S_S2048x512 : S_.BroadcastsInDim S2048x512 (![] : Fin 0 → Fin S2048x512.rank)
  bcast_S_S2048x4 : S_.BroadcastsInDim S2048x4 (![] : Fin 0 → Fin S2048x4.rank)

variable [Facts]

def fn {F : FTy → Type} [FloatOps F] (main_arg0 : FVec F S2048x512 .f32) (main_arg1 : FVec F S2048x512 .f32) (main_arg2 : FVec F S2048x512 .f32) (main_arg3 : FVec F S2048x4 .f32) (main_arg4 : FVec F S2048x4 .f32) : IVec S2048x512 1 × IVec S2048x512 1 × IVec S2048x512 1 × IVec S2048x4 1 × IVec S2048x4 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S2048x4 .f32 := Host.absf main_arg3
  let main_cst_2 : FVec F S_ .f32 := constant S_ .f32 0x7F800000#32
  let main_v10 : FVec F S2048x4 .f32 := broadcastInDim S2048x4 ![] bcast_S_S2048x4 main_cst_2
  let main_v11 : IVec S2048x4 1 := cmpf .olt main_v9 main_v10
  let main_v12 : FVec F S2048x4 .f32 := Host.absf main_arg4
  let main_cst_3 : FVec F S_ .f32 := constant S_ .f32 0x7F800000#32
  let main_v13 : FVec F S2048x4 .f32 := broadcastInDim S2048x4 ![] bcast_S_S2048x4 main_cst_3
  let main_v14 : IVec S2048x4 1 := cmpf .olt main_v12 main_v13
  (main_v2, main_v5, main_v8, main_v11, main_v14)
-- ==== Pre_ffnb_finite.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S2048x1024 .f32) (main_arg2 : FVec F S1024x5632 .f32) (main_arg3 : FVec F S3x5632 .f32) (main_arg4 : FVec F S2816x1024 .f32) : IVec S2048x1024 1 × IVec S2048x1024 1 × IVec S1024x5632 1 × IVec S3x5632 1 × IVec S2816x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x5632 .f32 := Host.absf main_arg3
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_loss_finite.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn_part1 {F : FTy → Type} [FloatOps F] (main_arg6 : FVec F S2048x1024 .f32) (main_v2 : IVec S2048x1024 1) (main_v5 : IVec S2048x1024 1) (main_v8 : IVec S1024x5632 1) (main_v11 : IVec S3x5632 1) (main_v14 : IVec S2816x1024 1) (main_v17 : IVec S1024 1) : IVec S2048x1024 1 × IVec S2048x1024 1 × IVec S1024x5632 1 × IVec S3x5632 1 × IVec S2816x1024 1 × IVec S1024 1 × IVec S2048x1024 1 :=
  let main_v18 : FVec F S2048x1024 .f32 := Host.absf main_arg6
  let main_cst_5 : FVec F S_ .f32 := constant S_ .f32 0x7F800000#32
  let main_v19 : FVec F S2048x1024 .f32 := broadcastInDim S2048x1024 ![] bcast_S_S2048x1024 main_cst_5
  let main_v20 : IVec S2048x1024 1 := cmpf .olt main_v18 main_v19
  (main_v2, main_v5, main_v8, main_v11, main_v14, main_v17, main_v20)

def fn {F : FTy → Type} [FloatOps F] (main_arg0 : FVec F S2048x1024 .f32) (main_arg1 : FVec F S2048x1024 .f32) (main_arg2 : FVec F S1024x5632 .f32) (main_arg3 : FVec F S3x5632 .f32) (main_arg4 : FVec F S2816x1024 .f32) (main_arg5 : FVec F S1024 .f32) (main_arg6 : FVec F S2048x1024 .f32) : IVec S2048x1024 1 × IVec S2048x1024 1 × IVec S1024x5632 1 × IVec S3x5632 1 × IVec S2816x1024 1 × IVec S1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x5632 .f32 := Host.absf main_arg3
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Pre_prep_finite.lean ====
abbrev S2048x512 : Shape := ⟨2, ![2048, 512]⟩
abbrev S2048x4 : Shape := ⟨2, ![2048, 4]⟩
abbrev S2048x1536 : Shape := ⟨2, ![2048, 1536]⟩
abbrev S2048x8 : Shape := ⟨2, ![2048, 8]⟩
abbrev S4x1536 : Shape := ⟨2, ![4, 1536]⟩
abbrev S4 : Shape := ⟨1, ![4]⟩
abbrev S_ : Shape := ⟨0, ![]⟩

class Facts : Prop where
  bcast_S_S2048x512 : S_.BroadcastsInDim S2048x512 (![] : Fin 0 → Fin S2048x512.rank)
  bcast_S_S2048x4 : S_.BroadcastsInDim S2048x4 (![] : Fin 0 → Fin S2048x4.rank)
  bcast_S_S2048x1536 : S_.BroadcastsInDim S2048x1536 (![] : Fin 0 → Fin S2048x1536.rank)
  bcast_S_S2048x8 : S_.BroadcastsInDim S2048x8 (![] : Fin 0 → Fin S2048x8.rank)
  bcast_S_S4x1536 : S_.BroadcastsInDim S4x1536 (![] : Fin 0 → Fin S4x1536.rank)
  bcast_S_S4 : S_.BroadcastsInDim S4 (![] : Fin 0 → Fin S4.rank)

variable [Facts]

def fn_part1 {F : FTy → Type} [FloatOps F] (main_arg7 : FVec F S4x1536 .f32) (main_arg8 : FVec F S4 .f32) (main_arg9 : FVec F S4 .f32) (main_v2 : IVec S2048x512 1) (main_v5 : IVec S2048x512 1) (main_v8 : IVec S2048x512 1) (main_v11 : IVec S2048x4 1) (main_v14 : IVec S2048x1536 1) (main_v17 : IVec S2048x8 1) : IVec S2048x512 1 × IVec S2048x512 1 × IVec S2048x512 1 × IVec S2048x4 1 × IVec S2048x1536 1 × IVec S2048x8 1 × IVec S4x1536 1 × IVec S4 1 × IVec S4 1 :=
  let main_v18 : FVec F S4x1536 .f32 := Host.absf main_arg7
  let main_cst_5 : FVec F S_ .f32 := constant S_ .f32 0x7F800000#32
  let main_v19 : FVec F S4x1536 .f32 := broadcastInDim S4x1536 ![] bcast_S_S4x1536 main_cst_5
  let main_v20 : IVec S4x1536 1 := cmpf .olt main_v18 main_v19
  let main_v21 : FVec F S4 .f32 := Host.absf main_arg8
  let main_cst_6 : FVec F S_ .f32 := constant S_ .f32 0x7F800000#32
  let main_v22 : FVec F S4 .f32 := broadcastInDim S4 ![] bcast_S_S4 main_cst_6
  let main_v23 : IVec S4 1 := cmpf .olt main_v21 main_v22
  let main_v24 : FVec F S4 .f32 := Host.absf main_arg9
  let main_cst_7 : FVec F S_ .f32 := constant S_ .f32 0x7F800000#32
  let main_v25 : FVec F S4 .f32 := broadcastInDim S4 ![] bcast_S_S4 main_cst_7
  let main_v26 : IVec S4 1 := cmpf .olt main_v24 main_v25
  (main_v2, main_v5, main_v8, main_v11, main_v14, main_v17, main_v20, main_v23, main_v26)

def fn {F : FTy → Type} [FloatOps F] (main_arg0 : FVec F S2048x512 .f32) (main_arg1 : FVec F S2048x512 .f32) (main_arg2 : FVec F S2048x512 .f32) (main_arg3 : FVec F S2048x4 .f32) (main_arg4 : FVec F S2048x4 .f32) (main_arg5 : FVec F S2048x1536 .f32) (main_arg6 : FVec F S2048x8 .f32) (main_arg7 : FVec F S4x1536 .f32) (main_arg8 : FVec F S4 .f32) (main_arg9 : FVec F S4 .f32) : IVec S2048x512 1 × IVec S2048x512 1 × IVec S2048x512 1 × IVec S2048x4 1 × IVec S2048x1536 1 × IVec S2048x8 1 × IVec S4x1536 1 × IVec S4 1 × IVec S4 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S2048x4 .f32 := Host.absf main_arg3
  let main_cst_2 : FVec F S_ .f32 := constant S_ .f32 0x7F800000#32
  let main_v10 : FVec F S2048x4 .f32 := broadcastInDim S2048x4 ![] bcast_S_S2048x4 main_cst_2
  let main_v11 : IVec S2048x4 1 := cmpf .olt main_v9 main_v10
  let main_v12 : FVec F S2048x1536 .f32 := Host.absf main_arg5
  let main_cst_3 : FVec F S_ .f32 := constant S_ .f32 0x7F800000#32
  let main_v13 : FVec F S2048x1536 .f32 := broadcastInDim S2048x1536 ![] bcast_S_S2048x1536 main_cst_3
  let main_v14 : IVec S2048x1536 1 := cmpf .olt main_v12 main_v13
  let main_v15 : FVec F S2048x8 .f32 := Host.absf main_arg6
  let main_cst_4 : FVec F S_ .f32 := constant S_ .f32 0x7F800000#32
  let main_v16 : FVec F S2048x8 .f32 := broadcastInDim S2048x8 ![] bcast_S_S2048x8 main_cst_4
  let main_v17 : IVec S2048x8 1 := cmpf .olt main_v15 main_v16
  fn_part1 (F := F) main_arg7 main_arg8 main_arg9 main_v2 main_v5 main_v8 main_v11 main_v14 main_v17
-- ==== Pre_up_finite.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S_ : Shape := ⟨0, ![]⟩

class Facts : Prop where
  bcast_S_S2048x5632 : S_.BroadcastsInDim S2048x5632 (![] : Fin 0 → Fin S2048x5632.rank)
  bcast_S_S1024x5632 : S_.BroadcastsInDim S1024x5632 (![] : Fin 0 → Fin S1024x5632.rank)
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S2048x5632 .f32) (main_arg1 : FVec F S1024x5632 .f32) (main_arg2 : FVec F S2048x1024 .f32) (main_arg3 : FVec F S1024 .f32) (main_arg4 : FVec F S2048x1024 .f32) : IVec S2048x5632 1 × IVec S1024x5632 1 × IVec S2048x1024 1 × IVec S1024 1 :=
  let main_v0 : FVec F S2048x5632 .f32 := Host.absf main_arg0
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== ConvK.lean ====
abbrev S2048x1536 : Shape := ⟨2, ![2048, 1536]⟩
abbrev S2048x8 : Shape := ⟨2, ![2048, 8]⟩
abbrev S4x1536 : Shape := ⟨2, ![4, 1536]⟩
abbrev S_ : Shape := ⟨0, ![]⟩
abbrev S2048x128 : Shape := ⟨2, ![2048, 128]⟩
abbrev S2048x1664 : Shape := ⟨2, ![2048, 1664]⟩
abbrev S256x1536 : Shape := ⟨2, ![256, 1536]⟩
abbrev S8x1536 : Shape := ⟨2, ![8, 1536]⟩
abbrev S256x128 : Shape := ⟨2, ![256, 128]⟩
abbrev S256x1664 : Shape := ⟨2, ![256, 1664]⟩
abbrev S264x1536 : Shape := ⟨2, ![264, 1536]⟩
abbrev S1x1536 : Shape := ⟨2, ![1, 1536]⟩
abbrev S1536 : Shape := ⟨1, ![1536]⟩

abbrev nBuf : Space → Nat
  | .hbm => 14
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x8, .f32⟩
  | .hbm, ⟨2, _⟩ => ⟨S2048x1536, .f32⟩
  | .hbm, ⟨3, _⟩ => ⟨S2048x8, .f32⟩
  | .hbm, ⟨4, _⟩ => ⟨S4x1536, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x1664, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x1664, .bf16⟩
  | .hbm, ⟨13, _⟩ => ⟨S4x1536, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S256x128, .f32⟩
  | .local _ .vmem, ⟨5, _⟩ => ⟨S256x128, .f32⟩
  | .local _ .vmem, ⟨6, _⟩ => ⟨S256x1536, .f32⟩
  | .local _ .vmem, ⟨7, _⟩ => ⟨S256x1536, .f32⟩
  | .local _ .vmem, ⟨8, _⟩ => ⟨S8x1536, .f32⟩
  | .local _ .vmem, ⟨9, _⟩ => ⟨S8x1536, .f32⟩
  | .local _ .vmem, ⟨10, _⟩ => ⟨S4x1536, .f32⟩
  | .local _ .vmem, ⟨11, _⟩ => ⟨S256x1664, .bf16⟩
  | .local _ .vmem, ⟨12, _⟩ => ⟨S256x1664, .bf16⟩
  | .local _ .vmem, ⟨13, _⟩ => ⟨S4x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_20 : BitVec 32 := 0#32
  let v63 : BitVec 1 := Scalar.cmpi .eq arg0 c0_i32_20
  let v64 : BitVec 32 := Scalar.extui v63
  let c0_i32_21 : BitVec 32 := 0#32
  let v65 : BitVec 1 := Scalar.cmpi .ne v64 c0_i32_21
  v65

def k0_cond2 (i : grid0.Coords) : BitVec 1 :=
  let arg0 : BitVec 32 := BitVec.ofNat 32 (i 0).val
  let c0_i32_22 : BitVec 32 := 0#32
  let v66 : BitVec 1 := Scalar.cmpi .sgt arg0 c0_i32_22
  let v67 : BitVec 32 := Scalar.extui v66
  let c0_i32_23 : BitVec 32 := 0#32
  let v68 : BitVec 1 := Scalar.cmpi .ne v67 c0_i32_23
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1664 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvRIdeal.lean ====
abbrev S2048x1536 : Shape := ⟨2, ![2048, 1536]⟩
abbrev S2048x8 : Shape := ⟨2, ![2048, 8]⟩
abbrev S4x1536 : Shape := ⟨2, ![4, 1536]⟩
abbrev S_ : Shape := ⟨0, ![]⟩
abbrev S3x1536 : Shape := ⟨2, ![3, 1536]⟩
abbrev S2051x1536 : Shape := ⟨2, ![2051, 1536]⟩
abbrev S1x1536 : Shape := ⟨2, ![1, 1536]⟩
abbrev S1536 : Shape := ⟨1, ![1536]⟩
abbrev S2048x120 : Shape := ⟨2, ![2048, 120]⟩
abbrev S2048x1664 : Shape := ⟨2, ![2048, 1664]⟩

abbrev nBuf : Space → Nat
  | .hbm => 103
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x8, .f32⟩
  | .hbm, ⟨2, _⟩ => ⟨S2048x1536, .f32⟩
  | .hbm, ⟨3, _⟩ => ⟨S2048x8, .f32⟩
  | .hbm, ⟨4, _⟩ => ⟨S4x1536, .f32⟩
  | .hbm, ⟨5, _⟩ => ⟨S_, .f32⟩
  | .hbm, ⟨6, _⟩ => ⟨S3x1536, .f32⟩
  | .hbm, ⟨7, _⟩ => ⟨S2051x1536, .f32⟩
  | .hbm, ⟨8, _⟩ => ⟨S_, .f32⟩
  | .hbm, ⟨9, _⟩ => ⟨S3x1536, .f32⟩
  | .hbm, ⟨10, _⟩ => ⟨S2048x1536, .f32⟩
  | .hbm, ⟨11, _⟩ => ⟨S1x1536, .f32⟩
  | .hbm, ⟨12, _⟩ => ⟨S1536, .f32⟩
  | .hbm, ⟨13, _⟩ => ⟨S1x1536, .f32⟩
  | .hbm, ⟨14, _⟩ => ⟨S2048x1536, .f32⟩
  | .hbm, ⟨15, _⟩ => ⟨S2048x1536, .f32⟩
  | .hbm, ⟨16, _⟩ => ⟨S2048x1536, .f32⟩
  | .hbm, ⟨17, _⟩ => ⟨S1x1536, .f32⟩
  | .hbm, ⟨18, _⟩ => ⟨S1536, .f32⟩
  | .hbm, ⟨19, _⟩ => ⟨S1x1536, .f32⟩
  | .hbm, ⟨20, _⟩ => ⟨S2048x1536, .f32⟩
  | .hbm, ⟨21, _⟩ => ⟨S2048x1536, .f32⟩
  | .hbm, ⟨22, _⟩ => ⟨S2048x1536, .f32⟩
  | .hbm, ⟨23, _⟩ => ⟨S2048x1536, .f32⟩
  | .hbm, ⟨24, _⟩ => ⟨S1x1536, .f32⟩
  | .hbm, ⟨25, _⟩ => ⟨S1536, .f32⟩
  | .hbm, ⟨26, _⟩ => ⟨S1x1536, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S2048x1536, .f32⟩
  | .hbm, ⟨31, _⟩ => ⟨S1x1536, .f32⟩
  | .hbm, ⟨32, _⟩ => ⟨S1536, .f32⟩
  | .hbm, ⟨33, _⟩ => ⟨S1x1536, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S2048x1536, .f32⟩
  | .hbm, ⟨38, _⟩ => ⟨S2048x1536, .f32⟩
  | .hbm, ⟨39, _⟩ => ⟨S2048x1536, .f32⟩
  | .hbm, ⟨40, _⟩ => ⟨S_, .f32⟩
  | .hbm, ⟨41, _⟩ => ⟨S1536, .f32⟩
  | .hbm, ⟨42, _⟩ => ⟨S1x1536, .f32⟩
  | .hbm, ⟨43, _⟩ => ⟨S2048x1536, .f32⟩
  | .hbm, ⟨44, _⟩ => ⟨S2048x1536, .f32⟩
  | .hbm, ⟨45, _⟩ => ⟨S_, .f32⟩
  | .hbm, ⟨46, _⟩ => ⟨S1536, .f32⟩
  | .hbm, ⟨47, _⟩ => ⟨S1x1536, .f32⟩
  | .hbm, ⟨48, _⟩ => ⟨S_, .f32⟩
  | .hbm, ⟨49, _⟩ => ⟨S4x1536, .f32⟩
  | .hbm, ⟨50, _⟩ => ⟨S_, .f32⟩
  | .hbm, ⟨51, _⟩ => ⟨S2051x1536, .f32⟩
  | .hbm, ⟨52, _⟩ => ⟨S2048x1536, .f32⟩
  | .hbm, ⟨53, _⟩ => ⟨S_, .f32⟩
  | .hbm, ⟨54, _⟩ => ⟨S1536, .f32⟩
  | .hbm, ⟨55, _⟩ => ⟨S1x1536, .f32⟩
  | .hbm, ⟨56, _⟩ => ⟨S2048x1536, .f32⟩
  | .hbm, ⟨57, _⟩ => ⟨S2048x1536, .f32⟩
  | .hbm, ⟨58, _⟩ => ⟨S_, .f32⟩
  | .hbm, ⟨59, _⟩ => ⟨S1536, .f32⟩
  | .hbm, ⟨60, _⟩ => ⟨S1x1536, .f32⟩
  | .hbm, ⟨61, _⟩ => ⟨S_, .f32⟩
  | .hbm, ⟨62, _⟩ => ⟨S4x1536, .f32⟩
  | .hbm, ⟨63, _⟩ => ⟨S4x1536, .f32⟩
  | .hbm, ⟨64, _⟩ => ⟨S_, .f32⟩
  | .hbm, ⟨65, _⟩ => ⟨S2051x1536, .f32⟩
  | .hbm, ⟨66, _⟩ => ⟨S2051x1536, .f32⟩
  | .hbm, ⟨67, _⟩ => ⟨S2048x1536, .f32⟩
  | .hbm, ⟨68, _⟩ => ⟨S_, .f32⟩
  | .hbm, ⟨69, _⟩ => ⟨S1536, .f32⟩
  | .hbm, ⟨70, _⟩ => ⟨S1x1536, .f32⟩
  | .hbm, ⟨71, _⟩ => ⟨S2048x1536, .f32⟩
  | .hbm, ⟨72, _⟩ => ⟨S2048x1536, .f32⟩
  | .hbm, ⟨73, _⟩ => ⟨S_, .f32⟩
  | .hbm, ⟨74, _⟩ => ⟨S1536, .f32⟩
  | .hbm, ⟨75, _⟩ => ⟨S1x1536, .f32⟩
  | .hbm, ⟨76, _⟩ => ⟨S_, .f32⟩
  | .hbm, ⟨77, _⟩ => ⟨S4x1536, .f32⟩
  | .hbm, ⟨78, _⟩ => ⟨S4x1536, .f32⟩
  | .hbm, ⟨79, _⟩ => ⟨S_, .f32⟩
  | .hbm, ⟨80, _⟩ => ⟨S2051x1536, .f32⟩
  | .hbm, ⟨81, _⟩ => ⟨S2051x1536, .f32⟩
  | .hbm, ⟨82, _⟩ => ⟨S2048x1536, .f32⟩
  | .hbm, ⟨83, _⟩ => ⟨S_, .f32⟩
  | .hbm, ⟨84, _⟩ => ⟨S1536, .f32⟩
  | .hbm, ⟨85, _⟩ => ⟨S1x1536, .f32⟩
  | .hbm, ⟨86, _⟩ => ⟨S2048x1536, .f32⟩
  | .hbm, ⟨87, _⟩ => ⟨S2048x1536, .f32⟩
  | .hbm, ⟨88, _⟩ => ⟨S_, .f32⟩
  | .hbm, ⟨89, _⟩ => ⟨S1536, .f32⟩
  | .hbm, ⟨90, _⟩ => ⟨S1x1536, .f32⟩
  | .hbm, ⟨91, _⟩ => ⟨S_, .f32⟩
  | .hbm, ⟨92, _⟩ => ⟨S4x1536, .f32⟩
  | .hbm, ⟨93, _⟩ => ⟨S4x1536, .f32⟩
  | .hbm, ⟨94, _⟩ => ⟨S_, .f32⟩
  | .hbm, ⟨95, _⟩ => ⟨S2051x1536, .f32⟩
  | .hbm, ⟨96, _⟩ => ⟨S2051x1536, .f32⟩
  | .hbm, ⟨97, _⟩ => ⟨S3x1536, .f32⟩
  | .hbm, ⟨98, _⟩ => ⟨S2048x1536, .f32⟩
  | .hbm, ⟨99, _⟩ => ⟨S_, .f32⟩
  | .hbm, ⟨100, _⟩ => ⟨S2048x120, .f32⟩
  | .hbm, ⟨101, _⟩ => ⟨S2048x1664, .f32⟩
  | .hbm, ⟨102, _⟩ => ⟨S2048x1664, .bf16⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_cst_16 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_17 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== PrepK.lean ====
abbrev S2048x512 : Shape := ⟨2, ![2048, 512]⟩
abbrev S2048x4 : Shape := ⟨2, ![2048, 4]⟩
abbrev S2048x1536 : Shape := ⟨2, ![2048, 1536]⟩
abbrev S2048x8 : Shape := ⟨2, ![2048, 8]⟩
abbrev S4x1536 : Shape := ⟨2, ![4, 1536]⟩
abbrev S4 : Shape := ⟨1, ![4]⟩
abbrev S_ : Shape := ⟨0, ![]⟩
abbrev S2048x128 : Shape := ⟨2, ![2048, 128]⟩
abbrev S2048x1664 : Shape := ⟨2, ![2048, 1664]⟩
abbrev S1x4 : Shape := ⟨2, ![1, 4]⟩
abbrev S1x128 : Shape := ⟨2, ![1, 128]⟩
abbrev S256x512 : Shape := ⟨2, ![256, 512]⟩
abbrev S256x128 : Shape := ⟨2, ![256, 128]⟩
abbrev S256x1536 : Shape := ⟨2, ![256, 1536]⟩
abbrev S8x1536 : Shape := ⟨2, ![8, 1536]⟩
abbrev S264x1536 : Shape := ⟨2, ![264, 1536]⟩
abbrev S1x1536 : Shape := ⟨2, ![1, 1536]⟩
abbrev S256 : Shape := ⟨1, ![256]⟩
abbrev S256x1 : Shape := ⟨2, ![256, 1]⟩
abbrev S1x1 : Shape := ⟨2, ![1, 1]⟩
abbrev S1 : Shape := ⟨1, ![1]⟩

abbrev nBuf : Space → Nat
  | .hbm => 25
  | .vmem => 24
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x4, .f32⟩
  | .hbm, ⟨4, _⟩ => ⟨S2048x4, .f32⟩
  | .hbm, ⟨5, _⟩ => ⟨S2048x1536, .f32⟩
  | .hbm, ⟨6, _⟩ => ⟨S2048x8, .f32⟩
  | .hbm, ⟨7, _⟩ => ⟨S4x1536, .f32⟩
  | .hbm, ⟨8, _⟩ => ⟨S4, .f32⟩
  | .hbm, ⟨9, _⟩ => ⟨S4, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x1664, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S_, .i32⟩
  | .hbm, ⟨18, _⟩ => ⟨S_, .f32⟩
  | .hbm, ⟨19, _⟩ => ⟨S2048x128, .f32⟩
  | .hbm, ⟨20, _⟩ => ⟨S1x4, .f32⟩
  | .hbm, ⟨21, _⟩ => ⟨S1x4, .f32⟩
  | .hbm, ⟨22, _⟩ => ⟨S2048x1536, .f32⟩
  | .hbm, ⟨23, _⟩ => ⟨S2048x128, .f32⟩
  | .hbm, ⟨24, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1536, .f32⟩
  | .local _ .vmem, ⟨11, _⟩ => ⟨S256x1536, .f32⟩
  | .local _ .vmem, ⟨12, _⟩ => ⟨S8x1536, .f32⟩
  | .local _ .vmem, ⟨13, _⟩ => ⟨S8x1536, .f32⟩
  | .local _ .vmem, ⟨14, _⟩ => ⟨S256x128, .f32⟩
  | .local _ .vmem, ⟨15, _⟩ => ⟨S256x128, .f32⟩
  | .local _ .vmem, ⟨16, _⟩ => ⟨S4x1536, .f32⟩
  | .local _ .vmem, ⟨17, _⟩ => ⟨S1x4, .f32⟩
  | .local _ .vmem, ⟨18, _⟩ => ⟨S1x4, .f32⟩
  | .local _ .vmem, ⟨19, _⟩ => ⟨S256x1536, .f32⟩
  | .local _ .vmem, ⟨20, _⟩ => ⟨S256x1536, .f32⟩
  | .local _ .vmem, ⟨21, _⟩ => ⟨S256x128, .f32⟩
  | .local _ .vmem, ⟨22, _⟩ => ⟨S256x128, .f32⟩
  | .local _ .vmem, ⟨23, _⟩ => ⟨S1x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_c_1 : Ref sig .tc := ⟨.hbm, 17, rfl⟩
abbrev main_call2_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6_0 : Ref sig .tc := ⟨.hbm, 22, rfl⟩
abbrev main_v6_1 : Ref sig .tc := ⟨.hbm, 23, rfl⟩
abbrev main_v6_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_161 : BitVec 32 := 0#32
  let v512 : BitVec 1 := Scalar.cmpi .eq arg0 c0_i32_161
  let v513 : BitVec 32 := Scalar.extui v512
  let c0_i32_162 : BitVec 32 := 0#32
  let v514 : BitVec 1 := Scalar.cmpi .ne v513 c0_i32_162
  v514

def k0_cond2 (i : grid0.Coords) : BitVec 1 :=
  let arg0 : BitVec 32 := BitVec.ofNat 32 (i 0).val
  let c0_i32_163 : BitVec 32 := 0#32
  let v515 : BitVec 1 := Scalar.cmpi .sgt arg0 c0_i32_163
  let v516 : BitVec 32 := Scalar.extui v515
  let c0_i32_164 : BitVec 32 := 0#32
  let v517 : BitVec 1 := Scalar.cmpi .ne v516 c0_i32_164
  v517

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PrepRIdeal.lean ====
abbrev S2048x512 : Shape := ⟨2, ![2048, 512]⟩
abbrev S2048x4 : Shape := ⟨2, ![2048, 4]⟩
abbrev S2048x1536 : Shape := ⟨2, ![2048, 1536]⟩
abbrev S2048x8 : Shape := ⟨2, ![2048, 8]⟩
abbrev S4x1536 : Shape := ⟨2, ![4, 1536]⟩
abbrev S4 : Shape := ⟨1, ![4]⟩
abbrev S_ : Shape := ⟨0, ![]⟩
abbrev S3x1536 : Shape := ⟨2, ![3, 1536]⟩
abbrev S2051x1536 : Shape := ⟨2, ![2051, 1536]⟩
abbrev S1x1536 : Shape := ⟨2, ![1, 1536]⟩
abbrev S1536 : Shape := ⟨1, ![1536]⟩
abbrev S2048x4x128 : Shape := ⟨3, ![2048, 4, 128]⟩
abbrev S2048x4x1 : Shape := ⟨3, ![2048, 4, 1]⟩
abbrev S1x4 : Shape := ⟨2, ![1, 4]⟩
abbrev S2048x120 : Shape := ⟨2, ![2048, 120]⟩
abbrev S2048x128 : Shape := ⟨2, ![2048, 128]⟩
abbrev S120 : Shape := ⟨1, ![120]⟩
abbrev S128 : Shape := ⟨1, ![128]⟩
abbrev S1x128 : Shape := ⟨2, ![1, 128]⟩

abbrev nBuf : Space → Nat
  | .hbm => 230
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x4, .f32⟩
  | 4 => ⟨S2048x4, .f32⟩
  | 5 => ⟨S2048x1536, .f32⟩
  | 6 => ⟨S2048x8, .f32⟩
  | 7 => ⟨S4x1536, .f32⟩
  | 8 => ⟨S4, .f32⟩
  | 9 => ⟨S4, .f32⟩
  | 10 => ⟨S_, .f32⟩
  | 11 => ⟨S3x1536, .f32⟩
  | 12 => ⟨S2051x1536, .f32⟩
  | 13 => ⟨S2048x1536, .f32⟩
  | 14 => ⟨S1x1536, .f32⟩
  | 15 => ⟨S1536, .f32⟩
  | 16 => ⟨S1x1536, .f32⟩
  | 17 => ⟨S2048x1536, .f32⟩
  | 18 => ⟨S2048x1536, .f32⟩
  | 19 => ⟨S2048x1536, .f32⟩
  | 20 => ⟨S1x1536, .f32⟩
  | 21 => ⟨S1536, .f32⟩
  | 22 => ⟨S1x1536, .f32⟩
  | 23 => ⟨S2048x1536, .f32⟩
  | 24 => ⟨S2048x1536, .f32⟩
  | 25 => ⟨S2048x1536, .f32⟩
  | 26 => ⟨S2048x1536, .f32⟩
  | 27 => ⟨S1x1536, .f32⟩
  | 28 => ⟨S1536, .f32⟩
  | 29 => ⟨S1x1536, .f32⟩
  | 30 => ⟨S2048x1536, .f32⟩
  | 31 => ⟨S2048x1536, .f32⟩
  | 32 => ⟨S2048x1536, .f32⟩
  | 33 => ⟨S2048x1536, .f32⟩
  | 34 => ⟨S1x1536, .f32⟩
  | 35 => ⟨S1536, .f32⟩
  | 36 => ⟨S1x1536, .f32⟩
  | 37 => ⟨S2048x1536, .f32⟩
  | 38 => ⟨S2048x1536, .f32⟩
  | 39 => ⟨S2048x1536, .f32⟩
  | 40 => ⟨S2048x4, .f32⟩
  | 41 => ⟨S2048x4, .f32⟩
  | 42 => ⟨S2048x1536, .f32⟩
  | 43 => ⟨S2048x1536, .f32⟩
  | 44 => ⟨S_, .f32⟩
  | 45 => ⟨S2048x1536, .f32⟩
  | 46 => ⟨S2048x1536, .f32⟩
  | 47 => ⟨S_, .f32⟩
  | 48 => ⟨S2048x1536, .f32⟩
  | 49 => ⟨S2048x1536, .f32⟩
  | 50 => ⟨S_, .f32⟩
  | 51 => ⟨S2048x1536, .f32⟩
  | 52 => ⟨S2048x1536, .f32⟩
  | 53 => ⟨S2048x1536, .f32⟩
  | 54 => ⟨S2048x1536, .f32⟩
  | 55 => ⟨S2048x512, .f32⟩
  | 56 => ⟨S2048x4x128, .f32⟩
  | 57 => ⟨S2048x512, .f32⟩
  | 58 => ⟨S2048x4x128, .f32⟩
  | 59 => ⟨S2048x512, .f32⟩
  | 60 => ⟨S2048x4x128, .f32⟩
  | 61 => ⟨S_, .f32⟩
  | 62 => ⟨S2048x4, .f32⟩
  | 63 => ⟨S2048x4x1, .f32⟩
  | 64 => ⟨S_, .f32⟩
  | 65 => ⟨S2048x4x1, .f32⟩
  | 66 => ⟨S2048x4x1, .f32⟩
  | 67 => ⟨S2048x4x1, .f32⟩
  | 68 => ⟨S2048x4x1, .f32⟩
  | 69 => ⟨S_, .f32⟩
  | 70 => ⟨S2048x4x1, .f32⟩
  | 71 => ⟨S2048x4x1, .f32⟩
  | 72 => ⟨S2048x4x128, .f32⟩
  | 73 => ⟨S2048x4x128, .f32⟩
  | 74 => ⟨S_, .f32⟩
  | 75 => ⟨S2048x4x128, .f32⟩
  | 76 => ⟨S2048x4x128, .f32⟩
  | 77 => ⟨S2048x4x128, .f32⟩
  | 78 => ⟨S_, .f32⟩
  | 79 => ⟨S2048x4, .f32⟩
  | 80 => ⟨S2048x4x1, .f32⟩
  | 81 => ⟨S_, .f32⟩
  | 82 => ⟨S2048x4x1, .f32⟩
  | 83 => ⟨S2048x4x1, .f32⟩
  | 84 => ⟨S2048x4x1, .f32⟩
  | 85 => ⟨S2048x4x1, .f32⟩
  | 86 => ⟨S_, .f32⟩
  | 87 => ⟨S2048x4x1, .f32⟩
  | 88 => ⟨S2048x4x1, .f32⟩
  | 89 => ⟨S2048x4x128, .f32⟩
  | 90 => ⟨S2048x4x128, .f32⟩
  | 91 => ⟨S2048x4, .f32⟩
  | 92 => ⟨S2048x4, .f32⟩
  | 93 => ⟨S_, .f32⟩
  | 94 => ⟨S2048x4, .f32⟩
  | 95 => ⟨S2048x4, .f32⟩
  | 96 => ⟨S_, .f32⟩
  | 97 => ⟨S2048x4, .f32⟩
  | 98 => ⟨S2048x4, .f32⟩
  | 99 => ⟨S_, .f32⟩
  | 100 => ⟨S2048x4, .f32⟩
  | 101 => ⟨S2048x4, .f32⟩
  | 102 => ⟨S2048x4, .f32⟩
  | 103 => ⟨S4, .f32⟩
  | 104 => ⟨S4, .f32⟩
  | 105 => ⟨S1x4, .f32⟩
  | 106 => ⟨S2048x4, .f32⟩
  | 107 => ⟨S2048x4, .f32⟩
  | 108 => ⟨S_, .f32⟩
  | 109 => ⟨S2048x4, .f32⟩
  | 110 => ⟨S2048x4, .f32⟩
  | 111 => ⟨S2048x4, .f32⟩
  | 112 => ⟨S2048x4, .f32⟩
  | 113 => ⟨S2048x4, .i1⟩
  | 114 => ⟨S2048x4, .f32⟩
  | 115 => ⟨S2048x4, .f32⟩
  | 116 => ⟨S2048x4, .f32⟩
  | 117 => ⟨S2048x4, .f32⟩
  | 118 => ⟨S2048x4, .f32⟩
  | 119 => ⟨S2048x4, .f32⟩
  | 120 => ⟨S2048x4, .f32⟩
  | 121 => ⟨S2048x4, .f32⟩
  | 122 => ⟨S_, .f32⟩
  | 123 => ⟨S2048x4, .f32⟩
  | 124 => ⟨S2048x4, .i1⟩
  | 125 => ⟨S_, .f32⟩
  | 126 => ⟨S2048x4, .f32⟩
  | 127 => ⟨S2048x4, .f32⟩
  | _ => ⟨S2048x512, .f32⟩

abbrev hbmTy0_1 (i : Nat) : BufTy := match i % 128 with
  | 0 => ⟨S_, .f32⟩
  | 1 => ⟨S2048x4, .f32⟩
  | 2 => ⟨S2048x4, .i1⟩
  | 3 => ⟨S_, .f32⟩
  | 4 => ⟨S2048x4, .f32⟩
  | 5 => ⟨S2048x4, .f32⟩
  | 6 => ⟨S2048x4, .f32⟩
  | 7 => ⟨S2048x4, .f32⟩
  | 8 => ⟨S_, .f32⟩
  | 9 => ⟨S_, .f32⟩
  | 10 => ⟨S_, .i1⟩
  | 11 => ⟨S_, .f32⟩
  | 12 => ⟨S_, .f32⟩
  | 13 => ⟨S_, .f32⟩
  | 14 => ⟨S_, .f32⟩
  | 15 => ⟨S2048x4, .f32⟩
  | 16 => ⟨S2048x4, .i1⟩
  | 17 => ⟨S_, .f32⟩
  | 18 => ⟨S2048x4, .f32⟩
  | 19 => ⟨S2048x4, .f32⟩
  | 20 => ⟨S2048x4, .f32⟩
  | 21 => ⟨S2048x4, .f32⟩
  | 22 => ⟨S2048x4, .f32⟩
  | 23 => ⟨S_, .f32⟩
  | 24 => ⟨S2048x4, .f32⟩
  | 25 => ⟨S2048x4, .f32⟩
  | 26 => ⟨S1x4, .f32⟩
  | 27 => ⟨S2048x4, .f32⟩
  | 28 => ⟨S2048x4, .f32⟩
  | 29 => ⟨S2048x512, .f32⟩
  | 30 => ⟨S2048x512, .f32⟩
  | 31 => ⟨S2048x4x128, .f32⟩
  | 32 => ⟨S2048x4x128, .f32⟩
  | 33 => ⟨S2048x4, .f32⟩
  | 34 => ⟨S2048x4, .f32⟩
  | 35 => ⟨S2048x4, .f32⟩
  | 36 => ⟨S_, .f32⟩
  | 37 => ⟨S4, .f32⟩
  | 38 => ⟨S1x4, .f32⟩
  | 39 => ⟨S_, .f32⟩
  | 40 => ⟨S4, .f32⟩
  | 41 => ⟨S2048x4, .f32⟩
  | 42 => ⟨S_, .f32⟩
  | 43 => ⟨S4, .f32⟩
  | 44 => ⟨S1x4, .f32⟩
  | 45 => ⟨S_, .f32⟩
  | 46 => ⟨S4, .f32⟩
  | 47 => ⟨S4, .f32⟩
  | 48 => ⟨S4, .f32⟩
  | 49 => ⟨S2048x4, .f32⟩
  | 50 => ⟨S2048x4x128, .f32⟩
  | 51 => ⟨S_, .f32⟩
  | 52 => ⟨S2048x4, .f32⟩
  | 53 => ⟨S2048x4x1, .f32⟩
  | 54 => ⟨S2048x4x128, .f32⟩
  | 55 => ⟨S2048x4x128, .f32⟩
  | 56 => ⟨S2048x4x1, .f32⟩
  | 57 => ⟨S_, .f32⟩
  | 58 => ⟨S2048x4, .f32⟩
  | 59 => ⟨S2048x4x128, .f32⟩
  | 60 => ⟨S2048x4x128, .f32⟩
  | 61 => ⟨S2048x4x128, .f32⟩
  | 62 => ⟨S2048x4x128, .f32⟩
  | 63 => ⟨S2048x4x128, .f32⟩
  | 64 => ⟨S_, .f32⟩
  | 65 => ⟨S2048x4x128, .f32⟩
  | 66 => ⟨S2048x4x128, .f32⟩
  | 67 => ⟨S2048x4x128, .f32⟩
  | 68 => ⟨S_, .f32⟩
  | 69 => ⟨S2048x4, .f32⟩
  | 70 => ⟨S2048x4x1, .f32⟩
  | 71 => ⟨S2048x4x128, .f32⟩
  | 72 => ⟨S2048x4x128, .f32⟩
  | 73 => ⟨S2048x4x1, .f32⟩
  | 74 => ⟨S_, .f32⟩
  | 75 => ⟨S2048x4, .f32⟩
  | 76 => ⟨S2048x4x128, .f32⟩
  | 77 => ⟨S2048x4x128, .f32⟩
  | 78 => ⟨S2048x4x128, .f32⟩
  | 79 => ⟨S2048x4x128, .f32⟩
  | 80 => ⟨S2048x4x128, .f32⟩
  | 81 => ⟨S_, .f32⟩
  | 82 => ⟨S2048x1536, .f32⟩
  | 83 => ⟨S2048x512, .f32⟩
  | 84 => ⟨S_, .f32⟩
  | 85 => ⟨S2048x1536, .f32⟩
  | 86 => ⟨S2048x1536, .f32⟩
  | 87 => ⟨S2048x512, .f32⟩
  | 88 => ⟨S_, .f32⟩
  | 89 => ⟨S2048x1536, .f32⟩
  | 90 => ⟨S2048x1536, .f32⟩
  | 91 => ⟨S2048x1536, .f32⟩
  | 92 => ⟨S2048x1536, .f32⟩
  | 93 => ⟨S2048x1536, .f32⟩
  | 94 => ⟨S2048x1536, .f32⟩
  | 95 => ⟨S_, .f32⟩
  | 96 => ⟨S2048x120, .f32⟩
  | 97 => ⟨S2048x128, .f32⟩
  | 98 => ⟨S_, .f32⟩
  | 99 => ⟨S120, .f32⟩
  | 100 => ⟨S128, .f32⟩
  | 101 => ⟨S1x128, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v31_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v31_1 : Ref sig .tc := ⟨.hbm, 53, rfl⟩
abbrev main_v31_0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_0 : Ref sig .tc := ⟨.hbm, 61, rfl⟩
abbrev main_v38 : Ref sig .tc := ⟨.hbm, 62, rfl⟩
abbrev main_v39 : Ref sig .tc := ⟨.hbm, 63, rfl⟩
abbrev main_cst_1 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_2 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_3 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_4 : Ref sig .tc := ⟨.hbm, 78, rfl⟩
abbrev main_v51 : Ref sig .tc := ⟨.hbm, 79, rfl⟩
abbrev main_v52 : Ref sig .tc := ⟨.hbm, 80, rfl⟩
abbrev main_cst_5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_7 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_v65 : Ref sig .tc := ⟨.hbm, 97, rfl⟩
abbrev main_v66 : Ref sig .tc := ⟨.hbm, 98, rfl⟩
abbrev main_cst_9 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call1_cst : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_v5 : Ref sig .tc := ⟨.hbm, 114, rfl⟩
abbrev main_call1_v6 : Ref sig .tc := ⟨.hbm, 115, rfl⟩
abbrev main_call1_v7 : Ref sig .tc := ⟨.hbm, 116, rfl⟩
abbrev main_call1_v8 : Ref sig .tc := ⟨.hbm, 117, rfl⟩
abbrev main_call1_v9 : Ref sig .tc := ⟨.hbm, 118, rfl⟩
abbrev main_call1_v10 : Ref sig .tc := ⟨.hbm, 119, rfl⟩
abbrev main_call1_v11 : Ref sig .tc := ⟨.hbm, 120, rfl⟩
abbrev main_v75_0 : Ref sig .tc := ⟨.hbm, 121, rfl⟩
abbrev main_call1_cst_0 : Ref sig .tc := ⟨.hbm, 122, rfl⟩
abbrev main_call1_v13 : Ref sig .tc := ⟨.hbm, 123, rfl⟩
abbrev main_call1_v14 : Ref sig .tc := ⟨.hbm, 124, rfl⟩
abbrev main_call1_cst_1 : Ref sig .tc := ⟨.hbm, 125, rfl⟩
abbrev main_call1_v15 : Ref sig .tc := ⟨.hbm, 126, rfl⟩
abbrev main_call1_v16 : Ref sig .tc := ⟨.hbm, 127, rfl⟩
abbrev main_call1_cst_2 : Ref sig .tc := ⟨.hbm, 128, rfl⟩
abbrev main_call1_v17 : Ref sig .tc := ⟨.hbm, 129, rfl⟩
abbrev main_call1_v18 : Ref sig .tc := ⟨.hbm, 130, rfl⟩
abbrev main_call1_cst_3 : Ref sig .tc := ⟨.hbm, 131, rfl⟩
abbrev main_call1_v19 : Ref sig .tc := ⟨.hbm, 132, rfl⟩
abbrev main_call1_v20 : Ref sig .tc := ⟨.hbm, 133, rfl⟩
abbrev main_call1_v21 : Ref sig .tc := ⟨.hbm, 134, rfl⟩
abbrev main_v75_1 : Ref sig .tc := ⟨.hbm, 135, rfl⟩
abbrev main_call1_cst_4 : Ref sig .tc := ⟨.hbm, 136, rfl⟩
abbrev main_call1_cst_5 : Ref sig .tc := ⟨.hbm, 137, rfl⟩
abbrev main_call1_v23 : Ref sig .tc := ⟨.hbm, 138, rfl⟩
abbrev main_call1_cst_6 : Ref sig .tc := ⟨.hbm, 139, rfl⟩
abbrev main_call1_cst_7 : Ref sig .tc := ⟨.hbm, 140, rfl⟩
abbrev main_call1_v24 : Ref sig .tc := ⟨.hbm, 141, rfl⟩
abbrev main_call1_cst_8 : Ref sig .tc := ⟨.hbm, 142, rfl⟩
abbrev main_call1_v25 : Ref sig .tc := ⟨.hbm, 143, rfl⟩
abbrev main_call1_v26 : Ref sig .tc := ⟨.hbm, 144, rfl⟩
abbrev main_call1_cst_9 : Ref sig .tc := ⟨.hbm, 145, rfl⟩
abbrev main_call1_v27 : Ref sig .tc := ⟨.hbm, 146, rfl⟩
abbrev main_call1_v28 : Ref sig .tc := ⟨.hbm, 147, rfl⟩
abbrev main_call1_v29 : Ref sig .tc := ⟨.hbm, 148, rfl⟩
abbrev main_call1_v30 : Ref sig .tc := ⟨.hbm, 149, rfl⟩
abbrev main_call1_v31 : Ref sig .tc := ⟨.hbm, 150, rfl⟩
abbrev main_call1_cst_10 : Ref sig .tc := ⟨.hbm, 151, rfl⟩
abbrev main_call1_v32 : Ref sig .tc := ⟨.hbm, 152, rfl⟩
abbrev main_v75_2 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_cst_10 : Ref sig .tc := ⟨.hbm, 164, rfl⟩
abbrev main_v86 : Ref sig .tc := ⟨.hbm, 165, rfl⟩
abbrev main_v87 : Ref sig .tc := ⟨.hbm, 166, rfl⟩
abbrev main_cst_11 : Ref sig .tc := ⟨.hbm, 167, rfl⟩
abbrev main_v88 : Ref sig .tc := ⟨.hbm, 168, rfl⟩
abbrev main_v89 : Ref sig .tc := ⟨.hbm, 169, rfl⟩
abbrev main_cst_12 : Ref sig .tc := ⟨.hbm, 170, rfl⟩
abbrev main_v90 : Ref sig .tc := ⟨.hbm, 171, rfl⟩
abbrev main_v91 : Ref sig .tc := ⟨.hbm, 172, rfl⟩
abbrev main_cst_13 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_cst_14 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_cst_15 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_cst_16 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_cst_17 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_cst_18 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_cst_19 : Ref sig .tc := ⟨.hbm, 209, rfl⟩
abbrev main_v122 : Ref sig .tc := ⟨.hbm, 210, rfl⟩
abbrev main_v123 : Ref sig .tc := ⟨.hbm, 211, rfl⟩
abbrev main_cst_20 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_cst_21 : Ref sig .tc := ⟨.hbm, 216, rfl⟩
abbrev main_v127 : Ref sig .tc := ⟨.hbm, 217, rfl⟩
abbrev main_v128 : Ref sig .tc := ⟨.hbm, 218, rfl⟩
abbrev main_call3_v0 : Ref sig .tc := ⟨.hbm, 219, rfl⟩
abbrev main_call3_v1 : Ref sig .tc := ⟨.hbm, 220, rfl⟩
abbrev main_call3_v2 : Ref sig .tc := ⟨.hbm, 221, rfl⟩
abbrev main_v129 : Ref sig .tc := ⟨.hbm, 222, rfl⟩
abbrev main_cst_22 : Ref sig .tc := ⟨.hbm, 223, rfl⟩
abbrev main_v130 : Ref sig .tc := ⟨.hbm, 224, rfl⟩
abbrev main_v131 : Ref sig .tc := ⟨.hbm, 225, rfl⟩
abbrev main_cst_23 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩

abbrev nD : Nat := 1
abbrev τ : Topo := Topo.v7x

variable {F : FTy → Type} [FloatOps F]
-- ==== UpK.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S2048x2x4x704 : Shape := ⟨4, ![2048, 2, 4, 704]⟩
abbrev S4x2x2048x704 : Shape := ⟨4, ![4, 2, 2048, 704]⟩
abbrev S8x2048x704 : Shape := ⟨3, ![8, 2048, 704]⟩
abbrev S1024x8x704 : Shape := ⟨3, ![1024, 8, 704]⟩
abbrev S8x704x1024 : Shape := ⟨3, ![8, 704, 1024]⟩
abbrev S1x1024 : Shape := ⟨2, ![1, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x2x4x704, .f32⟩
  | .hbm, ⟨6, _⟩ => ⟨S4x2x2048x704, .f32⟩
  | .hbm, ⟨7, _⟩ => ⟨S4x2x2048x704, .bf16⟩
  | .hbm, ⟨8, _⟩ => ⟨S8x2048x704, .bf16⟩
  | .hbm, ⟨9, _⟩ => ⟨S1024x8x704, .f32⟩
  | .hbm, ⟨10, _⟩ => ⟨S8x704x1024, .f32⟩
  | .hbm, ⟨11, _⟩ => ⟨S8x704x1024, .bf16⟩
  | .hbm, ⟨12, _⟩ => ⟨S1x1024, .f32⟩
  | .hbm, ⟨13, _⟩ => ⟨S2048x1024, .f32⟩
  | .hbm, ⟨14, _⟩ => ⟨S1x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32_25 : BitVec 32 := 0#32
  let v46 : BitVec 1 := Scalar.cmpi .eq arg0 c0_i32_25
  let v47 : BitVec 32 := Scalar.extui v46
  let c0_i32_26 : BitVec 32 := 0#32
  let v48 : BitVec 1 := Scalar.cmpi .ne v47 c0_i32_26
  v48

def k0_cond5 (i : grid0.Coords) : BitVec 1 :=
  let arg0 : BitVec 32 := BitVec.ofNat 32 (i 0).val
  let c0_i32_27 : BitVec 32 := 0#32
  let v49 : BitVec 1 := Scalar.cmpi .sgt arg0 c0_i32_27
  let v50 : BitVec 32 := Scalar.extui v49
  let c0_i32_28 : BitVec 32 := 0#32
  let v51 : BitVec 1 := Scalar.cmpi .ne v50 c0_i32_28
  v51

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.andi arg2 c1_i32
  let c4_i32 : BitVec 32 := 4#32
  let v1 : BitVec 32 := Scalar.muli c4_i32 v0
  let c1_i32_0 : BitVec 32 := 1#32
  let v2 : BitVec 32 := Scalar.shrsi arg2 c1_i32_0
  let v3 : BitVec 32 := Scalar.addi v1 v2
  let c0_i32 : BitVec 32 := 0#32
  let c0_i32_1 : BitVec 32 := 0#32
  ![v3.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpRIdeal.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x5632, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== FfnK.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S2048x5632 : Shape := ⟨2, ![2048, 5632]⟩
abbrev S2048x2x4x704 : Shape := ⟨4, ![2048, 2, 4, 704]⟩
abbrev S2x4x2048x704 : Shape := ⟨4, ![2, 4, 2048, 704]⟩
abbrev S3x8x704 : Shape := ⟨3, ![3, 8, 704]⟩
abbrev S8x3x704 : Shape := ⟨3, ![8, 3, 704]⟩
abbrev S1x4x2048x704 : Shape := ⟨4, ![1, 4, 2048, 704]⟩
abbrev S4x2048x704 : Shape := ⟨3, ![4, 2048, 704]⟩
abbrev S4x2x2048x704 : Shape := ⟨4, ![4, 2, 2048, 704]⟩
abbrev S4x2x704x1024 : Shape := ⟨4, ![4, 2, 704, 1024]⟩
abbrev S4x2x3x704 : Shape := ⟨4, ![4, 2, 3, 704]⟩
abbrev S512x1024 : Shape := ⟨2, ![512, 1024]⟩
abbrev S16x1024 : Shape := ⟨2, ![16, 1024]⟩
abbrev S1x512x704 : Shape := ⟨3, ![1, 512, 704]⟩
abbrev S1x16x704 : Shape := ⟨3, ![1, 16, 704]⟩
abbrev S1x3x704 : Shape := ⟨3, ![1, 3, 704]⟩
abbrev S704x1024 : Shape := ⟨2, ![704, 1024]⟩
abbrev S1x2x512x704 : Shape := ⟨4, ![1, 2, 512, 704]⟩
abbrev S1x2x704x1024 : Shape := ⟨4, ![1, 2, 704, 1024]⟩
abbrev S1x2x3x704 : Shape := ⟨4, ![1, 2, 3, 704]⟩
abbrev S8x704 : Shape := ⟨2, ![8, 704]⟩
abbrev S528x1024 : Shape := ⟨2, ![528, 1024]⟩
abbrev S528x1 : Shape := ⟨2, ![528, 1]⟩
abbrev S528x704 : Shape := ⟨2, ![528, 704]⟩
abbrev S544x1 : Shape := ⟨2, ![544, 1]⟩
abbrev S16x704 : Shape := ⟨2, ![16, 704]⟩
abbrev S512x704 : Shape := ⟨2, ![512, 704]⟩
abbrev S544x704 : Shape := ⟨2, ![544, 704]⟩
abbrev S3x704 : Shape := ⟨2, ![3, 704]⟩
abbrev S1x704 : Shape := ⟨2, ![1, 704]⟩
abbrev S1x1x512x704 : Shape := ⟨4, ![1, 1, 512, 704]⟩
abbrev S704 : Shape := ⟨1, ![704]⟩
abbrev S1x1x704x1024 : Shape := ⟨4, ![1, 1, 704, 1024]⟩
abbrev S1x1x3x704 : Shape := ⟨4, ![1, 1, 3, 704]⟩

abbrev nBuf : Space → Nat
  | .hbm => 22
  | .vmem => 37
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S2048x5632, .f32⟩
  | .hbm, ⟨6, _⟩ => ⟨S2048x2x4x704, .f32⟩
  | .hbm, ⟨7, _⟩ => ⟨S2x4x2048x704, .f32⟩
  | .hbm, ⟨8, _⟩ => ⟨S2x4x2048x704, .bf16⟩
  | .hbm, ⟨9, _⟩ => ⟨S3x8x704, .f32⟩
  | .hbm, ⟨10, _⟩ => ⟨S8x3x704, .f32⟩
  | .hbm, ⟨11, _⟩ => ⟨S2048x1024, .bf16⟩
  | .hbm, ⟨12, _⟩ => ⟨S2048x1024, .bf16⟩
  | .hbm, ⟨13, _⟩ => ⟨S1x4x2048x704, .bf16⟩
  | .hbm, ⟨14, _⟩ => ⟨S4x2048x704, .bf16⟩
  | .hbm, ⟨15, _⟩ => ⟨S1x4x2048x704, .bf16⟩
  | .hbm, ⟨16, _⟩ => ⟨S4x2048x704, .bf16⟩
  | .hbm, ⟨17, _⟩ => ⟨S2816x1024, .bf16⟩
  | .hbm, ⟨18, _⟩ => ⟨S4x2x2048x704, .bf16⟩
  | .hbm, ⟨19, _⟩ => ⟨S2816x1024, .bf16⟩
  | .hbm, ⟨20, _⟩ => ⟨S4x2x704x1024, .bf16⟩
  | .hbm, ⟨21, _⟩ => ⟨S4x2x3x704, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .bf16⟩
  | .local _ .vmem, ⟨5, _⟩ => ⟨S512x1024, .bf16⟩
  | .local _ .vmem, ⟨6, _⟩ => ⟨S1x512x704, .bf16⟩
  | .local _ .vmem, ⟨7, _⟩ => ⟨S1x512x704, .bf16⟩
  | .local _ .vmem, ⟨8, _⟩ => ⟨S1x16x704, .bf16⟩
  | .local _ .vmem, ⟨9, _⟩ => ⟨S1x16x704, .bf16⟩
  | .local _ .vmem, ⟨10, _⟩ => ⟨S1x16x704, .bf16⟩
  | .local _ .vmem, ⟨11, _⟩ => ⟨S1x16x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x16x704, .bf16⟩
  | .local _ .vmem, ⟨15, _⟩ => ⟨S1x16x704, .bf16⟩
  | .local _ .vmem, ⟨16, _⟩ => ⟨S1x16x704, .bf16⟩
  | .local _ .vmem, ⟨17, _⟩ => ⟨S1x16x704, .bf16⟩
  | .local _ .vmem, ⟨18, _⟩ => ⟨S1x3x704, .f32⟩
  | .local _ .vmem, ⟨19, _⟩ => ⟨S1x3x704, .f32⟩
  | .local _ .vmem, ⟨20, _⟩ => ⟨S1x3x704, .f32⟩
  | .local _ .vmem, ⟨21, _⟩ => ⟨S1x3x704, .f32⟩
  | .local _ .vmem, ⟨22, _⟩ => ⟨S704x1024, .bf16⟩
  | .local _ .vmem, ⟨23, _⟩ => ⟨S704x1024, .bf16⟩
  | .local _ .vmem, ⟨24, _⟩ => ⟨S1x2x512x704, .bf16⟩
  | .local _ .vmem, ⟨25, _⟩ => ⟨S1x2x512x704, .bf16⟩
  | .local _ .vmem, ⟨26, _⟩ => ⟨S704x1024, .bf16⟩
  | .local _ .vmem, ⟨27, _⟩ => ⟨S704x1024, .bf16⟩
  | .local _ .vmem, ⟨28, _⟩ => ⟨S1x2x704x1024, .bf16⟩
  | .local _ .vmem, ⟨29, _⟩ => ⟨S1x2x704x1024, .bf16⟩
  | .local _ .vmem, ⟨30, _⟩ => ⟨S1x2x3x704, .f32⟩
  | .local _ .vmem, ⟨31, _⟩ => ⟨S1x2x3x704, .f32⟩
  | .local _ .vmem, ⟨32, _⟩ => ⟨S704x1024, .f32⟩
  | .local _ .vmem, ⟨33, _⟩ => ⟨S704x1024, .f32⟩
  | .local _ .vmem, ⟨34, _⟩ => ⟨S704x1024, .f32⟩
  | .local _ .vmem, ⟨35, _⟩ => ⟨S8x704, .f32⟩
  | .local _ .vmem, ⟨36, _⟩ => ⟨S8x704, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32_85 : BitVec 32 := 3#32
  let v214 : BitVec 1 := Scalar.cmpi .eq arg1 c3_i32_85
  let v215 : BitVec 32 := Scalar.extui v214
  let c0_i32_86 : BitVec 32 := 0#32
  let v216 : BitVec 1 := Scalar.cmpi .ne v215 c0_i32_86
  v216

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x3x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S704x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S704x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x2x704x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x2x3x704 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== FfnRIdeal.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S2048x5632 : Shape := ⟨2, ![2048, 5632]⟩
abbrev S_ : Shape := ⟨0, ![]⟩
abbrev S2x5632 : Shape := ⟨2, ![2, 5632]⟩
abbrev S2050x5632 : Shape := ⟨2, ![2050, 5632]⟩
abbrev S1x5632 : Shape := ⟨2, ![1, 5632]⟩
abbrev S5632 : Shape := ⟨1, ![5632]⟩
abbrev S2048x2816 : Shape := ⟨2, ![2048, 2816]⟩
abbrev S1024x2816 : Shape := ⟨2, ![1024, 2816]⟩
abbrev S5632x1024 : Shape := ⟨2, ![5632, 1024]⟩
abbrev S2048x2x4x704 : Shape := ⟨4, ![2048, 2, 4, 704]⟩
abbrev S4x2x2048x704 : Shape := ⟨4, ![4, 2, 2048, 704]⟩
abbrev S1024x2x4x704 : Shape := ⟨4, ![1024, 2, 4, 704]⟩
abbrev S4x2x1024x704 : Shape := ⟨4, ![4, 2, 1024, 704]⟩
abbrev S4x2x704x1024 : Shape := ⟨4, ![4, 2, 704, 1024]⟩
abbrev S3x2x4x704 : Shape := ⟨4, ![3, 2, 4, 704]⟩
abbrev S4x2x3x704 : Shape := ⟨4, ![4, 2, 3, 704]⟩

abbrev nBuf : Space → Nat
  | .hbm => 119
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S2048x5632, .f32⟩
  | .hbm, ⟨6, _⟩ => ⟨S_, .f32⟩
  | .hbm, ⟨7, _⟩ => ⟨S2x5632, .f32⟩
  | .hbm, ⟨8, _⟩ => ⟨S2050x5632, .f32⟩
  | .hbm, ⟨9, _⟩ => ⟨S_, .f32⟩
  | .hbm, ⟨10, _⟩ => ⟨S2x5632, .f32⟩
  | .hbm, ⟨11, _⟩ => ⟨S2048x5632, .f32⟩
  | .hbm, ⟨12, _⟩ => ⟨S1x5632, .f32⟩
  | .hbm, ⟨13, _⟩ => ⟨S5632, .f32⟩
  | .hbm, ⟨14, _⟩ => ⟨S1x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S1x5632, .f32⟩
  | .hbm, ⟨19, _⟩ => ⟨S5632, .f32⟩
  | .hbm, ⟨20, _⟩ => ⟨S1x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S1x5632, .f32⟩
  | .hbm, ⟨26, _⟩ => ⟨S5632, .f32⟩
  | .hbm, ⟨27, _⟩ => ⟨S1x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x1024, .f32⟩
  | .hbm, ⟨48, _⟩ => ⟨S1024x2816, .f32⟩
  | .hbm, ⟨49, _⟩ => ⟨S2816x1024, .f32⟩
  | .hbm, ⟨50, _⟩ => ⟨S2048x2816, .f32⟩
  | .hbm, ⟨51, _⟩ => ⟨S2048x2816, .f32⟩
  | .hbm, ⟨52, _⟩ => ⟨S2048x2816, .f32⟩
  | .hbm, ⟨53, _⟩ => ⟨S_, .f32⟩
  | .hbm, ⟨54, _⟩ => ⟨S2048x5632, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S2048x2816, .f32⟩
  | .hbm, ⟨59, _⟩ => ⟨S_, .f32⟩
  | .hbm, ⟨60, _⟩ => ⟨S2048x5632, .f32⟩
  | .hbm, ⟨61, _⟩ => ⟨S2048x5632, .f32⟩
  | .hbm, ⟨62, _⟩ => ⟨S2048x5632, .f32⟩
  | .hbm, ⟨63, _⟩ => ⟨S_, .f32⟩
  | .hbm, ⟨64, _⟩ => ⟨S5632, .f32⟩
  | .hbm, ⟨65, _⟩ => ⟨S1x5632, .f32⟩
  | .hbm, ⟨66, _⟩ => ⟨S2048x5632, .f32⟩
  | .hbm, ⟨67, _⟩ => ⟨S2048x5632, .f32⟩
  | .hbm, ⟨68, _⟩ => ⟨S_, .f32⟩
  | .hbm, ⟨69, _⟩ => ⟨S5632, .f32⟩
  | .hbm, ⟨70, _⟩ => ⟨S1x5632, .f32⟩
  | .hbm, ⟨71, _⟩ => ⟨S_, .f32⟩
  | .hbm, ⟨72, _⟩ => ⟨S3x5632, .f32⟩
  | .hbm, ⟨73, _⟩ => ⟨S_, .f32⟩
  | .hbm, ⟨74, _⟩ => ⟨S2050x5632, .f32⟩
  | .hbm, ⟨75, _⟩ => ⟨S2048x5632, .f32⟩
  | .hbm, ⟨76, _⟩ => ⟨S_, .f32⟩
  | .hbm, ⟨77, _⟩ => ⟨S5632, .f32⟩
  | .hbm, ⟨78, _⟩ => ⟨S1x5632, .f32⟩
  | .hbm, ⟨79, _⟩ => ⟨S2048x5632, .f32⟩
  | .hbm, ⟨80, _⟩ => ⟨S2048x5632, .f32⟩
  | .hbm, ⟨81, _⟩ => ⟨S_, .f32⟩
  | .hbm, ⟨82, _⟩ => ⟨S5632, .f32⟩
  | .hbm, ⟨83, _⟩ => ⟨S1x5632, .f32⟩
  | .hbm, ⟨84, _⟩ => ⟨S_, .f32⟩
  | .hbm, ⟨85, _⟩ => ⟨S3x5632, .f32⟩
  | .hbm, ⟨86, _⟩ => ⟨S3x5632, .f32⟩
  | .hbm, ⟨87, _⟩ => ⟨S_, .f32⟩
  | .hbm, ⟨88, _⟩ => ⟨S2050x5632, .f32⟩
  | .hbm, ⟨89, _⟩ => ⟨S2050x5632, .f32⟩
  | .hbm, ⟨90, _⟩ => ⟨S2048x5632, .f32⟩
  | .hbm, ⟨91, _⟩ => ⟨S_, .f32⟩
  | .hbm, ⟨92, _⟩ => ⟨S5632, .f32⟩
  | .hbm, ⟨93, _⟩ => ⟨S1x5632, .f32⟩
  | .hbm, ⟨94, _⟩ => ⟨S2048x5632, .f32⟩
  | .hbm, ⟨95, _⟩ => ⟨S2048x5632, .f32⟩
  | .hbm, ⟨96, _⟩ => ⟨S_, .f32⟩
  | .hbm, ⟨97, _⟩ => ⟨S5632, .f32⟩
  | .hbm, ⟨98, _⟩ => ⟨S1x5632, .f32⟩
  | .hbm, ⟨99, _⟩ => ⟨S_, .f32⟩
  | .hbm, ⟨100, _⟩ => ⟨S3x5632, .f32⟩
  | .hbm, ⟨101, _⟩ => ⟨S3x5632, .f32⟩
  | .hbm, ⟨102, _⟩ => ⟨S_, .f32⟩
  | .hbm, ⟨103, _⟩ => ⟨S2050x5632, .f32⟩
  | .hbm, ⟨104, _⟩ => ⟨S2050x5632, .f32⟩
  | .hbm, ⟨105, _⟩ => ⟨S2x5632, .f32⟩
  | .hbm, ⟨106, _⟩ => ⟨S2048x5632, .f32⟩
  | .hbm, ⟨107, _⟩ => ⟨S5632x1024, .f32⟩
  | .hbm, ⟨108, _⟩ => ⟨S1024x5632, .f32⟩
  | .hbm, ⟨109, _⟩ => ⟨S2048x2x4x704, .f32⟩
  | .hbm, ⟨110, _⟩ => ⟨S4x2x2048x704, .f32⟩
  | .hbm, ⟨111, _⟩ => ⟨S4x2x2048x704, .bf16⟩
  | .hbm, ⟨112, _⟩ => ⟨S2816x1024, .bf16⟩
  | .hbm, ⟨113, _⟩ => ⟨S1024x2x4x704, .f32⟩
  | .hbm, ⟨114, _⟩ => ⟨S4x2x1024x704, .f32⟩
  | .hbm, ⟨115, _⟩ => ⟨S4x2x704x1024, .f32⟩
  | .hbm, ⟨116, _⟩ => ⟨S4x2x704x1024, .bf16⟩
  | .hbm, ⟨117, _⟩ => ⟨S3x2x4x704, .f32⟩
  | .hbm, ⟨118, _⟩ => ⟨S4x2x3x704, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v25_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v25_1 : Ref sig .tc := ⟨.hbm, 43, rfl⟩
abbrev main_v25_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_1 : Ref sig .tc := ⟨.hbm, 53, rfl⟩
abbrev main_v34 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_4 : Ref sig .tc := ⟨.hbm, 68, rfl⟩
abbrev main_v43 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_cst_6 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_cst_13 : Ref sig .tc := ⟨.hbm, 99, rfl⟩
abbrev main_v65 : Ref sig .tc := ⟨.hbm, 100, rfl⟩
abbrev main_v66 : Ref sig .tc := ⟨.hbm, 101, rfl⟩
abbrev main_cst_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]
-- ==== LossK.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S3x8x704 : Shape := ⟨3, ![3, 8, 704]⟩
abbrev S8x3x704 : Shape := ⟨3, ![8, 3, 704]⟩
abbrev S1024x8x704 : Shape := ⟨3, ![1024, 8, 704]⟩
abbrev S8x704x1024 : Shape := ⟨3, ![8, 704, 1024]⟩
abbrev S1x1024 : Shape := ⟨2, ![1, 1024]⟩
abbrev S1x128 : Shape := ⟨2, ![1, 128]⟩
abbrev S4x2048x704 : Shape := ⟨3, ![4, 2048, 704]⟩
abbrev S512x1024 : Shape := ⟨2, ![512, 1024]⟩
abbrev S16x1024 : Shape := ⟨2, ![16, 1024]⟩
abbrev S1x704x1024 : Shape := ⟨3, ![1, 704, 1024]⟩
abbrev S1x3x704 : Shape := ⟨3, ![1, 3, 704]⟩
abbrev S704x1024 : Shape := ⟨2, ![704, 1024]⟩
abbrev S1x512x704 : Shape := ⟨3, ![1, 512, 704]⟩
abbrev S528x1024 : Shape := ⟨2, ![528, 1024]⟩
abbrev S528x1 : Shape := ⟨2, ![528, 1]⟩
abbrev S528x704 : Shape := ⟨2, ![528, 704]⟩
abbrev S512x704 : Shape := ⟨2, ![512, 704]⟩
abbrev S3x704 : Shape := ⟨2, ![3, 704]⟩
abbrev S1x704 : Shape := ⟨2, ![1, 704]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 21
  | .vmem => 30
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S2048x1024, .f32⟩
  | .hbm, ⟨7, _⟩ => ⟨S3x8x704, .f32⟩
  | .hbm, ⟨8, _⟩ => ⟨S8x3x704, .f32⟩
  | .hbm, ⟨9, _⟩ => ⟨S2048x1024, .bf16⟩
  | .hbm, ⟨10, _⟩ => ⟨S1024x8x704, .f32⟩
  | .hbm, ⟨11, _⟩ => ⟨S8x704x1024, .f32⟩
  | .hbm, ⟨12, _⟩ => ⟨S8x704x1024, .bf16⟩
  | .hbm, ⟨13, _⟩ => ⟨S2816x1024, .bf16⟩
  | .hbm, ⟨14, _⟩ => ⟨S1x1024, .f32⟩
  | .hbm, ⟨15, _⟩ => ⟨S2048x1024, .f32⟩
  | .hbm, ⟨16, _⟩ => ⟨S2048x1024, .bf16⟩
  | .hbm, ⟨17, _⟩ => ⟨S1x1024, .f32⟩
  | .hbm, ⟨18, _⟩ => ⟨S1x128, .f32⟩
  | .hbm, ⟨19, _⟩ => ⟨S4x2048x704, .bf16⟩
  | .hbm, ⟨20, _⟩ => ⟨S4x2048x704, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .f32⟩
  | .local _ .vmem, ⟨5, _⟩ => ⟨S512x1024, .f32⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1x3x704, .f32⟩
  | .local _ .vmem, ⟨11, _⟩ => ⟨S1x3x704, .f32⟩
  | .local _ .vmem, ⟨12, _⟩ => ⟨S1x3x704, .f32⟩
  | .local _ .vmem, ⟨13, _⟩ => ⟨S1x3x704, .f32⟩
  | .local _ .vmem, ⟨14, _⟩ => ⟨S704x1024, .bf16⟩
  | .local _ .vmem, ⟨15, _⟩ => ⟨S704x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x1024, .f32⟩
  | .local _ .vmem, ⟨24, _⟩ => ⟨S1x128, .f32⟩
  | .local _ .vmem, ⟨25, _⟩ => ⟨S1x512x704, .bf16⟩
  | .local _ .vmem, ⟨26, _⟩ => ⟨S1x512x704, .bf16⟩
  | .local _ .vmem, ⟨27, _⟩ => ⟨S1x512x704, .bf16⟩
  | .local _ .vmem, ⟨28, _⟩ => ⟨S1x512x704, .bf16⟩
  | .local _ .vmem, ⟨29, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32_36 : BitVec 32 := 3#32
  let v94 : BitVec 1 := Scalar.cmpi .eq arg1 c3_i32_36
  let v95 : BitVec 32 := Scalar.extui v94
  let c0_i32_37 : BitVec 32 := 0#32
  let v96 : BitVec 1 := Scalar.cmpi .ne v95 c0_i32_37
  v96

def k0_cond4 (i : grid0.Coords) : BitVec 1 :=
  let arg0 : BitVec 32 := BitVec.ofNat 32 (i 0).val
  let c0_i32_58 : BitVec 32 := 0#32
  let v146 : BitVec 1 := Scalar.cmpi .eq arg0 c0_i32_58
  let v147 : BitVec 32 := Scalar.extui v146
  let c0_i32_59 : BitVec 32 := 0#32
  let v148 : BitVec 1 := Scalar.cmpi .ne v147 c0_i32_59
  v148

def k0_cond5 (i : grid0.Coords) : BitVec 1 :=
  let arg0 : BitVec 32 := BitVec.ofNat 32 (i 0).val
  let c0_i32_60 : BitVec 32 := 0#32
  let v149 : BitVec 1 := Scalar.cmpi .sgt arg0 c0_i32_60
  let v150 : BitVec 32 := Scalar.extui v149
  let c0_i32_61 : BitVec 32 := 0#32
  let v151 : BitVec 1 := Scalar.cmpi .ne v150 c0_i32_61
  v151

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x3x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x3x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x704 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x704 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== LossRIdeal.lean ====
abbrev S2048x1024 : Shape := ⟨2, ![2048, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S2048x5632 : Shape := ⟨2, ![2048, 5632]⟩
abbrev S_ : Shape := ⟨0, ![]⟩
abbrev S2x5632 : Shape := ⟨2, ![2, 5632]⟩
abbrev S2050x5632 : Shape := ⟨2, ![2050, 5632]⟩
abbrev S1x5632 : Shape := ⟨2, ![1, 5632]⟩
abbrev S5632 : Shape := ⟨1, ![5632]⟩
abbrev S2048x2816 : Shape := ⟨2, ![2048, 2816]⟩
abbrev S2048 : Shape := ⟨1, ![2048]⟩
abbrev S2048x1 : Shape := ⟨2, ![2048, 1]⟩
abbrev S1x1024 : Shape := ⟨2, ![1, 1024]⟩
abbrev S2048x2x4x704 : Shape := ⟨4, ![2048, 2, 4, 704]⟩
abbrev S2x4x2048x704 : Shape := ⟨4, ![2, 4, 2048, 704]⟩
abbrev S1x128 : Shape := ⟨2, ![1, 128]⟩
abbrev S1x4x2048x704 : Shape := ⟨4, ![1, 4, 2048, 704]⟩
abbrev S4x2048x704 : Shape := ⟨3, ![4, 2048, 704]⟩

abbrev nBuf : Space → Nat
  | .hbm => 124
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S2048x1024, .f32⟩
  | .hbm, ⟨7, _⟩ => ⟨S2048x5632, .f32⟩
  | .hbm, ⟨8, _⟩ => ⟨S_, .f32⟩
  | .hbm, ⟨9, _⟩ => ⟨S2x5632, .f32⟩
  | .hbm, ⟨10, _⟩ => ⟨S2050x5632, .f32⟩
  | .hbm, ⟨11, _⟩ => ⟨S2048x5632, .f32⟩
  | .hbm, ⟨12, _⟩ => ⟨S1x5632, .f32⟩
  | .hbm, ⟨13, _⟩ => ⟨S5632, .f32⟩
  | .hbm, ⟨14, _⟩ => ⟨S1x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S1x5632, .f32⟩
  | .hbm, ⟨19, _⟩ => ⟨S5632, .f32⟩
  | .hbm, ⟨20, _⟩ => ⟨S1x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S1x5632, .f32⟩
  | .hbm, ⟨26, _⟩ => ⟨S5632, .f32⟩
  | .hbm, ⟨27, _⟩ => ⟨S1x5632, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S2048x1024, .f32⟩
  | .hbm, ⟨61, _⟩ => ⟨S2048x1024, .f32⟩
  | .hbm, ⟨62, _⟩ => ⟨S1x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S2048, .f32⟩
  | .hbm, ⟨72, _⟩ => ⟨S_, .f32⟩
  | .hbm, ⟨73, _⟩ => ⟨S2048, .f32⟩
  | .hbm, ⟨74, _⟩ => ⟨S2048, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S2048, .f32⟩
  | .hbm, ⟨83, _⟩ => ⟨S_, .f32⟩
  | .hbm, ⟨84, _⟩ => ⟨S2048, .f32⟩
  | .hbm, ⟨85, _⟩ => ⟨S2048, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S2048x1024, .f32⟩
  | .hbm, ⟨94, _⟩ => ⟨S2048x1024, .f32⟩
  | .hbm, ⟨95, _⟩ => ⟨S_, .f32⟩
  | .hbm, ⟨96, _⟩ => ⟨S1024, .f32⟩
  | .hbm, ⟨97, _⟩ => ⟨S2048x1024, .f32⟩
  | .hbm, ⟨98, _⟩ => ⟨S_, .f32⟩
  | .hbm, ⟨99, _⟩ => ⟨S2048, .f32⟩
  | .hbm, ⟨100, _⟩ => ⟨S2048x1, .f32⟩
  | .hbm, ⟨101, _⟩ => ⟨S2048x1024, .f32⟩
  | .hbm, ⟨102, _⟩ => ⟨S2048x1024, .f32⟩
  | .hbm, ⟨103, _⟩ => ⟨S2048x1, .f32⟩
  | .hbm, ⟨104, _⟩ => ⟨S_, .f32⟩
  | .hbm, ⟨105, _⟩ => ⟨S2048x1, .f32⟩
  | .hbm, ⟨106, _⟩ => ⟨S2048x1, .f32⟩
  | .hbm, ⟨107, _⟩ => ⟨S_, .f32⟩
  | .hbm, ⟨108, _⟩ => ⟨S2048, .f32⟩
  | .hbm, ⟨109, _⟩ => ⟨S2048x1024, .f32⟩
  | .hbm, ⟨110, _⟩ => ⟨S2048x1024, .f32⟩
  | .hbm, ⟨111, _⟩ => ⟨S2048x1024, .f32⟩
  | .hbm, ⟨112, _⟩ => ⟨S2048x1024, .f32⟩
  | .hbm, ⟨113, _⟩ => ⟨S2048x1024, .f32⟩
  | .hbm, ⟨114, _⟩ => ⟨S2048x2x4x704, .f32⟩
  | .hbm, ⟨115, _⟩ => ⟨S2x4x2048x704, .f32⟩
  | .hbm, ⟨116, _⟩ => ⟨S2x4x2048x704, .bf16⟩
  | .hbm, ⟨117, _⟩ => ⟨S2048x1024, .bf16⟩
  | .hbm, ⟨118, _⟩ => ⟨S1x1024, .f32⟩
  | .hbm, ⟨119, _⟩ => ⟨S1x128, .f32⟩
  | .hbm, ⟨120, _⟩ => ⟨S1x4x2048x704, .bf16⟩
  | .hbm, ⟨121, _⟩ => ⟨S4x2048x704, .bf16⟩
  | .hbm, ⟨122, _⟩ => ⟨S1x4x2048x704, .bf16⟩
  | .hbm, ⟨123, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_0 : Ref sig .tc := ⟨.hbm, 46, rfl⟩
abbrev main_v30 : Ref sig .tc := ⟨.hbm, 47, rfl⟩
abbrev main_v31 : Ref sig .tc := ⟨.hbm, 48, rfl⟩
abbrev main_cst_1 : Ref sig .tc := ⟨.hbm, 49, rfl⟩
abbrev main_v32 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_cst_9 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_15 : Ref sig .tc := ⟨.hbm, 104, rfl⟩
abbrev main_v73 : Ref sig .tc := ⟨.hbm, 105, rfl⟩
abbrev main_v74 : Ref sig .tc := ⟨.hbm, 106, rfl⟩
abbrev main_cst_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩

abbrev nD : Nat := 1
abbrev τ : Topo := Topo.v7x

variable {F : FTy → Type} [FloatOps F]
-- ==== ChunkK.lean ====
abbrev S2048x512 : Shape := ⟨2, ![2048, 512]⟩
abbrev S2048x4 : Shape := ⟨2, ![2048, 4]⟩
abbrev S32x4x64x128 : Shape := ⟨4, ![32, 4, 64, 128]⟩
abbrev S32x4x64x64 : Shape := ⟨4, ![32, 4, 64, 64]⟩
abbrev S32x4 : Shape := ⟨2, ![32, 4]⟩
abbrev S32x64x4 : Shape := ⟨3, ![32, 64, 4]⟩
abbrev S32x4x64 : Shape := ⟨3, ![32, 4, 64]⟩
abbrev S_ : Shape := ⟨0, ![]⟩
abbrev S32x64x4x128 : Shape := ⟨4, ![32, 64, 4, 128]⟩
abbrev S64x64 : Shape := ⟨2, ![64, 64]⟩
abbrev S4x4 : Shape := ⟨2, ![4, 4]⟩
abbrev S32x4x64x4x64 : Shape := ⟨5, ![32, 4, 64, 4, 64]⟩
abbrev S32x4x1 : Shape := ⟨3, ![32, 4, 1]⟩
abbrev S32x8x4x128 : Shape := ⟨4, ![32, 8, 4, 128]⟩
abbrev S8192x256 : Shape := ⟨2, ![8192, 256]⟩
abbrev S32x8x512 : Shape := ⟨3, ![32, 8, 512]⟩
abbrev S2048x128 : Shape := ⟨2, ![2048, 128]⟩
abbrev S256x512 : Shape := ⟨2, ![256, 512]⟩
abbrev S1024x256 : Shape := ⟨2, ![1024, 256]⟩
abbrev S4x8x512 : Shape := ⟨3, ![4, 8, 512]⟩
abbrev S256x128 : Shape := ⟨2, ![256, 128]⟩
abbrev S256x256 : Shape := ⟨2, ![256, 256]⟩
abbrev S64x128 : Shape := ⟨2, ![64, 128]⟩
abbrev S64x1 : Shape := ⟨2, ![64, 1]⟩
abbrev S1x128 : Shape := ⟨2, ![1, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 121
  | .vmem => 36
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x4, .f32⟩
  | .hbm, ⟨4, _⟩ => ⟨S2048x4, .f32⟩
  | .hbm, ⟨5, _⟩ => ⟨S32x4x64x128, .f32⟩
  | .hbm, ⟨6, _⟩ => ⟨S32x4x64x128, .f32⟩
  | .hbm, ⟨7, _⟩ => ⟨S32x4x64x64, .f32⟩
  | .hbm, ⟨8, _⟩ => ⟨S32x4x64x128, .f32⟩
  | .hbm, ⟨9, _⟩ => ⟨S32x4x64x128, .f32⟩
  | .hbm, ⟨10, _⟩ => ⟨S32x4, .f32⟩
  | .hbm, ⟨11, _⟩ => ⟨S32x64x4, .f32⟩
  | .hbm, ⟨12, _⟩ => ⟨S32x4x64, .f32⟩
  | .hbm, ⟨13, _⟩ => ⟨S_, .f32⟩
  | .hbm, ⟨14, _⟩ => ⟨S_, .f32⟩
  | .hbm, ⟨15, _⟩ => ⟨S32x4x64, .f32⟩
  | .hbm, ⟨16, _⟩ => ⟨S32x64x4, .f32⟩
  | .hbm, ⟨17, _⟩ => ⟨S32x4x64, .f32⟩
  | .hbm, ⟨18, _⟩ => ⟨S32x64x4x128, .f32⟩
  | .hbm, ⟨19, _⟩ => ⟨S32x4x64x128, .f32⟩
  | .hbm, ⟨20, _⟩ => ⟨S32x64x4x128, .f32⟩
  | .hbm, ⟨21, _⟩ => ⟨S32x4x64x128, .f32⟩
  | .hbm, ⟨22, _⟩ => ⟨S64x64, .i32⟩
  | .hbm, ⟨23, _⟩ => ⟨S64x64, .i32⟩
  | .hbm, ⟨24, _⟩ => ⟨S64x64, .i1⟩
  | .hbm, ⟨25, _⟩ => ⟨S32x4x64x64, .i1⟩
  | .hbm, ⟨26, _⟩ => ⟨S64x64, .i1⟩
  | .hbm, ⟨27, _⟩ => ⟨S32x4x64x64, .i1⟩
  | .hbm, ⟨28, _⟩ => ⟨S64x64, .i1⟩
  | .hbm, ⟨29, _⟩ => ⟨S32x4x64x64, .i1⟩
  | .hbm, ⟨30, _⟩ => ⟨S_, .f32⟩
  | .hbm, ⟨31, _⟩ => ⟨S32x4x64x64, .f32⟩
  | .hbm, ⟨32, _⟩ => ⟨S32x4x64x128, .bf16⟩
  | .hbm, ⟨33, _⟩ => ⟨S32x4x64x64, .f32⟩
  | .hbm, ⟨34, _⟩ => ⟨S32x4x64x64, .f32⟩
  | .hbm, ⟨35, _⟩ => ⟨S32x4x64x64, .f32⟩
  | .hbm, ⟨36, _⟩ => ⟨S32x4x64x64, .f32⟩
  | .hbm, ⟨37, _⟩ => ⟨S32x4x64x64, .f32⟩
  | .hbm, ⟨38, _⟩ => ⟨S32x4x64x64, .f32⟩
  | .hbm, ⟨39, _⟩ => ⟨S32x4x64x64, .f32⟩
  | .hbm, ⟨40, _⟩ => ⟨S32x4x64x64, .f32⟩
  | .hbm, ⟨41, _⟩ => ⟨S32x4x64x64, .f32⟩
  | .hbm, ⟨42, _⟩ => ⟨S32x4x64x64, .f32⟩
  | .hbm, ⟨43, _⟩ => ⟨S32x4x64x64, .f32⟩
  | .hbm, ⟨44, _⟩ => ⟨S32x4x64x64, .f32⟩
  | .hbm, ⟨45, _⟩ => ⟨S_, .f32⟩
  | .hbm, ⟨46, _⟩ => ⟨S32x4x64x64, .f32⟩
  | .hbm, ⟨47, _⟩ => ⟨S32x4x64x64, .f32⟩
  | .hbm, ⟨48, _⟩ => ⟨S32x4x64x64, .f32⟩
  | .hbm, ⟨49, _⟩ => ⟨S32x4x64x64, .bf16⟩
  | .hbm, ⟨50, _⟩ => ⟨S32x4x64x64, .f32⟩
  | .hbm, ⟨51, _⟩ => ⟨S32x4x64x64, .bf16⟩
  | .hbm, ⟨52, _⟩ => ⟨S32x4x64x64, .bf16⟩
  | .hbm, ⟨53, _⟩ => ⟨S32x4x64x64, .f32⟩
  | .hbm, ⟨54, _⟩ => ⟨S32x4x64x64, .f32⟩
  | .hbm, ⟨55, _⟩ => ⟨S32x4x64x64, .f32⟩
  | .hbm, ⟨56, _⟩ => ⟨S32x4x64x64, .bf16⟩
  | .hbm, ⟨57, _⟩ => ⟨S32x4x64x64, .bf16⟩
  | .hbm, ⟨58, _⟩ => ⟨S32x4x64x64, .f32⟩
  | .hbm, ⟨59, _⟩ => ⟨S32x4x64x64, .f32⟩
  | .hbm, ⟨60, _⟩ => ⟨S32x4x64x64, .f32⟩
  | .hbm, ⟨61, _⟩ => ⟨S32x4x64x64, .bf16⟩
  | .hbm, ⟨62, _⟩ => ⟨S32x4x64x64, .bf16⟩
  | .hbm, ⟨63, _⟩ => ⟨S32x4x64x64, .f32⟩
  | .hbm, ⟨64, _⟩ => ⟨S32x4x64x64, .f32⟩
  | .hbm, ⟨65, _⟩ => ⟨S32x4x64x64, .f32⟩
  | .hbm, ⟨66, _⟩ => ⟨S32x4x64x64, .bf16⟩
  | .hbm, ⟨67, _⟩ => ⟨S32x4x64x64, .bf16⟩
  | .hbm, ⟨68, _⟩ => ⟨S32x4x64x64, .f32⟩
  | .hbm, ⟨69, _⟩ => ⟨S32x4x64x64, .f32⟩
  | .hbm, ⟨70, _⟩ => ⟨S32x4x64x64, .f32⟩
  | .hbm, ⟨71, _⟩ => ⟨S32x4x64x64, .bf16⟩
  | .hbm, ⟨72, _⟩ => ⟨S32x4x64x64, .bf16⟩
  | .hbm, ⟨73, _⟩ => ⟨S32x4x64x64, .f32⟩
  | .hbm, ⟨74, _⟩ => ⟨S32x4x64x64, .f32⟩
  | .hbm, ⟨75, _⟩ => ⟨S32x4x64x128, .f32⟩
  | .hbm, ⟨76, _⟩ => ⟨S32x4x64, .f32⟩
  | .hbm, ⟨77, _⟩ => ⟨S32x4x64x128, .f32⟩
  | .hbm, ⟨78, _⟩ => ⟨S32x4x64x128, .f32⟩
  | .hbm, ⟨79, _⟩ => ⟨S32x4x64x128, .f32⟩
  | .hbm, ⟨80, _⟩ => ⟨S4x4, .i32⟩
  | .hbm, ⟨81, _⟩ => ⟨S4x4, .i32⟩
  | .hbm, ⟨82, _⟩ => ⟨S4x4, .i1⟩
  | .hbm, ⟨83, _⟩ => ⟨S32x4x64x4x64, .i1⟩
  | .hbm, ⟨84, _⟩ => ⟨S_, .f32⟩
  | .hbm, ⟨85, _⟩ => ⟨S32x4x64x4x64, .f32⟩
  | .hbm, ⟨86, _⟩ => ⟨S32x4x1, .f32⟩
  | .hbm, ⟨87, _⟩ => ⟨S32x4, .f32⟩
  | .hbm, ⟨88, _⟩ => ⟨S32x4, .f32⟩
  | .hbm, ⟨89, _⟩ => ⟨S32x4, .f32⟩
  | .hbm, ⟨90, _⟩ => ⟨S32x8x4x128, .f32⟩
  | .hbm, ⟨91, _⟩ => ⟨S32x4x64x128, .f32⟩
  | .hbm, ⟨92, _⟩ => ⟨S32x64x4x128, .f32⟩
  | .hbm, ⟨93, _⟩ => ⟨S2048x512, .f32⟩
  | .hbm, ⟨94, _⟩ => ⟨S32x4x64x128, .f32⟩
  | .hbm, ⟨95, _⟩ => ⟨S32x64x4x128, .f32⟩
  | .hbm, ⟨96, _⟩ => ⟨S2048x512, .f32⟩
  | .hbm, ⟨97, _⟩ => ⟨S32x4x64x4x64, .f32⟩
  | .hbm, ⟨98, _⟩ => ⟨S32x4x64x4x64, .f32⟩
  | .hbm, ⟨99, _⟩ => ⟨S8192x256, .f32⟩
  | .hbm, ⟨100, _⟩ => ⟨S32x64x4x128, .f32⟩
  | .hbm, ⟨101, _⟩ => ⟨S2048x512, .f32⟩
  | .hbm, ⟨102, _⟩ => ⟨S32x64x4x128, .f32⟩
  | .hbm, ⟨103, _⟩ => ⟨S2048x512, .f32⟩
  | .hbm, ⟨104, _⟩ => ⟨S32x64x4x128, .f32⟩
  | .hbm, ⟨105, _⟩ => ⟨S2048x512, .f32⟩
  | .hbm, ⟨106, _⟩ => ⟨S32x64x4x128, .f32⟩
  | .hbm, ⟨107, _⟩ => ⟨S2048x512, .f32⟩
  | .hbm, ⟨108, _⟩ => ⟨S32x4x64x4x64, .f32⟩
  | .hbm, ⟨109, _⟩ => ⟨S32x4x64x4x64, .f32⟩
  | .hbm, ⟨110, _⟩ => ⟨S8192x256, .f32⟩
  | .hbm, ⟨111, _⟩ => ⟨S32x64x4x128, .f32⟩
  | .hbm, ⟨112, _⟩ => ⟨S2048x512, .f32⟩
  | .hbm, ⟨113, _⟩ => ⟨S32x64x4x128, .f32⟩
  | .hbm, ⟨114, _⟩ => ⟨S2048x512, .f32⟩
  | .hbm, ⟨115, _⟩ => ⟨S32x8x512, .f32⟩
  | .hbm, ⟨116, _⟩ => ⟨S2048x512, .f32⟩
  | .hbm, ⟨117, _⟩ => ⟨S2048x512, .f32⟩
  | .hbm, ⟨118, _⟩ => ⟨S2048x512, .f32⟩
  | .hbm, ⟨119, _⟩ => ⟨S2048x128, .f32⟩
  | .hbm, ⟨120, _⟩ => ⟨S2048x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1024x256, .f32⟩
  | .local _ .vmem, ⟨9, _⟩ => ⟨S1024x256, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S1024x256, .f32⟩
  | .local _ .vmem, ⟨19, _⟩ => ⟨S1024x256, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S4x8x512, .f32⟩
  | .local _ .vmem, ⟨25, _⟩ => ⟨S4x8x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_call0_cst : Ref sig .tc := ⟨.hbm, 13, rfl⟩
abbrev main_call0_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_1 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100_0 : Ref sig .tc := ⟨.hbm, 116, rfl⟩
abbrev main_v100_1 : Ref sig .tc := ⟨.hbm, 117, rfl⟩
abbrev main_v100_2 : Ref sig .tc := ⟨.hbm, 118, rfl⟩
abbrev main_v100_3 : Ref sig .tc := ⟨.hbm, 119, rfl⟩
abbrev main_v100_4 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ChunkRIdeal.lean ====
abbrev S2048x512 : Shape := ⟨2, ![2048, 512]⟩
abbrev S2048x4 : Shape := ⟨2, ![2048, 4]⟩
abbrev S32x4x64x128 : Shape := ⟨4, ![32, 4, 64, 128]⟩
abbrev S32x4x64x64 : Shape := ⟨4, ![32, 4, 64, 64]⟩
abbrev S32x4 : Shape := ⟨2, ![32, 4]⟩
abbrev S32x64x4x128 : Shape := ⟨4, ![32, 64, 4, 128]⟩
abbrev S32x64x4 : Shape := ⟨3, ![32, 64, 4]⟩
abbrev S32x4x64 : Shape := ⟨3, ![32, 4, 64]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S32x4x64x1 : Shape := ⟨4, ![32, 4, 64, 1]⟩
abbrev S32x4x1x64 : Shape := ⟨4, ![32, 4, 1, 64]⟩
abbrev S32x4x64x256 : Shape := ⟨4, ![32, 4, 64, 256]⟩
abbrev S32x4x1 : Shape := ⟨3, ![32, 4, 1]⟩
abbrev S2048x124 : Shape := ⟨2, ![2048, 124]⟩
abbrev S2048x128 : Shape := ⟨2, ![2048, 128]⟩

abbrev nBuf : Space → Nat
  | .hbm => 300
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x4, .f32⟩
  | 4 => ⟨S2048x4, .f32⟩
  | 5 => ⟨S32x4x64x128, .f32⟩
  | 6 => ⟨S32x4x64x128, .f32⟩
  | 7 => ⟨S32x4x64x64, .f32⟩
  | 8 => ⟨S32x4x64x128, .f32⟩
  | 9 => ⟨S32x4x64x128, .f32⟩
  | 10 => ⟨S32x4, .f32⟩
  | 11 => ⟨S32x64x4x128, .f32⟩
  | 12 => ⟨S32x4x64x128, .f32⟩
  | 13 => ⟨S32x64x4x128, .f32⟩
  | 14 => ⟨S32x4x64x128, .f32⟩
  | 15 => ⟨S32x64x4x128, .f32⟩
  | 16 => ⟨S32x4x64x128, .f32⟩
  | 17 => ⟨S32x64x4, .f32⟩
  | 18 => ⟨S32x4x64, .f32⟩
  | 19 => ⟨S32x64x4, .f32⟩
  | 20 => ⟨S32x4x64, .f32⟩
  | 21 => ⟨S_, .f32⟩
  | 22 => ⟨S_, .f32⟩
  | 23 => ⟨S32x4x64, .f32⟩
  | 24 => ⟨S64, .i32⟩
  | 25 => ⟨S64x1, .i32⟩
  | 26 => ⟨S1x64, .i32⟩
  | 27 => ⟨S64x64, .i32⟩
  | 28 => ⟨S64x64, .i32⟩
  | 29 => ⟨S64x64, .i1⟩
  | 30 => ⟨S32x4x64x64, .i1⟩
  | 31 => ⟨S64x1, .i32⟩
  | 32 => ⟨S1x64, .i32⟩
  | 33 => ⟨S64x64, .i32⟩
  | 34 => ⟨S64x64, .i32⟩
  | 35 => ⟨S64x64, .i1⟩
  | 36 => ⟨S32x4x64x64, .i1⟩
  | 37 => ⟨S32x4x64x1, .f32⟩
  | 38 => ⟨S32x4x1x64, .f32⟩
  | 39 => ⟨S32x4x64x64, .f32⟩
  | 40 => ⟨S32x4x64x64, .f32⟩
  | 41 => ⟨S32x4x64x64, .f32⟩
  | 42 => ⟨S_, .f32⟩
  | 43 => ⟨S32x4x64x64, .f32⟩
  | 44 => ⟨S32x4x64x64, .f32⟩
  | 45 => ⟨S_, .f32⟩
  | 46 => ⟨S32x4x64x64, .f32⟩
  | 47 => ⟨S32x4x64x64, .f32⟩
  | 48 => ⟨S32x4x64x64, .f32⟩
  | 49 => ⟨S_, .f32⟩
  | 50 => ⟨S32x4x64x64, .f32⟩
  | 51 => ⟨S32x4x64x64, .f32⟩
  | 52 => ⟨S_, .f32⟩
  | 53 => ⟨S32x4x64x64, .f32⟩
  | 54 => ⟨S32x4x64x64, .f32⟩
  | 55 => ⟨S32x4x64x64, .f32⟩
  | 56 => ⟨S32x4x1x64, .f32⟩
  | 57 => ⟨S32x4x64x64, .f32⟩
  | 58 => ⟨S32x4x64x64, .f32⟩
  | 59 => ⟨S32x4x64, .f32⟩
  | 60 => ⟨S32x4x64x1, .f32⟩
  | 61 => ⟨S32x4x64x128, .f32⟩
  | 62 => ⟨S32x4x64x128, .f32⟩
  | 63 => ⟨S32x4x64x256, .f32⟩
  | 64 => ⟨S64, .i32⟩
  | 65 => ⟨S64x1, .i32⟩
  | 66 => ⟨S1x64, .i32⟩
  | 67 => ⟨S64x64, .i32⟩
  | 68 => ⟨S64x64, .i32⟩
  | 69 => ⟨S64x64, .i32⟩
  | 70 => ⟨S_, .f32⟩
  | 71 => ⟨S32x4x64x64, .f32⟩
  | 72 => ⟨S64x64, .i32⟩
  | 73 => ⟨S64x64, .i32⟩
  | 74 => ⟨S_, .i32⟩
  | 75 => ⟨S64x64, .i32⟩
  | 76 => ⟨S64x64, .i32⟩
  | 77 => ⟨S64x64, .i1⟩
  | 78 => ⟨S64x64, .f32⟩
  | 79 => ⟨S32x4x64x64, .f32⟩
  | 80 => ⟨S_, .i32⟩
  | 81 => ⟨S64x64, .i32⟩
  | 82 => ⟨S64x64, .i1⟩
  | 83 => ⟨S_, .i32⟩
  | 84 => ⟨S64x64, .i32⟩
  | 85 => ⟨S64x64, .i1⟩
  | 86 => ⟨S64x64, .i1⟩
  | 87 => ⟨S32x4x64x64, .i1⟩
  | 88 => ⟨S32x4x64x64, .f32⟩
  | 89 => ⟨S32x4x64x64, .f32⟩
  | 90 => ⟨S32x4x64x64, .f32⟩
  | 91 => ⟨S32x4x64x64, .f32⟩
  | 92 => ⟨S_, .i32⟩
  | 93 => ⟨S64x64, .i32⟩
  | 94 => ⟨S64x64, .i1⟩
  | 95 => ⟨S_, .i32⟩
  | 96 => ⟨S64x64, .i32⟩
  | 97 => ⟨S64x64, .i1⟩
  | 98 => ⟨S64x64, .i1⟩
  | 99 => ⟨S32x4x64x64, .i1⟩
  | 100 => ⟨S32x4x64x64, .f32⟩
  | 101 => ⟨S32x4x64x64, .f32⟩
  | 102 => ⟨S32x4x64x64, .f32⟩
  | 103 => ⟨S32x4x64x64, .f32⟩
  | 104 => ⟨S_, .i32⟩
  | 105 => ⟨S64x64, .i32⟩
  | 106 => ⟨S64x64, .i1⟩
  | 107 => ⟨S_, .i32⟩
  | 108 => ⟨S64x64, .i32⟩
  | 109 => ⟨S64x64, .i1⟩
  | 110 => ⟨S64x64, .i1⟩
  | 111 => ⟨S32x4x64x64, .i1⟩
  | 112 => ⟨S32x4x64x64, .f32⟩
  | 113 => ⟨S32x4x64x64, .f32⟩
  | 114 => ⟨S32x4x64x64, .f32⟩
  | 115 => ⟨S32x4x64x64, .f32⟩
  | 116 => ⟨S_, .i32⟩
  | 117 => ⟨S64x64, .i32⟩
  | 118 => ⟨S64x64, .i1⟩
  | 119 => ⟨S_, .i32⟩
  | 120 => ⟨S64x64, .i32⟩
  | 121 => ⟨S64x64, .i1⟩
  | 122 => ⟨S64x64, .i1⟩
  | 123 => ⟨S32x4x64x64, .i1⟩
  | 124 => ⟨S32x4x64x64, .f32⟩
  | 125 => ⟨S32x4x64x64, .f32⟩
  | 126 => ⟨S32x4x64x64, .f32⟩
  | 127 => ⟨S32x4x64x64, .f32⟩
  | _ => ⟨S2048x512, .f32⟩

abbrev hbmTy0_1 (i : Nat) : BufTy := match i % 128 with
  | 0 => ⟨S_, .i32⟩
  | 1 => ⟨S64x64, .i32⟩
  | 2 => ⟨S64x64, .i1⟩
  | 3 => ⟨S_, .i32⟩
  | 4 => ⟨S64x64, .i32⟩
  | 5 => ⟨S64x64, .i1⟩
  | 6 => ⟨S64x64, .i1⟩
  | 7 => ⟨S32x4x64x64, .i1⟩
  | 8 => ⟨S32x4x64x64, .f32⟩
  | 9 => ⟨S32x4x64x64, .f32⟩
  | 10 => ⟨S32x4x64x64, .f32⟩
  | 11 => ⟨S32x4x64x64, .f32⟩
  | 12 => ⟨S_, .i32⟩
  | 13 => ⟨S64x64, .i32⟩
  | 14 => ⟨S64x64, .i1⟩
  | 15 => ⟨S_, .i32⟩
  | 16 => ⟨S64x64, .i32⟩
  | 17 => ⟨S64x64, .i1⟩
  | 18 => ⟨S64x64, .i1⟩
  | 19 => ⟨S32x4x64x64, .i1⟩
  | 20 => ⟨S32x4x64x64, .f32⟩
  | 21 => ⟨S32x4x64x64, .f32⟩
  | 22 => ⟨S32x4x64x64, .f32⟩
  | 23 => ⟨S32x4x64x64, .f32⟩
  | 24 => ⟨S32x4x64x256, .f32⟩
  | 25 => ⟨S32x4x64x256, .f32⟩
  | 26 => ⟨S32x4x64x256, .f32⟩
  | 27 => ⟨S32x4x64x128, .f32⟩
  | 28 => ⟨S32x4x64x128, .f32⟩
  | 29 => ⟨S32x4x64x64, .f32⟩
  | 30 => ⟨S32x4x64x64, .f32⟩
  | 31 => ⟨S32x4x1x64, .f32⟩
  | 32 => ⟨S32x4x64x64, .f32⟩
  | 33 => ⟨S32x4x64x64, .f32⟩
  | 34 => ⟨S32x4x64x128, .f32⟩
  | 35 => ⟨S32x4x64x128, .f32⟩
  | 36 => ⟨S32x4x1, .f32⟩
  | 37 => ⟨S32x4x64, .f32⟩
  | 38 => ⟨S32x4x64, .f32⟩
  | 39 => ⟨S32x4x64, .f32⟩
  | 40 => ⟨S32x4x64, .f32⟩
  | 41 => ⟨S32x4x64x1, .f32⟩
  | 42 => ⟨S32x4x64x128, .f32⟩
  | 43 => ⟨S32x4x64x128, .f32⟩
  | 44 => ⟨S32x4x1, .f32⟩
  | 45 => ⟨S32x4, .f32⟩
  | 46 => ⟨S32x4, .f32⟩
  | 47 => ⟨S32x4, .f32⟩
  | 48 => ⟨S32x4x1, .f32⟩
  | 49 => ⟨S_, .f32⟩
  | 50 => ⟨S32x4x64, .f32⟩
  | 51 => ⟨S32x4x64x128, .f32⟩
  | 52 => ⟨S_, .f32⟩
  | 53 => ⟨S32x4x64, .f32⟩
  | 54 => ⟨S32x4x64x1, .f32⟩
  | 55 => ⟨S32x4x64x128, .f32⟩
  | 56 => ⟨S32x4x64x128, .f32⟩
  | 57 => ⟨S_, .f32⟩
  | 58 => ⟨S32x4x64, .f32⟩
  | 59 => ⟨S32x4x64, .f32⟩
  | 60 => ⟨S32x4x64, .f32⟩
  | 61 => ⟨S32x4x64, .f32⟩
  | 62 => ⟨S_, .f32⟩
  | 63 => ⟨S32x4, .f32⟩
  | 64 => ⟨S32x4x1, .f32⟩
  | 65 => ⟨S32x4x64, .f32⟩
  | 66 => ⟨S32x4x64, .f32⟩
  | 67 => ⟨S_, .f32⟩
  | 68 => ⟨S32x4x64, .f32⟩
  | 69 => ⟨S32x4x64, .f32⟩
  | 70 => ⟨S32x4x64x128, .f32⟩
  | 71 => ⟨S32x4x64x128, .f32⟩
  | 72 => ⟨S32x4x64x128, .f32⟩
  | 73 => ⟨S_, .f32⟩
  | 74 => ⟨S32x4x64, .f32⟩
  | 75 => ⟨S32x4x64x1, .f32⟩
  | 76 => ⟨S32x4x64x64, .f32⟩
  | 77 => ⟨S_, .f32⟩
  | 78 => ⟨S32x4x64, .f32⟩
  | 79 => ⟨S32x4x1x64, .f32⟩
  | 80 => ⟨S32x4x64x64, .f32⟩
  | 81 => ⟨S32x4x64x64, .f32⟩
  | 82 => ⟨S_, .f32⟩
  | 83 => ⟨S32x4x64, .f32⟩
  | 84 => ⟨S32x4x64, .f32⟩
  | 85 => ⟨S32x4x64x64, .f32⟩
  | 86 => ⟨S32x4x64x64, .f32⟩
  | 87 => ⟨S32x4x64x128, .f32⟩
  | 88 => ⟨S32x4x64x128, .f32⟩
  | 89 => ⟨S32x4x64x128, .f32⟩
  | 90 => ⟨S32x4x64x128, .f32⟩
  | 91 => ⟨S_, .f32⟩
  | 92 => ⟨S32x4x64x256, .f32⟩
  | 93 => ⟨S_, .f32⟩
  | 94 => ⟨S32x4x64x256, .f32⟩
  | 95 => ⟨S32x4x64x256, .f32⟩
  | 96 => ⟨S32x4x64x64, .f32⟩
  | 97 => ⟨S32x4x64x256, .f32⟩
  | 98 => ⟨S32x4x64x256, .f32⟩
  | 99 => ⟨S32x4x64x64, .f32⟩
  | 100 => ⟨S32x4x64x128, .f32⟩
  | 101 => ⟨S32x4x64x128, .f32⟩
  | 102 => ⟨S32x4x64x128, .f32⟩
  | 103 => ⟨S32x4x64x128, .f32⟩
  | 104 => ⟨S32x4x64x128, .f32⟩
  | 105 => ⟨S32x4x64x128, .f32⟩
  | 106 => ⟨S_, .f32⟩
  | 107 => ⟨S32x4x64, .f32⟩
  | 108 => ⟨S32x4x64x1, .f32⟩
  | 109 => ⟨S32x4x64x1, .f32⟩
  | 110 => ⟨S_, .f32⟩
  | 111 => ⟨S32x4x64, .f32⟩
  | 112 => ⟨S32x4x64, .f32⟩
  | 113 => ⟨S32x4x64, .f32⟩
  | 114 => ⟨S32x4x64x64, .f32⟩
  | 115 => ⟨S_, .f32⟩
  | 116 => ⟨S32x4x64, .f32⟩
  | 117 => ⟨S32x4x1x64, .f32⟩
  | 118 => ⟨S32x4x64x64, .f32⟩
  | 119 => ⟨S32x4x64x64, .f32⟩
  | 120 => ⟨S_, .f32⟩
  | 121 => ⟨S32x4x64, .f32⟩
  | 122 => ⟨S32x4x64, .f32⟩
  | 123 => ⟨S32x4x64x64, .f32⟩
  | 124 => ⟨S32x4x64x64, .f32⟩
  | 125 => ⟨S32x4x64x128, .f32⟩
  | 126 => ⟨S32x4x64x128, .f32⟩
  | 127 => ⟨S32x4x64x128, .f32⟩
  | _ => ⟨S2048x512, .f32⟩

abbrev hbmTy0_2 (i : Nat) : BufTy := match i % 128 with
  | 0 => ⟨S32x4x64x128, .f32⟩
  | 1 => ⟨S_, .f32⟩
  | 2 => ⟨S32x4x64x64, .f32⟩
  | 3 => ⟨S32x4x64x64, .f32⟩
  | 4 => ⟨S32x4x64x64, .f32⟩
  | 5 => ⟨S_, .f32⟩
  | 6 => ⟨S32x4x64x64, .f32⟩
  | 7 => ⟨S32x4x64x64, .f32⟩
  | 8 => ⟨S32x4x64x64, .f32⟩
  | 9 => ⟨S_, .f32⟩
  | 10 => ⟨S32x4x64x64, .f32⟩
  | 11 => ⟨S32x4x64x64, .f32⟩
  | 12 => ⟨S_, .f32⟩
  | 13 => ⟨S32x4x64, .f32⟩
  | 14 => ⟨S32x4x64x1, .f32⟩
  | 15 => ⟨S32x4x64x64, .f32⟩
  | 16 => ⟨S_, .f32⟩
  | 17 => ⟨S32x4x64, .f32⟩
  | 18 => ⟨S32x4x1x64, .f32⟩
  | 19 => ⟨S_, .f32⟩
  | 20 => ⟨S32x4x64, .f32⟩
  | 21 => ⟨S32x4x64, .f32⟩
  | 22 => ⟨S_, .f32⟩
  | 23 => ⟨S32x4x64, .f32⟩
  | 24 => ⟨S32x4x64, .f32⟩
  | 25 => ⟨S_, .f32⟩
  | 26 => ⟨S_, .f32⟩
  | 27 => ⟨S32x4x64, .f32⟩
  | 28 => ⟨S32x64x4, .f32⟩
  | 29 => ⟨S2048x4, .f32⟩
  | 30 => ⟨S32x64x4, .f32⟩
  | 31 => ⟨S2048x4, .f32⟩
  | 32 => ⟨S32x64x4x128, .f32⟩
  | 33 => ⟨S2048x512, .f32⟩
  | 34 => ⟨S32x64x4x128, .f32⟩
  | 35 => ⟨S2048x512, .f32⟩
  | 36 => ⟨S32x64x4x128, .f32⟩
  | 37 => ⟨S2048x512, .f32⟩
  | 38 => ⟨S_, .f32⟩
  | 39 => ⟨S2048x124, .f32⟩
  | 40 => ⟨S2048x128, .f32⟩
  | 41 => ⟨S_, .f32⟩
  | 42 => ⟨S2048x124, .f32⟩
  | 43 => ⟨S2048x128, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_call0_cst : Ref sig .tc := ⟨.hbm, 21, rfl⟩
abbrev main_call0_call0_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_cst_0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_1 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_3 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_4 : Ref sig .tc := ⟨.hbm, 80, rfl⟩
abbrev main_v61 : Ref sig .tc := ⟨.hbm, 81, rfl⟩
abbrev main_v62 : Ref sig .tc := ⟨.hbm, 82, rfl⟩
abbrev main_c_5 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_c_6 : Ref sig .tc := ⟨.hbm, 92, rfl⟩
abbrev main_v71 : Ref sig .tc := ⟨.hbm, 93, rfl⟩
abbrev main_v72 : Ref sig .tc := ⟨.hbm, 94, rfl⟩
abbrev main_c_7 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_c_8 : Ref sig .tc := ⟨.hbm, 104, rfl⟩
abbrev main_v81 : Ref sig .tc := ⟨.hbm, 105, rfl⟩
abbrev main_v82 : Ref sig .tc := ⟨.hbm, 106, rfl⟩
abbrev main_c_9 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_c_10 : Ref sig .tc := ⟨.hbm, 116, rfl⟩
abbrev main_v91 : Ref sig .tc := ⟨.hbm, 117, rfl⟩
abbrev main_v92 : Ref sig .tc := ⟨.hbm, 118, rfl⟩
abbrev main_c_11 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_c_12 : Ref sig .tc := ⟨.hbm, 128, rfl⟩
abbrev main_v101 : Ref sig .tc := ⟨.hbm, 129, rfl⟩
abbrev main_v102 : Ref sig .tc := ⟨.hbm, 130, rfl⟩
abbrev main_c_13 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_c_14 : Ref sig .tc := ⟨.hbm, 140, rfl⟩
abbrev main_v111 : Ref sig .tc := ⟨.hbm, 141, rfl⟩
abbrev main_v112 : Ref sig .tc := ⟨.hbm, 142, rfl⟩
abbrev main_c_15 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_cst_16 : Ref sig .tc := ⟨.hbm, 177, rfl⟩
abbrev main_v146 : Ref sig .tc := ⟨.hbm, 178, rfl⟩
abbrev main_v147 : Ref sig .tc := ⟨.hbm, 179, rfl⟩
abbrev main_cst_17 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_cst_18 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_cst_19 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_cst_20 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_21 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_cst_22 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_cst_23 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_cst_24 : Ref sig .tc := ⟨.hbm, 219, rfl⟩
abbrev main_v180 : Ref sig .tc := ⟨.hbm, 220, rfl⟩
abbrev main_cst_25 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_cst_26 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_cst_27 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_cst_28 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_cst_29 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_cst_30 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_cst_31 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_cst_32 : Ref sig .tc := ⟨.hbm, 265, rfl⟩
abbrev main_v218 : Ref sig .tc := ⟨.hbm, 266, rfl⟩
abbrev main_v219 : Ref sig .tc := ⟨.hbm, 267, rfl⟩
abbrev main_cst_33 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_cst_34 : Ref sig .tc := ⟨.hbm, 272, rfl⟩
abbrev main_v223 : Ref sig .tc := ⟨.hbm, 273, rfl⟩
abbrev main_v224 : Ref sig .tc := ⟨.hbm, 274, rfl⟩
abbrev main_cst_35 : Ref sig .tc := ⟨.hbm, 275, rfl⟩
abbrev main_v225 : Ref sig .tc := ⟨.hbm, 276, rfl⟩
abbrev main_v226 : Ref sig .tc := ⟨.hbm, 277, rfl⟩
abbrev main_cst_36 : Ref sig .tc := ⟨.hbm, 278, rfl⟩
abbrev main_v227 : Ref sig .tc := ⟨.hbm, 279, rfl⟩
abbrev main_v228 : Ref sig .tc := ⟨.hbm, 280, rfl⟩
abbrev main_call1_call0_cst : Ref sig .tc := ⟨.hbm, 281, rfl⟩
abbrev main_call1_call0_v0 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_cst_37 : Ref sig .tc := ⟨.hbm, 294, rfl⟩
abbrev main_v240 : Ref sig .tc := ⟨.hbm, 295, rfl⟩
abbrev main_v241 : Ref sig .tc := ⟨.hbm, 296, rfl⟩
abbrev main_cst_38 : Ref sig .tc := ⟨.hbm, 297, rfl⟩
abbrev main_v242 : Ref sig .tc := ⟨.hbm, 298, rfl⟩
abbrev main_v243 : Ref sig .tc := ⟨.hbm, 299, rfl⟩

abbrev nD : Nat := 1
abbrev τ : Topo := Topo.v7x

variable {F : FTy → Type} [FloatOps F]
-- ==== DeltaK.lean ====
abbrev S2048x512 : Shape := ⟨2, ![2048, 512]⟩
abbrev S2048x4 : Shape := ⟨2, ![2048, 4]⟩
abbrev S32x64x4 : Shape := ⟨3, ![32, 64, 4]⟩
abbrev S32x4x64 : Shape := ⟨3, ![32, 4, 64]⟩
abbrev S_ : Shape := ⟨0, ![]⟩
abbrev S32x4x64x128 : Shape := ⟨4, ![32, 4, 64, 128]⟩
abbrev S32x64x4x128 : Shape := ⟨4, ![32, 64, 4, 128]⟩
abbrev S8192x256 : Shape := ⟨2, ![8192, 256]⟩
abbrev S8192x512 : Shape := ⟨2, ![8192, 512]⟩
abbrev S256x512 : Shape := ⟨2, ![256, 512]⟩
abbrev S1024x256 : Shape := ⟨2, ![1024, 256]⟩
abbrev S1024x512 : Shape := ⟨2, ![1024, 512]⟩
abbrev S256x256 : Shape := ⟨2, ![256, 256]⟩
abbrev S64x128 : Shape := ⟨2, ![64, 128]⟩
abbrev S256x128 : Shape := ⟨2, ![256, 128]⟩
abbrev S1x128 : Shape := ⟨2, ![1, 128]⟩

abbrev nBuf : Space → Nat
  | .hbm => 25
  | .vmem => 24
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x4, .f32⟩
  | .hbm, ⟨4, _⟩ => ⟨S2048x4, .f32⟩
  | .hbm, ⟨5, _⟩ => ⟨S32x64x4, .f32⟩
  | .hbm, ⟨6, _⟩ => ⟨S32x4x64, .f32⟩
  | .hbm, ⟨7, _⟩ => ⟨S_, .f32⟩
  | .hbm, ⟨8, _⟩ => ⟨S_, .f32⟩
  | .hbm, ⟨9, _⟩ => ⟨S32x4x64, .f32⟩
  | .hbm, ⟨10, _⟩ => ⟨S32x64x4, .f32⟩
  | .hbm, ⟨11, _⟩ => ⟨S32x4x64, .f32⟩
  | .hbm, ⟨12, _⟩ => ⟨S32x4x64x128, .f32⟩
  | .hbm, ⟨13, _⟩ => ⟨S32x64x4x128, .f32⟩
  | .hbm, ⟨14, _⟩ => ⟨S2048x512, .f32⟩
  | .hbm, ⟨15, _⟩ => ⟨S32x4x64x128, .f32⟩
  | .hbm, ⟨16, _⟩ => ⟨S32x64x4x128, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S8192x256, .f32⟩
  | .hbm, ⟨21, _⟩ => ⟨S8192x256, .f32⟩
  | .hbm, ⟨22, _⟩ => ⟨S8192x512, .bf16⟩
  | .hbm, ⟨23, _⟩ => ⟨S8192x512, .bf16⟩
  | .hbm, ⟨24, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_call0_cst : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DeltaRIdeal.lean ====
abbrev S2048x512 : Shape := ⟨2, ![2048, 512]⟩
abbrev S2048x4 : Shape := ⟨2, ![2048, 4]⟩
abbrev S32x64x4x128 : Shape := ⟨4, ![32, 64, 4, 128]⟩
abbrev S32x4x64x128 : Shape := ⟨4, ![32, 4, 64, 128]⟩
abbrev S32x64x4 : Shape := ⟨3, ![32, 64, 4]⟩
abbrev S32x4x64 : Shape := ⟨3, ![32, 4, 64]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S32x4x64x64 : Shape := ⟨4, ![32, 4, 64, 64]⟩
abbrev S32x4x64x1 : Shape := ⟨4, ![32, 4, 64, 1]⟩
abbrev S32x4x1x64 : Shape := ⟨4, ![32, 4, 1, 64]⟩
abbrev S32x4x64x256 : Shape := ⟨4, ![32, 4, 64, 256]⟩
abbrev S32x4x1 : Shape := ⟨3, ![32, 4, 1]⟩
abbrev S4x4 : Shape := ⟨2, ![4, 4]⟩
abbrev S1x4x1x4x1 : Shape := ⟨5, ![1, 4, 1, 4, 1]⟩
abbrev S32x4x64x4x64 : Shape := ⟨5, ![32, 4, 64, 4, 64]⟩
abbrev S32x4x64x1x64 : Shape := ⟨5, ![32, 4, 64, 1, 64]⟩
abbrev S8192x256 : Shape := ⟨2, ![8192, 256]⟩
abbrev S32x4x64x4x128 : Shape := ⟨5, ![32, 4, 64, 4, 128]⟩
abbrev S32x4x64x1x128 : Shape := ⟨5, ![32, 4, 64, 1, 128]⟩
abbrev S8192x512 : Shape := ⟨2, ![8192, 512]⟩

abbrev nBuf : Space → Nat
  | .hbm => 235
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x4, .f32⟩
  | 4 => ⟨S2048x4, .f32⟩
  | 5 => ⟨S32x64x4x128, .f32⟩
  | 6 => ⟨S32x4x64x128, .f32⟩
  | 7 => ⟨S32x64x4x128, .f32⟩
  | 8 => ⟨S32x4x64x128, .f32⟩
  | 9 => ⟨S32x64x4x128, .f32⟩
  | 10 => ⟨S32x4x64x128, .f32⟩
  | 11 => ⟨S32x64x4, .f32⟩
  | 12 => ⟨S32x4x64, .f32⟩
  | 13 => ⟨S32x64x4, .f32⟩
  | 14 => ⟨S32x4x64, .f32⟩
  | 15 => ⟨S_, .f32⟩
  | 16 => ⟨S_, .f32⟩
  | 17 => ⟨S32x4x64, .f32⟩
  | 18 => ⟨S64, .i32⟩
  | 19 => ⟨S64x1, .i32⟩
  | 20 => ⟨S1x64, .i32⟩
  | 21 => ⟨S64x64, .i32⟩
  | 22 => ⟨S64x64, .i32⟩
  | 23 => ⟨S64x64, .i1⟩
  | 24 => ⟨S32x4x64x64, .i1⟩
  | 25 => ⟨S64x1, .i32⟩
  | 26 => ⟨S1x64, .i32⟩
  | 27 => ⟨S64x64, .i32⟩
  | 28 => ⟨S64x64, .i32⟩
  | 29 => ⟨S64x64, .i1⟩
  | 30 => ⟨S32x4x64x64, .i1⟩
  | 31 => ⟨S32x4x64x1, .f32⟩
  | 32 => ⟨S32x4x1x64, .f32⟩
  | 33 => ⟨S32x4x64x64, .f32⟩
  | 34 => ⟨S32x4x64x64, .f32⟩
  | 35 => ⟨S32x4x64x64, .f32⟩
  | 36 => ⟨S_, .f32⟩
  | 37 => ⟨S32x4x64x64, .f32⟩
  | 38 => ⟨S32x4x64x64, .f32⟩
  | 39 => ⟨S32x4x64x64, .f32⟩
  | 40 => ⟨S32x4x64x64, .f32⟩
  | 41 => ⟨S32x4x64x64, .f32⟩
  | 42 => ⟨S32x4x64x64, .f32⟩
  | 43 => ⟨S32x4x64x64, .f32⟩
  | 44 => ⟨S32x4x1x64, .f32⟩
  | 45 => ⟨S32x4x64x64, .f32⟩
  | 46 => ⟨S32x4x64x64, .f32⟩
  | 47 => ⟨S32x4x64, .f32⟩
  | 48 => ⟨S32x4x64x1, .f32⟩
  | 49 => ⟨S32x4x64x128, .f32⟩
  | 50 => ⟨S32x4x64x128, .f32⟩
  | 51 => ⟨S32x4x64x256, .f32⟩
  | 52 => ⟨S64, .i32⟩
  | 53 => ⟨S64x1, .i32⟩
  | 54 => ⟨S1x64, .i32⟩
  | 55 => ⟨S64x64, .i32⟩
  | 56 => ⟨S64x64, .i32⟩
  | 57 => ⟨S64x64, .i32⟩
  | 58 => ⟨S_, .f32⟩
  | 59 => ⟨S32x4x64x64, .f32⟩
  | 60 => ⟨S64x64, .i32⟩
  | 61 => ⟨S64x64, .i32⟩
  | 62 => ⟨S_, .i32⟩
  | 63 => ⟨S64x64, .i32⟩
  | 64 => ⟨S64x64, .i32⟩
  | 65 => ⟨S64x64, .i1⟩
  | 66 => ⟨S64x64, .f32⟩
  | 67 => ⟨S32x4x64x64, .f32⟩
  | 68 => ⟨S_, .i32⟩
  | 69 => ⟨S64x64, .i32⟩
  | 70 => ⟨S64x64, .i1⟩
  | 71 => ⟨S_, .i32⟩
  | 72 => ⟨S64x64, .i32⟩
  | 73 => ⟨S64x64, .i1⟩
  | 74 => ⟨S64x64, .i1⟩
  | 75 => ⟨S32x4x64x64, .i1⟩
  | 76 => ⟨S32x4x64x64, .f32⟩
  | 77 => ⟨S32x4x64x64, .f32⟩
  | 78 => ⟨S32x4x64x64, .f32⟩
  | 79 => ⟨S32x4x64x64, .f32⟩
  | 80 => ⟨S_, .i32⟩
  | 81 => ⟨S64x64, .i32⟩
  | 82 => ⟨S64x64, .i1⟩
  | 83 => ⟨S_, .i32⟩
  | 84 => ⟨S64x64, .i32⟩
  | 85 => ⟨S64x64, .i1⟩
  | 86 => ⟨S64x64, .i1⟩
  | 87 => ⟨S32x4x64x64, .i1⟩
  | 88 => ⟨S32x4x64x64, .f32⟩
  | 89 => ⟨S32x4x64x64, .f32⟩
  | 90 => ⟨S32x4x64x64, .f32⟩
  | 91 => ⟨S32x4x64x64, .f32⟩
  | 92 => ⟨S_, .i32⟩
  | 93 => ⟨S64x64, .i32⟩
  | 94 => ⟨S64x64, .i1⟩
  | 95 => ⟨S_, .i32⟩
  | 96 => ⟨S64x64, .i32⟩
  | 97 => ⟨S64x64, .i1⟩
  | 98 => ⟨S64x64, .i1⟩
  | 99 => ⟨S32x4x64x64, .i1⟩
  | 100 => ⟨S32x4x64x64, .f32⟩
  | 101 => ⟨S32x4x64x64, .f32⟩
  | 102 => ⟨S32x4x64x64, .f32⟩
  | 103 => ⟨S32x4x64x64, .f32⟩
  | 104 => ⟨S_, .i32⟩
  | 105 => ⟨S64x64, .i32⟩
  | 106 => ⟨S64x64, .i1⟩
  | 107 => ⟨S_, .i32⟩
  | 108 => ⟨S64x64, .i32⟩
  | 109 => ⟨S64x64, .i1⟩
  | 110 => ⟨S64x64, .i1⟩
  | 111 => ⟨S32x4x64x64, .i1⟩
  | 112 => ⟨S32x4x64x64, .f32⟩
  | 113 => ⟨S32x4x64x64, .f32⟩
  | 114 => ⟨S32x4x64x64, .f32⟩
  | 115 => ⟨S32x4x64x64, .f32⟩
  | 116 => ⟨S_, .i32⟩
  | 117 => ⟨S64x64, .i32⟩
  | 118 => ⟨S64x64, .i1⟩
  | 119 => ⟨S_, .i32⟩
  | 120 => ⟨S64x64, .i32⟩
  | 121 => ⟨S64x64, .i1⟩
  | 122 => ⟨S64x64, .i1⟩
  | 123 => ⟨S32x4x64x64, .i1⟩
  | 124 => ⟨S32x4x64x64, .f32⟩
  | 125 => ⟨S32x4x64x64, .f32⟩
  | 126 => ⟨S32x4x64x64, .f32⟩
  | 127 => ⟨S32x4x64x64, .f32⟩
  | _ => ⟨S2048x512, .f32⟩

abbrev hbmTy0_1 (i : Nat) : BufTy := match i % 128 with
  | 0 => ⟨S_, .i32⟩
  | 1 => ⟨S64x64, .i32⟩
  | 2 => ⟨S64x64, .i1⟩
  | 3 => ⟨S_, .i32⟩
  | 4 => ⟨S64x64, .i32⟩
  | 5 => ⟨S64x64, .i1⟩
  | 6 => ⟨S64x64, .i1⟩
  | 7 => ⟨S32x4x64x64, .i1⟩
  | 8 => ⟨S32x4x64x64, .f32⟩
  | 9 => ⟨S32x4x64x64, .f32⟩
  | 10 => ⟨S32x4x64x64, .f32⟩
  | 11 => ⟨S32x4x64x64, .f32⟩
  | 12 => ⟨S32x4x64x256, .f32⟩
  | 13 => ⟨S32x4x64x128, .f32⟩
  | 14 => ⟨S32x4x64x128, .f32⟩
  | 15 => ⟨S32x4x64x64, .f32⟩
  | 16 => ⟨S32x4x64x64, .f32⟩
  | 17 => ⟨S32x4x1x64, .f32⟩
  | 18 => ⟨S32x4x64x64, .f32⟩
  | 19 => ⟨S32x4x64x64, .f32⟩
  | 20 => ⟨S32x4x64x128, .f32⟩
  | 21 => ⟨S32x4x64x128, .f32⟩
  | 22 => ⟨S32x4x1, .f32⟩
  | 23 => ⟨S32x4x64, .f32⟩
  | 24 => ⟨S32x4x64, .f32⟩
  | 25 => ⟨S32x4x64, .f32⟩
  | 26 => ⟨S32x4x64, .f32⟩
  | 27 => ⟨S32x4x64x1, .f32⟩
  | 28 => ⟨S32x4x64x128, .f32⟩
  | 29 => ⟨S32x4x64x128, .f32⟩
  | 30 => ⟨S32x64x4x128, .f32⟩
  | 31 => ⟨S2048x512, .f32⟩
  | 32 => ⟨S32x64x4x128, .f32⟩
  | 33 => ⟨S2048x512, .f32⟩
  | 34 => ⟨S4x4, .i32⟩
  | 35 => ⟨S4x4, .i32⟩
  | 36 => ⟨S_, .i32⟩
  | 37 => ⟨S4x4, .i32⟩
  | 38 => ⟨S4x4, .i32⟩
  | 39 => ⟨S4x4, .i1⟩
  | 40 => ⟨S1x4x1x4x1, .i1⟩
  | 41 => ⟨S32x4x64x4x64, .i1⟩
  | 42 => ⟨S32x4x64x1x64, .f32⟩
  | 43 => ⟨S32x4x64x4x64, .f32⟩
  | 44 => ⟨S_, .f32⟩
  | 45 => ⟨S32x4x64x4x64, .f32⟩
  | 46 => ⟨S32x4x64x4x64, .f32⟩
  | 47 => ⟨S8192x256, .f32⟩
  | 48 => ⟨S4x4, .i32⟩
  | 49 => ⟨S4x4, .i32⟩
  | 50 => ⟨S_, .i32⟩
  | 51 => ⟨S4x4, .i32⟩
  | 52 => ⟨S4x4, .i32⟩
  | 53 => ⟨S4x4, .i1⟩
  | 54 => ⟨S1x4x1x4x1, .i1⟩
  | 55 => ⟨S32x4x64x4x64, .i1⟩
  | 56 => ⟨S32x4x64x1x64, .f32⟩
  | 57 => ⟨S32x4x64x4x64, .f32⟩
  | 58 => ⟨S_, .f32⟩
  | 59 => ⟨S32x4x64x4x64, .f32⟩
  | 60 => ⟨S32x4x64x4x64, .f32⟩
  | 61 => ⟨S8192x256, .f32⟩
  | 62 => ⟨S4x4, .i32⟩
  | 63 => ⟨S4x4, .i32⟩
  | 64 => ⟨S_, .i32⟩
  | 65 => ⟨S4x4, .i32⟩
  | 66 => ⟨S4x4, .i32⟩
  | 67 => ⟨S4x4, .i1⟩
  | 68 => ⟨S1x4x1x4x1, .i1⟩
  | 69 => ⟨S32x4x64x4x128, .i1⟩
  | 70 => ⟨S32x4x64x1x128, .f32⟩
  | 71 => ⟨S32x4x64x4x128, .f32⟩
  | 72 => ⟨S_, .f32⟩
  | 73 => ⟨S32x4x64x4x128, .f32⟩
  | 74 => ⟨S32x4x64x4x128, .f32⟩
  | 75 => ⟨S8192x512, .f32⟩
  | 76 => ⟨S8192x512, .bf16⟩
  | 77 => ⟨S4x4, .i32⟩
  | 78 => ⟨S4x4, .i32⟩
  | 79 => ⟨S_, .i32⟩
  | 80 => ⟨S4x4, .i32⟩
  | 81 => ⟨S4x4, .i32⟩
  | 82 => ⟨S4x4, .i1⟩
  | 83 => ⟨S1x4x1x4x1, .i1⟩
  | 84 => ⟨S32x4x64x4x128, .i1⟩
  | 85 => ⟨S32x4x64x1x128, .f32⟩
  | 86 => ⟨S32x4x64x4x128, .f32⟩
  | 87 => ⟨S_, .f32⟩
  | 88 => ⟨S32x4x64x4x128, .f32⟩
  | 89 => ⟨S32x4x64x4x128, .f32⟩
  | 90 => ⟨S8192x512, .f32⟩
  | 91 => ⟨S8192x512, .bf16⟩
  | 92 => ⟨S4x4, .i32⟩
  | 93 => ⟨S4x4, .i32⟩
  | 94 => ⟨S_, .i32⟩
  | 95 => ⟨S4x4, .i32⟩
  | 96 => ⟨S4x4, .i32⟩
  | 97 => ⟨S4x4, .i1⟩
  | 98 => ⟨S1x4x1x4x1, .i1⟩
  | 99 => ⟨S32x4x64x4x128, .i1⟩
  | 100 => ⟨S32x4x64x1x128, .f32⟩
  | 101 => ⟨S32x4x64x4x128, .f32⟩
  | 102 => ⟨S_, .f32⟩
  | 103 => ⟨S32x4x64x4x128, .f32⟩
  | 104 => ⟨S32x4x64x4x128, .f32⟩
  | 105 => ⟨S8192x512, .f32⟩
  | 106 => ⟨S8192x512, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_call0_cst : Ref sig .tc := ⟨.hbm, 15, rfl⟩
abbrev main_call0_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_0 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_c : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_c_1 : Ref sig .tc := ⟨.hbm, 68, rfl⟩
abbrev main_v58 : Ref sig .tc := ⟨.hbm, 69, rfl⟩
abbrev main_v59 : Ref sig .tc := ⟨.hbm, 70, rfl⟩
abbrev main_c_2 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_c_3 : Ref sig .tc := ⟨.hbm, 80, rfl⟩
abbrev main_v68 : Ref sig .tc := ⟨.hbm, 81, rfl⟩
abbrev main_v69 : Ref sig .tc := ⟨.hbm, 82, rfl⟩
abbrev main_c_4 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_c_5 : Ref sig .tc := ⟨.hbm, 92, rfl⟩
abbrev main_v78 : Ref sig .tc := ⟨.hbm, 93, rfl⟩
abbrev main_v79 : Ref sig .tc := ⟨.hbm, 94, rfl⟩
abbrev main_c_6 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_c_7 : Ref sig .tc := ⟨.hbm, 104, rfl⟩
abbrev main_v88 : Ref sig .tc := ⟨.hbm, 105, rfl⟩
abbrev main_v89 : Ref sig .tc := ⟨.hbm, 106, rfl⟩
abbrev main_c_8 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_c_9 : Ref sig .tc := ⟨.hbm, 116, rfl⟩
abbrev main_v98 : Ref sig .tc := ⟨.hbm, 117, rfl⟩
abbrev main_v99 : Ref sig .tc := ⟨.hbm, 118, rfl⟩
abbrev main_c_10 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_c_11 : Ref sig .tc := ⟨.hbm, 128, rfl⟩
abbrev main_v108 : Ref sig .tc := ⟨.hbm, 129, rfl⟩
abbrev main_v109 : Ref sig .tc := ⟨.hbm, 130, rfl⟩
abbrev main_c_12 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_c_13 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_cst_14 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_c_15 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_cst_16 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_c_17 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_cst_18 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_c_19 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_cst_20 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_c_21 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_cst_22 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩

abbrev nD : Nat := 1
abbrev τ : Topo := Topo.v7x

variable {F : FTy → Type} [FloatOps F]
-- ==== Proof.Conv.Value.lean ====
module

public import proofs.«01_k».proof.Proof.Gen.ConvKIdeal.Value
public import proofs.«01_k».proof.Proof.Gen.ConvRIdeal.Read
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ConvKIdeal.Value

open Cert.ConvKIdeal Cert.ConvKIdeal.Gen

variable (m : (ℓ : Loc nD τ sig) → Buf (Elt Ideal) ℓ)

theorem idx : ∀ t : Fin cfg0.N, win0_0.index t = ![t.val, 0] ∧ win0_1.index t = ![min ((t.val + 1) * 32) 255, 0] ∧
    win0_2.index t = ![t.val, 0] ∧ win0_3.index t = ![t.val, 0] ∧ win0_4.index t = ![t.val * 32 - 1, 0] ∧
    win0_5.index t = ![0, 0] ∧ win0_6.index t = ![t.val, 0] ∧ win0_7.index t = ![0, 0] ∧ t.val < 8
    ∧ (grid0.coords t 0).val = t.val :=
  (by decide +kernel : ∀ t : Fin grid0.N, _)

/-- The gradient of the columns, as the reference computes it. -/
abbrev REF6 (x0 : FVec Ideal S2048x1536 .f32) (x1 : FVec Ideal S2048x8 .f32) (x4 : FVec Ideal S4x1536 .f32) : FVec Ideal S2048x1664 .bf16 :=
  Cert.ConvRIdeal.Read.val_main_v78 (F := Ideal) x0 x1 x4

/-- The rows of the saved columns that a grid point reads: its own 256. -/
theorem cur_at (c : Dev nD) (t : Fin cfg0.N) (r : Fin 256) (l : Fin 1536) (r' : Fin 2048) (hr : (r' : ℕ) = 256 * t.val + r) :
    (X0_3 m c t : FVec Ideal S256x1536 .f32) (ix2 r l) = (m ((c : Thread nD τ).loc main_arg2) : FVec Ideal S2048x1536 .f32) (ix2 r' l) := by
  unfold X0_3 Pipeline.Window.fill
  rw [dif_pos (moved0_3 t _)]
  blk_simp [iblk]
  unfold V hostOps0 hostOps0_1 hostOps0_2 hostOps0_3
  simp only [List.flatten, List.append_eq, List.cons_append, List.nil_append]
  after_reads_at
  rw [dif_pos (by blk_simp [idx t]; exact l.isLt)]
  blk_ext [idx t]

/-- … and the eight rows before them. -/
theorem prev_at (c : Dev nD) (t : Fin cfg0.N) (r : Fin 8) (l : Fin 1536) (r' : Fin 2048) (h0 : 0 < t.val) (hr : (r' : ℕ) + 8 = 256 * t.val + r) :
    (X0_4 m c t : FVec Ideal S8x1536 .f32) (ix2 r l) = (m ((c : Thread nD τ).loc main_arg2) : FVec Ideal S2048x1536 .f32) (ix2 r' l) := by
  unfold X0_4 Pipeline.Window.fill
  rw [dif_pos (moved0_4 t _)]
  blk_simp [iblk]
  unfold V hostOps0 hostOps0_1 hostOps0_2 hostOps0_3
  simp only [List.flatten, List.append_eq, List.cons_append, List.nil_append]
  after_reads_at
  rw [dif_pos (by blk_simp [idx t]; exact l.isLt)]
  blk_ext [idx t]

/-- The cotangent's rows that a grid point reads: its own 256 … -/
theorem dcur_at (c : Dev nD) (t : Fin cfg0.N) (r : Fin 256) (l : Fin 1536) (r' : Fin 2048) (hr : (r' : ℕ) = 256 * t.val + r) :
    (iblk m c 0 t : FVec Ideal S256x1536 .f32) (ix2 r l) = (m ((c : Thread nD τ).loc main_arg0) : FVec Ideal S2048x1536 .f32) (ix2 r' l) := by
  blk_ext [iblk, V, idx t]

/-- … and the eight after them. -/
theorem dnext_at (c : Dev nD) (t : Fin cfg0.N) (r : Fin 8) (l : Fin 1536) (r' : Fin 2048) (h0 : t.val < 7) (hr : (r' : ℕ) = 256 * t.val + 256 + r) :
    (iblk m c 1 t : FVec Ideal S8x1536 .f32) (ix2 r l) = (m ((c : Thread nD τ).loc main_arg0) : FVec Ideal S2048x1536 .f32) (ix2 r' l) := by
  blk_ext [iblk, V, idx t]

/-- The gates' cotangent, padded to a lane tile by the host. -/
theorem dba_at (c : Dev nD) (t : Fin cfg0.N) (r : Fin 256) (l : Fin 128) (r' : Fin 2048) (hr : (r' : ℕ) = 256 * t.val + r) :
    (show EReal from (iblk m c 2 t : FVec Ideal S256x128 .f32) (ix2 r l)) = (show EReal from (if h : (l : ℕ) < 8 then (show EReal from (m ((c : Thread nD τ).loc main_arg1) : FVec Ideal S2048x8 .f32) (ix2 r' ⟨l, h⟩)) else (0 : EReal))) := by
  blk_simp [iblk]
  unfold V hostOps0 hostOps0_1 hostOps0_2 hostOps0_3
  simp only [List.flatten, List.append_eq, List.cons_append, List.nil_append]
  after_reads_at
  have e1 : ((((View.whole main_v2).slice (win0_2.rect t)).emb (ix2 r l) 1 : Fin _) : ℕ) = l := by blk_simp [idx t]
  by_cases h : (l : ℕ) < 8
  · rw [dif_pos (by rw [e1]; exact h), dif_pos h]
    blk_ext [idx t]
  · rw [dif_neg (by rw [e1]; exact h), dif_neg h]
    simp [FloatOps.sitofp]

theorem taps_at (c : Dev nD) (t : Fin cfg0.N) : (iblk m c 5 t : FVec Ideal S4x1536 .f32) = (m ((c : Thread nD τ).loc main_arg4) : FVec Ideal S4x1536 .f32) := by
  blk_ext! [iblk, V, idx t]

/-- The two tests on the block's number. -/
theorem last_test (t : Fin cfg0.N) {α : Type} (x y : α) :
    Scalar.select (Scalar.cmpi .slt (BitVec.ofNat 32 (grid0.coords t 0).val) 7#32) x y = if t.val < 7 then x else y := by
  have h : ∀ t : Fin grid0.N, Scalar.cmpi .slt (BitVec.ofNat 32 (grid0.coords t 0).val) 7#32 = if t.val < 7 then 1#1 else 0#1 := by
    decide +kernel
  rw [h t]
  split <;> rfl

theorem first_test (t : Fin cfg0.N) {α : Type} (x y : α) :
    Scalar.select (Scalar.cmpi .sgt (BitVec.ofNat 32 (grid0.coords t 0).val) 0#32) x y = if 0 < t.val then x else y := by
  have h : ∀ t : Fin grid0.N, Scalar.cmpi .sgt (BitVec.ofNat 32 (grid0.coords t 0).val) 0#32 = if 0 < t.val then 1#1 else 0#1 := by
    decide +kernel
  rw [h t]
  split <;> rfl

/-- Row `k` of the cotangent, zero from the sequence's end on. -/
def later (dc : FVec Ideal S2048x1536 .f32) (k : ℕ) (l : Fin 1536) : EReal := if h : k < 2048 then dc (ix2 ⟨k, h⟩ l) else 0

/-- Row `k - 3` of the columns, zero before the sequence's start. -/
def earlier (x : FVec Ideal S2048x1536 .f32) (k : ℕ) (l : Fin 1536) : EReal := if h : 3 ≤ k ∧ k < 2051 then x (ix2 ⟨k - 3, by omega⟩ l) else 0

/-- The gradient of a column at row `r`: the four rows of the cotangent that its value reached, each times its tap. -/
def dx (dc : FVec Ideal S2048x1536 .f32) (w : FVec Ideal S4x1536 .f32) (r : ℕ) (l : Fin 1536) : EReal :=
  later dc (r + 3) l * w (ix2 0 l) + later dc (r + 2) l * w (ix2 1 l) + later dc (r + 1) l * w (ix2 2 l) + later dc r l * w (ix2 3 l)

theorem tap (dc : FVec Ideal S2048x1536 .f32) (n : ℕ) (l : Fin 1536) (w : EReal) {P : Prop} [Decidable P] (f : P → EReal) (hP : P ↔ n < 2048)
    (hf : ∀ (h : P) (h' : n < 2048), f h = dc (ix2 ⟨n, h'⟩ l) * w) : (if h : P then f h else 0) = later dc n l * w := by
  unfold later
  by_cases h : n < 2048
  · rw [dif_pos (hP.2 h), dif_pos h, hf (hP.2 h) h]
  · rw [dif_neg (fun h' => h (hP.1 h')), dif_neg h, zero_mul]

theorem row_eq {a n : ℕ} {α : Type} (f : ((i : Fin 2) → Fin (![a, n] i)) → α) (r r' : Fin a) (l l' : Fin n) (h : (r : ℕ) = r') (h' : (l : ℕ) = l') :
    f (ix2 r l) = f (ix2 r' l') := by
  obtain rfl := Fin.ext h
  obtain rfl := Fin.ext h'
  rfl

theorem later_fin (dc : FVec Ideal S2048x1536 .f32) (r : Fin 2048) (l : Fin 1536) : later dc r l = dc (ix2 r l) := by
  unfold later
  exact dif_pos r.isLt

theorem swap_four (a b c d : EReal) : a + b + c + d = d + c + b + a := by
  rw [add_comm, add_comm (a + b) c, add_comm a b, ← add_assoc, ← add_assoc]

/-- The gradient of tap `r`: every row of the cotangent against the row it was applied to. -/
def dw (dc x : FVec Ideal S2048x1536 .f32) (r : ℕ) (l : Fin 1536) : EReal :=
  ∑ k : Fin 2048, (show EReal from dc (ix2 k l)) * earlier x (k + r) l

theorem dw_term (x0 x2 : FVec Ideal S2048x1536 .f32) (r : ℕ) (l : Fin 1536) (k : Fin 2048) (hr : r ≤ 3) :
    (show EReal from if h : r + (k : ℕ) < 3 then (0 : EReal) else x2 (ix2 ⟨r + k - 3, by omega⟩ l)) * (show EReal from x0 (ix2 k l)) =
      (show EReal from x0 (ix2 k l)) * earlier x2 (k + r) l := by
  unfold earlier
  by_cases h : r + (k : ℕ) < 3
  · rw [dif_pos h, dif_neg (by omega), zero_mul, mul_zero]
  · rw [dif_neg h, dif_pos (by omega), mul_comm]
    congr 2
    blk_ext

/-- What one block of rows adds to the gradient of tap `r`. -/
def dwBlock (dc x : FVec Ideal S2048x1536 .f32) (t : ℕ) (r : ℕ) (l : Fin 1536) : EReal :=
  ∑ k : Fin 256, later dc (256 * t + k) l * earlier x (256 * t + k + r) l

open Cert.ConvRIdeal.Read in
set_option maxHeartbeats 400000 in
theorem ref6 (x0 : FVec Ideal S2048x1536 .f32) (x1 : FVec Ideal S2048x8 .f32) (x4 : FVec Ideal S4x1536 .f32) (r : Fin 2048) (l : Fin 1664) :
    REF6 x0 x1 x4 (ix2 r l) = (show EReal from if h : (l : ℕ) < 1536 then dx x0 x4 r ⟨l, h⟩ else
      if h : (l : ℕ) - 1536 < 8 then (show EReal from x1 (ix2 r ⟨l - 1536, h⟩)) else 0) := by
  unfold REF6
  pointwise [val_main_v78, val_main_v77, val_main_v75, val_main_v76, val_main_cst_17, val_main_v73, val_main_v72, val_main_v62, val_main_v61, val_main_v51, val_main_v50, val_main_v40, val_main_v67, val_main_v56, val_main_v45, val_main_v36, val_main_v30, val_main_v31, val_main_v66,val_main_v55, val_main_v44, val_main_v35, val_main_v26, val_main_v25, val_main_v24, val_main_v19,
    val_main_v18, val_main_v17, val_main_v12, val_main_v11, val_main_v10, val_main_v6, val_main_v5, val_main_v4, val_main_cst_4, val_main_cst_8, val_main_cst_12, val_main_cst_16]
  by_cases hl : (l : ℕ) < 1536
  · simp only [dif_pos hl]
    unfold dx
    refine Eq.trans ?_ (swap_four _ _ _ _)
    refine congrArg₂ (· + ·) (congrArg₂ (· + ·) (congrArg₂ (· + ·) (congrArg (· * _) (later_fin x0 r ⟨l, hl⟩).symm) ?_) ?_) ?_
    · exact tap x0 (r + 1) ⟨l, hl⟩ _ _ (by omega) fun h h' => congrArg (· * _) (row_eq x0 _ _ _ _ (by simp only []; omega) rfl)
    · exact tap x0 (r + 2) ⟨l, hl⟩ _ _ (by omega) fun h h' => congrArg (· * _) (row_eq x0 _ _ _ _ (by simp only []; omega) rfl)
    · exact tap x0 (r + 3) ⟨l, hl⟩ _ _ (by omega) fun h h' => congrArg (· * _) (row_eq x0 _ _ _ _ (by simp only []; omega) rfl)
  · rw [dif_neg hl, dif_neg hl]

open Cert.ConvRIdeal.Read in
set_option maxHeartbeats 400000 in
theorem ref7 (x0 : FVec Ideal S2048x1536 .f32) (x2 : FVec Ideal S2048x1536 .f32) (r : Fin 4) (l : Fin 1536) :
    (show EReal from val_main_v71 (F := Ideal) x0 x2 (ix2 r l)) = dw x0 x2 r l := by
  rw [← val_main_v71_eq]
  pointwise
  unfold dw
  have hc : (r : ℕ) = 0 ∨ (r : ℕ) = 1 ∨ (r : ℕ) = 2 ∨ (r : ℕ) = 3 := by omega
  rcases hc with h | h | h | h
  · rw [h, dif_neg (by omega), dif_neg (by omega), dif_neg (by omega), dif_pos (by omega), zero_add, zero_add, zero_add, Fin.sum_univ_one]
    have hs := Fin.sum_univ_add (M := EReal) (a := 3) (b := 2045) fun k => (show EReal from x0 (ix2 k l)) * earlier x2 (k + 0) l
    refine Eq.trans (congrArg₂ (· + ·) ?_ ?_) hs.symm
    · refine Finset.sum_congr rfl fun k _ => ?_
      unfold earlier
      rw [dif_neg (by simp)]
      exact (zero_mul _).trans (mul_zero _).symm
    · refine Finset.sum_congr rfl fun k _ => ?_
      unfold earlier
      rw [dif_pos (by simp; omega), mul_comm]
      exact congrArg₂ (· * ·) (row_eq x0 _ _ _ _ rfl rfl) (row_eq x2 _ _ _ _ (by simp) rfl)
  · rw [h, dif_neg (by omega), dif_neg (by omega), dif_pos (by omega), dif_neg (by omega), zero_add, zero_add, add_zero, Fin.sum_univ_one]
    exact Finset.sum_congr rfl fun k _ => dw_term x0 x2 1 l k (by omega)
  · rw [h, dif_neg (by omega), dif_pos (by omega), dif_neg (by omega), dif_neg (by omega), zero_add, add_zero, add_zero, Fin.sum_univ_one]
    exact Finset.sum_congr rfl fun k _ => dw_term x0 x2 2 l k (by omega)
  · rw [h, dif_pos (by omega), dif_neg (by omega), dif_neg (by omega), dif_neg (by omega), add_zero, add_zero, add_zero, Fin.sum_univ_one]
    refine Finset.sum_congr rfl fun k _ => ?_
    rw [← dw_term x0 x2 3 l k (by omega), dif_neg (by omega)]
    congr 1
    blk_ext

set_option maxHeartbeats 400000 in
theorem pay5 (t : Fin cfg0.N) (nx : FVec Ideal S8x1536 .f32) (x0 : FVec Ideal S256x1536 .f32) (x5 : FVec Ideal S4x1536 .f32) (D : FVec Ideal S2048x1536 .f32)
    (hx0 : ∀ (r : Fin 256) (l : Fin 1536) (r' : Fin 2048), (r' : ℕ) = 256 * t.val + r → x0 (ix2 r l) = D (ix2 r' l))
    (hnx : ∀ (r : Fin 8) (l : Fin 1536) (r' : Fin 2048), t.val < 7 → (r' : ℕ) = 256 * t.val + 256 + r → nx (ix2 r l) = D (ix2 r' l))
    (r : Fin 256) (l : Fin 1536) :
    (show EReal from k0_pay2 (F := Ideal) (k0_pay5 (grid0.coords t) nx x0 x5) (ix2 r l)) = dx D x5 (256 * t.val + r) l := by
  have ht := (idx t).2.2.2.2.2.2.2.2.1
  have key : ∀ (k n : ℕ) (w : EReal) (hn : n = r + k) (hk : k ≤ 3), (show EReal from if h : n < 256 then x0 (ix2 ⟨n, h⟩ l) else
      Scalar.select (Scalar.cmpi .slt (BitVec.ofNat 32 (grid0.coords t 0).val) 7#32) (nx (ix2 ⟨n - 256, by omega⟩ l)) (0 : EReal)) * w
        = later D (256 * t.val + r + k) l * w := by
    intro k n w hn hk
    subst hn
    unfold later
    refine congrArg (· * w) ?_
    show (dite _ _ _ : EReal) = _
    by_cases h : (r : ℕ) + k < 256
    · rw [dif_pos h, dif_pos (by omega)]
      exact hx0 _ _ _ (by simp; omega)
    · rw [dif_neg h, last_test]
      by_cases h' : t.val < 7
      · rw [if_pos h', dif_pos (by omega)]
        exact hnx _ _ _ h' (by simp; omega)
      · rw [if_neg h', dif_neg (by omega)]
  pointwise [k0_pay2, k0_pay5]
  unfold dx
  refine congrArg₂ (· + ·) (congrArg₂ (· + ·) (congrArg₂ (· + ·) ?_ ?_) ?_) ?_
  · exact key 3 _ _ (by omega) (by omega)
  · exact key 2 _ _ (by omega) (by omega)
  · exact key 1 _ _ (by omega) (by omega)
  · rw [later, dif_pos (by omega)]
    exact congrArg (· * _) (hx0 _ _ _ rfl)

set_option maxHeartbeats 400000 in
theorem pay1 (t : Fin cfg0.N) (x0 : FVec Ideal S256x1536 .f32) (pv : FVec Ideal S8x1536 .f32) (x3 : FVec Ideal S256x1536 .f32) (D X : FVec Ideal S2048x1536 .f32)
    (hx0 : ∀ (r : Fin 256) (l : Fin 1536) (r' : Fin 2048), (r' : ℕ) = 256 * t.val + r → x0 (ix2 r l) = D (ix2 r' l))
    (hx3 : ∀ (r : Fin 256) (l : Fin 1536) (r' : Fin 2048), (r' : ℕ) = 256 * t.val + r → x3 (ix2 r l) = X (ix2 r' l))
    (hpv : ∀ (r : Fin 8) (l : Fin 1536) (r' : Fin 2048), 0 < t.val → (r' : ℕ) + 8 = 256 * t.val + r → pv (ix2 r l) = X (ix2 r' l))
    (r : Fin 4) (l : Fin 1536) :
    (show EReal from k0_pay1 (F := Ideal) x0 (k0_pay6 (grid0.coords t) pv x3) (k0_pay7 (grid0.coords t) pv x0 x3) (ix2 r l)) = dwBlock D X t.val r l := by
  have ht := (idx t).2.2.2.2.2.2.2.2.1
  have key : ∀ (k n : ℕ) (x : Fin 256) (hn : n = 8 + x - (3 - k)) (hk : k ≤ 3) , (show EReal from x0 (ix2 x l)) * (show EReal from if h : n < 8 then
      Scalar.select (Scalar.cmpi .sgt (BitVec.ofNat 32 (grid0.coords t 0).val) 0#32) (pv (ix2 ⟨n, h⟩ l)) (0 : EReal) else x3 (ix2 ⟨n - 8, by omega⟩ l))
        = later D (256 * t.val + x) l * earlier X (256 * t.val + x + k) l := by
    intro k n x hn hk
    have hl : later D (256 * t.val + x) l = D (ix2 ⟨256 * t.val + x, by omega⟩ l) := dif_pos (by omega)
    rw [hl]
    refine congrArg₂ (· * ·) (hx0 x l _ rfl) ?_
    unfold earlier
    subst hn
    show (dite _ _ _ : EReal) = _
    by_cases h : 8 + (x : ℕ) - (3 - k) < 8
    · rw [dif_pos h, first_test]
      by_cases h' : 0 < t.val
      · rw [if_pos h', dif_pos (by omega)]
        exact hpv _ _ _ h' (by simp; omega)
      · rw [if_neg h', dif_neg (by omega)]
    · rw [dif_neg h, dif_pos (by omega)]
      exact hx3 _ _ _ (by simp; omega)
  pointwise [k0_pay1, k0_pay6, k0_pay7]
  unfold dwBlock
  have hc : (r : ℕ) = 0 ∨ (r : ℕ) = 1 ∨ (r : ℕ) = 2 ∨ (r : ℕ) = 3 := by omega
  rcases hc with h | h | h | h
  · rw [h, dif_pos (by omega)]
    exact Finset.sum_congr rfl fun k _ => key 0 _ k (by omega) (by omega)
  · rw [h, dif_neg (by omega), dif_pos (by omega)]
    exact Finset.sum_congr rfl fun k _ => key 1 _ k (by omega) (by omega)
  · rw [h, dif_neg (by omega), dif_neg (by omega), dif_pos (by omega)]
    exact Finset.sum_congr rfl fun k _ => key 2 _ k (by omega) (by omega)
  · rw [h, dif_neg (by omega), dif_neg (by omega), dif_neg (by omega)]
    refine Finset.sum_congr rfl fun k _ => ?_
    rw [← key 3 (8 + k) k (by omega) (by omega), dif_neg (by omega)]
    exact congrArg₂ (· * ·) rfl (row_eq x3 _ _ _ _ (by simp) rfl)

set_option maxHeartbeats 400000 in
/-- A block of the first result: the columns' gradient and, beside it, the gates' cotangent. -/
theorem block6 (c : Dev nD) (t : Fin cfg0.N) (y : S256x1664.Idx) :
    (View.canon (Val := Elt Ideal) (s := S256x1664) (e := .bf16)
      [⟨Rect.unit ![0, 1536] ![256, 128] inb_S256x1664_S256x128_0_1536, k0_pay3 (F := Ideal) (iblk m c 2 t)⟩,
        ⟨Rect.unit ![0, 0] ![256, 1536] inb_S256x1664_S256x1536_0_0,
          k0_pay2 (F := Ideal) (k0_pay5 (grid0.coords t) (iblk m c 1 t) (iblk m c 0 t) (iblk m c 5 t))⟩] : FVec Ideal S256x1664 .bf16) y =
    REF6 (m ((c : Thread nD τ).loc main_arg0)) (m ((c : Thread nD τ).loc main_arg1)) (m ((c : Thread nD τ).loc main_arg4))
      (((View.whole main_v3_0).slice (win0_6.rect t)).emb y) := by
  have lt := (idx t).2.2.2.2.2.2.2.2.1
  have e0 : ((((View.whole main_v3_0).slice (win0_6.rect t)).emb y 0 : Fin _) : ℕ) = 256 * t.val + y 0 := by blk_simp [idx t]; omega
  have e1 : ((((View.whole main_v3_0).slice (win0_6.rect t)).emb y 1 : Fin _) : ℕ) = y 1 := by blk_simp [idx t]
  have y0 : (y 0 : ℕ) < 256 := y 0 |>.isLt
  have y1 : (y 1 : ℕ) < 1664 := y 1 |>.isLt
  have ey : ((View.whole main_v3_0).slice (win0_6.rect t)).emb y = ix2 ⟨256 * t.val + (y 0 : ℕ), by omega⟩ ⟨y 1, y1⟩ := by
    funext a
    match a with
    | 0 => exact Fin.ext e0
    | 1 => exact Fin.ext e1
  rw [ey]
  refine Eq.trans ?_ (ref6 _ _ _ _ _).symm
  canon_tiles x h using (by
    rcases Nat.lt_or_ge (y 1 : ℕ) 1536 with c1 | c1
    · refine ⟨_, List.mem_cons_of_mem _ (List.mem_cons_self ..), ?_⟩
      rw [Rect.mem_set_unit]
      intro a
      match a with
      | 0 => exact ⟨Nat.zero_le _, by simpa using y0⟩
      | 1 => exact ⟨Nat.zero_le _, by simpa using c1⟩
    · refine ⟨_, List.mem_cons_self .., ?_⟩
      rw [Rect.mem_set_unit]
      intro a
      match a with
      | 0 => exact ⟨Nat.zero_le _, by simpa using y0⟩
      | 1 => exact ⟨c1, y1⟩)
  · idx_vars x
    rw [dif_neg (show ¬(y 1 : ℕ) < 1536 by omega)]
    refine Eq.trans (b := (show EReal from (iblk m c 2 t : FVec Ideal S256x128 .f32) (ix2 x0 x1))) (by pointwise [k0_pay3]) ?_
    rw [dba_at m c t x0 x1 ⟨256 * t.val + (y 0 : ℕ), by omega⟩ (by simp; omega)]
    by_cases c8 : (x1 : ℕ) < 8
    · rw [dif_pos c8, dif_pos (show (y 1 : ℕ) - 1536 < 8 by omega)]
      exact row_eq _ _ _ _ _ rfl (by simp; omega)
    · rw [dif_neg c8, dif_neg (show ¬(y 1 : ℕ) - 1536 < 8 by omega)]
  · idx_vars x
    rw [dif_pos (show (y 1 : ℕ) < 1536 by omega)]
    refine (pay5 t _ _ _ _ (dcur_at m c t) (dnext_at m c t) _ _).trans ?_
    rw [taps_at, h0]
    exact congrArg _ (Fin.ext h1.symm)

theorem final6 (c : Dev nD) : (dats m 0 c).arrAt 6 cfg0.N =
    REF6 (m ((c : Thread nD τ).loc main_arg0)) (m ((c : Thread nD τ).loc main_arg1)) (m ((c : Thread nD τ).loc main_arg4)) := by
  refine (dats m 0 c).arrAt_eq_of_covers 6 _ (by decide +kernel) fun t _ y => ?_
  blk_simp
  rw [after0_6]
  rcases Nat.eq_zero_or_pos t.val with h | h
  · rw [outsAt0_A m c t (by omega) (by omega)]
    frame_out
    exact block6 m c t y
  · rw [outsAt0_B m c t (by have := (idx t).2.2.2.2.2.2.2.2.1; omega) (by omega)]
    frame_out
    exact block6 m c t y

theorem dw_blocks (D X : FVec Ideal S2048x1536 .f32) (r : ℕ) (l : Fin 1536) : ∑ t : Fin 8, dwBlock D X t.val r l = dw D X r l := by
  unfold dwBlock dw
  refine Fin.sum_mul_add_congr fun s k hl => ?_
  rw [mul_comm (s : ℕ) 256] at hl
  have e : later D (256 * s.val + k) l = D (ix2 ⟨256 * s.val + k, hl⟩ l) := dif_pos hl
  rw [e]
  exact congrArg₂ (· * ·) (row_eq D _ _ _ _ (by simp; omega) rfl) (congrArg (fun n => earlier X (n + r) l) (by simp; omega))

set_option maxHeartbeats 400000 in
theorem final7 (c : Dev nD) : (dats m 0 c).arrAt 7 cfg0.N =
    Cert.ConvRIdeal.Read.val_main_v71 (F := Ideal) (m ((c : Thread nD τ).loc main_arg0)) (m ((c : Thread nD τ).loc main_arg2)) := by
  have h3 : ∀ t : Fin cfg0.N, ∀ j, (k0_pay1 (F := Ideal) (iblk m c 0 t) (k0_pay6 (grid0.coords t) (X0_4 m c t) (X0_3 m c t)) (k0_pay7 (grid0.coords t) (X0_4 m c t) (iblk m c 0 t) (X0_3 m c t)) j : EReal) =
     dwBlock (m ((c : Thread nD τ).loc main_arg0)) (m ((c : Thread nD τ).loc main_arg2)) t.val (j 0) (j 1) := by
    intro t j
    idx_vars j
    exact pay1 t _ _ _ _ _ (dcur_at m c t) (cur_at m c t) (prev_at m c t) _ _
  refine (dats m 0 c).arrAt_eq_of_after_last 7 t0_7 (by decide +kernel) _ fun j => ?_
  blk_simp
  rw [after0_7, Pipeline.eq_sum_fin_of_reset_step_apply_last (fun n h => (outsAt0 m c n h).2) 8 (fun _ => (0 : EReal)) (fun t j => dwBlock (m ((c : Thread nD τ).loc main_arg0)) (m ((c : Thread nD τ).loc main_arg2)) t.val (j 0) (j 1)) (fun t h j => by
    rw [outsAt0_A m c t h (by have := (idx t).2.2.2.2.2.2.2.2.1; omega)]; frame_out; exact (h3 t j).trans (zero_add _).symm) (fun t h j => by rw [outsAt0_B m c t h (by omega)]; frame_out; refine (show k0_pay4 (F := Ideal) _ _ _ _ j = _ from ?_); rw [← h3]; pointwise [k0_pay4]) (le_of_eq N_0) t0_7 rfl j, zero_add]
  idx_vars j
  exact (dw_blocks _ _ _ _).trans (ref7 _ _ _ _).symm

end Cert.ConvKIdeal.Value

end
-- ==== Proof.Conv.Claim.lean ====
module

public import proofs.«01_k».proof.Proof.Conv.Value
public import proofs.«01_k».proof.Proof.Gen.ConvK.Frame
public import proofs.«01_k».proof.Proof.Gen.ConvRIdeal.Run
public import proofs.«01_k».proof.Defs

@[expose] public section

set_option maxRecDepth 16384

noncomputable section

namespace Cert.Proof.Conv

open Idealize.ShloMosaic Idealize.SL.Sem

theorem frame_k : Cert.quiescent_ConvK (hConvK := Cert.ConvK.Gen.facts) := fun m ρ _ => Cert.ConvK.Gen.frame m ρ

theorem frame_ki : Cert.quiescent_ConvKIdeal (hConvKIdeal := Cert.ConvKIdeal.Gen.facts) := fun m ρ _ => Cert.ConvKIdeal.Gen.frame m ρ

theorem frame_r : Cert.quiescent_ConvRIdeal (hConvRIdeal := Cert.ConvRIdeal.Gen.facts) := fun m g _ =>
  (θ_run _ _ _).mono (fun r h => ⟨fun c => (h c).2.2, Idealize.ShloMosaic.sem_eq_zero_of_no_sems (by decide) r.2⟩) (Cert.ConvRIdeal.Value.run m g)

theorem algebraic : Cert.algebraic_ConvKIdeal_ConvRIdeal (hConvKIdeal := Cert.ConvKIdeal.Gen.facts) (hConvRIdeal := Cert.ConvRIdeal.Gen.facts) := by
  pair_intro
  · run_from Cert.ConvKIdeal.Value.run_blocks m g
  · refine (θ_run _ _ _).mono (fun r h c => ?_) (Cert.ConvRIdeal.Value.run m' g')
    obtain ⟨h0, h1, hk⟩ := h c
    obtain ⟨a0, a1, a2, a3, a4⟩ := hagree c
    refine ⟨h0.trans ((Cert.ConvRIdeal.Read.val_main_v78_eq _ _ _).trans ?_), h1.trans ((Cert.ConvRIdeal.Read.val_main_v71_eq _ _).trans ?_), hk⟩
    · rw [a0, a1, a4]
      exact (Cert.ConvKIdeal.Value.final6 m c).symm
    · rw [a0, a2]
      exact (Cert.ConvKIdeal.Value.final7 m c).symm

end Cert.Proof.Conv

end
-- ==== Proof.Reals.lean ====
module

public import Idealize.ShloMosaic.Lib.StableHlo
public import Idealize.ShloMosaic.Lib.IdealHost
public import Idealize.ShloMosaic.PureOps

@[expose] public section

noncomputable section

open Idealize.ShloMosaic

/-! Facts about finite values: the gradients are equal as real numbers, so a claim about them first brings every entry
    to a real and then computes with reals. -/

namespace Reals

/-- The extended reals that are reals. -/
def IsReal (x : EReal) : Prop := ∃ r : ℝ, x = (r : EReal)

theorem fin_of_lt {x : EReal} (h : Ideal.cmp .olt (max x (-x)) (⊤ : EReal) = 1#1) : IsReal x := by
  induction x with
  | bot => simp [Ideal.cmp] at h
  | top => simp [Ideal.cmp] at h
  | coe r => exact ⟨r, rfl⟩

theorem ofBits_inf : Ideal.ofBits .f32 0x7F800000#32 = (⊤ : EReal) := by simp [Ideal.ofBits, Ideal.ieee]

/-- An array whose entries all lie below infinity in absolute value has real entries. -/
theorem fin_of_pre {S : Shape} (x : FVec Ideal S .f32) (y : FVec Ideal S .f32)
    (hy : ∀ i, y i = Ideal.ofBits .f32 0x7F800000#32) (h : cmpf .olt (Host.absf x) y = fun _ => 1#1) (i : S.Idx) : IsReal (x i) := by
  have e := congrFun h i
  refine fin_of_lt ?_
  have e' : Ideal.cmp .olt (max (x i) (-(x i))) (y i) = 1#1 := e
  rw [hy i, ofBits_inf] at e'
  exact e'

variable {x y : EReal}

theorem IsReal.add (hx : IsReal x) (hy : IsReal y) : IsReal (x + y) := by
  obtain ⟨a, rfl⟩ := hx; obtain ⟨b, rfl⟩ := hy; exact ⟨a + b, by push_cast; rfl⟩

theorem IsReal.sub (hx : IsReal x) (hy : IsReal y) : IsReal (x - y) := by
  obtain ⟨a, rfl⟩ := hx; obtain ⟨b, rfl⟩ := hy; exact ⟨a - b, by push_cast; rfl⟩

theorem IsReal.mul (hx : IsReal x) (hy : IsReal y) : IsReal (x * y) := by
  obtain ⟨a, rfl⟩ := hx; obtain ⟨b, rfl⟩ := hy; exact ⟨a * b, by push_cast; rfl⟩

theorem IsReal.neg (hx : IsReal x) : IsReal (-x) := by
  obtain ⟨a, rfl⟩ := hx; exact ⟨-a, by push_cast; rfl⟩

theorem IsReal.zero : IsReal 0 := ⟨0, rfl⟩
theorem IsReal.one : IsReal 1 := ⟨1, rfl⟩

theorem coe_sum {ι : Type} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, ← ih]; exact EReal.coe_add _ _

theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

theorem IsReal.exp (hx : IsReal x) : IsReal (Ideal.exp x) := by
  obtain ⟨a, rfl⟩ := hx; exact ⟨Real.exp a, Ideal.exp_coe a⟩

/-- Division of reals, the divisor not zero. -/
theorem div_coe (a b : ℝ) (hb : b ≠ 0) : Ideal.div (a : EReal) (b : EReal) = ((a / b : ℝ) : EReal) := by
  rw [Ideal.div_coe hb, ← EReal.coe_mul, mul_one_div]

theorem rsqrt_coe (a : ℝ) (ha : 0 < a) : Ideal.rsqrt (a : EReal) = (((Real.sqrt a)⁻¹ : ℝ) : EReal) := by
  rw [Ideal.rsqrt_coe, if_neg (not_lt.mpr ha.le), if_neg ha.ne']

/-! The constants of the programs. -/

/-- The norms' small constant. -/
def eps : ℝ := 8796093 / 8796093022208

theorem eps_pos : 0 < eps := by unfold eps; norm_num

theorem ofBits_eps : Ideal.ofBits .f32 0x358637BD#32 = (eps : EReal) := by
  simp [Ideal.ofBits, Ideal.ieee, eps, -EReal.coe_mul]; norm_num

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- 128 to the power of minus a half, as the programs hold it. -/
def scale : ℝ := 11863283 / 134217728

theorem ofBits_scale : Ideal.ofBits .f32 0x3DB504F3#32 = (scale : EReal) := by
  simp [Ideal.ofBits, Ideal.ieee, scale, -EReal.coe_mul]; norm_num

/-! The gradient of a normalisation, written by hand and by the chain rule. -/

section norm

variable {ι : Type} [Fintype ι]

theorem norm_real (x g : ι → ℝ) (N e : ℝ) (hN : 0 < N) (he : 0 < e) (l : ι) (rs M T : ℝ) (hM : M = (∑ k, x k * x k) / N + e)
    (hrs : rs = (Real.sqrt M)⁻¹) (hT : T = ∑ k, g k * (x k * rs)) :
    rs * (g l - x l * rs * (T / N)) =
      g l * rs + x l * ((∑ k, x k * g k) * (-(1 / 2) * (rs / M)) / N) + ((∑ k, x k * g k) * (-(1 / 2) * (rs / M)) / N) * x l := by
  have hS : 0 ≤ ∑ k, x k * x k := Finset.sum_nonneg fun k _ => mul_self_nonneg _
  have hM0 : 0 < M := by rw [hM]; positivity
  have h2 : rs * rs = 1 / M := by
    rw [hrs, ← mul_inv, Real.mul_self_sqrt hM0.le, one_div]
  have hT' : T = rs * ∑ k, x k * g k := by
    rw [hT, Finset.mul_sum]; exact Finset.sum_congr rfl fun k _ => by ring
  have h3 : rs / M = rs * (rs * rs) := by rw [h2]; ring
  rw [hT', h3]
  ring

/-- The root mean square's form: the cotangent `g` reaches the row before its scale, `d` comes along the skip. -/
theorem rms_grad (x g : ι → EReal) (d : EReal) (hx : ∀ k, IsReal (x k)) (hg : ∀ k, IsReal (g k)) (N : ℝ) (hN : 0 < N) (l : ι)
    (rs : EReal) (hrs : rs = Ideal.rsqrt (Ideal.div (∑ k, x k * x k) (N : EReal) + (eps : EReal))) :
    d + rs * (g l - x l * rs * Ideal.div (∑ k, g k * (x k * rs)) (N : EReal)) =
      d + g l * rs
        + x l * Ideal.div ((∑ k, x k * g k) * (((-(1 / 2) : ℝ) : EReal) * Ideal.div rs (Ideal.div (∑ k, x k * x k) (N : EReal) + (eps : EReal)))) (N : EReal)
        + Ideal.div ((∑ k, x k * g k) * (((-(1 / 2) : ℝ) : EReal) * Ideal.div rs (Ideal.div (∑ k, x k * x k) (N : EReal) + (eps : EReal)))) (N : EReal) * x l := by
  choose a ha using hx
  choose b hb using hg
  obtain rfl : x = fun k => (a k : EReal) := funext ha
  obtain rfl : g = fun k => (b k : EReal) := funext hb
  have hS : 0 ≤ ∑ k, a k * a k := Finset.sum_nonneg fun k _ => mul_self_nonneg _
  have hM0 : 0 < (∑ k, a k * a k) / N + eps := by have := eps_pos; positivity
  have e := norm_real a b N eps hN eps_pos l _ _ _ rfl rfl rfl
  have eM : Ideal.div (∑ k, (a k : EReal) * (a k : EReal)) (N : EReal) + (eps : EReal) = (((∑ k, a k * a k) / N + eps : ℝ) : EReal) := by
    simp only [← EReal.coe_mul, ← coe_sum, div_coe _ N hN.ne', ← EReal.coe_add]
  rw [eM] at hrs ⊢
  rw [rsqrt_coe _ hM0] at hrs
  subst hrs
  simp only [← EReal.coe_mul, ← coe_sum, div_coe _ _ hN.ne', div_coe _ _ hM0.ne', ← EReal.coe_sub]
  rw [e]
  push_cast
  simp only [add_assoc]

theorem l2_real (x g : ι → EReal) (hx : ∀ k, IsReal (x k)) (hg : ∀ k, IsReal (g k)) (l : ι) :
    IsReal (Ideal.rsqrt (∑ k, x k * x k + (eps : EReal)) * (g l - x l * Ideal.rsqrt (∑ k, x k * x k + (eps : EReal)) *
      ∑ k, g k * (x k * Ideal.rsqrt (∑ k, x k * x k + (eps : EReal))))) := by
  have hr : IsReal (Ideal.rsqrt (∑ k, x k * x k + (eps : EReal))) := by
    choose a ha using hx
    obtain rfl : x = fun k => (a k : EReal) := funext ha
    have hS : 0 ≤ ∑ k, a k * a k := Finset.sum_nonneg fun k _ => mul_self_nonneg _
    simp only [← EReal.coe_mul, ← coe_sum, ← EReal.coe_add]
    exact ⟨_, rsqrt_coe _ (by have := eps_pos; positivity)⟩
  exact hr.mul ((hg l).sub (((hx l).mul hr).mul (.sum _ _ fun k => (hg k).mul ((hx k).mul hr))))

/-- The euclidean norm's form. -/
theorem l2_grad (x g : ι → EReal) (hx : ∀ k, IsReal (x k)) (hg : ∀ k, IsReal (g k)) (l : ι)
    (rs : EReal) (hrs : rs = Ideal.rsqrt (∑ k, x k * x k + (eps : EReal))) :
    g l * rs + x l * ((∑ k, x k * g k) * (((-(1 / 2) : ℝ) : EReal) * Ideal.div rs (∑ k, x k * x k + (eps : EReal))))
        + ((∑ k, x k * g k) * (((-(1 / 2) : ℝ) : EReal) * Ideal.div rs (∑ k, x k * x k + (eps : EReal)))) * x l =
      rs * (g l - x l * rs * ∑ k, g k * (x k * rs)) := by
  choose a ha using hx
  choose b hb using hg
  obtain rfl : x = fun k => (a k : EReal) := funext ha
  obtain rfl : g = fun k => (b k : EReal) := funext hb
  have hS : 0 ≤ ∑ k, a k * a k := Finset.sum_nonneg fun k _ => mul_self_nonneg _
  have hM0 : 0 < (∑ k, a k * a k) + eps := by have := eps_pos; positivity
  have e := norm_real a b 1 eps one_pos eps_pos l _ _ _ rfl rfl rfl
  simp only [div_one] at e
  have eM : ∑ k, (a k : EReal) * (a k : EReal) + (eps : EReal) = (((∑ k, a k * a k) + eps : ℝ) : EReal) := by
    simp only [← EReal.coe_mul, ← coe_sum, ← EReal.coe_add]
  rw [eM] at hrs ⊢
  rw [rsqrt_coe _ hM0] at hrs
  subst hrs
  simp only [← EReal.coe_mul, ← coe_sum, div_coe _ _ hM0.ne', ← EReal.coe_sub]
  rw [e]
  push_cast
  rfl

end norm

/-! The gates: the logistic function, `x * sigmoid x`, and the softplus. -/

/-- The logistic function as the programs write it. -/
def sgm (x : EReal) : EReal := Ideal.div 1 (1 + Ideal.exp (-x))

theorem sgm_coe (a : ℝ) : sgm (a : EReal) = ((1 / (1 + Real.exp (-a)) : ℝ) : EReal) := by
  have h : (0 : ℝ) < 1 + Real.exp (-a) := by positivity
  unfold sgm
  rw [← EReal.coe_neg, Ideal.exp_coe, ← EReal.coe_one, ← EReal.coe_add, div_coe _ _ h.ne']

theorem IsReal.sgm (hx : IsReal x) : IsReal (sgm x) := by
  obtain ⟨a, rfl⟩ := hx; exact ⟨_, sgm_coe a⟩

/-- The gradient of `c * s`, the gate's and the value's part together, against the two apart. -/
theorem silu_grad (c d s : EReal) (hc : IsReal c) (hd : IsReal d) (hs : IsReal s) :
    d * s + c * d * (s * (1 - s)) = d * (s * (1 + c * (1 - s))) := by
  obtain ⟨c, rfl⟩ := hc
  obtain ⟨d, rfl⟩ := hd
  obtain ⟨s, rfl⟩ := hs
  rw [← EReal.coe_one]
  simp only [← EReal.coe_mul, ← EReal.coe_sub, ← EReal.coe_add]
  congr 1
  ring

/-- The softplus, from the larger of the argument and zero. -/
def sp (x : EReal) : EReal := max x 0 + Ideal.log1p (Ideal.exp (-(max x (-x))))

theorem sp_real (a : ℝ) : max a 0 + Real.log (1 + Real.exp (-(max a (-a)))) = Real.log (1 + Real.exp a) := by
  rcases le_total 0 a with h | h
  · rw [max_eq_left h, max_eq_left (by linarith)]
    have h1 : 1 + Real.exp a = Real.exp a * (1 + Real.exp (-a)) := by
      rw [mul_add, mul_one, ← Real.exp_add, add_neg_cancel, Real.exp_zero]; ring
    rw [h1, Real.log_mul (Real.exp_pos a).ne' (by positivity), Real.log_exp]
  · rw [max_eq_right h, max_eq_right (by linarith), neg_neg, zero_add]

theorem sp_coe (a : ℝ) : sp (a : EReal) = ((Real.log (1 + Real.exp a) : ℝ) : EReal) := by
  unfold sp
  have hm : ∀ a b : ℝ, max (a : EReal) (b : EReal) = ((max a b : ℝ) : EReal) := fun a b => (EReal.coe_strictMono.monotone.map_max).symm
  have h : (0 : ℝ) < 1 + Real.exp (-(max a (-a))) := by positivity
  rw [← sp_real, ← EReal.coe_neg, ← EReal.coe_zero, hm, hm, ← EReal.coe_neg, Ideal.exp_coe]
  simp only [Ideal.log1p, ← EReal.coe_one, ← EReal.coe_add, Ideal.log_coe, if_neg (not_le.mpr h)]

theorem IsReal.sp (hx : IsReal x) : IsReal (sp x) := by
  obtain ⟨a, rfl⟩ := hx; exact ⟨_, sp_coe a⟩

/-- The softplus's derivative, as the exponential of a difference, is the logistic function. -/
theorem sp_grad (hx : IsReal x) : Ideal.exp (x - sp x) = sgm x := by
  obtain ⟨a, rfl⟩ := hx
  rw [sp_coe, sgm_coe, ← EReal.coe_sub, Ideal.exp_coe, Real.exp_sub, Real.exp_log (by positivity)]
  congr 1
  rw [Real.exp_neg]
  have := Real.exp_pos a
  field_simp
  ring

/-- A real factor comes out of a sum of reals. -/
theorem sum_mul_neg {ι : Type} [Fintype ι] (f : ι → EReal) (e : EReal) (hf : ∀ i, IsReal (f i)) (he : IsReal e) :
    ∑ i, f i * -e = -(∑ i, f i) * e := by
  choose a ha using hf
  obtain rfl : f = fun k => (a k : EReal) := funext ha
  obtain ⟨e, rfl⟩ := he
  simp only [← EReal.coe_neg, ← EReal.coe_mul, ← coe_sum]
  congr 1
  rw [← Finset.sum_mul]
  ring

theorem ne_top (hx : IsReal x) : x ≠ Ideal.ofBits .f32 0x7F800000#32 := by
  obtain ⟨a, rfl⟩ := hx; rw [ofBits_inf]; exact EReal.coe_ne_top a

end Reals

end
-- ==== Proof.Prep.Value.lean ====
module

public import proofs.«01_k».proof.Proof.Gen.PrepKIdeal.Value
public import proofs.«01_k».proof.Proof.Gen.PrepRIdeal.Read
public import proofs.«01_k».proof.Proof.Reals
public import proofs.«01_k».proof.Proof.Conv.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.PrepKIdeal.Value

open Cert.PrepKIdeal Cert.PrepKIdeal.Gen

variable (m : (ℓ : Loc nD τ sig) → Buf (Elt Ideal) ℓ)

open Cert.ConvKIdeal.Value (earlier row_eq)
open Reals

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val * 32 - 1, 0] ∧
    win0_7.index t = ![t.val, 12] ∧ win0_8.index t = ![0, 0] ∧ win0_9.index t = ![0, 0] ∧ win0_10.index t = ![0, 0] ∧
    win0_11.index t = ![t.val, 0] ∧ win0_12.index t = ![t.val, 0] ∧ win0_13.index t = ![0, 0] ∧ t.val < 8 :=
  (by decide +kernel : ∀ t : Fin grid0.N, _)

abbrev a0 (c : Dev nD) : FVec Ideal S2048x512 .f32 := m ((c : Thread nD τ).loc main_arg0)
abbrev a1 (c : Dev nD) : FVec Ideal S2048x512 .f32 := m ((c : Thread nD τ).loc main_arg1)
abbrev a2 (c : Dev nD) : FVec Ideal S2048x512 .f32 := m ((c : Thread nD τ).loc main_arg2)
abbrev a3 (c : Dev nD) : FVec Ideal S2048x4 .f32 := m ((c : Thread nD τ).loc main_arg3)
abbrev a4 (c : Dev nD) : FVec Ideal S2048x4 .f32 := m ((c : Thread nD τ).loc main_arg4)
abbrev a5 (c : Dev nD) : FVec Ideal S2048x1536 .f32 := m ((c : Thread nD τ).loc main_arg5)
abbrev a6 (c : Dev nD) : FVec Ideal S2048x8 .f32 := m ((c : Thread nD τ).loc main_arg6)
abbrev a7 (c : Dev nD) : FVec Ideal S4x1536 .f32 := m ((c : Thread nD τ).loc main_arg7)
abbrev a8 (c : Dev nD) : FVec Ideal S4 .f32 := m ((c : Thread nD τ).loc main_arg8)
abbrev a9 (c : Dev nD) : FVec Ideal S4 .f32 := m ((c : Thread nD τ).loc main_arg9)

theorem cur_at (c : Dev nD) (t : Fin cfg0.N) (r : Fin 256) (l : Fin 1536) (r' : Fin 2048) (hr : (r' : ℕ) = 256 * t.val + r) :
    (X0_5 m c t : FVec Ideal S256x1536 .f32) (ix2 r l) = a5 m c (ix2 r' l) := by
  unfold X0_5 Pipeline.Window.fill
  rw [dif_pos (moved0_5 t _)]
  blk_simp [iblk]
  unfold V hostOps0 hostOps0_1 hostOps0_2 hostOps0_3
  simp only [List.flatten, List.append_eq, List.cons_append, List.nil_append]
  after_reads_at
  rw [dif_pos (by blk_simp [idx t]; exact l.isLt)]
  blk_ext [idx t]

theorem prev_at (c : Dev nD) (t : Fin cfg0.N) (r : Fin 8) (l : Fin 1536) (r' : Fin 2048) (h0 : 0 < t.val) (hr : (r' : ℕ) + 8 = 256 * t.val + r) :
    (X0_6 m c t : FVec Ideal S8x1536 .f32) (ix2 r l) = a5 m c (ix2 r' l) := by
  unfold X0_6 Pipeline.Window.fill
  rw [dif_pos (moved0_6 t _)]
  blk_simp [iblk]
  unfold V hostOps0 hostOps0_1 hostOps0_2 hostOps0_3
  simp only [List.flatten, List.append_eq, List.cons_append, List.nil_append]
  after_reads_at
  rw [dif_pos (by blk_simp [idx t]; exact l.isLt)]
  blk_ext [idx t]

theorem dq_at (c : Dev nD) (t : Fin cfg0.N) (r : Fin 256) (l : Fin 512) (r' : Fin 2048) (hr : (r' : ℕ) = 256 * t.val + r) :
    (iblk m c 0 t : FVec Ideal S256x512 .f32) (ix2 r l) = a0 m c (ix2 r' l) := by
  blk_ext [iblk, V, idx t]

theorem dk_at (c : Dev nD) (t : Fin cfg0.N) (r : Fin 256) (l : Fin 512) (r' : Fin 2048) (hr : (r' : ℕ) = 256 * t.val + r) :
    (iblk m c 1 t : FVec Ideal S256x512 .f32) (ix2 r l) = a1 m c (ix2 r' l) := by
  blk_ext [iblk, V, idx t]

theorem dv_at (c : Dev nD) (t : Fin cfg0.N) (r : Fin 256) (l : Fin 512) (r' : Fin 2048) (hr : (r' : ℕ) = 256 * t.val + r) :
    (iblk m c 2 t : FVec Ideal S256x512 .f32) (ix2 r l) = a2 m c (ix2 r' l) := by
  blk_ext [iblk, V, idx t]

theorem taps_at (c : Dev nD) (t : Fin cfg0.N) : (iblk m c 8 t : FVec Ideal S4x1536 .f32) = a7 m c := by
  blk_ext! [iblk, V, idx t]

theorem first_test (t : Fin cfg0.N) {α : Type} (x y : α) :
    Scalar.select (Scalar.cmpi .sgt (BitVec.ofNat 32 (grid0.coords t 0).val) 0#32) x y = if 0 < t.val then x else y := by
  have h : ∀ t : Fin grid0.N, Scalar.cmpi .sgt (BitVec.ofNat 32 (grid0.coords t 0).val) 0#32 = if 0 < t.val then 1#1 else 0#1 := by
    decide +kernel
  rw [h t]
  split <;> rfl

/-! What is computed, written once for both programs. -/

/-- The short causal convolution of the columns. -/
def conv (x : FVec Ideal S2048x1536 .f32) (w : FVec Ideal S4x1536 .f32) (n : ℕ) (l : Fin 1536) : EReal :=
  earlier x n l * w (ix2 0 l) + earlier x (n + 1) l * w (ix2 1 l) + earlier x (n + 2) l * w (ix2 2 l) + earlier x (n + 3) l * w (ix2 3 l)

/-- … and its value after the activation. -/
def act (x : FVec Ideal S2048x1536 .f32) (w : FVec Ideal S4x1536 .f32) (n : ℕ) (l : Fin 1536) : EReal := conv x w n l * sgm (conv x w n l)

/-- The activation's derivative. -/
def dsl (x : FVec Ideal S2048x1536 .f32) (w : FVec Ideal S4x1536 .f32) (n : ℕ) (l : Fin 1536) : EReal :=
  sgm (conv x w n l) * (1 + conv x w n l * (1 - sgm (conv x w n l)))

/-- The gradient through one head's norm: `v` the head's values, `dy` the cotangent. -/
def head (v dy : Fin 128 → EReal) (l : Fin 128) : EReal :=
  Ideal.rsqrt (∑ k, v k * v k + (eps : EReal)) * (dy l - v l * Ideal.rsqrt (∑ k, v k * v k + (eps : EReal)) *
    ∑ k, dy k * (v k * Ideal.rsqrt (∑ k, v k * v k + (eps : EReal))))

theorem head_real (v dy : Fin 128 → EReal) (hv : ∀ k, IsReal (v k)) (hd : ∀ k, IsReal (dy k)) (l : Fin 128) : IsReal (head v dy l) :=
  l2_real v dy hv hd l

/-- The gradient before the activation: queries and keys through their heads' norms, values as they are. -/
def dact (dq dk dv : FVec Ideal S2048x512 .f32) (x : FVec Ideal S2048x1536 .f32) (w : FVec Ideal S4x1536 .f32) (r : Fin 2048) (l : Fin 1536) : EReal :=
  if h : (l : ℕ) < 512 then head (fun k => act x w r ⟨(l : ℕ) / 128 * 128 + k, by omega⟩) (fun k => dq (ix2 r ⟨(l : ℕ) / 128 * 128 + k, by omega⟩) * (scale : EReal)) ⟨(l : ℕ) % 128, by omega⟩
  else if h : (l : ℕ) < 1024 then
    head (fun k => act x w r ⟨512 + (((l : ℕ) - 512) / 128 * 128 + k), by omega⟩) (fun k => dk (ix2 r ⟨((l : ℕ) - 512) / 128 * 128 + k, by omega⟩)) ⟨((l : ℕ) - 512) % 128, by omega⟩
  else dv (ix2 r ⟨(l : ℕ) - 1024, by omega⟩)

theorem dact_q (dq dk dv : FVec Ideal S2048x512 .f32) (x : FVec Ideal S2048x1536 .f32) (w : FVec Ideal S4x1536 .f32) (r : Fin 2048) (l : Fin 1536) (h : ℕ) (j : Fin 128) (hh : h < 4)
    (hl : (l : ℕ) = 128 * h + j) : dact dq dk dv x w r l =
      head (fun k => act x w r ⟨128 * h + k, by omega⟩) (fun k => dq (ix2 r ⟨128 * h + k, by omega⟩) * (scale : EReal)) j := by
  unfold dact
  rw [dif_pos (show (l : ℕ) < 512 by omega)]
  obtain rfl : h = (l : ℕ) / 128 := by omega
  rw [show (⟨(l : ℕ) % 128, by omega⟩ : Fin 128) = j from Fin.ext (by simp only []; omega)]
  simp only [mul_comm 128]

theorem dact_k (dq dk dv : FVec Ideal S2048x512 .f32) (x : FVec Ideal S2048x1536 .f32) (w : FVec Ideal S4x1536 .f32) (r : Fin 2048) (l : Fin 1536) (h : ℕ) (j : Fin 128) (hh : h < 4)
    (hl : (l : ℕ) = 512 + (128 * h + j)) : dact dq dk dv x w r l =
      head (fun k => act x w r ⟨512 + (128 * h + k), by omega⟩) (fun k => dk (ix2 r ⟨128 * h + k, by omega⟩)) j := by
  unfold dact
  rw [dif_neg (show ¬(l : ℕ) < 512 by omega), dif_pos (show (l : ℕ) < 1024 by omega)]
  obtain rfl : h = ((l : ℕ) - 512) / 128 := by omega
  rw [show (⟨((l : ℕ) - 512) % 128, by omega⟩ : Fin 128) = j from Fin.ext (by simp only []; omega)]
  simp only [mul_comm 128]

theorem dact_v (dq dk dv : FVec Ideal S2048x512 .f32) (x : FVec Ideal S2048x1536 .f32) (w : FVec Ideal S4x1536 .f32) (r : Fin 2048) (l : Fin 1536) (j : Fin 512)
    (hl : (l : ℕ) = 1024 + j) : dact dq dk dv x w r l = dv (ix2 r j) := by
  unfold dact
  rw [dif_neg (show ¬(l : ℕ) < 512 by omega), dif_neg (show ¬(l : ℕ) < 1024 by omega)]
  exact row_eq dv _ _ _ _ rfl (by simp only []; omega)

/-! The kernel's side. -/

theorem pay2_at (t : Fin cfg0.N) (pv : FVec Ideal S8x1536 .f32) (x5 : FVec Ideal S256x1536 .f32) (w : FVec Ideal S4x1536 .f32) (X : FVec Ideal S2048x1536 .f32)
    (hx : ∀ (r : Fin 256) (l : Fin 1536) (r' : Fin 2048), (r' : ℕ) = 256 * t.val + r → x5 (ix2 r l) = X (ix2 r' l))
    (hpv : ∀ (r : Fin 8) (l : Fin 1536) (r' : Fin 2048), 0 < t.val → (r' : ℕ) + 8 = 256 * t.val + r → pv (ix2 r l) = X (ix2 r' l))
    (r : Fin 256) (l : Fin 1536) : (show EReal from k0_pay2 (F := Ideal) (grid0.coords t) pv x5 w (ix2 r l)) = conv X w (256 * t.val + r) l := by
  have ht := (idx t).2.2.2.2.2.2.2.2.2.2.2.2.2.2
  have key : ∀ (k n : ℕ) (v : EReal) (hn : n + 3 = 8 + r + k) (hk : k < 3), (show EReal from if h : n < 8 then
      Scalar.select (Scalar.cmpi .sgt (BitVec.ofNat 32 (grid0.coords t 0).val) 0#32) (pv (ix2 ⟨n, h⟩ l)) (0 : EReal) else x5 (ix2 ⟨n - 8, by omega⟩ l)) * v
        = earlier X (256 * t.val + r + k) l * v := by
    intro k n v hn hk
    refine congrArg (· * v) ?_
    unfold earlier
    show (dite _ _ _ : EReal) = _
    by_cases h : n < 8
    · rw [dif_pos h, first_test]
      by_cases h' : 0 < t.val
      · rw [if_pos h', dif_pos (by omega)]
        exact hpv _ _ _ h' (by simp; omega)
      · rw [if_neg h', dif_neg (by omega)]
    · rw [dif_neg h, dif_pos (by omega)]
      exact hx _ _ _ (by simp; omega)
  pointwise [k0_pay2]
  unfold conv
  refine congrArg₂ (· + ·) (congrArg₂ (· + ·) (congrArg₂ (· + ·) ?_ ?_) ?_) ?_
  · exact key 0 _ _ (by omega) (by omega)
  · exact key 1 _ _ (by omega) (by omega)
  · exact key 2 _ _ (by omega) (by omega)
  · rw [earlier, dif_pos (by omega)]
    exact congrArg (· * _) (hx _ _ _ (by simp))

theorem act_at (t : Fin cfg0.N) (pv : FVec Ideal S8x1536 .f32) (x5 : FVec Ideal S256x1536 .f32) (w : FVec Ideal S4x1536 .f32) (r : Fin 256) (l : Fin 1536) (n : EReal)
    (hn : (show EReal from k0_pay2 (F := Ideal) (grid0.coords t) pv x5 w (ix2 r l)) = n) :
    (show EReal from k0_pay4 (F := Ideal) (grid0.coords t) pv x5 w (ix2 r l)) = n * sgm n := by
  subst hn
  pointwise [k0_pay4, k0_pay3]
  simp only [zero_sub, sgm]

theorem dsl_at (t : Fin cfg0.N) (pv : FVec Ideal S8x1536 .f32) (x5 : FVec Ideal S256x1536 .f32) (w : FVec Ideal S4x1536 .f32) (r : Fin 256) (l : Fin 1536) (n : EReal)
    (hn : (show EReal from k0_pay2 (F := Ideal) (grid0.coords t) pv x5 w (ix2 r l)) = n) :
    (show EReal from k0_pay7 (F := Ideal) (k0_pay3 (grid0.coords t) pv x5 w) (k0_pay5 (grid0.coords t) pv x5 w) k0_pay6 (ix2 r l)) = sgm n * (1 + n * (1 - sgm n)) := by
  subst hn
  pointwise [k0_pay3, k0_pay5, k0_pay6, k0_pay7]
  simp only [zero_sub, sgm]

/-- A head's piece of a block: the head's 128 columns, from column `o` on. -/
def piece (V s : FVec Ideal S256x1536 .f32) (o : ℕ) (ho : o + 128 ≤ 1536) (dy : Fin 128 → EReal) (r : Fin 256) (l : Fin 128) : EReal :=
  head (fun k => V (ix2 r ⟨o + k, by omega⟩)) dy l * s (ix2 r ⟨o + l, by omega⟩)

variable (V s : FVec Ideal S256x1536 .f32) (b : FVec Ideal S256x128 .f32) (r : Fin 256) (l : Fin 128)

theorem q0 : (show EReal from k0_pay16 (F := Ideal) s (k0_pay13 V b) (ix2 r l)) = piece V s 0 (by decide) (fun k => b (ix2 r k) * (scale : EReal)) r l := by
  pointwise [k0_pay16, k0_pay13, k0_pay11, k0_pay12]
  simp only [piece, head, ofBits_eps, ofBits_scale, zero_add]

theorem q1 : (show EReal from k0_pay32 (F := Ideal) s (k0_pay28 V) (k0_pay30 V) b (ix2 r l)) = piece V s 128 (by decide) (fun k => b (ix2 r k) * (scale : EReal)) r l := by
  pointwise [k0_pay32, k0_pay28, k0_pay30]
  simp only [piece, head, ofBits_eps, ofBits_scale, zero_add]

theorem q2 : (show EReal from k0_pay49 (F := Ideal) s (k0_pay45 V) (k0_pay48 V b) (ix2 r l)) = piece V s 256 (by decide) (fun k => b (ix2 r k) * (scale : EReal)) r l := by
  pointwise [k0_pay49, k0_pay45, k0_pay48, k0_pay43, k0_pay44]
  simp only [piece, head, ofBits_eps, ofBits_scale, zero_add]

theorem q3 : (show EReal from k0_pay61 (F := Ideal) s (k0_pay58 V) (k0_pay60 V) b (ix2 r l)) = piece V s 384 (by decide) (fun k => b (ix2 r k) * (scale : EReal)) r l := by
  pointwise [k0_pay61, k0_pay58, k0_pay60]
  simp only [piece, head, ofBits_eps, ofBits_scale, zero_add]

theorem k0 : (show EReal from k0_pay17 (F := Ideal) s (k0_pay14 V b) (k0_pay15 V) (ix2 r l)) = piece V s 512 (by decide) (fun k => b (ix2 r k)) r l := by
  pointwise [k0_pay17, k0_pay14, k0_pay15, k0_pay11, k0_pay12]
  simp only [piece, head, ofBits_eps]

theorem k1 : (show EReal from k0_pay33 (F := Ideal) s (k0_pay29 V) (k0_pay31 V) b (ix2 r l)) = piece V s 640 (by decide) (fun k => b (ix2 r k)) r l := by
  pointwise [k0_pay33, k0_pay29, k0_pay31]
  simp only [piece, head, ofBits_eps]

theorem k2 : (show EReal from k0_pay50 (F := Ideal) s (k0_pay46 V) (k0_pay47 V) b (ix2 r l)) = piece V s 768 (by decide) (fun k => b (ix2 r k)) r l := by
  pointwise [k0_pay50, k0_pay46, k0_pay47, k0_pay44]
  simp only [piece, head, ofBits_eps]

theorem k3 : (show EReal from k0_pay62 (F := Ideal) s (k0_pay59 V) b (ix2 r l)) = piece V s 896 (by decide) (fun k => b (ix2 r k)) r l := by
  pointwise [k0_pay62, k0_pay59]
  simp only [piece, head, ofBits_eps]

/-! The reference's side. -/

open Cert.PrepRIdeal.Read in
theorem ref_conv (x5 : FVec Ideal S2048x1536 .f32) (x7 : FVec Ideal S4x1536 .f32) (r : Fin 2048) (l : Fin 1536) :
    (show EReal from val_main_v28 (F := Ideal) x5 x7 (ix2 r l)) = conv x5 x7 r l := by
  have key : ∀ (k n : ℕ) (v : EReal) (hn : n = k + r) (hk : k ≤ 3), (show EReal from if h : n < 3 then 0 else x5 (ix2 ⟨n - 3, by omega⟩ l)) * v
        = earlier x5 ((r : ℕ) + k) l * v := by
    intro k n v hn hk
    subst hn
    refine congrArg (· * v) ?_
    unfold earlier
    show (dite _ _ _ : EReal) = _
    by_cases h : k + (r : ℕ) < 3
    · rw [dif_pos h, dif_neg (by omega)]
    · rw [dif_neg h, dif_pos (by omega)]
      exact row_eq x5 _ _ _ _ (by simp; omega) rfl
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst]
  unfold conv
  refine congrArg₂ (· + ·) (congrArg₂ (· + ·) (congrArg₂ (· + ·) ?_ ?_) ?_) ?_
  · exact key 0 _ _ (by omega) (by omega)
  · exact key 1 _ _ (by omega) (by omega)
  · exact key 2 _ _ (by omega) (by omega)
  · rw [earlier, dif_pos (by omega)]
    exact congrArg (· * _) (row_eq x5 _ _ _ _ (by simp) rfl)

open Cert.PrepRIdeal.Read in
theorem ref_act (x5 : FVec Ideal S2048x1536 .f32) (x7 : FVec Ideal S4x1536 .f32) (r : Fin 2048) (l : Fin 1536) :
    (show EReal from val_main_v31_0 (F := Ideal) x5 x7 (ix2 r l)) = act x5 x7 r l := by
  have e := ref_conv x5 x7 r l
  unfold act
  rw [← e]
  pointwise [val_main_v31_0, val_main_v31_2, val_main_call0_v4, val_main_call0_cst_0, val_main_call0_v3, val_main_call0_v2, val_main_call0_cst, val_main_call0_v1, val_main_call0_v0]
  rfl

variable (x0 x1 x2 : FVec Ideal S2048x512 .f32) (x5 : FVec Ideal S2048x1536 .f32) (x7 : FVec Ideal S4x1536 .f32)

theorem conv_real (h5 : ∀ i, IsReal (x5 i)) (h7 : ∀ i, IsReal (x7 i)) (n : ℕ) (l : Fin 1536) : IsReal (conv x5 x7 n l) := by
  have h : ∀ k, IsReal (earlier x5 k l) := by
    intro k
    unfold earlier
    split
    · exact h5 _
    · exact .zero
  exact ((((h _).mul (h7 _)).add ((h _).mul (h7 _))).add ((h _).mul (h7 _))).add ((h _).mul (h7 _))

theorem act_real (h5 : ∀ i, IsReal (x5 i)) (h7 : ∀ i, IsReal (x7 i)) (n : ℕ) (l : Fin 1536) : IsReal (act x5 x7 n l) :=
  (conv_real x5 x7 h5 h7 n l).mul (conv_real x5 x7 h5 h7 n l).sgm

theorem scale_real : IsReal (scale : EReal) := ⟨_, rfl⟩

open Cert.PrepRIdeal.Read in
theorem ref_q (h0 : ∀ i, IsReal (x0 i)) (h5 : ∀ i, IsReal (x5 i)) (h7 : ∀ i, IsReal (x7 i)) (r : Fin 2048) (h : Fin 4) (l : Fin 128) :
    (show EReal from val_main_v121 (F := Ideal) x0 x5 x7 (ix3 r h l)) =
      head (fun k => act x5 x7 r ⟨h * 128 + k, by omega⟩) (fun k => x0 (ix2 r ⟨h * 128 + k, by omega⟩) * (scale : EReal)) l := by
  have e := l2_grad (ι := Fin 128) (fun k => act x5 x7 r ⟨h * 128 + k, by omega⟩) (fun k => x0 (ix2 r ⟨h * 128 + k, by omega⟩) * (scale : EReal)) (fun k => act_real x5 x7 h5 h7 _ _) (fun k => (h0 _).mul scale_real) l _ rfl
  refine Eq.trans ?_ e
  simp only [← ref_act]
  pointwise [val_main_v121, val_main_v120, val_main_v119, val_main_v118, val_main_v117, val_main_v116, val_main_cst_18, val_main_v115, val_main_v114, val_main_v113, val_main_v112, val_main_v111, val_main_cst_17, val_main_v110, val_main_v109, val_main_v108, val_main_cst_16, val_main_v82, val_main_v45, val_main_v44, val_main_cst_2, val_main_v43, val_main_v42, val_main_v41, val_main_v40, val_main_cst_1, val_main_v39, val_main_v38, val_main_cst_0, val_main_v37, val_main_v33, val_main_v32]
  simp only [ofBits_eps, ofBits_scale, ofBits_neg_half, Fin.sum_univ_one]

open Cert.PrepRIdeal.Read in
theorem ref_k (h1 : ∀ i, IsReal (x1 i)) (h5 : ∀ i, IsReal (x5 i)) (h7 : ∀ i, IsReal (x7 i)) (r : Fin 2048) (h : Fin 4) (l : Fin 128) :
    (show EReal from val_main_v107 (F := Ideal) x1 x5 x7 (ix3 r h l)) =
      head (fun k => act x5 x7 r ⟨512 + (h * 128 + k), by omega⟩) (fun k => x1 (ix2 r ⟨h * 128 + k, by omega⟩)) l := by
  have e := l2_grad (ι := Fin 128) (fun k => act x5 x7 r ⟨512 + (h * 128 + k), by omega⟩) (fun k => x1 (ix2 r ⟨h * 128 + k, by omega⟩)) (fun k => act_real x5 x7 h5 h7 _ _) (fun k => h1 _) l _ rfl
  refine Eq.trans ?_ e
  simp only [← ref_act]
  pointwise [val_main_v107, val_main_v106, val_main_v105, val_main_v104, val_main_v103, val_main_v102, val_main_cst_15, val_main_v101, val_main_v100, val_main_v99, val_main_v98, val_main_v97, val_main_cst_14, val_main_v96, val_main_v81, val_main_v58, val_main_v57, val_main_cst_6, val_main_v56, val_main_v55, val_main_v54, val_main_v53, val_main_cst_5, val_main_v52, val_main_v51, val_main_cst_4, val_main_v50, val_main_v35, val_main_v34]
  simp only [ofBits_eps, ofBits_scale, ofBits_neg_half, Fin.sum_univ_one]

theorem dact_real (h0 : ∀ i, IsReal (x0 i)) (h1 : ∀ i, IsReal (x1 i)) (h2 : ∀ i, IsReal (x2 i)) (h5 : ∀ i, IsReal (x5 i)) (h7 : ∀ i, IsReal (x7 i)) (r : Fin 2048) (l : Fin 1536) :
    IsReal (dact x0 x1 x2 x5 x7 r l) := by
  unfold dact
  split
  · exact head_real _ _ (fun k => act_real x5 x7 h5 h7 _ _) (fun k => (h0 _).mul scale_real) _
  · split
    · exact head_real _ _ (fun k => act_real x5 x7 h5 h7 _ _) (fun k => h1 _) _
    · exact h2 _

open Cert.PrepRIdeal.Read in
/-- The reference's gradient of the columns. -/
theorem ref_dc (h0 : ∀ i, IsReal (x0 i)) (h1 : ∀ i, IsReal (x1 i)) (h2 : ∀ i, IsReal (x2 i)) (h5 : ∀ i, IsReal (x5 i)) (h7 : ∀ i, IsReal (x7 i)) (r : Fin 2048) (l : Fin 1536) :
    (show EReal from val_main_v129 (F := Ideal) x0 x1 x2 x5 x7 (ix2 r l)) = dact x0 x1 x2 x5 x7 r l * dsl x5 x7 r l := by
  unfold dsl
  rw [← silu_grad _ _ _ (conv_real x5 x7 h5 h7 r l) (dact_real x0 x1 x2 x5 x7 h0 h1 h2 h5 h7 r l) (conv_real x5 x7 h5 h7 r l).sgm]
  have e : (show EReal from val_main_v128 (F := Ideal) x0 x1 x2 x5 x7 (ix2 r l)) = dact x0 x1 x2 x5 x7 r l := by
    pointwise [val_main_v128, val_main_v127, val_main_v126, val_main_v125, val_main_v124, val_main_v123, val_main_v122, val_main_cst_21, val_main_cst_20, val_main_cst_19]
    unfold dact
    by_cases c1 : (l : ℕ) < 512
    · rw [dif_pos c1, dif_pos c1, dif_neg (by omega), dif_neg (by omega), zero_add, zero_add]
      exact ref_q x0 x5 x7 h0 h5 h7 _ _ _
    · rw [dif_neg c1, dif_neg c1, add_zero]
      by_cases c2 : (l : ℕ) < 1024
      · rw [dif_pos c2, dif_neg (by omega), dif_pos (by omega), zero_add]
        exact ref_k x1 x5 x7 h1 h5 h7 _ _ _
      · rw [dif_neg c2, dif_pos (by omega), dif_neg (by omega), add_zero]
  rw [← e, ← ref_conv]
  pointwise [val_main_v129, val_main_call3_v0, val_main_call3_v1, val_main_call3_v2, val_main_v31_1, val_main_call0_v7, val_main_call0_v6, val_main_call0_cst_1, val_main_v31_2, val_main_call0_v4, val_main_call0_cst_0, val_main_call0_v3, val_main_call0_v2, val_main_call0_cst, val_main_call0_v1, val_main_call0_v0]
  rfl

end Cert.PrepKIdeal.Value

end
-- ==== Proof.Prep.Rows.lean ====
module

public import proofs.«01_k».proof.Proof.Prep.Value

@[expose] public section

set_option maxRecDepth 16384

noncomputable section

open Idealize.ShloMosaic Idealize.ShloMosaic.TcCoe Idealize.SL.Sem
open Idealize.ShloMosaic.Pipeline (Dat)

namespace Cert.PrepKIdeal.Value

open Cert.PrepKIdeal Cert.PrepKIdeal.Gen
open Cert.ConvKIdeal.Value (earlier row_eq)
open Reals

variable (m : (ℓ : Loc nD τ sig) → Buf (Elt Ideal) ℓ)

/-- The gradient of the columns at a row and a column. -/
abbrev DC (c : Dev nD) (r : Fin 2048) (l : Fin 1536) : EReal :=
  dact (a0 m c) (a1 m c) (a2 m c) (a5 m c) (a7 m c) r l * dsl (a5 m c) (a7 m c) r l

/-- A block's activation and its derivative. -/
abbrev actB (c : Dev nD) (t : Fin cfg0.N) : FVec Ideal S256x1536 .f32 := k0_pay4 (F := Ideal) (grid0.coords t) (X0_6 m c t) (X0_5 m c t) (iblk m c 8 t)
abbrev dslB (c : Dev nD) (t : Fin cfg0.N) : FVec Ideal S256x1536 .f32 :=
  k0_pay7 (F := Ideal) (k0_pay3 (grid0.coords t) (X0_6 m c t) (X0_5 m c t) (iblk m c 8 t)) (k0_pay5 (grid0.coords t) (X0_6 m c t) (X0_5 m c t) (iblk m c 8 t)) k0_pay6

theorem conv_at (c : Dev nD) (t : Fin cfg0.N) (r : Fin 256) (l : Fin 1536) :
    (show EReal from k0_pay2 (F := Ideal) (grid0.coords t) (X0_6 m c t) (X0_5 m c t) (iblk m c 8 t) (ix2 r l)) = conv (a5 m c) (a7 m c) (256 * t.val + r) l := by
  refine (pay2_at t _ _ _ (a5 m c) (cur_at m c t) (prev_at m c t) r l).trans ?_
  rw [taps_at]

theorem actB_at (c : Dev nD) (t : Fin cfg0.N) (r : Fin 256) (l : Fin 1536) : (show EReal from actB m c t (ix2 r l)) = act (a5 m c) (a7 m c) (256 * t.val + r) l :=
  act_at t _ _ _ r l _ (conv_at m c t r l)

theorem dslB_at (c : Dev nD) (t : Fin cfg0.N) (r : Fin 256) (l : Fin 1536) : (show EReal from dslB m c t (ix2 r l)) = dsl (a5 m c) (a7 m c) (256 * t.val + r) l :=
  dsl_at t _ _ _ r l _ (conv_at m c t r l)

/-- A query head's piece is its columns of the gradient … -/
theorem piece_q (c : Dev nD) (t : Fin cfg0.N) (h : ℕ) (hh : h < 4) (o : ℕ) (ho : o = 128 * h) (b : FVec Ideal S256x128 .f32)
    (hb : ∀ (r : Fin 256) (k : Fin 128) (r' : Fin 2048), (r' : ℕ) = 256 * t.val + r → b (ix2 r k) = a0 m c (ix2 r' ⟨128 * h + k, by omega⟩))
    (r : Fin 256) (l : Fin 128) (r' : Fin 2048) (l' : Fin 1536) (hr : (r' : ℕ) = 256 * t.val + r) (hl : (l' : ℕ) = o + l) :
    piece (actB m c t) (dslB m c t) o (by omega) (fun k => b (ix2 r k) * (scale : EReal)) r l = DC m c r' l' := by
  subst ho
  unfold piece DC
  rw [dact_q _ _ _ _ _ r' l' h l hh hl]
  refine congrArg₂ (· * ·) ?_ ?_
  · refine congrArg₂ (fun v d => head v d l) (funext fun k => ?_) (funext fun k => ?_)
    · exact (actB_at m c t r _).trans (by rw [hr])
    · exact congrArg (· * (scale : EReal)) (hb r k r' hr)
  · refine (dslB_at m c t r _).trans ?_
    rw [hr]
    exact congrArg _ (Fin.ext hl.symm)

/-- … and a key head's. -/
theorem piece_k (c : Dev nD) (t : Fin cfg0.N) (h : ℕ) (hh : h < 4) (o : ℕ) (ho : o = 512 + 128 * h) (b : FVec Ideal S256x128 .f32)
    (hb : ∀ (r : Fin 256) (k : Fin 128) (r' : Fin 2048), (r' : ℕ) = 256 * t.val + r → b (ix2 r k) = a1 m c (ix2 r' ⟨128 * h + k, by omega⟩))
    (r : Fin 256) (l : Fin 128) (r' : Fin 2048) (l' : Fin 1536) (hr : (r' : ℕ) = 256 * t.val + r) (hl : (l' : ℕ) = o + l) :
    piece (actB m c t) (dslB m c t) o (by omega) (fun k => b (ix2 r k)) r l = DC m c r' l' := by
  subst ho
  unfold piece DC
  rw [dact_k _ _ _ _ _ r' l' h l hh (by omega)]
  refine congrArg₂ (· * ·) ?_ ?_
  · refine congrArg₂ (fun v d => head v d l) (funext fun k => ?_) (funext fun k => ?_)
    · refine (actB_at m c t r _).trans ?_
      rw [hr]
      exact congrArg _ (Fin.ext (add_assoc _ _ _))
    · exact hb r k r' hr
  · refine (dslB_at m c t r _).trans ?_
    rw [hr]
    exact congrArg _ (Fin.ext hl.symm)

/-- The columns a rectangle cuts out of a 256-row block. -/
theorem ld_cols (x : FVec Ideal S256x512 .f32) (h : ℕ) (hh : h < 4) (o : ℕ) (ho : o = 128 * h) (hi) (r : Fin 256) (k : Fin 128) :
    (View.ld (Val := Elt Ideal) (e' := .f32) x (Rect.unit (s := S256x512) ![0, o] ![256, 128] hi) : FVec Ideal S256x128 .f32) (ix2 r k) = x (ix2 r ⟨128 * h + k, by omega⟩) := by
  subst ho
  show x _ = x _
  blk_ext
  · simp [LoadRect.idx]
  · simp [LoadRect.idx]

theorem ld_q (c : Dev nD) (t : Fin cfg0.N) (h : ℕ) (hh : h < 4) (o : ℕ) (ho : o = 128 * h) (hi) (r : Fin 256) (k : Fin 128) (r' : Fin 2048) (hr : (r' : ℕ) = 256 * t.val + r) :
    (View.ld (iblk m c 0 t : FVec Ideal S256x512 .f32) (Rect.unit (s := S256x512) ![0, o] ![256, 128] hi) : FVec Ideal S256x128 .f32) (ix2 r k) = a0 m c (ix2 r' ⟨128 * h + k, by omega⟩) :=
  (ld_cols _ h hh o ho hi r k).trans (dq_at m c t r _ r' hr)

theorem ld_k (c : Dev nD) (t : Fin cfg0.N) (h : ℕ) (hh : h < 4) (o : ℕ) (ho : o = 128 * h) (hi) (r : Fin 256) (k : Fin 128) (r' : Fin 2048) (hr : (r' : ℕ) = 256 * t.val + r) :
    (View.ld (iblk m c 1 t : FVec Ideal S256x512 .f32) (Rect.unit (s := S256x512) ![0, o] ![256, 128] hi) : FVec Ideal S256x128 .f32) (ix2 r k) = a1 m c (ix2 r' ⟨128 * h + k, by omega⟩) :=
  (ld_cols _ h hh o ho hi r k).trans (dk_at m c t r _ r' hr)

set_option maxHeartbeats 800000 in
/-- A block of the first result. -/
theorem block11 (c : Dev nD) (t : Fin cfg0.N) (y : S256x1536.Idx) (r' : Fin 2048) (l' : Fin 1536) (e0 : (r' : ℕ) = 256 * t.val + y 0) (e1 : (l' : ℕ) = y 1) :
    (View.canon (Val := Elt Ideal) (s := S256x1536) (e := .f32) [
⟨Rect.unit ![0, 1024] ![256, 512] inb_S256x1536_S256x512_0_1024, k0_pay73 (F := Ideal) (dslB m c t) (iblk m c 2 t)⟩,
⟨Rect.unit ![0, 896] ![256, 128] inb_S256x1536_S256x128_0_896, k0_pay62 (F := Ideal) (dslB m c t) (k0_pay59 (actB m c t)) (View.ld (iblk m c 1 t) (Rect.unit ![0, 384] ![256, 128] inb_S256x512_S256x128_0_384))⟩,
⟨Rect.unit ![0, 384] ![256, 128] inb_S256x1536_S256x128_0_384, k0_pay61 (F := Ideal) (dslB m c t) (k0_pay58 (actB m c t)) (k0_pay60 (actB m c t)) (View.ld (iblk m c 0 t) (Rect.unit ![0, 384] ![256, 128] inb_S256x512_S256x128_0_384))⟩,
⟨Rect.unit ![0, 768] ![256, 128] inb_S256x1536_S256x128_0_768, k0_pay50 (F := Ideal) (dslB m c t) (k0_pay46 (actB m c t)) (k0_pay47 (actB m c t)) (View.ld (iblk m c 1 t) (Rect.unit ![0, 256] ![256, 128] inb_S256x512_S256x128_0_256))⟩,
⟨Rect.unit ![0, 256] ![256, 128] inb_S256x1536_S256x128_0_256, k0_pay49 (F := Ideal) (dslB m c t) (k0_pay45 (actB m c t)) (k0_pay48 (actB m c t) (View.ld (iblk m c 0 t) (Rect.unit ![0, 256] ![256, 128] inb_S256x512_S256x128_0_256)))⟩,
⟨Rect.unit ![0, 640] ![256, 128] inb_S256x1536_S256x128_0_640, k0_pay33 (F := Ideal) (dslB m c t) (k0_pay29 (actB m c t)) (k0_pay31 (actB m c t)) (View.ld (iblk m c 1 t) (Rect.unit ![0, 128] ![256, 128] inb_S256x512_S256x128_0_128))⟩,
⟨Rect.unit ![0, 128] ![256, 128] inb_S256x1536_S256x128_0_128, k0_pay32 (F := Ideal) (dslB m c t) (k0_pay28 (actB m c t)) (k0_pay30 (actB m c t)) (View.ld (iblk m c 0 t) (Rect.unit ![0, 128] ![256, 128] inb_S256x512_S256x128_0_128))⟩,
⟨Rect.unit ![0, 512] ![256, 128] inb_S256x1536_S256x128_0_512, k0_pay17 (F := Ideal) (dslB m c t) (k0_pay14 (actB m c t) (View.ld (iblk m c 1 t) (Rect.unit ![0, 0] ![256, 128] inb_S256x512_S256x128_0_0))) (k0_pay15 (actB m c t))⟩,
⟨Rect.unit ![0, 0] ![256, 128] inb_S256x1536_S256x128_0_0, k0_pay16 (F := Ideal) (dslB m c t) (k0_pay13 (actB m c t) (View.ld (iblk m c 0 t) (Rect.unit ![0, 0] ![256, 128] inb_S256x512_S256x128_0_0)))⟩] : FVec Ideal S256x1536 .f32) y =
    DC m c r' l' := by
  have y0 : (y 0 : ℕ) < 256 := y 0 |>.isLt
  have y1 : (y 1 : ℕ) < 1536 := y 1 |>.isLt
  have hin : ∀ (o n : ℕ) (hi), o ≤ (y 1 : ℕ) → (y 1 : ℕ) < o + n → y ∈ (Rect.unit (s := S256x1536) ![0, o] ![256, n] hi).set := by
    intro o n hi h1 h2
    rw [Rect.mem_set_unit]
    intro a
    match a with
    | 0 => exact ⟨Nat.zero_le _, by simpa using y0⟩
    | 1 => exact ⟨h1, h2⟩
  canon_tiles x h using (by
    simp only [List.exists_mem_cons_iff]
    by_cases c8 : 1024 ≤ (y 1 : ℕ)
    · exact .inl (hin _ _ _ c8 (by omega))
    refine .inr ?_
    by_cases c7 : 896 ≤ (y 1 : ℕ)
    · exact .inl (hin _ _ _ c7 (by omega))
    refine .inr ?_
    by_cases c3 : 384 ≤ (y 1 : ℕ) ∧ (y 1 : ℕ) < 512
    · exact .inl (hin _ _ _ c3.1 c3.2)
    refine .inr ?_
    by_cases c6 : 768 ≤ (y 1 : ℕ)
    · exact .inl (hin _ _ _ c6 (by omega))
    refine .inr ?_
    by_cases c2 : 256 ≤ (y 1 : ℕ) ∧ (y 1 : ℕ) < 384
    · exact .inl (hin _ _ _ c2.1 c2.2)
    refine .inr ?_
    by_cases c5 : 640 ≤ (y 1 : ℕ)
    · exact .inl (hin _ _ _ c5 (by omega))
    refine .inr ?_
    by_cases c1 : 128 ≤ (y 1 : ℕ) ∧ (y 1 : ℕ) < 256
    · exact .inl (hin _ _ _ c1.1 c1.2)
    refine .inr ?_
    by_cases c4 : 512 ≤ (y 1 : ℕ)
    · exact .inl (hin _ _ _ c4 (by omega))
    exact .inr (.inl (hin _ _ _ (by omega) (by omega))))
  · idx_vars x
    unfold DC
    rw [dact_v _ _ _ _ _ r' l' x1 (by omega)]
    refine Eq.trans (b := (show EReal from (iblk m c 2 t : FVec Ideal S256x512 .f32) (ix2 x0 x1)) * (show EReal from dslB m c t (ix2 x0 ⟨1024 + x1, by omega⟩))) (by pointwise [k0_pay73]) ?_
    refine congrArg₂ (· * ·) (dv_at m c t _ _ _ (by omega)) ((dslB_at m c t _ _).trans ?_)
    rw [e0]
    exact (congrArg (fun n => dsl (a5 m c) (a7 m c) n _) (by omega)).trans (congrArg _ (Fin.ext (by simp only []; omega)))
  · idx_vars x
    exact (k3 _ _ _ _ _).trans (piece_k m c t 3 (by decide) _ rfl _ (ld_k m c t 3 (by decide) _ rfl _) _ _ _ _ (by omega) (by omega))
  · idx_vars x
    exact (q3 _ _ _ _ _).trans (piece_q m c t 3 (by decide) _ rfl _ (ld_q m c t 3 (by decide) _ rfl _) _ _ _ _ (by omega) (by omega))
  · idx_vars x
    exact (k2 _ _ _ _ _).trans (piece_k m c t 2 (by decide) _ rfl _ (ld_k m c t 2 (by decide) _ rfl _) _ _ _ _ (by omega) (by omega))
  · idx_vars x
    exact (q2 _ _ _ _ _).trans (piece_q m c t 2 (by decide) _ rfl _ (ld_q m c t 2 (by decide) _ rfl _) _ _ _ _ (by omega) (by omega))
  · idx_vars x
    exact (k1 _ _ _ _ _).trans (piece_k m c t 1 (by decide) _ rfl _ (ld_k m c t 1 (by decide) _ rfl _) _ _ _ _ (by omega) (by omega))
  · idx_vars x
    exact (q1 _ _ _ _ _).trans (piece_q m c t 1 (by decide) _ rfl _ (ld_q m c t 1 (by decide) _ rfl _) _ _ _ _ (by omega) (by omega))
  · idx_vars x
    exact (k0 _ _ _ _ _).trans (piece_k m c t 0 (by decide) _ rfl _ (ld_k m c t 0 (by decide) _ rfl _) _ _ _ _ (by omega) (by omega))
  · idx_vars x
    exact (q0 _ _ _ _ _).trans (piece_q m c t 0 (by decide) _ rfl _ (ld_q m c t 0 (by decide) _ rfl _) _ _ _ _ (by omega) (by omega))

/-- The first result of the whole run. -/
theorem final11 (c : Dev nD) : (dats m 0 c).arrAt 11 cfg0.N = fun y => DC m c (y 0) (y 1) := by
  refine (dats m 0 c).arrAt_eq_of_covers 11 _ (by decide +kernel) fun t _ y => ?_
  blk_simp
  rw [after0_11]
  have e0 : ((((View.whole main_v6_0).slice (win0_11.rect t)).emb y 0 : Fin _) : ℕ) = 256 * t.val + y 0 := by blk_simp [idx t]; omega
  have e1 : ((((View.whole main_v6_0).slice (win0_11.rect t)).emb y 1 : Fin _) : ℕ) = y 1 := by blk_simp [idx t]
  rcases Nat.eq_zero_or_pos t.val with h | h
  · rw [outsAt0_A m c t (by omega) (by omega)]
    frame_out
    exact block11 m c t y _ _ e0 e1
  · rw [outsAt0_B m c t (by have := (idx t).2.2.2.2.2.2.2.2.2.2.2.2.2.2; omega) (by omega)]
    frame_out
    exact block11 m c t y _ _ e0 e1

end Cert.PrepKIdeal.Value

end
-- ==== Proof.Prep.Gates.lean ====
module

public import proofs.«01_k».proof.Proof.Prep.Value

@[expose] public section

set_option maxRecDepth 16384

noncomputable section

open Idealize.ShloMosaic Idealize.ShloMosaic.TcCoe Idealize.SL.Sem
open Idealize.ShloMosaic.Pipeline (Dat)

namespace Cert.PrepKIdeal.Value

open Cert.PrepKIdeal Cert.PrepKIdeal.Gen
open Cert.ConvKIdeal.Value (earlier row_eq)
open Reals

variable (m : (ℓ : Loc nD τ sig) → Buf (Elt Ideal) ℓ)

/-- The gates' gradient rows, as one grid point computes them. -/
abbrev kdba (G : FVec Ideal S256x128 .f32) (L3 L4 : Fin 4 → FVec Ideal S256x1 .f32) (L9 L10 : Fin 4 → FVec Ideal S1x1 .f32) : FVec Ideal S256x128 .f32 :=
  k0_pay71 (F := Ideal) (k0_pay68 (iota .tc S256x128 32 [1] iota_S256x128_d1_w32) (k0_pay56 (iota .tc S256x128 32 [1] iota_S256x128_d1_w32)
    (k0_pay39 G (iota .tc S256x128 32 [1] iota_S256x128_d1_w32) (k0_pay26 (iota .tc S256x128 32 [1] iota_S256x128_d1_w32) k0_pay9 (k0_pay18 G (L4 0)) (k0_pay22 (L9 0) (L3 0)) (k0_pay23 G (L10 0)) k0_pay24)
      (k0_pay34 G) (L4 1) (L9 1) (L10 1) (L3 1)) (k0_pay51 G (L4 2)) (k0_pay52 (L9 2)) (k0_pay53 G (L10 2)) (L3 2)) (k0_pay63 G) (Scalar.ofBits .f32 0#32) (L4 3))
    (k0_pay69 (iota .tc S256x128 32 [1] iota_S256x128_d1_w32)) (k0_pay70 G (L9 3) (L10 3) (L3 3))

/-- What one grid point adds to the small gradients. -/
abbrev ksm (G : FVec Ideal S256x128 .f32) (L3 : Fin 4 → FVec Ideal S256x1 .f32) (L9 L10 : Fin 4 → FVec Ideal S1x1 .f32) : FVec Ideal S1x128 .f32 :=
  k0_pay72 (F := Ideal) (iota .tc S1x128 32 [1] iota_S1x128_d1_w32) (k0_pay57 (iota .tc S1x128 32 [1] iota_S1x128_d1_w32) (k0_pay42 (iota .tc S1x128 32 [1] iota_S1x128_d1_w32)
    (k0_pay27 (iota .tc S1x128 32 [1] iota_S1x128_d1_w32) k0_pay10 (k0_pay19 (L9 0)) (k0_pay20 G (L10 0)) (k0_pay21 (L3 0)) (k0_pay22 (L9 0) (L3 0)) (k0_pay23 G (L10 0)) k0_pay24)
    (k0_pay35 (L9 1)) (k0_pay37 (L3 1)) (k0_pay38 G (L9 1) (L10 1) (L3 1)) (k0_pay40 G (L10 1)) (k0_pay41 G (L10 1))) (k0_pay52 (L9 2)) (k0_pay53 G (L10 2)) (L3 2))
    (k0_pay64 (L9 3)) (k0_pay65 G (L10 3)) (k0_pay66 (L3 3)) (k0_pay67 G (L9 3) (L10 3) (L3 3))

theorem lane_test (l : Fin 128) (n : Fin 8) (v : BitVec 32) (hv : v = BitVec.ofNat 32 n.val) {α : Type} (x y : α) :
    Scalar.select (IntOp.cmpi .eq (BitVec.ofNat 32 l.val) v) x y = if l.val = n.val then x else y := by
  have h : ∀ (l : Fin 128) (n : Fin 8), IntOp.cmpi .eq (BitVec.ofNat 32 l.val) (BitVec.ofNat 32 n.val) = if l.val = n.val then 1#1 else 0#1 := by
    decide +kernel
  rw [hv, h l n]
  split <;> rfl

/-- A choice among the first eight lanes, made from the last on, is a choice by halves. -/
theorem lanes (l : Fin 128) (A B : Fin 4 → EReal) :
    Scalar.select (IntOp.cmpi .eq (BitVec.ofNat 32 l.val) 7#32) (B 3) (Scalar.select (IntOp.cmpi .eq (BitVec.ofNat 32 l.val) 3#32) (A 3)
      (Scalar.select (IntOp.cmpi .eq (BitVec.ofNat 32 l.val) 6#32) (B 2) (Scalar.select (IntOp.cmpi .eq (BitVec.ofNat 32 l.val) 2#32) (A 2)
      (Scalar.select (IntOp.cmpi .eq (BitVec.ofNat 32 l.val) 5#32) (B 1) (Scalar.select (IntOp.cmpi .eq (BitVec.ofNat 32 l.val) 1#32) (A 1)
      (Scalar.select (IntOp.cmpi .eq (BitVec.ofNat 32 l.val) 4#32) (B 0) (Scalar.select (IntOp.cmpi .eq (BitVec.ofNat 32 l.val) 0#32) (A 0) 0)))))))
      = if h : (l : ℕ) < 4 then A ⟨l, h⟩ else if h : (l : ℕ) - 4 < 4 then B ⟨(l : ℕ) - 4, h⟩ else 0 := by
  rw [lane_test l 7 7#32 rfl, lane_test l 3 3#32 rfl, lane_test l 6 6#32 rfl, lane_test l 2 2#32 rfl, lane_test l 5 5#32 rfl, lane_test l 1 1#32 rfl, lane_test l 4 4#32 rfl, lane_test l 0 0#32 rfl]
  rcases Nat.lt_or_ge l.val 8 with h | h
  · obtain ⟨n, rfl⟩ : ∃ n : Fin 8, l = Fin.castLE (by decide) n := ⟨⟨l, h⟩, rfl⟩
    fin_cases n <;> rfl
  · rw [dif_neg (by omega), dif_neg (by omega)]
    rw [if_neg (by simp; omega), if_neg (by simp; omega), if_neg (by simp; omega), if_neg (by simp; omega), if_neg (by simp; omega), if_neg (by simp; omega), if_neg (by simp; omega), if_neg (by simp; omega)]

variable (G : FVec Ideal S256x128 .f32) (L3 L4 : Fin 4 → FVec Ideal S256x1 .f32) (L9 L10 : Fin 4 → FVec Ideal S1x1 .f32)

theorem kdba_at (r : Fin 256) (l : Fin 128) :
    (show EReal from kdba G L3 L4 L9 L10 (ix2 r l)) =
      if h : (l : ℕ) < 4 then (show EReal from L4 ⟨l, h⟩ (ix2 r 0)) * sgm (G (ix2 r l)) * (1 - sgm (G (ix2 r l))) else
      if h : (l : ℕ) - 4 < 4 then (show EReal from L3 ⟨(l : ℕ) - 4, h⟩ (ix2 r 0)) * -Ideal.exp (L9 ⟨(l : ℕ) - 4, h⟩ (ix2 0 0)) *
        sgm ((show EReal from G (ix2 r l)) + L10 ⟨(l : ℕ) - 4, h⟩ (ix2 0 0)) else 0 := by
  refine Eq.trans ?_ ((lanes l (fun h => (show EReal from L4 h (ix2 r 0)) * sgm (G (ix2 r ⟨h, by omega⟩)) * (1 - sgm (G (ix2 r ⟨h, by omega⟩))))
    (fun h => (show EReal from L3 h (ix2 r 0)) * -Ideal.exp (L9 h (ix2 0 0)) * sgm ((show EReal from G (ix2 r ⟨4 + h, by omega⟩)) + L10 h (ix2 0 0)))).trans ?_)
  · unfold kdba
    pointwise [k0_pay72, k0_pay57, k0_pay42, k0_pay27, k0_pay10, k0_pay71, k0_pay70, k0_pay69, k0_pay68, k0_pay67, k0_pay65, k0_pay64, k0_pay63, k0_pay8, k0_pay56, k0_pay39, k0_pay26, k0_pay9, k0_pay18, k0_pay22, k0_pay23, k0_pay24, k0_pay34, k0_pay51, k0_pay52, k0_pay53, k0_pay19, k0_pay20, k0_pay21, k0_pay25, k0_pay36, k0_pay35, k0_pay38, k0_pay37, k0_pay54, k0_pay55, k0_pay66, k0_pay40, k0_pay41]
    simp only [sgm, zero_sub]
  · by_cases h : (l : ℕ) < 4
    · rw [dif_pos h, dif_pos h]
    · rw [dif_neg h, dif_neg h]
      by_cases h' : (l : ℕ) - 4 < 4
      · rw [dif_pos h', dif_pos h']
        rw [show (⟨4 + (((⟨(l : ℕ) - 4, h'⟩ : Fin 4) : ℕ)), by simp only []; omega⟩ : Fin 128) = l from Fin.ext (by simp only []; omega)]
      · rw [dif_neg h', dif_neg h']

theorem ksm_at (l : Fin 128) :
    (show EReal from ksm G L3 L9 L10 (ix2 0 l)) =
      if h : (l : ℕ) < 4 then (∑ k : Fin 256, (show EReal from L3 ⟨l, h⟩ (ix2 k 0)) * sp ((show EReal from G (ix2 k ⟨4 + l, by omega⟩)) + L10 ⟨l, h⟩ (ix2 0 0))) * -Ideal.exp (L9 ⟨l, h⟩ (ix2 0 0)) else
      if h : (l : ℕ) - 4 < 4 then ∑ k : Fin 256, (show EReal from L3 ⟨(l : ℕ) - 4, h⟩ (ix2 k 0)) * -Ideal.exp (L9 ⟨(l : ℕ) - 4, h⟩ (ix2 0 0)) *
        sgm ((show EReal from G (ix2 k ⟨4 + ((l : ℕ) - 4), by omega⟩)) + L10 ⟨(l : ℕ) - 4, h⟩ (ix2 0 0)) else 0 := by
  refine Eq.trans ?_ (lanes l (fun h => (∑ k : Fin 256, (show EReal from L3 h (ix2 k 0)) * sp ((show EReal from G (ix2 k ⟨4 + h, by omega⟩)) + L10 h (ix2 0 0))) * -Ideal.exp (L9 h (ix2 0 0)))
    (fun h => ∑ k : Fin 256, (show EReal from L3 h (ix2 k 0)) * -Ideal.exp (L9 h (ix2 0 0)) * sgm ((show EReal from G (ix2 k ⟨4 + h, by omega⟩)) + L10 h (ix2 0 0))))
  unfold ksm
  pointwise [k0_pay72, k0_pay57, k0_pay42, k0_pay27, k0_pay10, k0_pay71, k0_pay70, k0_pay69, k0_pay68, k0_pay67, k0_pay65, k0_pay64, k0_pay63, k0_pay8, k0_pay56, k0_pay39, k0_pay26, k0_pay9, k0_pay18, k0_pay22, k0_pay23, k0_pay24, k0_pay34, k0_pay51, k0_pay52, k0_pay53, k0_pay19, k0_pay20, k0_pay21, k0_pay25, k0_pay36, k0_pay35, k0_pay38, k0_pay37, k0_pay54, k0_pay55, k0_pay66, k0_pay40, k0_pay41]
  simp only [sgm, sp, zero_sub]
  rfl

end Cert.PrepKIdeal.Value

end
-- ==== Proof.Prep.Small.lean ====
module

public import proofs.«01_k».proof.Proof.Prep.Gates

@[expose] public section

set_option maxRecDepth 16384

noncomputable section

open Idealize.ShloMosaic Idealize.ShloMosaic.TcCoe Idealize.SL.Sem
open Idealize.ShloMosaic.Pipeline (Dat)

namespace Cert.PrepKIdeal.Value

open Cert.PrepKIdeal Cert.PrepKIdeal.Gen
open Cert.ConvKIdeal.Value (earlier row_eq)
open Reals

variable (m : (ℓ : Loc nD τ sig) → Buf (Elt Ideal) ℓ)

variable (x3 x4 : FVec Ideal S2048x4 .f32) (x6 : FVec Ideal S2048x8 .f32) (x8 x9 : FVec Ideal S4 .f32)

/-- A head's time-step logit: the gate's column and its bias. -/
def xa (r : Fin 2048) (h : Fin 4) : EReal := x6 (ix2 r ⟨4 + h, by omega⟩) + x9 (ix1 h)

/-- The gradient of a gate's logit. -/
def dxa (r : Fin 2048) (h : Fin 4) : EReal := x3 (ix2 r h) * -Ideal.exp (x8 (ix1 h)) * sgm (xa x6 x9 r h)

/-- The gates' gradient, a lane tile wide. -/
def DBA (r : Fin 2048) (l : Fin 128) : EReal :=
  if h : (l : ℕ) < 4 then (show EReal from x4 (ix2 r ⟨l, h⟩)) * sgm (x6 (ix2 r ⟨l, by omega⟩)) * (1 - sgm (x6 (ix2 r ⟨l, by omega⟩)))
  else if h : (l : ℕ) - 4 < 4 then dxa x3 x6 x8 x9 r ⟨(l : ℕ) - 4, h⟩ else 0

/-- The part of the decays' gradient that 256 rows give, and of the biases'. -/
def SMB (t : ℕ) (ht : t < 8) (l : Fin 128) : EReal :=
  if h : (l : ℕ) < 4 then (∑ k : Fin 256, (show EReal from x3 (ix2 ⟨256 * t + k, by omega⟩ ⟨l, h⟩)) * sp (xa x6 x9 ⟨256 * t + k, by omega⟩ ⟨l, h⟩)) * -Ideal.exp (x8 (ix1 ⟨l, h⟩))
  else if h : (l : ℕ) - 4 < 4 then ∑ k : Fin 256, dxa x3 x6 x8 x9 ⟨256 * t + k, by omega⟩ ⟨(l : ℕ) - 4, h⟩ else 0

variable (h3 : ∀ i, IsReal (x3 i)) (h6 : ∀ i, IsReal (x6 i)) (h8 : ∀ i, IsReal (x8 i)) (h9 : ∀ i, IsReal (x9 i))

include h6 h9 in
theorem xa_real (r : Fin 2048) (h : Fin 4) : IsReal (xa x6 x9 r h) := (h6 _).add (h9 _)

open Cert.PrepRIdeal.Read in
include h6 h9 in
theorem ref_sp (r : Fin 2048) (h : Fin 4) : (show EReal from val_main_v75_0 (F := Ideal) x6 x9 (ix2 r h)) = sp (xa x6 x9 r h) := by
  pointwise [val_main_v75_0, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_v74, val_main_v73, val_main_v72, val_main_v30]
  rw [if_neg (by simp)]
  rfl

open Cert.PrepRIdeal.Read in
include h6 h9 in
theorem ref_dxa (r : Fin 2048) (h : Fin 4) : (show EReal from val_main_v89 (F := Ideal) x3 x6 x8 x9 (ix2 r h)) = dxa x3 x6 x8 x9 r h := by
  have e := ref_sp x6 x9 h6 h9 r h
  have hx := xa_real x6 x9 h6 h9 r h
  have e1 : (show EReal from val_main_v74 (F := Ideal) x6 x9 (ix2 r h)) = xa x6 x9 r h := by
    pointwise [val_main_v74, val_main_v73, val_main_v72, val_main_v30]
    rfl
  unfold dxa
  rw [← sp_grad hx, ← e, ← e1]
  pointwise [val_main_v89, val_main_v84, val_main_v83, val_main_v76, val_main_v71, val_main_v70, val_main_v75_1, val_main_call1_v21, val_main_call1_v20, val_main_call1_v19, val_main_call1_v18, val_main_call1_v17, val_main_call1_v16, val_main_call1_v15, val_main_call1_v14, val_main_call1_v13, val_main_call1_cst_3, val_main_call1_cst_2, val_main_call1_cst_1, val_main_call1_cst_0]
  have n1 : (show EReal from val_main_v74 (F := Ideal) x6 x9 (ix2 r h)) ≠ Ideal.ofBits .f32 0x7F800000#32 := by rw [e1]; exact ne_top hx
  have n2 : (show EReal from val_main_v75_0 (F := Ideal) x6 x9 (ix2 r h)) ≠ Ideal.ofBits .f32 0x7F800000#32 := by rw [e]; exact ne_top hx.sp
  rw [if_neg n1, if_neg n2]
  exact congrArg (· * _) (mul_comm (_ : EReal) _)

open Cert.PrepRIdeal.Read in
include h6 h9 in
/-- The reference's gradient of the gates. -/
theorem ref_dba (r : Fin 2048) (l : Fin 128) : (show EReal from val_main_v131 (F := Ideal) x3 x4 x6 x8 x9 (ix2 r l)) = DBA x3 x4 x6 x8 x9 r l := by
  have e := fun h => ref_dxa x3 x6 x8 x9 h6 h9 r h
  pointwise [val_main_v131, val_main_v130, val_main_cst_22, val_main_v95, val_main_v69, val_main_v68, val_main_v67, val_main_v66, val_main_v65, val_main_v64, val_main_v63, val_main_v62, val_main_v61, val_main_v29, val_main_cst_7, val_main_cst_8, val_main_cst_9]
  unfold DBA
  by_cases h : (l : ℕ) < 4
  · rw [dif_pos h, dif_pos h]
    exact (mul_assoc (_ : EReal) _ _).symm
  · rw [dif_neg h, dif_neg h]
    by_cases h' : (l : ℕ) - 4 < 4
    · rw [dif_pos h', dif_pos h']
      exact e _
    · rw [dif_neg h', dif_neg h']

open Cert.PrepRIdeal.Read in
include h3 h6 h8 h9 in
/-- The reference's small gradients are the sums of the blocks' parts. -/
theorem ref_sm (l : Fin 128) : (show EReal from val_main_v134 (F := Ideal) x3 x6 x8 x9 (ix2 0 l)) = ∑ t : Fin 8, SMB x3 x6 x8 x9 t.val t.isLt l := by
  have e := fun r h => ref_dxa x3 x6 x8 x9 h6 h9 r h
  have e' := fun r h => ref_sp x6 x9 h6 h9 r h
  pointwise [val_main_v134, val_main_v133, val_main_v132, val_main_cst_23, val_main_v94, val_main_v93, val_main_v92, val_main_cst_13, val_main_v91, val_main_v90, val_main_cst_12, val_main_v88, val_main_cst_11, val_main_v87, val_main_v86, val_main_cst_10, val_main_v85, val_main_v70]
  unfold SMB
  by_cases h : (l : ℕ) < 4
  · simp only [dif_pos h, Fin.sum_univ_one]
    rw [sum_mul_neg _ _ (fun t => .sum _ _ fun k => (h3 _).mul (xa_real x6 x9 h6 h9 _ _).sp) (h8 _).exp]
    refine congrArg (fun z : EReal => -z * _) (Eq.symm ?_)
    refine Fin.sum_mul_add_congr fun s k hl => ?_
    refine congrArg₂ (· * ·) (row_eq x3 _ _ _ _ (by simp only []; omega) rfl) ((e' _ _).symm.trans (row_eq (val_main_v75_0 (F := Ideal) x6 x9) _ _ _ _ (by simp only []; omega) rfl))
  · simp only [dif_neg h, Fin.sum_univ_one]
    by_cases h' : (l : ℕ) - 4 < 4
    · simp only [dif_pos h']
      refine Eq.symm (Fin.sum_mul_add_congr fun s k hl => ?_)
      exact (e _ _).symm.trans (row_eq (val_main_v89 (F := Ideal) x3 x6 x8 x9) _ _ _ _ (by simp only []; omega) rfl)
    · simp only [dif_neg h', Finset.sum_const_zero]

/-! The kernel's blocks of the gates. -/

/-- The gates' columns of a block. -/
theorem gate_at (c : Dev nD) (t : Fin cfg0.N) (r : Fin 256) (l : Fin 128) (r' : Fin 2048) (hr : (r' : ℕ) = 256 * t.val + r) (hl : (l : ℕ) < 8) :
    (show EReal from k0_pay8 (F := Ideal) (iblk m c 7 t) (ix2 r l)) = a6 m c (ix2 r' ⟨l, hl⟩) := by
  refine Eq.trans (b := (show EReal from (iblk m c 7 t : FVec Ideal S256x128 .f32) (ix2 r l))) (by pointwise [k0_pay8]) ?_
  blk_simp [iblk]
  unfold V hostOps0 hostOps0_1 hostOps0_2 hostOps0_3
  simp only [List.flatten, List.append_eq, List.cons_append, List.nil_append]
  after_reads_at
  have e1 : ((((View.whole main_v1).slice (win0_7.rect t)).emb (ix2 r l) 1 : Fin _) : ℕ) = 1536 + l := by blk_simp [idx t]
  rw [dif_neg (by rw [e1]; omega), dif_pos (by rw [e1]; omega)]
  blk_ext [idx t]

theorem dg_at (c : Dev nD) (t : Fin cfg0.N) (r : Fin 256) (h : Fin 4) (hi) (r' : Fin 2048) (hr : (r' : ℕ) = 256 * t.val + r) :
    (show EReal from (View.ld (iblk m c 3 t : FVec Ideal S256x128 .f32) (Rect.unit (s := S256x128) ![0, h.val] ![256, 1] hi) : FVec Ideal S256x1 .f32) (ix2 r 0)) = a3 m c (ix2 r' h) := by
  refine Eq.trans (b := (show EReal from (iblk m c 3 t : FVec Ideal S256x128 .f32) (ix2 r ⟨h, by omega⟩))) ?_ ?_
  · generalize (iblk m c 3 t : FVec Ideal S256x128 .f32) = x
    show x _ = x _
    blk_ext
    · simp [LoadRect.idx]
    · simp [LoadRect.idx]
  blk_simp [iblk]
  unfold V hostOps0 hostOps0_1 hostOps0_2 hostOps0_3
  simp only [List.flatten, List.append_eq, List.cons_append, List.nil_append]
  after_reads_at
  have e1 : ((((View.whole main_v2).slice (win0_3.rect t)).emb (ix2 r ⟨h, by omega⟩) 1 : Fin _) : ℕ) = h := by blk_simp [idx t]
  rw [dif_pos (by rw [e1]; exact h.isLt)]
  blk_ext [idx t]

theorem db_at (c : Dev nD) (t : Fin cfg0.N) (r : Fin 256) (h : Fin 4) (hi) (r' : Fin 2048) (hr : (r' : ℕ) = 256 * t.val + r) :
    (show EReal from (View.ld (iblk m c 4 t : FVec Ideal S256x128 .f32) (Rect.unit (s := S256x128) ![0, h.val] ![256, 1] hi) : FVec Ideal S256x1 .f32) (ix2 r 0)) = a4 m c (ix2 r' h) := by
  refine Eq.trans (b := (show EReal from (iblk m c 4 t : FVec Ideal S256x128 .f32) (ix2 r ⟨h, by omega⟩))) ?_ ?_
  · generalize (iblk m c 4 t : FVec Ideal S256x128 .f32) = x
    show x _ = x _
    blk_ext
    · simp [LoadRect.idx]
    · simp [LoadRect.idx]
  blk_simp [iblk]
  unfold V hostOps0 hostOps0_1 hostOps0_2 hostOps0_3
  simp only [List.flatten, List.append_eq, List.cons_append, List.nil_append]
  after_reads_at
  have e1 : ((((View.whole main_v3).slice (win0_4.rect t)).emb (ix2 r ⟨h, by omega⟩) 1 : Fin _) : ℕ) = h := by blk_simp [idx t]
  rw [dif_pos (by rw [e1]; exact h.isLt)]
  blk_ext [idx t]

theorem al_at (c : Dev nD) (t : Fin cfg0.N) (h : Fin 4) (hi) :
    (show EReal from (View.ld (iblk m c 9 t : FVec Ideal S1x4 .f32) (Rect.unit (s := S1x4) ![0, h.val] ![1, 1] hi) : FVec Ideal S1x1 .f32) (ix2 0 0)) = a8 m c (ix1 h) := by
  refine Eq.trans (b := (show EReal from (iblk m c 9 t : FVec Ideal S1x4 .f32) (ix2 0 h))) ?_ ?_
  · generalize (iblk m c 9 t : FVec Ideal S1x4 .f32) = x
    show x _ = x _
    blk_ext
    simp [LoadRect.idx]
  blk_simp [iblk]
  unfold V hostOps0 hostOps0_1 hostOps0_2 hostOps0_3
  simp only [List.flatten, List.append_eq, List.cons_append, List.nil_append]
  after_reads_at
  blk_ext [idx t]

theorem dt_at (c : Dev nD) (t : Fin cfg0.N) (h : Fin 4) (hi) :
    (show EReal from (View.ld (iblk m c 10 t : FVec Ideal S1x4 .f32) (Rect.unit (s := S1x4) ![0, h.val] ![1, 1] hi) : FVec Ideal S1x1 .f32) (ix2 0 0)) = a9 m c (ix1 h) := by
  refine Eq.trans (b := (show EReal from (iblk m c 10 t : FVec Ideal S1x4 .f32) (ix2 0 h))) ?_ ?_
  · generalize (iblk m c 10 t : FVec Ideal S1x4 .f32) = x
    show x _ = x _
    blk_ext
    simp [LoadRect.idx]
  blk_simp [iblk]
  unfold V hostOps0 hostOps0_1 hostOps0_2 hostOps0_3
  simp only [List.flatten, List.append_eq, List.cons_append, List.nil_append]
  after_reads_at
  blk_ext [idx t]

theorem in_row {n : ℕ} (hn : 4 ≤ n) (h : Fin 4) {k : ℕ} (a : Fin 2) : (![0, h.val] : Fin 2 → ℕ) a + (![k, 1] : Fin 2 → ℕ) a ≤ (![k, n] : Fin 2 → ℕ) a := by
  match a with
  | 0 => simp
  | 1 => simp; omega

/-- A head's column of a block's lanes. -/
abbrev col3 (c : Dev nD) (t : Fin cfg0.N) (h : Fin 4) : FVec Ideal S256x1 .f32 := View.ld (iblk m c 3 t : FVec Ideal S256x128 .f32) (Rect.unit (s := S256x128) ![0, h.val] ![256, 1] (in_row (n := 128) (by decide) h))
abbrev col4 (c : Dev nD) (t : Fin cfg0.N) (h : Fin 4) : FVec Ideal S256x1 .f32 := View.ld (iblk m c 4 t : FVec Ideal S256x128 .f32) (Rect.unit (s := S256x128) ![0, h.val] ![256, 1] (in_row (n := 128) (by decide) h))
abbrev col9 (c : Dev nD) (t : Fin cfg0.N) (h : Fin 4) : FVec Ideal S1x1 .f32 := View.ld (iblk m c 9 t : FVec Ideal S1x4 .f32) (Rect.unit (s := S1x4) ![0, h.val] ![1, 1] (in_row (n := 4) (by decide) h))
abbrev col10 (c : Dev nD) (t : Fin cfg0.N) (h : Fin 4) : FVec Ideal S1x1 .f32 := View.ld (iblk m c 10 t : FVec Ideal S1x4 .f32) (Rect.unit (s := S1x4) ![0, h.val] ![1, 1] (in_row (n := 4) (by decide) h))

/-- A block of the second result. -/
theorem block12 (c : Dev nD) (t : Fin cfg0.N) (r : Fin 256) (l : Fin 128) (r' : Fin 2048) (hr : (r' : ℕ) = 256 * t.val + r) :
    (show EReal from kdba (k0_pay8 (F := Ideal) (iblk m c 7 t)) (col3 m c t) (col4 m c t) (col9 m c t) (col10 m c t) (ix2 r l)) = DBA (a3 m c) (a4 m c) (a6 m c) (a8 m c) (a9 m c) r' l := by
  rw [kdba_at]
  unfold DBA
  by_cases h : (l : ℕ) < 4
  · rw [dif_pos h, dif_pos h]
    have e := gate_at m c t r l r' hr (by omega)
    exact congrArg₂ (· * ·) (congrArg₂ (· * ·) (db_at m c t r ⟨l, h⟩ _ r' hr) (congrArg sgm e)) (congrArg (fun z => 1 - sgm z) e)
  · rw [dif_neg h, dif_neg h]
    by_cases h' : (l : ℕ) - 4 < 4
    · rw [dif_pos h', dif_pos h']
      unfold dxa xa
      refine congrArg₂ (· * ·) (congrArg₂ (· * ·) (dg_at m c t r ⟨(l : ℕ) - 4, h'⟩ _ r' hr) (congrArg (fun z => -Ideal.exp z) (al_at m c t ⟨(l : ℕ) - 4, h'⟩ _)))
        (congrArg sgm (congrArg₂ (· + ·) ((gate_at m c t r l r' hr (by omega)).trans ?_) (dt_at m c t ⟨(l : ℕ) - 4, h'⟩ _)))
      exact row_eq (a6 m c) _ _ _ _ rfl (by simp only []; omega)
    · rw [dif_neg h', dif_neg h']

/-- A block's part of the third. -/
theorem block13 (c : Dev nD) (t : Fin cfg0.N) (ht : t.val < 8) (l : Fin 128) :
    (show EReal from ksm (k0_pay8 (F := Ideal) (iblk m c 7 t)) (col3 m c t) (col9 m c t) (col10 m c t) (ix2 0 l)) = SMB (a3 m c) (a6 m c) (a8 m c) (a9 m c) t.val ht l := by
  rw [ksm_at]
  unfold SMB dxa xa
  by_cases h : (l : ℕ) < 4
  · rw [dif_pos h, dif_pos h]
    refine congrArg₂ (· * ·) (Finset.sum_congr rfl fun k _ => ?_) (congrArg (fun z => -Ideal.exp z) (al_at m c t ⟨l, h⟩ _))
    exact congrArg₂ (· * ·) (dg_at m c t k ⟨l, h⟩ _ _ rfl) (congrArg sp (congrArg₂ (· + ·) (gate_at m c t k _ _ rfl (by simp only []; omega)) (dt_at m c t ⟨l, h⟩ _)))
  · rw [dif_neg h, dif_neg h]
    by_cases h' : (l : ℕ) - 4 < 4
    · rw [dif_pos h', dif_pos h']
      refine Finset.sum_congr rfl fun k _ => ?_
      exact congrArg₂ (· * ·) (congrArg₂ (· * ·) (dg_at m c t k ⟨(l : ℕ) - 4, h'⟩ _ _ rfl) (congrArg (fun z => -Ideal.exp z) (al_at m c t ⟨(l : ℕ) - 4, h'⟩ _)))
        (congrArg sgm (congrArg₂ (· + ·) (gate_at m c t k _ _ rfl (by simp only []; omega)) (dt_at m c t ⟨(l : ℕ) - 4, h'⟩ _)))
    · rw [dif_neg h', dif_neg h']

/-- The second result of the whole run. -/
theorem final12 (c : Dev nD) : (dats m 0 c).arrAt 12 cfg0.N = fun y => DBA (a3 m c) (a4 m c) (a6 m c) (a8 m c) (a9 m c) (y 0) (y 1) := by
  refine (dats m 0 c).arrAt_eq_of_covers 12 _ (by decide +kernel) fun t _ y => ?_
  blk_simp
  rw [after0_12]
  have e0 : ((((View.whole main_v6_1).slice (win0_12.rect t)).emb y 0 : Fin _) : ℕ) = 256 * t.val + y 0 := by blk_simp [idx t]; omega
  have e1 : (((View.whole main_v6_1).slice (win0_12.rect t)).emb y 1 : Fin _) = y 1 := Fin.ext (by blk_simp [idx t])
  rw [e1]
  rcases Nat.eq_zero_or_pos t.val with h | h
  · rw [outsAt0_A m c t (by omega) (by omega)]
    frame_out
    idx_vars y
    exact block12 m c t _ _ _ e0
  · rw [outsAt0_B m c t (by have := (idx t).2.2.2.2.2.2.2.2.2.2.2.2.2.2; omega) (by omega)]
    frame_out
    idx_vars y
    exact block12 m c t _ _ _ e0

/-- The third: the blocks' parts, added up. -/
theorem final13 (c : Dev nD) : (dats m 0 c).arrAt 13 cfg0.N = fun y => ∑ t : Fin 8, SMB (a3 m c) (a6 m c) (a8 m c) (a9 m c) t.val t.isLt (y 1) := by
  refine (dats m 0 c).arrAt_eq_of_after_last 13 t0_7 (by decide +kernel) _ fun j => ?_
  blk_simp
  have key : ∀ (t : Fin cfg0.N) (ht : t.val < 8) (j : S1x128.Idx), (show EReal from ksm (k0_pay8 (F := Ideal) (iblk m c 7 t)) (col3 m c t) (col9 m c t) (col10 m c t) j) = SMB (a3 m c) (a6 m c) (a8 m c) (a9 m c) t.val ht (j 1) := by
    intro t ht j
    idx_vars j
    obtain rfl : j0 = 0 := Subsingleton.elim _ _
    exact block13 m c t ht j1
  rw [after0_13, Pipeline.eq_sum_fin_of_reset_step_apply_last (fun n h => (outsAt0 m c n h).2.2) 8 (fun _ => (0 : EReal)) (fun t j => SMB (a3 m c) (a6 m c) (a8 m c) (a9 m c) t.val (by have := (idx t).2.2.2.2.2.2.2.2.2.2.2.2.2.2; exact this) (j 1)) (fun t h j => by
    rw [outsAt0_A m c t h (by have := (idx t).2.2.2.2.2.2.2.2.2.2.2.2.2.2; omega)]; frame_out; exact (key t _ j).trans (zero_add _).symm) (fun t h j => by
    rw [outsAt0_B m c t h (by omega)]; frame_out
    refine (show (k0_pay1 (F := Ideal) (ksm (k0_pay8 (F := Ideal) (iblk m c 7 t)) (col3 m c t) (col9 m c t) (col10 m c t)) _ j : EReal) = _ from ?_)
    rw [← key t (by have := (idx t).2.2.2.2.2.2.2.2.2.2.2.2.2.2; exact this) j]
    generalize ksm (k0_pay8 (F := Ideal) (iblk m c 7 t)) (col3 m c t) (col9 m c t) (col10 m c t) = z
    pointwise [k0_pay1]) (le_of_eq N_0) t0_7 rfl j, zero_add]
  rfl

end Cert.PrepKIdeal.Value

end
-- ==== Proof.Prep.Claim.lean ====
module

public import proofs.«01_k».proof.Proof.Prep.Rows
public import proofs.«01_k».proof.Proof.Prep.Small
public import proofs.«01_k».proof.Proof.Gen.PrepK.Frame
public import proofs.«01_k».proof.Proof.Gen.PrepRIdeal.Run
public import proofs.«01_k».proof.Defs

@[expose] public section

set_option maxRecDepth 16384

noncomputable section

namespace Cert.Proof.Prep

open Idealize.ShloMosaic Idealize.SL.Sem

theorem frame_k : Cert.quiescent_PrepK (hPrepK := Cert.PrepK.Gen.facts) := fun m ρ _ => Cert.PrepK.Gen.frame m ρ

theorem frame_ki : Cert.quiescent_PrepKIdeal (hPrepKIdeal := Cert.PrepKIdeal.Gen.facts) := fun m ρ _ => Cert.PrepKIdeal.Gen.frame m ρ

theorem frame_kip [h : Cert.Pre_prep_finite.Facts] : Cert.quiescent_PrepKIdeal_pre_prep_finite (hPrepKIdeal := Cert.PrepKIdeal.Gen.facts) (hPre_prep_finite := h) :=
  fun m ρ _ => Cert.PrepKIdeal.Gen.frame m ρ

theorem frame_r : Cert.quiescent_PrepRIdeal (hPrepRIdeal := Cert.PrepRIdeal.Gen.facts) := fun m g _ =>
  (θ_run _ _ _).mono (fun r h => ⟨fun c => (h c).2.2.2, Idealize.ShloMosaic.sem_eq_zero_of_no_sems (by decide) r.2⟩) (Cert.PrepRIdeal.Value.run m g)

theorem frame_rp [h : Cert.Pre_prep_finite.Facts] : Cert.quiescent_PrepRIdeal_pre_prep_finite (hPrepRIdeal := Cert.PrepRIdeal.Gen.facts) (hPre_prep_finite := h) :=
  fun m g _ => frame_r m g trivial

theorem algebraic [h : Cert.Pre_prep_finite.Facts] :
    Cert.algebraic_PrepKIdeal_PrepRIdeal_pre_prep_finite (hPrepKIdeal := Cert.PrepKIdeal.Gen.facts) (hPrepRIdeal := Cert.PrepRIdeal.Gen.facts) (hPre_prep_finite := h) := by
  pair_intro
  · run_from Cert.PrepKIdeal.Value.run_blocks m g
  · refine (θ_run _ _ _).mono (fun r h c => ?_) (Cert.PrepRIdeal.Value.run m' g')
    obtain ⟨h0, h1, h2, hk⟩ := h c
    obtain ⟨a0, a1, a2, a3, a4, a5, a6, a7, a8, a9⟩ := hagree c
    obtain ⟨p0, p1, p2, p3, p4, p5, p6, p7, p8⟩ := hpre c
    refine ⟨h0.trans ((Cert.PrepRIdeal.Read.val_main_v129_eq _).trans ?_), h1.trans ((Cert.PrepRIdeal.Read.val_main_v131_eq _).trans ?_),
      h2.trans ((Cert.PrepRIdeal.Read.val_main_v134_eq _).trans ?_), hk⟩
    · show Cert.PrepRIdeal.Read.val_main_v129 (F := Ideal) (m' (c.tc.loc Cert.PrepRIdeal.main_arg0)) (m' (c.tc.loc Cert.PrepRIdeal.main_arg1)) (m' (c.tc.loc Cert.PrepRIdeal.main_arg2)) (m' (c.tc.loc Cert.PrepRIdeal.main_arg5)) (m' (c.tc.loc Cert.PrepRIdeal.main_arg7)) = _
      rw [a0, a1, a2, a5, a7]
      refine Eq.trans (funext fun y => ?_) (Cert.PrepKIdeal.Value.final11 m c).symm
      idx_vars y
      exact Cert.PrepKIdeal.Value.ref_dc _ _ _ _ _ (Reals.fin_of_pre _ _ (fun _ => rfl) p0) (Reals.fin_of_pre _ _ (fun _ => rfl) p1) (Reals.fin_of_pre _ _ (fun _ => rfl) p2) (Reals.fin_of_pre _ _ (fun _ => rfl) p4) (Reals.fin_of_pre _ _ (fun _ => rfl) p6) _ _
    · show Cert.PrepRIdeal.Read.val_main_v131 (F := Ideal) (m' (c.tc.loc Cert.PrepRIdeal.main_arg3)) (m' (c.tc.loc Cert.PrepRIdeal.main_arg4)) (m' (c.tc.loc Cert.PrepRIdeal.main_arg6)) (m' (c.tc.loc Cert.PrepRIdeal.main_arg8)) (m' (c.tc.loc Cert.PrepRIdeal.main_arg9)) = _
      rw [a3, a4, a6, a8, a9]
      refine Eq.trans (funext fun y => ?_) (Cert.PrepKIdeal.Value.final12 m c).symm
      idx_vars y
      exact Cert.PrepKIdeal.Value.ref_dba _ _ _ _ _ (Reals.fin_of_pre _ _ (fun _ => rfl) p5) (Reals.fin_of_pre _ _ (fun _ => rfl) p8) _ _
    · show Cert.PrepRIdeal.Read.val_main_v134 (F := Ideal) (m' (c.tc.loc Cert.PrepRIdeal.main_arg3)) (m' (c.tc.loc Cert.PrepRIdeal.main_arg6)) (m' (c.tc.loc Cert.PrepRIdeal.main_arg8)) (m' (c.tc.loc Cert.PrepRIdeal.main_arg9)) = _
      rw [a3, a6, a8, a9]
      refine Eq.trans (funext fun y => ?_) (Cert.PrepKIdeal.Value.final13 m c).symm
      idx_vars y
      obtain rfl : y0 = 0 := Subsingleton.elim _ _
      exact Cert.PrepKIdeal.Value.ref_sm _ _ _ _ (Reals.fin_of_pre _ _ (fun _ => rfl) p3) (Reals.fin_of_pre _ _ (fun _ => rfl) p5) (Reals.fin_of_pre _ _ (fun _ => rfl) p7) (Reals.fin_of_pre _ _ (fun _ => rfl) p8) _

end Cert.Proof.Prep

end
-- ==== Proof.Up.Value.lean ====
module

public import proofs.«01_k».proof.Proof.Gen.UpKIdeal.Value
public import proofs.«01_k».proof.Proof.Gen.UpRIdeal.Read
public import proofs.«01_k».proof.Proof.Reals
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.UpKIdeal.Value

open Cert.UpKIdeal Cert.UpKIdeal.Gen

variable (m : (ℓ : Loc nD τ sig) → Buf (Elt Ideal) ℓ)

/-- The arguments. -/
abbrev a0 (c : Dev nD) : FVec Ideal S2048x5632 .f32 := m ((c : Thread nD τ).loc main_arg0)
abbrev a1 (c : Dev nD) : FVec Ideal S1024x5632 .f32 := m ((c : Thread nD τ).loc main_arg1)
abbrev a2 (c : Dev nD) : FVec Ideal S2048x1024 .f32 := m ((c : Thread nD τ).loc main_arg2)
abbrev a3 (c : Dev nD) : FVec Ideal S1024 .f32 := m ((c : Thread nD τ).loc main_arg3)
abbrev a4 (c : Dev nD) : FVec Ideal S2048x1024 .f32 := m ((c : Thread nD τ).loc main_arg4)

/-- The rows of `x1` of a point's block. -/
abbrev rows (c : Dev nD) (t : Fin cfg0.N) : FVec Ideal S1024x1024 .f32 := iblk m c 2 t

/-- The slab of the weight that the step `k` of a row block reads. -/
def slab (k : ℕ) : ℕ := 4 * (k % 2) + k / 2

theorem idx : ∀ t : Fin cfg0.N, win0_0.index t = ![t.val % 8, t.val / 8, 0] ∧ win0_1.index t = ![slab (t.val % 8), 0, 0] ∧
    win0_2.index t = ![t.val / 8, 0] ∧ win0_3.index t = ![0, 0] ∧ win0_4.index t = ![t.val / 8, 0] ∧
    win0_5.index t = ![t.val / 8, 0] ∧ win0_6.index t = ![0, 0] ∧ t.val < 16 :=
  (by decide +kernel : ∀ t : Fin grid0.N, _)

/-- The cotangent's slab: its columns of pair `s / 2`, half `s % 2`. -/
theorem du_at (c : Dev nD) (t : Fin cfg0.N) (r : Fin 1024) (l : Fin 704) (r' : Fin 2048) (l' : Fin 5632)
    (hr : (r' : ℕ) = t.val / 8 * 1024 + r) (hl : (l' : ℕ) = slab (t.val % 8) * 704 + l) :
    (iblk m c 0 t : FVec Ideal S1x1024x704 .bf16) (ix3 0 r l) = (a0 m c) (ix2 r' l') := by
  blk_simp [iblk]
  unfold V hostOps0
  simp only [List.flatten, List.append_eq, List.cons_append, List.nil_append]
  after_reads_at
  unfold slab at hl
  blk_ext [idx t]

theorem w_at (c : Dev nD) (t : Fin cfg0.N) (r : Fin 1024) (l : Fin 704) (l' : Fin 5632)
    (hl : (l' : ℕ) = slab (t.val % 8) * 704 + l) :
    (iblk m c 1 t : FVec Ideal S1x704x1024 .bf16) (ix3 0 l r) = (a1 m c) (ix2 r l') := by
  blk_simp [iblk]
  unfold V hostOps0
  simp only [List.flatten, List.append_eq, List.cons_append, List.nil_append]
  after_reads_at
  blk_ext [idx t]

theorem x_at (c : Dev nD) (t : Fin cfg0.N) (r : Fin 1024) (l : Fin 1024) (r' : Fin 2048) (hr : (r' : ℕ) = t.val / 8 * 1024 + r) :
    (iblk m c 2 t : FVec Ideal S1024x1024 .f32) (ix2 r l) = (a2 m c) (ix2 r' l) := by
  blk_ext [iblk, V, idx t]

theorem skip_at (c : Dev nD) (t : Fin cfg0.N) (r : Fin 1024) (l : Fin 1024) (r' : Fin 2048) (hr : (r' : ℕ) = t.val / 8 * 1024 + r) :
    (iblk m c 4 t : FVec Ideal S1024x1024 .f32) (ix2 r l) = (a4 m c) (ix2 r' l) := by
  blk_ext [iblk, V, idx t]

theorem nw_at (c : Dev nD) (t : Fin cfg0.N) (l : Fin 1024) :
    (iblk m c 3 t : FVec Ideal S1x1024 .f32) (ix2 0 l) = (a3 m c) (ix1 l) := by
  blk_simp [iblk]
  unfold V hostOps0
  simp only [List.flatten, List.append_eq, List.cons_append, List.nil_append]
  after_reads_at
  blk_ext [idx t]

/-- One step's part of the product. -/
theorem pay1 (v0 : Vec Ideal S1x1024x704 .bf16) (v2 : Vec Ideal S1x704x1024 .bf16) (r l : Fin 1024) :
    (k0_pay1 (F := Ideal) v0 v2 : FVec Ideal S1024x1024 .f32) (ix2 r l) = ∑ k : Fin 704, v0 (ix3 0 r k) * v2 (ix3 0 k l) := by
  pointwise [k0_pay1]

/-- A step's part, in the programs' own arrays. -/
def part (du : FVec Ideal S2048x5632 .f32) (w : FVec Ideal S1024x5632 .f32) (r : ℕ) (l : Fin 1024) (s : ℕ) : EReal :=
  if h : r < 2048 ∧ slab s < 8 then ∑ k : Fin 704, du (ix2 ⟨r, h.1⟩ ⟨slab s * 704 + k, by omega⟩) * w (ix2 l ⟨slab s * 704 + k, by omega⟩) else 0

theorem slab_lt {s : ℕ} (h : s < 8) : slab s < 8 := by unfold slab; omega

theorem part_at (c : Dev nD) (t : Fin cfg0.N) (r l : Fin 1024) :
    (k0_pay1 (F := Ideal) (iblk m c 0 t) (iblk m c 1 t) : FVec Ideal S1024x1024 .f32) (ix2 r l) =
      part (a0 m c) (a1 m c) (t.val / 8 * 1024 + r) l (t.val % 8) := by
  have h := (idx t).2.2.2.2.2.2.2
  have hs := slab_lt (Nat.mod_lt t.val (by norm_num : 0 < 8))
  have hr := r.isLt
  refine (pay1 _ _ r l).trans ?_
  unfold part
  simp only [dif_pos (show t.val / 8 * 1024 + r.val < 2048 ∧ slab (t.val % 8) < 8 from ⟨by omega, hs⟩)]
  exact Finset.sum_congr rfl fun k _ => congrArg₂ (· * ·) (du_at m c t r k _ _ rfl rfl) (w_at m c t l k _ rfl)

/-- The scratch after a point: the sum of its row block's parts so far. -/
theorem acc_at (c : Dev nD) (t : Fin cfg0.N) (hl : t.val % 8 = 7) (r l : Fin 1024) :
    ((outsAt0 m c t.val t.isLt).2.2 : FVec Ideal S1024x1024 .f32) (ix2 r l) =
      ∑ s : Fin 8, part (a0 m c) (a1 m c) (t.val / 8 * 1024 + r) l s.val := by
  have hN : ∀ t : Fin cfg0.N, t.val < 16 := fun t => (idx t).2.2.2.2.2.2.2
  have step : ∀ t : Fin cfg0.N, ¬t.val % 8 = 0 → ∀ j : S1024x1024.Idx, ((outsAt0 m c t.val t.isLt).2.2 : FVec Ideal S1024x1024 .f32) j =
      ((outsAt0 m c (t.val - 1) (Nat.lt_of_le_of_lt (Nat.sub_le _ _) t.isLt)).2.2 : FVec Ideal S1024x1024 .f32) j
        + part (a0 m c) (a1 m c) (t.val / 8 * 1024 + (j 0).val) (j 1) (t.val % 8) := by
    intro t h j
    have e : ∀ a : FVec Ideal S1024x1024 .f32, (k0_pay3 (F := Ideal) (iblk m c 0 t) (iblk m c 1 t) a : FVec Ideal S1024x1024 .f32) j =
        a j + part (a0 m c) (a1 m c) (t.val / 8 * 1024 + (j 0).val) (j 1) (t.val % 8) := by
      intro a
      idx_vars j
      refine Eq.trans ?_ (congrArg (a (ix2 j0 j1) + ·) (part_at m c t j0 j1))
      pointwise [k0_pay3]
    by_cases h7 : t.val % 8 = 7
    · by_cases h8 : t.val < 8
      · rw [outsAt0_C m c t h (by omega) h7 h8 (by omega)]; frame_out; rw [read_unread_whole]; exact e _
      · rw [outsAt0_D m c t h (by omega) h7 h8 (by omega)]; frame_out; rw [read_unread_whole]; exact e _
    · rw [outsAt0_B m c t h (by omega) h7]; frame_out; rw [read_unread_whole]; exact e _
  have first : ∀ t : Fin cfg0.N, t.val % 8 = 0 → ∀ j : S1024x1024.Idx, ((outsAt0 m c t.val t.isLt).2.2 : FVec Ideal S1024x1024 .f32) j =
      0 + part (a0 m c) (a1 m c) (t.val / 8 * 1024 + (j 0).val) (j 1) (t.val % 8) := by
    intro t h j
    rw [outsAt0_A m c t h (by omega) (by omega)]; frame_out
    rw [zero_add]
    idx_vars j
    refine Eq.trans ?_ (part_at m c t j0 j1)
    pointwise [k0_pay2]
  refine (Pipeline.eq_sum_fin_of_reset_step_apply_of_flush (fun n h => (outsAt0 m c n h).2.2) 8 (fun _ => (0 : EReal)) (fun t j =>
    part (a0 m c) (a1 m c) (t.val / 8 * 1024 + (j 0).val) (j 1) (t.val % 8)) first step t hl (ix2 r l)).trans ?_
  rw [zero_add]
  refine Finset.sum_congr rfl fun s _ => ?_
  have hs := s.isLt
  have e1 : (8 * (t.val / 8) + s.val) / 8 = t.val / 8 := by omega
  have e2 : (8 * (t.val / 8) + s.val) % 8 = s.val := by omega
  show part _ _ ((8 * (t.val / 8) + s.val) / 8 * 1024 + r.val) l ((8 * (t.val / 8) + s.val) % 8) = _
  rw [e1, e2]

/-- The product over the columns, slab by slab in the kernel's order. -/
theorem parts (du : FVec Ideal S2048x5632 .f32) (w : FVec Ideal S1024x5632 .f32) (r : Fin 2048) (l : Fin 1024) :
    ∑ s : Fin 8, part du w r l s.val = ∑ k : Fin 5632, du (ix2 r k) * w (ix2 l k) := by
  let e : Fin 8 ≃ Fin 8 := Equiv.ofBijective (fun s => ⟨slab s.val, slab_lt s.isLt⟩) (by decide)
  refine Eq.trans ?_ (Fin.sum_mul_add_congr (S := 8) (n := 704) (F := fun s k => du (ix2 r ⟨s.val * 704 + k.val, by omega⟩) * w (ix2 l ⟨s.val * 704 + k.val, by omega⟩)) (f := fun k => du (ix2 r k) * w (ix2 l k)) (fun s k h => rfl))
  refine Eq.trans ?_ (Equiv.sum_comp e _)
  refine Finset.sum_congr rfl fun s _ => ?_
  unfold part
  simp only [dif_pos (show r.val < 2048 ∧ slab s.val < 8 from ⟨r.isLt, slab_lt s.isLt⟩)]
  rfl

open Reals

theorem pay8 (v14 v15 v43 : FVec Ideal S1024x1024 .f32) (v16 : FVec Ideal S1x1024 .f32) (r l : Fin 1024) (rs : EReal)
    (hrs : rs = Ideal.rsqrt (Ideal.div (∑ k : Fin 1024, v15 (ix2 r k) * v15 (ix2 r k)) ((1024 : ℝ) : EReal) + (eps : EReal))) :
    (k0_pay8 (F := Ideal) v14 v15 v16 v43 : FVec Ideal S1024x1024 .f32) (ix2 r l) =
      v43 (ix2 r l) + rs * (v14 (ix2 r l) * v16 (ix2 0 l) - v15 (ix2 r l) * rs *
        Ideal.div (∑ k : Fin 1024, v14 (ix2 r k) * v16 (ix2 0 k) * (v15 (ix2 r k) * rs)) ((1024 : ℝ) : EReal)) := by
  subst hrs
  pointwise [k0_pay8, k0_pay6, k0_pay5]
  simp only [ofBits_1024, ofBits_eps]

theorem ref38 (x0 : FVec Ideal S2048x5632 .f32) (x1 : FVec Ideal S1024x5632 .f32) (x2 : FVec Ideal S2048x1024 .f32) (x3 : FVec Ideal S1024 .f32) (x4 : FVec Ideal S2048x1024 .f32) (r : Fin 2048) (l : Fin 1024) (rs : EReal)
    (hrs : rs = Ideal.rsqrt (Ideal.div (∑ k : Fin 1024, x2 (ix2 r k) * x2 (ix2 r k)) ((1024 : ℝ) : EReal) + (eps : EReal)))
    (y : Fin 2048 → Fin 1024 → EReal) (hy : ∀ r l, Cert.UpRIdeal.Read.val_main_v17 (F := Ideal) x0 x1 (ix2 r l) = y r l) :
    (Cert.UpRIdeal.Read.val_main_v38 (F := Ideal) x0 x1 x2 x3 x4 : FVec Ideal S2048x1024 .f32) (ix2 r l) = x4 (ix2 r l) + y r l * x3 (ix1 l) * rs
      + x2 (ix2 r l) * Ideal.div ((∑ k : Fin 1024, x2 (ix2 r k) * (y r k * x3 (ix1 k))) * (((-(1 / 2) : ℝ) : EReal) * Ideal.div rs (Ideal.div (∑ k : Fin 1024, x2 (ix2 r k) * x2 (ix2 r k)) ((1024 : ℝ) : EReal) + (eps : EReal)))) ((1024 : ℝ) : EReal)
      + Ideal.div ((∑ k : Fin 1024, x2 (ix2 r k) * (y r k * x3 (ix1 k))) * (((-(1 / 2) : ℝ) : EReal) * Ideal.div rs (Ideal.div (∑ k : Fin 1024, x2 (ix2 r k) * x2 (ix2 r k)) ((1024 : ℝ) : EReal) + (eps : EReal)))) ((1024 : ℝ) : EReal) * x2 (ix2 r l) := by
  subst hrs
  pointwise [Cert.UpRIdeal.Read.val_main_v38, Cert.UpRIdeal.Read.val_main_v37, Cert.UpRIdeal.Read.val_main_v36, Cert.UpRIdeal.Read.val_main_v35, Cert.UpRIdeal.Read.val_main_v34, Cert.UpRIdeal.Read.val_main_v33, Cert.UpRIdeal.Read.val_main_v32, Cert.UpRIdeal.Read.val_main_v31, Cert.UpRIdeal.Read.val_main_v30, Cert.UpRIdeal.Read.val_main_v29, Cert.UpRIdeal.Read.val_main_v28, Cert.UpRIdeal.Read.val_main_v27, Cert.UpRIdeal.Read.val_main_v26, Cert.UpRIdeal.Read.val_main_v25, Cert.UpRIdeal.Read.val_main_v24, Cert.UpRIdeal.Read.val_main_v22, Cert.UpRIdeal.Read.val_main_v21, Cert.UpRIdeal.Read.val_main_v13, Cert.UpRIdeal.Read.val_main_v10, Cert.UpRIdeal.Read.val_main_v9, Cert.UpRIdeal.Read.val_main_v8, Cert.UpRIdeal.Read.val_main_v7, Cert.UpRIdeal.Read.val_main_v6, Cert.UpRIdeal.Read.val_main_v5, Cert.UpRIdeal.Read.val_main_v4, Cert.UpRIdeal.Read.val_main_v3, Cert.UpRIdeal.Read.val_main_v2, Cert.UpRIdeal.Read.val_main_v1, Cert.UpRIdeal.Read.val_main_v0, Cert.UpRIdeal.Read.val_main_cst, Cert.UpRIdeal.Read.val_main_cst_0, Cert.UpRIdeal.Read.val_main_cst_1, Cert.UpRIdeal.Read.val_main_cst_2, Cert.UpRIdeal.Read.val_main_cst_3, Cert.UpRIdeal.Read.val_main_cst_4, Cert.UpRIdeal.Read.val_main_cst_5, Cert.UpRIdeal.Read.val_main_cst_6, Cert.UpRIdeal.Read.val_main_cst_7]
  simp only [ofBits_1024, ofBits_eps, ofBits_neg_half, Ideal.ofBits_zero_f32, hy, zero_add, Fin.sum_univ_one]

theorem ref17 (x0 : FVec Ideal S2048x5632 .f32) (x1 : FVec Ideal S1024x5632 .f32) (r : Fin 2048) (l : Fin 1024) :
    (Cert.UpRIdeal.Read.val_main_v17 (F := Ideal) x0 x1 : FVec Ideal S2048x1024 .f32) (ix2 r l) = ∑ k : Fin 5632, x0 (ix2 r k) * x1 (ix2 l k) := by
  pointwise [Cert.UpRIdeal.Read.val_main_v17]

theorem ref39 (x0 : FVec Ideal S2048x5632 .f32) (x1 : FVec Ideal S1024x5632 .f32) (x2 : FVec Ideal S2048x1024 .f32) (l : Fin 1024) :
    (Cert.UpRIdeal.Read.val_main_v39 (F := Ideal) x0 x1 x2 : FVec Ideal S1x1024 .f32) (ix2 0 l) = ∑ r : Fin 2048,
      x2 (ix2 r l) * Ideal.rsqrt (Ideal.div (∑ k : Fin 1024, x2 (ix2 r k) * x2 (ix2 r k)) ((1024 : ℝ) : EReal) + (eps : EReal)) * ∑ k : Fin 5632, x0 (ix2 r k) * x1 (ix2 l k) := by
  pointwise [Cert.UpRIdeal.Read.val_main_v39, Cert.UpRIdeal.Read.val_main_v23, Cert.UpRIdeal.Read.val_main_v20, Cert.UpRIdeal.Read.val_main_v19, Cert.UpRIdeal.Read.val_main_v18, Cert.UpRIdeal.Read.val_main_v12, Cert.UpRIdeal.Read.val_main_v11, Cert.UpRIdeal.Read.val_main_v7, Cert.UpRIdeal.Read.val_main_v6, Cert.UpRIdeal.Read.val_main_v5, Cert.UpRIdeal.Read.val_main_v4, Cert.UpRIdeal.Read.val_main_v3, Cert.UpRIdeal.Read.val_main_v2, Cert.UpRIdeal.Read.val_main_v1, Cert.UpRIdeal.Read.val_main_v0, Cert.UpRIdeal.Read.val_main_cst, Cert.UpRIdeal.Read.val_main_cst_0, Cert.UpRIdeal.Read.val_main_cst_1, Cert.UpRIdeal.Read.val_main_cst_2, Cert.UpRIdeal.Read.val_main_cst_3, Cert.UpRIdeal.Read.val_main_cst_4, Cert.UpRIdeal.Read.val_main_cst_5, Cert.UpRIdeal.Read.val_main_cst_6, Cert.UpRIdeal.Read.val_main_cst_7]
  simp only [ofBits_1024, ofBits_eps, Ideal.ofBits_zero_f32, ref17, zero_add, Fin.sum_univ_one]

theorem pay7 (v14 v15 : FVec Ideal S1024x1024 .f32) (l : Fin 1024) :
    (k0_pay7 (F := Ideal) v14 v15 : FVec Ideal S1x1024 .f32) (ix2 0 l) = ∑ r : Fin 1024,
      v14 (ix2 r l) * (v15 (ix2 r l) * Ideal.rsqrt (Ideal.div (∑ k : Fin 1024, v15 (ix2 r k) * v15 (ix2 r k)) ((1024 : ℝ) : EReal) + (eps : EReal))) := by
  pointwise [k0_pay7, k0_pay6, k0_pay5]
  simp only [ofBits_1024, ofBits_eps]

/-- The scratch that the last step of a row block leaves: the product's rows. -/
theorem acc_last (c : Dev nD) (t : Fin cfg0.N) (hl : t.val % 8 = 7) (r l : Fin 1024) (r' : Fin 2048) (hr : (r' : ℕ) = t.val / 8 * 1024 + r) :
    (k0_pay3 (F := Ideal) (iblk m c 0 t) (iblk m c 1 t) (outsAt0 m c (t.val - 1) (Nat.lt_of_le_of_lt (Nat.sub_le _ _) t.isLt)).2.2 : FVec Ideal S1024x1024 .f32) (ix2 r l) =
      ∑ k : Fin 5632, (a0 m c) (ix2 r' k) * (a1 m c) (ix2 l k) := by
  refine Eq.trans ?_ ((acc_at m c t hl r l).trans ?_)
  · by_cases h8 : t.val < 8
    · rw [outsAt0_C m c t (by omega) (by omega) hl h8 (by omega)]
      frame_out
      rw [read_unread_whole]
    · rw [outsAt0_D m c t (by omega) (by omega) hl h8 (by omega)]
      frame_out
      rw [read_unread_whole]
  · rw [← hr]
    exact parts _ _ r' l

/-- A row block's result against the reference. -/
theorem block5 (c : Dev nD) (hd : ∀ i, IsReal ((a0 m c) i))
    (hw : ∀ i, IsReal ((a1 m c) i))
    (hx : ∀ i, IsReal ((a2 m c) i))
    (hn : ∀ i, IsReal ((a3 m c) i))
    (t : Fin cfg0.N) (hl : t.val % 8 = 7) (y : S1024x1024.Idx) :
    (k0_pay8 (F := Ideal) (k0_pay3 (F := Ideal) (iblk m c 0 t) (iblk m c 1 t) (outsAt0 m c (t.val - 1) (Nat.lt_of_le_of_lt (Nat.sub_le _ _) t.isLt)).2.2)
      (iblk m c 2 t) (iblk m c 3 t) (iblk m c 4 t) : FVec Ideal S1024x1024 .f32) y =
    Cert.UpRIdeal.Read.val_main_v38 (F := Ideal) (a0 m c) (a1 m c) (a2 m c) (a3 m c) (a4 m c)
      (((View.whole main_v8_0).slice (win0_5.rect t)).emb y) := by
  have hN := (idx t).2.2.2.2.2.2.2
  idx_vars y
  have ey : ((View.whole main_v8_0).slice (win0_5.rect t)).emb (ix2 y0 y1) = ix2 ⟨t.val / 8 * 1024 + y0.val, by omega⟩ y1 := by
    funext a
    match a with
    | 0 => apply Fin.ext; blk_simp [idx t]
    | 1 => apply Fin.ext; blk_simp [idx t]
  refine Eq.trans ?_ (congrArg _ ey.symm)
  generalize hr : (⟨t.val / 8 * 1024 + y0.val, by omega⟩ : Fin 2048) = r
  have hr' : (r : ℕ) = t.val / 8 * 1024 + y0.val := by rw [← hr]
  have hS : ∑ k : Fin 1024, (rows m c t) (ix2 y0 k) * (rows m c t) (ix2 y0 k)
      = ∑ k : Fin 1024, (a2 m c) (ix2 r k) * (a2 m c) (ix2 r k) :=
    Finset.sum_congr rfl fun k _ => congrArg₂ (· * ·) (x_at m c t y0 k r hr') (x_at m c t y0 k r hr')
  refine (pay8 _ _ _ _ y0 y1 _ (by rw [hS])).trans (Eq.trans ?_ (ref38 _ _ _ _ _ r y1 _ rfl _ (ref17 _ _)).symm)
  refine Eq.trans ?_ (rms_grad (fun k => (a2 m c) (ix2 r k))
    (fun l => (∑ k : Fin 5632, (a0 m c) (ix2 r k) * (a1 m c) (ix2 l k)) * (a3 m c) (ix1 l))
    _ (fun k => hx _) (fun l => (IsReal.sum _ _ fun k => (hd _).mul (hw _)).mul (hn _)) 1024 (by norm_num) y1 _ rfl)
  simp only [acc_last m c t hl _ _ r hr', x_at m c t y0 _ r hr', skip_at m c t y0 _ r hr', nw_at m c t]

theorem final5 (c : Dev nD) (hd : ∀ i, IsReal ((a0 m c) i))
    (hw : ∀ i, IsReal ((a1 m c) i))
    (hx : ∀ i, IsReal ((a2 m c) i))
    (hn : ∀ i, IsReal ((a3 m c) i)) :
    (dats m 0 c).arrAt 5 cfg0.N = Cert.UpRIdeal.Read.val_main_v38 (F := Ideal) (a0 m c) (a1 m c) (a2 m c) (a3 m c) (a4 m c) := by
  refine (dats m 0 c).arrAt_eq_of_covers 5 _ (by decide +kernel) fun t hf y => ?_
  have hl : t.val % 8 = 7 := (flush0_5 t).mp hf
  blk_simp
  rw [after0_5]
  by_cases h8 : t.val < 8
  · rw [outsAt0_C m c t (by omega) (by omega) hl h8 (by omega)]
    frame_out
    rw [read_unread_whole]
    exact block5 m c hd hw hx hn t hl y
  · rw [outsAt0_D m c t (by omega) (by omega) hl h8 (by omega)]
    frame_out
    rw [read_unread_whole]
    exact block5 m c hd hw hx hn t hl y

/-- The scale's gradient from one row block. -/
def dwBlock (du : FVec Ideal S2048x5632 .f32) (w : FVec Ideal S1024x5632 .f32) (x : FVec Ideal S2048x1024 .f32) (l : Fin 1024) (r : Fin 2048) : EReal :=
  x (ix2 r l) * Ideal.rsqrt (Ideal.div (∑ k : Fin 1024, x (ix2 r k) * x (ix2 r k)) ((1024 : ℝ) : EReal) + (eps : EReal)) * ∑ k : Fin 5632, du (ix2 r k) * w (ix2 l k)

theorem pay7_at (c : Dev nD) (t : Fin cfg0.N) (hl : t.val % 8 = 7) (l : Fin 1024) (p : Fin 2) (hp : p.val = t.val / 8) :
    (k0_pay7 (F := Ideal) (k0_pay3 (F := Ideal) (iblk m c 0 t) (iblk m c 1 t) (outsAt0 m c (t.val - 1) (Nat.lt_of_le_of_lt (Nat.sub_le _ _) t.isLt)).2.2)
      (iblk m c 2 t) : FVec Ideal S1x1024 .f32) (ix2 0 l) =
    ∑ r : Fin 1024, dwBlock (a0 m c) (a1 m c) (a2 m c) l ⟨p.val * 1024 + r.val, by omega⟩ := by
  refine (pay7 _ _ l).trans (Finset.sum_congr rfl fun r _ => ?_)
  have hr : ((⟨p.val * 1024 + r.val, by omega⟩ : Fin 2048) : ℕ) = t.val / 8 * 1024 + r.val := by rw [← hp]
  unfold dwBlock
  simp only [acc_last m c t hl _ _ _ hr, x_at m c t r _ _ hr]
  exact mul_comm (_ : EReal) _

/-- From the second row block's start on, the scale's gradient is the first block's until the last point adds to it. -/
theorem kept6 (c : Dev nD) (n : ℕ) (h : 7 + n < cfg0.N) (hn : n < 8) : (outsAt0 m c (7 + n) h).2.1 = (outsAt0 m c 7 (by omega)).2.1 := by
  induction n with
  | zero => rfl
  | succ n ih =>
    refine Eq.trans ?_ (ih (by omega) (by omega))
    by_cases h0 : (7 + (n + 1)) % 8 = 0
    · rw [outsAt0_A m c ⟨7 + (n + 1), h⟩ h0 (by show ¬1 ≤ (7 + (n + 1)) % 8; omega) (by show ¬(7 + (n + 1)) % 8 = 7; omega)]
      rfl
    · rw [outsAt0_B m c ⟨7 + (n + 1), h⟩ h0 (by show 1 ≤ (7 + (n + 1)) % 8; omega) (by show ¬(7 + (n + 1)) % 8 = 7; omega)]
      rfl

theorem two_blocks (f : Fin 2048 → EReal) :
    ∑ r : Fin 1024, f ⟨(0 : Fin 2).val * 1024 + r.val, by simp; omega⟩ + ∑ r : Fin 1024, f ⟨(1 : Fin 2).val * 1024 + r.val, by simp; omega⟩ = ∑ r : Fin 2048, f r :=
  (Fin.sum_univ_two (fun s : Fin 2 => ∑ r : Fin 1024, f ⟨s.val * 1024 + r.val, by omega⟩)).symm.trans (Fin.sum_mul_add_fin 2 1024 f)

theorem final6 (c : Dev nD) : (dats m 0 c).arrAt 6 cfg0.N = Cert.UpRIdeal.Read.val_main_v39 (F := Ideal) (a0 m c) (a1 m c) (a2 m c) := by
  refine (dats m 0 c).arrAt_eq_of_after_last 6 t0_15 (by decide +kernel) _ fun j => ?_
  blk_simp
  rw [after0_6, outsAt0_D m c t0_15 (by decide) (by decide) (by decide) (by decide) (by decide)]
  frame_out
  rw [read_unread_whole]
  have hprev : (outsAt0 m c (t0_15.val - 1) (Nat.lt_of_le_of_lt (Nat.sub_le _ _) t0_15.isLt)).2.1 =
      k0_pay7 (F := Ideal) (k0_pay3 (F := Ideal) (iblk m c 0 t0_7) (iblk m c 1 t0_7) (outsAt0 m c (t0_7.val - 1) (Nat.lt_of_le_of_lt (Nat.sub_le _ _) t0_7.isLt)).2.2) (iblk m c 2 t0_7) := by
    refine (kept6 m c 7 (by rw [show cfg0.N = 16 from N_0]; norm_num) (by norm_num)).trans ?_
    refine (congrArg (·.2.1) (outsAt0_C m c t0_7 (by decide) (by decide) (by decide) (by decide) (by decide))).trans ?_
    frame_out
    rw [read_unread_whole]
  rw [hprev]
  idx_vars j
  obtain rfl : j0 = 0 := Subsingleton.elim _ _
  refine Eq.trans (b := (_ : EReal) + _) ?_ ((congrArg₂ (· + ·) (pay7_at m c t0_7 (by decide) j1 0 (by decide)) (pay7_at m c t0_15 (by decide) j1 1 (by decide))).trans ?_)
  · pointwise [k0_pay4]
  · exact (two_blocks (dwBlock (a0 m c) (a1 m c) (a2 m c) j1)).trans (ref39 _ _ _ j1).symm

end Cert.UpKIdeal.Value

end
-- ==== Proof.Up.Claim.lean ====
module

public import proofs.«01_k».proof.Proof.Up.Value
public import proofs.«01_k».proof.Proof.Gen.UpK.Frame
public import proofs.«01_k».proof.Proof.Gen.UpRIdeal.Run
public import proofs.«01_k».proof.Defs

@[expose] public section

set_option maxRecDepth 16384

noncomputable section

namespace Cert.Proof.Up

open Idealize.ShloMosaic Idealize.SL.Sem

theorem frame_k : Cert.quiescent_UpK (hUpK := Cert.UpK.Gen.facts) := fun m ρ _ => Cert.UpK.Gen.frame m ρ

theorem frame_ki : Cert.quiescent_UpKIdeal (hUpKIdeal := Cert.UpKIdeal.Gen.facts) := fun m ρ _ => Cert.UpKIdeal.Gen.frame m ρ

theorem frame_kip [h : Cert.Pre_up_finite.Facts] : Cert.quiescent_UpKIdeal_pre_up_finite (hUpKIdeal := Cert.UpKIdeal.Gen.facts) (hPre_up_finite := h) :=
  fun m ρ _ => Cert.UpKIdeal.Gen.frame m ρ

theorem frame_r : Cert.quiescent_UpRIdeal (hUpRIdeal := Cert.UpRIdeal.Gen.facts) := fun m g _ =>
  (θ_run _ _ _).mono (fun r h => ⟨fun c => (h c).2.2, Idealize.ShloMosaic.sem_eq_zero_of_no_sems (by decide) r.2⟩) (Cert.UpRIdeal.Value.run m g)

theorem frame_rp [h : Cert.Pre_up_finite.Facts] : Cert.quiescent_UpRIdeal_pre_up_finite (hUpRIdeal := Cert.UpRIdeal.Gen.facts) (hPre_up_finite := h) :=
  fun m g _ => frame_r m g trivial

theorem algebraic [h : Cert.Pre_up_finite.Facts] :
    Cert.algebraic_UpKIdeal_UpRIdeal_pre_up_finite (hUpKIdeal := Cert.UpKIdeal.Gen.facts) (hUpRIdeal := Cert.UpRIdeal.Gen.facts) (hPre_up_finite := h) := by
  pair_intro
  · run_from Cert.UpKIdeal.Value.run_blocks m g
  · refine (θ_run _ _ _).mono (fun r h c => ?_) (Cert.UpRIdeal.Value.run m' g')
    obtain ⟨h0, h1, hk⟩ := h c
    obtain ⟨a0, a1, a2, a3, a4⟩ := hagree c
    obtain ⟨p0, p1, p2, p3⟩ := hpre c
    refine ⟨h0.trans ((Cert.UpRIdeal.Read.val_main_v38_eq m' c).trans ?_), h1.trans ((Cert.UpRIdeal.Read.val_main_v39_eq _ _ _).trans ?_), hk⟩
    · rw [a0, a1, a2, a3, a4]
      exact (Cert.UpKIdeal.Value.final5 m c (Reals.fin_of_pre _ _ (fun _ => rfl) p0) (Reals.fin_of_pre _ _ (fun _ => rfl) p1)
        (Reals.fin_of_pre _ _ (fun _ => rfl) p2) (Reals.fin_of_pre _ _ (fun _ => rfl) p3)).symm
    · rw [a0, a1, a2]
      exact (Cert.UpKIdeal.Value.final6 m c).symm

end Cert.Proof.Up

end
-- ==== Proof.Ffn.Reads.lean ====
module

public import proofs.«01_k».proof.Proof.Gen.FfnKIdeal.Frame
public import proofs.«01_k».proof.Proof.Gen.FfnRIdeal.Read
public import proofs.«01_k».proof.Proof.Reals
public import proofs.«01_k».proof.Proof.Conv.Value
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FfnKIdeal.Value

open Cert.FfnKIdeal Cert.FfnKIdeal.Gen

variable (m : (ℓ : Loc nD τ sig) → Buf (Elt Ideal) ℓ)

open Reals

open Cert.ConvKIdeal.Value (row_eq)

/-- Every window's block at a point: the point is four times the slab plus the block of rows. -/
theorem idx : ∀ t : Fin cfg0.N, win0_0.index t = ![t.val % 4, 0] ∧ win0_1.index t = ![min (t.val % 4 * 32 + 32) 127, 0] ∧ win0_2.index t = ![t.val % 4, 0] ∧
    win0_3.index t = ![t.val / 4, t.val % 4, 0] ∧ win0_4.index t = ![t.val / 4, t.val % 4 * 32 - 1, 0] ∧ win0_5.index t = ![t.val / 4, min (t.val % 4 * 32 + 32) 127, 0] ∧
    win0_6.index t = ![t.val / 4, t.val % 4, 0] ∧ win0_7.index t = ![t.val / 4, t.val % 4 * 32 - 1, 0] ∧ win0_8.index t = ![t.val / 4, min (t.val % 4 * 32 + 32) 127, 0] ∧
    win0_9.index t = ![t.val / 4, 0, 0] ∧ win0_10.index t = ![t.val / 4 + 4, 0, 0] ∧ win0_11.index t = ![t.val / 4, 0] ∧
    win0_12.index t = ![t.val / 4, 0, t.val % 4, 0] ∧ win0_13.index t = ![t.val / 4, 0] ∧ win0_14.index t = ![t.val / 4, 0, 0, 0] ∧
    win0_15.index t = ![t.val / 4, 0, 0, 0] ∧ t.val < 16 :=
  (by decide +kernel : ∀ t : Fin grid0.N, _)

abbrev a0 (c : Dev nD) : FVec Ideal S2048x1024 .f32 := m ((c : Thread nD τ).loc main_arg0)
abbrev a1 (c : Dev nD) : FVec Ideal S2048x1024 .f32 := m ((c : Thread nD τ).loc main_arg1)
abbrev a2 (c : Dev nD) : FVec Ideal S1024x5632 .f32 := m ((c : Thread nD τ).loc main_arg2)
abbrev a3 (c : Dev nD) : FVec Ideal S3x5632 .f32 := m ((c : Thread nD τ).loc main_arg3)
abbrev a4 (c : Dev nD) : FVec Ideal S2816x1024 .f32 := m ((c : Thread nD τ).loc main_arg4)

/-- The run with each result named by its array after the last point, and the arguments kept. -/
theorem run_blocks (g : Dev nD → PrngReg) : θ_run defs (onTc (τ := τ) (main (F := Ideal))) ⟨m, fun _ => 0, g⟩ fun r => ∀ c : Dev nD,
    r.2.mem ((c : Thread nD τ).loc main_v13_0) = (dats m 0 c).arrAt 12 cfg0.N ∧ r.2.mem ((c : Thread nD τ).loc main_v13_1) = (dats m 0 c).arrAt 13 cfg0.N ∧
    r.2.mem ((c : Thread nD τ).loc main_v13_2) = (dats m 0 c).arrAt 14 cfg0.N ∧ r.2.mem ((c : Thread nD τ).loc main_v13_3) = (dats m 0 c).arrAt 15 cfg0.N ∧
    r.2.mem ((c : Thread nD τ).loc main_arg0) = m ((c : Thread nD τ).loc main_arg0) ∧ r.2.mem ((c : Thread nD τ).loc main_arg1) = m ((c : Thread nD τ).loc main_arg1) ∧
    r.2.mem ((c : Thread nD τ).loc main_arg2) = m ((c : Thread nD τ).loc main_arg2) ∧ r.2.mem ((c : Thread nD τ).loc main_arg3) = m ((c : Thread nD τ).loc main_arg3) ∧
    r.2.mem ((c : Thread nD τ).loc main_arg4) = m ((c : Thread nD τ).loc main_arg4) := by
  refine (θ_run defs _ _).mono (fun r h c => ?_) (run_main m g)
  obtain ⟨hw, hr⟩ := h c
  exact ⟨hw 12, hw 13, hw 14, hw 15,
    (hr main_arg0 (Pipeline.mem_restRefs_of main_arg0 (by decide) (by decide))).trans (V_main_arg0 m c),
    (hr main_arg1 (Pipeline.mem_restRefs_of main_arg1 (by decide) (by decide))).trans (V_main_arg1 m c),
    (hr main_arg2 (Pipeline.mem_restRefs_of main_arg2 (by decide) (by decide))).trans (V_main_arg2 m c),
    (hr main_arg3 (Pipeline.mem_restRefs_of main_arg3 (by decide) (by decide))).trans (V_main_arg3 m c),
    (hr main_arg4 (Pipeline.mem_restRefs_of main_arg4 (by decide) (by decide))).trans (V_main_arg4 m c)⟩

theorem dx_at (c : Dev nD) (t : Fin cfg0.N) (r : Fin 512) (l : Fin 1024) (r' : Fin 2048) (hr : (r' : ℕ) = 512 * (t.val % 4) + r) :
    (iblk m c 0 t : FVec Ideal S512x1024 .bf16) (ix2 r l) = a0 m c (ix2 r' l) := by
  blk_simp [iblk]
  unfold V hostOps0
  after_reads_at
  blk_ext [idx t]

theorem dxn_at (c : Dev nD) (t : Fin cfg0.N) (r : Fin 16) (l : Fin 1024) (r' : Fin 2048) (h : t.val % 4 < 3) (hr : (r' : ℕ) = 512 * (t.val % 4) + 512 + r) :
    (iblk m c 1 t : FVec Ideal S16x1024 .bf16) (ix2 r l) = a0 m c (ix2 r' l) := by
  blk_simp [iblk]
  unfold V hostOps0
  after_reads_at
  blk_ext [idx t]

theorem h_at (c : Dev nD) (t : Fin cfg0.N) (r : Fin 512) (l : Fin 1024) (r' : Fin 2048) (hr : (r' : ℕ) = 512 * (t.val % 4) + r) :
    (iblk m c 2 t : FVec Ideal S512x1024 .bf16) (ix2 r l) = a1 m c (ix2 r' l) := by
  blk_simp [iblk]
  unfold V hostOps0
  after_reads_at
  blk_ext [idx t]

theorem wd_at (c : Dev nD) (t : Fin cfg0.N) (r : Fin 704) (l : Fin 1024) (r' : Fin 2816) (hr : (r' : ℕ) = 704 * (t.val / 4) + r) :
    (iblk m c 11 t : FVec Ideal S704x1024 .bf16) (ix2 r l) = a4 m c (ix2 r' l) := by
  blk_simp [iblk]
  unfold V hostOps0
  after_reads_at
  blk_ext [idx t]
theorem cg_at (c : Dev nD) (t : Fin cfg0.N) (k : Fin 3) (l : Fin 704) (L : Fin 5632) (hL : (L : ℕ) = 704 * (t.val / 4) + l) :
    (iblk m c 9 t : FVec Ideal S1x3x704 .f32) (ix3 0 k l) = a3 m c (ix2 k L) := by
  blk_simp [iblk]
  unfold V hostOps0
  after_reads_at
  blk_ext [idx t]

theorem cu_at (c : Dev nD) (t : Fin cfg0.N) (k : Fin 3) (l : Fin 704) (L : Fin 5632) (hL : (L : ℕ) = 2816 + 704 * (t.val / 4) + l) :
    (iblk m c 10 t : FVec Ideal S1x3x704 .f32) (ix3 0 k l) = a3 m c (ix2 k L) := by
  blk_simp [iblk]
  unfold V hostOps0
  after_reads_at
  blk_ext [idx t]

/-- The up projection's row `n`, column `L`; zero outside the rows. -/
def U (x1 : FVec Ideal S2048x1024 .f32) (x2 : FVec Ideal S1024x5632 .f32) (n : ℕ) (L : Fin 5632) : EReal :=
  if h : n < 2048 then ∑ k : Fin 1024, (show EReal from x1 (ix2 ⟨n, h⟩ k)) * x2 (ix2 k L) else 0

theorem cube_eq {α : Type} (f : ((k : Fin 3) → Fin (![4, 2048, 704] k)) → α) (i : (k : Fin 3) → Fin (![4, 2048, 704] k)) (s : Fin 4) (n : Fin 2048) (l : Fin 704)
    (h0 : ((i 0 : Fin 4) : ℕ) = s) (h1 : ((i 1 : Fin 2048) : ℕ) = n) (h2 : ((i 2 : Fin 704) : ℕ) = l) : f i = f (ix3 s n l) := by
  refine congrArg f ?_
  funext k
  match k with
  | ⟨0, _⟩ => exact Fin.ext h0
  | ⟨1, _⟩ => exact Fin.ext h1
  | ⟨2, _⟩ => exact Fin.ext h2

theorem gate_at (c : Dev nD) (s : Fin 4) (n : Fin 2048) (l : Fin 704) (L : Fin 5632) (hL : (L : ℕ) = 704 * s + l) :
    (V m c main_v9 : FVec Ideal S4x2048x704 .bf16) (ix3 s n l) = U (a1 m c) (a2 m c) n L := by
  rw [U, dif_pos n.isLt]
  unfold V hostOps0
  after_reads_at
  refine Finset.sum_congr rfl fun k _ => ?_
  exact congrArg₂ (· * ·) rfl (row_eq (a2 m c) _ _ _ _ rfl (by simp only []; omega))

theorem up_at (c : Dev nD) (s : Fin 4) (n : Fin 2048) (l : Fin 704) (L : Fin 5632) (hL : (L : ℕ) = 2816 + 704 * s + l) :
    (V m c main_v11 : FVec Ideal S4x2048x704 .bf16) (ix3 s n l) = U (a1 m c) (a2 m c) n L := by
  rw [U, dif_pos n.isLt]
  unfold V hostOps0
  after_reads_at
  refine Finset.sum_congr rfl fun k _ => ?_
  exact congrArg₂ (· * ·) rfl (row_eq (a2 m c) _ _ _ _ rfl (by simp only []; omega))

theorem ug_at (c : Dev nD) (t : Fin cfg0.N) (r : Fin 512) (l : Fin 704) (n : ℕ) (hn : n = 512 * (t.val % 4) + r) (L : Fin 5632) (hL : (L : ℕ) = 704 * (t.val / 4) + l) :
    (iblk m c 3 t : FVec Ideal S1x512x704 .bf16) (ix3 0 r l) = U (a1 m c) (a2 m c) n L := by
  have ht : t.val < 16 := t.isLt
  blk_simp [iblk]
  refine (cube_eq _ _ ⟨t.val / 4, by omega⟩ ⟨n, by omega⟩ l ?_ ?_ ?_).trans (gate_at m c _ _ l L hL)
  all_goals blk_simp [idx t]
  · rfl
  · refine Eq.trans (b := n) ?_ rfl
    omega

theorem ugp_at (c : Dev nD) (t : Fin cfg0.N) (h : 0 < t.val % 4) (r : Fin 16) (l : Fin 704) (n : ℕ) (hn : n + 16 = 512 * (t.val % 4) + r) (L : Fin 5632) (hL : (L : ℕ) = 704 * (t.val / 4) + l) :
    (iblk m c 4 t : FVec Ideal S1x16x704 .bf16) (ix3 0 r l) = U (a1 m c) (a2 m c) n L := by
  have ht : t.val < 16 := t.isLt
  blk_simp [iblk]
  refine (cube_eq _ _ ⟨t.val / 4, by omega⟩ ⟨n, by omega⟩ l ?_ ?_ ?_).trans (gate_at m c _ _ l L hL)
  all_goals blk_simp [idx t]
  · rfl
  · refine Eq.trans (b := n) ?_ rfl
    omega

theorem ugn_at (c : Dev nD) (t : Fin cfg0.N) (h : t.val % 4 < 3) (r : Fin 16) (l : Fin 704) (n : ℕ) (hn : n = 512 * (t.val % 4) + 512 + r) (L : Fin 5632) (hL : (L : ℕ) = 704 * (t.val / 4) + l) :
    (iblk m c 5 t : FVec Ideal S1x16x704 .bf16) (ix3 0 r l) = U (a1 m c) (a2 m c) n L := by
  have ht : t.val < 16 := t.isLt
  blk_simp [iblk]
  refine (cube_eq _ _ ⟨t.val / 4, by omega⟩ ⟨n, by omega⟩ l ?_ ?_ ?_).trans (gate_at m c _ _ l L hL)
  all_goals blk_simp [idx t]
  · rfl
  · refine Eq.trans (b := n) ?_ rfl
    omega

theorem uu_at (c : Dev nD) (t : Fin cfg0.N) (r : Fin 512) (l : Fin 704) (n : ℕ) (hn : n = 512 * (t.val % 4) + r) (L : Fin 5632) (hL : (L : ℕ) = 2816 + 704 * (t.val / 4) + l) :
    (iblk m c 6 t : FVec Ideal S1x512x704 .bf16) (ix3 0 r l) = U (a1 m c) (a2 m c) n L := by
  have ht : t.val < 16 := t.isLt
  blk_simp [iblk]
  refine (cube_eq _ _ ⟨t.val / 4, by omega⟩ ⟨n, by omega⟩ l ?_ ?_ ?_).trans (up_at m c _ _ l L hL)
  all_goals blk_simp [idx t]
  · rfl
  · refine Eq.trans (b := n) ?_ rfl
    omega

theorem uup_at (c : Dev nD) (t : Fin cfg0.N) (h : 0 < t.val % 4) (r : Fin 16) (l : Fin 704) (n : ℕ) (hn : n + 16 = 512 * (t.val % 4) + r) (L : Fin 5632) (hL : (L : ℕ) = 2816 + 704 * (t.val / 4) + l) :
    (iblk m c 7 t : FVec Ideal S1x16x704 .bf16) (ix3 0 r l) = U (a1 m c) (a2 m c) n L := by
  have ht : t.val < 16 := t.isLt
  blk_simp [iblk]
  refine (cube_eq _ _ ⟨t.val / 4, by omega⟩ ⟨n, by omega⟩ l ?_ ?_ ?_).trans (up_at m c _ _ l L hL)
  all_goals blk_simp [idx t]
  · rfl
  · refine Eq.trans (b := n) ?_ rfl
    omega

theorem uun_at (c : Dev nD) (t : Fin cfg0.N) (h : t.val % 4 < 3) (r : Fin 16) (l : Fin 704) (n : ℕ) (hn : n = 512 * (t.val % 4) + 512 + r) (L : Fin 5632) (hL : (L : ℕ) = 2816 + 704 * (t.val / 4) + l) :
    (iblk m c 8 t : FVec Ideal S1x16x704 .bf16) (ix3 0 r l) = U (a1 m c) (a2 m c) n L := by
  have ht : t.val < 16 := t.isLt
  blk_simp [iblk]
  refine (cube_eq _ _ ⟨t.val / 4, by omega⟩ ⟨n, by omega⟩ l ?_ ?_ ?_).trans (up_at m c _ _ l L hL)
  all_goals blk_simp [idx t]
  · rfl
  · refine Eq.trans (b := n) ?_ rfl
    omega

theorem coord1 (t : Fin cfg0.N) : (grid0.coords t 1).val = t.val % 4 :=
  (by decide +kernel : ∀ t : Fin grid0.N, (grid0.coords t 1).val = t.val % 4) t

theorem keep_eq (t : Fin cfg0.N) (p : Fin 544) (x : EReal) :
    Scalar.select (IntOp.ori (Scalar.cmpi .sgt (BitVec.ofNat 32 (grid0.coords t 1).val) 0#32) (IntOp.cmpi .sge (BitVec.ofNat 32 p.val) 16#32)) x 0 =
      if 0 < t.val % 4 ∨ 16 ≤ p.val then x else 0 := by
  have h1 : ∀ n : Fin 4, Scalar.cmpi .sgt (BitVec.ofNat 32 n.val) 0#32 = if 0 < n.val then 1#1 else 0#1 := by decide
  have h2 : ∀ p : Fin 544, IntOp.cmpi .sge (BitVec.ofNat 32 p.val) 16#32 = if 16 ≤ p.val then 1#1 else 0#1 := by decide +kernel
  rw [coord1 t, h1 ⟨t.val % 4, Nat.mod_lt _ (by decide)⟩, h2 p]
  by_cases ha : 0 < t.val % 4 <;> by_cases hb : 16 ≤ p.val <;> simp only [ha, hb, if_true, if_false, or_true, true_or, or_self] <;> rfl

theorem live_eq (t : Fin cfg0.N) (p : Fin 528) (x : EReal) :
    Scalar.select (IntOp.ori (Scalar.cmpi .slt (BitVec.ofNat 32 (grid0.coords t 1).val) 3#32) (IntOp.cmpi .slt (BitVec.ofNat 32 p.val) 512#32)) x 0 =
      if t.val % 4 < 3 ∨ p.val < 512 then x else 0 := by
  have h1 : ∀ n : Fin 4, Scalar.cmpi .slt (BitVec.ofNat 32 n.val) 3#32 = if n.val < 3 then 1#1 else 0#1 := by decide
  have h2 : ∀ p : Fin 528, IntOp.cmpi .slt (BitVec.ofNat 32 p.val) 512#32 = if p.val < 512 then 1#1 else 0#1 := by decide +kernel
  rw [coord1 t, h1 ⟨t.val % 4, Nat.mod_lt _ (by decide)⟩, h2 p]
  by_cases ha : t.val % 4 < 3 <;> by_cases hb : p.val < 512 <;> simp only [ha, hb, if_true, if_false, or_true, true_or, or_self] <;> rfl

/-- The gate's and the up projection's column of the pair's column `q`. -/
def colg (q : Fin 2816) : Fin 5632 := ⟨q, by omega⟩
def colu (q : Fin 2816) : Fin 5632 := ⟨2816 + q, by omega⟩

/-- The up projection sixteen rows later; zero before its first row. -/
def Ue (x1 : FVec Ideal S2048x1024 .f32) (x2 : FVec Ideal S1024x5632 .f32) (k : ℕ) (L : Fin 5632) : EReal :=
  if 16 ≤ k then U x1 x2 (k - 16) L else 0

/-- The convolution's row `n`. -/
def CV (x1 : FVec Ideal S2048x1024 .f32) (x2 : FVec Ideal S1024x5632 .f32) (x3 : FVec Ideal S3x5632 .f32) (n : ℕ) (L : Fin 5632) : EReal :=
  Ue x1 x2 (n + 14) L * x3 (ix2 0 L) + Ue x1 x2 (n + 15) L * x3 (ix2 1 L) + Ue x1 x2 (n + 16) L * x3 (ix2 2 L)

/-- The gated activation's gradient: the output's gradient through the down projection; zero past the last row. -/
def DA (x0 : FVec Ideal S2048x1024 .f32) (x4 : FVec Ideal S2816x1024 .f32) (n : ℕ) (q : Fin 2816) : EReal :=
  if h : n < 2048 then ∑ k : Fin 1024, (show EReal from x0 (ix2 ⟨n, h⟩ k)) * x4 (ix2 q k) else 0

/-- The two halves of the convolution's gradient. -/
def DG (x0 x1 : FVec Ideal S2048x1024 .f32) (x2 : FVec Ideal S1024x5632 .f32) (x3 : FVec Ideal S3x5632 .f32) (x4 : FVec Ideal S2816x1024 .f32) (n : ℕ) (q : Fin 2816) : EReal :=
  DA x0 x4 n q * CV x1 x2 x3 n (colu q) * (sgm (CV x1 x2 x3 n (colg q)) * (1 + CV x1 x2 x3 n (colg q) * (1 - sgm (CV x1 x2 x3 n (colg q)))))
def DU (x0 x1 : FVec Ideal S2048x1024 .f32) (x2 : FVec Ideal S1024x5632 .f32) (x3 : FVec Ideal S3x5632 .f32) (x4 : FVec Ideal S2816x1024 .f32) (n : ℕ) (q : Fin 2816) : EReal :=
  DA x0 x4 n q * (CV x1 x2 x3 n (colg q) * sgm (CV x1 x2 x3 n (colg q)))

/-- A half's gradient through the convolution. -/
def back (D : ℕ → Fin 2816 → EReal) (x3 : FVec Ideal S3x5632 .f32) (col : Fin 2816 → Fin 5632) (n : ℕ) (q : Fin 2816) : EReal :=
  D (n + 2) q * x3 (ix2 0 (col q)) + D (n + 1) q * x3 (ix2 1 (col q)) + D n q * x3 (ix2 2 (col q))

theorem ge_at (c : Dev nD) (t : Fin cfg0.N) (p : Fin 544) (l : Fin 704) (L : Fin 5632) (hL : (L : ℕ) = 704 * (t.val / 4) + l) (h : p.val < 528 ∨ t.val % 4 < 3) :
    (show EReal from k0_pay17 (F := Ideal) (k0_pay15 (grid0.coords t)) (k0_pay16 (iblk m c 4 t) (iblk m c 3 t) (iblk m c 5 t)) (ix2 p l)) = Ue (a1 m c) (a2 m c) (512 * (t.val % 4) + p) L := by
  pointwise [k0_pay17, k0_pay15, k0_pay16]
  refine (keep_eq t p _).trans ?_
  unfold Ue
  by_cases h16 : p.val < 16
  · simp only [dif_pos h16]
    by_cases h0 : 0 < t.val % 4
    · refine (if_pos (Or.inl h0)).trans (Eq.trans ?_ (if_pos (by omega)).symm)
      exact ugp_at m c t h0 ⟨p, h16⟩ l _ (by simp only []; omega) L hL
    · exact (if_neg (by omega)).trans (if_neg (by omega)).symm
  · simp only [dif_neg h16]
    refine (if_pos (Or.inr (by omega))).trans (Eq.trans ?_ (if_pos (by omega)).symm)
    by_cases h5 : p.val - 16 < 512
    · simp only [dif_pos h5]
      exact ug_at m c t ⟨p - 16, h5⟩ l _ (by simp only []; omega) L hL
    · simp only [dif_neg h5]
      exact ugn_at m c t (by omega) ⟨p - 16 - 512, by omega⟩ l _ (by simp only []; omega) L hL

theorem ue_at (c : Dev nD) (t : Fin cfg0.N) (p : Fin 544) (l : Fin 704) (L : Fin 5632) (hL : (L : ℕ) = 2816 + 704 * (t.val / 4) + l) (h : p.val < 528 ∨ t.val % 4 < 3) :
    (show EReal from k0_pay18 (F := Ideal) (k0_pay15 (grid0.coords t)) (iblk m c 7 t) (iblk m c 6 t) (iblk m c 8 t) (ix2 p l)) = Ue (a1 m c) (a2 m c) (512 * (t.val % 4) + p) L := by
  pointwise [k0_pay18, k0_pay15]
  refine (keep_eq t p _).trans ?_
  unfold Ue
  by_cases h16 : p.val < 16
  · simp only [dif_pos h16]
    by_cases h0 : 0 < t.val % 4
    · refine (if_pos (Or.inl h0)).trans (Eq.trans ?_ (if_pos (by omega)).symm)
      exact uup_at m c t h0 ⟨p, h16⟩ l _ (by simp only []; omega) L hL
    · exact (if_neg (by omega)).trans (if_neg (by omega)).symm
  · simp only [dif_neg h16]
    refine (if_pos (Or.inr (by omega))).trans (Eq.trans ?_ (if_pos (by omega)).symm)
    by_cases h5 : p.val - 16 < 512
    · simp only [dif_pos h5]
      exact uu_at m c t ⟨p - 16, h5⟩ l _ (by simp only []; omega) L hL
    · simp only [dif_neg h5]
      exact uun_at m c t (by omega) ⟨p - 16 - 512, by omega⟩ l _ (by simp only []; omega) L hL

theorem da_at (c : Dev nD) (t : Fin cfg0.N) (p : Fin 528) (l : Fin 704) (q : Fin 2816) (hq : (q : ℕ) = 704 * (t.val / 4) + l) :
    (show EReal from k0_pay14 (F := Ideal) (grid0.coords t) (iblk m c 0 t) (iblk m c 1 t) (iblk m c 11 t) (ix2 p l)) = DA (a0 m c) (a4 m c) (512 * (t.val % 4) + p) q := by
  pointwise [k0_pay14, k0_pay13]
  refine (live_eq t p _).trans ?_
  unfold DA
  by_cases hl : t.val % 4 < 3 ∨ p.val < 512
  · rw [if_pos hl, dif_pos (by omega)]
    refine Finset.sum_congr rfl fun k _ => congrArg₂ (· * ·) ?_ (wd_at m c t l k q hq)
    by_cases h5 : p.val < 512
    · simp only [dif_pos h5]
      exact dx_at m c t ⟨p, h5⟩ k _ (by simp only [])
    · simp only [dif_neg h5]
      exact dxn_at m c t ⟨p - 512, by omega⟩ k _ (by omega) (by simp only []; omega)
  · rw [if_neg hl, dif_neg (by omega)]

end Cert.FfnKIdeal.Value

end
-- ==== Proof.Ffn.Point.lean ====
module

public import proofs.«01_k».proof.Proof.Gen.FfnKIdeal.Frame
public import proofs.«01_k».proof.Proof.Gen.FfnRIdeal.Read
public import proofs.«01_k».proof.Proof.Reals
public import proofs.«01_k».proof.Proof.Conv.Value
public import proofs.«01_k».proof.Proof.Ffn.Reads
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FfnKIdeal.Value

open Cert.FfnKIdeal Cert.FfnKIdeal.Gen

open Reals

variable (m : (ℓ : Loc nD τ sig) → Buf (Elt Ideal) ℓ)

abbrev geB (c : Dev nD) (t : Fin cfg0.N) := k0_pay17 (F := Ideal) (k0_pay15 (grid0.coords t)) (k0_pay16 (iblk m c 4 t) (iblk m c 3 t) (iblk m c 5 t))
abbrev ueB (c : Dev nD) (t : Fin cfg0.N) := k0_pay18 (F := Ideal) (k0_pay15 (grid0.coords t)) (iblk m c 7 t) (iblk m c 6 t) (iblk m c 8 t)
abbrev daB (c : Dev nD) (t : Fin cfg0.N) := k0_pay14 (F := Ideal) (grid0.coords t) (iblk m c 0 t) (iblk m c 1 t) (iblk m c 11 t)
abbrev gateB (c : Dev nD) (t : Fin cfg0.N) := k0_pay21 (F := Ideal) (k0_pay15 (grid0.coords t)) (k0_pay16 (iblk m c 4 t) (iblk m c 3 t) (iblk m c 5 t)) (iblk m c 9 t)
abbrev u22B (c : Dev nD) (t : Fin cfg0.N) := k0_pay22 (F := Ideal) (k0_pay15 (grid0.coords t)) (iblk m c 7 t) (iblk m c 6 t) (iblk m c 8 t)
abbrev upB (c : Dev nD) (t : Fin cfg0.N) := k0_pay24 (F := Ideal) (ueB m c t) (k0_pay20 (iblk m c 10 t)) (u22B m c t) (k0_pay23 (iblk m c 10 t))
abbrev dgB (c : Dev nD) (t : Fin cfg0.N) := k0_pay27 (F := Ideal) (daB m c t) (ueB m c t) (k0_pay20 (iblk m c 10 t)) (gateB m c t) (u22B m c t) (k0_pay23 (iblk m c 10 t))
abbrev duB (c : Dev nD) (t : Fin cfg0.N) := k0_pay28 (F := Ideal) (daB m c t) (gateB m c t)
abbrev bgB (c : Dev nD) (t : Fin cfg0.N) := k0_pay29 (F := Ideal) (daB m c t) (ueB m c t) (k0_pay19 (iblk m c 9 t)) (k0_pay20 (iblk m c 10 t)) (gateB m c t) (u22B m c t) (k0_pay23 (iblk m c 10 t))
abbrev buB (c : Dev nD) (t : Fin cfg0.N) := k0_pay32 (F := Ideal) (k0_pay20 (iblk m c 10 t)) (duB m c t) (k0_pay30 (daB m c t) (gateB m c t)) (k0_pay31 (k0_pay20 (iblk m c 10 t)))

theorem wg_at (c : Dev nD) (t : Fin cfg0.N) (k : Fin 3) (l : Fin 704) (L : Fin 5632) (hL : (L : ℕ) = 704 * (t.val / 4) + l) :
    (show EReal from k0_pay19 (F := Ideal) (iblk m c 9 t) (ix2 k l)) = a3 m c (ix2 k L) := by
  pointwise [k0_pay19]
  exact cg_at m c t k l L hL

theorem wu_at (c : Dev nD) (t : Fin cfg0.N) (k : Fin 3) (l : Fin 704) (L : Fin 5632) (hL : (L : ℕ) = 2816 + 704 * (t.val / 4) + l) :
    (show EReal from k0_pay20 (F := Ideal) (iblk m c 10 t) (ix2 k l)) = a3 m c (ix2 k L) := by
  pointwise [k0_pay20]
  exact cu_at m c t k l L hL

theorem ge_row (c : Dev nD) (t : Fin cfg0.N) (r : ℕ) (hr : r < 544) (n : ℕ) (hn : n = 512 * (t.val % 4) + r) (l : Fin 704) (L : Fin 5632) (hL : (L : ℕ) = 704 * (t.val / 4) + l) (h : r < 528 ∨ t.val % 4 < 3) :
    (show EReal from geB m c t (ix2 ⟨r, hr⟩ l)) = Ue (a1 m c) (a2 m c) n L := by
  subst hn
  exact ge_at m c t ⟨r, hr⟩ l L hL h

theorem ue_row (c : Dev nD) (t : Fin cfg0.N) (r : ℕ) (hr : r < 544) (n : ℕ) (hn : n = 512 * (t.val % 4) + r) (l : Fin 704) (L : Fin 5632) (hL : (L : ℕ) = 2816 + 704 * (t.val / 4) + l) (h : r < 528 ∨ t.val % 4 < 3) :
    (show EReal from ueB m c t (ix2 ⟨r, hr⟩ l)) = Ue (a1 m c) (a2 m c) n L := by
  subst hn
  exact ue_at m c t ⟨r, hr⟩ l L hL h

theorem gate_cv (c : Dev nD) (t : Fin cfg0.N) (p : Fin 528) (l : Fin 704) (q : Fin 2816) (hq : (q : ℕ) = 704 * (t.val / 4) + l) (h : p.val < 512 ∨ t.val % 4 < 3) :
    (show EReal from gateB m c t (ix2 p l)) = CV (a1 m c) (a2 m c) (a3 m c) (512 * (t.val % 4) + p) (colg q) := by
  unfold gateB k0_pay21
  pointwise []
  exact congrArg₂ (· + ·) (congrArg₂ (· + ·)
    (congrArg₂ (· * ·) (ge_row m c t _ _ _ (by omega) l (colg q) hq (by omega)) (wg_at m c t 0 l (colg q) hq))
    (congrArg₂ (· * ·) (ge_row m c t _ _ _ (by omega) l (colg q) hq (by omega)) (wg_at m c t 1 l (colg q) hq)))
    (congrArg₂ (· * ·) (ge_row m c t _ _ _ (by omega) l (colg q) hq (by omega)) (wg_at m c t 2 l (colg q) hq))

theorem up_cv (c : Dev nD) (t : Fin cfg0.N) (p : Fin 528) (l : Fin 704) (q : Fin 2816) (hq : (q : ℕ) = 704 * (t.val / 4) + l) (h : p.val < 512 ∨ t.val % 4 < 3) :
    (show EReal from upB m c t (ix2 p l)) = CV (a1 m c) (a2 m c) (a3 m c) (512 * (t.val % 4) + p) (colu q) := by
  have hu : (colu q : ℕ) = 2816 + 704 * (t.val / 4) + l := by
    show 2816 + (q : ℕ) = _
    omega
  pointwise [k0_pay24, k0_pay22, k0_pay23]
  exact congrArg₂ (· + ·) (congrArg₂ (· + ·)
    (congrArg₂ (· * ·) (ue_row m c t _ _ _ (by omega) l (colu q) hu (by omega)) (wu_at m c t 0 l (colu q) hu))
    (congrArg₂ (· * ·) (ue_row m c t _ _ _ (by omega) l (colu q) hu (by omega)) (wu_at m c t 1 l (colu q) hu)))
    (congrArg₂ (· * ·) (ue_row m c t _ _ _ (by omega) l (colu q) hu (by omega)) (wu_at m c t 2 l (colu q) hu))

theorem act_val (v : FVec Ideal S528x704 .f32) (p : Fin 528) (l : Fin 704) (y : EReal) (hv : (show EReal from v (ix2 p l)) = y) :
    (show EReal from k0_pay26 (F := Ideal) v (ix2 p l)) = y * sgm y := by
  subst hv
  pointwise [k0_pay26, k0_pay25]
  simp only [zero_sub]
  rfl

theorem dg_val (v20 : FVec Ideal S528x704 .f32) (v50 : FVec Ideal S544x704 .f32) (v54 : FVec Ideal S3x704 .f32) (v70 v72 : FVec Ideal S528x704 .f32) (v73 : FVec Ideal S1x704 .f32) (p : Fin 528) (l : Fin 704)
    (y u : EReal) (hv : (show EReal from v70 (ix2 p l)) = y) (hu : (show EReal from k0_pay24 (F := Ideal) v50 v54 v72 v73 (ix2 p l)) = u) :
    (show EReal from k0_pay27 (F := Ideal) v20 v50 v54 v70 v72 v73 (ix2 p l)) = v20 (ix2 p l) * u * (sgm y * (1 + y * (1 - sgm y))) := by
  subst hv
  subst hu
  pointwise [k0_pay27, k0_pay25]
  simp only [zero_sub]
  rfl

theorem da_zero (x0 : FVec Ideal S2048x1024 .f32) (x4 : FVec Ideal S2816x1024 .f32) (n : ℕ) (q : Fin 2816) (h : ¬ n < 2048) : DA x0 x4 n q = 0 := dif_neg h

theorem dg_at (c : Dev nD) (t : Fin cfg0.N) (p : Fin 528) (l : Fin 704) (q : Fin 2816) (hq : (q : ℕ) = 704 * (t.val / 4) + l) :
    (show EReal from dgB m c t (ix2 p l)) = DG (a0 m c) (a1 m c) (a2 m c) (a3 m c) (a4 m c) (512 * (t.val % 4) + p) q := by
  refine (dg_val _ _ _ _ _ _ p l _ _ rfl rfl).trans ?_
  unfold DG
  by_cases h : p.val < 512 ∨ t.val % 4 < 3
  · exact congrArg₂ (· * ·) (congrArg₂ (· * ·) (da_at m c t p l q hq) (up_cv m c t p l q hq h))
      (congrArg (fun y : EReal => sgm y * (1 + y * (1 - sgm y))) (gate_cv m c t p l q hq h))
  · have hz := da_zero (a0 m c) (a4 m c) (512 * (t.val % 4) + p) q (by omega)
    refine (congrArg (fun y : EReal => y * _ * _) ((da_at m c t p l q hq).trans hz)).trans ?_
    rw [hz]
    simp only [zero_mul]

theorem du_val (v w : FVec Ideal S528x704 .f32) (p : Fin 528) (l : Fin 704) :
    (show EReal from k0_pay28 (F := Ideal) v w (ix2 p l)) = v (ix2 p l) * k0_pay26 (F := Ideal) w (ix2 p l) := by
  pointwise [k0_pay28]

theorem du_at (c : Dev nD) (t : Fin cfg0.N) (p : Fin 528) (l : Fin 704) (q : Fin 2816) (hq : (q : ℕ) = 704 * (t.val / 4) + l) :
    (show EReal from duB m c t (ix2 p l)) = DU (a0 m c) (a1 m c) (a2 m c) (a3 m c) (a4 m c) (512 * (t.val % 4) + p) q := by
  refine (du_val _ _ p l).trans ?_
  unfold DU
  by_cases h : p.val < 512 ∨ t.val % 4 < 3
  · exact congrArg₂ (· * ·) (da_at m c t p l q hq) (act_val _ p l _ (gate_cv m c t p l q hq h))
  · have hz := da_zero (a0 m c) (a4 m c) (512 * (t.val % 4) + p) q (by omega)
    refine (congrArg (fun y : EReal => y * _) ((da_at m c t p l q hq).trans hz)).trans ?_
    rw [hz]
    simp only [zero_mul]

theorem dg_row (c : Dev nD) (t : Fin cfg0.N) (r : ℕ) (hr : r < 528) (n : ℕ) (hn : n = 512 * (t.val % 4) + r) (l : Fin 704) (q : Fin 2816) (hq : (q : ℕ) = 704 * (t.val / 4) + l) :
    (show EReal from dgB m c t (ix2 ⟨r, hr⟩ l)) = DG (a0 m c) (a1 m c) (a2 m c) (a3 m c) (a4 m c) n q := by
  subst hn
  exact dg_at m c t ⟨r, hr⟩ l q hq

theorem du_row (c : Dev nD) (t : Fin cfg0.N) (r : ℕ) (hr : r < 528) (n : ℕ) (hn : n = 512 * (t.val % 4) + r) (l : Fin 704) (q : Fin 2816) (hq : (q : ℕ) = 704 * (t.val / 4) + l) :
    (show EReal from duB m c t (ix2 ⟨r, hr⟩ l)) = DU (a0 m c) (a1 m c) (a2 m c) (a3 m c) (a4 m c) n q := by
  subst hn
  exact du_at m c t ⟨r, hr⟩ l q hq

theorem back_val (v20 : FVec Ideal S528x704 .f32) (v50 : FVec Ideal S544x704 .f32) (v52 v54 : FVec Ideal S3x704 .f32) (v70 v72 : FVec Ideal S528x704 .f32) (v73 : FVec Ideal S1x704 .f32) (p : Fin 512) (l : Fin 704) :
    (show EReal from k0_pay29 (F := Ideal) v20 v50 v52 v54 v70 v72 v73 (ix2 p l)) =
      k0_pay27 (F := Ideal) v20 v50 v54 v70 v72 v73 (ix2 ⟨(8 + p + 528 - 6) % 528, Nat.mod_lt _ (by decide)⟩ l) * v52 (ix2 0 l)
      + k0_pay27 (F := Ideal) v20 v50 v54 v70 v72 v73 (ix2 ⟨(8 + p + 528 - 7) % 528, Nat.mod_lt _ (by decide)⟩ l) * v52 (ix2 1 l)
      + k0_pay27 (F := Ideal) v20 v50 v54 v70 v72 v73 (ix2 ⟨p, by omega⟩ l) * v52 (ix2 2 l) := by
  pointwise [k0_pay29]

theorem back_up_val (v54 : FVec Ideal S3x704 .f32) (v103 v122 : FVec Ideal S528x704 .f32) (p : Fin 512) (l : Fin 704) :
    (show EReal from k0_pay32 (F := Ideal) v54 (k0_pay28 v103 v122) (k0_pay30 v103 v122) (k0_pay31 v54) (ix2 p l)) =
      k0_pay28 (F := Ideal) v103 v122 (ix2 ⟨(8 + p + 528 - 6) % 528, Nat.mod_lt _ (by decide)⟩ l) * v54 (ix2 0 l)
      + k0_pay28 (F := Ideal) v103 v122 (ix2 ⟨(8 + p + 528 - 7) % 528, Nat.mod_lt _ (by decide)⟩ l) * v54 (ix2 1 l)
      + k0_pay28 (F := Ideal) v103 v122 (ix2 ⟨p, by omega⟩ l) * v54 (ix2 2 l) := by
  pointwise [k0_pay32, k0_pay30, k0_pay31]

/-- The two halves' gradients of the up projection's rows, before the products. -/
abbrev bkG (c : Dev nD) := back (DG (a0 m c) (a1 m c) (a2 m c) (a3 m c) (a4 m c)) (a3 m c) colg
abbrev bkU (c : Dev nD) := back (DU (a0 m c) (a1 m c) (a2 m c) (a3 m c) (a4 m c)) (a3 m c) colu

theorem bg_at (c : Dev nD) (t : Fin cfg0.N) (p : Fin 512) (l : Fin 704) (q : Fin 2816) (hq : (q : ℕ) = 704 * (t.val / 4) + l) :
    (show EReal from bgB m c t (ix2 p l)) = bkG m c (512 * (t.val % 4) + p) q := by
  refine (back_val _ _ _ _ _ _ _ p l).trans ?_
  exact congrArg₂ (· + ·) (congrArg₂ (· + ·)
    (congrArg₂ (· * ·) (dg_row m c t _ _ _ (by omega) l q hq) (wg_at m c t 0 l (colg q) hq))
    (congrArg₂ (· * ·) (dg_row m c t _ _ _ (by omega) l q hq) (wg_at m c t 1 l (colg q) hq)))
    (congrArg₂ (· * ·) (dg_row m c t _ _ _ (by omega) l q hq) (wg_at m c t 2 l (colg q) hq))

theorem bu_at (c : Dev nD) (t : Fin cfg0.N) (p : Fin 512) (l : Fin 704) (q : Fin 2816) (hq : (q : ℕ) = 704 * (t.val / 4) + l) :
    (show EReal from buB m c t (ix2 p l)) = bkU m c (512 * (t.val % 4) + p) q := by
  have hu : (colu q : ℕ) = 2816 + 704 * (t.val / 4) + l := by
    show 2816 + (q : ℕ) = _
    omega
  refine (back_up_val _ _ _ p l).trans ?_
  exact congrArg₂ (· + ·) (congrArg₂ (· + ·)
    (congrArg₂ (· * ·) (du_row m c t _ _ _ (by omega) l q hq) (wu_at m c t 0 l (colu q) hu))
    (congrArg₂ (· * ·) (du_row m c t _ _ _ (by omega) l q hq) (wu_at m c t 1 l (colu q) hu)))
    (congrArg₂ (· * ·) (du_row m c t _ _ _ (by omega) l q hq) (wu_at m c t 2 l (colu q) hu))

end Cert.FfnKIdeal.Value

end
-- ==== Proof.Ffn.Sums.lean ====
module

public import proofs.«01_k».proof.Proof.Gen.FfnKIdeal.Frame
public import proofs.«01_k».proof.Proof.Gen.FfnRIdeal.Read
public import proofs.«01_k».proof.Proof.Reals
public import proofs.«01_k».proof.Proof.Conv.Value
public import proofs.«01_k».proof.Proof.Ffn.Point
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FfnKIdeal.Value

open Cert.FfnKIdeal Cert.FfnKIdeal.Gen

open Reals

variable (m : (ℓ : Loc nD τ sig) → Buf (Elt Ideal) ℓ)

/-- The pair's column of slab `s`, column `l`. -/
def colq (s : ℕ) (l : Fin 704) : Fin 2816 := ⟨(704 * s + l) % 2816, Nat.mod_lt _ (by decide)⟩

theorem colq_val (t : Fin cfg0.N) (l : Fin 704) : (colq (t.val / 4) l : ℕ) = 704 * (t.val / 4) + l := by
  have ht : t.val < 16 := t.isLt
  show (704 * (t.val / 4) + l.val) % 2816 = _
  omega

/-- A row of an array; zero past its last row. -/
def rowAt (x : FVec Ideal S2048x1024 .f32) (n : ℕ) (k : Fin 1024) : EReal := if h : n < 2048 then x (ix2 ⟨n, h⟩ k) else 0

theorem rowAt_of (x : FVec Ideal S2048x1024 .f32) (n : ℕ) (k : Fin 1024) (r : Fin 2048) (h : (r : ℕ) = n) : rowAt x n k = x (ix2 r k) := by
  subst h
  exact dif_pos r.isLt

/-- A scratch that starts from zero at each slab's first point and adds its row block's terms at every point holds the sum over all the rows after the slab's last point. -/
theorem sum_rows {ι : Type} (X : (n : ℕ) → n < cfg0.N → ι → EReal) (f : ℕ → ι → ℕ → EReal)
    (first : ∀ t : Fin cfg0.N, t.val % 4 = 0 → ∀ j, X t.val t.isLt j = 0 + ∑ x : Fin 512, f (t.val / 4) j (512 * (t.val % 4) + x))
    (step : ∀ t : Fin cfg0.N, ¬ t.val % 4 = 0 → ∀ j, X t.val t.isLt j = X (t.val - 1) (Nat.lt_of_le_of_lt (Nat.sub_le _ _) t.isLt) j + ∑ x : Fin 512, f (t.val / 4) j (512 * (t.val % 4) + x))
    (t : Fin cfg0.N) (h : t.val % 4 = 3) (j : ι) : X t.val t.isLt j = ∑ n : Fin 2048, f (t.val / 4) j n := by
  refine (Pipeline.eq_sum_fin_of_reset_step_apply_of_flush X 4 (fun _ => (0 : EReal)) (fun t j => ∑ x : Fin 512, f (t.val / 4) j (512 * (t.val % 4) + x)) first step t h j).trans ?_
  rw [zero_add]
  refine Eq.trans ?_ (Fin.sum_mul_add_congr (S := 4) (n := 512) (F := fun s k => f (t.val / 4) j (512 * s.val + k.val)) (f := fun n => f (t.val / 4) j n.val)
    (fun s k h => congrArg (f (t.val / 4) j) (by simp only []; omega)))
  refine Finset.sum_congr rfl fun s _ => Finset.sum_congr rfl fun k _ => ?_
  have hs := s.isLt
  have e1 : (4 * (t.val / 4) + s.val) / 4 = t.val / 4 := by omega
  have e2 : (4 * (t.val / 4) + s.val) % 4 = s.val := by omega
  show f ((4 * (t.val / 4) + s.val) / 4) j (512 * ((4 * (t.val / 4) + s.val) % 4) + k.val) = _
  rw [e1, e2]

/-- The terms of the five sums. -/
def tD (c : Dev nD) (s : ℕ) (j : S704x1024.Idx) (n : ℕ) : EReal :=
  CV (a1 m c) (a2 m c) (a3 m c) n (colg (colq s (j 0))) * sgm (CV (a1 m c) (a2 m c) (a3 m c) n (colg (colq s (j 0)))) * CV (a1 m c) (a2 m c) (a3 m c) n (colu (colq s (j 0))) * rowAt (a0 m c) n (j 1)
def tG (c : Dev nD) (s : ℕ) (j : S704x1024.Idx) (n : ℕ) : EReal := bkG m c n (colq s (j 0)) * rowAt (a1 m c) n (j 1)
def tU (c : Dev nD) (s : ℕ) (j : S704x1024.Idx) (n : ℕ) : EReal := bkU m c n (colq s (j 0)) * rowAt (a1 m c) n (j 1)
def tCG (c : Dev nD) (s : ℕ) (j : S3x704.Idx) (n : ℕ) : EReal :=
  DG (a0 m c) (a1 m c) (a2 m c) (a3 m c) (a4 m c) n (colq s (j 1)) * Ue (a1 m c) (a2 m c) (n + 14 + (j 0).val) (colg (colq s (j 1)))
def tCU (c : Dev nD) (s : ℕ) (j : S3x704.Idx) (n : ℕ) : EReal :=
  DU (a0 m c) (a1 m c) (a2 m c) (a3 m c) (a4 m c) n (colq s (j 1)) * Ue (a1 m c) (a2 m c) (n + 14 + (j 0).val) (colu (colq s (j 1)))

theorem stepD_val (v4 : FVec Ideal S512x1024 .bf16) (v86 v94 : FVec Ideal S528x704 .f32) (a : FVec Ideal S704x1024 .f32) (p : Fin 704) (l : Fin 1024) :
    (show EReal from k0_pay38 (F := Ideal) (k0_pay13 v4) v86 v94 a (ix2 p l)) = a (ix2 p l) + ∑ x : Fin 512, v94 (ix2 ⟨x, by omega⟩ p) * v86 (ix2 ⟨x, by omega⟩ p) * v4 (ix2 x l) := by
  pointwise [k0_pay38, k0_pay13]

theorem stepG_val (v120 : FVec Ideal S512x704 .bf16) (v201 : FVec Ideal S512x1024 .bf16) (a : FVec Ideal S704x1024 .f32) (p : Fin 704) (l : Fin 1024) :
    (show EReal from k0_pay1 (F := Ideal) v120 (k0_pay39 v201) a (constant S704x1024 FTy.f32 0#32) (ix2 p l)) = a (ix2 p l) + ∑ x : Fin 512, v120 (ix2 x p) * v201 (ix2 x l) := by
  pointwise [k0_pay1, k0_pay39]

theorem stepU_val (v120 : FVec Ideal S512x704 .bf16) (v201 : FVec Ideal S512x1024 .bf16) (a : FVec Ideal S704x1024 .f32) (p : Fin 704) (l : Fin 1024) :
    (show EReal from k0_pay2 (F := Ideal) v120 (k0_pay39 v201) a (ix2 p l)) = a (ix2 p l) + ∑ x : Fin 512, v120 (ix2 x p) * v201 (ix2 x l) := by
  pointwise [k0_pay2, k0_pay39]

theorem stepC_val (v38 : FVec Ideal S544x704 .f32) (v102 : FVec Ideal S528x704 .f32) (a : FVec Ideal S3x704 .f32) (p : Fin 3) (l : Fin 704) :
    (show EReal from k0_pay36 (F := Ideal) (k0_pay35 v38 v102 a) (ix2 p l)) = a (ix2 p l) + ∑ x : Fin 512, v102 (ix2 ⟨x, by omega⟩ l) * v38 (ix2 ⟨14 + p + x, by omega⟩ l) := by
  pointwise [k0_pay36, k0_pay35]
  refine congrArg (a (ix2 p l) + ·) ?_
  have e : ∀ r r' h h', r = r' → v38 (ix2 ⟨r, h⟩ l) = v38 (ix2 ⟨r', h'⟩ l) := by
    intro r r' h h' e
    subst e
    rfl
  match p with
  | ⟨0, _⟩ => exact Finset.sum_congr rfl fun x _ => congrArg₂ (· * ·) rfl (e _ _ _ _ (by simp only []; omega))
  | ⟨1, _⟩ => exact (dif_neg (Nat.lt_irrefl 1)).trans ((dif_pos Nat.zero_lt_one).trans (Finset.sum_congr rfl fun x _ => congrArg₂ (· * ·) rfl (e _ _ _ _ (by simp only []; omega))))
  | ⟨2, _⟩ => exact (dif_neg (by norm_num : ¬ (2 : ℕ) < 1)).trans ((dif_neg (by norm_num : ¬ (2 - 1 : ℕ) < 1)).trans (Finset.sum_congr rfl fun x _ => congrArg₂ (· * ·) rfl (e _ _ _ _ (by simp only []))))

theorem stepCU_val (v38 : FVec Ideal S544x704 .f32) (v102 : FVec Ideal S528x704 .f32) (a : FVec Ideal S3x704 .f32) (p : Fin 3) (l : Fin 704) :
    (show EReal from k0_pay37 (F := Ideal) v38 v102 a (ix2 p l)) = a (ix2 p l) + ∑ x : Fin 512, v102 (ix2 ⟨x, by omega⟩ l) * v38 (ix2 ⟨14 + p + x, by omega⟩ l) := by
  refine Eq.trans ?_ (stepC_val v38 v102 a p l)
  pointwise [k0_pay37, k0_pay36, k0_pay35]

theorem stepD (c : Dev nD) (t : Fin cfg0.N) (a : FVec Ideal S704x1024 .f32) (j : S704x1024.Idx) :
    (show EReal from k0_pay38 (F := Ideal) (k0_pay13 (iblk m c 0 t)) (upB m c t) (k0_pay26 (gateB m c t)) a j) = a j + ∑ x : Fin 512, tD m c (t.val / 4) j (512 * (t.val % 4) + x) := by
  idx_vars j
  refine (stepD_val _ _ _ a j0 j1).trans (congrArg (a (ix2 j0 j1) + ·) (Finset.sum_congr rfl fun x _ => ?_))
  have ht : t.val < 16 := t.isLt
  refine congrArg₂ (· * ·) (congrArg₂ (· * ·) (act_val _ _ _ _ (gate_cv m c t ⟨x, by omega⟩ j0 _ (colq_val t j0) (.inl x.isLt))) (up_cv m c t ⟨x, by omega⟩ j0 _ (colq_val t j0) (.inl x.isLt))) ?_
  refine Eq.trans ?_ (rowAt_of (a0 m c) _ j1 ⟨512 * (t.val % 4) + x, by omega⟩ rfl).symm
  exact dx_at m c t x j1 ⟨512 * (t.val % 4) + x, by omega⟩ rfl

theorem stepG (c : Dev nD) (t : Fin cfg0.N) (a : FVec Ideal S704x1024 .f32) (j : S704x1024.Idx) :
    (show EReal from k0_pay1 (F := Ideal) (bgB m c t) (k0_pay39 (iblk m c 2 t)) a (constant S704x1024 FTy.f32 0#32) j) = a j + ∑ x : Fin 512, tG m c (t.val / 4) j (512 * (t.val % 4) + x) := by
  idx_vars j
  refine (stepG_val _ _ a j0 j1).trans (congrArg (a (ix2 j0 j1) + ·) (Finset.sum_congr rfl fun x _ => ?_))
  have ht : t.val < 16 := t.isLt
  refine congrArg₂ (· * ·) (bg_at m c t x j0 _ (colq_val t j0)) ?_
  refine Eq.trans ?_ (rowAt_of (a1 m c) _ j1 ⟨512 * (t.val % 4) + x, by omega⟩ rfl).symm
  exact h_at m c t x j1 ⟨512 * (t.val % 4) + x, by omega⟩ rfl

theorem stepU (c : Dev nD) (t : Fin cfg0.N) (a : FVec Ideal S704x1024 .f32) (j : S704x1024.Idx) :
    (show EReal from k0_pay2 (F := Ideal) (buB m c t) (k0_pay39 (iblk m c 2 t)) a j) = a j + ∑ x : Fin 512, tU m c (t.val / 4) j (512 * (t.val % 4) + x) := by
  idx_vars j
  refine (stepU_val _ _ a j0 j1).trans (congrArg (a (ix2 j0 j1) + ·) (Finset.sum_congr rfl fun x _ => ?_))
  have ht : t.val < 16 := t.isLt
  refine congrArg₂ (· * ·) (bu_at m c t x j0 _ (colq_val t j0)) ?_
  refine Eq.trans ?_ (rowAt_of (a1 m c) _ j1 ⟨512 * (t.val % 4) + x, by omega⟩ rfl).symm
  exact h_at m c t x j1 ⟨512 * (t.val % 4) + x, by omega⟩ rfl

theorem stepCG (c : Dev nD) (t : Fin cfg0.N) (a : FVec Ideal S3x704 .f32) (j : S3x704.Idx) :
    (show EReal from k0_pay36 (F := Ideal) (k0_pay35 (geB m c t) (dgB m c t) a) j) = a j + ∑ x : Fin 512, tCG m c (t.val / 4) j (512 * (t.val % 4) + x) := by
  idx_vars j
  refine (stepC_val _ _ a j0 j1).trans (congrArg (a (ix2 j0 j1) + ·) (Finset.sum_congr rfl fun x _ => ?_))
  have hx := x.isLt
  have hj := j0.isLt
  exact congrArg₂ (· * ·) (dg_row m c t _ _ _ rfl j1 _ (colq_val t j1))
    (ge_row m c t _ _ _ (show 512 * (t.val % 4) + x.val + 14 + j0.val = 512 * (t.val % 4) + (14 + j0.val + x.val) from by omega) j1 _ (colq_val t j1) (by omega))

theorem stepCU (c : Dev nD) (t : Fin cfg0.N) (a : FVec Ideal S3x704 .f32) (j : S3x704.Idx) :
    (show EReal from k0_pay37 (F := Ideal) (ueB m c t) (duB m c t) a j) = a j + ∑ x : Fin 512, tCU m c (t.val / 4) j (512 * (t.val % 4) + x) := by
  idx_vars j
  refine (stepCU_val _ _ a j0 j1).trans (congrArg (a (ix2 j0 j1) + ·) (Finset.sum_congr rfl fun x _ => ?_))
  have hx := x.isLt
  have hj := j0.isLt
  have hu : (colu (colq (t.val / 4) j1) : ℕ) = 2816 + 704 * (t.val / 4) + j1 := by
    show 2816 + (colq (t.val / 4) j1 : ℕ) = _
    rw [colq_val]
    omega
  exact congrArg₂ (· * ·) (du_row m c t _ _ _ rfl j1 _ (colq_val t j1))
    (ue_row m c t _ _ _ (show 512 * (t.val % 4) + x.val + 14 + j0.val = 512 * (t.val % 4) + (14 + j0.val + x.val) from by omega) j1 _ hu (by omega))

end Cert.FfnKIdeal.Value

end
-- ==== Proof.Ffn.Accs.lean ====
module

public import proofs.«01_k».proof.Proof.Gen.FfnKIdeal.Frame
public import proofs.«01_k».proof.Proof.Gen.FfnRIdeal.Read
public import proofs.«01_k».proof.Proof.Reals
public import proofs.«01_k».proof.Proof.Conv.Value
public import proofs.«01_k».proof.Proof.Ffn.Sums
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FfnKIdeal.Value

open Cert.FfnKIdeal Cert.FfnKIdeal.Gen

open Reals

variable (m : (ℓ : Loc nD τ sig) → Buf (Elt Ideal) ℓ)

theorem zero_val (j : S704x1024.Idx) : (show EReal from k0_pay8 (F := Ideal) j) = 0 ∧ (show EReal from k0_pay9 (F := Ideal) j) = 0 ∧ (show EReal from k0_pay10 (F := Ideal) j) = 0 := by
  idx_vars j
  refine ⟨?_, ?_, ?_⟩
  · pointwise [k0_pay8]
  · pointwise [k0_pay9]
  · pointwise [k0_pay10]

theorem accD (c : Dev nD) (t : Fin cfg0.N) (h : t.val % 4 = 3) (j : S704x1024.Idx) :
    ((outsAt0 m c t.val t.isLt).2.2.2.2.1 : FVec Ideal S704x1024 .f32) j = ∑ n : Fin 2048, tD m c (t.val / 4) j n := by
  refine sum_rows (fun n h => ((outsAt0 m c n h).2.2.2.2.1 : FVec Ideal S704x1024 .f32)) (tD m c) (fun t h0 j => ?_) (fun t h0 j => ?_) t h j
  · rw [outsAt0_A m c t h0 (by omega)]
    frame_out
    refine (stepD m c t _ j).trans (congrArg (· + _) (zero_val j).1)
  · by_cases h3 : t.val % 4 = 3
    · rw [outsAt0_C m c t h0 h3]; frame_out; rw [read_unread_whole]; exact stepD m c t _ j
    · rw [outsAt0_B m c t h0 h3]; frame_out; rw [read_unread_whole]; exact stepD m c t _ j

theorem accG (c : Dev nD) (t : Fin cfg0.N) (h : t.val % 4 = 3) (j : S704x1024.Idx) :
    ((outsAt0 m c t.val t.isLt).2.2.2.2.2.1 : FVec Ideal S704x1024 .f32) j = ∑ n : Fin 2048, tG m c (t.val / 4) j n := by
  refine sum_rows (fun n h => ((outsAt0 m c n h).2.2.2.2.2.1 : FVec Ideal S704x1024 .f32)) (tG m c) (fun t h0 j => ?_) (fun t h0 j => ?_) t h j
  · rw [outsAt0_A m c t h0 (by omega)]
    frame_out
    refine (stepG m c t _ j).trans (congrArg (· + _) (zero_val j).2.1)
  · by_cases h3 : t.val % 4 = 3
    · rw [outsAt0_C m c t h0 h3]; frame_out; rw [read_unread_whole]; exact stepG m c t _ j
    · rw [outsAt0_B m c t h0 h3]; frame_out; rw [read_unread_whole]; exact stepG m c t _ j

theorem accU (c : Dev nD) (t : Fin cfg0.N) (h : t.val % 4 = 3) (j : S704x1024.Idx) :
    ((outsAt0 m c t.val t.isLt).2.2.2.2.2.2.1 : FVec Ideal S704x1024 .f32) j = ∑ n : Fin 2048, tU m c (t.val / 4) j n := by
  refine sum_rows (fun n h => ((outsAt0 m c n h).2.2.2.2.2.2.1 : FVec Ideal S704x1024 .f32)) (tU m c) (fun t h0 j => ?_) (fun t h0 j => ?_) t h j
  · rw [outsAt0_A m c t h0 (by omega)]
    frame_out
    refine (stepU m c t _ j).trans (congrArg (· + _) (zero_val j).2.2)
  · by_cases h3 : t.val % 4 = 3
    · rw [outsAt0_C m c t h0 h3]; frame_out; rw [read_unread_whole]; exact stepU m c t _ j
    · rw [outsAt0_B m c t h0 h3]; frame_out; rw [read_unread_whole]; exact stepU m c t _ j

/-- The rows that the tap sums use of their scratch. -/
abbrev r3 : Rect S8x704 := Rect.unit ![0, 0] ![3, 704] inb_S8x704_S3x704_0_0

theorem zero8_val (j : S8x704.Idx) : (show EReal from k0_pay11 (F := Ideal) j) = 0 ∧ (show EReal from k0_pay12 (F := Ideal) j) = 0 := by
  idx_vars j
  refine ⟨?_, ?_⟩
  · pointwise [k0_pay11]
  · pointwise [k0_pay12]

theorem accCG (c : Dev nD) (t : Fin cfg0.N) (h : t.val % 4 = 3) (j : S3x704.Idx) :
    ((outsAt0 m c t.val t.isLt).2.2.2.2.2.2.2.1 : FVec Ideal S8x704 .f32) (r3.emb j) = ∑ n : Fin 2048, tCG m c (t.val / 4) j n := by
  refine sum_rows (fun n h (j : S3x704.Idx) => ((outsAt0 m c n h).2.2.2.2.2.2.2.1 : FVec Ideal S8x704 .f32) (r3.emb j)) (tCG m c) (fun t h0 j => ?_) (fun t h0 j => ?_) t h j
  · rw [outsAt0_A m c t h0 (by omega)]
    frame_out
    refine (View.canon_cons_emb r3 _ _ j).trans ((stepCG m c t _ j).trans (congrArg (· + _) ?_))
    rw [View.readCov_fill _ _ _ _ r3 (by decide)]
    exact (zero8_val _).1
  · by_cases h3 : t.val % 4 = 3
    · rw [outsAt0_C m c t h0 h3]; frame_out; refine (View.read_writes_cons_emb _ _ r3 _ _ j).trans ?_; rw [read_unread_whole]; exact stepCG m c t _ j
    · rw [outsAt0_B m c t h0 h3]; frame_out; refine (View.read_writes_cons_emb _ _ r3 _ _ j).trans ?_; rw [read_unread_whole]; exact stepCG m c t _ j

theorem accCU (c : Dev nD) (t : Fin cfg0.N) (h : t.val % 4 = 3) (j : S3x704.Idx) :
    ((outsAt0 m c t.val t.isLt).2.2.2.2.2.2.2.2 : FVec Ideal S8x704 .f32) (r3.emb j) = ∑ n : Fin 2048, tCU m c (t.val / 4) j n := by
  refine sum_rows (fun n h (j : S3x704.Idx) => ((outsAt0 m c n h).2.2.2.2.2.2.2.2 : FVec Ideal S8x704 .f32) (r3.emb j)) (tCU m c) (fun t h0 j => ?_) (fun t h0 j => ?_) t h j
  · rw [outsAt0_A m c t h0 (by omega)]
    frame_out
    refine (View.canon_cons_emb r3 _ _ j).trans ((stepCU m c t _ j).trans (congrArg (· + _) ?_))
    rw [View.readCov_fill _ _ _ _ r3 (by decide)]
    exact (zero8_val _).2
  · by_cases h3 : t.val % 4 = 3
    · rw [outsAt0_C m c t h0 h3]; frame_out; refine (View.read_writes_cons_emb _ _ r3 _ _ j).trans ?_; rw [read_unread_whole]; exact stepCU m c t _ j
    · rw [outsAt0_B m c t h0 h3]; frame_out; refine (View.read_writes_cons_emb _ _ r3 _ _ j).trans ?_; rw [read_unread_whole]; exact stepCU m c t _ j

end Cert.FfnKIdeal.Value

end
-- ==== Proof.Ffn.Value.lean ====
module

public import proofs.«01_k».proof.Proof.Gen.FfnKIdeal.Frame
public import proofs.«01_k».proof.Proof.Gen.FfnRIdeal.Read
public import proofs.«01_k».proof.Proof.Reals
public import proofs.«01_k».proof.Proof.Conv.Value
public import proofs.«01_k».proof.Proof.Ffn.Accs
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FfnKIdeal.Value

open Cert.FfnKIdeal Cert.FfnKIdeal.Gen

open Reals

variable (m : (ℓ : Loc nD τ sig) → Buf (Elt Ideal) ℓ)

/-- A block whose two halves are written one after the other. -/
theorem canon_halves {A B : ℕ} {e : EltTy} (Y : ℕ → Fin A → Fin B → Elt Ideal e)
    (hi1 : ∀ a : Fin 4, (![0, 1, 0, 0] : Fin 4 → ℕ) a + (![1, 1, A, B] : Fin 4 → ℕ) a ≤ (![1, 2, A, B] : Fin 4 → ℕ) a)
    (hi0 : ∀ a : Fin 4, (![0, 0, 0, 0] : Fin 4 → ℕ) a + (![1, 1, A, B] : Fin 4 → ℕ) a ≤ (![1, 2, A, B] : Fin 4 → ℕ) a)
    (P1 P0 : ((i : Fin 4) → Fin (![1, 1, A, B] i)) → Elt Ideal e)
    (h1 : ∀ a b, P1 (ix4 0 0 a b) = Y 1 a b) (h0 : ∀ a b, P0 (ix4 0 0 a b) = Y 0 a b) (y : (i : Fin 4) → Fin (![1, 2, A, B] i)) :
    View.canon (Val := Elt Ideal) (s := (⟨4, ![1, 2, A, B]⟩ : Shape)) (e := e) [⟨Rect.unit ![0, 1, 0, 0] ![1, 1, A, B] hi1, P1⟩, ⟨Rect.unit ![0, 0, 0, 0] ![1, 1, A, B] hi0, P0⟩] y =
      Y (y 1 : Fin 2).val (y 2) (y 3) := by
  have y0 : ((y 0 : Fin 1) : ℕ) < 1 := (y 0 : Fin 1).isLt
  have y1 : ((y 1 : Fin 2) : ℕ) < 2 := (y 1 : Fin 2).isLt
  have emb : ∀ (o : ℕ) (hi), o = ((y 1 : Fin 2) : ℕ) → (Rect.unit (s := (⟨4, ![1, 2, A, B]⟩ : Shape)) ![0, o, 0, 0] ![1, 1, A, B] hi).emb (ix4 0 0 (y 2 : Fin A) (y 3 : Fin B)) = y := by
    intro o hi h
    funext a
    match a with
    | ⟨0, _⟩ => exact Subsingleton.elim (α := Fin 1) _ _
    | ⟨1, _⟩ => exact Fin.ext (by show o + 1 * 0 = ((y 1 : Fin 2) : ℕ); omega)
    | ⟨2, _⟩ => exact Fin.ext (by show 0 + 1 * ((y 2 : Fin A) : ℕ) = ((y 2 : Fin A) : ℕ); omega)
    | ⟨3, _⟩ => exact Fin.ext (by show 0 + 1 * ((y 3 : Fin B) : ℕ) = ((y 3 : Fin B) : ℕ); omega)
  by_cases c1 : ((y 1 : Fin 2) : ℕ) = 1
  · refine (congrArg _ (emb 1 hi1 c1.symm).symm).trans ((View.canon_cons_emb _ _ _ _).trans ((h1 _ _).trans ?_))
    rw [c1]
  · have c0 : ((y 1 : Fin 2) : ℕ) = 0 := by omega
    refine (View.canon_cons_of_not_mem _ _ ?_).trans ((congrArg _ (emb 0 hi0 c0.symm).symm).trans ((View.canon_cons_emb _ _ _ _).trans ((h0 _ _).trans ?_)))
    · rw [Rect.mem_set_unit]
      intro h
      have := (h 1).1
      exact absurd (show 1 ≤ ((y 1 : Fin 2) : ℕ) from this) (by omega)
    · rw [c0]

def pick (y : ℕ) (a b : EReal) : EReal := if y = 0 then a else b

theorem du34 (v54 : FVec Ideal S3x704 .f32) (v103 : FVec Ideal S528x704 .f32) (v122 v124 : FVec Ideal S512x704 .f32) (a : Fin 512) (b : Fin 704) :
    (show EReal from k0_pay34 (F := Ideal) v54 v103 v122 v124 (ix4 0 0 a b)) = k0_pay32 (F := Ideal) v54 v103 v122 v124 (ix2 a b) := by
  pointwise [k0_pay34]

theorem r3_emb (k : Fin 3) (l : Fin 704) : r3.emb (ix2 k l) = ix2 ⟨k.val, by omega⟩ l := by
  funext a
  match a with
  | ⟨0, _⟩ => exact Fin.ext (by show 0 + 1 * k.val = k.val; omega)
  | ⟨1, _⟩ => exact Fin.ext (by show 0 + 1 * l.val = l.val; omega)

theorem block12 (c : Dev nD) (t : Fin cfg0.N) (y : S1x2x512x704.Idx) :
    (View.canon (Val := Elt Ideal) (s := S1x2x512x704) (e := .bf16) [⟨Rect.unit ![0, 1, 0, 0] ![1, 1, 512, 704] inb_S1x2x512x704_S1x1x512x704_0_1_0_0,
        k0_pay34 (F := Ideal) (k0_pay20 (iblk m c 10 t)) (duB m c t) (k0_pay30 (daB m c t) (gateB m c t)) (k0_pay31 (k0_pay20 (iblk m c 10 t)))⟩,
      ⟨Rect.unit ![0, 0, 0, 0] ![1, 1, 512, 704] inb_S1x2x512x704_S1x1x512x704_0_0_0_0, k0_pay33 (F := Ideal) (bgB m c t)⟩] : FVec Ideal S1x2x512x704 .bf16) y =
    pick (y 1).val (bkG m c (512 * (t.val % 4) + (y 2).val) (colq (t.val / 4) (y 3))) (bkU m c (512 * (t.val % 4) + (y 2).val) (colq (t.val / 4) (y 3))) := by
  refine canon_halves (e := .bf16) (fun o a b => pick o (bkG m c (512 * (t.val % 4) + a.val) (colq (t.val / 4) b)) (bkU m c (512 * (t.val % 4) + a.val) (colq (t.val / 4) b))) _ _ _ _ (fun a b => ?_) (fun a b => ?_) y
  · refine Eq.trans ?_ (bu_at m c t a b _ (colq_val t b))
    exact du34 _ _ _ _ a b
  · refine Eq.trans ?_ (bg_at m c t a b _ (colq_val t b))
    generalize bgB m c t = w
    pointwise [k0_pay33]

/-- The four results, in the programs' own arrays. -/
def R12 (c : Dev nD) (s : Fin 4) (o : Fin 2) (n : Fin 2048) (l : Fin 704) : EReal := pick o.val (bkG m c n.val (colq s.val l)) (bkU m c n.val (colq s.val l))
def R13 (c : Dev nD) (q : Fin 2816) (k : Fin 1024) : EReal := ∑ n : Fin 2048,
  CV (a1 m c) (a2 m c) (a3 m c) n.val (colg q) * sgm (CV (a1 m c) (a2 m c) (a3 m c) n.val (colg q)) * CV (a1 m c) (a2 m c) (a3 m c) n.val (colu q) * rowAt (a0 m c) n.val k
def R14 (c : Dev nD) (s : Fin 4) (o : Fin 2) (l : Fin 704) (k : Fin 1024) : EReal :=
  pick o.val (∑ n : Fin 2048, tG m c s.val (ix2 l k) n.val) (∑ n : Fin 2048, tU m c s.val (ix2 l k) n.val)
def R15 (c : Dev nD) (s : Fin 4) (o : Fin 2) (k : Fin 3) (l : Fin 704) : EReal :=
  pick o.val (∑ n : Fin 2048, tCG m c s.val (ix2 k l) n.val) (∑ n : Fin 2048, tCU m c s.val (ix2 k l) n.val)

theorem R12_at (c : Dev nD) (s : Fin 4) (o : Fin 2) (n : Fin 2048) (l : Fin 704) (s' o' n' : ℕ) (l' : Fin 704) (hs : s.val = s') (ho : o.val = o') (hn : n.val = n') (hl : l.val = l'.val) :
    R12 m c s o n l = pick o' (bkG m c n' (colq s' l')) (bkU m c n' (colq s' l')) := by
  obtain rfl := Fin.ext hl
  subst hs ho hn
  rfl

theorem R13_at (c : Dev nD) (t : Fin cfg0.N) (q : Fin 2816) (k : Fin 1024) (l : Fin 704) (k' : Fin 1024) (hq : q.val = t.val / 4 * 704 + l.val) (hk : k.val = k'.val) :
    R13 m c q k = ∑ n : Fin 2048, tD m c (t.val / 4) (ix2 l k') n.val := by
  obtain rfl := Fin.ext hk
  obtain rfl : q = colq (t.val / 4) l := Fin.ext (by have := colq_val t l; omega)
  rfl

theorem R14_at (c : Dev nD) (s : Fin 4) (o : Fin 2) (l : Fin 704) (k : Fin 1024) (s' o' : ℕ) (l' : Fin 704) (k' : Fin 1024) (hs : s.val = s') (ho : o.val = o') (hl : l.val = l'.val) (hk : k.val = k'.val) :
    R14 m c s o l k = pick o' (∑ n : Fin 2048, tG m c s' (ix2 l' k') n.val) (∑ n : Fin 2048, tU m c s' (ix2 l' k') n.val) := by
  obtain rfl := Fin.ext hl
  obtain rfl := Fin.ext hk
  subst hs ho
  rfl

theorem R15_at (c : Dev nD) (s : Fin 4) (o : Fin 2) (k : Fin 3) (l : Fin 704) (s' o' : ℕ) (k' : Fin 3) (l' : Fin 704) (hs : s.val = s') (ho : o.val = o') (hk : k.val = k'.val) (hl : l.val = l'.val) :
    R15 m c s o k l = pick o' (∑ n : Fin 2048, tCG m c s' (ix2 k' l') n.val) (∑ n : Fin 2048, tCU m c s' (ix2 k' l') n.val) := by
  obtain rfl := Fin.ext hl
  obtain rfl := Fin.ext hk
  subst hs ho
  rfl

theorem final12 (c : Dev nD) : (dats m 0 c).arrAt 12 cfg0.N = fun y => R12 m c (y 0) (y 1) (y 2) (y 3) := by
  refine (dats m 0 c).arrAt_eq_of_covers 12 _ (by decide +kernel) fun t _ y => ?_
  blk_simp
  rw [after0_12]
  refine Eq.trans ?_ (R12_at m c _ _ _ _ (t.val / 4) (y 1).val (512 * (t.val % 4) + (y 2).val) (y 3) (by blk_simp [idx t]) (by blk_simp [idx t]) (by blk_simp [idx t]; omega) (by blk_simp [idx t])).symm
  by_cases h0 : t.val % 4 = 0
  · rw [outsAt0_A m c t h0 (by omega)]
    frame_out
    exact block12 m c t y
  · by_cases h3 : t.val % 4 = 3
    · rw [outsAt0_C m c t h0 h3]
      frame_out
      exact block12 m c t y
    · rw [outsAt0_B m c t h0 h3]
      frame_out
      exact block12 m c t y

theorem gd_val (v : FVec Ideal S704x1024 .f32) (j : S704x1024.Idx) : (show EReal from k0_pay3 (F := Ideal) v j) = v j := by
  idx_vars j
  pointwise [k0_pay3]

theorem final13 (c : Dev nD) : (dats m 0 c).arrAt 13 cfg0.N = fun y => R13 m c (y 0) (y 1) := by
  refine (dats m 0 c).arrAt_eq_of_covers 13 _ (by decide +kernel) fun t hf y => ?_
  have h3 : t.val % 4 = 3 := (flush0_13 t).mp hf
  blk_simp
  rw [after0_13]
  refine Eq.trans ?_ (R13_at m c t _ _ (y 0) (y 1) (by blk_simp [idx t]) (by blk_simp [idx t])).symm
  have e : (outsAt0 m c t.val t.isLt).2.1 = k0_pay3 (F := Ideal) (outsAt0 m c t.val t.isLt).2.2.2.2.1 := by
    rw [outsAt0_C m c t (by omega) h3]
    frame_out
  rw [e]
  refine (gd_val _ y).trans ((accD m c t h3 y).trans ?_)
  idx_vars y

theorem final14 (c : Dev nD) : (dats m 0 c).arrAt 14 cfg0.N = fun y => R14 m c (y 0) (y 1) (y 2) (y 3) := by
  refine (dats m 0 c).arrAt_eq_of_covers 14 _ (by decide +kernel) fun t hf y => ?_
  have h3 : t.val % 4 = 3 := (flush0_14 t).mp hf
  blk_simp
  rw [after0_14]
  refine Eq.trans ?_ (R14_at m c _ _ _ _ (t.val / 4) (y 1).val (y 2) (y 3) (by blk_simp [idx t]) (by blk_simp [idx t]) (by blk_simp [idx t]) (by blk_simp [idx t])).symm
  have e : (outsAt0 m c t.val t.isLt).2.2.1 = View.canon (Val := Elt Ideal) (s := S1x2x704x1024) (e := .bf16)
      [⟨Rect.unit ![0, 1, 0, 0] ![1, 1, 704, 1024] inb_S1x2x704x1024_S1x1x704x1024_0_1_0_0, k0_pay5 (F := Ideal) (outsAt0 m c t.val t.isLt).2.2.2.2.2.2.1⟩,
        ⟨Rect.unit ![0, 0, 0, 0] ![1, 1, 704, 1024] inb_S1x2x704x1024_S1x1x704x1024_0_0_0_0, k0_pay4 (F := Ideal) (outsAt0 m c t.val t.isLt).2.2.2.2.2.1⟩] := by
    rw [outsAt0_C m c t (by omega) h3]
    frame_out
  rw [e]
  refine canon_halves (e := .bf16) (fun o a b => pick o (∑ n : Fin 2048, tG m c (t.val / 4) (ix2 a b) n.val) (∑ n : Fin 2048, tU m c (t.val / 4) (ix2 a b) n.val)) _ _ _ _ (fun a b => ?_) (fun a b => ?_) y
  · refine Eq.trans ?_ (accU m c t h3 (ix2 a b))
    generalize (outsAt0 m c t.val t.isLt).2.2.2.2.2.2.1 = w
    pointwise [k0_pay5]
  · refine Eq.trans ?_ (accG m c t h3 (ix2 a b))
    generalize (outsAt0 m c t.val t.isLt).2.2.2.2.2.1 = w
    pointwise [k0_pay4]

theorem final15 (c : Dev nD) : (dats m 0 c).arrAt 15 cfg0.N = fun y => R15 m c (y 0) (y 1) (y 2) (y 3) := by
  refine (dats m 0 c).arrAt_eq_of_covers 15 _ (by decide +kernel) fun t hf y => ?_
  have h3 : t.val % 4 = 3 := (flush0_15 t).mp hf
  blk_simp
  rw [after0_15]
  refine Eq.trans ?_ (R15_at m c _ _ _ _ (t.val / 4) (y 1).val (y 2) (y 3) (by blk_simp [idx t]) (by blk_simp [idx t]) (by blk_simp [idx t]) (by blk_simp [idx t])).symm
  have e : (outsAt0 m c t.val t.isLt).2.2.2.1 = View.canon (Val := Elt Ideal) (s := S1x2x3x704) (e := .f32)
      [⟨Rect.unit ![0, 1, 0, 0] ![1, 1, 3, 704] inb_S1x2x3x704_S1x1x3x704_0_1_0_0, k0_pay7 (F := Ideal) (View.ld (outsAt0 m c t.val t.isLt).2.2.2.2.2.2.2.2 r3)⟩,
        ⟨Rect.unit ![0, 0, 0, 0] ![1, 1, 3, 704] inb_S1x2x3x704_S1x1x3x704_0_0_0_0, k0_pay6 (F := Ideal) (View.ld (outsAt0 m c t.val t.isLt).2.2.2.2.2.2.2.1 r3)⟩] := by
    have ld3 : ∀ {κ : Kind} {sp : Space} (v : View sig κ sp S8x704 .f32) (f : v.ty.Contents (Elt Ideal)) (w : r3.shape.Idx → Elt Ideal .f32), View.ld (v.read (Elt Ideal) (v.writes (Elt Ideal) f [⟨r3, w⟩])) r3 = w := by
      intro κ sp v f w
      funext j
      exact View.read_writes_cons_emb v f r3 w [] j
    rw [outsAt0_C m c t (by omega) h3]
    frame_out
    rw [View.readCov_cons_toLoadRect, View.readCov_cons_toLoadRect, ld3, ld3]
  rw [e]
  refine canon_halves (e := .f32) (fun o a b => pick o (∑ n : Fin 2048, tCG m c (t.val / 4) (ix2 a b) n.val) (∑ n : Fin 2048, tCU m c (t.val / 4) (ix2 a b) n.val)) _ _ _ _ (fun a b => ?_) (fun a b => ?_) y
  · refine Eq.trans ?_ (accCU m c t h3 (ix2 a b))
    generalize (outsAt0 m c t.val t.isLt).2.2.2.2.2.2.2.2 = w
    pointwise [k0_pay7]
    exact congrArg w (r3_emb a b).symm
  · refine Eq.trans ?_ (accCG m c t h3 (ix2 a b))
    generalize (outsAt0 m c t.val t.isLt).2.2.2.2.2.2.2.1 = w
    pointwise [k0_pay6]
    exact congrArg w (r3_emb a b).symm

end Cert.FfnKIdeal.Value

end
-- ==== Proof.Ffn.Ref.lean ====
module

public import proofs.«01_k».proof.Proof.Gen.FfnKIdeal.Frame
public import proofs.«01_k».proof.Proof.Gen.FfnRIdeal.Read
public import proofs.«01_k».proof.Proof.Reals
public import proofs.«01_k».proof.Proof.Conv.Value
public import proofs.«01_k».proof.Proof.Ffn.Value
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FfnKIdeal.Value

open Cert.FfnKIdeal Cert.FfnKIdeal.Gen

open Reals

open Cert.FfnRIdeal.Read

theorem U_lt (x1 : FVec Ideal S2048x1024 .f32) (x2 : FVec Ideal S1024x5632 .f32) (n : Fin 2048) (L : Fin 5632) : U x1 x2 n.val L = ∑ k : Fin 1024, (show EReal from x1 (ix2 n k)) * x2 (ix2 k L) :=
  dif_pos n.isLt

theorem v0_at (x1 : FVec Ideal S2048x1024 .f32) (x2 : FVec Ideal S1024x5632 .f32) (n : Fin 2048) (L : Fin 5632) :
    (show EReal from val_main_v0 (F := Ideal) x1 x2 (ix2 n L)) = U x1 x2 n.val L := by
  rw [U_lt]
  pointwise [val_main_v0]

theorem v2_at (x1 : FVec Ideal S2048x1024 .f32) (x2 : FVec Ideal S1024x5632 .f32) (r : Fin 2050) (L : Fin 5632) :
    (show EReal from val_main_v2 (F := Ideal) x1 x2 (ix2 r L)) = Ue x1 x2 (r.val + 14) L := by
  unfold val_main_v2 val_main_v1 val_main_cst Ue
  have hv := v0_at x1 x2
  generalize val_main_v0 (F := Ideal) x1 x2 = v at hv ⊢
  pointwise []
  by_cases h : r.val < 2
  · exact (dif_pos h).trans (if_neg (by omega)).symm
  · refine (dif_neg h).trans ((hv _ L).trans (Eq.trans ?_ (if_pos (by omega)).symm))
    exact congrArg (U x1 x2 · L) (by show r.val - 2 = _; omega)

theorem v23_at (x1 : FVec Ideal S2048x1024 .f32) (x2 : FVec Ideal S1024x5632 .f32) (x3 : FVec Ideal S3x5632 .f32) (n : Fin 2048) (L : Fin 5632) :
    (show EReal from val_main_v23 (F := Ideal) x1 x2 x3 (ix2 n L)) = CV x1 x2 x3 n.val L := by
  unfold val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4
  have hv := v2_at x1 x2
  generalize val_main_v2 (F := Ideal) x1 x2 = v at hv ⊢
  pointwise []
  exact congrArg₂ (· + ·) (congrArg₂ (· + ·) (congrArg (· * _) (hv _ L)) (congrArg (· * _) ((hv _ L).trans (congrArg (Ue x1 x2 · L) (by show 1 + n.val + 14 = _; omega)))))
    (congrArg (· * _) ((hv _ L).trans (congrArg (Ue x1 x2 · L) (by show 2 + n.val + 14 = _; omega))))

theorem v31_at (x0 : FVec Ideal S2048x1024 .f32) (x4 : FVec Ideal S2816x1024 .f32) (n : Fin 2048) (q : Fin 2816) :
    (show EReal from val_main_v31 (F := Ideal) x0 x4 (ix2 n q)) = DA x0 x4 n.val q := by
  refine Eq.trans ?_ (dif_pos n.isLt).symm
  pointwise [val_main_v31]

theorem v27_at (x1 : FVec Ideal S2048x1024 .f32) (x2 : FVec Ideal S1024x5632 .f32) (x3 : FVec Ideal S3x5632 .f32) (n : Fin 2048) (q : Fin 2816) :
    (show EReal from val_main_v27 (F := Ideal) x1 x2 x3 (ix2 n q)) = CV x1 x2 x3 n.val (colg q) * sgm (CV x1 x2 x3 n.val (colg q)) * CV x1 x2 x3 n.val (colu q) := by
  unfold val_main_v27 val_main_v26 val_main_v25_0 val_main_v25_2 val_main_call0_v4 val_main_call0_v3 val_main_call0_v2 val_main_call0_v1 val_main_call0_v0 val_main_v24 val_main_call0_cst val_main_call0_cst_0
  have hv := v23_at x1 x2 x3
  generalize val_main_v23 (F := Ideal) x1 x2 x3 = v at hv ⊢
  pointwise []
  exact congrArg₂ (· * ·) (congrArg (fun z => z * sgm z) (hv n (colg q))) (hv n (colu q))

theorem U_real (x1 : FVec Ideal S2048x1024 .f32) (x2 : FVec Ideal S1024x5632 .f32) (h1 : ∀ i, IsReal (x1 i)) (h2 : ∀ i, IsReal (x2 i)) (n : ℕ) (L : Fin 5632) : IsReal (Ue x1 x2 n L) := by
  unfold Ue U
  split
  · split
    · exact IsReal.sum _ _ fun k => (h1 _).mul (h2 _)
    · exact IsReal.zero
  · exact IsReal.zero

theorem CV_real (x1 : FVec Ideal S2048x1024 .f32) (x2 : FVec Ideal S1024x5632 .f32) (x3 : FVec Ideal S3x5632 .f32) (h1 : ∀ i, IsReal (x1 i)) (h2 : ∀ i, IsReal (x2 i)) (h3 : ∀ i, IsReal (x3 i)) (n : ℕ) (L : Fin 5632) :
    IsReal (CV x1 x2 x3 n L) :=
  (((U_real x1 x2 h1 h2 _ L).mul (h3 _)).add ((U_real x1 x2 h1 h2 _ L).mul (h3 _))).add ((U_real x1 x2 h1 h2 _ L).mul (h3 _))

theorem DA_real (x0 : FVec Ideal S2048x1024 .f32) (x4 : FVec Ideal S2816x1024 .f32) (h0 : ∀ i, IsReal (x0 i)) (h4 : ∀ i, IsReal (x4 i)) (n : ℕ) (q : Fin 2816) : IsReal (DA x0 x4 n q) := by
  unfold DA
  split
  · exact IsReal.sum _ _ fun k => (h0 _).mul (h4 _)
  · exact IsReal.zero

theorem DA_end (x0 : FVec Ideal S2048x1024 .f32) (x4 : FVec Ideal S2816x1024 .f32) (n : ℕ) (q : Fin 2816) (h : 2048 ≤ n) : DA x0 x4 n q = 0 := dif_neg (by omega)

theorem DG_end (x0 x1 : FVec Ideal S2048x1024 .f32) (x2 : FVec Ideal S1024x5632 .f32) (x3 : FVec Ideal S3x5632 .f32) (x4 : FVec Ideal S2816x1024 .f32) (n : ℕ) (q : Fin 2816) (h : 2048 ≤ n) : DG x0 x1 x2 x3 x4 n q = 0 := by
  unfold DG
  rw [DA_end x0 x4 n q h, zero_mul, zero_mul]

theorem DU_end (x0 x1 : FVec Ideal S2048x1024 .f32) (x2 : FVec Ideal S1024x5632 .f32) (x3 : FVec Ideal S3x5632 .f32) (x4 : FVec Ideal S2816x1024 .f32) (n : ℕ) (q : Fin 2816) (h : 2048 ≤ n) : DU x0 x1 x2 x3 x4 n q = 0 := by
  unfold DU
  rw [DA_end x0 x4 n q h, zero_mul]

/-- The convolution's gradient, its gate columns. -/
theorem v37_g (x0 x1 : FVec Ideal S2048x1024 .f32) (x2 : FVec Ideal S1024x5632 .f32) (x3 : FVec Ideal S3x5632 .f32) (x4 : FVec Ideal S2816x1024 .f32) (h0 : ∀ i, IsReal (x0 i)) (h1 : ∀ i, IsReal (x1 i)) (h2 : ∀ i, IsReal (x2 i)) (h3 : ∀ i, IsReal (x3 i)) (h4 : ∀ i, IsReal (x4 i)) (n : Fin 2048) (q : Fin 2816) :
    (show EReal from val_main_v37 (F := Ideal) x0 x1 x2 x3 x4 (ix2 n (colg q))) = DG x0 x1 x2 x3 x4 n.val q := by
  have hv := v23_at x1 x2 x3
  have hw := v31_at x0 x4
  have hc := CV_real x1 x2 x3 h1 h2 h3 n.val
  have hd := DA_real x0 x4 h0 h4 n.val q
  unfold val_main_v37 val_main_v36 val_main_v35 val_main_v34 val_main_v32 val_main_call1_v2 val_main_call1_v1 val_main_call1_v0 val_main_v33 val_main_v26 val_main_v25_0 val_main_v25_1 val_main_call0_v7 val_main_v25_2 val_main_call0_v6 val_main_call0_v4 val_main_call0_v3 val_main_call0_v2 val_main_call0_v1 val_main_call0_v0 val_main_v24 val_main_call0_cst val_main_call0_cst_0 val_main_call0_cst_1 val_main_cst_1 val_main_cst_2
  generalize val_main_v23 (F := Ideal) x1 x2 x3 = v at hv ⊢
  generalize val_main_v31 (F := Ideal) x0 x4 = w at hw ⊢
  pointwise []
  refine (congrArg₂ (· + ·) (dif_neg (show ¬(2816 ≤ q.val ∧ q.val - 2816 < 2816) by have := q.isLt; omega)) (dif_pos q.isLt)).trans ((zero_add _).trans ?_)
  refine Eq.trans ?_ (silu_grad _ _ _ (hc (colg q)) (hd.mul (hc (colu q))) (hc (colg q)).sgm)
  have e : ∀ d d' g g' : EReal, d = d' → g = g' → d * sgm g + g * d * (sgm g * (1 - sgm g)) = d' * sgm g' + g' * d' * (sgm g' * (1 - sgm g')) := by
    rintro d _ g _ rfl rfl
    rfl
  exact e _ _ _ _ (congrArg₂ (· * ·) (hw n q) (hv n (colu q))) (hv n (colg q))

theorem v37_u (x0 x1 : FVec Ideal S2048x1024 .f32) (x2 : FVec Ideal S1024x5632 .f32) (x3 : FVec Ideal S3x5632 .f32) (x4 : FVec Ideal S2816x1024 .f32) (n : Fin 2048) (q : Fin 2816) :
    (show EReal from val_main_v37 (F := Ideal) x0 x1 x2 x3 x4 (ix2 n (colu q))) = DU x0 x1 x2 x3 x4 n.val q := by
  have hv := v23_at x1 x2 x3
  have hw := v31_at x0 x4
  unfold val_main_v37 val_main_v36 val_main_v35 val_main_v34 val_main_v32 val_main_call1_v2 val_main_call1_v1 val_main_call1_v0 val_main_v33 val_main_v26 val_main_v25_0 val_main_v25_1 val_main_call0_v7 val_main_v25_2 val_main_call0_v6 val_main_call0_v4 val_main_call0_v3 val_main_call0_v2 val_main_call0_v1 val_main_call0_v0 val_main_v24 val_main_call0_cst val_main_call0_cst_0 val_main_call0_cst_1 val_main_cst_1 val_main_cst_2
  generalize val_main_v23 (F := Ideal) x1 x2 x3 = v at hv ⊢
  generalize val_main_v31 (F := Ideal) x0 x4 = w at hw ⊢
  pointwise []
  refine (congrArg₂ (· + ·) (dif_pos (show 2816 ≤ 2816 + q.val ∧ 2816 + q.val - 2816 < 2816 by have := q.isLt; omega)) (dif_neg (show ¬2816 + q.val < 2816 by omega))).trans ((add_zero _).trans ((mul_comm _ _).trans ?_))
  have e : ∀ (a : Fin 5632) (b : Fin 2816), a = colg q → b = q → (show EReal from w (ix2 n b)) * (v (ix2 n a) * sgm (v (ix2 n a))) = DU x0 x1 x2 x3 x4 n.val q := by
    rintro _ _ rfl rfl
    exact congrArg₂ (fun d g : EReal => d * (g * sgm g)) (hw n _) (hv n _)
  exact e _ _ (Fin.ext (by show 2816 + q.val - 2816 = q.val; omega)) (Fin.ext (by show 2816 + q.val - 2816 = q.val; omega))

/-- The gradient through the convolution, at a column whose cotangents are `D`. -/
theorem v70_at (x0 x1 : FVec Ideal S2048x1024 .f32) (x2 : FVec Ideal S1024x5632 .f32) (x3 : FVec Ideal S3x5632 .f32) (x4 : FVec Ideal S2816x1024 .f32) (D : ℕ → Fin 2816 → EReal) (col : Fin 2816 → Fin 5632) (q : Fin 2816)
    (hD : ∀ n : Fin 2048, (show EReal from val_main_v37 (F := Ideal) x0 x1 x2 x3 x4 (ix2 n (col q))) = D n.val q) (hz : ∀ n, 2048 ≤ n → D n q = 0) (n : Fin 2048) :
    (show EReal from val_main_v70 (F := Ideal) x0 x1 x2 x3 x4 (ix2 n (col q))) = back D x3 col n.val q := by
  unfold val_main_v70 val_main_v68 val_main_v67 val_main_v62 val_main_v61 val_main_v57 val_main_v56 val_main_v51 val_main_v50 val_main_v46 val_main_v42 val_main_v41 val_main_cst_14 val_main_cst_10 val_main_cst_6 val_main_v20 val_main_v19 val_main_v18 val_main_v13 val_main_v12 val_main_v11 val_main_v7 val_main_v6 val_main_v5
  generalize val_main_v37 (F := Ideal) x0 x1 x2 x3 x4 = v at hD ⊢
  unfold back
  generalize col q = L at hD ⊢
  pointwise []
  have e1 : (if h : 1 ≤ 2 + n.val ∧ 2 + n.val - 1 < 2048 then (show EReal from v (ix2 ⟨2 + n.val - 1, h.2⟩ L)) * x3 (ix2 1 L) else 0) = D (n.val + 1) q * x3 (ix2 1 L) := by
    split
    · rename_i h
      exact congrArg (· * _) ((hD _).trans (congrArg (D · q) (by show 2 + n.val - 1 = _; omega)))
    · rw [hz _ (by omega), zero_mul]
  have e0 : (if h : 2 + n.val < 2048 then (show EReal from v (ix2 ⟨2 + n.val, h⟩ L)) * x3 (ix2 0 L) else 0) = D (n.val + 2) q * x3 (ix2 0 L) := by
    split
    · rename_i h
      exact congrArg (· * _) ((hD _).trans (congrArg (D · q) (by show 2 + n.val = _; omega)))
    · rw [hz _ (by omega), zero_mul]
  exact (congrArg₂ (· + ·) (congrArg₂ (· + ·) (congrArg (· * _) (hD n)) e1) e0).trans ((add_comm _ _).trans ((congrArg (_ + ·) (add_comm _ _)).trans (add_assoc _ _ _).symm))

/-- The taps' gradient, at a column whose cotangents are `D`. -/
theorem v66_at (x0 x1 : FVec Ideal S2048x1024 .f32) (x2 : FVec Ideal S1024x5632 .f32) (x3 : FVec Ideal S3x5632 .f32) (x4 : FVec Ideal S2816x1024 .f32) (D : ℕ → Fin 2816 → EReal) (col : Fin 2816 → Fin 5632) (q : Fin 2816)
    (hD : ∀ n : Fin 2048, (show EReal from val_main_v37 (F := Ideal) x0 x1 x2 x3 x4 (ix2 n (col q))) = D n.val q) (k : Fin 3) :
    (show EReal from val_main_v66 (F := Ideal) x0 x1 x2 x3 x4 (ix2 k (col q))) = ∑ n : Fin 2048, D n.val q * Ue x1 x2 (n.val + 14 + k.val) (col q) := by
  have hw := v2_at x1 x2
  unfold val_main_v66 val_main_v65 val_main_v64 val_main_v63 val_main_v60 val_main_v59 val_main_v58 val_main_v55 val_main_v54 val_main_v53 val_main_v52 val_main_v49 val_main_v48 val_main_v47 val_main_v45 val_main_v44 val_main_v43 val_main_v40 val_main_v39 val_main_v38 val_main_v17 val_main_v10 val_main_v4 val_main_cst_13 val_main_cst_12 val_main_cst_11 val_main_cst_9 val_main_cst_8 val_main_cst_7 val_main_cst_5 val_main_cst_4 val_main_cst_3
  generalize val_main_v37 (F := Ideal) x0 x1 x2 x3 x4 = v at hD ⊢
  generalize val_main_v2 (F := Ideal) x1 x2 = w at hw ⊢
  generalize col q = L at hD ⊢
  have key : ∀ (r : Fin 2048 → Fin 2050), (∀ n, (r n).val = k.val + n.val) →
      ∑ _x : Fin 1, ∑ n : Fin 2048, (show EReal from w (ix2 (r n) L)) * v (ix2 n L) = ∑ n : Fin 2048, D n.val q * Ue x1 x2 (n.val + 14 + k.val) L := fun r hr => by
    rw [Fin.sum_univ_one]
    refine Finset.sum_congr rfl fun n _ => (mul_comm _ _).trans ?_
    exact congrArg₂ (· * ·) (hD n) ((hw _ L).trans (congrArg (Ue x1 x2 · L) (by rw [hr]; omega)))
  pointwise []
  have hk := k.isLt
  by_cases k2 : k.val = 2
  · refine (congrArg₂ (· + ·) (congrArg₂ (· + ·) (dif_pos (by omega)) (dif_neg (by omega))) (dif_neg (by omega))).trans ?_
    exact (add_zero _).trans ((add_zero _).trans (key _ fun n => by show 2 + n.val = _; omega))
  by_cases k1 : k.val = 1
  · refine (congrArg₂ (· + ·) (congrArg₂ (· + ·) (dif_neg (by omega)) (dif_pos (by omega))) (dif_neg (by omega))).trans ?_
    exact (add_zero _).trans ((zero_add _).trans (key _ fun n => by show 1 + n.val = _; omega))
  · refine (congrArg₂ (· + ·) (congrArg₂ (· + ·) (dif_neg (by omega)) (dif_neg (by omega))) (dif_pos (by omega))).trans ?_
    exact (congrArg (· + _) (add_zero _)).trans ((zero_add _).trans (key _ fun n => by show n.val = _; omega))

/-- A column's place: which half, which slab, which lane. -/
theorem col_at (o : Fin 2) (s : Fin 4) (l : Fin 704) (h : o.val * 2816 + s.val * 704 + l.val < 5632) (P : Fin 5632 → EReal) :
    P ⟨o.val * 2816 + s.val * 704 + l.val, h⟩ = pick o.val (P (colg (colq s.val l))) (P (colu (colq s.val l))) := by
  unfold pick
  split
  · rename_i ho
    refine congrArg P (Fin.ext ?_)
    show o.val * 2816 + s.val * 704 + l.val = (704 * s.val + l.val) % 2816
    omega
  · rename_i ho
    refine congrArg P (Fin.ext ?_)
    show o.val * 2816 + s.val * 704 + l.val = 2816 + (704 * s.val + l.val) % 2816
    omega

theorem ref12 (x0 x1 : FVec Ideal S2048x1024 .f32) (x2 : FVec Ideal S1024x5632 .f32) (x3 : FVec Ideal S3x5632 .f32) (x4 : FVec Ideal S2816x1024 .f32) (h0 : ∀ i, IsReal (x0 i)) (h1 : ∀ i, IsReal (x1 i)) (h2 : ∀ i, IsReal (x2 i)) (h3 : ∀ i, IsReal (x3 i)) (h4 : ∀ i, IsReal (x4 i)) (s : Fin 4) (o : Fin 2) (n : Fin 2048) (l : Fin 704) :
    (show EReal from val_main_v75 (F := Ideal) x0 x1 x2 x3 x4 (ix4 s o n l)) =
      pick o.val (back (DG x0 x1 x2 x3 x4) x3 colg n.val (colq s.val l)) (back (DU x0 x1 x2 x3 x4) x3 colu n.val (colq s.val l)) := by
  have hg := v70_at x0 x1 x2 x3 x4 (DG x0 x1 x2 x3 x4) colg (colq s.val l) (fun n => v37_g x0 x1 x2 x3 x4 h0 h1 h2 h3 h4 n _) (fun n h => DG_end x0 x1 x2 x3 x4 n _ h) n
  have hu := v70_at x0 x1 x2 x3 x4 (DU x0 x1 x2 x3 x4) colu (colq s.val l) (fun n => v37_u x0 x1 x2 x3 x4 n _) (fun n h => DU_end x0 x1 x2 x3 x4 n _ h) n
  unfold val_main_v75 val_main_v74 val_main_v73
  generalize val_main_v70 (F := Ideal) x0 x1 x2 x3 x4 = v at hg hu ⊢
  pointwise []
  exact (col_at o s l _ fun L => v (ix2 n L)).trans (congrArg₂ (pick o.val) hg hu)

theorem rowAt_fin (x : FVec Ideal S2048x1024 .f32) (n : Fin 2048) (k : Fin 1024) : rowAt x n.val k = x (ix2 n k) := dif_pos n.isLt

theorem ref13 (x0 x1 : FVec Ideal S2048x1024 .f32) (x2 : FVec Ideal S1024x5632 .f32) (x3 : FVec Ideal S3x5632 .f32) (q : Fin 2816) (k : Fin 1024) :
    (show EReal from val_main_v76 (F := Ideal) x0 x1 x2 x3 (ix2 q k)) =
      ∑ n : Fin 2048, CV x1 x2 x3 n.val (colg q) * sgm (CV x1 x2 x3 n.val (colg q)) * CV x1 x2 x3 n.val (colu q) * rowAt x0 n.val k := by
  have hv := v27_at x1 x2 x3
  unfold val_main_v76 val_main_v30 val_main_v29
  generalize val_main_v27 (F := Ideal) x1 x2 x3 = v at hv ⊢
  pointwise []
  exact Finset.sum_congr rfl fun n _ => (mul_comm _ _).trans (congrArg₂ (· * ·) (hv n q) (rowAt_fin _ n k).symm)

theorem ref14 (x0 x1 : FVec Ideal S2048x1024 .f32) (x2 : FVec Ideal S1024x5632 .f32) (x3 : FVec Ideal S3x5632 .f32) (x4 : FVec Ideal S2816x1024 .f32) (h0 : ∀ i, IsReal (x0 i)) (h1 : ∀ i, IsReal (x1 i)) (h2 : ∀ i, IsReal (x2 i)) (h3 : ∀ i, IsReal (x3 i)) (h4 : ∀ i, IsReal (x4 i)) (s : Fin 4) (o : Fin 2) (l : Fin 704) (k : Fin 1024) :
    (show EReal from val_main_v80 (F := Ideal) x0 x1 x2 x3 x4 (ix4 s o l k)) =
      pick o.val (∑ n : Fin 2048, back (DG x0 x1 x2 x3 x4) x3 colg n.val (colq s.val l) * rowAt x1 n.val k) (∑ n : Fin 2048, back (DU x0 x1 x2 x3 x4) x3 colu n.val (colq s.val l) * rowAt x1 n.val k) := by
  have hg := v70_at x0 x1 x2 x3 x4 (DG x0 x1 x2 x3 x4) colg (colq s.val l) (fun n => v37_g x0 x1 x2 x3 x4 h0 h1 h2 h3 h4 n _) (fun n h => DG_end x0 x1 x2 x3 x4 n _ h)
  have hu := v70_at x0 x1 x2 x3 x4 (DU x0 x1 x2 x3 x4) colu (colq s.val l) (fun n => v37_u x0 x1 x2 x3 x4 n _) (fun n h => DU_end x0 x1 x2 x3 x4 n _ h)
  unfold val_main_v80 val_main_v79 val_main_v78 val_main_v77 val_main_v72 val_main_v71
  generalize val_main_v70 (F := Ideal) x0 x1 x2 x3 x4 = v at hg hu ⊢
  pointwise []
  refine (col_at o s l _ fun L => ∑ n : Fin 2048, (show EReal from v (ix2 n L)) * x1 (ix2 n k)).trans (congrArg₂ (pick o.val) ?_ ?_)
  · exact Finset.sum_congr rfl fun n _ => congrArg₂ (· * ·) (hg n) (rowAt_fin _ n k).symm
  · exact Finset.sum_congr rfl fun n _ => congrArg₂ (· * ·) (hu n) (rowAt_fin _ n k).symm

theorem ref15 (x0 x1 : FVec Ideal S2048x1024 .f32) (x2 : FVec Ideal S1024x5632 .f32) (x3 : FVec Ideal S3x5632 .f32) (x4 : FVec Ideal S2816x1024 .f32) (h0 : ∀ i, IsReal (x0 i)) (h1 : ∀ i, IsReal (x1 i)) (h2 : ∀ i, IsReal (x2 i)) (h3 : ∀ i, IsReal (x3 i)) (h4 : ∀ i, IsReal (x4 i)) (s : Fin 4) (o : Fin 2) (k : Fin 3) (l : Fin 704) :
    (show EReal from val_main_v82 (F := Ideal) x0 x1 x2 x3 x4 (ix4 s o k l)) =
      pick o.val (∑ n : Fin 2048, DG x0 x1 x2 x3 x4 n.val (colq s.val l) * Ue x1 x2 (n.val + 14 + k.val) (colg (colq s.val l)))
        (∑ n : Fin 2048, DU x0 x1 x2 x3 x4 n.val (colq s.val l) * Ue x1 x2 (n.val + 14 + k.val) (colu (colq s.val l))) := by
  have hg := v66_at x0 x1 x2 x3 x4 (DG x0 x1 x2 x3 x4) colg (colq s.val l) (fun n => v37_g x0 x1 x2 x3 x4 h0 h1 h2 h3 h4 n _) k
  have hu := v66_at x0 x1 x2 x3 x4 (DU x0 x1 x2 x3 x4) colu (colq s.val l) (fun n => v37_u x0 x1 x2 x3 x4 n _) k
  unfold val_main_v82 val_main_v81
  generalize val_main_v66 (F := Ideal) x0 x1 x2 x3 x4 = v at hg hu ⊢
  pointwise []
  exact (col_at o s l _ fun L => v (ix2 k L)).trans (congrArg₂ (pick o.val) hg hu)

end Cert.FfnKIdeal.Value

end
-- ==== Proof.Ffn.Claim.lean ====
module

public import proofs.«01_k».proof.Proof.Ffn.Ref
public import proofs.«01_k».proof.Proof.Gen.FfnK.Frame
public import proofs.«01_k».proof.Proof.Gen.FfnRIdeal.Run
public import proofs.«01_k».proof.Defs

@[expose] public section

set_option maxRecDepth 16384

noncomputable section

namespace Cert.Proof.Ffn

open Idealize.ShloMosaic Idealize.SL.Sem

theorem frame_k : Cert.quiescent_FfnK (hFfnK := Cert.FfnK.Gen.facts) := fun m ρ _ => Cert.FfnK.Gen.frame m ρ

theorem frame_ki : Cert.quiescent_FfnKIdeal (hFfnKIdeal := Cert.FfnKIdeal.Gen.facts) := fun m ρ _ => Cert.FfnKIdeal.Gen.frame m ρ

theorem frame_kip [h : Cert.Pre_ffnb_finite.Facts] : Cert.quiescent_FfnKIdeal_pre_ffnb_finite (hFfnKIdeal := Cert.FfnKIdeal.Gen.facts) (hPre_ffnb_finite := h) :=
  fun m ρ _ => Cert.FfnKIdeal.Gen.frame m ρ

theorem frame_r : Cert.quiescent_FfnRIdeal (hFfnRIdeal := Cert.FfnRIdeal.Gen.facts) := fun m g _ =>
  (θ_run _ _ _).mono (fun r h => ⟨fun c => (h c).2.2.2.2, Idealize.ShloMosaic.sem_eq_zero_of_no_sems (by decide) r.2⟩) (Cert.FfnRIdeal.Value.run m g)

theorem frame_rp [h : Cert.Pre_ffnb_finite.Facts] : Cert.quiescent_FfnRIdeal_pre_ffnb_finite (hFfnRIdeal := Cert.FfnRIdeal.Gen.facts) (hPre_ffnb_finite := h) :=
  fun m g _ => frame_r m g trivial

theorem algebraic [h : Cert.Pre_ffnb_finite.Facts] :
    Cert.algebraic_FfnKIdeal_FfnRIdeal_pre_ffnb_finite (hFfnKIdeal := Cert.FfnKIdeal.Gen.facts) (hFfnRIdeal := Cert.FfnRIdeal.Gen.facts) (hPre_ffnb_finite := h) := by
  pair_intro
  · run_from Cert.FfnKIdeal.Value.run_blocks m g
  · refine (θ_run _ _ _).mono (fun r h c => ?_) (Cert.FfnRIdeal.Value.run m' g')
    obtain ⟨h0, h1, h2, h3, hk⟩ := h c
    obtain ⟨a0, a1, a2, a3, a4⟩ := hagree c
    obtain ⟨p0, p1, p2, p3, p4⟩ := hpre c
    have f0 := Reals.fin_of_pre _ _ (fun _ => rfl) p0
    have f1 := Reals.fin_of_pre _ _ (fun _ => rfl) p1
    have f2 := Reals.fin_of_pre _ _ (fun _ => rfl) p2
    have f3 := Reals.fin_of_pre _ _ (fun _ => rfl) p3
    have f4 := Reals.fin_of_pre _ _ (fun _ => rfl) p4
    refine ⟨h0.trans ((Cert.FfnRIdeal.Read.val_main_v75_eq _ _).trans ?_), h1.trans ((Cert.FfnRIdeal.Read.val_main_v76_eq _ _).trans ?_),
      h2.trans ((Cert.FfnRIdeal.Read.val_main_v80_eq _ _).trans ?_), h3.trans ((Cert.FfnRIdeal.Read.val_main_v82_eq _ _).trans ?_), hk⟩
    · show Cert.FfnRIdeal.Read.val_main_v75 (F := Ideal) (m' (c.tc.loc Cert.FfnRIdeal.main_arg0)) (m' (c.tc.loc Cert.FfnRIdeal.main_arg1)) (m' (c.tc.loc Cert.FfnRIdeal.main_arg2)) (m' (c.tc.loc Cert.FfnRIdeal.main_arg3)) (m' (c.tc.loc Cert.FfnRIdeal.main_arg4)) = _
      rw [a0, a1, a2, a3, a4]
      refine Eq.trans (funext fun y => ?_) (Cert.FfnKIdeal.Value.final12 m c).symm
      idx_vars y
      exact Cert.FfnKIdeal.Value.ref12 _ _ _ _ _ f0 f1 f2 f3 f4 _ _ _ _
    · show Cert.FfnRIdeal.Read.val_main_v76 (F := Ideal) (m' (c.tc.loc Cert.FfnRIdeal.main_arg0)) (m' (c.tc.loc Cert.FfnRIdeal.main_arg1)) (m' (c.tc.loc Cert.FfnRIdeal.main_arg2)) (m' (c.tc.loc Cert.FfnRIdeal.main_arg3)) = _
      rw [a0, a1, a2, a3]
      refine Eq.trans (funext fun y => ?_) (Cert.FfnKIdeal.Value.final13 m c).symm
      idx_vars y
      exact Cert.FfnKIdeal.Value.ref13 _ _ _ _ _ _
    · show Cert.FfnRIdeal.Read.val_main_v80 (F := Ideal) (m' (c.tc.loc Cert.FfnRIdeal.main_arg0)) (m' (c.tc.loc Cert.FfnRIdeal.main_arg1)) (m' (c.tc.loc Cert.FfnRIdeal.main_arg2)) (m' (c.tc.loc Cert.FfnRIdeal.main_arg3)) (m' (c.tc.loc Cert.FfnRIdeal.main_arg4)) = _
      rw [a0, a1, a2, a3, a4]
      refine Eq.trans (funext fun y => ?_) (Cert.FfnKIdeal.Value.final14 m c).symm
      idx_vars y
      exact Cert.FfnKIdeal.Value.ref14 _ _ _ _ _ f0 f1 f2 f3 f4 _ _ _ _
    · show Cert.FfnRIdeal.Read.val_main_v82 (F := Ideal) (m' (c.tc.loc Cert.FfnRIdeal.main_arg0)) (m' (c.tc.loc Cert.FfnRIdeal.main_arg1)) (m' (c.tc.loc Cert.FfnRIdeal.main_arg2)) (m' (c.tc.loc Cert.FfnRIdeal.main_arg3)) (m' (c.tc.loc Cert.FfnRIdeal.main_arg4)) = _
      rw [a0, a1, a2, a3, a4]
      refine Eq.trans (funext fun y => ?_) (Cert.FfnKIdeal.Value.final15 m c).symm
      idx_vars y
      exact Cert.FfnKIdeal.Value.ref15 _ _ _ _ _ f0 f1 f2 f3 f4 _ _ _ _

end Cert.Proof.Ffn

end
-- ==== Proof.Loss.Reads.lean ====
module

public import proofs.«01_k».proof.Proof.Gen.LossKIdeal.Frame
public import proofs.«01_k».proof.Proof.Gen.LossRIdeal.Read
public import proofs.«01_k».proof.Proof.Reals
public import proofs.«01_k».proof.Proof.Conv.Value
public import proofs.«01_k».proof.Proof.Ffn.Value
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.LossKIdeal.Value

open Cert.LossKIdeal Cert.LossKIdeal.Gen
open Cert.FfnKIdeal.Value (U Ue CV colg colu colq)

open Reals

variable (m : (ℓ : Loc nD τ sig) → Buf (Elt Ideal) ℓ)
open Cert.ConvKIdeal.Value (row_eq)

/-- Every window's block at a point: the point is four times the block of rows plus the slab. -/
theorem idx : ∀ t : Fin cfg0.N, win0_0.index t = ![t.val / 4, 0] ∧ win0_1.index t = ![t.val / 4 * 32 - 1, 0] ∧ win0_2.index t = ![t.val / 4, 0] ∧
    win0_3.index t = ![t.val % 4, 0, 0] ∧ win0_4.index t = ![t.val % 4 + 4, 0, 0] ∧ win0_5.index t = ![t.val % 4, 0, 0] ∧ win0_6.index t = ![t.val % 4 + 4, 0, 0] ∧
    win0_7.index t = ![t.val % 4, 0] ∧ win0_8.index t = ![0, 0] ∧ win0_9.index t = ![t.val / 4, 0] ∧ win0_10.index t = ![t.val / 4, 0] ∧
    win0_11.index t = ![t.val / 4, 0] ∧ win0_12.index t = ![0, 0] ∧ win0_13.index t = ![0, 0] ∧ win0_14.index t = ![t.val % 4, t.val / 4, 0] ∧
    win0_15.index t = ![t.val % 4, t.val / 4, 0] ∧ t.val < 16 :=
  (by decide +kernel : ∀ t : Fin grid0.N, _)

abbrev a0 (c : Dev nD) : FVec Ideal S2048x1024 .f32 := m ((c : Thread nD τ).loc main_arg0)
abbrev a1 (c : Dev nD) : FVec Ideal S2048x1024 .f32 := m ((c : Thread nD τ).loc main_arg1)
abbrev a2 (c : Dev nD) : FVec Ideal S1024x5632 .f32 := m ((c : Thread nD τ).loc main_arg2)
abbrev a3 (c : Dev nD) : FVec Ideal S3x5632 .f32 := m ((c : Thread nD τ).loc main_arg3)
abbrev a4 (c : Dev nD) : FVec Ideal S2816x1024 .f32 := m ((c : Thread nD τ).loc main_arg4)
abbrev a5 (c : Dev nD) : FVec Ideal S1024 .f32 := m ((c : Thread nD τ).loc main_arg5)
abbrev a6 (c : Dev nD) : FVec Ideal S2048x1024 .f32 := m ((c : Thread nD τ).loc main_arg6)

theorem h_at (c : Dev nD) (t : Fin cfg0.N) (r : Fin 512) (l : Fin 1024) (r' : Fin 2048) (hr : (r' : ℕ) = 512 * (t.val / 4) + r) :
    (iblk m c 0 t : FVec Ideal S512x1024 .bf16) (ix2 r l) = a0 m c (ix2 r' l) := by
  blk_simp [iblk]
  unfold V hostOps0
  after_reads_at
  blk_ext [idx t]

theorem hp_at (c : Dev nD) (t : Fin cfg0.N) (h : 0 < t.val / 4) (r : Fin 16) (l : Fin 1024) (r' : Fin 2048) (hr : (r' : ℕ) + 16 = 512 * (t.val / 4) + r) :
    (iblk m c 1 t : FVec Ideal S16x1024 .bf16) (ix2 r l) = a0 m c (ix2 r' l) := by
  blk_simp [iblk]
  unfold V hostOps0
  after_reads_at
  blk_ext [idx t]

theorem x1_at (c : Dev nD) (t : Fin cfg0.N) (r : Fin 512) (l : Fin 1024) (r' : Fin 2048) (hr : (r' : ℕ) = 512 * (t.val / 4) + r) :
    (iblk m c 2 t : FVec Ideal S512x1024 .f32) (ix2 r l) = a1 m c (ix2 r' l) := by
  blk_ext [iblk, V, idx t]

theorem tg_at (c : Dev nD) (t : Fin cfg0.N) (r : Fin 512) (l : Fin 1024) (r' : Fin 2048) (hr : (r' : ℕ) = 512 * (t.val / 4) + r) :
    (iblk m c 9 t : FVec Ideal S512x1024 .f32) (ix2 r l) = a6 m c (ix2 r' l) := by
  blk_ext [iblk, V, idx t]

theorem fw_at (c : Dev nD) (t : Fin cfg0.N) (l : Fin 1024) :
    (iblk m c 8 t : FVec Ideal S1x1024 .f32) (ix2 0 l) = a5 m c (ix1 l) := by
  blk_simp [iblk]
  unfold V hostOps0
  after_reads_at
  blk_ext [idx t]

theorem wg_at (c : Dev nD) (t : Fin cfg0.N) (l : Fin 704) (k : Fin 1024) (L : Fin 5632) (hL : (L : ℕ) = 704 * (t.val % 4) + l) :
    (iblk m c 3 t : FVec Ideal S1x704x1024 .bf16) (ix3 0 l k) = a2 m c (ix2 k L) := by
  blk_simp [iblk]
  unfold V hostOps0
  after_reads_at
  blk_ext [idx t]

theorem wu_at (c : Dev nD) (t : Fin cfg0.N) (l : Fin 704) (k : Fin 1024) (L : Fin 5632) (hL : (L : ℕ) = 2816 + 704 * (t.val % 4) + l) :
    (iblk m c 4 t : FVec Ideal S1x704x1024 .bf16) (ix3 0 l k) = a2 m c (ix2 k L) := by
  blk_simp [iblk]
  unfold V hostOps0
  after_reads_at
  blk_ext [idx t]

theorem cg_at (c : Dev nD) (t : Fin cfg0.N) (k : Fin 3) (l : Fin 704) (L : Fin 5632) (hL : (L : ℕ) = 704 * (t.val % 4) + l) :
    (iblk m c 5 t : FVec Ideal S1x3x704 .f32) (ix3 0 k l) = a3 m c (ix2 k L) := by
  blk_simp [iblk]
  unfold V hostOps0
  after_reads_at
  blk_ext [idx t]

theorem cu_at (c : Dev nD) (t : Fin cfg0.N) (k : Fin 3) (l : Fin 704) (L : Fin 5632) (hL : (L : ℕ) = 2816 + 704 * (t.val % 4) + l) :
    (iblk m c 6 t : FVec Ideal S1x3x704 .f32) (ix3 0 k l) = a3 m c (ix2 k L) := by
  blk_simp [iblk]
  unfold V hostOps0
  after_reads_at
  blk_ext [idx t]

theorem wd_at (c : Dev nD) (t : Fin cfg0.N) (r : Fin 704) (l : Fin 1024) (r' : Fin 2816) (hr : (r' : ℕ) = 704 * (t.val % 4) + r) :
    (iblk m c 7 t : FVec Ideal S704x1024 .bf16) (ix2 r l) = a4 m c (ix2 r' l) := by
  blk_simp [iblk]
  unfold V hostOps0
  after_reads_at
  blk_ext [idx t]

theorem coord0 (t : Fin cfg0.N) : (grid0.coords t 0).val = t.val / 4 :=
  (by decide +kernel : ∀ t : Fin grid0.N, (grid0.coords t 0).val = t.val / 4) t

theorem keep_eq (t : Fin cfg0.N) (p : Fin 528) (x : EReal) :
    Scalar.select (IntOp.ori (Scalar.cmpi .sgt (BitVec.ofNat 32 (grid0.coords t 0).val) 0#32) (IntOp.cmpi .sge (BitVec.ofNat 32 p.val) 16#32)) x 0 =
      if 0 < t.val / 4 ∨ 16 ≤ p.val then x else 0 := by
  have h1 : ∀ n : Fin 4, Scalar.cmpi .sgt (BitVec.ofNat 32 n.val) 0#32 = if 0 < n.val then 1#1 else 0#1 := by decide
  have h2 : ∀ p : Fin 528, IntOp.cmpi .sge (BitVec.ofNat 32 p.val) 16#32 = if 16 ≤ p.val then 1#1 else 0#1 := by decide +kernel
  have ht : t.val < 16 := t.isLt
  rw [coord0 t, h1 ⟨t.val / 4, by omega⟩, h2 p]
  by_cases ha : 0 < t.val / 4 <;> by_cases hb : 16 ≤ p.val <;> simp only [ha, hb, if_true, if_false, or_true, true_or, or_self] <;> rfl

/-- The rows of the normed input the up projection reads, sixteen before the block first. -/
theorem rows_at (c : Dev nD) (t : Fin cfg0.N) (p : Fin 528) (k : Fin 1024) (h : 0 < t.val / 4 ∨ 16 ≤ p.val) (n : Fin 2048) (hn : (n : ℕ) + 16 = 512 * (t.val / 4) + p) :
    (show EReal from k0_pay17 (F := Ideal) (iblk m c 1 t) (iblk m c 0 t) (ix2 p k)) = a0 m c (ix2 n k) := by
  pointwise [k0_pay17]
  by_cases h16 : p.val < 16
  · simp only [dif_pos h16]
    exact hp_at m c t (by omega) ⟨p, h16⟩ k n (by simp only []; omega)
  · simp only [dif_neg h16]
    exact h_at m c t ⟨p - 16, by omega⟩ k n (by simp only []; omega)

theorem gu_at (c : Dev nD) (t : Fin cfg0.N) (p : Fin 528) (l : Fin 704) (L : Fin 5632) (hL : (L : ℕ) = 704 * (t.val % 4) + l) (h : 0 < t.val / 4 ∨ 16 ≤ p.val) :
    (show EReal from k0_pay19 (F := Ideal) (iblk m c 1 t) (iblk m c 0 t) (iblk m c 3 t) (ix2 p l)) = Ue (a0 m c) (a2 m c) (512 * (t.val / 4) + p) L := by
  have ht : t.val < 16 := t.isLt
  refine Eq.trans ?_ ((if_pos (by omega)).trans (dif_pos (by omega))).symm
  unfold k0_pay19
  have hr := fun k => rows_at m c t p k h ⟨512 * (t.val / 4) + p - 16, by omega⟩ (by simp only []; omega)
  generalize k0_pay17 (F := Ideal) (iblk m c 1 t) (iblk m c 0 t) = v at hr ⊢
  pointwise []
  exact Finset.sum_congr rfl fun k _ => congrArg₂ (· * ·) (hr k) (wg_at m c t l k L hL)

theorem uu_at (c : Dev nD) (t : Fin cfg0.N) (p : Fin 528) (l : Fin 704) (L : Fin 5632) (hL : (L : ℕ) = 2816 + 704 * (t.val % 4) + l) (h : 0 < t.val / 4 ∨ 16 ≤ p.val) :
    (show EReal from k0_pay25 (F := Ideal) (k0_pay17 (iblk m c 1 t) (iblk m c 0 t)) (iblk m c 4 t) (ix2 p l)) = Ue (a0 m c) (a2 m c) (512 * (t.val / 4) + p) L := by
  have ht : t.val < 16 := t.isLt
  refine Eq.trans ?_ ((if_pos (by omega)).trans (dif_pos (by omega))).symm
  unfold k0_pay25
  have hr := fun k => rows_at m c t p k h ⟨512 * (t.val / 4) + p - 16, by omega⟩ (by simp only []; omega)
  generalize k0_pay17 (F := Ideal) (iblk m c 1 t) (iblk m c 0 t) = v at hr ⊢
  pointwise []
  exact Finset.sum_congr rfl fun k _ => congrArg₂ (· * ·) (hr k) (wu_at m c t l k L hL)

theorem Ue_zero (x1 : FVec Ideal S2048x1024 .f32) (x2 : FVec Ideal S1024x5632 .f32) (k : ℕ) (L : Fin 5632) (h : k < 16) : Ue x1 x2 k L = 0 := if_neg (by omega)

theorem ge_at (c : Dev nD) (t : Fin cfg0.N) (p : Fin 528) (l : Fin 704) (L : Fin 5632) (hL : (L : ℕ) = 704 * (t.val % 4) + l) :
    (show EReal from k0_pay22 (F := Ideal) (grid0.coords t) (iblk m c 1 t) (iblk m c 0 t) (iblk m c 3 t) (ix2 p l)) = Ue (a0 m c) (a2 m c) (512 * (t.val / 4) + p) L := by
  have hg := gu_at m c t p l L hL
  unfold k0_pay22
  generalize k0_pay19 (F := Ideal) (iblk m c 1 t) (iblk m c 0 t) (iblk m c 3 t) = v at hg ⊢
  pointwise [k0_pay18]
  refine (keep_eq t p _).trans ?_
  by_cases h : 0 < t.val / 4 ∨ 16 ≤ p.val
  · exact (if_pos h).trans (hg h)
  · exact (if_neg h).trans (Ue_zero _ _ _ L (by omega)).symm

end Cert.LossKIdeal.Value

end
-- ==== Proof.Loss.Point.lean ====
module

public import proofs.«01_k».proof.Proof.Gen.LossKIdeal.Frame
public import proofs.«01_k».proof.Proof.Gen.LossRIdeal.Read
public import proofs.«01_k».proof.Proof.Reals
public import proofs.«01_k».proof.Proof.Conv.Value
public import proofs.«01_k».proof.Proof.Loss.Reads
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.LossKIdeal.Value

open Cert.LossKIdeal Cert.LossKIdeal.Gen
open Cert.FfnKIdeal.Value (U Ue CV colg colu colq)

open Reals

variable (m : (ℓ : Loc nD τ sig) → Buf (Elt Ideal) ℓ)
open Cert.FfnKIdeal.Value (rowAt)

/-- The gated activation. -/
def AC (x1 : FVec Ideal S2048x1024 .f32) (x2 : FVec Ideal S1024x5632 .f32) (x3 : FVec Ideal S3x5632 .f32) (n : ℕ) (q : Fin 2816) : EReal :=
  CV x1 x2 x3 n (colg q) * sgm (CV x1 x2 x3 n (colg q)) * CV x1 x2 x3 n (colu q)

abbrev gB (c : Dev nD) (t : Fin cfg0.N) : FVec Ideal S512x704 .f32 :=
  k0_pay28 (F := Ideal) (k0_pay21 (iblk m c 5 t)) (k0_pay23 (grid0.coords t) (iblk m c 1 t) (iblk m c 0 t) (iblk m c 3 t) (iblk m c 5 t)) (k0_pay24 (grid0.coords t) (iblk m c 1 t) (iblk m c 0 t) (iblk m c 3 t))
abbrev uB (c : Dev nD) (t : Fin cfg0.N) : FVec Ideal S512x704 .f32 :=
  k0_pay27 (F := Ideal) (k0_pay17 (iblk m c 1 t) (iblk m c 0 t)) (k0_pay18 (grid0.coords t)) (iblk m c 4 t) (iblk m c 6 t)
abbrev pB (c : Dev nD) (t : Fin cfg0.N) : FVec Ideal S512x1024 .f32 := k0_pay1 (F := Ideal) (uB m c t) (gB m c t) (iblk m c 7 t)

theorem gB_at (c : Dev nD) (t : Fin cfg0.N) (r : Fin 512) (l : Fin 704) (q : Fin 2816) (hq : (q : ℕ) = 704 * (t.val % 4) + l) (n : ℕ) (hn : n = 512 * (t.val / 4) + r) :
    (show EReal from gB m c t (ix2 r l)) = CV (a0 m c) (a2 m c) (a3 m c) n (colg q) * sgm (CV (a0 m c) (a2 m c) (a3 m c) n (colg q)) := by
  unfold gB
  have hg := fun p => ge_at m c t p l (colg q) hq
  unfold k0_pay28 k0_pay23 k0_pay24
  generalize k0_pay22 (F := Ideal) (grid0.coords t) (iblk m c 1 t) (iblk m c 0 t) (iblk m c 3 t) = v at hg ⊢
  have hw := fun k => cg_at m c t k l (colg q) hq
  generalize (iblk m c 5 t : FVec Ideal S1x3x704 .f32) = w at hw ⊢
  pointwise [k0_pay21]
  have e : ∀ (p : ℕ) (hp : p < 528) (n' : ℕ) (_ : n' = 512 * (t.val / 4) + p), (show EReal from v (ix2 ⟨p, hp⟩ l)) = Ue (a0 m c) (a2 m c) n' (colg q) := by
    rintro p hp _ rfl
    exact hg ⟨p, hp⟩
  simp only [zero_sub]
  have hc : ∀ x y z : EReal, x = y → y = z → x * Ideal.div 1 (1 + Ideal.exp (-x)) = z * sgm z := by
    rintro x _ _ rfl rfl
    rfl
  refine hc _ _ _ (congrArg₂ (· + ·) (congrArg₂ (· + ·)
    (congrArg₂ (· * ·) (e _ _ (n + 14) (by omega)) (hw 0)) (congrArg₂ (· * ·) (e _ _ (n + 15) (by omega)) (hw 1)))
    (congrArg₂ (· * ·) (e _ _ (n + 16) (by omega)) (hw 2))) rfl

theorem uB_at (c : Dev nD) (t : Fin cfg0.N) (r : Fin 512) (l : Fin 704) (q : Fin 2816) (hq : (q : ℕ) = 704 * (t.val % 4) + l) (n : ℕ) (hn : n = 512 * (t.val / 4) + r) :
    (show EReal from uB m c t (ix2 r l)) = CV (a0 m c) (a2 m c) (a3 m c) n (colu q) := by
  unfold uB
  have hg := fun p => uu_at m c t p l (colu q) (by show 2816 + q.val = _; omega)
  unfold k0_pay27
  generalize k0_pay25 (F := Ideal) (k0_pay17 (iblk m c 1 t) (iblk m c 0 t)) (iblk m c 4 t) = v at hg ⊢
  have hw := fun k => cu_at m c t k l (colu q) (by show 2816 + q.val = _; omega)
  generalize (iblk m c 6 t : FVec Ideal S1x3x704 .f32) = w at hw ⊢
  pointwise [k0_pay18]
  have e : ∀ (p : ℕ) (hp : p < 528) (n' : ℕ) (_ : n' = 512 * (t.val / 4) + p) (k : Fin 3),
      Scalar.select (IntOp.ori (Scalar.cmpi .sgt (BitVec.ofNat 32 (grid0.coords t 0).val) 0#32) (IntOp.cmpi .sge (BitVec.ofNat 32 p) 16#32)) ((show EReal from v (ix2 ⟨p, hp⟩ l)) * w (ix3 0 k l)) 0 =
        Ue (a0 m c) (a2 m c) n' (colu q) * a3 m c (ix2 k (colu q)) := by
    rintro p hp _ rfl k
    refine (keep_eq t ⟨p, hp⟩ _).trans ?_
    by_cases h : 0 < t.val / 4 ∨ 16 ≤ p
    · exact (if_pos h).trans (congrArg₂ (· * ·) (hg ⟨p, hp⟩ h) (hw k))
    · refine (if_neg h).trans ?_
      rw [Ue_zero _ _ _ _ (by omega), zero_mul]
  exact congrArg₂ (· + ·) (congrArg₂ (· + ·) (e _ _ (n + 14) (by omega) 0) (e _ _ (n + 15) (by omega) 1)) (e _ _ (n + 16) (by omega) 2)

theorem pB_at (c : Dev nD) (t : Fin cfg0.N) (r : Fin 512) (k : Fin 1024) (n : ℕ) (hn : n = 512 * (t.val / 4) + r) :
    (show EReal from pB m c t (ix2 r k)) = ∑ l : Fin 704, AC (a0 m c) (a2 m c) (a3 m c) n (colq (t.val % 4) l) * a4 m c (ix2 (colq (t.val % 4) l) k) := by
  have hq : ∀ l, ((colq (t.val % 4) l : Fin 2816) : ℕ) = 704 * (t.val % 4) + l := fun l => by
    show (704 * (t.val % 4) + l.val) % 2816 = _
    omega
  unfold pB
  have hg := fun l => gB_at m c t r l _ (hq l) n hn
  have hu := fun l => uB_at m c t r l _ (hq l) n hn
  generalize gB m c t = v at hg ⊢
  generalize uB m c t = w at hu ⊢
  pointwise [k0_pay1]
  refine Finset.sum_congr rfl fun l _ => congrArg₂ (· * ·) (congrArg₂ (· * ·) (hg l) (hu l)) (wd_at m c t l k _ (hq l))

/-- A slab's part of the down projection. -/
def PT (x1 : FVec Ideal S2048x1024 .f32) (x2 : FVec Ideal S1024x5632 .f32) (x3 : FVec Ideal S3x5632 .f32) (x4 : FVec Ideal S2816x1024 .f32) (n s : ℕ) (k : Fin 1024) : EReal :=
  ∑ l : Fin 704, AC x1 x2 x3 n (colq s l) * x4 (ix2 (colq s l) k)

/-- The residual row after the slabs. -/
def XX (x0 x1 : FVec Ideal S2048x1024 .f32) (x2 : FVec Ideal S1024x5632 .f32) (x3 : FVec Ideal S3x5632 .f32) (x4 : FVec Ideal S2816x1024 .f32) (n : ℕ) (k : Fin 1024) : EReal :=
  rowAt x1 n k + PT x0 x2 x3 x4 n 0 k + PT x0 x2 x3 x4 n 1 k + PT x0 x2 x3 x4 n 2 k + PT x0 x2 x3 x4 n 3 k

theorem skip_at (c : Dev nD) (t : Fin cfg0.N) (r : Fin 512) (k : Fin 1024) :
    (iblk m c 2 t : FVec Ideal S512x1024 .f32) (ix2 r k) = rowAt (a1 m c) (512 * (t.val / 4) + r) k := by
  have ht : t.val < 16 := t.isLt
  exact (x1_at m c t r k ⟨512 * (t.val / 4) + r, by omega⟩ rfl).trans (Cert.FfnKIdeal.Value.rowAt_of _ _ k ⟨512 * (t.val / 4) + r, by omega⟩ rfl).symm

theorem pay2_at (v72 v80 : FVec Ideal S512x704 .f32) (v83 : FVec Ideal S704x1024 .bf16) (v97 : FVec Ideal S512x1024 .f32) (r : Fin 512) (k : Fin 1024) :
    (show EReal from k0_pay2 (F := Ideal) v72 v80 v83 v97 (ix2 r k)) = v97 (ix2 r k) + k0_pay1 (F := Ideal) v72 v80 v83 (ix2 r k) := by
  unfold k0_pay2
  generalize k0_pay1 (F := Ideal) v72 v80 v83 = w
  pointwise []

theorem pay3_at (v72 v80 : FVec Ideal S512x704 .f32) (v83 : FVec Ideal S704x1024 .bf16) (v97 : FVec Ideal S512x1024 .f32) (r : Fin 512) (k : Fin 1024) :
    (show EReal from k0_pay3 (F := Ideal) v72 v80 v83 v97 (ix2 r k)) = v97 (ix2 r k) + k0_pay1 (F := Ideal) v72 v80 v83 (ix2 r k) := by
  unfold k0_pay3
  generalize k0_pay1 (F := Ideal) v72 v80 v83 = w
  pointwise []

abbrev scr (c : Dev nD) (n : ℕ) (h : n < cfg0.N) : FVec Ideal S512x1024 .f32 := (outsAt0 m c n h).2.2.2.2.2.2

theorem scr0 (c : Dev nD) (t : Fin cfg0.N) (h0 : t.val % 4 = 0) (r : Fin 512) (k : Fin 1024) :
    (show EReal from scr m c t.val t.isLt (ix2 r k)) = rowAt (a1 m c) (512 * (t.val / 4) + r) k + PT (a0 m c) (a2 m c) (a3 m c) (a4 m c) (512 * (t.val / 4) + r) (t.val % 4) k := by
  unfold scr
  rw [outsAt0_A m c t h0 (by omega) (by omega)]
  frame_out
  exact (pay2_at _ _ _ _ r k).trans (congrArg₂ (· + ·) (skip_at m c t r k) (pB_at m c t r k _ rfl))

theorem scr1 (c : Dev nD) (t : Fin cfg0.N) (h1 : 1 ≤ t.val % 4 ∧ t.val % 4 ≤ 2) (r : Fin 512) (k : Fin 1024) :
    (show EReal from scr m c t.val t.isLt (ix2 r k)) = scr m c (t.val - 1) (by have := t.isLt; omega) (ix2 r k) + PT (a0 m c) (a2 m c) (a3 m c) (a4 m c) (512 * (t.val / 4) + r) (t.val % 4) k := by
  unfold scr
  rw [outsAt0_B m c t (by omega) h1 (by omega)]
  frame_out
  rw [read_unread_whole]
  exact (pay3_at _ _ _ _ r k).trans (congrArg (_ + ·) (pB_at m c t r k _ rfl))

/-- The residual row at a row block's last point. -/
abbrev xB (c : Dev nD) (t : Fin cfg0.N) : FVec Ideal S512x1024 .f32 := k0_pay9 (F := Ideal) (pB m c t) (scr m c (t.val - 1) (by have := t.isLt; omega))

theorem xB_at (c : Dev nD) (t : Fin cfg0.N) (h : t.val % 4 = 3) (r : Fin 512) (k : Fin 1024) :
    (show EReal from xB m c t (ix2 r k)) = XX (a0 m c) (a1 m c) (a2 m c) (a3 m c) (a4 m c) (512 * (t.val / 4) + r) k := by
  have ht : t.val < 16 := t.isLt
  have p2 := scr1 m c ⟨t.val - 1, by omega⟩ (by show 1 ≤ (t.val - 1) % 4 ∧ (t.val - 1) % 4 ≤ 2; omega) r k
  have p1 := scr1 m c ⟨t.val - 1 - 1, by omega⟩ (by show 1 ≤ (t.val - 1 - 1) % 4 ∧ (t.val - 1 - 1) % 4 ≤ 2; omega) r k
  have p0 := scr0 m c ⟨t.val - 1 - 1 - 1, by omega⟩ (by show (t.val - 1 - 1 - 1) % 4 = 0; omega) r k
  have p3 := pB_at m c t r k _ rfl
  have e2 : (t.val - 1) / 4 = t.val / 4 ∧ (t.val - 1) % 4 = 2 := by omega
  have e1 : (t.val - 1 - 1) / 4 = t.val / 4 ∧ (t.val - 1 - 1) % 4 = 1 := by omega
  have e0 : (t.val - 1 - 1 - 1) / 4 = t.val / 4 ∧ (t.val - 1 - 1 - 1) % 4 = 0 := by omega
  simp only [e2.1, e2.2] at p2
  simp only [e1.1, e1.2] at p1
  simp only [e0.1, e0.2] at p0
  rw [h] at p3
  have hp : ∀ v w : FVec Ideal S512x1024 .f32, (show EReal from k0_pay9 (F := Ideal) v w (ix2 r k)) = w (ix2 r k) + v (ix2 r k) := fun v w => by pointwise [k0_pay9]
  refine (hp _ _).trans (congrArg₂ (· + ·) (p2.trans (congrArg (· + _) (p1.trans (congrArg (· + _) p0)))) p3)

/-- A row's reciprocal root mean square, its error, the loss's gradient and the row's gradient. -/
def rsq (x : Fin 1024 → EReal) : EReal := Ideal.rsqrt (Ideal.div (∑ k, x k * x k) (Ideal.ofBits .f32 0x44800000#32) + Ideal.ofBits .f32 0x358637BD#32)
def er (x w g : Fin 1024 → EReal) (k : Fin 1024) : EReal := x k * rsq x * w k - g k
def gr (x w g : Fin 1024 → EReal) (k : Fin 1024) : EReal := er x w g k * Ideal.ofBits .f32 0x3A800000#32
def dX (x w g : Fin 1024 → EReal) (l : Fin 1024) : EReal :=
  rsq x * (gr x w g l * w l - x l * rsq x * Ideal.div (∑ k, gr x w g k * w k * (x k * rsq x)) (Ideal.ofBits .f32 0x44800000#32))

theorem pay11_at (v85 v97 : FVec Ideal S512x1024 .f32) (r : Fin 512) :
    (show EReal from k0_pay11 (F := Ideal) v85 v97 (ix2 r 0)) = rsq fun k => k0_pay9 (F := Ideal) v85 v97 (ix2 r k) := by
  unfold k0_pay11 rsq
  generalize k0_pay9 (F := Ideal) v85 v97 = x
  pointwise []

theorem pay12_at (v85 v97 v113 : FVec Ideal S512x1024 .f32) (v99 : FVec Ideal S1x1024 .f32) (r : Fin 512) (k : Fin 1024) :
    (show EReal from k0_pay12 (F := Ideal) v85 v97 v99 v113 (ix2 r k)) = er (fun k => k0_pay9 (F := Ideal) v85 v97 (ix2 r k)) (fun k => v99 (ix2 0 k)) (fun k => v113 (ix2 r k)) k := by
  have h := pay11_at v85 v97 r
  unfold k0_pay12 er
  generalize k0_pay11 (F := Ideal) v85 v97 = s at h ⊢
  rw [← h]
  generalize k0_pay9 (F := Ideal) v85 v97 = x
  pointwise [k0_pay10]

theorem pay16_at (v85 v97 v113 : FVec Ideal S512x1024 .f32) (v99 : FVec Ideal S1x1024 .f32) (r : Fin 512) (l : Fin 1024) :
    (show EReal from k0_pay16 (F := Ideal) v85 v97 v99 v113 (ix2 r l)) = dX (fun k => k0_pay9 (F := Ideal) v85 v97 (ix2 r k)) (fun k => v99 (ix2 0 k)) (fun k => v113 (ix2 r k)) l := by
  have h := pay11_at v85 v97 r
  have h' := fun k => pay12_at v85 v97 v113 v99 r k
  unfold k0_pay16 k0_pay15 k0_pay14 dX gr
  generalize k0_pay11 (F := Ideal) v85 v97 = s at h ⊢
  generalize k0_pay12 (F := Ideal) v85 v97 v99 v113 = e at h' ⊢
  simp only [← h, ← h']
  generalize k0_pay9 (F := Ideal) v85 v97 = x
  pointwise [k0_pay10]

theorem pay13_at (v85 v97 v113 : FVec Ideal S512x1024 .f32) (v99 : FVec Ideal S1x1024 .f32) :
    (show EReal from k0_pay13 (F := Ideal) v85 v97 v99 v113 (ix2 0 0)) =
      (∑ r : Fin 512, ∑ k, er (fun k => k0_pay9 (F := Ideal) v85 v97 (ix2 r k)) (fun k => v99 (ix2 0 k)) (fun k => v113 (ix2 r k)) k * er (fun k => k0_pay9 (F := Ideal) v85 v97 (ix2 r k)) (fun k => v99 (ix2 0 k)) (fun k => v113 (ix2 r k)) k) * Ideal.ofBits .f32 0x3A000000#32 := by
  have h' := fun r k => pay12_at v85 v97 v113 v99 r k
  unfold k0_pay13
  generalize k0_pay12 (F := Ideal) v85 v97 v99 v113 = e at h' ⊢
  simp only [← h']
  pointwise []

/-- The last norm's weight's gradient over a row block. -/
theorem pay5_at (v85 v97 v113 : FVec Ideal S512x1024 .f32) (v99 : FVec Ideal S1x1024 .f32) (l : Fin 1024) :
    (show EReal from k0_pay5 (F := Ideal) (k0_pay14 v85 v97 v99 v113) (k0_pay15 v85 v97) (ix2 0 l)) =
      ∑ r : Fin 512, gr (fun k => k0_pay9 (F := Ideal) v85 v97 (ix2 r k)) (fun k => v99 (ix2 0 k)) (fun k => v113 (ix2 r k)) l * (k0_pay9 (F := Ideal) v85 v97 (ix2 r l) * rsq fun k => k0_pay9 (F := Ideal) v85 v97 (ix2 r k)) := by
  have h := pay11_at v85 v97
  have h' := fun r k => pay12_at v85 v97 v113 v99 r k
  unfold k0_pay15 k0_pay14 gr
  generalize k0_pay11 (F := Ideal) v85 v97 = s at h ⊢
  generalize k0_pay12 (F := Ideal) v85 v97 v99 v113 = e at h' ⊢
  simp only [← h, ← h']
  generalize k0_pay9 (F := Ideal) v85 v97 = x
  pointwise [k0_pay5]

theorem pay7_at (v85 v97 v113 : FVec Ideal S512x1024 .f32) (v99 v152 : FVec Ideal S1x1024 .f32) (l : Fin 1024) :
    (show EReal from k0_pay7 (F := Ideal) (k0_pay14 v85 v97 v99 v113) (k0_pay15 v85 v97) v152 (ix2 0 l)) =
      v152 (ix2 0 l) + k0_pay5 (F := Ideal) (k0_pay14 v85 v97 v99 v113) (k0_pay15 v85 v97) (ix2 0 l) := by
  generalize k0_pay14 (F := Ideal) v85 v97 v99 v113 = a
  generalize k0_pay15 (F := Ideal) v85 v97 = b
  pointwise [k0_pay5, k0_pay7]

theorem pay6_at (v : FVec Ideal S1x1 .f32) (l : Fin 128) : (show EReal from k0_pay6 (F := Ideal) v (ix2 0 l)) = v (ix2 0 0) := by
  pointwise [k0_pay6]

theorem pay8_at (v : FVec Ideal S1x1 .f32) (w : FVec Ideal S1x128 .f32) (l : Fin 128) : (show EReal from k0_pay8 (F := Ideal) v w (ix2 0 l)) = w (ix2 0 l) + v (ix2 0 0) := by
  have h := pay6_at v l
  unfold k0_pay8
  generalize k0_pay6 (F := Ideal) v = x at h ⊢
  rw [← h]
  pointwise []

end Cert.LossKIdeal.Value

end
-- ==== Proof.Loss.Rows.lean ====
module

public import proofs.«01_k».proof.Proof.Gen.LossKIdeal.Frame
public import proofs.«01_k».proof.Proof.Gen.LossRIdeal.Read
public import proofs.«01_k».proof.Proof.Reals
public import proofs.«01_k».proof.Proof.Conv.Value
public import proofs.«01_k».proof.Proof.Loss.Point
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.LossKIdeal.Value

open Cert.LossKIdeal Cert.LossKIdeal.Gen
open Cert.FfnKIdeal.Value (U Ue CV colg colu colq)

open Reals

variable (m : (ℓ : Loc nD τ sig) → Buf (Elt Ideal) ℓ)
open Cert.FfnKIdeal.Value (rowAt)

/-- A row's results: its gradient, its part of the norm's weight's gradient, its part of the loss. -/
def xr (c : Dev nD) (n : ℕ) : Fin 1024 → EReal := XX (a0 m c) (a1 m c) (a2 m c) (a3 m c) (a4 m c) n
def wr (c : Dev nD) : Fin 1024 → EReal := fun k => a5 m c (ix1 k)
def tr (c : Dev nD) (n : ℕ) : Fin 1024 → EReal := rowAt (a6 m c) n
def dxr (c : Dev nD) (n : ℕ) (l : Fin 1024) : EReal := dX (xr m c n) (wr m c) (tr m c n) l
def dwr (c : Dev nD) (n : ℕ) (l : Fin 1024) : EReal := gr (xr m c n) (wr m c) (tr m c n) l * (xr m c n l * rsq (xr m c n))
def lsr (c : Dev nD) (n : ℕ) : EReal := ∑ k, er (xr m c n) (wr m c) (tr m c n) k * er (xr m c n) (wr m c) (tr m c n) k

abbrev fB (c : Dev nD) (t : Fin cfg0.N) : FVec Ideal S1x1024 .f32 := iblk m c 8 t
abbrev tB (c : Dev nD) (t : Fin cfg0.N) : FVec Ideal S512x1024 .f32 := iblk m c 9 t
abbrev sB (c : Dev nD) (t : Fin cfg0.N) : FVec Ideal S512x1024 .f32 := scr m c (t.val - 1) (by have := t.isLt; omega)

theorem xB_row (c : Dev nD) (t : Fin cfg0.N) (h : t.val % 4 = 3) (r : Fin 512) : (fun k => (show EReal from k0_pay9 (F := Ideal) (pB m c t) (sB m c t) (ix2 r k))) = xr m c (512 * (t.val / 4) + r) :=
  funext fun k => xB_at m c t h r k

theorem fB_row (c : Dev nD) (t : Fin cfg0.N) : (fun k => (show EReal from fB m c t (ix2 0 k))) = wr m c := funext fun k => fw_at m c t k

theorem tB_row (c : Dev nD) (t : Fin cfg0.N) (r : Fin 512) : (fun k => (show EReal from tB m c t (ix2 r k))) = tr m c (512 * (t.val / 4) + r) := by
  have ht : t.val < 16 := t.isLt
  exact funext fun k => (tg_at m c t r k ⟨512 * (t.val / 4) + r, by omega⟩ rfl).trans (Cert.FfnKIdeal.Value.rowAt_of _ _ k ⟨512 * (t.val / 4) + r, by omega⟩ rfl).symm

theorem dx_at (c : Dev nD) (t : Fin cfg0.N) (h : t.val % 4 = 3) (r : Fin 512) (l : Fin 1024) :
    (show EReal from k0_pay16 (F := Ideal) (pB m c t) (sB m c t) (fB m c t) (tB m c t) (ix2 r l)) = dxr m c (512 * (t.val / 4) + r) l := by
  refine (pay16_at _ _ _ _ r l).trans ?_
  rw [xB_row m c t h r, fB_row m c t, tB_row m c t r]
  rfl

theorem dw_at (c : Dev nD) (t : Fin cfg0.N) (h : t.val % 4 = 3) (l : Fin 1024) :
    (show EReal from k0_pay5 (F := Ideal) (k0_pay14 (pB m c t) (sB m c t) (fB m c t) (tB m c t)) (k0_pay15 (pB m c t) (sB m c t)) (ix2 0 l)) = ∑ r : Fin 512, dwr m c (512 * (t.val / 4) + r) l := by
  refine (pay5_at _ _ _ _ l).trans (Finset.sum_congr rfl fun r _ => ?_)
  rw [xB_row m c t h r, fB_row m c t, tB_row m c t r]
  exact congrArg (fun x : EReal => gr (xr m c _) (wr m c) (tr m c _) l * (x * rsq (xr m c _))) (xB_at m c t h r l)

/-- The loss's scale: one over twice the entries of a row. -/
def cL : EReal := Ideal.ofBits .f32 0x3A000000#32

theorem ls_at (c : Dev nD) (t : Fin cfg0.N) (h : t.val % 4 = 3) :
    (show EReal from k0_pay13 (F := Ideal) (pB m c t) (sB m c t) (fB m c t) (tB m c t) (ix2 0 0)) = (∑ r : Fin 512, lsr m c (512 * (t.val / 4) + r)) * cL := by
  refine (pay13_at _ _ _ _).trans (congrArg (· * cL) (Finset.sum_congr rfl fun r _ => ?_))
  rw [xB_row m c t h r, fB_row m c t, tB_row m c t r]
  rfl

/-- Between a row block's last points the two accumulators are kept. -/
theorem keep (c : Dev nD) (t : Fin cfg0.N) (h : ¬ t.val % 4 = 3) :
    (outsAt0 m c t.val t.isLt).2.2.1 = (outsAt0 m c (t.val - 1) (by have := t.isLt; omega)).2.2.1 ∧
      (outsAt0 m c t.val t.isLt).2.2.2.1 = (outsAt0 m c (t.val - 1) (by have := t.isLt; omega)).2.2.2.1 := by
  by_cases h0 : t.val % 4 = 0
  · rw [outsAt0_A m c t h0 (by omega) h]
    exact ⟨rfl, rfl⟩
  · rw [outsAt0_B m c t h0 (by omega) h]
    exact ⟨rfl, rfl⟩

theorem keeps (c : Dev nD) (t : Fin cfg0.N) (h : t.val % 4 = 3) (h4 : 4 ≤ t.val) :
    (outsAt0 m c (t.val - 1) (by have := t.isLt; omega)).2.2.1 = (outsAt0 m c (t.val - 1 - 1 - 1 - 1) (by have := t.isLt; omega)).2.2.1 ∧
      (outsAt0 m c (t.val - 1) (by have := t.isLt; omega)).2.2.2.1 = (outsAt0 m c (t.val - 1 - 1 - 1 - 1) (by have := t.isLt; omega)).2.2.2.1 := by
  have ht : t.val < 16 := t.isLt
  have k1 := keep m c ⟨t.val - 1, by omega⟩ (by show ¬ (t.val - 1) % 4 = 3; omega)
  have k2 := keep m c ⟨t.val - 1 - 1, by omega⟩ (by show ¬ (t.val - 1 - 1) % 4 = 3; omega)
  have k3 := keep m c ⟨t.val - 1 - 1 - 1, by omega⟩ (by show ¬ (t.val - 1 - 1 - 1) % 4 = 3; omega)
  exact ⟨k1.1.trans (k2.1.trans k3.1), k1.2.trans (k2.2.trans k3.2)⟩

theorem first (c : Dev nD) (t : Fin cfg0.N) (h : t.val = 3) (l : Fin 1024) (q : Fin 128) :
    (show EReal from (outsAt0 m c t.val t.isLt).2.2.1 (ix2 0 l)) = ∑ r : Fin 512, dwr m c r l ∧
      (show EReal from (outsAt0 m c t.val t.isLt).2.2.2.1 (ix2 0 q)) = (∑ r : Fin 512, lsr m c r) * cL := by
  have h3 : t.val % 4 = 3 := by omega
  have e : ∀ r : Fin 512, 512 * (t.val / 4) + r.val = r.val := fun r => by omega
  have hd := dw_at m c t h3 l
  have hl := ls_at m c t h3
  simp only [e] at hd hl
  rw [outsAt0_C m c t (by omega) (by omega) h3 (by omega) (by omega)]
  constructor
  · frame_out
    simp only [read_unread_whole]
    exact hd
  · frame_out
    simp only [read_unread_whole]
    exact (pay6_at _ q).trans hl

theorem step (c : Dev nD) (t : Fin cfg0.N) (h : t.val % 4 = 3) (h4 : 4 ≤ t.val) (l : Fin 1024) (q : Fin 128) :
    (show EReal from (outsAt0 m c t.val t.isLt).2.2.1 (ix2 0 l)) = (outsAt0 m c (t.val - 1 - 1 - 1 - 1) (by have := t.isLt; omega)).2.2.1 (ix2 0 l) + ∑ r : Fin 512, dwr m c (512 * (t.val / 4) + r) l ∧
      (show EReal from (outsAt0 m c t.val t.isLt).2.2.2.1 (ix2 0 q)) = (outsAt0 m c (t.val - 1 - 1 - 1 - 1) (by have := t.isLt; omega)).2.2.2.1 (ix2 0 q) + (∑ r : Fin 512, lsr m c (512 * (t.val / 4) + r)) * cL := by
  have hk := keeps m c t h h4
  have hd := dw_at m c t h l
  have hl := ls_at m c t h
  rw [← hk.1, ← hk.2, outsAt0_D m c t (by omega) (by omega) h (by omega) h4]
  constructor
  · frame_out
    simp only [read_unread_whole]
    exact (pay7_at _ _ _ _ _ l).trans (congrArg (_ + ·) hd)
  · frame_out
    simp only [read_unread_whole]
    exact (pay8_at _ _ q).trans (congrArg (_ + ·) hl)

/-- Four row blocks' sums are the sum over the rows. -/
theorem sum_blocks (f : ℕ → EReal) :
    (∑ r : Fin 512, f r) + (∑ r : Fin 512, f (512 * 1 + r)) + (∑ r : Fin 512, f (512 * 2 + r)) + (∑ r : Fin 512, f (512 * 3 + r)) = ∑ n : Fin 2048, f n := by
  refine Eq.trans ?_ (Fin.sum_mul_add_congr (S := 4) (n := 512) (F := fun s k => f (512 * s.val + k.val)) (f := fun n => f n.val)
    (fun s k h => congrArg f (by simp only []; omega)))
  rw [Fin.sum_univ_four]
  refine congrArg (fun x : EReal => x + _ + _ + _) (Finset.sum_congr rfl fun r _ => congrArg f ?_)
  show r.val = 512 * 0 + r.val
  omega

theorem cL_mul (x y : EReal) : x * cL + y * cL = (x + y) * cL := by
  have e : cL = (((1 / 2048 : ℝ)) : EReal) := by
    unfold cL
    simp [Ideal.ofBits, Ideal.ieee, -EReal.coe_mul]
    norm_num
  rw [e]
  exact (EReal.right_distrib_of_nonneg_of_ne_top (by exact_mod_cast (by norm_num : (0:ℝ) ≤ 1 / 2048)) (EReal.coe_ne_top _) x y).symm

/-- What four steps add up to. -/
theorem fold4 (A : (n : ℕ) → n < 16 → EReal) (P : ℕ → EReal) (h0 : ∀ n hn, n = 3 → A n hn = P 0)
    (hs : ∀ n hn, n % 4 = 3 → 4 ≤ n → A n hn = A (n - 1 - 1 - 1 - 1) (by omega) + P (n / 4)) : A 15 (by decide) = P 0 + P 1 + P 2 + P 3 :=
  (hs 15 _ rfl (by decide)).trans (congrArg (· + _) ((hs 11 _ rfl (by decide)).trans (congrArg (· + _) ((hs 7 _ rfl (by decide)).trans (congrArg (· + _) (h0 3 _ rfl))))))

theorem last (c : Dev nD) (t : Fin cfg0.N) (h : t.val = 15) (l : Fin 1024) (q : Fin 128) :
    (show EReal from (outsAt0 m c t.val t.isLt).2.2.1 (ix2 0 l)) = ∑ n : Fin 2048, dwr m c n l ∧
      (show EReal from (outsAt0 m c t.val t.isLt).2.2.2.1 (ix2 0 q)) = (∑ n : Fin 2048, lsr m c n) * cL := by
  obtain rfl : t = ⟨15, by decide⟩ := Fin.ext h
  have z : ∀ r : Fin 512, 512 * 0 + r.val = r.val := fun r => by omega
  have p0 := fun (n : ℕ) (hn : n < 16) (h : n = 3) => first m c ⟨n, hn⟩ h l q
  have p1 := fun (n : ℕ) (hn : n < 16) (h : n % 4 = 3) (h4 : 4 ≤ n) => step m c ⟨n, hn⟩ h h4 l q
  have f1 := fold4 (fun n hn => (outsAt0 m c n hn).2.2.1 (ix2 0 l)) (fun i => ∑ r : Fin 512, dwr m c (512 * i + r) l)
    (fun n hn h => (p0 n hn h).1.trans (by simp only [z])) (fun n hn h h4 => (p1 n hn h h4).1)
  have f2 := fold4 (fun n hn => (outsAt0 m c n hn).2.2.2.1 (ix2 0 q)) (fun i => (∑ r : Fin 512, lsr m c (512 * i + r)) * cL)
    (fun n hn h => (p0 n hn h).2.trans (by simp only [z])) (fun n hn h h4 => (p1 n hn h h4).2)
  rw [← sum_blocks (fun n => dwr m c n l), ← sum_blocks (fun n => lsr m c n), ← cL_mul, ← cL_mul, ← cL_mul]
  simp only [z] at f1 f2
  exact ⟨f1, f2⟩

end Cert.LossKIdeal.Value

end
-- ==== Proof.Loss.Value.lean ====
module

public import proofs.«01_k».proof.Proof.Gen.LossKIdeal.Frame
public import proofs.«01_k».proof.Proof.Gen.LossRIdeal.Read
public import proofs.«01_k».proof.Proof.Reals
public import proofs.«01_k».proof.Proof.Conv.Value
public import proofs.«01_k».proof.Proof.Loss.Rows
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.LossKIdeal.Value

open Cert.LossKIdeal Cert.LossKIdeal.Gen
open Cert.FfnKIdeal.Value (U Ue CV colg colu colq)

open Reals

variable (m : (ℓ : Loc nD τ sig) → Buf (Elt Ideal) ℓ)
open Cert.FfnKIdeal.Value (rowAt)

/-- The results. -/
def R10 (c : Dev nD) (n : Fin 2048) (l : Fin 1024) : EReal := dxr m c n.val l
def R12 (c : Dev nD) (l : Fin 1024) : EReal := ∑ n : Fin 2048, dwr m c n.val l
def R13 (c : Dev nD) : EReal := (∑ n : Fin 2048, lsr m c n.val) * cL
def R14 (c : Dev nD) (s : Fin 4) (n : Fin 2048) (l : Fin 704) : EReal := Ue (a0 m c) (a2 m c) (n.val + 16) (colg (colq s.val l))
def R15 (c : Dev nD) (s : Fin 4) (n : Fin 2048) (l : Fin 704) : EReal := Ue (a0 m c) (a2 m c) (n.val + 16) (colu (colq s.val l))

theorem R10_at (c : Dev nD) (n : Fin 2048) (l : Fin 1024) (n' : ℕ) (l' : Fin 1024) (hn : n.val = n') (hl : l.val = l'.val) : R10 m c n l = dxr m c n' l' := by
  obtain rfl := Fin.ext hl
  subst hn
  rfl

theorem R12_at (c : Dev nD) (l l' : Fin 1024) (hl : l.val = l'.val) : R12 m c l = ∑ n : Fin 2048, dwr m c n.val l' := by
  obtain rfl := Fin.ext hl
  rfl

theorem R14_at (c : Dev nD) (s : Fin 4) (n : Fin 2048) (l : Fin 704) (s' n' : ℕ) (l' : Fin 704) (hs : s.val = s') (hn : n.val + 16 = n') (hl : l.val = l'.val) :
    R14 m c s n l = Ue (a0 m c) (a2 m c) n' (colg (colq s' l')) := by
  obtain rfl := Fin.ext hl
  subst hs hn
  rfl

theorem R15_at (c : Dev nD) (s : Fin 4) (n : Fin 2048) (l : Fin 704) (s' n' : ℕ) (l' : Fin 704) (hs : s.val = s') (hn : n.val + 16 = n') (hl : l.val = l'.val) :
    R15 m c s n l = Ue (a0 m c) (a2 m c) n' (colu (colq s' l')) := by
  obtain rfl := Fin.ext hl
  subst hs hn
  rfl

/-- The first two results' blocks at a row block's last point. -/
theorem dx_block (c : Dev nD) (t : Fin cfg0.N) (h : t.val % 4 = 3) (r : Fin 512) (l : Fin 1024) :
    (show EReal from (outsAt0 m c t.val t.isLt).1 (ix2 r l)) = dxr m c (512 * (t.val / 4) + r) l ∧ (show EReal from (outsAt0 m c t.val t.isLt).2.1 (ix2 r l)) = dxr m c (512 * (t.val / 4) + r) l := by
  have hd := dx_at m c t h r l
  have h4 : ∀ v85 v97 v113 v99, (show EReal from k0_pay4 (F := Ideal) (k0_pay16 v85 v97 v99 v113) (ix2 r l)) = k0_pay16 (F := Ideal) v85 v97 v99 v113 (ix2 r l) := fun v85 v97 v113 v99 => by
    generalize k0_pay16 (F := Ideal) v85 v97 v99 v113 = w
    pointwise [k0_pay4]
  by_cases h3 : t.val < 4
  · rw [outsAt0_C m c t (by omega) (by omega) h h3 (by omega)]
    constructor
    · frame_out
      simp only [read_unread_whole]
      exact hd
    · frame_out
      simp only [read_unread_whole]
      exact (h4 _ _ _ _).trans hd
  · rw [outsAt0_D m c t (by omega) (by omega) h h3 (by omega)]
    constructor
    · frame_out
      simp only [read_unread_whole]
      exact hd
    · frame_out
      simp only [read_unread_whole]
      exact (h4 _ _ _ _).trans hd

theorem ug_at (c : Dev nD) (t : Fin cfg0.N) (r : Fin 512) (l : Fin 704) :
    (show EReal from k0_pay20 (F := Ideal) (iblk m c 1 t) (iblk m c 0 t) (iblk m c 3 t) (ix3 0 r l)) = Ue (a0 m c) (a2 m c) (512 * (t.val / 4) + (16 + r)) (colg (colq (t.val % 4) l)) := by
  have hg := gu_at m c t ⟨16 + r.val, by omega⟩ l (colg (colq (t.val % 4) l)) (by show (704 * (t.val % 4) + l.val) % 2816 = _; omega) (Or.inr (by show 16 ≤ 16 + r.val; omega))
  unfold k0_pay20
  generalize k0_pay19 (F := Ideal) (iblk m c 1 t) (iblk m c 0 t) (iblk m c 3 t) = v at hg ⊢
  pointwise []
  exact hg

theorem uw_at (c : Dev nD) (t : Fin cfg0.N) (r : Fin 512) (l : Fin 704) :
    (show EReal from k0_pay26 (F := Ideal) (k0_pay17 (iblk m c 1 t) (iblk m c 0 t)) (iblk m c 4 t) (ix3 0 r l)) = Ue (a0 m c) (a2 m c) (512 * (t.val / 4) + (16 + r)) (colu (colq (t.val % 4) l)) := by
  have hg := uu_at m c t ⟨16 + r.val, by omega⟩ l (colu (colq (t.val % 4) l)) (by show 2816 + (704 * (t.val % 4) + l.val) % 2816 = _; omega) (Or.inr (by show 16 ≤ 16 + r.val; omega))
  unfold k0_pay26
  generalize k0_pay25 (F := Ideal) (k0_pay17 (iblk m c 1 t) (iblk m c 0 t)) (iblk m c 4 t) = v at hg ⊢
  pointwise []
  exact hg

/-- The pre-convolution columns' blocks at every point. -/
theorem pre_block (c : Dev nD) (t : Fin cfg0.N) : (outsAt0 m c t.val t.isLt).2.2.2.2.1 = k0_pay20 (F := Ideal) (iblk m c 1 t) (iblk m c 0 t) (iblk m c 3 t) ∧
    (outsAt0 m c t.val t.isLt).2.2.2.2.2.1 = k0_pay26 (F := Ideal) (k0_pay17 (iblk m c 1 t) (iblk m c 0 t)) (iblk m c 4 t) := by
  by_cases h0 : t.val % 4 = 0
  · rw [outsAt0_A m c t h0 (by omega) (by omega)]
    constructor <;> frame_out
  by_cases h : t.val % 4 = 3
  · by_cases h3 : t.val < 4
    · rw [outsAt0_C m c t h0 (by omega) h h3 (by omega)]
      constructor <;> frame_out
    · rw [outsAt0_D m c t h0 (by omega) h h3 (by omega)]
      constructor <;> frame_out
  · rw [outsAt0_B m c t h0 (by omega) h]
    constructor <;> frame_out

theorem final10 (c : Dev nD) : (dats m 0 c).arrAt 10 cfg0.N = fun y => R10 m c (y 0) (y 1) := by
  refine (dats m 0 c).arrAt_eq_of_covers 10 _ (by decide +kernel) fun t hf y => ?_
  have h3 : t.val % 4 = 3 := (flush0_10 t).mp hf
  blk_simp
  rw [after0_10]
  refine Eq.trans ?_ (R10_at m c _ _ (512 * (t.val / 4) + (y 0).val) (y 1) (by blk_simp [idx t]; omega) (by blk_simp [idx t])).symm
  refine Eq.trans ?_ (dx_block m c t h3 (y 0) (y 1)).1
  idx_vars y

theorem final11 (c : Dev nD) : (dats m 0 c).arrAt 11 cfg0.N = fun y => R10 m c (y 0) (y 1) := by
  refine (dats m 0 c).arrAt_eq_of_covers 11 _ (by decide +kernel) fun t hf y => ?_
  have h3 : t.val % 4 = 3 := (flush0_11 t).mp hf
  blk_simp
  rw [after0_11]
  refine Eq.trans ?_ (R10_at m c _ _ (512 * (t.val / 4) + (y 0).val) (y 1) (by blk_simp [idx t]; omega) (by blk_simp [idx t])).symm
  refine Eq.trans ?_ (dx_block m c t h3 (y 0) (y 1)).2
  idx_vars y

theorem final12 (c : Dev nD) : (dats m 0 c).arrAt 12 cfg0.N = fun y => R12 m c (y 1) := by
  refine (dats m 0 c).arrAt_eq_of_covers 12 _ (by decide +kernel) fun t hf y => ?_
  have h3 : t.val = 15 := by have := (flush0_12 t).mp hf; have ht : t.val < 16 := t.isLt; omega
  blk_simp
  rw [after0_12]
  refine Eq.trans ?_ (R12_at m c _ (y 1) (by blk_simp [idx t])).symm
  refine Eq.trans ?_ (last m c t h3 (y 1) 0).1
  idx_vars y
  obtain rfl : y0 = 0 := Subsingleton.elim _ _
  rfl

theorem final13 (c : Dev nD) : (dats m 0 c).arrAt 13 cfg0.N = fun y => R13 m c := by
  refine (dats m 0 c).arrAt_eq_of_covers 13 _ (by decide +kernel) fun t hf y => ?_
  have h3 : t.val = 15 := by have := (flush0_13 t).mp hf; have ht : t.val < 16 := t.isLt; omega
  blk_simp
  rw [after0_13]
  refine Eq.trans ?_ (last m c t h3 0 (y 1)).2
  idx_vars y
  obtain rfl : y0 = 0 := Subsingleton.elim _ _
  rfl

theorem final14 (c : Dev nD) : (dats m 0 c).arrAt 14 cfg0.N = fun y => R14 m c (y 0) (y 1) (y 2) := by
  refine (dats m 0 c).arrAt_eq_of_covers 14 _ (by decide +kernel) fun t hf y => ?_
  blk_simp
  rw [after0_14]
  refine Eq.trans ?_ (R14_at m c _ _ _ (t.val % 4) (512 * (t.val / 4) + (16 + (y 1).val)) (y 2) (by blk_simp [idx t]) (by blk_simp [idx t]; omega) (by blk_simp [idx t])).symm
  rw [(pre_block m c t).1]
  refine Eq.trans ?_ (ug_at m c t (y 1) (y 2))
  idx_vars y
  obtain rfl : y0 = 0 := Subsingleton.elim _ _
  rfl

theorem final15 (c : Dev nD) : (dats m 0 c).arrAt 15 cfg0.N = fun y => R15 m c (y 0) (y 1) (y 2) := by
  refine (dats m 0 c).arrAt_eq_of_covers 15 _ (by decide +kernel) fun t hf y => ?_
  blk_simp
  rw [after0_15]
  refine Eq.trans ?_ (R15_at m c _ _ _ (t.val % 4) (512 * (t.val / 4) + (16 + (y 1).val)) (y 2) (by blk_simp [idx t]) (by blk_simp [idx t]; omega) (by blk_simp [idx t])).symm
  rw [(pre_block m c t).2]
  refine Eq.trans ?_ (uw_at m c t (y 1) (y 2))
  idx_vars y
  obtain rfl : y0 = 0 := Subsingleton.elim _ _
  rfl

theorem run_blocks (g : Dev nD → PrngReg) : θ_run defs (onTc (τ := τ) (main (F := Ideal))) ⟨m, fun _ => 0, g⟩ fun r => ∀ c : Dev nD,
    r.2.mem ((c : Thread nD τ).loc main_v8_0) = (dats m 0 c).arrAt 10 cfg0.N ∧ r.2.mem ((c : Thread nD τ).loc main_v8_1) = (dats m 0 c).arrAt 11 cfg0.N ∧
    r.2.mem ((c : Thread nD τ).loc main_v8_2) = (dats m 0 c).arrAt 12 cfg0.N ∧ r.2.mem ((c : Thread nD τ).loc main_v8_3) = (dats m 0 c).arrAt 13 cfg0.N ∧
    r.2.mem ((c : Thread nD τ).loc main_v8_4) = (dats m 0 c).arrAt 14 cfg0.N ∧ r.2.mem ((c : Thread nD τ).loc main_v8_5) = (dats m 0 c).arrAt 15 cfg0.N ∧
    r.2.mem ((c : Thread nD τ).loc main_arg0) = m ((c : Thread nD τ).loc main_arg0) ∧ r.2.mem ((c : Thread nD τ).loc main_arg1) = m ((c : Thread nD τ).loc main_arg1) ∧
    r.2.mem ((c : Thread nD τ).loc main_arg2) = m ((c : Thread nD τ).loc main_arg2) ∧ r.2.mem ((c : Thread nD τ).loc main_arg3) = m ((c : Thread nD τ).loc main_arg3) ∧
    r.2.mem ((c : Thread nD τ).loc main_arg4) = m ((c : Thread nD τ).loc main_arg4) ∧ r.2.mem ((c : Thread nD τ).loc main_arg5) = m ((c : Thread nD τ).loc main_arg5) ∧
    r.2.mem ((c : Thread nD τ).loc main_arg6) = m ((c : Thread nD τ).loc main_arg6) := by
  refine (θ_run defs _ _).mono (fun r h c => ?_) (run_main m g)
  obtain ⟨hw, hr⟩ := h c
  exact ⟨hw 10, hw 11, hw 12, hw 13, hw 14, hw 15,
    (hr main_arg0 (Pipeline.mem_restRefs_of main_arg0 (by decide) (by decide))).trans (V_main_arg0 m c),
    (hw 2).trans (((dats m 0 c).arrAt_in 2 rfl _).trans (V_main_arg1 m c)),
    (hr main_arg2 (Pipeline.mem_restRefs_of main_arg2 (by decide) (by decide))).trans (V_main_arg2 m c),
    (hr main_arg3 (Pipeline.mem_restRefs_of main_arg3 (by decide) (by decide))).trans (V_main_arg3 m c),
    (hr main_arg4 (Pipeline.mem_restRefs_of main_arg4 (by decide) (by decide))).trans (V_main_arg4 m c),
    (hr main_arg5 (Pipeline.mem_restRefs_of main_arg5 (by decide) (by decide))).trans (V_main_arg5 m c),
    (hw 9).trans (((dats m 0 c).arrAt_in 9 rfl _).trans (V_main_arg6 m c))⟩

end Cert.LossKIdeal.Value

end
-- ==== Proof.Loss.Ref.lean ====
module

public import proofs.«01_k».proof.Proof.Gen.LossKIdeal.Frame
public import proofs.«01_k».proof.Proof.Gen.LossRIdeal.Read
public import proofs.«01_k».proof.Proof.Reals
public import proofs.«01_k».proof.Proof.Conv.Value
public import proofs.«01_k».proof.Proof.Loss.Value
public import proofs.«01_k».proof.Proof.Ffn.Ref
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.LossKIdeal.Value

open Cert.LossKIdeal Cert.LossKIdeal.Gen

open Reals

open Cert.LossRIdeal.Read
open Cert.FfnKIdeal.Value (U Ue CV colg colu colq rowAt)

theorem ofBits_inv : Ideal.ofBits .f32 0x3A800000#32 = ((1 / 1024 : ℝ) : EReal) := by
  simp [Ideal.ofBits, Ideal.ieee, -EReal.coe_mul]
  norm_num

theorem ofBits_inv_real : IsReal (Ideal.ofBits .f32 0x3A800000#32) := ⟨_, ofBits_inv⟩

/-- The convolution is the backward call's. -/
theorem v22_at (x0 : FVec Ideal S2048x1024 .f32) (x2 : FVec Ideal S1024x5632 .f32) (x3 : FVec Ideal S3x5632 .f32) (n : Fin 2048) (L : Fin 5632) :
    (show EReal from val_main_v22 (F := Ideal) x0 x2 x3 (ix2 n L)) = CV x0 x2 x3 n.val L :=
  Cert.FfnKIdeal.Value.v23_at x0 x2 x3 n L

theorem v26_at (x0 : FVec Ideal S2048x1024 .f32) (x2 : FVec Ideal S1024x5632 .f32) (x3 : FVec Ideal S3x5632 .f32) (n : Fin 2048) (q : Fin 2816) :
    (show EReal from val_main_v26 (F := Ideal) x0 x2 x3 (ix2 n q)) = AC x0 x2 x3 n.val q :=
  Cert.FfnKIdeal.Value.v27_at x0 x2 x3 n q

/-- The residual row: the four slabs are the whole product. -/
theorem v28_at (x0 x1 : FVec Ideal S2048x1024 .f32) (x2 : FVec Ideal S1024x5632 .f32) (x3 : FVec Ideal S3x5632 .f32) (x4 : FVec Ideal S2816x1024 .f32) (n : Fin 2048) (k : Fin 1024) :
    (show EReal from val_main_v28 (F := Ideal) x0 x1 x2 x3 x4 (ix2 n k)) = XX x0 x1 x2 x3 x4 n.val k := by
  have hv := v26_at x0 x2 x3
  unfold val_main_v28 val_main_v27
  generalize val_main_v26 (F := Ideal) x0 x2 x3 = v at hv ⊢
  have key : (∑ q : Fin 2816, (show EReal from v (ix2 n q)) * x4 (ix2 q k)) = PT x0 x2 x3 x4 n.val 0 k + PT x0 x2 x3 x4 n.val 1 k + PT x0 x2 x3 x4 n.val 2 k + PT x0 x2 x3 x4 n.val 3 k := by
    refine Eq.trans (Fin.sum_mul_add_congr (S := 4) (n := 704) (F := fun s l => AC x0 x2 x3 n.val (colq s.val l) * x4 (ix2 (colq s.val l) k)) (f := fun q => (show EReal from v (ix2 n q)) * x4 (ix2 q k)) (fun s l h => ?_)).symm ?_
    · have e : colq s.val l = ⟨s.val * 704 + l.val, h⟩ := Fin.ext (by show (704 * s.val + l.val) % 2816 = s.val * 704 + l.val; omega)
      rw [e]
      exact congrArg (· * _) (hv n _).symm
    · rw [Fin.sum_univ_four]
      rfl
  unfold XX
  rw [Cert.FfnKIdeal.Value.rowAt_of x1 n.val k n rfl]
  pointwise []
  refine (congrArg (_ + ·) key).trans ?_
  simp only [add_assoc]

section Rows

variable (x0 x1 : FVec Ideal S2048x1024 .f32) (x2 : FVec Ideal S1024x5632 .f32) (x3 : FVec Ideal S3x5632 .f32) (x4 : FVec Ideal S2816x1024 .f32) (x5 : FVec Ideal S1024 .f32) (x6 : FVec Ideal S2048x1024 .f32)

abbrev xq (n : Fin 2048) : Fin 1024 → EReal := XX x0 x1 x2 x3 x4 n.val
abbrev wq : Fin 1024 → EReal := fun k => x5 (ix1 k)
abbrev tq (n : Fin 2048) : Fin 1024 → EReal := rowAt x6 n.val

theorem v36_at (n : Fin 2048) : (show EReal from val_main_v36 (F := Ideal) x0 x1 x2 x3 x4 (ix2 n 0)) = rsq (xq x0 x1 x2 x3 x4 n) := by
  have hv := v28_at x0 x1 x2 x3 x4 n
  unfold val_main_v36 val_main_v35 val_main_v34 val_main_v33 val_main_v32 val_main_v31 val_main_v30 val_main_v29 val_main_cst_2 val_main_cst_1 val_main_cst_0 rsq
  generalize val_main_v28 (F := Ideal) x0 x1 x2 x3 x4 = v at hv ⊢
  simp only [xq, ← hv]
  pointwise []

theorem v45_at (n : Fin 2048) (k : Fin 1024) : (show EReal from val_main_v45 (F := Ideal) x0 x1 x2 x3 x4 x5 x6 (ix2 n k)) = er (xq x0 x1 x2 x3 x4 n) (wq x5) (tq x6 n) k := by
  have hv := v28_at x0 x1 x2 x3 x4 n
  have hs := v36_at x0 x1 x2 x3 x4 n
  unfold val_main_v45 val_main_v44 val_main_v43 val_main_v42 val_main_v41 val_main_v40 er
  generalize val_main_v36 (F := Ideal) x0 x1 x2 x3 x4 = s at hs ⊢
  rw [← hs]
  generalize val_main_v28 (F := Ideal) x0 x1 x2 x3 x4 = v at hv ⊢
  simp only [xq, tq, ← hv]
  rw [Cert.FfnKIdeal.Value.rowAt_of x6 n.val k n rfl]
  pointwise []

theorem v59_at (n : Fin 2048) (k : Fin 1024) : (show EReal from val_main_v59 (F := Ideal) x0 x1 x2 x3 x4 x5 x6 (ix2 n k)) = gr (xq x0 x1 x2 x3 x4 n) (wq x5) (tq x6 n) k := by
  have hv := v45_at x0 x1 x2 x3 x4 x5 x6 n k
  unfold val_main_v59 val_main_v58 val_main_v57 val_main_v56 val_main_v55 val_main_v54 val_main_v48 val_main_v47 val_main_cst_11 val_main_cst_10 val_main_cst_9 val_main_cst_4 gr
  rw [← hv]
  generalize val_main_v45 (F := Ideal) x0 x1 x2 x3 x4 x5 x6 = v
  pointwise []
  rw [ofBits_half, ofBits_1024, ofBits_two, ofBits_inv, div_coe _ _ (by norm_num), ← mul_assoc, ← EReal.coe_mul, mul_comm]
  norm_num

variable (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (h6 : ∀ i, IsReal (x6 i))

include h0 h1 h2 h3 h4 in
theorem xq_real (n : Fin 2048) (k : Fin 1024) : IsReal (xq x0 x1 x2 x3 x4 n k) := by
  have hc := Cert.FfnKIdeal.Value.CV_real x0 x2 x3 h0 h2 h3 n.val
  have hp : ∀ s, IsReal (PT x0 x2 x3 x4 n.val s k) := fun s => IsReal.sum _ _ fun l => (((hc _).mul (hc _).sgm).mul (hc _)).mul (h4 _)
  unfold xq XX
  rw [Cert.FfnKIdeal.Value.rowAt_of x1 n.val k n rfl]
  exact (((((h1 _).add (hp 0)).add (hp 1)).add (hp 2)).add (hp 3))

theorem rsq_real (x : Fin 1024 → EReal) (hx : ∀ k, IsReal (x k)) : IsReal (rsq x) := by
  choose y hy using hx
  unfold rsq
  simp only [hy, ← EReal.coe_mul, ← coe_sum]
  rw [ofBits_1024, ofBits_eps, div_coe _ _ (by norm_num), ← EReal.coe_add, rsqrt_coe _ (add_pos_of_nonneg_of_pos (div_nonneg (Finset.sum_nonneg fun k _ => mul_self_nonneg _) (by norm_num)) eps_pos)]
  exact ⟨_, rfl⟩

include h0 h1 h2 h3 h4 h5 h6 in
theorem er_real (n : Fin 2048) (k : Fin 1024) : IsReal (er (xq x0 x1 x2 x3 x4 n) (wq x5) (tq x6 n) k) := by
  have hx := xq_real x0 x1 x2 x3 x4 h0 h1 h2 h3 h4 n
  unfold er tq
  rw [Cert.FfnKIdeal.Value.rowAt_of x6 n.val k n rfl]
  exact (((hx k).mul (rsq_real _ hx)).mul (h5 _)).sub (h6 _)

include h0 h1 h2 h3 h4 h5 h6 in
/-- The residual row's gradient. -/
theorem v80_at (n : Fin 2048) (l : Fin 1024) : (show EReal from val_main_v80 (F := Ideal) x0 x1 x2 x3 x4 x5 x6 (ix2 n l)) = dX (xq x0 x1 x2 x3 x4 n) (wq x5) (tq x6 n) l := by
  have hx := xq_real x0 x1 x2 x3 x4 h0 h1 h2 h3 h4 n
  have he := er_real x0 x1 x2 x3 x4 x5 x6 h0 h1 h2 h3 h4 h5 h6 n
  have hv := v28_at x0 x1 x2 x3 x4 n
  have hs := v36_at x0 x1 x2 x3 x4 n
  have hg := v59_at x0 x1 x2 x3 x4 x5 x6 n
  have hm : (show EReal from val_main_v35 (F := Ideal) x0 x1 x2 x3 x4 (ix2 n 0)) = Ideal.div (∑ k, xq x0 x1 x2 x3 x4 n k * xq x0 x1 x2 x3 x4 n k) ((1024 : ℝ) : EReal) + (eps : EReal) := by
    unfold val_main_v35 val_main_v34 val_main_v33 val_main_v32 val_main_v31 val_main_v30 val_main_v29 val_main_cst_2 val_main_cst_1 val_main_cst_0
    rw [← ofBits_1024, ← ofBits_eps]
    generalize val_main_v28 (F := Ideal) x0 x1 x2 x3 x4 = v at hv ⊢
    simp only [xq, ← hv]
    pointwise []
  have hr := rms_grad (xq x0 x1 x2 x3 x4 n) (fun k => gr (xq x0 x1 x2 x3 x4 n) (wq x5) (tq x6 n) k * wq x5 k) 0 hx
    (fun k => ((he k).mul ofBits_inv_real).mul (h5 _)) 1024 (by norm_num) l (rsq (xq x0 x1 x2 x3 x4 n)) (by unfold rsq; rw [ofBits_1024, ofBits_eps])
  rw [zero_add, zero_add] at hr
  unfold dX
  rw [ofBits_1024]
  refine Eq.trans ?_ hr.symm
  unfold val_main_v80 val_main_v79 val_main_v78 val_main_v77 val_main_v76 val_main_v75 val_main_v74 val_main_v73 val_main_v72 val_main_v71 val_main_v70 val_main_v69 val_main_v68 val_main_v67 val_main_v65 val_main_v64 val_main_v42 val_main_v39 val_main_v38 val_main_v37 val_main_cst_16 val_main_cst_15 val_main_cst_14 val_main_cst_3
  rw [← hm]
  simp only [← hs, ← hg]
  generalize val_main_v59 (F := Ideal) x0 x1 x2 x3 x4 x5 x6 = g
  generalize val_main_v36 (F := Ideal) x0 x1 x2 x3 x4 = s
  generalize val_main_v35 (F := Ideal) x0 x1 x2 x3 x4 = d
  generalize val_main_v28 (F := Ideal) x0 x1 x2 x3 x4 = v at hv ⊢
  simp only [xq, ← hv]
  rw [← ofBits_1024, ← ofBits_neg_half]
  pointwise []
  simp only [Fin.sum_univ_one]

/-- The last norm's weight's gradient. -/
theorem v85_at (l : Fin 1024) : (show EReal from val_main_v85 (F := Ideal) x0 x1 x2 x3 x4 x5 x6 (ix2 0 l)) =
    ∑ n : Fin 2048, gr (xq x0 x1 x2 x3 x4 n) (wq x5) (tq x6 n) l * (xq x0 x1 x2 x3 x4 n l * rsq (xq x0 x1 x2 x3 x4 n)) := by
  have hv := v28_at x0 x1 x2 x3 x4
  have hs := v36_at x0 x1 x2 x3 x4
  have hg := v59_at x0 x1 x2 x3 x4 x5 x6
  unfold val_main_v85 val_main_v66 val_main_v63 val_main_v62 val_main_v61 val_main_v41 val_main_v40 val_main_cst_13 val_main_cst_12
  generalize val_main_v59 (F := Ideal) x0 x1 x2 x3 x4 x5 x6 = g at hg ⊢
  generalize val_main_v36 (F := Ideal) x0 x1 x2 x3 x4 = s at hs ⊢
  generalize val_main_v28 (F := Ideal) x0 x1 x2 x3 x4 = v at hv ⊢
  pointwise []
  simp only [Fin.sum_univ_one]
  exact Finset.sum_congr rfl fun n _ => (mul_comm _ _).trans (congrArg₂ (· * ·) (hg n l) (congrArg₂ (· * ·) (hv n l) (hs n)))

include h0 h1 h2 h3 h4 h5 h6 in
/-- The loss. -/
theorem v86_at (q : Fin 128) : (show EReal from val_main_v86 (F := Ideal) x0 x1 x2 x3 x4 x5 x6 (ix2 0 q)) =
    (∑ n : Fin 2048, ∑ k, er (xq x0 x1 x2 x3 x4 n) (wq x5) (tq x6 n) k * er (xq x0 x1 x2 x3 x4 n) (wq x5) (tq x6 n) k) * cL := by
  have he := er_real x0 x1 x2 x3 x4 x5 x6 h0 h1 h2 h3 h4 h5 h6
  have hv := v45_at x0 x1 x2 x3 x4 x5 x6
  unfold val_main_v86 val_main_v53 val_main_v52 val_main_v51 val_main_v50 val_main_v49 val_main_v46 val_main_cst_8 val_main_cst_7 val_main_cst_6 val_main_cst_5
  simp only [← hv] at he ⊢
  generalize val_main_v45 (F := Ideal) x0 x1 x2 x3 x4 x5 x6 = v at he ⊢
  pointwise []
  choose y hy using he
  simp only [hy, ← EReal.coe_mul, ← coe_sum]
  have e : cL = ((1 / 2048 : ℝ) : EReal) := by
    unfold cL
    simp [Ideal.ofBits, Ideal.ieee, -EReal.coe_mul]
    norm_num
  have hd : ∀ a : ℝ, Ideal.div (a : EReal) ((1024 : ℝ) : EReal) = ((a / 1024 : ℝ) : EReal) := fun a => div_coe a 1024 (by norm_num)
  rw [e, ofBits_half, ofBits_1024]
  simp only [hd, ← coe_sum, ← EReal.coe_mul]
  rw [← Finset.sum_div]
  exact congrArg _ (by ring)

end Rows

/-- The pre-convolution columns, gate half and linear half. -/
theorem v88_at (x0 : FVec Ideal S2048x1024 .f32) (x2 : FVec Ideal S1024x5632 .f32) (s : Fin 4) (n : Fin 2048) (l : Fin 704) :
    (show EReal from val_main_v88 (F := Ideal) x0 x2 (ix3 s n l)) = Ue x0 x2 (n.val + 16) (colg (colq s.val l)) := by
  have hv : ∀ L, (show EReal from val_main_v0 (F := Ideal) x0 x2 (ix2 n L)) = U x0 x2 n.val L := Cert.FfnKIdeal.Value.v0_at x0 x2 n
  refine Eq.trans ?_ ((hv _).trans (if_pos (show 16 ≤ n.val + 16 by omega)).symm)
  unfold val_main_v88 val_main_v87 val_main_v83 val_main_v82 val_main_v81
  generalize val_main_v0 (F := Ideal) x0 x2 = v
  pointwise []
  exact congrArg (fun L => v (ix2 n L)) (Fin.ext (by show s.val * 704 + l.val = (704 * s.val + l.val) % 2816; omega))

theorem v90_at (x0 : FVec Ideal S2048x1024 .f32) (x2 : FVec Ideal S1024x5632 .f32) (s : Fin 4) (n : Fin 2048) (l : Fin 704) :
    (show EReal from val_main_v90 (F := Ideal) x0 x2 (ix3 s n l)) = Ue x0 x2 (n.val + 16) (colu (colq s.val l)) := by
  have hv : ∀ L, (show EReal from val_main_v0 (F := Ideal) x0 x2 (ix2 n L)) = U x0 x2 n.val L := Cert.FfnKIdeal.Value.v0_at x0 x2 n
  refine Eq.trans ?_ ((hv _).trans (if_pos (show 16 ≤ n.val + 16 by omega)).symm)
  unfold val_main_v90 val_main_v89 val_main_v83 val_main_v82 val_main_v81
  generalize val_main_v0 (F := Ideal) x0 x2 = v
  pointwise []
  exact congrArg (fun L => v (ix2 n L)) (Fin.ext (by show 2816 + s.val * 704 + l.val = 2816 + (704 * s.val + l.val) % 2816; omega))

end Cert.LossKIdeal.Value

end
-- ==== Proof.Loss.Claim.lean ====
module

public import proofs.«01_k».proof.Proof.Loss.Ref
public import proofs.«01_k».proof.Proof.Gen.LossK.Frame
public import proofs.«01_k».proof.Proof.Gen.LossRIdeal.Run
public import proofs.«01_k».proof.Defs

@[expose] public section

set_option maxRecDepth 16384

noncomputable section

namespace Cert.Proof.Loss

open Idealize.ShloMosaic Idealize.SL.Sem

theorem frame_k : Cert.quiescent_LossK (hLossK := Cert.LossK.Gen.facts) := fun m ρ _ => Cert.LossK.Gen.frame m ρ

theorem frame_ki : Cert.quiescent_LossKIdeal (hLossKIdeal := Cert.LossKIdeal.Gen.facts) := fun m ρ _ => Cert.LossKIdeal.Gen.frame m ρ

theorem frame_kip [h : Cert.Pre_loss_finite.Facts] : Cert.quiescent_LossKIdeal_pre_loss_finite (hLossKIdeal := Cert.LossKIdeal.Gen.facts) (hPre_loss_finite := h) :=
  fun m ρ _ => Cert.LossKIdeal.Gen.frame m ρ

theorem frame_r : Cert.quiescent_LossRIdeal (hLossRIdeal := Cert.LossRIdeal.Gen.facts) := fun m g _ =>
  (θ_run _ _ _).mono (fun r h => ⟨fun c => (h c).2.2.2.2.2.2, Idealize.ShloMosaic.sem_eq_zero_of_no_sems (by decide) r.2⟩) (Cert.LossRIdeal.Value.run m g)

theorem frame_rp [h : Cert.Pre_loss_finite.Facts] : Cert.quiescent_LossRIdeal_pre_loss_finite (hLossRIdeal := Cert.LossRIdeal.Gen.facts) (hPre_loss_finite := h) :=
  fun m g _ => frame_r m g trivial

set_option maxHeartbeats 1600000 in
theorem algebraic [h : Cert.Pre_loss_finite.Facts] :
    Cert.algebraic_LossKIdeal_LossRIdeal_pre_loss_finite (hLossKIdeal := Cert.LossKIdeal.Gen.facts) (hLossRIdeal := Cert.LossRIdeal.Gen.facts) (hPre_loss_finite := h) := by
  pair_intro
  · run_from Cert.LossKIdeal.Value.run_blocks m g
  · refine (θ_run _ _ _).mono (fun r h c => ?_) (Cert.LossRIdeal.Value.run m' g')
    obtain ⟨h0, h1, h2, h3, h4, h5, hk⟩ := h c
    obtain ⟨a0, a1, a2, a3, a4, a5, a6⟩ := hagree c
    obtain ⟨p0, p1, p2, p3, p4, p5, p6⟩ := hpre c
    have f0 := Reals.fin_of_pre _ _ (fun _ => rfl) p0
    have f1 := Reals.fin_of_pre _ _ (fun _ => rfl) p1
    have f2 := Reals.fin_of_pre _ _ (fun _ => rfl) p2
    have f3 := Reals.fin_of_pre _ _ (fun _ => rfl) p3
    have f4 := Reals.fin_of_pre _ _ (fun _ => rfl) p4
    have f5 := Reals.fin_of_pre _ _ (fun _ => rfl) p5
    have f6 := Reals.fin_of_pre _ _ (fun _ => rfl) p6
    refine ⟨h0.trans ((Cert.LossRIdeal.Read.val_main_v80_eq _).trans ?_), h1.trans ((Cert.LossRIdeal.Read.val_main_v84_eq _).trans ?_), h2.trans ((Cert.LossRIdeal.Read.val_main_v85_eq _).trans ?_), h3.trans ((Cert.LossRIdeal.Read.val_main_v86_eq _).trans ?_), h4.trans ((Cert.LossRIdeal.Read.val_main_v88_eq _).trans ?_), h5.trans ((Cert.LossRIdeal.Read.val_main_v90_eq _).trans ?_), hk⟩
    · show Cert.LossRIdeal.Read.val_main_v80 (F := Ideal) (m' (c.tc.loc Cert.LossRIdeal.main_arg0)) (m' (c.tc.loc Cert.LossRIdeal.main_arg1)) (m' (c.tc.loc Cert.LossRIdeal.main_arg2)) (m' (c.tc.loc Cert.LossRIdeal.main_arg3)) (m' (c.tc.loc Cert.LossRIdeal.main_arg4)) (m' (c.tc.loc Cert.LossRIdeal.main_arg5)) (m' (c.tc.loc Cert.LossRIdeal.main_arg6)) = _
      rw [a0, a1, a2, a3, a4, a5, a6]
      refine Eq.trans (funext fun y => ?_) (Cert.LossKIdeal.Value.final10 m c).symm
      idx_vars y
      exact Cert.LossKIdeal.Value.v80_at _ _ _ _ _ _ _ f0 f1 f2 f3 f4 f5 f6 _ _
    · show Cert.LossRIdeal.Read.val_main_v84 (F := Ideal) (m' (c.tc.loc Cert.LossRIdeal.main_arg0)) (m' (c.tc.loc Cert.LossRIdeal.main_arg1)) (m' (c.tc.loc Cert.LossRIdeal.main_arg2)) (m' (c.tc.loc Cert.LossRIdeal.main_arg3)) (m' (c.tc.loc Cert.LossRIdeal.main_arg4)) (m' (c.tc.loc Cert.LossRIdeal.main_arg5)) (m' (c.tc.loc Cert.LossRIdeal.main_arg6)) = _
      rw [a0, a1, a2, a3, a4, a5, a6]
      refine Eq.trans (funext fun y => ?_) (Cert.LossKIdeal.Value.final11 m c).symm
      idx_vars y
      exact Cert.LossKIdeal.Value.v80_at _ _ _ _ _ _ _ f0 f1 f2 f3 f4 f5 f6 _ _
    · show Cert.LossRIdeal.Read.val_main_v85 (F := Ideal) (m' (c.tc.loc Cert.LossRIdeal.main_arg0)) (m' (c.tc.loc Cert.LossRIdeal.main_arg1)) (m' (c.tc.loc Cert.LossRIdeal.main_arg2)) (m' (c.tc.loc Cert.LossRIdeal.main_arg3)) (m' (c.tc.loc Cert.LossRIdeal.main_arg4)) (m' (c.tc.loc Cert.LossRIdeal.main_arg5)) (m' (c.tc.loc Cert.LossRIdeal.main_arg6)) = _
      rw [a0, a1, a2, a3, a4, a5, a6]
      refine Eq.trans (funext fun y => ?_) (Cert.LossKIdeal.Value.final12 m c).symm
      idx_vars y
      obtain rfl : y0 = 0 := Subsingleton.elim _ _
      exact Cert.LossKIdeal.Value.v85_at _ _ _ _ _ _ _ _
    · show Cert.LossRIdeal.Read.val_main_v86 (F := Ideal) (m' (c.tc.loc Cert.LossRIdeal.main_arg0)) (m' (c.tc.loc Cert.LossRIdeal.main_arg1)) (m' (c.tc.loc Cert.LossRIdeal.main_arg2)) (m' (c.tc.loc Cert.LossRIdeal.main_arg3)) (m' (c.tc.loc Cert.LossRIdeal.main_arg4)) (m' (c.tc.loc Cert.LossRIdeal.main_arg5)) (m' (c.tc.loc Cert.LossRIdeal.main_arg6)) = _
      rw [a0, a1, a2, a3, a4, a5, a6]
      refine Eq.trans (funext fun y => ?_) (Cert.LossKIdeal.Value.final13 m c).symm
      idx_vars y
      obtain rfl : y0 = 0 := Subsingleton.elim _ _
      exact Cert.LossKIdeal.Value.v86_at _ _ _ _ _ _ _ f0 f1 f2 f3 f4 f5 f6 _
    · show Cert.LossRIdeal.Read.val_main_v88 (F := Ideal) (m' (c.tc.loc Cert.LossRIdeal.main_arg0)) (m' (c.tc.loc Cert.LossRIdeal.main_arg2)) = _
      rw [a0, a2]
      refine Eq.trans (funext fun y => ?_) (Cert.LossKIdeal.Value.final14 m c).symm
      idx_vars y
      exact Cert.LossKIdeal.Value.v88_at _ _ _ _ _
    · show Cert.LossRIdeal.Read.val_main_v90 (F := Ideal) (m' (c.tc.loc Cert.LossRIdeal.main_arg0)) (m' (c.tc.loc Cert.LossRIdeal.main_arg2)) = _
      rw [a0, a2]
      refine Eq.trans (funext fun y => ?_) (Cert.LossKIdeal.Value.final15 m c).symm
      idx_vars y
      exact Cert.LossKIdeal.Value.v90_at _ _ _ _ _

end Cert.Proof.Loss

end
-- ==== Proof.Chunk.Math.lean ====
module

public import proofs.«01_k».proof.Proof.Reals
public import Mathlib.LinearAlgebra.Matrix.NonsingularInverse
public import Mathlib.LinearAlgebra.Matrix.SemiringInverse
public import Mathlib.Tactic.NoncommRing
public import Mathlib.Tactic.Abel

@[expose] public section

noncomputable section

/-! The chunk's unit lower triangular system over the reals: its inverse by repeated squaring and by blocks of doubled
    size, and the gradient of what a chunk hands to the scan. -/

namespace Chunk

abbrev Mat := Matrix (Fin 64) (Fin 64) ℝ

/-- Nothing on or above the diagonal. -/
def Low (P : Mat) : Prop := ∀ i j : Fin 64, ¬ j.val < i.val → P i j = 0

theorem low_pow (P : Mat) (hP : Low P) (n : ℕ) (i j : Fin 64) (h : ¬ j.val + n ≤ i.val) : (P ^ n) i j = 0 := by
  induction n generalizing i j with
  | zero => rw [pow_zero, Matrix.one_apply_ne]; rintro rfl; exact h (by omega)
  | succ n ih =>
    rw [pow_succ, Matrix.mul_apply]
    refine Finset.sum_eq_zero fun l _ => ?_
    by_cases hl : j.val < l.val
    · rw [ih i l (by omega), zero_mul]
    · rw [hP l j hl, mul_zero]

theorem low_nil (P : Mat) (hP : Low P) : P ^ 64 = 0 := by
  ext i j
  rw [low_pow P hP 64 i j (by omega)]
  rfl

theorem double (t P p : Mat) (m : ℕ) (hp : p = P ^ m) (h : t * (1 - P) = 1 - P ^ m) : (t + t * p) * (1 - P) = 1 - P ^ (m + m) := by
  subst hp
  have hc : P ^ m * (1 - P) = (1 - P) * P ^ m := by rw [mul_sub, sub_mul, mul_one, one_mul, ← pow_succ, ← pow_succ']
  rw [add_mul, mul_assoc, hc, ← mul_assoc, h, sub_mul, one_mul, pow_add]
  abel

/-- The inverse by repeated squaring. -/
def squared (P : Mat) : Mat :=
  let t0 := 1 + P
  let p1 := P * P
  let t1 := t0 + t0 * p1
  let p2 := p1 * p1
  let t2 := t1 + t1 * p2
  let p3 := p2 * p2
  let t3 := t2 + t2 * p3
  let p4 := p3 * p3
  let t4 := t3 + t3 * p4
  let p5 := p4 * p4
  t4 + t4 * p5

theorem squared_mul (P : Mat) (hP : Low P) : squared P * (1 - P) = 1 := by
  have e1 : P * P = P ^ 2 := (pow_two P).symm
  have e2 : P ^ 2 * P ^ 2 = P ^ 4 := by rw [← pow_add]
  have e3 : P ^ 4 * P ^ 4 = P ^ 8 := by rw [← pow_add]
  have e4 : P ^ 8 * P ^ 8 = P ^ 16 := by rw [← pow_add]
  have e5 : P ^ 16 * P ^ 16 = P ^ 32 := by rw [← pow_add]
  have h0 : (1 + P) * (1 - P) = 1 - P ^ 2 := by rw [pow_two]; noncomm_ring
  have h := double _ P _ 32 rfl (double _ P _ 16 rfl (double _ P _ 8 rfl (double _ P _ 4 rfl (double _ P _ 2 rfl h0))))
  unfold squared
  simp only [e1, e2, e3, e4, e5]
  refine h.trans ?_
  rw [low_nil P hP, sub_zero]

/-- The entries below the diagonal blocks of size `s` inside those of twice the size. -/
def level (s : ℕ) (L : Mat) : Mat := fun i j => if i.val / (2 * s) = j.val / (2 * s) ∧ i.val / s ≠ j.val / s then L i j else 0

/-- The diagonal blocks of size `s`. -/
def blocks (s : ℕ) (L : Mat) : Mat := fun i j => if i.val / s = j.val / s then L i j else 0

theorem half (s a b : ℕ) : (a / (2 * s) = b / (2 * s)) ↔ a / s / 2 = b / s / 2 := by
  rw [Nat.div_div_eq_div_mul, Nat.div_div_eq_div_mul, mul_comm s 2]

/-- One step from blocks of size `s` to blocks of twice the size. -/
theorem step (L : Mat) (hL : Low L) (s : ℕ) (X : Mat) (hb : ∀ i j : Fin 64, i.val / s ≠ j.val / s → X i j = 0)
    (hX : X * (1 + blocks s L) = 1) :
    (∀ i j : Fin 64, i.val / (2 * s) ≠ j.val / (2 * s) → (X - X * level s L * X) i j = 0) ∧
      (X - X * level s L * X) * (1 + blocks (2 * s) L) = 1 := by
  have hN : ∀ i j : Fin 64, level s L i j ≠ 0 → i.val / (2 * s) = j.val / (2 * s) ∧ i.val / s % 2 = 1 ∧ j.val / s % 2 = 0 := by
    intro i j h
    unfold level at h
    split_ifs at h with hc
    · have hlt : j.val < i.val := by
        by_contra hh
        exact h (hL i j hh)
      have := Nat.div_le_div_right (c := s) hlt.le
      have h2 := (half s i.val j.val).mp hc.1
      exact ⟨hc.1, by omega, by omega⟩
    · exact absurd rfl h
  have hs : blocks (2 * s) L = blocks s L + level s L := by
    ext i j
    rw [Matrix.add_apply]
    unfold blocks level
    simp only [half]
    by_cases h1 : i.val / s = j.val / s
    · simp [h1]
    · by_cases h2 : i.val / s / 2 = j.val / s / 2 <;> simp [h1, h2]
  have hz : level s L * X * level s L = 0 := by
    ext i j
    rw [Matrix.mul_apply]
    refine Finset.sum_eq_zero fun b _ => ?_
    by_cases hb' : level s L b j = 0
    · rw [hb', mul_zero]
    rw [Matrix.mul_apply, Finset.sum_mul]
    refine Finset.sum_eq_zero fun a _ => ?_
    by_cases ha : level s L i a = 0
    · rw [ha, zero_mul, zero_mul]
    · have := (hN i a ha).2.2
      have := (hN b j hb').2.1
      rw [hb a b (by omega), mul_zero, zero_mul]
  constructor
  · intro i j h
    rw [Matrix.sub_apply, hb i j (fun e => h ((half s _ _).mpr (by rw [e]))), zero_sub, neg_eq_zero, Matrix.mul_apply]
    refine Finset.sum_eq_zero fun b _ => ?_
    by_cases h1 : b.val / s = j.val / s
    · rw [Matrix.mul_apply, Finset.sum_mul]
      refine Finset.sum_eq_zero fun a _ => ?_
      by_cases h2 : i.val / s = a.val / s
      · by_cases h3 : level s L a b = 0
        · rw [h3, mul_zero, zero_mul]
        · refine absurd ?_ h
          have := (half s _ _).mp (hN a b h3).1
          rw [half, h2, this, h1]
      · rw [hb i a h2, zero_mul, zero_mul]
    · rw [hb b j h1, mul_zero]
  · rw [hs, ← add_assoc, mul_add, sub_mul, sub_mul, hX, mul_assoc (X * level s L), hX, mul_one, mul_assoc X, mul_assoc X, hz, mul_zero, sub_zero]
    abel

/-- The inverse by blocks of doubled size. -/
def blocked (L : Mat) : Mat :=
  let x1 := (1 : Mat)
  let x2 := x1 - x1 * level 1 L * x1
  let x4 := x2 - x2 * level 2 L * x2
  let x8 := x4 - x4 * level 4 L * x4
  let x16 := x8 - x8 * level 8 L * x8
  let x32 := x16 - x16 * level 16 L * x16
  x32 - x32 * level 32 L * x32

theorem blocked_mul (L : Mat) (hL : Low L) : blocked L * (1 + L) = 1 := by
  have h1 : ∀ i j : Fin 64, i.val / 1 ≠ j.val / 1 → (1 : Mat) i j = 0 := fun i j h => Matrix.one_apply_ne (by rintro rfl; exact h rfl)
  have e1 : (1 : Mat) * (1 + blocks 1 L) = 1 := by
    rw [one_mul, add_eq_left]
    ext i j
    rw [Matrix.zero_apply]
    unfold blocks
    split_ifs with h
    · exact hL i j (by omega)
    · rfl
  have s1 := step L hL 1 _ h1 e1
  have s2 := step L hL 2 _ s1.1 s1.2
  have s3 := step L hL 4 _ s2.1 s2.2
  have s4 := step L hL 8 _ s3.1 s3.2
  have s5 := step L hL 16 _ s4.1 s4.2
  have s6 := (step L hL 32 _ s5.1 s5.2).2
  have e : blocks (2 * 32) L = L := by
    ext i j
    unfold blocks
    rw [if_pos (by omega)]
  rw [e] at s6
  exact s6

/-- Both ways give the inverse. -/
theorem squared_eq_blocked (L : Mat) (hL : Low L) : squared (-L) = blocked L := by
  have h1 := squared_mul (-L) (fun i j h => by rw [Matrix.neg_apply, hL i j h, neg_zero])
  rw [sub_neg_eq_add] at h1
  have h2 := mul_eq_one_comm.mp (blocked_mul L hL)
  calc squared (-L) = squared (-L) * ((1 + L) * blocked L) := by rw [h2, mul_one]
    _ = blocked L := by rw [← mul_assoc, h1, one_mul]

/-- One head of one chunk: the forward call's inputs, the decay's running sum, the cotangents and the inverse. -/
structure In where
  (q k v du dw dqd dke : Fin 64 → Fin 128 → ℝ)
  (gc b : Fin 64 → ℝ)
  (dat : Fin 64 → Fin 64 → ℝ)
  (T : Mat)
  (dgl : ℝ)

/-- Two halves side by side. -/
def cat {α : Type} (a b : Fin 128 → α) (d : Fin 256) : α :=
  if h : d.val < 128 then a ⟨d.val, h⟩ else b ⟨d.val - 128, by omega⟩

def lo (d : Fin 128) : Fin 256 := ⟨d.val, by omega⟩
def hi (d : Fin 128) : Fin 256 := ⟨128 + d.val, by omega⟩

theorem cat_lo {α : Type} (a b : Fin 128 → α) (d : Fin 128) : cat a b (lo d) = a d := dif_pos d.isLt

theorem cat_hi {α : Type} (a b : Fin 128 → α) (d : Fin 128) : cat a b (hi d) = b d :=
  (dif_neg (by show ¬ (128 + d.val < 128); omega)).trans (congrArg b (Fin.ext (by show 128 + d.val - 128 = d.val; omega)))

namespace In

variable (S : In)

def gam (i : Fin 64) : ℝ := Real.exp (S.gc i)
def dec (i j : Fin 64) : ℝ := if j.val ≤ i.val then Real.exp (S.gc i - S.gc j) else 0
def e (i : Fin 64) : ℝ := Real.exp (S.gc 63 - S.gc i)
def kk (i j : Fin 64) : ℝ := ∑ d, S.k i d * S.k j d
def qk (i j : Fin 64) : ℝ := ∑ d, S.q i d * S.k j d
def low : Mat := fun i j => if j.val < i.val then S.dec i j * S.kk i j * S.b j else 0
def uv (i : Fin 64) (d : Fin 128) : ℝ := ∑ j, S.T i j * S.v j d
def wk (i : Fin 64) (d : Fin 128) : ℝ := ∑ j, S.T i j * (S.gam j * S.k j d)
def sol (i : Fin 64) (d : Fin 256) : ℝ := cat (S.uv i) (S.wk i) d
def ds (i : Fin 64) (d : Fin 256) : ℝ := cat (S.du i) (S.dw i) d
def dr (j : Fin 64) (d : Fin 256) : ℝ := ∑ i, S.T i j * S.ds i d
def dl (i j : Fin 64) : ℝ := if j.val < i.val then -((∑ d, S.dr i (lo d) * S.uv j d) + ∑ d, S.dr i (hi d) * S.wk j d) else 0
def da (i j : Fin 64) : ℝ := if j.val ≤ i.val then S.dat i j else 0
def ml (i j : Fin 64) : ℝ := S.dl i j * S.dec i j * S.b j
def ma (i j : Fin 64) : ℝ := S.da i j * S.dec i j * S.b j
def dv (i : Fin 64) (d : Fin 128) : ℝ := S.dr i (lo d)
def dgk (i : Fin 64) (d : Fin 128) : ℝ := S.dr i (hi d)
def dq (i : Fin 64) (d : Fin 128) : ℝ := (∑ j, S.ma i j * S.k j d) + S.dqd i d * S.gam i
def dk (i : Fin 64) (d : Fin 128) : ℝ :=
  (∑ j, (S.ml i j + S.ml j i) * S.k j d) + (∑ j, S.ma j i * S.q j d) + S.dgk i d * S.gam i + S.dke i d * (S.e i * S.b i)
def wb (i j : Fin 64) : ℝ := S.dl i j * S.dec i j * S.kk i j + S.da i j * S.dec i j * S.qk i j
def ew (i j : Fin 64) : ℝ := S.wb i j * S.b j
def ske (i : Fin 64) : ℝ := ∑ d, S.dke i d * S.k i d * (S.e i * S.b i)
def dbeta (i : Fin 64) : ℝ := (∑ j, S.wb j i) + ∑ d, S.dke i d * S.k i d * S.e i
def dgc (i : Fin 64) : ℝ :=
  (∑ j, S.ew i j) - (∑ j, S.ew j i) + (∑ d, S.dqd i d * S.q i d * S.gam i) + (∑ d, S.dgk i d * S.k i d * S.gam i) - S.ske i
def dgc' (i : Fin 64) : ℝ := if i.val = 63 then S.dgc i + ((∑ j, S.ske j) + S.dgl) else S.dgc i
def dg (i : Fin 64) : ℝ := ∑ j, if i.val ≤ j.val then S.dgc' j else 0

end In

end Chunk

end
-- ==== Proof.Chunk.Spec.lean ====
module

public import proofs.«01_k».proof.Proof.Gen.ChunkKIdeal.Frame
public import proofs.«01_k».proof.Proof.Chunk.Math
public import proofs.«01_k».proof.Proof.Reals
public import Idealize.ShloMosaic.Lib.Pipeline.ValueKit
public import Idealize.ShloMosaic.Lib.Pointwise

@[expose] public section

set_option maxRecDepth 16384

noncomputable section

open Idealize.ShloMosaic Idealize.ShloMosaic.TcCoe

namespace Chunk

open Cert.ChunkKIdeal Cert.ChunkKIdeal.Gen
open Reals (IsReal)

/-! Running sums of floats, read over exact numbers. -/

theorem foldl_sum {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- A float window sum is the initial value and the sum over the window. -/
theorem window_sum {s t u : Shape} (window strides lo hi : Fin s.rank → ℕ) (x : FVec Ideal s .f32) (init : FVec Ideal u .f32)
    (h : s.ReduceWindows window strides lo hi t) (hu : 0 < u.numel) (j : t.Idx) :
    @Eq EReal (Host.reduceWindowAdd window strides lo hi x init h hu j)
      (@HAdd.hAdd EReal EReal EReal _ (init (Shape.Idx.first hu)) (∑ w : (⟨s.rank, window⟩ : Shape).Idx,
        @dite EReal (∀ a, lo a ≤ (j (a.cast h.1.symm)).val * strides a + (w a).val ∧ (j (a.cast h.1.symm)).val * strides a + (w a).val - lo a < s.size a) _
          (fun hin => x (fun a => ⟨(j (a.cast h.1.symm)).val * strides a + (w a).val - lo a, (hin a).2⟩)) (fun _ => init (Shape.Idx.first hu)))) := by
  unfold Host.reduceWindowAdd
  show Ideal.hostReduceWindowAdd window strides lo hi h x (init (Shape.Idx.first hu)) j = _
  unfold Ideal.hostReduceWindowAdd Host.reduceWindow
  refine (foldl_sum _ _ _).trans ?_
  rw [← Fin.sum_univ_def]
  refine congrArg _ (Fintype.sum_equiv (⟨s.rank, window⟩ : Shape).rowMajor.symm _ _ fun n => ?_)
  by_cases hin : ∀ a, lo a ≤ (j (a.cast h.1.symm)).val * strides a + ((⟨s.rank, window⟩ : Shape).rowMajor.symm n a).val ∧ (j (a.cast h.1.symm)).val * strides a + ((⟨s.rank, window⟩ : Shape).rowMajor.symm n a).val - lo a < s.size a
  · refine (dif_pos hin).trans ?_
    rw [dif_pos hin]
  · refine (dif_neg hin).trans ?_
    rw [dif_neg hin]

/-- … which is real where the summed numbers are. -/
theorem window_real {s t u : Shape} (window strides lo hi : Fin s.rank → ℕ) (x : FVec Ideal s .f32) (init : FVec Ideal u .f32)
    (h : s.ReduceWindows window strides lo hi t) (hu : 0 < u.numel) (hx : ∀ i, IsReal (x i)) (hv : ∀ i, IsReal (init i)) (j : t.Idx) :
    IsReal (Host.reduceWindowAdd window strides lo hi x init h hu j) := by
  rw [window_sum]
  refine IsReal.add (hv _) (IsReal.sum _ _ fun w => ?_)
  split_ifs
  · exact hx _
  · exact hv _

/-- The running sum from the end of each row. -/
theorem rev_sum (x : FVec Ideal S32x4x64 .f32) (init : FVec Ideal S_ .f32) (hi : ∀ i, @Eq EReal (init i) 0)
    (h : S32x4x64.ReduceWindows (![1, 1, 64] : Fin 3 → ℕ) ![1, 1, 1] ![0, 0, 0] ![0, 0, 63] S32x4x64) (hu : 0 < S_.numel) (n : Fin 32) (k : Fin 4) (i : Fin 64) :
    @Eq EReal (Host.reduceWindowAdd (![1, 1, 64] : Fin 3 → ℕ) ![1, 1, 1] ![0, 0, 0] ![0, 0, 63] x init h hu (ix3 n k i))
      (∑ j : Fin 64, if i.val ≤ j.val then @id EReal (x (ix3 n k j)) else 0) := by
  rw [window_sum, hi, zero_add]
  let q : Fin 64 ≃ (⟨3, ![1, 1, 64]⟩ : Shape).Idx := ⟨fun j => ix3 0 0 j, fun w => w 2, fun j => rfl, fun w => by
    funext a
    match a with
    | 0 => exact Subsingleton.elim (α := Fin 1) _ _
    | 1 => exact Subsingleton.elim (α := Fin 1) _ _
    | 2 => rfl⟩
  refine (Fintype.sum_equiv q (fun w : Fin 64 => if hw : i.val + w.val < 64 then @id EReal (x (ix3 n k ⟨i.val + w.val, hw⟩)) else 0) _ fun w => ?_).symm.trans ?_
  · by_cases hw : i.val + w.val < 64
    · have hin : ∀ a : Fin 3, (![0, 0, 0] : Fin 3 → ℕ) a ≤ ((ix3 n k i : S32x4x64.Idx) a).val * (![1, 1, 1] : Fin 3 → ℕ) a + (q w a).val ∧ ((ix3 n k i : S32x4x64.Idx) a).val * (![1, 1, 1] : Fin 3 → ℕ) a + (q w a).val - (![0, 0, 0] : Fin 3 → ℕ) a < S32x4x64.size a := by
        intro a
        match a with
        | 0 => exact ⟨Nat.zero_le _, by show n.val * 1 + 0 - 0 < 32; omega⟩
        | 1 => exact ⟨Nat.zero_le _, by show k.val * 1 + 0 - 0 < 4; omega⟩
        | 2 => exact ⟨Nat.zero_le _, by show i.val * 1 + w.val - 0 < 64; omega⟩
      rw [dif_pos hw]
      refine Eq.symm ((dif_pos hin).trans (congrArg x (funext fun a => Fin.ext ?_)))
      match a with
      | 0 => show n.val * 1 + 0 - 0 = n.val; omega
      | 1 => show k.val * 1 + 0 - 0 = k.val; omega
      | 2 => show i.val * 1 + w.val - 0 = i.val + w.val; omega
    · rw [dif_neg hw]
      refine Eq.symm (dif_neg fun hin => hw ?_)
      have h2 := (hin 2).2
      change i.val * 1 + w.val - 0 < 64 at h2
      omega
  · have e1 : ∀ w : Fin 64, (if hw : i.val + w.val < 64 then @id EReal (x (ix3 n k ⟨i.val + w.val, hw⟩)) else 0) = ∑ j : Fin 64, if j.val = i.val + w.val then @id EReal (x (ix3 n k j)) else 0 := by
      intro w
      by_cases hw : i.val + w.val < 64
      · rw [dif_pos hw, Finset.sum_eq_single (⟨i.val + w.val, hw⟩ : Fin 64)]
        · exact (if_pos rfl).symm
        · exact fun j _ hj => if_neg fun e => hj (Fin.ext e)
        · exact fun hn => absurd (Finset.mem_univ _) hn
      · rw [dif_neg hw]
        exact (Finset.sum_eq_zero fun j _ => if_neg (by omega)).symm
    rw [Finset.sum_congr rfl fun w _ => e1 w, Finset.sum_comm]
    refine Finset.sum_congr rfl fun j _ => ?_
    by_cases hj : i.val ≤ j.val
    · rw [if_pos hj, Finset.sum_eq_single (⟨j.val - i.val, by omega⟩ : Fin 64)]
      · exact if_pos (by show j.val = i.val + (j.val - i.val); omega)
      · exact fun w _ hw => if_neg fun e => hw (Fin.ext (by show w.val = j.val - i.val; omega))
      · exact fun hn => absurd (Finset.mem_univ _) hn
    · rw [if_neg hj]
      exact Finset.sum_eq_zero fun w _ => if_neg (by omega)

/-! The arguments, and what they hold as reals. -/

structure Arr where
  (x0 x1 x2 : FVec Ideal S2048x512 .f32)
  (x3 x4 : FVec Ideal S2048x4 .f32)
  (x5 x6 : FVec Ideal S32x4x64x128 .f32)
  (x7 : FVec Ideal S32x4x64x64 .f32)
  (x8 x9 : FVec Ideal S32x4x64x128 .f32)
  (x10 : FVec Ideal S32x4 .f32)

structure Arr.Ok (A : Arr) : Prop where
  h0 : ∀ i, IsReal (A.x0 i)
  h1 : ∀ i, IsReal (A.x1 i)
  h2 : ∀ i, IsReal (A.x2 i)
  h3 : ∀ i, IsReal (A.x3 i)
  h4 : ∀ i, IsReal (A.x4 i)
  h5 : ∀ i, IsReal (A.x5 i)
  h6 : ∀ i, IsReal (A.x6 i)
  h7 : ∀ i, IsReal (A.x7 i)
  h8 : ∀ i, IsReal (A.x8 i)
  h9 : ∀ i, IsReal (A.x9 i)
  h10 : ∀ i, IsReal (A.x10 i)

/-- The running sum of the gates within each chunk. -/
def Arr.gc (A : Arr) : FVec Ideal S32x4x64 .f32 :=
  Host.reduceWindowAdd ![1, 1, 64] ![1, 1, 1] ![0, 0, 63] ![0, 0, 0]
    (transpose S32x4x64 [0, 2, 1] (shapeCast S32x64x4 A.x3 shapeCasts_S2048x4_S32x64x4) transposes_S32x64x4_S32x4x64_0_2_1 : FVec Ideal S32x4x64 .f32)
    (broadcastInDim S_ ![] bcast_S_S_ (constant S_ .f32 0x00000000#32 : FVec Ideal S_ .f32) : FVec Ideal S_ .f32)
    reduceWindows_S32x4x64_S32x4x64_w1s1p0_0_w1s1p0_0_w64s1p63_0 h_S_

theorem zero_real (i : S_.Idx) : @Eq EReal ((broadcastInDim S_ ![] bcast_S_S_ (constant S_ .f32 0x00000000#32 : FVec Ideal S_ .f32) : FVec Ideal S_ .f32) i) 0 := by
  show Ideal.ofBits .f32 0x00000000#32 = 0
  simp [Ideal.ofBits, Ideal.ieee]

theorem Arr.gc_real (A : Arr) (hA : A.Ok) (i) : IsReal (A.gc i) := by
  refine window_real _ _ _ _ _ _ _ _ (fun j => hA.h3 _) (fun j => ?_) i
  rw [zero_real]
  exact IsReal.zero

/-- The row of a chunk's step, and the column of a head's channel. -/
def at2 (n : Fin 32) (i : Fin 64) : Fin 2048 := ⟨64 * n.val + i.val, by omega⟩
def col (h : Fin 4) (d : Fin 128) : Fin 512 := ⟨128 * h.val + d.val, by omega⟩

/-- A chunk's and a head's numbers, but for the inverse … -/
def Arr.S0 (A : Arr) (n : Fin 32) (h : Fin 4) : In where
  q i d := EReal.toReal (A.x0 (ix2 (at2 n i) (col h d)))
  k i d := EReal.toReal (A.x1 (ix2 (at2 n i) (col h d)))
  v i d := EReal.toReal (A.x2 (ix2 (at2 n i) (col h d)))
  du i d := EReal.toReal (A.x5 (ix4 n h i d))
  dw i d := EReal.toReal (A.x6 (ix4 n h i d))
  dqd i d := EReal.toReal (A.x8 (ix4 n h i d))
  dke i d := EReal.toReal (A.x9 (ix4 n h i d))
  gc i := EReal.toReal (A.gc (ix3 n h i))
  b i := EReal.toReal (A.x4 (ix2 (at2 n i) h))
  dat i j := EReal.toReal (A.x7 (ix4 n h i j))
  T := 0
  dgl := EReal.toReal (A.x10 (ix2 n h)) * Real.exp (EReal.toReal (A.gc (ix3 n h 63)))

/-- … and with it. -/
def Arr.S (A : Arr) (n : Fin 32) (h : Fin 4) : In := { A.S0 n h with T := blocked (A.S0 n h).low }

theorem low_with (S : In) (T : Mat) : ({ S with T := T } : In).low = S.low := rfl

theorem Arr.S_low (A : Arr) (n : Fin 32) (h : Fin 4) : (A.S n h).low = (A.S0 n h).low := by
  unfold Arr.S
  exact low_with _ _

theorem low_low (S : In) : Low S.low := fun i j h => if_neg h

theorem Arr.S_T (A : Arr) (n : Fin 32) (h : Fin 4) : (A.S n h).T = blocked (A.S n h).low := by
  rw [Arr.S_low]
  unfold Arr.S
  generalize A.S0 n h = S
  rfl

theorem Arr.S_T' (A : Arr) (n : Fin 32) (h : Fin 4) : (A.S n h).T = squared (-(A.S n h).low) := by
  rw [squared_eq_blocked _ (low_low _), Arr.S_T]

theorem real (x : EReal) (h : IsReal x) : x = ((EReal.toReal x : ℝ) : EReal) := by
  obtain ⟨r, rfl⟩ := h
  rfl

variable (A : Arr) (hA : A.Ok) (n : Fin 32) (h : Fin 4)
include hA

theorem q_real (i d) : @Eq EReal (A.x0 (ix2 (at2 n i) (col h d))) ((A.S n h).q i d : ℝ) := real _ (hA.h0 _)
theorem k_real (i d) : @Eq EReal (A.x1 (ix2 (at2 n i) (col h d))) ((A.S n h).k i d : ℝ) := real _ (hA.h1 _)
theorem v_real (i d) : @Eq EReal (A.x2 (ix2 (at2 n i) (col h d))) ((A.S n h).v i d : ℝ) := real _ (hA.h2 _)
theorem b_real (i) : @Eq EReal (A.x4 (ix2 (at2 n i) h)) ((A.S n h).b i : ℝ) := real _ (hA.h4 _)
theorem du_real (i d) : @Eq EReal (A.x5 (ix4 n h i d)) ((A.S n h).du i d : ℝ) := real _ (hA.h5 _)
theorem dw_real (i d) : @Eq EReal (A.x6 (ix4 n h i d)) ((A.S n h).dw i d : ℝ) := real _ (hA.h6 _)
theorem dat_real (i j) : @Eq EReal (A.x7 (ix4 n h i j)) ((A.S n h).dat i j : ℝ) := real _ (hA.h7 _)
theorem dqd_real (i d) : @Eq EReal (A.x8 (ix4 n h i d)) ((A.S n h).dqd i d : ℝ) := real _ (hA.h8 _)
theorem dke_real (i d) : @Eq EReal (A.x9 (ix4 n h i d)) ((A.S n h).dke i d : ℝ) := real _ (hA.h9 _)
theorem gc_real (i) : @Eq EReal (A.gc (ix3 n h i)) ((A.S n h).gc i : ℝ) := real _ (A.gc_real hA _)

theorem dgl_real : (show EReal from A.x10 (ix2 n h)) * Ideal.exp (A.gc (ix3 n h 63)) = ((A.S n h).dgl : ℝ) := by
  rw [gc_real A hA, Ideal.exp_coe, show (A.x10 (ix2 n h) : EReal) = _ from real _ (hA.h10 _), ← EReal.coe_mul]
  rfl

end Chunk

end
-- ==== Proof.Chunk.Text.lean ====
module

public import proofs.«01_k».proof.Proof.Gen.ChunkKIdeal.Frame

@[expose] public section

set_option maxRecDepth 16384

noncomputable section

namespace Cert.ChunkKIdeal.Gen

open Idealize.ShloMosaic Idealize.ShloMosaic.TcCoe

variable {F : FTy → Type} [FloatOps F]

/-- What the body loads for one chunk: the operands of the four heads stacked on one another, the two block-diagonal
    matrices, and the last term of each head. -/
structure Ld (F : FTy → Type) where
  (q k g b uv wk du dw dqd dke : FVec F S256x128 .f32)
  (t dat : Vec F S256x256 .f32)
  (l0 l1 l2 l3 : Vec F S1x1x1 .f32)

namespace Ld

variable (L : Ld F)

/-! What one chunk's part of the body computes, in the order of its text. -/

def dec : FVec F S256x256 .f32 := k0_pay19 k0_pay3 (k0_pay17 L.g) (k0_pay18 L.g)
def bt : FVec F S256x256 .f32 := k0_pay20 L.b
def kk : FVec F S256x256 .f32 := k0_pay21 L.k
def qk : FVec F S256x256 .f32 := k0_pay22 L.q L.k
def drhs : FVec F S256x256 .f32 := k0_pay23 L.du L.dw L.t
def dlr : FVec F S256x256 .f32 := k0_pay24 L.uv L.wk L.du L.dw L.t
def dl : FVec F S256x256 .f32 := k0_pay25 k0_pay4 L.dlr (Scalar.ofBits .f32 0x00000000#32)
def da : FVec F S256x256 .f32 := k0_pay26 k0_pay3 L.dat
def gam : FVec F S256x128 .f32 := k0_pay27 L.g
def e : FVec F S256x128 .f32 := k0_pay28 L.g
def dgk : FVec F S256x128 .f32 := k0_pay29 L.drhs
def ma : FVec F S256x256 .f32 := k0_pay30 k0_pay3 L.dec L.bt L.dat
def ml : FVec F S256x256 .bf16 := k0_pay36 k0_pay4 L.dec L.bt L.dlr (Scalar.ofBits .f32 0x00000000#32)
def dq : FVec F S256x128 .f32 := k0_pay31 k0_pay3 L.k L.g L.dqd L.dec L.bt L.dat
def dk : FVec F S256x128 .f32 := k0_pay38 L.q L.b L.dke L.gam L.e L.dgk L.ma L.ml (k0_pay37 L.k)
def dv : FVec F S256x128 .f32 := k0_pay43 L.drhs
def ke : FVec F S256x128 .f32 := k0_pay50 L.k L.dke
def ske : FVec F S256x1 .f32 := k0_pay51 L.b L.e L.ke
def wb : FVec F S256x256 .f32 := k0_pay48 L.dec L.kk L.qk L.dl L.da
def ew : FVec F S256x256 .f32 := k0_pay49 L.dec L.bt L.kk L.qk L.dl L.da
def dbeta : FVec F S256x1 .f32 := k0_pay52 L.k L.dke L.e L.wb
def dgc : FVec F S256x1 .f32 := k0_pay53 L.q L.k L.b L.dqd L.gam L.e L.dgk L.ew L.ke

def lane : IVec S64x128 32 := iota .tc S64x128 32 [1] iota_S64x128_d1_w32
def rowi : IVec S64x1 32 := iota .tc S64x1 32 [0] iota_S64x1_d0_w32

def dgc4 : FVec F S64x128 .f32 :=
  k0_pay65 lane rowi L.ske L.dgc (k0_pay60 lane rowi L.ske L.dgc (k0_pay54 (F := F)) (k0_pay56 lane)
    (k0_pay57 L.q L.k L.b L.dqd L.gam L.e L.dgk L.ew L.ke) (k0_pay58 rowi) (Scalar.ofBits .f32 0x00000000#32) (k0_pay59 L.b L.e L.ke L.l0) L.l1)
    (k0_pay62 L.ske L.l2) (k0_pay63 lane) (k0_pay64 L.dgc) L.l3
def dg : FVec F S64x128 .f32 :=
  k0_pay69 L.dgc4 (iota .tc S64x64 32 [0] iota_S64x64_d0_w32) (iota .tc S64x64 32 [1] iota_S64x64_d1_w32) k0_pay67 k0_pay68
def db : FVec F S64x128 .f32 := k0_pay66 lane L.dbeta (k0_pay61 lane L.dbeta (k0_pay55 (F := F)))

end Ld

/-- One head's rows of the stacked heads. -/
def sl0 (v : FVec F S256x128 .f32) : FVec F S64x128 .f32 := extractStridedSlice S64x128 ![0, 0] v slices_S256x128_o0_0_S64x128
def sl1 (v : FVec F S256x128 .f32) : FVec F S64x128 .f32 := extractStridedSlice S64x128 ![64, 0] v slices_S256x128_o64_0_S64x128
def sl2 (v : FVec F S256x128 .f32) : FVec F S64x128 .f32 := extractStridedSlice S64x128 ![128, 0] v slices_S256x128_o128_0_S64x128
def sl3 (v : FVec F S256x128 .f32) : FVec F S64x128 .f32 := extractStridedSlice S64x128 ![192, 0] v slices_S256x128_o192_0_S64x128

variable (x0 : Vec F S256x512 .f32) (x1 : Vec F S256x512 .f32) (x2 : Vec F S256x512 .f32) (x3 : Vec F S256x512 .f32) (x4 : Vec F S1024x256 .f32) (x5 : Vec F S256x512 .f32) (x6 : Vec F S256x512 .f32) (x7 : Vec F S256x512 .f32) (x8 : Vec F S256x512 .f32) (x9 : Vec F S1024x256 .f32) (x10 : Vec F S256x512 .f32) (x11 : Vec F S256x512 .f32) (x12 : Vec F S4x8x512 .f32)

/-- What is loaded for chunk 0 of a block. -/
def ld0 : Ld F where
  q := k0_pay5 (View.ld x0 r0_0) (View.ld x0 r0_1) (View.ld x0 r0_2) (View.ld x0 r0_3)
  k := k0_pay6 (View.ld x1 r0_0) (View.ld x1 r0_1) (View.ld x1 r0_2) (View.ld x1 r0_3)
  g := k0_pay7 (View.ld x2 r0_0) (View.ld x2 r0_1) (View.ld x2 r0_2) (View.ld x2 r0_3)
  b := k0_pay8 (View.ld x3 r0_0) (View.ld x3 r0_1) (View.ld x3 r0_2) (View.ld x3 r0_3)
  uv := k0_pay9 (View.ld x5 r0_0) (View.ld x5 r0_1) (View.ld x5 r0_2) (View.ld x5 r0_3)
  wk := k0_pay10 (View.ld x6 r0_0) (View.ld x6 r0_1) (View.ld x6 r0_2) (View.ld x6 r0_3)
  du := k0_pay14 (View.ld x7 r0_0) (View.ld x7 r0_1) (View.ld x7 r0_2) (View.ld x7 r0_3)
  dw := k0_pay14 (View.ld x8 r0_0) (View.ld x8 r0_1) (View.ld x8 r0_2) (View.ld x8 r0_3)
  dqd := k0_pay15 (View.ld x10 r0_0) (View.ld x10 r0_1) (View.ld x10 r0_2) (View.ld x10 r0_3)
  dke := k0_pay16 (View.ld x11 r0_0) (View.ld x11 r0_1) (View.ld x11 r0_2) (View.ld x11 r0_3)
  t := View.ld x4 r0_4
  dat := View.ld x9 r0_4
  l0 := View.ld x12 r0_5
  l1 := View.ld x12 r0_6
  l2 := View.ld x12 r0_7
  l3 := View.ld x12 r0_8

/-- What is loaded for chunk 1 of a block. -/
def ld1 : Ld F where
  q := k0_pay5 (View.ld x0 r0_10) (View.ld x0 r0_11) (View.ld x0 r0_12) (View.ld x0 r0_13)
  k := k0_pay6 (View.ld x1 r0_10) (View.ld x1 r0_11) (View.ld x1 r0_12) (View.ld x1 r0_13)
  g := k0_pay7 (View.ld x2 r0_10) (View.ld x2 r0_11) (View.ld x2 r0_12) (View.ld x2 r0_13)
  b := k0_pay8 (View.ld x3 r0_10) (View.ld x3 r0_11) (View.ld x3 r0_12) (View.ld x3 r0_13)
  uv := k0_pay9 (View.ld x5 r0_10) (View.ld x5 r0_11) (View.ld x5 r0_12) (View.ld x5 r0_13)
  wk := k0_pay10 (View.ld x6 r0_10) (View.ld x6 r0_11) (View.ld x6 r0_12) (View.ld x6 r0_13)
  du := k0_pay14 (View.ld x7 r0_10) (View.ld x7 r0_11) (View.ld x7 r0_12) (View.ld x7 r0_13)
  dw := k0_pay14 (View.ld x8 r0_10) (View.ld x8 r0_11) (View.ld x8 r0_12) (View.ld x8 r0_13)
  dqd := k0_pay15 (View.ld x10 r0_10) (View.ld x10 r0_11) (View.ld x10 r0_12) (View.ld x10 r0_13)
  dke := k0_pay16 (View.ld x11 r0_10) (View.ld x11 r0_11) (View.ld x11 r0_12) (View.ld x11 r0_13)
  t := View.ld x4 r0_14
  dat := View.ld x9 r0_14
  l0 := View.ld x12 r0_15
  l1 := View.ld x12 r0_16
  l2 := View.ld x12 r0_17
  l3 := View.ld x12 r0_18

/-- What is loaded for chunk 2 of a block. -/
def ld2 : Ld F where
  q := k0_pay5 (View.ld x0 r0_20) (View.ld x0 r0_21) (View.ld x0 r0_22) (View.ld x0 r0_23)
  k := k0_pay6 (View.ld x1 r0_20) (View.ld x1 r0_21) (View.ld x1 r0_22) (View.ld x1 r0_23)
  g := k0_pay7 (View.ld x2 r0_20) (View.ld x2 r0_21) (View.ld x2 r0_22) (View.ld x2 r0_23)
  b := k0_pay8 (View.ld x3 r0_20) (View.ld x3 r0_21) (View.ld x3 r0_22) (View.ld x3 r0_23)
  uv := k0_pay9 (View.ld x5 r0_20) (View.ld x5 r0_21) (View.ld x5 r0_22) (View.ld x5 r0_23)
  wk := k0_pay10 (View.ld x6 r0_20) (View.ld x6 r0_21) (View.ld x6 r0_22) (View.ld x6 r0_23)
  du := k0_pay14 (View.ld x7 r0_20) (View.ld x7 r0_21) (View.ld x7 r0_22) (View.ld x7 r0_23)
  dw := k0_pay14 (View.ld x8 r0_20) (View.ld x8 r0_21) (View.ld x8 r0_22) (View.ld x8 r0_23)
  dqd := k0_pay15 (View.ld x10 r0_20) (View.ld x10 r0_21) (View.ld x10 r0_22) (View.ld x10 r0_23)
  dke := k0_pay16 (View.ld x11 r0_20) (View.ld x11 r0_21) (View.ld x11 r0_22) (View.ld x11 r0_23)
  t := View.ld x4 r0_24
  dat := View.ld x9 r0_24
  l0 := View.ld x12 r0_25
  l1 := View.ld x12 r0_26
  l2 := View.ld x12 r0_27
  l3 := View.ld x12 r0_28

/-- What is loaded for chunk 3 of a block. -/
def ld3 : Ld F where
  q := k0_pay5 (View.ld x0 r0_30) (View.ld x0 r0_31) (View.ld x0 r0_32) (View.ld x0 r0_33)
  k := k0_pay6 (View.ld x1 r0_30) (View.ld x1 r0_31) (View.ld x1 r0_32) (View.ld x1 r0_33)
  g := k0_pay7 (View.ld x2 r0_30) (View.ld x2 r0_31) (View.ld x2 r0_32) (View.ld x2 r0_33)
  b := k0_pay8 (View.ld x3 r0_30) (View.ld x3 r0_31) (View.ld x3 r0_32) (View.ld x3 r0_33)
  uv := k0_pay9 (View.ld x5 r0_30) (View.ld x5 r0_31) (View.ld x5 r0_32) (View.ld x5 r0_33)
  wk := k0_pay10 (View.ld x6 r0_30) (View.ld x6 r0_31) (View.ld x6 r0_32) (View.ld x6 r0_33)
  du := k0_pay14 (View.ld x7 r0_30) (View.ld x7 r0_31) (View.ld x7 r0_32) (View.ld x7 r0_33)
  dw := k0_pay14 (View.ld x8 r0_30) (View.ld x8 r0_31) (View.ld x8 r0_32) (View.ld x8 r0_33)
  dqd := k0_pay15 (View.ld x10 r0_30) (View.ld x10 r0_31) (View.ld x10 r0_32) (View.ld x10 r0_33)
  dke := k0_pay16 (View.ld x11 r0_30) (View.ld x11 r0_31) (View.ld x11 r0_32) (View.ld x11 r0_33)
  t := View.ld x4 r0_34
  dat := View.ld x9 r0_34
  l0 := View.ld x12 r0_35
  l1 := View.ld x12 r0_36
  l2 := View.ld x12 r0_37
  l3 := View.ld x12 r0_38

/-! The stores of the three results of the heads, and of the two of the gates, through the texts above. -/

theorem out13_eq : out0_13 x0 x1 x2 x3 x4 x5 x6 x7 x8 x9 x10 x11 x12 = View.canon [⟨r0_33, sl3 (ld3 x0 x1 x2 x3 x4 x5 x6 x7 x8 x9 x10 x11 x12).dq⟩, ⟨r0_32, sl2 (ld3 x0 x1 x2 x3 x4 x5 x6 x7 x8 x9 x10 x11 x12).dq⟩, ⟨r0_31, sl1 (ld3 x0 x1 x2 x3 x4 x5 x6 x7 x8 x9 x10 x11 x12).dq⟩, ⟨r0_30, sl0 (ld3 x0 x1 x2 x3 x4 x5 x6 x7 x8 x9 x10 x11 x12).dq⟩, ⟨r0_23, sl3 (ld2 x0 x1 x2 x3 x4 x5 x6 x7 x8 x9 x10 x11 x12).dq⟩, ⟨r0_22, sl2 (ld2 x0 x1 x2 x3 x4 x5 x6 x7 x8 x9 x10 x11 x12).dq⟩, ⟨r0_21, sl1 (ld2 x0 x1 x2 x3 x4 x5 x6 x7 x8 x9 x10 x11 x12).dq⟩, ⟨r0_20, sl0 (ld2 x0 x1 x2 x3 x4 x5 x6 x7 x8 x9 x10 x11 x12).dq⟩, ⟨r0_13, sl3 (ld1 x0 x1 x2 x3 x4 x5 x6 x7 x8 x9 x10 x11 x12).dq⟩, ⟨r0_12, sl2 (ld1 x0 x1 x2 x3 x4 x5 x6 x7 x8 x9 x10 x11 x12).dq⟩, ⟨r0_11, sl1 (ld1 x0 x1 x2 x3 x4 x5 x6 x7 x8 x9 x10 x11 x12).dq⟩, ⟨r0_10, sl0 (ld1 x0 x1 x2 x3 x4 x5 x6 x7 x8 x9 x10 x11 x12).dq⟩, ⟨r0_3, sl3 (ld0 x0 x1 x2 x3 x4 x5 x6 x7 x8 x9 x10 x11 x12).dq⟩, ⟨r0_2, sl2 (ld0 x0 x1 x2 x3 x4 x5 x6 x7 x8 x9 x10 x11 x12).dq⟩, ⟨r0_1, sl1 (ld0 x0 x1 x2 x3 x4 x5 x6 x7 x8 x9 x10 x11 x12).dq⟩, ⟨r0_0, sl0 (ld0 x0 x1 x2 x3 x4 x5 x6 x7 x8 x9 x10 x11 x12).dq⟩] := rfl

theorem out14_eq : out0_14 x0 x1 x2 x3 x4 x5 x6 x7 x8 x9 x10 x11 x12 = View.canon [⟨r0_33, sl3 (ld3 x0 x1 x2 x3 x4 x5 x6 x7 x8 x9 x10 x11 x12).dk⟩, ⟨r0_32, sl2 (ld3 x0 x1 x2 x3 x4 x5 x6 x7 x8 x9 x10 x11 x12).dk⟩, ⟨r0_31, sl1 (ld3 x0 x1 x2 x3 x4 x5 x6 x7 x8 x9 x10 x11 x12).dk⟩, ⟨r0_30, sl0 (ld3 x0 x1 x2 x3 x4 x5 x6 x7 x8 x9 x10 x11 x12).dk⟩, ⟨r0_23, sl3 (ld2 x0 x1 x2 x3 x4 x5 x6 x7 x8 x9 x10 x11 x12).dk⟩, ⟨r0_22, sl2 (ld2 x0 x1 x2 x3 x4 x5 x6 x7 x8 x9 x10 x11 x12).dk⟩, ⟨r0_21, sl1 (ld2 x0 x1 x2 x3 x4 x5 x6 x7 x8 x9 x10 x11 x12).dk⟩, ⟨r0_20, sl0 (ld2 x0 x1 x2 x3 x4 x5 x6 x7 x8 x9 x10 x11 x12).dk⟩, ⟨r0_13, sl3 (ld1 x0 x1 x2 x3 x4 x5 x6 x7 x8 x9 x10 x11 x12).dk⟩, ⟨r0_12, sl2 (ld1 x0 x1 x2 x3 x4 x5 x6 x7 x8 x9 x10 x11 x12).dk⟩, ⟨r0_11, sl1 (ld1 x0 x1 x2 x3 x4 x5 x6 x7 x8 x9 x10 x11 x12).dk⟩, ⟨r0_10, sl0 (ld1 x0 x1 x2 x3 x4 x5 x6 x7 x8 x9 x10 x11 x12).dk⟩, ⟨r0_3, sl3 (ld0 x0 x1 x2 x3 x4 x5 x6 x7 x8 x9 x10 x11 x12).dk⟩, ⟨r0_2, sl2 (ld0 x0 x1 x2 x3 x4 x5 x6 x7 x8 x9 x10 x11 x12).dk⟩, ⟨r0_1, sl1 (ld0 x0 x1 x2 x3 x4 x5 x6 x7 x8 x9 x10 x11 x12).dk⟩, ⟨r0_0, sl0 (ld0 x0 x1 x2 x3 x4 x5 x6 x7 x8 x9 x10 x11 x12).dk⟩] := rfl

theorem out15_eq : out0_15 x0 x1 x2 x3 x4 x5 x6 x7 x8 x9 x10 x11 x12 = View.canon [⟨r0_33, sl3 (ld3 x0 x1 x2 x3 x4 x5 x6 x7 x8 x9 x10 x11 x12).dv⟩, ⟨r0_32, sl2 (ld3 x0 x1 x2 x3 x4 x5 x6 x7 x8 x9 x10 x11 x12).dv⟩, ⟨r0_31, sl1 (ld3 x0 x1 x2 x3 x4 x5 x6 x7 x8 x9 x10 x11 x12).dv⟩, ⟨r0_30, sl0 (ld3 x0 x1 x2 x3 x4 x5 x6 x7 x8 x9 x10 x11 x12).dv⟩, ⟨r0_23, sl3 (ld2 x0 x1 x2 x3 x4 x5 x6 x7 x8 x9 x10 x11 x12).dv⟩, ⟨r0_22, sl2 (ld2 x0 x1 x2 x3 x4 x5 x6 x7 x8 x9 x10 x11 x12).dv⟩, ⟨r0_21, sl1 (ld2 x0 x1 x2 x3 x4 x5 x6 x7 x8 x9 x10 x11 x12).dv⟩, ⟨r0_20, sl0 (ld2 x0 x1 x2 x3 x4 x5 x6 x7 x8 x9 x10 x11 x12).dv⟩, ⟨r0_13, sl3 (ld1 x0 x1 x2 x3 x4 x5 x6 x7 x8 x9 x10 x11 x12).dv⟩, ⟨r0_12, sl2 (ld1 x0 x1 x2 x3 x4 x5 x6 x7 x8 x9 x10 x11 x12).dv⟩, ⟨r0_11, sl1 (ld1 x0 x1 x2 x3 x4 x5 x6 x7 x8 x9 x10 x11 x12).dv⟩, ⟨r0_10, sl0 (ld1 x0 x1 x2 x3 x4 x5 x6 x7 x8 x9 x10 x11 x12).dv⟩, ⟨r0_3, sl3 (ld0 x0 x1 x2 x3 x4 x5 x6 x7 x8 x9 x10 x11 x12).dv⟩, ⟨r0_2, sl2 (ld0 x0 x1 x2 x3 x4 x5 x6 x7 x8 x9 x10 x11 x12).dv⟩, ⟨r0_1, sl1 (ld0 x0 x1 x2 x3 x4 x5 x6 x7 x8 x9 x10 x11 x12).dv⟩, ⟨r0_0, sl0 (ld0 x0 x1 x2 x3 x4 x5 x6 x7 x8 x9 x10 x11 x12).dv⟩] := rfl

theorem out16_eq : out0_16 x0 x1 x2 x3 x4 x5 x6 x7 x8 x9 x10 x11 x12 = View.canon [⟨r0_39, (ld3 x0 x1 x2 x3 x4 x5 x6 x7 x8 x9 x10 x11 x12).dg⟩, ⟨r0_29, (ld2 x0 x1 x2 x3 x4 x5 x6 x7 x8 x9 x10 x11 x12).dg⟩, ⟨r0_19, (ld1 x0 x1 x2 x3 x4 x5 x6 x7 x8 x9 x10 x11 x12).dg⟩, ⟨r0_9, (ld0 x0 x1 x2 x3 x4 x5 x6 x7 x8 x9 x10 x11 x12).dg⟩] := rfl

theorem out17_eq : out0_17 x0 x1 x2 x3 x4 x5 x6 x7 x8 x9 x10 x11 x12 = View.canon [⟨r0_39, (ld3 x0 x1 x2 x3 x4 x5 x6 x7 x8 x9 x10 x11 x12).db⟩, ⟨r0_29, (ld2 x0 x1 x2 x3 x4 x5 x6 x7 x8 x9 x10 x11 x12).db⟩, ⟨r0_19, (ld1 x0 x1 x2 x3 x4 x5 x6 x7 x8 x9 x10 x11 x12).db⟩, ⟨r0_9, (ld0 x0 x1 x2 x3 x4 x5 x6 x7 x8 x9 x10 x11 x12).db⟩] := rfl

end Cert.ChunkKIdeal.Gen

end
-- ==== Proof.Chunk.Point.lean ====
module

public import proofs.«01_k».proof.Proof.Chunk.Text
public import proofs.«01_k».proof.Proof.Chunk.Math
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ChunkKIdeal.Value

open Cert.ChunkKIdeal Cert.ChunkKIdeal.Gen

open Reals

/-- Row `i` of head `h` among the stacked heads. -/
def row (h : Fin 4) (i : Fin 64) : Fin 256 := ⟨64 * h.val + i.val, by omega⟩

theorem and_at : ∀ r : Fin 256, IntOp.andi (BitVec.ofNat 32 r.val) 4294967232#32 = BitVec.ofNat 32 (64 * (r.val / 64)) := by
  decide +kernel

theorem eq_at : ∀ h h' : Fin 4, IntOp.cmpi .eq (BitVec.ofNat 32 (64 * h.val)) (BitVec.ofNat 32 (64 * h'.val)) = if h = h' then 1#1 else 0#1 := by
  decide +kernel

theorem toInt_at (a : ℕ) (h : a < 256) : (BitVec.ofNat 32 a).toInt = (a : ℤ) := by
  rw [BitVec.toInt_eq_toNat_of_lt (by rw [BitVec.toNat_ofNat]; omega), BitVec.toNat_ofNat]
  omega

theorem sge_at (a b : ℕ) (ha : a < 256) (hb : b < 256) : IntOp.cmpi .sge (BitVec.ofNat 32 a) (BitVec.ofNat 32 b) = if b ≤ a then 1#1 else 0#1 := by
  have e : IntOp.cmpi .sge (BitVec.ofNat 32 a) (BitVec.ofNat 32 b) = BitVec.ofBool (BitVec.sle (BitVec.ofNat 32 b) (BitVec.ofNat 32 a)) := rfl
  rw [e, BitVec.sle, toInt_at a ha, toInt_at b hb]
  by_cases h : b ≤ a <;> simp [h]

theorem sgt_at (a b : ℕ) (ha : a < 256) (hb : b < 256) : IntOp.cmpi .sgt (BitVec.ofNat 32 a) (BitVec.ofNat 32 b) = if b < a then 1#1 else 0#1 := by
  have e : IntOp.cmpi .sgt (BitVec.ofNat 32 a) (BitVec.ofNat 32 b) = BitVec.ofBool (BitVec.slt (BitVec.ofNat 32 b) (BitVec.ofNat 32 a)) := rfl
  rw [e, BitVec.slt, toInt_at a ha, toInt_at b hb]
  by_cases h : b < a <;> simp [h]

theorem row_div (h : Fin 4) (i : Fin 64) : 64 * ((row h i).val / 64) = 64 * h.val := by
  show 64 * ((64 * h.val + i.val) / 64) = _
  omega

theorem m2_at (h h' : Fin 4) (i j : Fin 64) : k0_pay2 (ix2 (row h i) (row h' j)) = if h = h' then 1#1 else 0#1 := by
  pointwise [k0_pay2]
  rw [and_at, and_at, row_div, row_div, eq_at]

theorem m3_at (h h' : Fin 4) (i j : Fin 64) : k0_pay3 (ix2 (row h i) (row h' j)) = if h = h' ∧ j.val ≤ i.val then 1#1 else 0#1 := by
  have hv := m2_at h h' i j
  unfold k0_pay3
  generalize k0_pay2 = v at hv ⊢
  pointwise []
  rw [hv, sge_at _ _ (row h i).isLt (row h' j).isLt]
  by_cases e : h = h'
  · subst e
    have : (row h j).val ≤ (row h i).val ↔ j.val ≤ i.val := by show 64 * h.val + j.val ≤ 64 * h.val + i.val ↔ _; omega
    simp only [this, true_and, if_true]
    split_ifs <;> rfl
  · simp only [e, if_false, false_and]
    split_ifs <;> rfl

theorem m4_at (h h' : Fin 4) (i j : Fin 64) : k0_pay4 (ix2 (row h i) (row h' j)) = if h = h' ∧ j.val < i.val then 1#1 else 0#1 := by
  have hv := m2_at h h' i j
  unfold k0_pay4
  generalize k0_pay2 = v at hv ⊢
  pointwise []
  rw [hv, sgt_at _ _ (row h i).isLt (row h' j).isLt]
  by_cases e : h = h'
  · subst e
    have : (row h j).val < (row h i).val ↔ j.val < i.val := by show 64 * h.val + j.val < 64 * h.val + i.val ↔ _; omega
    simp only [this, true_and, if_true]
    split_ifs <;> rfl
  · simp only [e, if_false, false_and]
    split_ifs <;> rfl

open Chunk (In)

/-- A block-diagonal entry: the head's own, else nothing. -/
def own (h h' : Fin 4) (x : ℝ) : EReal := if h = h' then (x : EReal) else 0

theorem own_self (h : Fin 4) (x : ℝ) : own h h x = (x : EReal) := if_pos rfl

theorem own_ne {h h' : Fin 4} (e : ¬ h = h') (x : ℝ) : own h h' x = 0 := if_neg e

theorem sum_rows (f : Fin 256 → EReal) : ∑ r, f r = ∑ h : Fin 4, ∑ i : Fin 64, f (row h i) := by
  have e := Fintype.sum_prod_type' (fun (h : Fin 4) (i : Fin 64) => f (row h i))
  let q : Fin 4 × Fin 64 ≃ Fin 256 := ⟨fun p => row p.1 p.2, fun r => (⟨r.val / 64, by omega⟩, ⟨r.val % 64, by omega⟩),
    fun p => Prod.ext (Fin.ext (by show (64 * p.1.val + p.2.val) / 64 = p.1.val; omega)) (Fin.ext (by show (64 * p.1.val + p.2.val) % 64 = p.2.val; omega)),
    fun r => Fin.ext (by show 64 * (r.val / 64) + r.val % 64 = r.val; omega)⟩
  exact (Fintype.sum_equiv q (fun p => f (row p.1 p.2)) f fun _ => rfl).symm.trans e

/-- A sum over the stacked rows whose terms live in one head. -/
theorem sum_own (h : Fin 4) (f : Fin 256 → EReal) (g : Fin 64 → ℝ) (hf : ∀ h' j, f (row h' j) = own h h' (g j)) : ∑ r, f r = ((∑ j, g j : ℝ) : EReal) := by
  rw [sum_rows, Finset.sum_eq_single h]
  · rw [coe_sum]
    exact Finset.sum_congr rfl fun j _ => (hf h j).trans (own_self _ _)
  · intro h' _ e
    exact Finset.sum_eq_zero fun j _ => (hf h' j).trans (own_ne (Ne.symm e) _)
  · intro e
    exact absurd (Finset.mem_univ _) e

theorem sub_self_of (x : EReal) (h : IsReal x) : x - x = 0 := by
  obtain ⟨a, rfl⟩ := h
  rw [← EReal.coe_sub, sub_self]
  rfl

theorem own_real (h h' : Fin 4) (x : ℝ) : IsReal (own h h' x) := by
  unfold own
  split_ifs
  · exact ⟨x, rfl⟩
  · exact .zero

/-- The chunk's loads are these reals. -/
structure Is (L : Ld Ideal) (S : Fin 4 → In) : Prop where
  q : ∀ h i d, @Eq EReal (L.q (ix2 (row h i) d)) ((S h).q i d : ℝ)
  k : ∀ h i d, @Eq EReal (L.k (ix2 (row h i) d)) ((S h).k i d : ℝ)
  g : ∀ h i d, @Eq EReal (L.g (ix2 (row h i) d)) ((S h).gc i : ℝ)
  b : ∀ h i d, @Eq EReal (L.b (ix2 (row h i) d)) ((S h).b i : ℝ)
  uv : ∀ h i d, @Eq EReal (L.uv (ix2 (row h i) d)) ((S h).uv i d : ℝ)
  wk : ∀ h i d, @Eq EReal (L.wk (ix2 (row h i) d)) ((S h).wk i d : ℝ)
  du : ∀ h i d, @Eq EReal (L.du (ix2 (row h i) d)) ((S h).du i d : ℝ)
  dw : ∀ h i d, @Eq EReal (L.dw (ix2 (row h i) d)) ((S h).dw i d : ℝ)
  dqd : ∀ h i d, @Eq EReal (L.dqd (ix2 (row h i) d)) ((S h).dqd i d : ℝ)
  dke : ∀ h i d, @Eq EReal (L.dke (ix2 (row h i) d)) ((S h).dke i d : ℝ)
  t : ∀ h h' i j, @Eq EReal (L.t (ix2 (row h i) (row h' j))) (own h h' ((S h).T i j))
  dat : ∀ h h' i j, @Eq EReal (L.dat (ix2 (row h i) (row h' j))) (own h h' ((S h).dat i j))
  l0 : @Eq EReal (L.l0 (ix3 0 0 0)) ((S 0).dgl : ℝ)
  l1 : @Eq EReal (L.l1 (ix3 0 0 0)) ((S 1).dgl : ℝ)
  l2 : @Eq EReal (L.l2 (ix3 0 0 0)) ((S 2).dgl : ℝ)
  l3 : @Eq EReal (L.l3 (ix3 0 0 0)) ((S 3).dgl : ℝ)

theorem sel_true (x y : EReal) : Scalar.select 1#1 x y = x := rfl
theorem sel_false (x y : EReal) : Scalar.select 0#1 x y = y := rfl

variable {L : Ld Ideal} {S : Fin 4 → In} (H : Is L S)

include H

theorem dec_at (h h' : Fin 4) (i j : Fin 64) : @Eq EReal (L.dec (ix2 (row h i) (row h' j))) (own h h' ((S h).dec i j)) := by
  have hm := m3_at h h' i j
  unfold Ld.dec
  generalize k0_pay3 = m at hm ⊢
  pointwise [k0_pay19, k0_pay17, k0_pay18]
  rw [hm]
  by_cases e : h = h'
  · subst e
    rw [own_self]
    unfold In.dec
    by_cases c : j.val ≤ i.val
    · rw [if_pos ⟨rfl, c⟩, if_pos c, sel_true, sel_true, ← Ideal.exp_coe, EReal.coe_sub]
      refine congrArg Ideal.exp (congrArg₂ _ ?_ ?_)
      · split_ifs <;> exact H.g _ _ _
      · split_ifs <;> exact H.g _ _ _
    · rw [if_neg (fun a => c a.2), if_neg c, sel_false]
      rfl
  · rw [own_ne e, if_neg (fun a => e a.1), sel_false]

theorem bt_at (r : Fin 256) (h : Fin 4) (j : Fin 64) : @Eq EReal (L.bt (ix2 r (row h j))) ((S h).b j : ℝ) := by
  unfold Ld.bt
  pointwise [k0_pay20]
  split_ifs <;> exact H.b _ _ _

/-- The products of the keys' rows and of the queries' rows with the keys': the entries within a head are the head's own. -/
theorem kk_at (h : Fin 4) (i j : Fin 64) : @Eq EReal (L.kk (ix2 (row h i) (row h j))) ((S h).kk i j : ℝ) := by
  have hk := H.k
  unfold Ld.kk In.kk
  generalize L.k = v at hk ⊢
  pointwise [k0_pay21]
  rw [coe_sum]
  exact Finset.sum_congr rfl fun d _ => by rw [hk, hk, EReal.coe_mul]

theorem qk_at (h : Fin 4) (i j : Fin 64) : @Eq EReal (L.qk (ix2 (row h i) (row h j))) ((S h).qk i j : ℝ) := by
  have hk := H.k
  have hq := H.q
  unfold Ld.qk In.qk
  generalize L.k = v at hk ⊢
  generalize L.q = u at hq ⊢
  pointwise [k0_pay22]
  rw [coe_sum]
  exact Finset.sum_congr rfl fun d _ => by rw [hq, hk, EReal.coe_mul]

omit H in
theorem cat_at (u v : Fin 128 → EReal) (a b : Fin 128 → ℝ) (hu : ∀ d, u d = (a d : EReal)) (hv : ∀ d, v d = (b d : EReal)) (d : Fin 256) :
    (if h : d.val < 128 then u ⟨d.val, h⟩ else v ⟨d.val - 128, by omega⟩) = ((Chunk.cat a b d : ℝ) : EReal) := by
  unfold Chunk.cat
  split_ifs with h
  · exact hu _
  · exact hv _

omit H in
/-- A product kept in two halves: of exact numbers the low halves are nothing. -/
theorem dot3 (a b : Fin 256 → EReal) (ha : ∀ x, IsReal (a x)) (hb : ∀ x, IsReal (b x)) :
    (∑ x, a x * b x) + ((∑ x, (a x - a x) * b x) + ∑ x, a x * (b x - b x)) = ∑ x, a x * b x := by
  simp only [fun x => sub_self_of _ (ha x), fun x => sub_self_of _ (hb x), zero_mul, mul_zero, Finset.sum_const_zero, add_zero]

omit H in
theorem rows_of (p : Fin 256 → Prop) (hp : ∀ h i, p (row h i)) (r : Fin 256) : p r := by
  have : r = row ⟨r.val / 64, by omega⟩ ⟨r.val % 64, by omega⟩ := Fin.ext (by show r.val = 64 * (r.val / 64) + r.val % 64; omega)
  rw [this]
  exact hp _ _

theorem drhs_at (h : Fin 4) (i : Fin 64) (d : Fin 256) : @Eq EReal (L.drhs (ix2 (row h i) d)) ((S h).dr i d : ℝ) := by
  have hc : ∀ h' j, (if h : d.val < 128 then L.du (ix2 (row h' j) ⟨d.val, h⟩) else L.dw (ix2 (row h' j) ⟨d.val - 128, by omega⟩)) = (((S h').ds j d : ℝ) : EReal) :=
    fun h' j => cat_at (fun d => L.du (ix2 (row h' j) d)) (fun d => L.dw (ix2 (row h' j) d)) _ _ (H.du h' j) (H.dw h' j) d
  unfold Ld.drhs
  pointwise [k0_pay23]
  refine (dot3 (fun x => L.t (ix2 x (row h i))) (fun x => if h : d.val < 128 then L.du (ix2 x ⟨d.val, h⟩) else L.dw (ix2 x ⟨d.val - 128, by omega⟩)) ?_ ?_).trans ?_
  · exact rows_of _ fun h' j => by rw [H.t]; exact own_real _ _ _
  · exact rows_of _ fun h' j => by rw [hc]; exact ⟨_, rfl⟩
  · refine sum_own h _ _ fun h' j => ?_
    show (L.t _ : EReal) * _ = _
    rw [hc, H.t]
    by_cases e : h = h'
    · subst e
      rw [own_self, own_self, EReal.coe_mul]
    · rw [own_ne e, own_ne (Ne.symm e), zero_mul]

theorem dlr_at (h : Fin 4) (i j : Fin 64) :
    @Eq EReal (L.dlr (ix2 (row h i) (row h j))) (-((∑ d, (S h).dr i (Chunk.lo d) * (S h).uv j d) + ∑ d, (S h).dr i (Chunk.hi d) * (S h).wk j d) : ℝ) := by
  have hd := drhs_at H h
  have hu := H.uv h j
  have hw := H.wk h j
  unfold Ld.dlr k0_pay24
  unfold Ld.drhs at hd
  generalize k0_pay23 L.du L.dw L.t = v at hd ⊢
  generalize L.uv = u at hu ⊢
  generalize L.wk = w at hw ⊢
  have hl := fun d : Fin 128 => hd i (Chunk.lo d)
  have hh := fun d : Fin 128 => hd i (Chunk.hi d)
  unfold Chunk.lo at hl
  unfold Chunk.hi at hh
  pointwise []
  simp only [hl, hh, hu, hw, fun x : ℝ => sub_self_of (x : EReal) ⟨x, rfl⟩, zero_mul, mul_zero, Finset.sum_const_zero, add_zero, ← EReal.coe_mul, ← coe_sum, ← EReal.coe_add]
  rw [← EReal.coe_zero, ← EReal.coe_sub, zero_sub]
  rfl

theorem dl_at (h h' : Fin 4) (i j : Fin 64) : @Eq EReal (L.dl (ix2 (row h i) (row h' j))) (own h h' ((S h).dl i j)) := by
  have hm := m4_at h h' i j
  unfold Ld.dl
  have hd := dlr_at H h
  generalize k0_pay4 = m at hm ⊢
  generalize L.dlr = v at hd ⊢
  pointwise [k0_pay25]
  rw [hm]
  by_cases e : h = h'
  · subst e
    rw [own_self]
    unfold In.dl
    by_cases c : j.val < i.val
    · rw [if_pos ⟨rfl, c⟩, if_pos c, sel_true, hd]
    · rw [if_neg (fun a => c a.2), if_neg c, sel_false]
      rfl
  · rw [own_ne e, if_neg (fun a => e a.1), sel_false]

theorem da_at (h h' : Fin 4) (i j : Fin 64) : @Eq EReal (L.da (ix2 (row h i) (row h' j))) (own h h' ((S h).da i j)) := by
  have hm := m3_at h h' i j
  unfold Ld.da
  have hd := H.dat h
  generalize k0_pay3 = m at hm ⊢
  generalize L.dat = v at hd ⊢
  pointwise [k0_pay26]
  rw [hm, hd]
  by_cases e : h = h'
  · subst e
    rw [own_self, own_self]
    unfold In.da
    by_cases c : j.val ≤ i.val
    · rw [if_pos ⟨rfl, c⟩, if_pos c, sel_true]
    · rw [if_neg (fun a => c a.2), if_neg c, sel_false]
      rfl
  · rw [own_ne e, own_ne e, if_neg (fun a => e a.1), sel_false]

omit H in
theorem own_mul (h h' : Fin 4) (x y : ℝ) : own h h' x * own h h' y = own h h' (x * y) := by
  unfold own
  split_ifs
  · exact (EReal.coe_mul _ _).symm
  · exact zero_mul _

omit H in
theorem own_mul_of (h h' : Fin 4) (x y : ℝ) (z : EReal) (hz : h = h' → z = (y : EReal)) : own h h' x * z = own h h' (x * y) := by
  unfold own
  split_ifs with e
  · rw [hz e, EReal.coe_mul]
  · exact zero_mul _

omit H in
theorem own_add (h h' : Fin 4) (x y : ℝ) : own h h' x + own h h' y = own h h' (x + y) := by
  unfold own
  split_ifs
  · exact (EReal.coe_add _ _).symm
  · exact zero_add _

omit H in
theorem own_symm (h h' : Fin 4) (f : Fin 4 → ℝ) : own h' h (f h') = own h h' (f h) := by
  by_cases e : h = h'
  · subst e; rfl
  · rw [own_ne e, own_ne (Ne.symm e)]

theorem ma_at (h h' : Fin 4) (i j : Fin 64) : @Eq EReal (L.ma (ix2 (row h i) (row h' j))) (own h h' ((S h).ma i j)) := by
  have h1 := da_at H h h' i j
  have h2 := dec_at H h h' i j
  have h3 := bt_at H (row h i) h' j
  unfold Ld.ma k0_pay30
  unfold Ld.da at h1
  generalize k0_pay26 k0_pay3 L.dat = v1 at h1 ⊢
  generalize L.dec = v2 at h2 ⊢
  generalize L.bt = v3 at h3 ⊢
  pointwise []
  rw [h1, h2, h3, own_mul]
  exact own_mul_of _ _ _ _ _ fun e => by rw [e]

theorem ml_at (h h' : Fin 4) (i j : Fin 64) : @Eq EReal (L.ml (ix2 (row h i) (row h' j))) (own h h' ((S h).ml i j + (S h).ml j i)) := by
  have h1 := dl_at H
  have h2 := dec_at H
  have h3 := bt_at H
  unfold Ld.ml k0_pay36
  unfold Ld.dl at h1
  generalize k0_pay25 k0_pay4 L.dlr (Scalar.ofBits .f32 0x00000000#32) = v1 at h1 ⊢
  generalize L.dec = v2 at h2 ⊢
  generalize L.bt = v3 at h3 ⊢
  have key : ∀ h h' i j, @Eq EReal (v1 (ix2 (row h i) (row h' j)) * v2 (ix2 (row h i) (row h' j)) * v3 (ix2 (row h i) (row h' j))) (own h h' ((S h).ml i j)) := by
    intro h h' i j
    rw [h1, h2, h3, own_mul]
    exact own_mul_of _ _ _ _ _ fun e => by rw [e]
  pointwise []
  refine (congrArg₂ (· + ·) (key h h' i j) (key h' h j i)).trans ?_
  rw [own_symm h h' (fun h => (S h).ml j i)]
  exact own_add _ _ _ _

theorem wb_at (h h' : Fin 4) (i j : Fin 64) : @Eq EReal (L.wb (ix2 (row h i) (row h' j))) (own h h' ((S h).wb i j)) := by
  have h1 := dl_at H h h' i j
  have h2 := dec_at H h h' i j
  have h3 := da_at H h h' i j
  have h4 := kk_at H h i j
  have h5 := qk_at H h i j
  unfold Ld.wb
  generalize L.dl = v1 at h1 ⊢
  generalize L.dec = v2 at h2 ⊢
  generalize L.da = v3 at h3 ⊢
  generalize L.kk = v4 at h4 ⊢
  generalize L.qk = v5 at h5 ⊢
  pointwise [k0_pay48]
  rw [h1, h2, h3, own_mul, own_mul, own_mul_of h h' _ _ _ (fun e => by rw [← e, h4]), own_mul_of h h' _ _ _ (fun e => by rw [← e, h5])]
  exact own_add _ _ _ _

theorem ew_at (h h' : Fin 4) (i j : Fin 64) : @Eq EReal (L.ew (ix2 (row h i) (row h' j))) (own h h' ((S h).ew i j)) := by
  have h1 := wb_at H h h' i j
  have h2 := bt_at H (row h i) h' j
  unfold Ld.ew k0_pay49
  unfold Ld.wb at h1
  generalize k0_pay48 L.dec L.kk L.qk L.dl L.da = v1 at h1 ⊢
  generalize L.bt = v2 at h2 ⊢
  pointwise []
  rw [h1, h2]
  exact own_mul_of _ _ _ _ _ fun e => by rw [e]

/-! The vectors of the heads. -/

theorem gam_at (h : Fin 4) (i : Fin 64) (d : Fin 128) : @Eq EReal (L.gam (ix2 (row h i) d)) ((S h).gam i : ℝ) := by
  have hg := H.g h i d
  unfold Ld.gam
  generalize L.g = v at hg ⊢
  pointwise [k0_pay27]
  rw [hg]
  exact Ideal.exp_coe _

theorem e_at (h : Fin 4) (i : Fin 64) (d : Fin 128) : @Eq EReal (L.e (ix2 (row h i) d)) ((S h).e i : ℝ) := by
  have hg := H.g
  unfold Ld.e In.e
  generalize L.g = v at hg ⊢
  pointwise [k0_pay28]
  rw [hg h i d, ← Ideal.exp_coe, EReal.coe_sub, ← hg h 63 d]
  refine congrArg Ideal.exp (congrArg (· - _) ?_)
  have hr : (row h i).val = 64 * h.val + i.val := rfl
  have hi := i.isLt
  fin_cases h
  · rw [dif_pos (by rw [hr]; show 64 * 0 + i.val < 64; omega)]
    rfl
  · rw [dif_neg (by rw [hr]; show ¬ (64 * 1 + i.val < 64); omega), dif_pos (by rw [hr]; show 64 * 1 + i.val - 64 < 64; omega)]
    rfl
  · rw [dif_neg (by rw [hr]; show ¬ (64 * 2 + i.val < 64); omega), dif_neg (by rw [hr]; show ¬ (64 * 2 + i.val - 64 < 64); omega), dif_pos (by rw [hr]; show 64 * 2 + i.val - 64 - 64 < 64; omega)]
    rfl
  · rw [dif_neg (by rw [hr]; show ¬ (64 * 3 + i.val < 64); omega), dif_neg (by rw [hr]; show ¬ (64 * 3 + i.val - 64 < 64); omega), dif_neg (by rw [hr]; show ¬ (64 * 3 + i.val - 64 - 64 < 64); omega)]
    rfl

theorem dgk_at (h : Fin 4) (i : Fin 64) (d : Fin 128) : @Eq EReal (L.dgk (ix2 (row h i) d)) ((S h).dgk i d : ℝ) := by
  have hg := drhs_at H h i (Chunk.hi d)
  unfold Ld.dgk
  generalize L.drhs = v at hg ⊢
  pointwise [k0_pay29]
  exact hg

theorem dv_at (h : Fin 4) (i : Fin 64) (d : Fin 128) : @Eq EReal (L.dv (ix2 (row h i) d)) ((S h).dv i d : ℝ) := by
  have hg := drhs_at H h i (Chunk.lo d)
  unfold Ld.dv
  generalize L.drhs = v at hg ⊢
  pointwise [k0_pay43]
  exact hg

theorem dq_at (h : Fin 4) (i : Fin 64) (d : Fin 128) : @Eq EReal (L.dq (ix2 (row h i) d)) ((S h).dq i d : ℝ) := by
  have h1 := ma_at H h
  have h2 := gam_at H h i d
  have h3 := H.k
  have h4 := H.dqd h i d
  unfold Ld.dq k0_pay31
  unfold Ld.ma at h1
  unfold Ld.gam at h2
  generalize k0_pay30 k0_pay3 L.dec L.bt L.dat = v1 at h1 ⊢
  generalize k0_pay27 L.g = v2 at h2 ⊢
  generalize L.k = v3 at h3 ⊢
  generalize L.dqd = v4 at h4 ⊢
  pointwise []
  rw [h2, h4, ← EReal.coe_mul]
  refine (congrArg (· + _) (sum_own h _ (fun j => (S h).ma i j * (S h).k j d) fun h' j => ?_)).trans (EReal.coe_add _ _).symm
  rw [h1]
  exact own_mul_of _ _ _ _ _ fun e => by rw [← e, h3]

theorem dk_at (h : Fin 4) (i : Fin 64) (d : Fin 128) : @Eq EReal (L.dk (ix2 (row h i) d)) ((S h).dk i d : ℝ) := by
  have h1 := ml_at H h
  have h2 := ma_at H
  have h3 := H.k
  have h4 := H.q
  have h5 := dgk_at H h i d
  have h6 := gam_at H h i d
  have h7 := H.dke h i d
  have h8 := e_at H h i d
  have h9 := H.b h i d
  unfold Ld.dk
  generalize L.ml = v1 at h1 ⊢
  generalize L.ma = v2 at h2 ⊢
  generalize L.k = v3 at h3 ⊢
  generalize L.q = v4 at h4 ⊢
  generalize L.dgk = v5 at h5 ⊢
  generalize L.gam = v6 at h6 ⊢
  generalize L.dke = v7 at h7 ⊢
  generalize L.e = v8 at h8 ⊢
  generalize L.b = v9 at h9 ⊢
  have s1 : @Eq EReal (∑ x, v1 (ix2 (row h i) x) * v3 (ix2 x d)) ((∑ j, ((S h).ml i j + (S h).ml j i) * (S h).k j d : ℝ)) := by
    refine sum_own h _ _ fun h' j => ?_
    rw [h1]
    exact own_mul_of _ _ _ _ _ fun e => by rw [← e, h3]
  have s2 : @Eq EReal (∑ x, v2 (ix2 x (row h i)) * v4 (ix2 x d)) ((∑ j, (S h).ma j i * (S h).q j d : ℝ)) := by
    refine sum_own h _ _ fun h' j => ?_
    rw [h2, own_symm h h' (fun h => (S h).ma j i)]
    exact own_mul_of _ _ _ _ _ fun e => by rw [← e, h4]
  pointwise [k0_pay38, k0_pay37]
  refine (congrArg (fun z => z + _ + _ + _) s1).trans ((congrArg (fun z => _ + z + _ + _) s2).trans ?_)
  rw [h5, h6, h7, h8, h9]
  simp only [← EReal.coe_mul, ← EReal.coe_add]
  rfl

theorem ske_at (h : Fin 4) (i : Fin 64) : @Eq EReal (L.ske (ix2 (row h i) 0)) ((S h).ske i : ℝ) := by
  have h1 := H.k h i
  have h2 := H.dke h i
  have h3 := e_at H h i
  have h4 := H.b h i
  unfold Ld.ske Ld.ke
  generalize L.k = v1 at h1 ⊢
  generalize L.dke = v2 at h2 ⊢
  generalize L.e = v3 at h3 ⊢
  generalize L.b = v4 at h4 ⊢
  pointwise [k0_pay51, k0_pay50]
  simp only [h1, h2, h3, h4, ← EReal.coe_mul, ← coe_sum]
  rfl

theorem dbeta_at (h : Fin 4) (i : Fin 64) : @Eq EReal (L.dbeta (ix2 (row h i) 0)) ((S h).dbeta i : ℝ) := by
  have h1 := H.k h i
  have h2 := H.dke h i
  have h3 := e_at H h i
  have h4 := wb_at H
  unfold Ld.dbeta
  generalize L.k = v1 at h1 ⊢
  generalize L.dke = v2 at h2 ⊢
  generalize L.e = v3 at h3 ⊢
  generalize L.wb = v4 at h4 ⊢
  have s1 : @Eq EReal (∑ x, v4 (ix2 x (row h i))) ((∑ j, (S h).wb j i : ℝ)) := by
    refine sum_own h _ _ fun h' j => ?_
    rw [h4]
    exact own_symm h h' (fun h => (S h).wb j i)
  pointwise [k0_pay52]
  refine (congrArg (· + _) s1).trans ?_
  simp only [h1, h2, h3, ← EReal.coe_mul, ← coe_sum, ← EReal.coe_add]
  rfl

theorem dgc_at (h : Fin 4) (i : Fin 64) : @Eq EReal (L.dgc (ix2 (row h i) 0)) ((S h).dgc i : ℝ) := by
  have h1 := H.k h i
  have h2 := H.q h i
  have h3 := ske_at H h i
  have h4 := ew_at H
  have h5 := dgk_at H h i
  have h6 := gam_at H h i
  have h7 := H.dqd h i
  unfold Ld.dgc k0_pay53
  unfold Ld.ske at h3
  generalize k0_pay51 L.b L.e L.ke = v3 at h3 ⊢
  generalize L.k = v1 at h1 ⊢
  generalize L.q = v2 at h2 ⊢
  generalize L.ew = v4 at h4 ⊢
  generalize L.dgk = v5 at h5 ⊢
  generalize L.gam = v6 at h6 ⊢
  generalize L.dqd = v7 at h7 ⊢
  have s1 : @Eq EReal (∑ x, v4 (ix2 x (row h i))) ((∑ j, (S h).ew j i : ℝ)) := by
    refine sum_own h _ _ fun h' j => ?_
    rw [h4]
    exact own_symm h h' (fun h => (S h).ew j i)
  have s2 : @Eq EReal (∑ x, v4 (ix2 (row h i) x)) ((∑ j, (S h).ew i j : ℝ)) :=
    sum_own h _ _ fun h' j => h4 h h' i j
  pointwise []
  refine (congrArg (fun z => z - _ + _ + _ - _) s2).trans ((congrArg (fun z => _ - z + _ + _ - _) s1).trans ?_)
  simp only [h1, h2, h3, h5, h6, h7, ← EReal.coe_mul, ← coe_sum, ← EReal.coe_add, ← EReal.coe_sub]
  rfl

/-! The gates' results: one lane per head. -/

/-- Lane `l` is head `l`'s, beyond the heads nothing. -/
def lanes (f : Fin 4 → ℝ) (l : Fin 128) : ℝ := if h : l.val < 4 then f ⟨l.val, h⟩ else 0

omit H in
theorem lane_at : ∀ (l : Fin 128) (h : Fin 4), IntOp.cmpi .eq (BitVec.ofNat 32 l.val) (BitVec.ofNat 32 h.val) = if l.val = h.val then 1#1 else 0#1 := by
  decide +kernel

omit H in
theorem last_at : ∀ i : Fin 64, IntOp.cmpi .eq (BitVec.ofNat 32 i.val) 63#32 = if i.val = 63 then 1#1 else 0#1 := by
  decide +kernel

omit H in
theorem tri_at : ∀ r x : Fin 64, IntOp.andi
      (IntOp.cmpi CmpIPredicate.eq (IntOp.divsi ArithUnit.vector (BitVec.ofNat 32 r.val) 64#32) (IntOp.divsi ArithUnit.vector (BitVec.ofNat 32 x.val) 64#32))
      (IntOp.cmpi CmpIPredicate.sge (BitVec.ofNat 32 x.val) (BitVec.ofNat 32 r.val)) = if r.val ≤ x.val then 1#1 else 0#1 := by
  decide +kernel

omit H in
theorem lanes_sel (f : Fin 4 → ℝ) (l : Fin 128) (a0 a1 a2 a3 : EReal) (h0 : a0 = (f 0 : ℝ)) (h1 : a1 = (f 1 : ℝ)) (h2 : a2 = (f 2 : ℝ)) (h3 : a3 = (f 3 : ℝ)) :
    Scalar.select (IntOp.cmpi CmpIPredicate.eq (BitVec.ofNat 32 l.val) 3#32) a3
      (Scalar.select (IntOp.cmpi CmpIPredicate.eq (BitVec.ofNat 32 l.val) 2#32) a2
        (Scalar.select (IntOp.cmpi CmpIPredicate.eq (BitVec.ofNat 32 l.val) 1#32) a1
          (Scalar.select (IntOp.cmpi CmpIPredicate.eq (BitVec.ofNat 32 l.val) 0#32) a0 0))) = ((lanes f l : ℝ) : EReal) := by
  have e0 := lane_at l 0
  have e1 := lane_at l 1
  have e2 := lane_at l 2
  have e3 := lane_at l 3
  subst h0 h1 h2 h3
  rw [show (3#32) = BitVec.ofNat 32 (3 : Fin 4).val from rfl, show (2#32) = BitVec.ofNat 32 (2 : Fin 4).val from rfl,
    show (1#32) = BitVec.ofNat 32 (1 : Fin 4).val from rfl, show (0#32) = BitVec.ofNat 32 (0 : Fin 4).val from rfl, e0, e1, e2, e3]
  unfold lanes
  obtain ⟨l, hl⟩ := l
  show Scalar.select (if l = 3 then 1#1 else 0#1) _ (Scalar.select (if l = 2 then 1#1 else 0#1) _ (Scalar.select (if l = 1 then 1#1 else 0#1) _
    (Scalar.select (if l = 0 then 1#1 else 0#1) _ _))) = _
  by_cases c : l < 4
  · rw [dif_pos c]
    interval_cases l <;> rfl
  · rw [dif_neg c, if_neg (by omega), if_neg (by omega), if_neg (by omega), if_neg (by omega)]
    rfl

theorem db_at (i : Fin 64) (l : Fin 128) : @Eq EReal (L.db (ix2 i l)) ((lanes (fun h => (S h).dbeta i) l : ℝ)) := by
  have h1 := dbeta_at H
  unfold Ld.db Ld.lane
  generalize L.dbeta = v at h1 ⊢
  have h2 := h1 0 i
  unfold row at h1 h2
  simp only [Fin.val_zero, Nat.mul_zero, Nat.zero_add] at h2
  pointwise [k0_pay66, k0_pay61, k0_pay55]
  exact lanes_sel _ _ _ _ _ _ h2 (h1 1 i) (h1 2 i) (h1 3 i)

omit H in
theorem last_of (T : In) (i : Fin 64) (a s : EReal) (ha : a = (T.dgc i : ℝ)) (hs : s = ((∑ j, T.ske j + T.dgl : ℝ))) :
    a + Scalar.select (IntOp.cmpi CmpIPredicate.eq (BitVec.ofNat 32 i.val) 63#32) s 0 = ((T.dgc' i : ℝ) : EReal) := by
  rw [last_at, ha, hs]
  unfold In.dgc'
  by_cases c : i.val = 63
  · rw [if_pos c, if_pos c, sel_true, EReal.coe_add]
    exact congrArg (_ + ·) (congrArg _ rfl)
  · rw [if_neg c, if_neg c, sel_false, add_zero]

theorem dgc4_at (i : Fin 64) (l : Fin 128) : @Eq EReal (L.dgc4 (ix2 i l)) ((lanes (fun h => (S h).dgc' i) l : ℝ)) := by
  have h1 := dgc_at H
  have h2 := ske_at H
  unfold Ld.dgc4 Ld.lane Ld.rowi
  have e1 : k0_pay53 L.q L.k L.b L.dqd L.gam L.e L.dgk L.ew L.ke = L.dgc := rfl
  have e2 : k0_pay51 L.b L.e L.ke = L.ske := rfl
  unfold k0_pay57 k0_pay59
  rw [e1, e2]
  generalize L.dgc = v at h1 ⊢
  generalize L.ske = w at h2 ⊢
  have h10 := h1 0
  have h20 := h2 0
  unfold row at h1 h2 h10 h20
  simp only [Fin.val_zero, Nat.mul_zero, Nat.zero_add] at h10 h20
  have hs : ∀ (h : Fin 4) (a : EReal) (g : Fin 64 → EReal), (∀ j, g j = ((S h).ske j : ℝ)) → a = ((S h).dgl : ℝ) → ∑ j, g j + a = ((∑ j, (S h).ske j + (S h).dgl : ℝ)) := by
    intro h a g hg ha
    rw [EReal.coe_add, coe_sum, ha]
    exact congrArg (· + _) (Finset.sum_congr rfl fun j _ => hg j)
  pointwise [k0_pay65, k0_pay60, k0_pay54, k0_pay56, k0_pay58, k0_pay62, k0_pay63, k0_pay64]
  exact lanes_sel _ _ _ _ _ _ (last_of _ _ _ _ (h10 i) (hs 0 _ _ h20 H.l0)) (last_of _ _ _ _ (h1 1 i) (hs 1 _ _ (h2 1) H.l1))
    (last_of _ _ _ _ (h1 2 i) (hs 2 _ _ (h2 2) H.l2)) (last_of _ _ _ _ (h1 3 i) (hs 3 _ _ (h2 3) H.l3))

theorem dg_at (i : Fin 64) (l : Fin 128) : @Eq EReal (L.dg (ix2 i l)) ((lanes (fun h => (S h).dg i) l : ℝ)) := by
  have h1 := dgc4_at H
  unfold Ld.dg
  generalize L.dgc4 = v at h1 ⊢
  pointwise [k0_pay69, k0_pay67, k0_pay68]
  simp only [tri_at, h1, fun x : ℝ => sub_self_of (x : EReal) ⟨x, rfl⟩, sub_zero]
  have z : ∀ x : Fin 64, Scalar.select (if i.val ≤ x.val then 1#1 else 0#1) (0 : EReal) 0 = 0 := fun x => by split_ifs <;> rfl
  have w : ∀ x : Fin 64, Scalar.select (if i.val ≤ x.val then 1#1 else 0#1) ((lanes (fun h => (S h).dgc' x) l : ℝ) : EReal) 0 =
      ((lanes (fun h => if i.val ≤ x.val then (S h).dgc' x else 0) l : ℝ) : EReal) := fun x => by
    unfold lanes
    split_ifs <;> rfl
  simp only [z, w, Finset.sum_const_zero, add_zero, ← coe_sum]
  refine congrArg _ ?_
  unfold lanes In.dg
  split_ifs
  · rfl
  · exact Finset.sum_const_zero

end Cert.ChunkKIdeal.Value

end
-- ==== Proof.Chunk.Reads.lean ====
module

public import proofs.«01_k».proof.Proof.Chunk.Spec
public import proofs.«01_k».proof.Proof.Chunk.Point
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ChunkKIdeal.Value

open Cert.ChunkKIdeal Cert.ChunkKIdeal.Gen

open Reals

variable (m : (ℓ : Loc nD τ sig) → Buf (Elt Ideal) ℓ)

/-- The arguments as launched. -/
def args (c : Dev nD) : Chunk.Arr where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)

open Chunk (Mat In at2 col squared low_low)

/-! The host's arrays, each from those before it. -/

theorem v2_eq (c : Dev nD) : V m c main_v2 = (args m c).gc := by
  unfold V hostOps0 hostOps0_1 hostOps0_2
  after_reads_simp
  rfl

theorem v24_eq (c : Dev nD) : V m c main_v24 = (select (broadcastInDim S32x4x64x64 ![2, 3] bcast_S64x64_S32x4x64x64_2_3 (cmpi .sge (iotaInDim S64x64 32 0) (iotaInDim S64x64 32 1))) (Host.exp (select (broadcastInDim S32x4x64x64 ![2, 3] bcast_S64x64_S32x4x64x64_2_3 (cmpi .sge (iotaInDim S64x64 32 0) (iotaInDim S64x64 32 1))) (subf (broadcastInDim S32x4x64x64 ![0, 1, 2] bcast_S32x4x64_S32x4x64x64_0_1_2 (show FVec Ideal S32x4x64 .f32 from V m c main_v2)) (broadcastInDim S32x4x64x64 ![0, 1, 3] bcast_S32x4x64_S32x4x64x64_0_1_3 (show FVec Ideal S32x4x64 .f32 from V m c main_v2))) (broadcastInDim S32x4x64x64 ![] bcast_S_S32x4x64x64 (constant S_ .f32 0x00000000#32)))) (broadcastInDim S32x4x64x64 ![] bcast_S_S32x4x64x64 (constant S_ .f32 0x00000000#32)) : FVec Ideal S32x4x64x64 .f32) := by
  unfold V hostOps0 hostOps0_1 hostOps0_2
  after_reads_simp

theorem v30_eq (c : Dev nD) : V m c main_v30 = (Host.negf (select (broadcastInDim S32x4x64x64 ![2, 3] bcast_S64x64_S32x4x64x64_2_3 (cmpi .sgt (iotaInDim S64x64 32 0) (iotaInDim S64x64 32 1))) (mulf (mulf (show FVec Ideal S32x4x64x64 .f32 from V m c main_v24) (show FVec Ideal S32x4x64x64 .f32 from V m c main_v25)) (broadcastInDim S32x4x64x64 ![0, 1, 3] bcast_S32x4x64_S32x4x64x64_0_1_3 (show FVec Ideal S32x4x64 .f32 from V m c main_v4))) (broadcastInDim S32x4x64x64 ![] bcast_S_S32x4x64x64 (constant S_ .f32 0x00000000#32))) : FVec Ideal S32x4x64x64 .f32) := by
  unfold V hostOps0 hostOps0_1 hostOps0_2
  after_reads_simp

theorem v33_eq (c : Dev nD) : V m c main_v33 = (addf (select (broadcastInDim S32x4x64x64 ![2, 3] bcast_S64x64_S32x4x64x64_2_3 (cmpi .eq (iotaInDim S64x64 32 0) (iotaInDim S64x64 32 1))) (broadcastInDim S32x4x64x64 ![] bcast_S_S32x4x64x64 (constant S_ .f32 0x3F800000#32)) (broadcastInDim S32x4x64x64 ![] bcast_S_S32x4x64x64 (constant S_ .f32 0x00000000#32))) (show FVec Ideal S32x4x64x64 .f32 from V m c main_v30) : FVec Ideal S32x4x64x64 .f32) := by
  unfold V hostOps0 hostOps0_1 hostOps0_2
  after_reads_simp

theorem v34_eq (c : Dev nD) : V m c main_v34 = (truncf .bf16 (show FVec Ideal S32x4x64x64 .f32 from V m c main_v30) bitsLt_bf16_f32 : FVec Ideal S32x4x64x64 .bf16) := by
  unfold V hostOps0 hostOps0_1 hostOps0_2
  after_reads_simp

theorem v36_eq (c : Dev nD) : V m c main_v36 = (truncf .bf16 (Host.dotGeneral dot_S32x4x64x64_S32x4x64x64_S32x4x64x64_3_2_2_3_01_01 none (show FVec Ideal S32x4x64x64 .bf16 from V m c main_v34) (show FVec Ideal S32x4x64x64 .bf16 from V m c main_v34) : FVec Ideal S32x4x64x64 .f32) bitsLt_bf16_f32 : FVec Ideal S32x4x64x64 .bf16) := by
  unfold V hostOps0 hostOps0_1 hostOps0_2
  after_reads_simp

theorem v41_eq (c : Dev nD) : V m c main_v41 = (truncf .bf16 (Host.dotGeneral dot_S32x4x64x64_S32x4x64x64_S32x4x64x64_3_2_2_3_01_01 none (show FVec Ideal S32x4x64x64 .bf16 from V m c main_v36) (show FVec Ideal S32x4x64x64 .bf16 from V m c main_v36) : FVec Ideal S32x4x64x64 .f32) bitsLt_bf16_f32 : FVec Ideal S32x4x64x64 .bf16) := by
  unfold V hostOps0 hostOps0_1 hostOps0_2
  after_reads_simp

theorem v46_eq (c : Dev nD) : V m c main_v46 = (truncf .bf16 (Host.dotGeneral dot_S32x4x64x64_S32x4x64x64_S32x4x64x64_3_2_2_3_01_01 none (show FVec Ideal S32x4x64x64 .bf16 from V m c main_v41) (show FVec Ideal S32x4x64x64 .bf16 from V m c main_v41) : FVec Ideal S32x4x64x64 .f32) bitsLt_bf16_f32 : FVec Ideal S32x4x64x64 .bf16) := by
  unfold V hostOps0 hostOps0_1 hostOps0_2
  after_reads_simp

theorem v51_eq (c : Dev nD) : V m c main_v51 = (truncf .bf16 (Host.dotGeneral dot_S32x4x64x64_S32x4x64x64_S32x4x64x64_3_2_2_3_01_01 none (show FVec Ideal S32x4x64x64 .bf16 from V m c main_v46) (show FVec Ideal S32x4x64x64 .bf16 from V m c main_v46) : FVec Ideal S32x4x64x64 .f32) bitsLt_bf16_f32 : FVec Ideal S32x4x64x64 .bf16) := by
  unfold V hostOps0 hostOps0_1 hostOps0_2
  after_reads_simp

theorem v56_eq (c : Dev nD) : V m c main_v56 = (truncf .bf16 (Host.dotGeneral dot_S32x4x64x64_S32x4x64x64_S32x4x64x64_3_2_2_3_01_01 none (show FVec Ideal S32x4x64x64 .bf16 from V m c main_v51) (show FVec Ideal S32x4x64x64 .bf16 from V m c main_v51) : FVec Ideal S32x4x64x64 .f32) bitsLt_bf16_f32 : FVec Ideal S32x4x64x64 .bf16) := by
  unfold V hostOps0 hostOps0_1 hostOps0_2
  after_reads_simp

theorem v39_eq (c : Dev nD) : V m c main_v39 = (addf (show FVec Ideal S32x4x64x64 .f32 from V m c main_v33) (Host.dotGeneral dot_S32x4x64x64_S32x4x64x64_S32x4x64x64_3_2_2_3_01_01 none (truncf .bf16 (show FVec Ideal S32x4x64x64 .f32 from V m c main_v33) bitsLt_bf16_f32) (show FVec Ideal S32x4x64x64 .bf16 from V m c main_v36) : FVec Ideal S32x4x64x64 .f32) : FVec Ideal S32x4x64x64 .f32) := by
  unfold V hostOps0 hostOps0_1 hostOps0_2
  after_reads_simp

theorem v44_eq (c : Dev nD) : V m c main_v44 = (addf (show FVec Ideal S32x4x64x64 .f32 from V m c main_v39) (Host.dotGeneral dot_S32x4x64x64_S32x4x64x64_S32x4x64x64_3_2_2_3_01_01 none (truncf .bf16 (show FVec Ideal S32x4x64x64 .f32 from V m c main_v39) bitsLt_bf16_f32) (show FVec Ideal S32x4x64x64 .bf16 from V m c main_v41) : FVec Ideal S32x4x64x64 .f32) : FVec Ideal S32x4x64x64 .f32) := by
  unfold V hostOps0 hostOps0_1 hostOps0_2
  after_reads_simp

theorem v49_eq (c : Dev nD) : V m c main_v49 = (addf (show FVec Ideal S32x4x64x64 .f32 from V m c main_v44) (Host.dotGeneral dot_S32x4x64x64_S32x4x64x64_S32x4x64x64_3_2_2_3_01_01 none (truncf .bf16 (show FVec Ideal S32x4x64x64 .f32 from V m c main_v44) bitsLt_bf16_f32) (show FVec Ideal S32x4x64x64 .bf16 from V m c main_v46) : FVec Ideal S32x4x64x64 .f32) : FVec Ideal S32x4x64x64 .f32) := by
  unfold V hostOps0 hostOps0_1 hostOps0_2
  after_reads_simp

theorem v54_eq (c : Dev nD) : V m c main_v54 = (addf (show FVec Ideal S32x4x64x64 .f32 from V m c main_v49) (Host.dotGeneral dot_S32x4x64x64_S32x4x64x64_S32x4x64x64_3_2_2_3_01_01 none (truncf .bf16 (show FVec Ideal S32x4x64x64 .f32 from V m c main_v49) bitsLt_bf16_f32) (show FVec Ideal S32x4x64x64 .bf16 from V m c main_v51) : FVec Ideal S32x4x64x64 .f32) : FVec Ideal S32x4x64x64 .f32) := by
  unfold V hostOps0 hostOps0_1 hostOps0_2
  after_reads_simp

theorem v59_eq (c : Dev nD) : V m c main_v59 = (addf (show FVec Ideal S32x4x64x64 .f32 from V m c main_v54) (Host.dotGeneral dot_S32x4x64x64_S32x4x64x64_S32x4x64x64_3_2_2_3_01_01 none (truncf .bf16 (show FVec Ideal S32x4x64x64 .f32 from V m c main_v54) bitsLt_bf16_f32) (show FVec Ideal S32x4x64x64 .bf16 from V m c main_v56) : FVec Ideal S32x4x64x64 .f32) : FVec Ideal S32x4x64x64 .f32) := by
  unfold V hostOps0 hostOps0_1 hostOps0_2
  after_reads_simp

theorem v60_eq (c : Dev nD) : V m c main_v60 = (Host.dotGeneral dot_S32x4x64x64_S32x4x64x128_S32x4x64x128_3_2_2_3_01_01 none (show FVec Ideal S32x4x64x64 .f32 from V m c main_v59) (show FVec Ideal S32x4x64x128 .f32 from V m c main_v8) : FVec Ideal S32x4x64x128 .f32) := by
  unfold V hostOps0 hostOps0_1 hostOps0_2
  after_reads_simp

theorem v64_eq (c : Dev nD) : V m c main_v64 = (Host.dotGeneral dot_S32x4x64x64_S32x4x64x128_S32x4x64x128_3_2_2_3_01_01 none (show FVec Ideal S32x4x64x64 .f32 from V m c main_v59) (mulf (broadcastInDim S32x4x64x128 ![0, 1, 2] bcast_S32x4x64_S32x4x64x128_0_1_2 (Host.exp (show FVec Ideal S32x4x64 .f32 from V m c main_v2))) (show FVec Ideal S32x4x64x128 .f32 from V m c main_v6)) : FVec Ideal S32x4x64x128 .f32) := by
  unfold V hostOps0 hostOps0_1 hostOps0_2
  after_reads_simp

set_option maxHeartbeats 1600000 in
theorem v85_eq (c : Dev nD) : V m c main_v85 = (shapeCast S2048x512 (transpose S32x64x4x128 [0, 2, 1, 3] (show FVec Ideal S32x4x64x128 .f32 from V m c main_v60) transposes_S32x4x64x128_S32x64x4x128_0_2_1_3) shapeCasts_S32x64x4x128_S2048x512 : FVec Ideal S2048x512 .f32) := by
  unfold V hostOps0 hostOps0_1 hostOps0_2
  after_reads_simp
  rfl

set_option maxHeartbeats 1600000 in
theorem v87_eq (c : Dev nD) : V m c main_v87 = (shapeCast S2048x512 (transpose S32x64x4x128 [0, 2, 1, 3] (show FVec Ideal S32x4x64x128 .f32 from V m c main_v64) transposes_S32x4x64x128_S32x64x4x128_0_2_1_3) shapeCasts_S32x64x4x128_S2048x512 : FVec Ideal S2048x512 .f32) := by
  unfold V hostOps0 hostOps0_1 hostOps0_2
  after_reads_simp
  rfl

set_option maxHeartbeats 1600000 in
theorem v77_eq (c : Dev nD) : V m c main_v77 = (shapeCast S2048x512 (transpose S32x64x4x128 [0, 2, 1, 3] (broadcastInDim S32x4x64x128 ![0, 1, 2] bcast_S32x4x64_S32x4x64x128_0_1_2 (show FVec Ideal S32x4x64 .f32 from V m c main_v2)) transposes_S32x4x64x128_S32x64x4x128_0_2_1_3) shapeCasts_S32x64x4x128_S2048x512 : FVec Ideal S2048x512 .f32) := by
  unfold V hostOps0 hostOps0_1 hostOps0_2
  after_reads_simp
  rfl

set_option maxHeartbeats 1600000 in
theorem v83_eq (c : Dev nD) : V m c main_v83 = (shapeCast S8192x256 (select (broadcastInDim S32x4x64x4x64 ![1, 3] bcast_S4x4_S32x4x64x4x64_1_3 (cmpi .eq (iotaInDim S4x4 32 0) (iotaInDim S4x4 32 1))) (broadcastInDim S32x4x64x4x64 ![0, 1, 2, 4] bcast_S32x4x64x64_S32x4x64x4x64_0_1_2_4 (show FVec Ideal S32x4x64x64 .f32 from V m c main_v59)) (broadcastInDim S32x4x64x4x64 ![] bcast_S_S32x4x64x4x64 (constant S_ .f32 0x00000000#32))) shapeCasts_S32x4x64x4x64_S8192x256 : FVec Ideal S8192x256 .f32) := by
  unfold V hostOps0 hostOps0_1 hostOps0_2
  after_reads_simp
  rfl

set_option maxHeartbeats 1600000 in
theorem v99_eq (c : Dev nD) : V m c main_v99 = (shapeCast S32x8x512 (broadcastInDim S32x8x4x128 ![0, 2] bcast_S32x4_S32x8x4x128_0_2 (mulf (args m c).x10 (Host.exp (shapeCast S32x4 (extractStridedSlice S32x4x1 ![0, 0, 63] (show FVec Ideal S32x4x64 .f32 from V m c main_v2) slices_S32x4x64_S32x4x1_0_0_63) shapeCasts_S32x4x1_S32x4)))) shapeCasts_S32x8x4x128_S32x8x512 : FVec Ideal S32x8x512 .f32) := by
  unfold V hostOps0 hostOps0_1 hostOps0_2
  after_reads_simp
  rfl

end Cert.ChunkKIdeal.Value

end
-- ==== Proof.Chunk.Entries.lean ====
module

public import proofs.«01_k».proof.Proof.Chunk.Reads

@[expose] public section

set_option maxRecDepth 16384

noncomputable section

open Idealize.ShloMosaic Idealize.ShloMosaic.TcCoe Idealize.SL.Sem
open Idealize.ShloMosaic.Pipeline (Dat)

namespace Cert.ChunkKIdeal.Value

open Cert.ChunkKIdeal Cert.ChunkKIdeal.Gen

open Reals
open Chunk (Mat In at2 col squared low_low)

/-! What the host's arrays hold, as reals. -/

variable (m : (ℓ : Loc nD τ sig) → Buf (Elt Ideal) ℓ)

theorem v6_at (c : Dev nD) (n : Fin 32) (h : Fin 4) (i : Fin 64) (d : Fin 128) :
    @Eq EReal ((show FVec Ideal S32x4x64x128 .f32 from V m c main_v6) (ix4 n h i d)) ((args m c).x1 (ix2 (at2 n i) (col h d))) := by
  show (V m c main_v6 : FVec Ideal S32x4x64x128 .f32) (ix4 n h i d) = _
  unfold V hostOps0 hostOps0_1 hostOps0_2
  after_reads_at
  blk_ext
  · show n.val * 64 + i.val = 64 * n.val + i.val; omega
  · show h.val * 128 + d.val = 128 * h.val + d.val; omega

theorem v8_at (c : Dev nD) (n : Fin 32) (h : Fin 4) (i : Fin 64) (d : Fin 128) :
    @Eq EReal ((show FVec Ideal S32x4x64x128 .f32 from V m c main_v8) (ix4 n h i d)) ((args m c).x2 (ix2 (at2 n i) (col h d))) := by
  show (V m c main_v8 : FVec Ideal S32x4x64x128 .f32) (ix4 n h i d) = _
  unfold V hostOps0 hostOps0_1 hostOps0_2
  after_reads_at
  blk_ext
  · show n.val * 64 + i.val = 64 * n.val + i.val; omega
  · show h.val * 128 + d.val = 128 * h.val + d.val; omega

theorem v4_at (c : Dev nD) (n : Fin 32) (h : Fin 4) (i : Fin 64) :
    @Eq EReal ((show FVec Ideal S32x4x64 .f32 from V m c main_v4) (ix3 n h i)) ((args m c).x4 (ix2 (at2 n i) h)) := by
  show (V m c main_v4 : FVec Ideal S32x4x64 .f32) (ix3 n h i) = _
  unfold V hostOps0 hostOps0_1 hostOps0_2
  after_reads_at
  blk_ext
  · show n.val * 64 + i.val = 64 * n.val + i.val; omega

theorem at2_eq (n : Fin 32) (i : Fin 64) (h : n.val * 64 + i.val < 2048) : (⟨n.val * 64 + i.val, h⟩ : Fin 2048) = at2 n i :=
  Fin.ext (by show n.val * 64 + i.val = 64 * n.val + i.val; omega)

theorem col_eq (h : Fin 4) (d : Fin 128) (e : h.val * 128 + d.val < 512) : (⟨h.val * 128 + d.val, e⟩ : Fin 512) = col h d :=
  Fin.ext (by show h.val * 128 + d.val = 128 * h.val + d.val; omega)

theorem at2_div (n : Fin 32) (i : Fin 64) (e : (at2 n i).val / 64 < 32) : (⟨(at2 n i).val / 64, e⟩ : Fin 32) = n :=
  Fin.ext (by show (64 * n.val + i.val) / 64 = n.val; omega)

theorem at2_mod (n : Fin 32) (i : Fin 64) (e : (at2 n i).val % 64 < 64) : (⟨(at2 n i).val % 64, e⟩ : Fin 64) = i :=
  Fin.ext (by show (64 * n.val + i.val) % 64 = i.val; omega)

theorem at2_join (n : Fin 32) (i : Fin 64) (e : (at2 n i).val / 64 * 64 + (at2 n i).val % 64 < 2048) :
    (⟨(at2 n i).val / 64 * 64 + (at2 n i).val % 64, e⟩ : Fin 2048) = at2 n i :=
  Fin.ext (by show (at2 n i).val / 64 * 64 + (at2 n i).val % 64 = (at2 n i).val; omega)

theorem col_div (h : Fin 4) (d : Fin 128) (e : (col h d).val / 128 < 4) : (⟨(col h d).val / 128, e⟩ : Fin 4) = h :=
  Fin.ext (by show (128 * h.val + d.val) / 128 = h.val; omega)

theorem col_mod (h : Fin 4) (d : Fin 128) (e : (col h d).val % 128 < 128) : (⟨(col h d).val % 128, e⟩ : Fin 128) = d :=
  Fin.ext (by show (128 * h.val + d.val) % 128 = d.val; omega)

theorem row_mod (h : Fin 4) (j : Fin 64) (e : (row h j).val % 64 < 64) : (⟨(row h j).val % 64, e⟩ : Fin 64) = j :=
  Fin.ext (by show (64 * h.val + j.val) % 64 = j.val; omega)

theorem same_at : ∀ i j : Fin 64, IntOp.cmpi .eq (BitVec.ofNat 32 i.val) (BitVec.ofNat 32 j.val) = if i = j then 1#1 else 0#1 := by
  decide +kernel

/-- An entry of the stacked heads' square: the head's own, else nothing. -/
theorem stack_at (h h' : Fin 4) (j : Fin 64) (r : Fin 8192) (n : Fin 32) (i : Fin 64) (hr : r.val = 256 * n.val + 64 * h.val + i.val) (x : FVec Ideal S32x4x64x64 .f32)
    (X : Fin 4 → ℝ) (hx : ∀ h, @Eq EReal (x (ix4 n h i j)) (X h : ℝ)) (e1 : r.val / 256 < 32) (e2 : r.val / 64 % 4 < 4) (e3 : r.val % 64 < 64) (e4 : (row h' j).val % 64 < 64) :
    @Eq EReal (Scalar.select (IntOp.cmpi CmpIPredicate.eq (BitVec.ofNat 32 (r.val / 64 % 4)) (BitVec.ofNat 32 ((row h' j).val / 64)))
      (x (ix4 ⟨r.val / 256, e1⟩ ⟨r.val / 64 % 4, e2⟩ ⟨r.val % 64, e3⟩ ⟨(row h' j).val % 64, e4⟩)) (0 : EReal)) (own h h' (X h)) := by
  have q1 : (⟨r.val / 256, e1⟩ : Fin 32) = n := Fin.ext (by show r.val / 256 = n.val; omega)
  have q2 : (⟨r.val / 64 % 4, e2⟩ : Fin 4) = h := Fin.ext (by show r.val / 64 % 4 = h.val; omega)
  have q3 : (⟨r.val % 64, e3⟩ : Fin 64) = i := Fin.ext (by show r.val % 64 = i.val; omega)
  have q4 : r.val / 64 % 4 = h.val := by omega
  have q5 : (row h' j).val / 64 = h'.val := by show (64 * h'.val + j.val) / 64 = _; omega
  have q6 : ∀ h h' : Fin 4, IntOp.cmpi .eq (BitVec.ofNat 32 h.val) (BitVec.ofNat 32 h'.val) = if h = h' then 1#1 else 0#1 := by decide +kernel
  rw [q1, q2, q3, row_mod, q4, q5, q6]
  unfold own
  by_cases e : h = h'
  · simp only [if_pos e, sel_true]
    exact hx h
  · simp only [if_neg e, sel_false]

variable (hA : ∀ c, (args m c).Ok)
include hA

theorem v25_at (c : Dev nD) (n : Fin 32) (h : Fin 4) (i j : Fin 64) :
    @Eq EReal ((show FVec Ideal S32x4x64x64 .f32 from V m c main_v25) (ix4 n h i j)) (((args m c).S n h).kk i j : ℝ) := by
  refine Eq.trans (b := (∑ d : Fin 128, @HMul.hMul EReal EReal EReal _ ((args m c).x1 (ix2 (at2 n i) (col h d))) ((args m c).x1 (ix2 (at2 n j) (col h d))))) ?_ ?_
  · show (V m c main_v25 : FVec Ideal S32x4x64x64 .f32) (ix4 n h i j) = _
    unfold V hostOps0 hostOps0_1 hostOps0_2
    after_reads_at
    pointwise []
    refine Finset.sum_congr rfl fun d _ => ?_
    rw [at2_eq, at2_eq, col_eq]
    rfl
  · simp only [Chunk.k_real _ (hA c), ← EReal.coe_mul, ← coe_sum]
    rfl

theorem v24_at (c : Dev nD) (n : Fin 32) (h : Fin 4) (i j : Fin 64) :
    @Eq EReal ((show FVec Ideal S32x4x64x64 .f32 from V m c main_v24) (ix4 n h i j)) (((args m c).S n h).dec i j : ℝ) := by
  have e := v24_eq m c
  have g := Chunk.gc_real _ (hA c)
  rw [← v2_eq m c] at g
  generalize V m c main_v24 = y at e ⊢
  generalize V m c main_v2 = x at e g ⊢
  subst e
  pointwise []
  rw [g, g, sge_at _ _ (by omega) (by omega)]
  unfold In.dec
  by_cases hh : j.val ≤ i.val
  · simp only [if_pos hh, sel_true, ← EReal.coe_sub, Ideal.exp_coe]
  · simp only [if_neg hh, sel_false]
    rfl

theorem v30_at (c : Dev nD) (n : Fin 32) (h : Fin 4) (i j : Fin 64) :
    @Eq EReal ((show FVec Ideal S32x4x64x64 .f32 from V m c main_v30) (ix4 n h i j)) ((-((args m c).S n h).low) i j : ℝ) := by
  have e := v30_eq m c
  have h1 := v24_at m hA c
  have h2 := v25_at m hA c
  have h3 := fun n h i => (v4_at m c n h i).trans (Chunk.b_real _ (hA c) n h i)
  generalize V m c main_v30 = y at e ⊢
  generalize V m c main_v24 = x at e h1 ⊢
  generalize V m c main_v25 = z at e h2 ⊢
  generalize V m c main_v4 = w at e h3 ⊢
  subst e
  pointwise []
  rw [h1, h2, h3, sgt_at _ _ (by omega) (by omega), Matrix.neg_apply]
  unfold In.low
  by_cases hh : j.val < i.val
  · simp only [if_pos hh, sel_true, ← EReal.coe_mul, ← EReal.coe_neg]
  · simp only [if_neg hh, sel_false]
    simp

theorem v33_at (c : Dev nD) (n : Fin 32) (h : Fin 4) (i j : Fin 64) :
    @Eq EReal ((show FVec Ideal S32x4x64x64 .f32 from V m c main_v33) (ix4 n h i j)) ((1 + -((args m c).S n h).low : Mat) i j : ℝ) := by
  have e := v33_eq m c
  have h1 := v30_at m hA c
  generalize V m c main_v33 = y at e ⊢
  generalize V m c main_v30 = x at e h1 ⊢
  subst e
  pointwise []
  rw [h1, Matrix.add_apply, Matrix.one_apply, EReal.coe_add]
  refine congrArg (· + _) ?_
  rw [same_at]
  by_cases hh : i = j
  · simp only [if_pos hh, sel_true]
    rfl
  · simp only [if_neg hh, sel_false]
    rfl

omit hA in
/-- A product of such matrices, and a step of the inverse. -/
theorem mm_at (x y : FVec Ideal S32x4x64x64 .bf16) (X Y : Fin 32 → Fin 4 → Mat) (hx : ∀ n h i j, @Eq EReal (x (ix4 n h i j)) (X n h i j : ℝ))
    (hy : ∀ n h i j, @Eq EReal (y (ix4 n h i j)) (Y n h i j : ℝ)) (n h i j) :
    @Eq EReal ((truncf .bf16 (Host.dotGeneral dot_S32x4x64x64_S32x4x64x64_S32x4x64x64_3_2_2_3_01_01 none x y : FVec Ideal S32x4x64x64 .f32) bitsLt_bf16_f32 : FVec Ideal S32x4x64x64 .bf16) (ix4 n h i j))
      ((X n h * Y n h) i j : ℝ) := by
  pointwise []
  simp only [hx, hy, ← EReal.coe_mul, ← coe_sum]
  rfl

omit hA in
theorem up_at (t : FVec Ideal S32x4x64x64 .f32) (p : FVec Ideal S32x4x64x64 .bf16) (T P : Fin 32 → Fin 4 → Mat) (ht : ∀ n h i j, @Eq EReal (t (ix4 n h i j)) (T n h i j : ℝ))
    (hp : ∀ n h i j, @Eq EReal (p (ix4 n h i j)) (P n h i j : ℝ)) (n h i j) :
    @Eq EReal ((addf t (Host.dotGeneral dot_S32x4x64x64_S32x4x64x64_S32x4x64x64_3_2_2_3_01_01 none (truncf .bf16 t bitsLt_bf16_f32) p : FVec Ideal S32x4x64x64 .f32) : FVec Ideal S32x4x64x64 .f32) (ix4 n h i j))
      ((T n h + T n h * P n h) i j : ℝ) := by
  pointwise []
  simp only [ht, hp, ← EReal.coe_mul, ← coe_sum, ← EReal.coe_add]
  rfl

theorem v59_at (c : Dev nD) (n : Fin 32) (h : Fin 4) (i j : Fin 64) :
    @Eq EReal ((show FVec Ideal S32x4x64x64 .f32 from V m c main_v59) (ix4 n h i j)) (((args m c).S n h).T i j : ℝ) := by
  have p0 := v30_at m hA c
  have p0' : ∀ n h i j, @Eq EReal ((show FVec Ideal S32x4x64x64 .bf16 from V m c main_v34) (ix4 n h i j)) ((-((args m c).S n h).low) i j : ℝ) := fun n h i j => by
    rw [v34_eq m c]
    exact p0 n h i j
  have t0 := v33_at m hA c
  have p1 := mm_at _ _ _ _ p0' p0'
  rw [← v36_eq m c] at p1
  have t1 := up_at _ _ _ _ t0 p1
  rw [← v39_eq m c] at t1
  have p2 := mm_at _ _ _ _ p1 p1
  rw [← v41_eq m c] at p2
  have t2 := up_at _ _ _ _ t1 p2
  rw [← v44_eq m c] at t2
  have p3 := mm_at _ _ _ _ p2 p2
  rw [← v46_eq m c] at p3
  have t3 := up_at _ _ _ _ t2 p3
  rw [← v49_eq m c] at t3
  have p4 := mm_at _ _ _ _ p3 p3
  rw [← v51_eq m c] at p4
  have t4 := up_at _ _ _ _ t3 p4
  rw [← v54_eq m c] at t4
  have p5 := mm_at _ _ _ _ p4 p4
  rw [← v56_eq m c] at p5
  have t5 := up_at _ _ _ _ t4 p5
  rw [← v59_eq m c] at t5
  refine (t5 n h i j).trans ?_
  rw [Chunk.Arr.S_T']
  rfl

theorem v60_at (c : Dev nD) (n : Fin 32) (h : Fin 4) (i : Fin 64) (d : Fin 128) :
    @Eq EReal ((show FVec Ideal S32x4x64x128 .f32 from V m c main_v60) (ix4 n h i d)) (((args m c).S n h).uv i d : ℝ) := by
  have e := v60_eq m c
  have h1 := v59_at m hA c
  have h2 := fun n h i d => (v8_at m c n h i d).trans (Chunk.v_real _ (hA c) n h i d)
  generalize V m c main_v60 = y at e ⊢
  generalize V m c main_v59 = x at e h1 ⊢
  generalize V m c main_v8 = z at e h2 ⊢
  subst e
  pointwise []
  simp only [h1, h2, ← EReal.coe_mul, ← coe_sum]
  rfl

theorem v64_at (c : Dev nD) (n : Fin 32) (h : Fin 4) (i : Fin 64) (d : Fin 128) :
    @Eq EReal ((show FVec Ideal S32x4x64x128 .f32 from V m c main_v64) (ix4 n h i d)) (((args m c).S n h).wk i d : ℝ) := by
  have e := v64_eq m c
  have h1 := v59_at m hA c
  have h2 := fun n h i d => (v6_at m c n h i d).trans (Chunk.k_real _ (hA c) n h i d)
  have g := Chunk.gc_real _ (hA c)
  rw [← v2_eq m c] at g
  generalize V m c main_v64 = y at e ⊢
  generalize V m c main_v59 = x at e h1 ⊢
  generalize V m c main_v6 = z at e h2 ⊢
  generalize V m c main_v2 = w at e g ⊢
  subst e
  pointwise []
  simp only [h1, h2, g, Ideal.exp_coe, ← EReal.coe_mul, ← coe_sum]
  rfl

theorem uvr_at (c : Dev nD) (n : Fin 32) (h : Fin 4) (i : Fin 64) (d : Fin 128) :
    @Eq EReal ((show FVec Ideal S2048x512 .f32 from V m c main_v85) (ix2 (at2 n i) (col h d))) (((args m c).S n h).uv i d : ℝ) := by
  have e := v85_eq m c
  have h1 := v60_at m hA c
  generalize V m c main_v85 = y at e ⊢
  generalize V m c main_v60 = x at e h1 ⊢
  subst e
  refine Eq.trans ?_ (h1 n h i d)
  pointwise []
  rw [at2_div, col_div, at2_mod, col_mod]

theorem wkr_at (c : Dev nD) (n : Fin 32) (h : Fin 4) (i : Fin 64) (d : Fin 128) :
    @Eq EReal ((show FVec Ideal S2048x512 .f32 from V m c main_v87) (ix2 (at2 n i) (col h d))) (((args m c).S n h).wk i d : ℝ) := by
  have e := v87_eq m c
  have h1 := v64_at m hA c
  generalize V m c main_v87 = y at e ⊢
  generalize V m c main_v64 = x at e h1 ⊢
  subst e
  refine Eq.trans ?_ (h1 n h i d)
  pointwise []
  rw [at2_div, col_div, at2_mod, col_mod]

theorem gcr_at (c : Dev nD) (n : Fin 32) (h : Fin 4) (i : Fin 64) (d : Fin 128) :
    @Eq EReal ((show FVec Ideal S2048x512 .f32 from V m c main_v77) (ix2 (at2 n i) (col h d))) (((args m c).S n h).gc i : ℝ) := by
  have e := v77_eq m c
  have g := Chunk.gc_real _ (hA c)
  rw [← v2_eq m c] at g
  generalize V m c main_v77 = y at e ⊢
  generalize V m c main_v2 = x at e g ⊢
  subst e
  refine Eq.trans ?_ (g n h i)
  pointwise []
  rw [at2_div, col_div, at2_mod]

theorem duw_at (c : Dev nD) (n : Fin 32) (h : Fin 4) (i : Fin 64) (d : Fin 128) :
    @Eq EReal ((show FVec Ideal S2048x512 .f32 from V m c main_v89) (ix2 (at2 n i) (col h d))) (((args m c).S n h).du i d : ℝ) := by
  refine Eq.trans ?_ (Chunk.du_real _ (hA c) n h i d)
  show (V m c main_v89 : FVec Ideal S2048x512 .f32) _ = _
  unfold V hostOps0 hostOps0_1 hostOps0_2
  after_reads_at
  rw [at2_div, col_div, at2_mod, col_mod]
  rfl

theorem dww_at (c : Dev nD) (n : Fin 32) (h : Fin 4) (i : Fin 64) (d : Fin 128) :
    @Eq EReal ((show FVec Ideal S2048x512 .f32 from V m c main_v91) (ix2 (at2 n i) (col h d))) (((args m c).S n h).dw i d : ℝ) := by
  refine Eq.trans ?_ (Chunk.dw_real _ (hA c) n h i d)
  show (V m c main_v91 : FVec Ideal S2048x512 .f32) _ = _
  unfold V hostOps0 hostOps0_1 hostOps0_2
  after_reads_at
  rw [at2_div, col_div, at2_mod, col_mod]
  rfl

theorem dqdw_at (c : Dev nD) (n : Fin 32) (h : Fin 4) (i : Fin 64) (d : Fin 128) :
    @Eq EReal ((show FVec Ideal S2048x512 .f32 from V m c main_v96) (ix2 (at2 n i) (col h d))) (((args m c).S n h).dqd i d : ℝ) := by
  refine Eq.trans ?_ (Chunk.dqd_real _ (hA c) n h i d)
  show (V m c main_v96 : FVec Ideal S2048x512 .f32) _ = _
  unfold V hostOps0 hostOps0_1 hostOps0_2
  after_reads_at
  rw [at2_div, col_div, at2_mod, col_mod]
  rfl

theorem dkew_at (c : Dev nD) (n : Fin 32) (h : Fin 4) (i : Fin 64) (d : Fin 128) :
    @Eq EReal ((show FVec Ideal S2048x512 .f32 from V m c main_v98) (ix2 (at2 n i) (col h d))) (((args m c).S n h).dke i d : ℝ) := by
  refine Eq.trans ?_ (Chunk.dke_real _ (hA c) n h i d)
  show (V m c main_v98 : FVec Ideal S2048x512 .f32) _ = _
  unfold V hostOps0 hostOps0_1 hostOps0_2
  after_reads_at
  rw [at2_div, col_div, at2_mod, col_mod]
  rfl

theorem br_at (c : Dev nD) (n : Fin 32) (h : Fin 4) (i : Fin 64) (d : Fin 128) :
    @Eq EReal ((show FVec Ideal S2048x512 .f32 from V m c main_v80) (ix2 (at2 n i) (col h d))) (((args m c).S n h).b i : ℝ) := by
  refine Eq.trans ?_ (Chunk.b_real _ (hA c) n h i)
  show (V m c main_v80 : FVec Ideal S2048x512 .f32) _ = _
  unfold V hostOps0 hostOps0_1 hostOps0_2
  after_reads_at
  rw [at2_join, col_div]
  rfl

theorem tst_at (c : Dev nD) (n : Fin 32) (h h' : Fin 4) (i j : Fin 64) (r : Fin 8192) (hr : r.val = 256 * n.val + 64 * h.val + i.val) :
    @Eq EReal ((show FVec Ideal S8192x256 .f32 from V m c main_v83) (ix2 r (row h' j))) (own h h' (((args m c).S n h).T i j)) := by
  have e := v83_eq m c
  have h1 := v59_at m hA c
  generalize V m c main_v83 = y at e ⊢
  generalize V m c main_v59 = x at e h1 ⊢
  subst e
  pointwise []
  exact stack_at h h' j r n i hr x (fun h => ((args m c).S n h).T i j) (fun h => h1 n h i j) _ _ _ _

theorem dat_at (c : Dev nD) (n : Fin 32) (h h' : Fin 4) (i j : Fin 64) (r : Fin 8192) (hr : r.val = 256 * n.val + 64 * h.val + i.val) :
    @Eq EReal ((show FVec Ideal S8192x256 .f32 from V m c main_v94) (ix2 r (row h' j))) (own h h' (((args m c).S n h).dat i j)) := by
  show (V m c main_v94 : FVec Ideal S8192x256 .f32) _ = _
  unfold V hostOps0 hostOps0_1 hostOps0_2
  after_reads_at
  exact stack_at h h' j r n i hr (args m c).x7 (fun h => ((args m c).S n h).dat i j) (fun h => Chunk.dat_real _ (hA c) n h i j) _ _ _ _

theorem dgl_at (c : Dev nD) (n : Fin 32) (h : Fin 4) :
    @Eq EReal ((show FVec Ideal S32x8x512 .f32 from V m c main_v99) (ix3 n 0 (col h 0))) (((args m c).S n h).dgl : ℝ) := by
  have e := v99_eq m c
  rw [v2_eq m c] at e
  refine Eq.trans ?_ (Chunk.dgl_real _ (hA c) n h)
  generalize V m c main_v99 = y at e ⊢
  subst e
  pointwise []
  rw [col_div]

end Cert.ChunkKIdeal.Value

end
-- ==== Proof.Chunk.Blocks.lean ====
module

public import proofs.«01_k».proof.Proof.Chunk.Entries
public import proofs.«01_k».proof.Proof.Gen.ChunkKIdeal.Value

@[expose] public section

set_option maxRecDepth 16384

noncomputable section

open Idealize.ShloMosaic Idealize.ShloMosaic.TcCoe Idealize.SL.Sem
open Idealize.ShloMosaic.Pipeline (Dat)

namespace Cert.ChunkKIdeal.Value

open Cert.ChunkKIdeal Cert.ChunkKIdeal.Gen

open Reals
open Chunk (Mat In at2 col)

variable (m : (ℓ : Loc nD τ sig) → Buf (Elt Ideal) ℓ)

/-- Every window's block at a point: the point's own. -/
theorem idx : ∀ t : Fin cfg0.N, win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![t.val, 0] ∧ win0_8.index t = ![t.val, 0] ∧
    win0_9.index t = ![t.val, 0] ∧ win0_10.index t = ![t.val, 0] ∧ win0_11.index t = ![t.val, 0] ∧ win0_12.index t = ![t.val, 0, 0] ∧ win0_13.index t = ![t.val, 0] ∧
    win0_14.index t = ![t.val, 0] ∧ win0_15.index t = ![t.val, 0] ∧ win0_16.index t = ![t.val, 0] ∧ win0_17.index t = ![t.val, 0] ∧ t.val < 8 :=
  (by decide +kernel : ∀ t : Fin grid0.N, _)

theorem blk0 (c : Dev nD) (t : Fin cfg0.N) (r : Fin 256) (l : Fin 512) (r' : Fin 2048) (hr : r'.val = 256 * t.val + r.val) :
    @Eq EReal ((iblk m c 0 t : FVec Ideal S256x512 .f32) (ix2 r l)) ((args m c).x0 (ix2 r' l)) := by
  unfold args
  blk_ext [iblk, V, idx t]

theorem blk2 (c : Dev nD) (t : Fin cfg0.N) (r : Fin 256) (l : Fin 512) (r' : Fin 2048) (hr : r'.val = 256 * t.val + r.val) :
    @Eq EReal ((iblk m c 2 t : FVec Ideal S256x512 .f32) (ix2 r l)) ((show FVec Ideal S2048x512 .f32 from V m c main_v77) (ix2 r' l)) := by
  show _ = (V m c main_v77 : FVec Ideal S2048x512 .f32) (ix2 r' l)
  unfold iblk
  generalize V m c = v
  blk_ext [idx t]

theorem blk1 (c : Dev nD) (t : Fin cfg0.N) (r : Fin 256) (l : Fin 512) (r' : Fin 2048) (hr : r'.val = 256 * t.val + r.val) :
    @Eq EReal ((iblk m c 1 t : FVec Ideal S256x512 .f32) (ix2 r l)) ((args m c).x1 (ix2 r' l)) := by
  unfold args
  blk_ext [iblk, V, idx t]

theorem blk3 (c : Dev nD) (t : Fin cfg0.N) (r : Fin 256) (l : Fin 512) (r' : Fin 2048) (hr : r'.val = 256 * t.val + r.val) :
    @Eq EReal ((iblk m c 3 t : FVec Ideal S256x512 .f32) (ix2 r l)) ((show FVec Ideal S2048x512 .f32 from V m c main_v80) (ix2 r' l)) := by
  show _ = (V m c main_v80 : FVec Ideal S2048x512 .f32) (ix2 r' l)
  unfold iblk
  generalize V m c = v
  blk_ext [idx t]

theorem blk5 (c : Dev nD) (t : Fin cfg0.N) (r : Fin 256) (l : Fin 512) (r' : Fin 2048) (hr : r'.val = 256 * t.val + r.val) :
    @Eq EReal ((iblk m c 5 t : FVec Ideal S256x512 .f32) (ix2 r l)) ((show FVec Ideal S2048x512 .f32 from V m c main_v85) (ix2 r' l)) := by
  show _ = (V m c main_v85 : FVec Ideal S2048x512 .f32) (ix2 r' l)
  unfold iblk
  generalize V m c = v
  blk_ext [idx t]

theorem blk6 (c : Dev nD) (t : Fin cfg0.N) (r : Fin 256) (l : Fin 512) (r' : Fin 2048) (hr : r'.val = 256 * t.val + r.val) :
    @Eq EReal ((iblk m c 6 t : FVec Ideal S256x512 .f32) (ix2 r l)) ((show FVec Ideal S2048x512 .f32 from V m c main_v87) (ix2 r' l)) := by
  show _ = (V m c main_v87 : FVec Ideal S2048x512 .f32) (ix2 r' l)
  unfold iblk
  generalize V m c = v
  blk_ext [idx t]

theorem blk7 (c : Dev nD) (t : Fin cfg0.N) (r : Fin 256) (l : Fin 512) (r' : Fin 2048) (hr : r'.val = 256 * t.val + r.val) :
    @Eq EReal ((iblk m c 7 t : FVec Ideal S256x512 .f32) (ix2 r l)) ((show FVec Ideal S2048x512 .f32 from V m c main_v89) (ix2 r' l)) := by
  show _ = (V m c main_v89 : FVec Ideal S2048x512 .f32) (ix2 r' l)
  unfold iblk
  generalize V m c = v
  blk_ext [idx t]

theorem blk8 (c : Dev nD) (t : Fin cfg0.N) (r : Fin 256) (l : Fin 512) (r' : Fin 2048) (hr : r'.val = 256 * t.val + r.val) :
    @Eq EReal ((iblk m c 8 t : FVec Ideal S256x512 .f32) (ix2 r l)) ((show FVec Ideal S2048x512 .f32 from V m c main_v91) (ix2 r' l)) := by
  show _ = (V m c main_v91 : FVec Ideal S2048x512 .f32) (ix2 r' l)
  unfold iblk
  generalize V m c = v
  blk_ext [idx t]

theorem blk10 (c : Dev nD) (t : Fin cfg0.N) (r : Fin 256) (l : Fin 512) (r' : Fin 2048) (hr : r'.val = 256 * t.val + r.val) :
    @Eq EReal ((iblk m c 10 t : FVec Ideal S256x512 .f32) (ix2 r l)) ((show FVec Ideal S2048x512 .f32 from V m c main_v96) (ix2 r' l)) := by
  show _ = (V m c main_v96 : FVec Ideal S2048x512 .f32) (ix2 r' l)
  unfold iblk
  generalize V m c = v
  blk_ext [idx t]

theorem blk11 (c : Dev nD) (t : Fin cfg0.N) (r : Fin 256) (l : Fin 512) (r' : Fin 2048) (hr : r'.val = 256 * t.val + r.val) :
    @Eq EReal ((iblk m c 11 t : FVec Ideal S256x512 .f32) (ix2 r l)) ((show FVec Ideal S2048x512 .f32 from V m c main_v98) (ix2 r' l)) := by
  show _ = (V m c main_v98 : FVec Ideal S2048x512 .f32) (ix2 r' l)
  unfold iblk
  generalize V m c = v
  blk_ext [idx t]

theorem blk4 (c : Dev nD) (t : Fin cfg0.N) (r : Fin 1024) (l : Fin 256) (r' : Fin 8192) (hr : r'.val = 1024 * t.val + r.val) :
    @Eq EReal ((iblk m c 4 t : FVec Ideal S1024x256 .f32) (ix2 r l)) ((show FVec Ideal S8192x256 .f32 from V m c main_v83) (ix2 r' l)) := by
  show _ = (V m c main_v83 : FVec Ideal S8192x256 .f32) (ix2 r' l)
  unfold iblk
  generalize V m c = v
  blk_ext [idx t]

theorem blk9 (c : Dev nD) (t : Fin cfg0.N) (r : Fin 1024) (l : Fin 256) (r' : Fin 8192) (hr : r'.val = 1024 * t.val + r.val) :
    @Eq EReal ((iblk m c 9 t : FVec Ideal S1024x256 .f32) (ix2 r l)) ((show FVec Ideal S8192x256 .f32 from V m c main_v94) (ix2 r' l)) := by
  show _ = (V m c main_v94 : FVec Ideal S8192x256 .f32) (ix2 r' l)
  unfold iblk
  generalize V m c = v
  blk_ext [idx t]

theorem blk12 (c : Dev nD) (t : Fin cfg0.N) (k : Fin 4) (l : Fin 512) (n : Fin 32) (hn : n.val = 4 * t.val + k.val) :
    @Eq EReal ((iblk m c 12 t : FVec Ideal S4x8x512 .f32) (ix3 k 0 l)) ((show FVec Ideal S32x8x512 .f32 from V m c main_v99) (ix3 n 0 l)) := by
  show _ = (V m c main_v99 : FVec Ideal S32x8x512 .f32) (ix3 n 0 l)
  unfold iblk
  generalize V m c = v
  blk_ext [idx t]

/-- Four heads' rows stacked. -/
def four (a b c d : FVec Ideal S64x128 .f32) (h : Fin 4) : FVec Ideal S64x128 .f32 :=
  match h with
  | 0 => a
  | 1 => b
  | 2 => c
  | 3 => d

theorem pay5_at (a b c d : FVec Ideal S64x128 .f32) (h : Fin 4) (i : Fin 64) (l : Fin 128) : @Eq EReal (k0_pay5 (F := Ideal) a b c d (ix2 (row h i) l)) (four a b c d h (ix2 i l)) := by
  match h with
  | 0 =>
    have e : (row 0 i).val = 64 * 0 + i.val := rfl
    pointwise [k0_pay5]
    refine (dif_pos ?_).trans ?_
    · omega
    exact congrArg a (congrArg₂ ix2 (Fin.ext (by show (row 0 i).val = i.val; omega)) rfl)
  | 1 =>
    have e : (row 1 i).val = 64 * 1 + i.val := rfl
    pointwise [k0_pay5]
    refine (dif_neg ?_).trans ?_
    · omega
    refine (dif_pos ?_).trans ?_
    · omega
    exact congrArg b (congrArg₂ ix2 (Fin.ext (by show (row 1 i).val - 64 = i.val; omega)) rfl)
  | 2 =>
    have e : (row 2 i).val = 64 * 2 + i.val := rfl
    pointwise [k0_pay5]
    refine (dif_neg ?_).trans ?_
    · omega
    refine (dif_neg ?_).trans ?_
    · omega
    refine (dif_pos ?_).trans ?_
    · omega
    exact congrArg c (congrArg₂ ix2 (Fin.ext (by show (row 2 i).val - 64 - 64 = i.val; omega)) rfl)
  | 3 =>
    have e : (row 3 i).val = 64 * 3 + i.val := rfl
    pointwise [k0_pay5]
    refine (dif_neg ?_).trans ?_
    · omega
    refine (dif_neg ?_).trans ?_
    · omega
    refine (dif_neg ?_).trans ?_
    · omega
    exact congrArg d (congrArg₂ ix2 (Fin.ext (by show (row 3 i).val - 64 - 64 - 64 = i.val; omega)) rfl)

theorem pay7_eq (a b c d : FVec Ideal S64x128 .f32) : k0_pay7 (F := Ideal) a b c d = k0_pay5 a b c d := by
  unfold k0_pay7 k0_pay5
  rw [shapeCast_self a, shapeCast_self b, shapeCast_self c, shapeCast_self d]

theorem pay8_eq (a b c d : FVec Ideal S64x128 .f32) : k0_pay8 (F := Ideal) a b c d = k0_pay5 a b c d := by
  unfold k0_pay8 k0_pay5
  rw [shapeCast_self a, shapeCast_self b, shapeCast_self c, shapeCast_self d]

theorem pay9_eq (a b c d : FVec Ideal S64x128 .f32) : k0_pay9 (F := Ideal) a b c d = k0_pay5 a b c d := by
  unfold k0_pay9 k0_pay5
  rw [shapeCast_self a, shapeCast_self b, shapeCast_self c, shapeCast_self d]

theorem pay10_eq (a b c d : FVec Ideal S64x128 .f32) : k0_pay10 (F := Ideal) a b c d = k0_pay5 a b c d := by
  unfold k0_pay10 k0_pay5
  rw [shapeCast_self a, shapeCast_self b, shapeCast_self c, shapeCast_self d]

theorem pay14_eq (a b c d : FVec Ideal S64x128 .f32) : k0_pay14 (F := Ideal) a b c d = k0_pay5 a b c d := by
  unfold k0_pay14 k0_pay5
  rw [shapeCast_self a, shapeCast_self b, shapeCast_self c, shapeCast_self d]

theorem pay15_eq (a b c d : FVec Ideal S64x128 .f32) : k0_pay15 (F := Ideal) a b c d = k0_pay5 a b c d := by
  unfold k0_pay15 k0_pay5
  rw [shapeCast_self a, shapeCast_self b, shapeCast_self c, shapeCast_self d]

theorem pay16_eq (a b c d : FVec Ideal S64x128 .f32) : k0_pay16 (F := Ideal) a b c d = k0_pay5 a b c d := by
  unfold k0_pay16 k0_pay5
  rw [shapeCast_self a, shapeCast_self b, shapeCast_self c, shapeCast_self d]

theorem pay6_eq (a b c d : FVec Ideal S64x128 .f32) : k0_pay6 (F := Ideal) a b c d = k0_pay5 a b c d := rfl

/-- Row `i` of chunk `k` of a block. -/
def at4 (k : Fin 4) (i : Fin 64) : Fin 256 := ⟨64 * k.val + i.val, by omega⟩

theorem ld_at (x : FVec Ideal S256x512 .f32) (k h : Fin 4) (o p : ℕ) (ho : o = 64 * k.val) (hp : p = 128 * h.val) (hi) (i : Fin 64) (d : Fin 128) :
    @Eq EReal ((View.ld (Val := Elt Ideal) (e' := .f32) x (Rect.unit (s := S256x512) ![o, p] S64x128.size hi) : FVec Ideal S64x128 .f32) (ix2 i d)) (x (ix2 (at4 k i) (col h d))) := by
  subst ho hp
  show x _ = x _
  blk_ext
  · simp [LoadRect.idx, at4]
  · simp [LoadRect.idx, col]

/-- The four heads' rows of a chunk, loaded and stacked. -/
theorem four_at (x : FVec Ideal S256x512 .f32) (k : Fin 4) (f : Fin 4 → Fin 64 → Fin 128 → ℝ) (hx : ∀ h i d, @Eq EReal (x (ix2 (at4 k i) (col h d))) (f h i d : ℝ))
    (o : ℕ) (ho : o = 64 * k.val) (h0 h1 h2 h3) (h : Fin 4) (i : Fin 64) (d : Fin 128) :
    @Eq EReal (k0_pay5 (F := Ideal) (View.ld (Val := Elt Ideal) (e' := .f32) x (Rect.unit (s := S256x512) ![o, 0] S64x128.size h0)) (View.ld (Val := Elt Ideal) (e' := .f32) x (Rect.unit (s := S256x512) ![o, 128] S64x128.size h1))
      (View.ld (Val := Elt Ideal) (e' := .f32) x (Rect.unit (s := S256x512) ![o, 256] S64x128.size h2)) (View.ld (Val := Elt Ideal) (e' := .f32) x (Rect.unit (s := S256x512) ![o, 384] S64x128.size h3)) (ix2 (row h i) d)) (f h i d : ℝ) := by
  rw [pay5_at]
  refine Eq.trans ?_ (hx h i d)
  match h with
  | 0 => exact ld_at x k 0 o 0 ho rfl h0 i d
  | 1 => exact ld_at x k 1 o 128 ho rfl h1 i d
  | 2 => exact ld_at x k 2 o 256 ho rfl h2 i d
  | 3 => exact ld_at x k 3 o 384 ho rfl h3 i d

theorem sq_at (x : FVec Ideal S1024x256 .f32) (o : ℕ) (hi) (r s : Fin 256) (r' : Fin 1024) (hr : r'.val = o + r.val) :
    @Eq EReal ((View.ld (Val := Elt Ideal) (e' := .f32) x (Rect.unit (s := S1024x256) ![o, 0] S256x256.size hi) : FVec Ideal S256x256 .f32) (ix2 r s)) (x (ix2 r' s)) := by
  show x _ = x _
  blk_ext
  · simp [LoadRect.idx, hr]
  · simp [LoadRect.idx]

theorem one_at (x : FVec Ideal S4x8x512 .f32) (k h : Fin 4) (o p : ℕ) (ho : o = k.val) (hp : p = 128 * h.val) (hi) :
    @Eq EReal ((View.ld (Val := Elt Ideal) (e' := .f32) x (Rect.unit (s := S4x8x512) ![o, 0, p] S1x1x1.size hi) : FVec Ideal S1x1x1 .f32) (ix3 0 0 0)) (x (ix3 k 0 (col h 0))) := by
  subst ho hp
  show x _ = x _
  blk_ext
  · simp [LoadRect.idx]
  · simp [LoadRect.idx]
  · simp [LoadRect.idx, col]

/-- What a block's thirteen operands hold, chunk by chunk. -/
structure Blk (x0 x1 x2 x3 : FVec Ideal S256x512 .f32) (x4 : FVec Ideal S1024x256 .f32) (x5 x6 x7 x8 : FVec Ideal S256x512 .f32) (x9 : FVec Ideal S1024x256 .f32)
    (x10 x11 : FVec Ideal S256x512 .f32) (x12 : FVec Ideal S4x8x512 .f32) (S : Fin 4 → Fin 4 → In) : Prop where
  q : ∀ k h i d, @Eq EReal (x0 (ix2 (at4 k i) (col h d))) ((S k h).q i d : ℝ)
  k : ∀ k h i d, @Eq EReal (x1 (ix2 (at4 k i) (col h d))) ((S k h).k i d : ℝ)
  g : ∀ k h i d, @Eq EReal (x2 (ix2 (at4 k i) (col h d))) ((S k h).gc i : ℝ)
  b : ∀ k h i d, @Eq EReal (x3 (ix2 (at4 k i) (col h d))) ((S k h).b i : ℝ)
  uv : ∀ k h i d, @Eq EReal (x5 (ix2 (at4 k i) (col h d))) ((S k h).uv i d : ℝ)
  wk : ∀ k h i d, @Eq EReal (x6 (ix2 (at4 k i) (col h d))) ((S k h).wk i d : ℝ)
  du : ∀ k h i d, @Eq EReal (x7 (ix2 (at4 k i) (col h d))) ((S k h).du i d : ℝ)
  dw : ∀ k h i d, @Eq EReal (x8 (ix2 (at4 k i) (col h d))) ((S k h).dw i d : ℝ)
  dqd : ∀ k h i d, @Eq EReal (x10 (ix2 (at4 k i) (col h d))) ((S k h).dqd i d : ℝ)
  dke : ∀ k h i d, @Eq EReal (x11 (ix2 (at4 k i) (col h d))) ((S k h).dke i d : ℝ)
  t : ∀ (k h h' : Fin 4) (i j : Fin 64) (r : Fin 1024), r.val = 256 * k.val + (row h i).val → @Eq EReal (x4 (ix2 r (row h' j))) (own h h' ((S k h).T i j))
  dat : ∀ (k h h' : Fin 4) (i j : Fin 64) (r : Fin 1024), r.val = 256 * k.val + (row h i).val → @Eq EReal (x9 (ix2 r (row h' j))) (own h h' ((S k h).dat i j))
  l : ∀ k h, @Eq EReal (x12 (ix3 k 0 (col h 0))) ((S k h).dgl : ℝ)

section

variable {x0 x1 x2 x3 : FVec Ideal S256x512 .f32} {x4 : FVec Ideal S1024x256 .f32} {x5 x6 x7 x8 : FVec Ideal S256x512 .f32} {x9 : FVec Ideal S1024x256 .f32}
    {x10 x11 : FVec Ideal S256x512 .f32} {x12 : FVec Ideal S4x8x512 .f32} {S : Fin 4 → Fin 4 → In} (B : Blk x0 x1 x2 x3 x4 x5 x6 x7 x8 x9 x10 x11 x12 S)

include B

theorem is0 : Is (ld0 x0 x1 x2 x3 x4 x5 x6 x7 x8 x9 x10 x11 x12) (S 0) where
  q h i d := four_at _ 0 (fun h i d => (S 0 h).q i d) (B.q 0) 0 rfl _ _ _ _ h i d
  k h i d := (congrFun (pay6_eq _ _ _ _) _).trans (four_at _ 0 (fun h i d => (S 0 h).k i d) (B.k 0) 0 rfl _ _ _ _ h i d)
  g h i d := (congrFun (pay7_eq _ _ _ _) _).trans (four_at _ 0 (fun h i d => (S 0 h).gc i) (B.g 0) 0 rfl _ _ _ _ h i d)
  b h i d := (congrFun (pay8_eq _ _ _ _) _).trans (four_at _ 0 (fun h i d => (S 0 h).b i) (B.b 0) 0 rfl _ _ _ _ h i d)
  uv h i d := (congrFun (pay9_eq _ _ _ _) _).trans (four_at _ 0 (fun h i d => (S 0 h).uv i d) (B.uv 0) 0 rfl _ _ _ _ h i d)
  wk h i d := (congrFun (pay10_eq _ _ _ _) _).trans (four_at _ 0 (fun h i d => (S 0 h).wk i d) (B.wk 0) 0 rfl _ _ _ _ h i d)
  du h i d := (congrFun (pay14_eq _ _ _ _) _).trans (four_at _ 0 (fun h i d => (S 0 h).du i d) (B.du 0) 0 rfl _ _ _ _ h i d)
  dw h i d := (congrFun (pay14_eq _ _ _ _) _).trans (four_at _ 0 (fun h i d => (S 0 h).dw i d) (B.dw 0) 0 rfl _ _ _ _ h i d)
  dqd h i d := (congrFun (pay15_eq _ _ _ _) _).trans (four_at _ 0 (fun h i d => (S 0 h).dqd i d) (B.dqd 0) 0 rfl _ _ _ _ h i d)
  dke h i d := (congrFun (pay16_eq _ _ _ _) _).trans (four_at _ 0 (fun h i d => (S 0 h).dke i d) (B.dke 0) 0 rfl _ _ _ _ h i d)
  t h h' i j := (sq_at _ 0 _ (row h i) (row h' j) ⟨0 + (row h i).val, by omega⟩ rfl).trans (B.t 0 h h' i j _ rfl)
  dat h h' i j := (sq_at _ 0 _ (row h i) (row h' j) ⟨0 + (row h i).val, by omega⟩ rfl).trans (B.dat 0 h h' i j _ rfl)
  l0 := (one_at _ 0 0 0 0 rfl rfl _).trans (B.l 0 0)
  l1 := (one_at _ 0 1 0 128 rfl rfl _).trans (B.l 0 1)
  l2 := (one_at _ 0 2 0 256 rfl rfl _).trans (B.l 0 2)
  l3 := (one_at _ 0 3 0 384 rfl rfl _).trans (B.l 0 3)

theorem is1 : Is (ld1 x0 x1 x2 x3 x4 x5 x6 x7 x8 x9 x10 x11 x12) (S 1) where
  q h i d := four_at _ 1 (fun h i d => (S 1 h).q i d) (B.q 1) 64 rfl _ _ _ _ h i d
  k h i d := (congrFun (pay6_eq _ _ _ _) _).trans (four_at _ 1 (fun h i d => (S 1 h).k i d) (B.k 1) 64 rfl _ _ _ _ h i d)
  g h i d := (congrFun (pay7_eq _ _ _ _) _).trans (four_at _ 1 (fun h i d => (S 1 h).gc i) (B.g 1) 64 rfl _ _ _ _ h i d)
  b h i d := (congrFun (pay8_eq _ _ _ _) _).trans (four_at _ 1 (fun h i d => (S 1 h).b i) (B.b 1) 64 rfl _ _ _ _ h i d)
  uv h i d := (congrFun (pay9_eq _ _ _ _) _).trans (four_at _ 1 (fun h i d => (S 1 h).uv i d) (B.uv 1) 64 rfl _ _ _ _ h i d)
  wk h i d := (congrFun (pay10_eq _ _ _ _) _).trans (four_at _ 1 (fun h i d => (S 1 h).wk i d) (B.wk 1) 64 rfl _ _ _ _ h i d)
  du h i d := (congrFun (pay14_eq _ _ _ _) _).trans (four_at _ 1 (fun h i d => (S 1 h).du i d) (B.du 1) 64 rfl _ _ _ _ h i d)
  dw h i d := (congrFun (pay14_eq _ _ _ _) _).trans (four_at _ 1 (fun h i d => (S 1 h).dw i d) (B.dw 1) 64 rfl _ _ _ _ h i d)
  dqd h i d := (congrFun (pay15_eq _ _ _ _) _).trans (four_at _ 1 (fun h i d => (S 1 h).dqd i d) (B.dqd 1) 64 rfl _ _ _ _ h i d)
  dke h i d := (congrFun (pay16_eq _ _ _ _) _).trans (four_at _ 1 (fun h i d => (S 1 h).dke i d) (B.dke 1) 64 rfl _ _ _ _ h i d)
  t h h' i j := (sq_at _ 256 _ (row h i) (row h' j) ⟨256 + (row h i).val, by omega⟩ rfl).trans (B.t 1 h h' i j _ rfl)
  dat h h' i j := (sq_at _ 256 _ (row h i) (row h' j) ⟨256 + (row h i).val, by omega⟩ rfl).trans (B.dat 1 h h' i j _ rfl)
  l0 := (one_at _ 1 0 1 0 rfl rfl _).trans (B.l 1 0)
  l1 := (one_at _ 1 1 1 128 rfl rfl _).trans (B.l 1 1)
  l2 := (one_at _ 1 2 1 256 rfl rfl _).trans (B.l 1 2)
  l3 := (one_at _ 1 3 1 384 rfl rfl _).trans (B.l 1 3)

theorem is2 : Is (ld2 x0 x1 x2 x3 x4 x5 x6 x7 x8 x9 x10 x11 x12) (S 2) where
  q h i d := four_at _ 2 (fun h i d => (S 2 h).q i d) (B.q 2) 128 rfl _ _ _ _ h i d
  k h i d := (congrFun (pay6_eq _ _ _ _) _).trans (four_at _ 2 (fun h i d => (S 2 h).k i d) (B.k 2) 128 rfl _ _ _ _ h i d)
  g h i d := (congrFun (pay7_eq _ _ _ _) _).trans (four_at _ 2 (fun h i d => (S 2 h).gc i) (B.g 2) 128 rfl _ _ _ _ h i d)
  b h i d := (congrFun (pay8_eq _ _ _ _) _).trans (four_at _ 2 (fun h i d => (S 2 h).b i) (B.b 2) 128 rfl _ _ _ _ h i d)
  uv h i d := (congrFun (pay9_eq _ _ _ _) _).trans (four_at _ 2 (fun h i d => (S 2 h).uv i d) (B.uv 2) 128 rfl _ _ _ _ h i d)
  wk h i d := (congrFun (pay10_eq _ _ _ _) _).trans (four_at _ 2 (fun h i d => (S 2 h).wk i d) (B.wk 2) 128 rfl _ _ _ _ h i d)
  du h i d := (congrFun (pay14_eq _ _ _ _) _).trans (four_at _ 2 (fun h i d => (S 2 h).du i d) (B.du 2) 128 rfl _ _ _ _ h i d)
  dw h i d := (congrFun (pay14_eq _ _ _ _) _).trans (four_at _ 2 (fun h i d => (S 2 h).dw i d) (B.dw 2) 128 rfl _ _ _ _ h i d)
  dqd h i d := (congrFun (pay15_eq _ _ _ _) _).trans (four_at _ 2 (fun h i d => (S 2 h).dqd i d) (B.dqd 2) 128 rfl _ _ _ _ h i d)
  dke h i d := (congrFun (pay16_eq _ _ _ _) _).trans (four_at _ 2 (fun h i d => (S 2 h).dke i d) (B.dke 2) 128 rfl _ _ _ _ h i d)
  t h h' i j := (sq_at _ 512 _ (row h i) (row h' j) ⟨512 + (row h i).val, by omega⟩ rfl).trans (B.t 2 h h' i j _ rfl)
  dat h h' i j := (sq_at _ 512 _ (row h i) (row h' j) ⟨512 + (row h i).val, by omega⟩ rfl).trans (B.dat 2 h h' i j _ rfl)
  l0 := (one_at _ 2 0 2 0 rfl rfl _).trans (B.l 2 0)
  l1 := (one_at _ 2 1 2 128 rfl rfl _).trans (B.l 2 1)
  l2 := (one_at _ 2 2 2 256 rfl rfl _).trans (B.l 2 2)
  l3 := (one_at _ 2 3 2 384 rfl rfl _).trans (B.l 2 3)

theorem is3 : Is (ld3 x0 x1 x2 x3 x4 x5 x6 x7 x8 x9 x10 x11 x12) (S 3) where
  q h i d := four_at _ 3 (fun h i d => (S 3 h).q i d) (B.q 3) 192 rfl _ _ _ _ h i d
  k h i d := (congrFun (pay6_eq _ _ _ _) _).trans (four_at _ 3 (fun h i d => (S 3 h).k i d) (B.k 3) 192 rfl _ _ _ _ h i d)
  g h i d := (congrFun (pay7_eq _ _ _ _) _).trans (four_at _ 3 (fun h i d => (S 3 h).gc i) (B.g 3) 192 rfl _ _ _ _ h i d)
  b h i d := (congrFun (pay8_eq _ _ _ _) _).trans (four_at _ 3 (fun h i d => (S 3 h).b i) (B.b 3) 192 rfl _ _ _ _ h i d)
  uv h i d := (congrFun (pay9_eq _ _ _ _) _).trans (four_at _ 3 (fun h i d => (S 3 h).uv i d) (B.uv 3) 192 rfl _ _ _ _ h i d)
  wk h i d := (congrFun (pay10_eq _ _ _ _) _).trans (four_at _ 3 (fun h i d => (S 3 h).wk i d) (B.wk 3) 192 rfl _ _ _ _ h i d)
  du h i d := (congrFun (pay14_eq _ _ _ _) _).trans (four_at _ 3 (fun h i d => (S 3 h).du i d) (B.du 3) 192 rfl _ _ _ _ h i d)
  dw h i d := (congrFun (pay14_eq _ _ _ _) _).trans (four_at _ 3 (fun h i d => (S 3 h).dw i d) (B.dw 3) 192 rfl _ _ _ _ h i d)
  dqd h i d := (congrFun (pay15_eq _ _ _ _) _).trans (four_at _ 3 (fun h i d => (S 3 h).dqd i d) (B.dqd 3) 192 rfl _ _ _ _ h i d)
  dke h i d := (congrFun (pay16_eq _ _ _ _) _).trans (four_at _ 3 (fun h i d => (S 3 h).dke i d) (B.dke 3) 192 rfl _ _ _ _ h i d)
  t h h' i j := (sq_at _ 768 _ (row h i) (row h' j) ⟨768 + (row h i).val, by omega⟩ rfl).trans (B.t 3 h h' i j _ rfl)
  dat h h' i j := (sq_at _ 768 _ (row h i) (row h' j) ⟨768 + (row h i).val, by omega⟩ rfl).trans (B.dat 3 h h' i j _ rfl)
  l0 := (one_at _ 3 0 3 0 rfl rfl _).trans (B.l 3 0)
  l1 := (one_at _ 3 1 3 128 rfl rfl _).trans (B.l 3 1)
  l2 := (one_at _ 3 2 3 256 rfl rfl _).trans (B.l 3 2)
  l3 := (one_at _ 3 3 3 384 rfl rfl _).trans (B.l 3 3)

end

/-- Chunk `k` of a point's block. -/
def chunk (t : Fin cfg0.N) (k : Fin 4) : Fin 32 := ⟨4 * t.val + k.val, by have : t.val < 8 := t.isLt; omega⟩

theorem at2_at4 (t : Fin cfg0.N) (k : Fin 4) (i : Fin 64) : (at2 (chunk t k) i).val = 256 * t.val + (at4 k i).val := by
  show 64 * (4 * t.val + k.val) + i.val = 256 * t.val + (64 * k.val + i.val)
  omega

variable (hA : ∀ c, (args m c).Ok)
include hA

theorem blk_is (c : Dev nD) (t : Fin cfg0.N) : Blk (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (fun k h => (args m c).S (chunk t k) h) where
  q k h i d := (blk0 m c t _ _ _ (at2_at4 t k i)).trans (Chunk.q_real _ (hA c) _ h i d)
  k k h i d := (blk1 m c t _ _ _ (at2_at4 t k i)).trans (Chunk.k_real _ (hA c) _ h i d)
  g k h i d := (blk2 m c t _ _ _ (at2_at4 t k i)).trans (gcr_at m hA c _ h i d)
  b k h i d := (blk3 m c t _ _ _ (at2_at4 t k i)).trans (br_at m hA c _ h i d)
  uv k h i d := (blk5 m c t _ _ _ (at2_at4 t k i)).trans (uvr_at m hA c _ h i d)
  wk k h i d := (blk6 m c t _ _ _ (at2_at4 t k i)).trans (wkr_at m hA c _ h i d)
  du k h i d := (blk7 m c t _ _ _ (at2_at4 t k i)).trans (duw_at m hA c _ h i d)
  dw k h i d := (blk8 m c t _ _ _ (at2_at4 t k i)).trans (dww_at m hA c _ h i d)
  dqd k h i d := (blk10 m c t _ _ _ (at2_at4 t k i)).trans (dqdw_at m hA c _ h i d)
  dke k h i d := (blk11 m c t _ _ _ (at2_at4 t k i)).trans (dkew_at m hA c _ h i d)
  t k h h' i j r hr := by
    have ht : t.val < 8 := t.isLt
    have e : (row h i).val = 64 * h.val + i.val := rfl
    exact (blk4 m c t r _ ⟨1024 * t.val + r.val, by omega⟩ rfl).trans (tst_at m hA c (chunk t k) h h' i j _ (by show 1024 * t.val + r.val = 256 * (4 * t.val + k.val) + 64 * h.val + i.val; omega))
  dat k h h' i j r hr := by
    have ht : t.val < 8 := t.isLt
    have e : (row h i).val = 64 * h.val + i.val := rfl
    exact (blk9 m c t r _ ⟨1024 * t.val + r.val, by omega⟩ rfl).trans (dat_at m hA c (chunk t k) h h' i j _ (by show 1024 * t.val + r.val = 256 * (4 * t.val + k.val) + 64 * h.val + i.val; omega))
  l k h := (blk12 m c t k _ (chunk t k) rfl).trans (dgl_at m hA c _ h)

end Cert.ChunkKIdeal.Value

end
-- ==== Proof.Chunk.Value.lean ====
module

public import proofs.«01_k».proof.Proof.Chunk.Blocks

@[expose] public section

set_option maxRecDepth 16384

noncomputable section

open Idealize.ShloMosaic Idealize.ShloMosaic.TcCoe Idealize.SL.Sem
open Idealize.ShloMosaic.Pipeline (Dat)

namespace Cert.ChunkKIdeal.Value

open Cert.ChunkKIdeal Cert.ChunkKIdeal.Gen

open Reals
open Chunk (Mat In at2 col)

/-! A head's rows cut out of the stacked ones. -/

theorem sl0_at (v : FVec Ideal S256x128 .f32) (i : Fin 64) (d : Fin 128) : @Eq EReal (sl0 (F := Ideal) v (ix2 i d)) (v (ix2 (row 0 i) d)) := by
  unfold sl0
  pointwise []
  exact congrArg v (congrArg₂ ix2 (Fin.ext (by show i.val = 64 * 0 + i.val; omega)) rfl)
theorem sl1_at (v : FVec Ideal S256x128 .f32) (i : Fin 64) (d : Fin 128) : @Eq EReal (sl1 (F := Ideal) v (ix2 i d)) (v (ix2 (row 1 i) d)) := by
  unfold sl1
  pointwise []
  exact congrArg v (congrArg₂ ix2 (Fin.ext (by show 64 + i.val = 64 * 1 + i.val; omega)) rfl)
theorem sl2_at (v : FVec Ideal S256x128 .f32) (i : Fin 64) (d : Fin 128) : @Eq EReal (sl2 (F := Ideal) v (ix2 i d)) (v (ix2 (row 2 i) d)) := by
  unfold sl2
  pointwise []
  exact congrArg v (congrArg₂ ix2 (Fin.ext (by show 128 + i.val = 64 * 2 + i.val; omega)) rfl)
theorem sl3_at (v : FVec Ideal S256x128 .f32) (i : Fin 64) (d : Fin 128) : @Eq EReal (sl3 (F := Ideal) v (ix2 i d)) (v (ix2 (row 3 i) d)) := by
  unfold sl3
  pointwise []
  exact congrArg v (congrArg₂ ix2 (Fin.ext (by show 192 + i.val = 64 * 3 + i.val; omega)) rfl)

/-- A piece of the output's block is the one its rows and columns name. -/
theorem piece (v : FVec Ideal S64x128 .f32) (D : FVec Ideal S256x128 .f32) (X : Fin 4 → Fin 4 → Fin 64 → Fin 128 → ℝ) (K H : Fin 4)
    (hs : ∀ i d, @Eq EReal (v (ix2 i d)) (D (ix2 (row H i) d))) (g : ∀ h i d, @Eq EReal (D (ix2 (row h i) d)) (X K h i d : ℝ))
    (k h : Fin 4) (i : Fin 64) (d : Fin 128) (x0 : Fin 64) (x1 : Fin 128) (a b : ℕ) (h0 : a = 64 * K.val + x0.val) (h1 : b = 128 * H.val + x1.val)
    (e0 : a = 64 * k.val + i.val) (e1 : b = 128 * h.val + d.val) : @Eq EReal (v (ix2 x0 x1)) (X k h i d : ℝ) := by
  obtain rfl : k = K := Fin.ext (by omega)
  obtain rfl : h = H := Fin.ext (by omega)
  obtain rfl : x0 = i := Fin.ext (by omega)
  obtain rfl : x1 = d := Fin.ext (by omega)
  exact (hs _ _).trans (g _ _ _)

theorem block_wide (D0 D1 D2 D3 : FVec Ideal S256x128 .f32) (X : Fin 4 → Fin 4 → Fin 64 → Fin 128 → ℝ) (g0 : ∀ h i d, @Eq EReal (D0 (ix2 (row h i) d)) (X 0 h i d : ℝ))
    (g1 : ∀ h i d, @Eq EReal (D1 (ix2 (row h i) d)) (X 1 h i d : ℝ)) (g2 : ∀ h i d, @Eq EReal (D2 (ix2 (row h i) d)) (X 2 h i d : ℝ))
    (g3 : ∀ h i d, @Eq EReal (D3 (ix2 (row h i) d)) (X 3 h i d : ℝ)) (y : S256x512.Idx) (k h : Fin 4) (i : Fin 64) (d : Fin 128) (e0 : (y 0 : ℕ) = 64 * k.val + i.val) (e1 : (y 1 : ℕ) = 128 * h.val + d.val) :
    @Eq EReal ((View.canon (Val := Elt Ideal) (s := S256x512) (e := .f32) [⟨r0_33, sl3 (F := Ideal) D3⟩, ⟨r0_32, sl2 (F := Ideal) D3⟩, ⟨r0_31, sl1 (F := Ideal) D3⟩, ⟨r0_30, sl0 (F := Ideal) D3⟩, ⟨r0_23, sl3 (F := Ideal) D2⟩, ⟨r0_22, sl2 (F := Ideal) D2⟩, ⟨r0_21, sl1 (F := Ideal) D2⟩, ⟨r0_20, sl0 (F := Ideal) D2⟩, ⟨r0_13, sl3 (F := Ideal) D1⟩, ⟨r0_12, sl2 (F := Ideal) D1⟩, ⟨r0_11, sl1 (F := Ideal) D1⟩, ⟨r0_10, sl0 (F := Ideal) D1⟩, ⟨r0_3, sl3 (F := Ideal) D0⟩, ⟨r0_2, sl2 (F := Ideal) D0⟩, ⟨r0_1, sl1 (F := Ideal) D0⟩, ⟨r0_0, sl0 (F := Ideal) D0⟩] : FVec Ideal S256x512 .f32) y) (X k h i d : ℝ) := by
  canon_tiles x h using (cover0_13 (F := Ideal) _ _ _ _ _ _ _ _ _ _ _ _ _ _ _ _ y)
  · idx_vars x; exact piece _ D3 X 3 3 (sl3_at D3) g3 _ _ _ _ _ _ _ _ (h0.trans (by first | rfl | exact (Nat.zero_add _).symm)) (h1.trans (by first | rfl | exact (Nat.zero_add _).symm)) e0 e1
  · idx_vars x; exact piece _ D3 X 3 2 (sl2_at D3) g3 _ _ _ _ _ _ _ _ (h0.trans (by first | rfl | exact (Nat.zero_add _).symm)) (h1.trans (by first | rfl | exact (Nat.zero_add _).symm)) e0 e1
  · idx_vars x; exact piece _ D3 X 3 1 (sl1_at D3) g3 _ _ _ _ _ _ _ _ (h0.trans (by first | rfl | exact (Nat.zero_add _).symm)) (h1.trans (by first | rfl | exact (Nat.zero_add _).symm)) e0 e1
  · idx_vars x; exact piece _ D3 X 3 0 (sl0_at D3) g3 _ _ _ _ _ _ _ _ (h0.trans (by first | rfl | exact (Nat.zero_add _).symm)) (h1.trans (by first | rfl | exact (Nat.zero_add _).symm)) e0 e1
  · idx_vars x; exact piece _ D2 X 2 3 (sl3_at D2) g2 _ _ _ _ _ _ _ _ (h0.trans (by first | rfl | exact (Nat.zero_add _).symm)) (h1.trans (by first | rfl | exact (Nat.zero_add _).symm)) e0 e1
  · idx_vars x; exact piece _ D2 X 2 2 (sl2_at D2) g2 _ _ _ _ _ _ _ _ (h0.trans (by first | rfl | exact (Nat.zero_add _).symm)) (h1.trans (by first | rfl | exact (Nat.zero_add _).symm)) e0 e1
  · idx_vars x; exact piece _ D2 X 2 1 (sl1_at D2) g2 _ _ _ _ _ _ _ _ (h0.trans (by first | rfl | exact (Nat.zero_add _).symm)) (h1.trans (by first | rfl | exact (Nat.zero_add _).symm)) e0 e1
  · idx_vars x; exact piece _ D2 X 2 0 (sl0_at D2) g2 _ _ _ _ _ _ _ _ (h0.trans (by first | rfl | exact (Nat.zero_add _).symm)) (h1.trans (by first | rfl | exact (Nat.zero_add _).symm)) e0 e1
  · idx_vars x; exact piece _ D1 X 1 3 (sl3_at D1) g1 _ _ _ _ _ _ _ _ (h0.trans (by first | rfl | exact (Nat.zero_add _).symm)) (h1.trans (by first | rfl | exact (Nat.zero_add _).symm)) e0 e1
  · idx_vars x; exact piece _ D1 X 1 2 (sl2_at D1) g1 _ _ _ _ _ _ _ _ (h0.trans (by first | rfl | exact (Nat.zero_add _).symm)) (h1.trans (by first | rfl | exact (Nat.zero_add _).symm)) e0 e1
  · idx_vars x; exact piece _ D1 X 1 1 (sl1_at D1) g1 _ _ _ _ _ _ _ _ (h0.trans (by first | rfl | exact (Nat.zero_add _).symm)) (h1.trans (by first | rfl | exact (Nat.zero_add _).symm)) e0 e1
  · idx_vars x; exact piece _ D1 X 1 0 (sl0_at D1) g1 _ _ _ _ _ _ _ _ (h0.trans (by first | rfl | exact (Nat.zero_add _).symm)) (h1.trans (by first | rfl | exact (Nat.zero_add _).symm)) e0 e1
  · idx_vars x; exact piece _ D0 X 0 3 (sl3_at D0) g0 _ _ _ _ _ _ _ _ (h0.trans (by first | rfl | exact (Nat.zero_add _).symm)) (h1.trans (by first | rfl | exact (Nat.zero_add _).symm)) e0 e1
  · idx_vars x; exact piece _ D0 X 0 2 (sl2_at D0) g0 _ _ _ _ _ _ _ _ (h0.trans (by first | rfl | exact (Nat.zero_add _).symm)) (h1.trans (by first | rfl | exact (Nat.zero_add _).symm)) e0 e1
  · idx_vars x; exact piece _ D0 X 0 1 (sl1_at D0) g0 _ _ _ _ _ _ _ _ (h0.trans (by first | rfl | exact (Nat.zero_add _).symm)) (h1.trans (by first | rfl | exact (Nat.zero_add _).symm)) e0 e1
  · idx_vars x; exact piece _ D0 X 0 0 (sl0_at D0) g0 _ _ _ _ _ _ _ _ (h0.trans (by first | rfl | exact (Nat.zero_add _).symm)) (h1.trans (by first | rfl | exact (Nat.zero_add _).symm)) e0 e1

theorem block_thin (D0 D1 D2 D3 : FVec Ideal S64x128 .f32) (X : Fin 4 → Fin 64 → Fin 128 → ℝ) (g0 : ∀ i l, @Eq EReal (D0 (ix2 i l)) (X 0 i l : ℝ))
    (g1 : ∀ i l, @Eq EReal (D1 (ix2 i l)) (X 1 i l : ℝ)) (g2 : ∀ i l, @Eq EReal (D2 (ix2 i l)) (X 2 i l : ℝ)) (g3 : ∀ i l, @Eq EReal (D3 (ix2 i l)) (X 3 i l : ℝ))
    (y : S256x128.Idx) (k : Fin 4) (i : Fin 64) (l : Fin 128) (e0 : (y 0 : ℕ) = 64 * k.val + i.val) (e1 : (y 1 : ℕ) = l.val) :
    @Eq EReal ((View.canon (Val := Elt Ideal) (s := S256x128) (e := .f32) [⟨r0_39, D3⟩, ⟨r0_29, D2⟩, ⟨r0_19, D1⟩, ⟨r0_9, D0⟩] : FVec Ideal S256x128 .f32) y) (X k i l : ℝ) := by
  have hd : ∀ (v : FVec Ideal S64x128 .f32) (K : Fin 4) (g : ∀ i l, @Eq EReal (v (ix2 i l)) (X K i l : ℝ)) (x0 : Fin 64) (x1 : Fin 128) (a b : ℕ) (h0 : a = 64 * K.val + x0.val) (h1 : b = x1.val)
      (e0 : a = 64 * k.val + i.val) (e1 : b = l.val), @Eq EReal (v (ix2 x0 x1)) (X k i l : ℝ) := by
    intro v K g x0 x1 a b h0 h1 e0 e1
    obtain rfl : k = K := Fin.ext (by omega)
    obtain rfl : x0 = i := Fin.ext (by omega)
    obtain rfl : x1 = l := Fin.ext (by omega)
    exact g _ _
  canon_tiles x h using (cover0_16 (F := Ideal) _ _ _ _ y)
  · idx_vars x; exact hd _ 3 g3 _ _ _ _ (h0.trans (by first | rfl | exact (Nat.zero_add _).symm)) h1 e0 e1
  · idx_vars x; exact hd _ 2 g2 _ _ _ _ (h0.trans (by first | rfl | exact (Nat.zero_add _).symm)) h1 e0 e1
  · idx_vars x; exact hd _ 1 g1 _ _ _ _ (h0.trans (by first | rfl | exact (Nat.zero_add _).symm)) h1 e0 e1
  · idx_vars x; exact hd _ 0 g0 _ _ _ _ (h0.trans (by first | rfl | exact (Nat.zero_add _).symm)) h1 e0 e1

/-! Where a row's and a column's numbers are. -/

def of_row (r : Fin 2048) : Fin 32 := ⟨r.val / 64, by omega⟩
def in_row (r : Fin 2048) : Fin 64 := ⟨r.val % 64, by omega⟩
def of_col (r : Fin 512) : Fin 4 := ⟨r.val / 128, by omega⟩
def in_col (r : Fin 512) : Fin 128 := ⟨r.val % 128, by omega⟩

theorem wide_at (t : Fin cfg0.N) (D0 D1 D2 D3 : FVec Ideal S256x128 .f32) (X : Fin 4 → Fin 4 → Fin 64 → Fin 128 → ℝ) (Z : Fin 32 → Fin 4 → Fin 64 → Fin 128 → ℝ)
    (hX : ∀ k h i d, X k h i d = Z (chunk t k) h i d) (g0 : ∀ h i d, @Eq EReal (D0 (ix2 (row h i) d)) (X 0 h i d : ℝ))
    (g1 : ∀ h i d, @Eq EReal (D1 (ix2 (row h i) d)) (X 1 h i d : ℝ)) (g2 : ∀ h i d, @Eq EReal (D2 (ix2 (row h i) d)) (X 2 h i d : ℝ))
    (g3 : ∀ h i d, @Eq EReal (D3 (ix2 (row h i) d)) (X 3 h i d : ℝ)) (y : S256x512.Idx) (r : Fin 2048) (s : Fin 512) (e0 : r.val = 256 * t.val + (y 0 : ℕ)) (e1 : s.val = (y 1 : ℕ)) :
    @Eq EReal ((View.canon (Val := Elt Ideal) (s := S256x512) (e := .f32) [⟨r0_33, sl3 (F := Ideal) D3⟩, ⟨r0_32, sl2 (F := Ideal) D3⟩, ⟨r0_31, sl1 (F := Ideal) D3⟩, ⟨r0_30, sl0 (F := Ideal) D3⟩, ⟨r0_23, sl3 (F := Ideal) D2⟩, ⟨r0_22, sl2 (F := Ideal) D2⟩, ⟨r0_21, sl1 (F := Ideal) D2⟩, ⟨r0_20, sl0 (F := Ideal) D2⟩, ⟨r0_13, sl3 (F := Ideal) D1⟩, ⟨r0_12, sl2 (F := Ideal) D1⟩, ⟨r0_11, sl1 (F := Ideal) D1⟩, ⟨r0_10, sl0 (F := Ideal) D1⟩, ⟨r0_3, sl3 (F := Ideal) D0⟩, ⟨r0_2, sl2 (F := Ideal) D0⟩, ⟨r0_1, sl1 (F := Ideal) D0⟩, ⟨r0_0, sl0 (F := Ideal) D0⟩] : FVec Ideal S256x512 .f32) y) (Z (of_row r) (of_col s) (in_row r) (in_col s) : ℝ) := by
  have ht : t.val < 8 := t.isLt
  have h0 : (y 0 : ℕ) < 256 := (y 0).isLt
  have h1 : (y 1 : ℕ) < 512 := (y 1).isLt
  refine (block_wide D0 D1 D2 D3 X g0 g1 g2 g3 y ⟨(y 0 : ℕ) / 64, by omega⟩ (of_col s) (in_row r) (in_col s) ?_ ?_).trans ?_
  · show (y 0 : ℕ) = 64 * ((y 0 : ℕ) / 64) + r.val % 64; omega
  · show (y 1 : ℕ) = 128 * (s.val / 128) + s.val % 128; omega
  · rw [hX, show chunk t ⟨(y 0 : ℕ) / 64, by omega⟩ = of_row r from Fin.ext (by show 4 * t.val + (y 0 : ℕ) / 64 = r.val / 64; omega)]

theorem thin_at (t : Fin cfg0.N) (D0 D1 D2 D3 : FVec Ideal S64x128 .f32) (X : Fin 4 → Fin 64 → Fin 128 → ℝ) (Z : Fin 32 → Fin 64 → Fin 128 → ℝ)
    (hX : ∀ k i l, X k i l = Z (chunk t k) i l) (g0 : ∀ i l, @Eq EReal (D0 (ix2 i l)) (X 0 i l : ℝ))
    (g1 : ∀ i l, @Eq EReal (D1 (ix2 i l)) (X 1 i l : ℝ)) (g2 : ∀ i l, @Eq EReal (D2 (ix2 i l)) (X 2 i l : ℝ)) (g3 : ∀ i l, @Eq EReal (D3 (ix2 i l)) (X 3 i l : ℝ))
    (y : S256x128.Idx) (r : Fin 2048) (s : Fin 128) (e0 : r.val = 256 * t.val + (y 0 : ℕ)) (e1 : s.val = (y 1 : ℕ)) :
    @Eq EReal ((View.canon (Val := Elt Ideal) (s := S256x128) (e := .f32) [⟨r0_39, D3⟩, ⟨r0_29, D2⟩, ⟨r0_19, D1⟩, ⟨r0_9, D0⟩] : FVec Ideal S256x128 .f32) y) (Z (of_row r) (in_row r) s : ℝ) := by
  have ht : t.val < 8 := t.isLt
  have h0 : (y 0 : ℕ) < 256 := (y 0).isLt
  refine (block_thin D0 D1 D2 D3 X g0 g1 g2 g3 y ⟨(y 0 : ℕ) / 64, by omega⟩ (in_row r) s ?_ e1.symm).trans ?_
  · show (y 0 : ℕ) = 64 * ((y 0 : ℕ) / 64) + r.val % 64; omega
  · rw [hX, show chunk t ⟨(y 0 : ℕ) / 64, by omega⟩ = of_row r from Fin.ext (by show 4 * t.val + (y 0 : ℕ) / 64 = r.val / 64; omega)]

/-! The five results. -/

variable (m : (ℓ : Loc nD τ sig) → Buf (Elt Ideal) ℓ) (hA : ∀ c, (args m c).Ok)
include hA

theorem final13 (c : Dev nD) : (dats m 0 c).arrAt 13 cfg0.N = fun y => ((((args m c).S (of_row (y 0)) (of_col (y 1))).dq (in_row (y 0)) (in_col (y 1)) : ℝ) : EReal) := by
  refine (dats m 0 c).arrAt_eq_of_covers 13 _ (by decide +kernel) fun t _ y => ?_
  blk_simp
  rw [after0_13]
  have e0 : ((((View.whole main_v100_0).slice (win0_13.rect t)).emb y 0 : Fin _) : ℕ) = 256 * t.val + y 0 := by blk_simp [idx t]; omega
  have e1 : ((((View.whole main_v100_0).slice (win0_13.rect t)).emb y 1 : Fin _) : ℕ) = y 1 := by blk_simp [idx t]
  rw [out13_eq]
  have hB := blk_is m hA c t
  exact wide_at t _ _ _ _ (fun k h i d => ((args m c).S (chunk t k) h).dq i d) (fun n h i d => ((args m c).S n h).dq i d) (fun k h i d => rfl)
    (dq_at (is0 hB)) (dq_at (is1 hB)) (dq_at (is2 hB)) (dq_at (is3 hB)) y _ _ e0 e1

theorem final14 (c : Dev nD) : (dats m 0 c).arrAt 14 cfg0.N = fun y => ((((args m c).S (of_row (y 0)) (of_col (y 1))).dk (in_row (y 0)) (in_col (y 1)) : ℝ) : EReal) := by
  refine (dats m 0 c).arrAt_eq_of_covers 14 _ (by decide +kernel) fun t _ y => ?_
  blk_simp
  rw [after0_14]
  have e0 : ((((View.whole main_v100_1).slice (win0_14.rect t)).emb y 0 : Fin _) : ℕ) = 256 * t.val + y 0 := by blk_simp [idx t]; omega
  have e1 : ((((View.whole main_v100_1).slice (win0_14.rect t)).emb y 1 : Fin _) : ℕ) = y 1 := by blk_simp [idx t]
  rw [out14_eq]
  have hB := blk_is m hA c t
  exact wide_at t _ _ _ _ (fun k h i d => ((args m c).S (chunk t k) h).dk i d) (fun n h i d => ((args m c).S n h).dk i d) (fun k h i d => rfl)
    (dk_at (is0 hB)) (dk_at (is1 hB)) (dk_at (is2 hB)) (dk_at (is3 hB)) y _ _ e0 e1

theorem final15 (c : Dev nD) : (dats m 0 c).arrAt 15 cfg0.N = fun y => ((((args m c).S (of_row (y 0)) (of_col (y 1))).dv (in_row (y 0)) (in_col (y 1)) : ℝ) : EReal) := by
  refine (dats m 0 c).arrAt_eq_of_covers 15 _ (by decide +kernel) fun t _ y => ?_
  blk_simp
  rw [after0_15]
  have e0 : ((((View.whole main_v100_2).slice (win0_15.rect t)).emb y 0 : Fin _) : ℕ) = 256 * t.val + y 0 := by blk_simp [idx t]; omega
  have e1 : ((((View.whole main_v100_2).slice (win0_15.rect t)).emb y 1 : Fin _) : ℕ) = y 1 := by blk_simp [idx t]
  rw [out15_eq]
  have hB := blk_is m hA c t
  exact wide_at t _ _ _ _ (fun k h i d => ((args m c).S (chunk t k) h).dv i d) (fun n h i d => ((args m c).S n h).dv i d) (fun k h i d => rfl)
    (dv_at (is0 hB)) (dv_at (is1 hB)) (dv_at (is2 hB)) (dv_at (is3 hB)) y _ _ e0 e1

theorem final16 (c : Dev nD) : (dats m 0 c).arrAt 16 cfg0.N = fun y => ((lanes (fun h => ((args m c).S (of_row (y 0)) h).dg (in_row (y 0))) (y 1) : ℝ) : EReal) := by
  refine (dats m 0 c).arrAt_eq_of_covers 16 _ (by decide +kernel) fun t _ y => ?_
  blk_simp
  rw [after0_16]
  have e0 : ((((View.whole main_v100_3).slice (win0_16.rect t)).emb y 0 : Fin _) : ℕ) = 256 * t.val + y 0 := by blk_simp [idx t]; omega
  have e1 : ((((View.whole main_v100_3).slice (win0_16.rect t)).emb y 1 : Fin _) : ℕ) = y 1 := by blk_simp [idx t]
  rw [out16_eq]
  have hB := blk_is m hA c t
  exact thin_at t _ _ _ _ (fun k i l => lanes (fun h => ((args m c).S (chunk t k) h).dg i) l) (fun n i l => lanes (fun h => ((args m c).S n h).dg i) l) (fun k i l => rfl)
    (dg_at (is0 hB)) (dg_at (is1 hB)) (dg_at (is2 hB)) (dg_at (is3 hB)) y _ _ e0 e1

theorem final17 (c : Dev nD) : (dats m 0 c).arrAt 17 cfg0.N = fun y => ((lanes (fun h => ((args m c).S (of_row (y 0)) h).dbeta (in_row (y 0))) (y 1) : ℝ) : EReal) := by
  refine (dats m 0 c).arrAt_eq_of_covers 17 _ (by decide +kernel) fun t _ y => ?_
  blk_simp
  rw [after0_17]
  have e0 : ((((View.whole main_v100_4).slice (win0_17.rect t)).emb y 0 : Fin _) : ℕ) = 256 * t.val + y 0 := by blk_simp [idx t]; omega
  have e1 : ((((View.whole main_v100_4).slice (win0_17.rect t)).emb y 1 : Fin _) : ℕ) = y 1 := by blk_simp [idx t]
  rw [out17_eq]
  have hB := blk_is m hA c t
  exact thin_at t _ _ _ _ (fun k i l => lanes (fun h => ((args m c).S (chunk t k) h).dbeta i) l) (fun n i l => lanes (fun h => ((args m c).S n h).dbeta i) l) (fun k i l => rfl)
    (db_at (is0 hB)) (db_at (is1 hB)) (db_at (is2 hB)) (db_at (is3 hB)) y _ _ e0 e1

end Cert.ChunkKIdeal.Value

end
-- ==== Proof.Chunk.Ref.lean ====
module

public import proofs.«01_k».proof.Proof.Gen.ChunkRIdeal.Read
public import proofs.«01_k».proof.Proof.Chunk.Spec
public import Idealize.ShloMosaic.Lib.Pipeline.Value
public import Idealize.ShloMosaic.Lib.Pipeline.ValueKit
public import Idealize.ShloMosaic.Lib.Pointwise
public import Idealize.ShloMosaic.Lib.KernelVsHost
public import Idealize.ShloMosaic.Lib.Claim

@[expose] public section

set_option maxRecDepth 16384

noncomputable section

open Idealize.ShloMosaic Idealize.ShloMosaic.TcCoe

namespace Chunk

open Cert.ChunkRIdeal Cert.ChunkRIdeal.Gen Cert.ChunkRIdeal.Read
open Reals

/-! The reference's arrays, one after the other, as a chunk's and a head's reals. -/

namespace In

variable (S : In)

/-! The reference's own sums, and the same numbers as the kernel groups them. -/

def dks (i j : Fin 64) : ℝ := (if j.val < i.val then S.dec i j else 0) * S.kk i j
def dlr (i j : Fin 64) : ℝ := -∑ D, S.dr i D * S.sol j D

theorem sum_cat (f : Fin 256 → ℝ) : ∑ D, f D = (∑ d, f (lo d)) + ∑ d, f (hi d) := by
  refine (Fin.sum_univ_add (a := 128) (b := 128) f).trans ?_
  rfl

theorem dl_eq (i j : Fin 64) : S.dl i j = if j.val < i.val then S.dlr i j else 0 := by
  unfold dl dlr
  rw [sum_cat]
  simp only [sol, cat_lo, cat_hi]

theorem ref_ml (i j : Fin 64) : (if j.val < i.val then S.dec i j else 0) * (S.dlr i j * S.b j) = S.ml i j := by
  unfold ml
  rw [dl_eq]
  split_ifs <;> ring

theorem wb_eq (i j : Fin 64) : S.wb i j = S.dec i j * S.qk i j * S.dat i j + S.dks i j * S.dlr i j := by
  unfold wb dks da
  rw [dl_eq]
  unfold dec
  split_ifs <;> first | ring | omega

theorem ref_dbeta (i : Fin 64) : (S.e i * ∑ d, S.k i d * S.dke i d) + (∑ j, S.dec j i * S.qk j i * S.dat j i) + (∑ j, S.dks j i * S.dlr j i) = S.dbeta i := by
  unfold dbeta
  simp only [wb_eq, Finset.sum_add_distrib]
  have e : S.e i * ∑ d, S.k i d * S.dke i d = ∑ d, S.dke i d * S.k i d * S.e i := by
    rw [Finset.mul_sum]
    exact Finset.sum_congr rfl fun d _ => by ring
  rw [e]
  ring

theorem ref_dk (i : Fin 64) (d : Fin 128) : S.dke i d * (S.e i * S.b i) + (∑ j, S.ma j i * S.q j d) + S.gam i * S.dgk i d + (∑ j, S.ml j i * S.k j d) + (∑ j, S.ml i j * S.k j d) = S.dk i d := by
  unfold dk
  simp only [add_mul, Finset.sum_add_distrib]
  ring

theorem ref_ew (i j : Fin 64) : (if j.val ≤ i.val then (S.dat i j * S.b j * S.qk i j + (if j.val < i.val then S.dlr i j * S.b j * S.kk i j else 0)) * (if j.val ≤ i.val then Real.exp (S.gc i - S.gc j) else 1) else 0) = S.ew i j := by
  unfold ew
  rw [wb_eq]
  unfold dks dec
  split_ifs <;> first | ring | omega

theorem ref_dgc (i : Fin 64) : (if i.val = 63 then S.dgl + -S.ske i + ∑ j, S.ske j else -S.ske i) + ((∑ d, S.dqd i d * S.q i d) + ∑ d, S.dgk i d * S.k i d) * S.gam i + (∑ j, -S.ew j i) + (∑ j, S.ew i j) = S.dgc' i := by
  unfold dgc' dgc
  rw [add_mul, Finset.sum_mul, Finset.sum_mul, Finset.sum_neg_distrib]
  split_ifs <;> ring

end In

theorem ref_at2 (n : Fin 32) (i : Fin 64) (h : n.val * 64 + i.val < 2048) : (⟨n.val * 64 + i.val, h⟩ : Fin 2048) = at2 n i :=
  Fin.ext (by show n.val * 64 + i.val = 64 * n.val + i.val; omega)

theorem ref_col (h : Fin 4) (d : Fin 128) (e : h.val * 128 + d.val < 512) : (⟨h.val * 128 + d.val, e⟩ : Fin 512) = col h d :=
  Fin.ext (by show h.val * 128 + d.val = 128 * h.val + d.val; omega)

theorem pick_true {α : Type} (a b : α) : Scalar.select (1#1 : BitVec 1) a b = a := rfl
theorem pick_false {α : Type} (a b : α) : Scalar.select (0#1 : BitVec 1) a b = b := rfl

theorem word_ge : ∀ i j : Fin 64, IntOp.cmpi .sge (BitVec.ofNat 32 i.val) (BitVec.ofNat 32 j.val) = if j.val ≤ i.val then 1#1 else 0#1 := by
  decide +kernel
theorem word_gt : ∀ i j : Fin 64, IntOp.cmpi .sgt (BitVec.ofNat 32 i.val) (BitVec.ofNat 32 j.val) = if j.val < i.val then 1#1 else 0#1 := by
  decide +kernel
theorem word_eq : ∀ i j : Fin 64, IntOp.cmpi .eq (BitVec.ofNat 32 i.val) (BitVec.ofNat 32 j.val) = if i = j then 1#1 else 0#1 := by
  decide +kernel

/-- The bits in which two rows differ tell the level at which their blocks part. -/
theorem word_level (s : Fin 6) : ∀ i j : Fin 64, Scalar.andi (IntOp.cmpi .sge (Scalar.xori (BitVec.ofNat 32 i.val) (BitVec.ofNat 32 j.val)) (BitVec.ofNat 32 (2 ^ s.val)))
    (IntOp.cmpi .slt (Scalar.xori (BitVec.ofNat 32 i.val) (BitVec.ofNat 32 j.val)) (BitVec.ofNat 32 (2 * 2 ^ s.val)))
      = if i.val / (2 * 2 ^ s.val) = j.val / (2 * 2 ^ s.val) ∧ i.val / 2 ^ s.val ≠ j.val / 2 ^ s.val then 1#1 else 0#1 := by
  revert s
  decide +kernel

variable (A : Arr)

theorem r10 : @Eq (FVec Ideal Cert.ChunkKIdeal.S32x4x64 .f32) (val_main_v10 (F := Ideal) A.x3) A.gc := rfl

theorem r17 (n : Fin 32) (h : Fin 4) (i j : Fin 64) : @Eq (BitVec 1) (val_main_v17 (F := Ideal) (ix4 n h i j)) (if j.val ≤ i.val then 1#1 else 0#1) := by
  rw [← word_ge]
  unfold val_main_v17
  pointwise [val_main_v16, val_main_v14, val_main_v15, val_main_v12, val_main_v13, val_main_v11]

theorem r23 (n : Fin 32) (h : Fin 4) (i j : Fin 64) : @Eq (BitVec 1) (val_main_v23 (F := Ideal) (ix4 n h i j)) (if j.val < i.val then 1#1 else 0#1) := by
  rw [← word_gt]
  unfold val_main_v23
  pointwise [val_main_v22, val_main_v20, val_main_v21, val_main_v18, val_main_v19, val_main_v11]

theorem r66 (n : Fin 32) (h : Fin 4) (i j : Fin 64) : @Eq (BitVec 1) (val_main_v66 (F := Ideal) (ix4 n h i j)) (if i.val / (2 * 1) = j.val / (2 * 1) ∧ i.val / 1 ≠ j.val / 1 then 1#1 else 0#1) := by
  refine Eq.trans ?_ (word_level 0 i j)
  unfold val_main_v66
  pointwise [val_main_v65, val_main_v62, val_main_v64, val_main_v61, val_main_v63, val_main_c_4, val_main_c_5, val_main_v52, val_main_v50, val_main_v51, val_main_v48, val_main_v49, val_main_v47]
  rfl

theorem r76 (n : Fin 32) (h : Fin 4) (i j : Fin 64) : @Eq (BitVec 1) (val_main_v76 (F := Ideal) (ix4 n h i j)) (if i.val / (2 * 2) = j.val / (2 * 2) ∧ i.val / 2 ≠ j.val / 2 then 1#1 else 0#1) := by
  refine Eq.trans ?_ (word_level 1 i j)
  unfold val_main_v76
  pointwise [val_main_v75, val_main_v72, val_main_v74, val_main_v71, val_main_v73, val_main_c_6, val_main_c_7, val_main_v52, val_main_v50, val_main_v51, val_main_v48, val_main_v49, val_main_v47]
  rfl

theorem r86 (n : Fin 32) (h : Fin 4) (i j : Fin 64) : @Eq (BitVec 1) (val_main_v86 (F := Ideal) (ix4 n h i j)) (if i.val / (2 * 4) = j.val / (2 * 4) ∧ i.val / 4 ≠ j.val / 4 then 1#1 else 0#1) := by
  refine Eq.trans ?_ (word_level 2 i j)
  unfold val_main_v86
  pointwise [val_main_v85, val_main_v82, val_main_v84, val_main_v81, val_main_v83, val_main_c_8, val_main_c_9, val_main_v52, val_main_v50, val_main_v51, val_main_v48, val_main_v49, val_main_v47]
  rfl

theorem r96 (n : Fin 32) (h : Fin 4) (i j : Fin 64) : @Eq (BitVec 1) (val_main_v96 (F := Ideal) (ix4 n h i j)) (if i.val / (2 * 8) = j.val / (2 * 8) ∧ i.val / 8 ≠ j.val / 8 then 1#1 else 0#1) := by
  refine Eq.trans ?_ (word_level 3 i j)
  unfold val_main_v96
  pointwise [val_main_v95, val_main_v92, val_main_v94, val_main_v91, val_main_v93, val_main_c_10, val_main_c_11, val_main_v52, val_main_v50, val_main_v51, val_main_v48, val_main_v49, val_main_v47]
  rfl

theorem r106 (n : Fin 32) (h : Fin 4) (i j : Fin 64) : @Eq (BitVec 1) (val_main_v106 (F := Ideal) (ix4 n h i j)) (if i.val / (2 * 16) = j.val / (2 * 16) ∧ i.val / 16 ≠ j.val / 16 then 1#1 else 0#1) := by
  refine Eq.trans ?_ (word_level 4 i j)
  unfold val_main_v106
  pointwise [val_main_v105, val_main_v102, val_main_v104, val_main_v101, val_main_v103, val_main_c_12, val_main_c_13, val_main_v52, val_main_v50, val_main_v51, val_main_v48, val_main_v49, val_main_v47]
  rfl

theorem r116 (n : Fin 32) (h : Fin 4) (i j : Fin 64) : @Eq (BitVec 1) (val_main_v116 (F := Ideal) (ix4 n h i j)) (if i.val / (2 * 32) = j.val / (2 * 32) ∧ i.val / 32 ≠ j.val / 32 then 1#1 else 0#1) := by
  refine Eq.trans ?_ (word_level 5 i j)
  unfold val_main_v116
  pointwise [val_main_v115, val_main_v112, val_main_v114, val_main_v111, val_main_v113, val_main_c_14, val_main_c_15, val_main_v52, val_main_v50, val_main_v51, val_main_v48, val_main_v49, val_main_v47]
  rfl

variable (hA : A.Ok)
include hA

theorem r1 (n : Fin 32) (h : Fin 4) (i : Fin 64) (d : Fin 128) : @Eq EReal ((val_main_v1 (F := Ideal) A.x0) (ix4 n h i d)) (((A.S n h).q i d : ℝ)) := by
  unfold val_main_v1 val_main_v0
  pointwise []
  rw [ref_at2, ref_col]
  exact q_real A hA n h i d

theorem r3 (n : Fin 32) (h : Fin 4) (i : Fin 64) (d : Fin 128) : @Eq EReal ((val_main_v3 (F := Ideal) A.x1) (ix4 n h i d)) (((A.S n h).k i d : ℝ)) := by
  unfold val_main_v3 val_main_v2
  pointwise []
  rw [ref_at2, ref_col]
  exact k_real A hA n h i d

theorem r5 (n : Fin 32) (h : Fin 4) (i : Fin 64) (d : Fin 128) : @Eq EReal ((val_main_v5 (F := Ideal) A.x2) (ix4 n h i d)) (((A.S n h).v i d : ℝ)) := by
  unfold val_main_v5 val_main_v4
  pointwise []
  rw [ref_at2, ref_col]
  exact v_real A hA n h i d

theorem r7 (n : Fin 32) (h : Fin 4) (i : Fin 64) : @Eq EReal ((val_main_v7 (F := Ideal) A.x4) (ix3 n h i)) (((A.S n h).b i : ℝ)) := by
  unfold val_main_v7 val_main_v6
  pointwise []
  rw [ref_at2]
  exact b_real A hA n h i

theorem r10' (n : Fin 32) (h : Fin 4) (i : Fin 64) : @Eq EReal ((val_main_v10 (F := Ideal) A.x3) (ix3 n h i)) ((A.S n h).gc i : ℝ) := by
  rw [r10 A]
  exact gc_real A hA n h i

theorem r28 (n : Fin 32) (h : Fin 4) (i : Fin 64) (j : Fin 64) : @Eq EReal ((val_main_v28 (F := Ideal) A.x3) (ix4 n h i j)) (((A.S n h).gc i - (A.S n h).gc j : ℝ)) := by
  have h0 := r10' A hA
  unfold val_main_v28 val_main_v26 val_main_v27 val_main_v24 val_main_v25
  generalize (val_main_v10 (F := Ideal) A.x3) = y0 at h0 ⊢
  pointwise []
  rw [h0, h0, ← EReal.coe_sub]

theorem r32 (n : Fin 32) (h : Fin 4) (i : Fin 64) (j : Fin 64) : @Eq EReal ((val_main_v32 (F := Ideal) A.x3) (ix4 n h i j)) ((if j.val ≤ i.val then Real.exp ((A.S n h).gc i - (A.S n h).gc j) else 1 : ℝ)) := by
  have h0 := r28 A hA
  have h1 := r17
  unfold val_main_v32 val_main_v30 val_main_v29 val_main_cst
  generalize (val_main_v28 (F := Ideal) A.x3) = y0 at h0 ⊢
  generalize (val_main_v17 (F := Ideal)) = y1 at h1 ⊢
  pointwise []
  rw [h1, h0]
  by_cases hh : j.val ≤ i.val
  · simp only [if_pos hh, pick_true, Ideal.exp_coe]
  · simp only [if_neg hh, pick_false]
    exact (Ideal.exp_coe 0).trans (congrArg _ Real.exp_zero)

theorem r33 (n : Fin 32) (h : Fin 4) (i : Fin 64) (j : Fin 64) : @Eq EReal ((val_main_v33 (F := Ideal) A.x3) (ix4 n h i j)) (((A.S n h).dec i j : ℝ)) := by
  have h0 := r32 A hA
  have h1 := r17
  unfold val_main_v33 val_main_v29 val_main_cst
  generalize (val_main_v32 (F := Ideal) A.x3) = y0 at h0 ⊢
  generalize (val_main_v17 (F := Ideal)) = y1 at h1 ⊢
  pointwise []
  rw [h1, h0]
  unfold In.dec
  by_cases hh : j.val ≤ i.val
  · simp only [if_pos hh, pick_true]
  · simp only [if_neg hh, pick_false]
    rfl

theorem r35 (n : Fin 32) (h : Fin 4) (i : Fin 64) (j : Fin 64) : @Eq EReal ((val_main_v35 (F := Ideal) A.x3) (ix4 n h i j)) ((if j.val < i.val then (A.S n h).dec i j else 0 : ℝ)) := by
  have h0 := r33 A hA
  have h1 := r23
  unfold val_main_v35 val_main_v29 val_main_cst
  generalize (val_main_v33 (F := Ideal) A.x3) = y0 at h0 ⊢
  generalize (val_main_v23 (F := Ideal)) = y1 at h1 ⊢
  pointwise []
  rw [h1, h0]
  by_cases hh : j.val < i.val
  · simp only [if_pos hh, pick_true]
  · simp only [if_neg hh, pick_false]
    rfl

theorem r37 (n : Fin 32) (h : Fin 4) (i : Fin 64) (j : Fin 64) : @Eq EReal ((val_main_v37 (F := Ideal) A.x1) (ix4 n h i j)) (((A.S n h).kk i j : ℝ)) := by
  have h0 := r3 A hA
  unfold val_main_v37
  generalize (val_main_v3 (F := Ideal) A.x1) = y0 at h0 ⊢
  pointwise []
  simp only [h0, ← EReal.coe_mul, ← coe_sum, ← EReal.coe_add, ← EReal.coe_sub]
  rfl

theorem r38 (n : Fin 32) (h : Fin 4) (i : Fin 64) (j : Fin 64) : @Eq EReal ((val_main_v38 (F := Ideal) A.x1 A.x3) (ix4 n h i j)) (((A.S n h).dks i j : ℝ)) := by
  have h0 := r35 A hA
  have h1 := r37 A hA
  unfold val_main_v38
  generalize (val_main_v35 (F := Ideal) A.x3) = y0 at h0 ⊢
  generalize (val_main_v37 (F := Ideal) A.x1) = y1 at h1 ⊢
  pointwise []
  rw [h0, h1, ← EReal.coe_mul]
  rfl

theorem r41 (n : Fin 32) (h : Fin 4) (i : Fin 64) (j : Fin 64) : @Eq EReal ((val_main_v41 (F := Ideal) A.x1 A.x3 A.x4) (ix4 n h i j)) (((A.S n h).low i j : ℝ)) := by
  have h0 := r38 A hA
  have h1 := r7 A hA
  unfold val_main_v41 val_main_v40 val_main_v39
  generalize (val_main_v38 (F := Ideal) A.x1 A.x3) = y0 at h0 ⊢
  generalize (val_main_v7 (F := Ideal) A.x4) = y1 at h1 ⊢
  pointwise []
  rw [h0, h1, ← EReal.coe_mul]
  unfold In.low In.dks
  by_cases hh : j.val < i.val
  · simp only [if_pos hh]
  · simp only [if_neg hh, zero_mul]

theorem r42 (n : Fin 32) (h : Fin 4) (i : Fin 64) : @Eq EReal ((val_main_v42 (F := Ideal) A.x3) (ix3 n h i)) (((A.S n h).gam i : ℝ)) := by
  have h0 := r10' A hA
  unfold val_main_v42
  generalize (val_main_v10 (F := Ideal) A.x3) = y0 at h0 ⊢
  pointwise []
  rw [h0, Ideal.exp_coe]
  rfl

theorem r43 (n : Fin 32) (h : Fin 4) (i : Fin 64) : @Eq EReal ((val_main_v43 (F := Ideal) A.x3) (ix4 n h i 0)) (((A.S n h).gam i : ℝ)) := by
  have h0 := r42 A hA
  unfold val_main_v43
  generalize (val_main_v42 (F := Ideal) A.x3) = y0 at h0 ⊢
  pointwise []
  exact h0 n h i

theorem r45 (n : Fin 32) (h : Fin 4) (i : Fin 64) (d : Fin 128) : @Eq EReal ((val_main_v45 (F := Ideal) A.x1 A.x3) (ix4 n h i d)) (((A.S n h).gam i * (A.S n h).k i d : ℝ)) := by
  have h0 := r43 A hA
  have h1 := r3 A hA
  unfold val_main_v45 val_main_v44
  generalize (val_main_v43 (F := Ideal) A.x3) = y0 at h0 ⊢
  generalize (val_main_v3 (F := Ideal) A.x1) = y1 at h1 ⊢
  pointwise []
  rw [h0, h1, ← EReal.coe_mul]

omit hA in
/-- A choice between two reals is a real. -/
theorem coe_dite (p : Prop) [Decidable p] (a : p → ℝ) (b : ¬ p → ℝ) : @Eq EReal (@dite EReal p _ (fun h => (a h : EReal)) (fun h => (b h : EReal))) ((if h : p then a h else b h : ℝ) : EReal) := by
  split_ifs <;> rfl

theorem r46 (n : Fin 32) (h : Fin 4) (i : Fin 64) (D : Fin 256) : @Eq EReal ((val_main_v46 (F := Ideal) A.x1 A.x2 A.x3) (ix4 n h i D)) ((cat ((A.S n h).v i) (fun d => (A.S n h).gam i * (A.S n h).k i d) D : ℝ)) := by
  have h0 := r5 A hA
  have h1 := r45 A hA
  unfold val_main_v46
  generalize (val_main_v5 (F := Ideal) A.x2) = y0 at h0 ⊢
  generalize (val_main_v45 (F := Ideal) A.x1 A.x3) = y1 at h1 ⊢
  pointwise []
  simp only [h0, h1]
  exact coe_dite _ _ _

theorem r60 (n : Fin 32) (h : Fin 4) (i j : Fin 64) : @Eq EReal ((val_main_v60 (F := Ideal)) (ix4 n h i j)) ((1 : Mat) i j : ℝ) := by
  unfold val_main_v60
  pointwise [val_main_v59, val_main_v58, val_main_v57, val_main_v56, val_main_v55, val_main_v54, val_main_c]
  rw [show IntOp.addi (BitVec.ofNat 32 i.val) 0#32 = BitVec.ofNat 32 i.val from BitVec.add_zero _, word_eq]
  by_cases hh : i = j
  · subst hh
    rw [if_pos rfl, Matrix.one_apply_eq]
    show (((1#1 : BitVec 1).toNat : ℝ) : EReal) = _
    simp
  · rw [if_neg hh, Matrix.one_apply_ne hh]
    show (((0#1 : BitVec 1).toNat : ℝ) : EReal) = _
    simp

omit hA in
/-- A step from blocks of one size to blocks of twice the size. -/
theorem level_at (x l z : FVec Ideal S32x4x64x64 .f32) (w : (⟨S32x4x64x64, .i1⟩ : BufTy).Contents (Elt Ideal)) (X L : Fin 32 → Fin 4 → Mat) (s : ℕ) (hx : ∀ n h i j, @Eq EReal (x (ix4 n h i j)) (X n h i j : ℝ))
    (hl : ∀ n h i j, @Eq EReal (l (ix4 n h i j)) (L n h i j : ℝ)) (hz : ∀ n h i j, @Eq EReal (z (ix4 n h i j)) 0)
    (hw : ∀ n h i j, @Eq (BitVec 1) (w (ix4 n h i j)) (if i.val / (2 * s) = j.val / (2 * s) ∧ i.val / s ≠ j.val / s then 1#1 else 0#1)) (n h i j) :
    @Eq EReal ((subf x (Host.dotGeneral dot_S32x4x64x64_S32x4x64x64_S32x4x64x64_3_2_2_3_01_01 none (Host.dotGeneral dot_S32x4x64x64_S32x4x64x64_S32x4x64x64_3_2_2_3_01_01 none x (select w l z : FVec Ideal S32x4x64x64 .f32) : FVec Ideal S32x4x64x64 .f32) x : FVec Ideal S32x4x64x64 .f32) : FVec Ideal S32x4x64x64 .f32) (ix4 n h i j))
      ((X n h - X n h * level s (L n h) * X n h) i j : ℝ) := by
  have hN : ∀ i j, @Eq EReal (Scalar.select (w (ix4 n h i j)) (l (ix4 n h i j)) (z (ix4 n h i j))) (level s (L n h) i j : ℝ) := fun i j => by
    rw [hw, hl, hz]
    unfold level
    split_ifs
    · rfl
    · rfl
  pointwise []
  simp only [hx, hN, ← EReal.coe_mul, ← coe_sum, ← EReal.coe_sub]
  rfl

theorem r53 (n : Fin 32) (h : Fin 4) (i j : Fin 64) : @Eq EReal ((val_main_v53 (F := Ideal)) (ix4 n h i j)) 0 := by
  unfold val_main_v53
  pointwise [val_main_cst_3]

theorem r120 (n : Fin 32) (h : Fin 4) (i j : Fin 64) : @Eq EReal ((val_main_v120 (F := Ideal) A.x1 A.x3 A.x4) (ix4 n h i j)) ((A.S n h).T i j : ℝ) := by
  have l := r41 A hA
  have z := r53 A hA
  have x1 := r60 A hA
  have x2 : ∀ n h i j, @Eq EReal ((val_main_v70 (F := Ideal) A.x1 A.x3 A.x4) (ix4 n h i j)) _ := level_at _ _ _ _ _ _ 1 x1 l z (r66)
  have x4 : ∀ n h i j, @Eq EReal ((val_main_v80 (F := Ideal) A.x1 A.x3 A.x4) (ix4 n h i j)) _ := level_at _ _ _ _ _ _ 2 x2 l z (r76)
  have x8 : ∀ n h i j, @Eq EReal ((val_main_v90 (F := Ideal) A.x1 A.x3 A.x4) (ix4 n h i j)) _ := level_at _ _ _ _ _ _ 4 x4 l z (r86)
  have x16 : ∀ n h i j, @Eq EReal ((val_main_v100 (F := Ideal) A.x1 A.x3 A.x4) (ix4 n h i j)) _ := level_at _ _ _ _ _ _ 8 x8 l z (r96)
  have x32 : ∀ n h i j, @Eq EReal ((val_main_v110 (F := Ideal) A.x1 A.x3 A.x4) (ix4 n h i j)) _ := level_at _ _ _ _ _ _ 16 x16 l z (r106)
  have x64 : ∀ n h i j, @Eq EReal ((val_main_v120 (F := Ideal) A.x1 A.x3 A.x4) (ix4 n h i j)) _ := level_at _ _ _ _ _ _ 32 x32 l z (r116)
  refine (x64 n h i j).trans ?_
  rw [A.S_T]
  rfl

theorem r121 (n : Fin 32) (h : Fin 4) (i : Fin 64) (D : Fin 256) : @Eq EReal ((val_main_v121 (F := Ideal) A.x1 A.x2 A.x3 A.x4) (ix4 n h i D)) (((A.S n h).sol i D : ℝ)) := by
  have h0 := r120 A hA
  have h1 := r46 A hA
  unfold val_main_v121
  generalize (val_main_v120 (F := Ideal) A.x1 A.x3 A.x4) = y0 at h0 ⊢
  generalize (val_main_v46 (F := Ideal) A.x1 A.x2 A.x3) = y1 at h1 ⊢
  pointwise []
  simp only [h0, h1, ← EReal.coe_mul, ← coe_sum]
  refine congrArg _ ?_
  unfold In.sol cat In.uv In.wk
  split_ifs
  · rfl
  · rfl

theorem r126 (n : Fin 32) (h : Fin 4) (i : Fin 64) (j : Fin 64) : @Eq EReal ((val_main_v126 (F := Ideal) A.x0 A.x1) (ix4 n h i j)) (((A.S n h).qk i j : ℝ)) := by
  have h0 := r1 A hA
  have h1 := r3 A hA
  unfold val_main_v126
  generalize (val_main_v1 (F := Ideal) A.x0) = y0 at h0 ⊢
  generalize (val_main_v3 (F := Ideal) A.x1) = y1 at h1 ⊢
  pointwise []
  simp only [h0, h1, Fin.sum_univ_one, ← EReal.coe_mul, ← coe_sum, ← EReal.coe_add, ← EReal.coe_sub, ← EReal.coe_neg]
  rfl

theorem r127 (n : Fin 32) (h : Fin 4) (i : Fin 64) (j : Fin 64) : @Eq EReal ((val_main_v127 (F := Ideal) A.x0 A.x1 A.x3) (ix4 n h i j)) (((A.S n h).dec i j * (A.S n h).qk i j : ℝ)) := by
  have h0 := r33 A hA
  have h1 := r126 A hA
  unfold val_main_v127
  generalize (val_main_v33 (F := Ideal) A.x3) = y0 at h0 ⊢
  generalize (val_main_v126 (F := Ideal) A.x0 A.x1) = y1 at h1 ⊢
  pointwise []
  simp only [h0, h1, Fin.sum_univ_one, ← EReal.coe_mul, ← coe_sum, ← EReal.coe_add, ← EReal.coe_sub, ← EReal.coe_neg]

theorem r136 (n : Fin 32) (h : Fin 4) (i : Fin 64) : @Eq EReal ((val_main_v136 (F := Ideal) A.x3) (ix3 n h i)) (((A.S n h).e i : ℝ)) := by
  have h0 := r10' A hA
  unfold val_main_v136 val_main_v135 val_main_v134 val_main_v133
  generalize (val_main_v10 (F := Ideal) A.x3) = y0 at h0 ⊢
  pointwise []
  rw [h0, h0, ← EReal.coe_sub, Ideal.exp_coe]
  rfl

theorem r138 (n : Fin 32) (h : Fin 4) (i : Fin 64) : @Eq EReal ((val_main_v138 (F := Ideal) A.x3 A.x4) (ix4 n h i 0)) (((A.S n h).e i * (A.S n h).b i : ℝ)) := by
  have h0 := r136 A hA
  have h1 := r7 A hA
  unfold val_main_v138 val_main_v137
  generalize (val_main_v136 (F := Ideal) A.x3) = y0 at h0 ⊢
  generalize (val_main_v7 (F := Ideal) A.x4) = y1 at h1 ⊢
  pointwise []
  simp only [h0, h1, Fin.sum_univ_one, ← EReal.coe_mul, ← coe_sum, ← EReal.coe_add, ← EReal.coe_sub, ← EReal.coe_neg]

theorem r144 (n : Fin 32) (h : Fin 4) : @Eq EReal ((val_main_v144 (F := Ideal) A.x3 A.x10) (ix2 n h)) (((A.S n h).dgl : ℝ)) := by
  have h0 := r10 A
  unfold val_main_v144 val_main_v143 val_main_v142 val_main_v141
  pointwise []
  rw [h0]
  exact dgl_real A hA n h

theorem r152 (n : Fin 32) (h : Fin 4) (i : Fin 64) : @Eq EReal ((val_main_v152 (F := Ideal) A.x1 A.x9) (ix3 n h i)) ((∑ d, (A.S n h).k i d * (A.S n h).dke i d : ℝ)) := by
  have h0 := r3 A hA
  have h1 := dke_real A hA
  unfold val_main_v152 val_main_v149 val_main_v148 val_main_v147 val_main_cst_18 val_main_cst_17
  generalize (val_main_v3 (F := Ideal) A.x1) = y0 at h0 ⊢
  pointwise []
  simp only [h0, h1, Fin.sum_univ_one, ← EReal.coe_mul, ← coe_sum, ← EReal.coe_add, ← EReal.coe_sub, ← EReal.coe_neg]

theorem r153 (n : Fin 32) (h : Fin 4) (i : Fin 64) : @Eq EReal ((val_main_v153 (F := Ideal) A.x1 A.x3 A.x9) (ix3 n h i)) (((A.S n h).e i * ∑ d, (A.S n h).k i d * (A.S n h).dke i d : ℝ)) := by
  have h0 := r136 A hA
  have h1 := r152 A hA
  unfold val_main_v153
  generalize (val_main_v136 (F := Ideal) A.x3) = y0 at h0 ⊢
  generalize (val_main_v152 (F := Ideal) A.x1 A.x9) = y1 at h1 ⊢
  pointwise []
  simp only [h0, h1, Fin.sum_univ_one, ← EReal.coe_mul, ← coe_sum, ← EReal.coe_add, ← EReal.coe_sub, ← EReal.coe_neg]

theorem r155 (n : Fin 32) (h : Fin 4) (i : Fin 64) : @Eq EReal ((val_main_v155 (F := Ideal) A.x1 A.x3 A.x4 A.x9) (ix3 n h i)) (((A.S n h).ske i : ℝ)) := by
  have h0 := r152 A hA
  have h1 := r7 A hA
  have h2 := r136 A hA
  unfold val_main_v155 val_main_v154
  generalize (val_main_v152 (F := Ideal) A.x1 A.x9) = y0 at h0 ⊢
  generalize (val_main_v7 (F := Ideal) A.x4) = y1 at h1 ⊢
  generalize (val_main_v136 (F := Ideal) A.x3) = y2 at h2 ⊢
  pointwise []
  simp only [h0, h1, h2, Fin.sum_univ_one, ← EReal.coe_mul, ← coe_sum, ← EReal.coe_add, ← EReal.coe_sub, ← EReal.coe_neg]
  refine congrArg _ ?_
  unfold In.ske
  rw [Finset.sum_mul, Finset.sum_mul]
  exact Finset.sum_congr rfl fun d _ => by ring

theorem r161 (n : Fin 32) (h : Fin 4) (i : Fin 64) : @Eq EReal ((val_main_v161 (F := Ideal) A.x1 A.x3 A.x4 A.x9 A.x10) (ix3 n h i)) (((if i.val = 63 then (A.S n h).dgl + -(A.S n h).ske i + ∑ j, (A.S n h).ske j else -(A.S n h).ske i) : ℝ)) := by
  have h0 := r144 A hA
  have h1 := r155 A hA
  unfold val_main_v161 val_main_v159 val_main_v146 val_main_v160 val_main_v145 val_main_v158 val_main_v157 val_main_v156 val_main_cst_16 val_main_cst_19 val_main_cst_20
  generalize (val_main_v144 (F := Ideal) A.x3 A.x10) = y0 at h0 ⊢
  generalize (val_main_v155 (F := Ideal) A.x1 A.x3 A.x4 A.x9) = y1 at h1 ⊢
  pointwise []
  simp only [h0, h1, ← coe_sum, ← EReal.coe_neg]
  by_cases hh : i.val = 63
  · have hp : 63 ≤ i.val ∧ i.val - 63 < 1 := by omega
    rw [dif_pos hp, dif_pos hp, if_pos hh, ← EReal.coe_add, ← EReal.coe_add]
  · have hp : ¬ (63 ≤ i.val ∧ i.val - 63 < 1) := by omega
    rw [dif_neg hp, dif_neg hp, if_neg hh, zero_add, add_zero]

theorem r163 (n : Fin 32) (h : Fin 4) (i : Fin 64) (d : Fin 128) : @Eq EReal ((val_main_v163 (F := Ideal) A.x3 A.x8) (ix4 n h i d)) (((A.S n h).gam i * (A.S n h).dqd i d : ℝ)) := by
  have h0 := r43 A hA
  have h1 := dqd_real A hA
  unfold val_main_v163 val_main_v162
  generalize (val_main_v43 (F := Ideal) A.x3) = y0 at h0 ⊢
  pointwise []
  simp only [h0, h1, Fin.sum_univ_one, ← EReal.coe_mul, ← coe_sum, ← EReal.coe_add, ← EReal.coe_sub, ← EReal.coe_neg]

theorem r166 (n : Fin 32) (h : Fin 4) (i : Fin 64) : @Eq EReal ((val_main_v166 (F := Ideal) A.x0 A.x8) (ix4 n h i 0)) ((∑ d, (A.S n h).dqd i d * (A.S n h).q i d : ℝ)) := by
  have h0 := r1 A hA
  have h1 := dqd_real A hA
  unfold val_main_v166 val_main_v165 val_main_v164 val_main_cst_21
  generalize (val_main_v1 (F := Ideal) A.x0) = y0 at h0 ⊢
  pointwise []
  simp only [h0, h1, Fin.sum_univ_one, ← EReal.coe_mul, ← coe_sum, ← EReal.coe_add, ← EReal.coe_sub, ← EReal.coe_neg]

theorem r172 (n : Fin 32) (h : Fin 4) (i : Fin 64) : @Eq EReal ((val_main_v172 (F := Ideal) A.x0 A.x1 A.x3 A.x7) (ix3 n h i)) ((∑ j, (A.S n h).dec j i * (A.S n h).qk j i * (A.S n h).dat j i : ℝ)) := by
  have h0 := r127 A hA
  have h1 := dat_real A hA
  unfold val_main_v172 val_main_v169 val_main_v168 val_main_v167 val_main_cst_22 val_main_cst_23
  generalize (val_main_v127 (F := Ideal) A.x0 A.x1 A.x3) = y0 at h0 ⊢
  pointwise []
  simp only [h0, h1, Fin.sum_univ_one, ← EReal.coe_mul, ← coe_sum, ← EReal.coe_add, ← EReal.coe_sub, ← EReal.coe_neg]

theorem r171 (n : Fin 32) (h : Fin 4) (i : Fin 64) (j : Fin 64) : @Eq EReal ((val_main_v171 (F := Ideal) A.x4 A.x7) (ix4 n h i j)) (((A.S n h).dat i j * (A.S n h).b j : ℝ)) := by
  have h0 := r7 A hA
  have h1 := dat_real A hA
  unfold val_main_v171 val_main_v170 val_main_v128
  generalize (val_main_v7 (F := Ideal) A.x4) = y0 at h0 ⊢
  pointwise []
  simp only [h0, h1, Fin.sum_univ_one, ← EReal.coe_mul, ← coe_sum, ← EReal.coe_add, ← EReal.coe_sub, ← EReal.coe_neg]

theorem r174 (n : Fin 32) (h : Fin 4) (i : Fin 64) (j : Fin 64) : @Eq EReal ((val_main_v174 (F := Ideal) A.x3 A.x4 A.x7) (ix4 n h i j)) (((A.S n h).ma i j : ℝ)) := by
  have h0 := r33 A hA
  have h1 := r171 A hA
  unfold val_main_v174
  generalize (val_main_v33 (F := Ideal) A.x3) = y0 at h0 ⊢
  generalize (val_main_v171 (F := Ideal) A.x4 A.x7) = y1 at h1 ⊢
  pointwise []
  simp only [h0, h1, Fin.sum_univ_one, ← EReal.coe_mul, ← coe_sum, ← EReal.coe_add, ← EReal.coe_sub, ← EReal.coe_neg]
  refine congrArg _ ?_
  unfold In.ma In.da In.dec
  split_ifs
  · ring
  · ring

theorem r175 (n : Fin 32) (h : Fin 4) (i : Fin 64) (j : Fin 64) : @Eq EReal ((val_main_v175 (F := Ideal) A.x0 A.x1 A.x4 A.x7) (ix4 n h i j)) (((A.S n h).dat i j * (A.S n h).b j * (A.S n h).qk i j : ℝ)) := by
  have h0 := r171 A hA
  have h1 := r126 A hA
  unfold val_main_v175
  generalize (val_main_v171 (F := Ideal) A.x4 A.x7) = y0 at h0 ⊢
  generalize (val_main_v126 (F := Ideal) A.x0 A.x1) = y1 at h1 ⊢
  pointwise []
  simp only [h0, h1, Fin.sum_univ_one, ← EReal.coe_mul, ← coe_sum, ← EReal.coe_add, ← EReal.coe_sub, ← EReal.coe_neg]

theorem r177 (n : Fin 32) (h : Fin 4) (i : Fin 64) (d : Fin 128) : @Eq EReal ((val_main_v177 (F := Ideal) A.x0 A.x3 A.x4 A.x7 A.x9) (ix4 n h i d)) (((A.S n h).dke i d * ((A.S n h).e i * (A.S n h).b i) + ∑ j, (A.S n h).ma j i * (A.S n h).q j d : ℝ)) := by
  have h0 := r138 A hA
  have h1 := r174 A hA
  have h2 := r1 A hA
  have h3 := dke_real A hA
  unfold val_main_v177 val_main_v151 val_main_v150 val_main_v176
  generalize (val_main_v138 (F := Ideal) A.x3 A.x4) = y0 at h0 ⊢
  generalize (val_main_v174 (F := Ideal) A.x3 A.x4 A.x7) = y1 at h1 ⊢
  generalize (val_main_v1 (F := Ideal) A.x0) = y2 at h2 ⊢
  pointwise []
  simp only [h0, h1, h2, h3, Fin.sum_univ_one, ← EReal.coe_mul, ← coe_sum, ← EReal.coe_add, ← EReal.coe_sub, ← EReal.coe_neg]

theorem r179 (n : Fin 32) (h : Fin 4) (i : Fin 64) (d : Fin 128) : @Eq EReal ((val_main_v179 (F := Ideal) A.x1 A.x3 A.x4 A.x7 A.x8) (ix4 n h i d)) (((A.S n h).dq i d : ℝ)) := by
  have h0 := r163 A hA
  have h1 := r174 A hA
  have h2 := r3 A hA
  unfold val_main_v179 val_main_v178
  generalize (val_main_v163 (F := Ideal) A.x3 A.x8) = y0 at h0 ⊢
  generalize (val_main_v174 (F := Ideal) A.x3 A.x4 A.x7) = y1 at h1 ⊢
  generalize (val_main_v3 (F := Ideal) A.x1) = y2 at h2 ⊢
  pointwise []
  simp only [h0, h1, h2, Fin.sum_univ_one, ← EReal.coe_mul, ← coe_sum, ← EReal.coe_add, ← EReal.coe_sub, ← EReal.coe_neg]
  refine congrArg _ ?_
  unfold In.dq
  ring

theorem r182 (n : Fin 32) (h : Fin 4) (i : Fin 64) (D : Fin 256) : @Eq EReal ((val_main_v182 (F := Ideal) A.x5 A.x6) (ix4 n h i D)) (((A.S n h).ds i D : ℝ)) := by
  have h0 := du_real A hA
  have h1 := dw_real A hA
  unfold val_main_v182 val_main_v180 val_main_v181 val_main_cst_24 val_main_cst_25
  pointwise []
  unfold In.ds cat
  by_cases hh : D.val < 128
  · refine (congrArg₂ (@HAdd.hAdd EReal EReal EReal _) (dif_neg (by omega)) (dif_pos hh)).trans ?_
    rw [dif_pos hh, zero_add]
    exact h0 n h i _
  · refine (congrArg₂ (@HAdd.hAdd EReal EReal EReal _) (dif_pos (by omega)) (dif_neg hh)).trans ?_
    rw [dif_neg hh, add_zero]
    exact h1 n h i _

theorem r184 (n : Fin 32) (h : Fin 4) (i : Fin 64) (D : Fin 256) : @Eq EReal ((val_main_v184 (F := Ideal) A.x1 A.x3 A.x4 A.x5 A.x6) (ix4 n h i D)) (((A.S n h).dr i D : ℝ)) := by
  have h0 := r120 A hA
  have h1 := r182 A hA
  unfold val_main_v184 val_main_v183
  generalize (val_main_v120 (F := Ideal) A.x1 A.x3 A.x4) = y0 at h0 ⊢
  generalize (val_main_v182 (F := Ideal) A.x5 A.x6) = y1 at h1 ⊢
  pointwise []
  simp only [h0, h1, Fin.sum_univ_one, ← EReal.coe_mul, ← coe_sum, ← EReal.coe_add, ← EReal.coe_sub, ← EReal.coe_neg]
  rfl

theorem r186 (n : Fin 32) (h : Fin 4) (i : Fin 64) (j : Fin 64) : @Eq EReal ((val_main_v186 (F := Ideal) A.x1 A.x2 A.x3 A.x4 A.x5 A.x6) (ix4 n h i j)) (((A.S n h).dlr i j : ℝ)) := by
  have h0 := r184 A hA
  have h1 := r121 A hA
  unfold val_main_v186 val_main_v185
  generalize (val_main_v184 (F := Ideal) A.x1 A.x3 A.x4 A.x5 A.x6) = y0 at h0 ⊢
  generalize (val_main_v121 (F := Ideal) A.x1 A.x2 A.x3 A.x4) = y1 at h1 ⊢
  pointwise []
  simp only [h0, h1, Fin.sum_univ_one, ← EReal.coe_mul, ← coe_sum, ← EReal.coe_add, ← EReal.coe_sub, ← EReal.coe_neg]
  refine congrArg _ ?_
  unfold In.dlr
  rw [← Finset.sum_neg_distrib]
  exact Finset.sum_congr rfl fun d _ => neg_mul _ _

theorem r187 (n : Fin 32) (h : Fin 4) (i : Fin 64) (d : Fin 128) : @Eq EReal ((val_main_v187 (F := Ideal) A.x1 A.x3 A.x4 A.x5 A.x6) (ix4 n h i d)) (((A.S n h).dv i d : ℝ)) := by
  have h0 := r184 A hA
  unfold val_main_v187
  generalize (val_main_v184 (F := Ideal) A.x1 A.x3 A.x4 A.x5 A.x6) = y0 at h0 ⊢
  pointwise []
  exact h0 n h i _

theorem r188 (n : Fin 32) (h : Fin 4) (i : Fin 64) (d : Fin 128) : @Eq EReal ((val_main_v188 (F := Ideal) A.x1 A.x3 A.x4 A.x5 A.x6) (ix4 n h i d)) (((A.S n h).dgk i d : ℝ)) := by
  have h0 := r184 A hA
  unfold val_main_v188
  generalize (val_main_v184 (F := Ideal) A.x1 A.x3 A.x4 A.x5 A.x6) = y0 at h0 ⊢
  pointwise []
  exact h0 n h i _

theorem r191 (n : Fin 32) (h : Fin 4) (i : Fin 64) (d : Fin 128) : @Eq EReal ((val_main_v191 (F := Ideal) A.x0 A.x1 A.x3 A.x4 A.x5 A.x6 A.x7 A.x9) (ix4 n h i d)) (((A.S n h).dke i d * ((A.S n h).e i * (A.S n h).b i) + (∑ j, (A.S n h).ma j i * (A.S n h).q j d) + (A.S n h).gam i * (A.S n h).dgk i d : ℝ)) := by
  have h0 := r177 A hA
  have h1 := r43 A hA
  have h2 := r188 A hA
  unfold val_main_v191 val_main_v190 val_main_v189
  generalize (val_main_v177 (F := Ideal) A.x0 A.x3 A.x4 A.x7 A.x9) = y0 at h0 ⊢
  generalize (val_main_v43 (F := Ideal) A.x3) = y1 at h1 ⊢
  generalize (val_main_v188 (F := Ideal) A.x1 A.x3 A.x4 A.x5 A.x6) = y2 at h2 ⊢
  pointwise []
  simp only [h0, h1, h2, Fin.sum_univ_one, ← EReal.coe_mul, ← coe_sum, ← EReal.coe_add, ← EReal.coe_sub, ← EReal.coe_neg]

theorem r196 (n : Fin 32) (h : Fin 4) (i : Fin 64) : @Eq EReal ((val_main_v196 (F := Ideal) A.x0 A.x1 A.x3 A.x4 A.x5 A.x6 A.x8) (ix3 n h i)) (((∑ d, (A.S n h).dqd i d * (A.S n h).q i d) + ∑ d, (A.S n h).dgk i d * (A.S n h).k i d : ℝ)) := by
  have h0 := r166 A hA
  have h1 := r188 A hA
  have h2 := r3 A hA
  unfold val_main_v196 val_main_v195 val_main_v194 val_main_v193 val_main_v192 val_main_cst_26 val_main_cst_27
  generalize (val_main_v166 (F := Ideal) A.x0 A.x8) = y0 at h0 ⊢
  generalize (val_main_v188 (F := Ideal) A.x1 A.x3 A.x4 A.x5 A.x6) = y1 at h1 ⊢
  generalize (val_main_v3 (F := Ideal) A.x1) = y2 at h2 ⊢
  pointwise []
  simp only [h0, h1, h2, Fin.sum_univ_one, ← EReal.coe_mul, ← coe_sum, ← EReal.coe_add, ← EReal.coe_sub, ← EReal.coe_neg]

theorem r198 (n : Fin 32) (h : Fin 4) (i : Fin 64) : @Eq EReal ((val_main_v198 (F := Ideal) A.x0 A.x1 A.x3 A.x4 A.x5 A.x6 A.x8 A.x9 A.x10) (ix3 n h i)) (((if i.val = 63 then (A.S n h).dgl + -(A.S n h).ske i + ∑ j, (A.S n h).ske j else -(A.S n h).ske i) + ((∑ d, (A.S n h).dqd i d * (A.S n h).q i d) + ∑ d, (A.S n h).dgk i d * (A.S n h).k i d) * (A.S n h).gam i : ℝ)) := by
  have h0 := r161 A hA
  have h1 := r196 A hA
  have h2 := r42 A hA
  unfold val_main_v198 val_main_v197
  generalize (val_main_v161 (F := Ideal) A.x1 A.x3 A.x4 A.x9 A.x10) = y0 at h0 ⊢
  generalize (val_main_v196 (F := Ideal) A.x0 A.x1 A.x3 A.x4 A.x5 A.x6 A.x8) = y1 at h1 ⊢
  generalize (val_main_v42 (F := Ideal) A.x3) = y2 at h2 ⊢
  pointwise []
  simp only [h0, h1, h2, Fin.sum_univ_one, ← EReal.coe_mul, ← coe_sum, ← EReal.coe_add, ← EReal.coe_sub, ← EReal.coe_neg]

theorem r204 (n : Fin 32) (h : Fin 4) (i : Fin 64) : @Eq EReal ((val_main_v204 (F := Ideal) A.x1 A.x2 A.x3 A.x4 A.x5 A.x6) (ix3 n h i)) ((∑ j, (A.S n h).dks j i * (A.S n h).dlr j i : ℝ)) := by
  have h0 := r38 A hA
  have h1 := r186 A hA
  unfold val_main_v204 val_main_v201 val_main_v200 val_main_v199 val_main_cst_28 val_main_cst_29
  generalize (val_main_v38 (F := Ideal) A.x1 A.x3) = y0 at h0 ⊢
  generalize (val_main_v186 (F := Ideal) A.x1 A.x2 A.x3 A.x4 A.x5 A.x6) = y1 at h1 ⊢
  pointwise []
  simp only [h0, h1, Fin.sum_univ_one, ← EReal.coe_mul, ← coe_sum, ← EReal.coe_add, ← EReal.coe_sub, ← EReal.coe_neg]

theorem r205 (n : Fin 32) (h : Fin 4) (i : Fin 64) : @Eq EReal ((val_main_v205 (F := Ideal) A.x0 A.x1 A.x2 A.x3 A.x4 A.x5 A.x6 A.x7 A.x9) (ix3 n h i)) (((A.S n h).dbeta i : ℝ)) := by
  have h0 := r153 A hA
  have h1 := r172 A hA
  have h2 := r204 A hA
  unfold val_main_v205 val_main_v173
  generalize (val_main_v153 (F := Ideal) A.x1 A.x3 A.x9) = y0 at h0 ⊢
  generalize (val_main_v172 (F := Ideal) A.x0 A.x1 A.x3 A.x7) = y1 at h1 ⊢
  generalize (val_main_v204 (F := Ideal) A.x1 A.x2 A.x3 A.x4 A.x5 A.x6) = y2 at h2 ⊢
  pointwise []
  simp only [h0, h1, h2, Fin.sum_univ_one, ← EReal.coe_mul, ← coe_sum, ← EReal.coe_add, ← EReal.coe_sub, ← EReal.coe_neg]
  exact congrArg _ ((A.S n h).ref_dbeta i)

theorem r203 (n : Fin 32) (h : Fin 4) (i : Fin 64) (j : Fin 64) : @Eq EReal ((val_main_v203 (F := Ideal) A.x1 A.x2 A.x3 A.x4 A.x5 A.x6) (ix4 n h i j)) (((A.S n h).dlr i j * (A.S n h).b j : ℝ)) := by
  have h0 := r186 A hA
  have h1 := r7 A hA
  unfold val_main_v203 val_main_v202 val_main_v39
  generalize (val_main_v186 (F := Ideal) A.x1 A.x2 A.x3 A.x4 A.x5 A.x6) = y0 at h0 ⊢
  generalize (val_main_v7 (F := Ideal) A.x4) = y1 at h1 ⊢
  pointwise []
  simp only [h0, h1, Fin.sum_univ_one, ← EReal.coe_mul, ← coe_sum, ← EReal.coe_add, ← EReal.coe_sub, ← EReal.coe_neg]

theorem r206 (n : Fin 32) (h : Fin 4) (i : Fin 64) (j : Fin 64) : @Eq EReal ((val_main_v206 (F := Ideal) A.x1 A.x2 A.x3 A.x4 A.x5 A.x6) (ix4 n h i j)) (((A.S n h).ml i j : ℝ)) := by
  have h0 := r35 A hA
  have h1 := r203 A hA
  unfold val_main_v206
  generalize (val_main_v35 (F := Ideal) A.x3) = y0 at h0 ⊢
  generalize (val_main_v203 (F := Ideal) A.x1 A.x2 A.x3 A.x4 A.x5 A.x6) = y1 at h1 ⊢
  pointwise []
  simp only [h0, h1, Fin.sum_univ_one, ← EReal.coe_mul, ← coe_sum, ← EReal.coe_add, ← EReal.coe_sub, ← EReal.coe_neg]
  exact congrArg _ ((A.S n h).ref_ml i j)

theorem r211 (n : Fin 32) (h : Fin 4) (i : Fin 64) (d : Fin 128) : @Eq EReal ((val_main_v211 (F := Ideal) A.x0 A.x1 A.x2 A.x3 A.x4 A.x5 A.x6 A.x7 A.x9) (ix4 n h i d)) (((A.S n h).dk i d : ℝ)) := by
  have h0 := r191 A hA
  have h1 := r206 A hA
  have h2 := r3 A hA
  unfold val_main_v211 val_main_v209 val_main_v208 val_main_v210
  generalize (val_main_v191 (F := Ideal) A.x0 A.x1 A.x3 A.x4 A.x5 A.x6 A.x7 A.x9) = y0 at h0 ⊢
  generalize (val_main_v206 (F := Ideal) A.x1 A.x2 A.x3 A.x4 A.x5 A.x6) = y1 at h1 ⊢
  generalize (val_main_v3 (F := Ideal) A.x1) = y2 at h2 ⊢
  pointwise []
  simp only [h0, h1, h2, Fin.sum_univ_one, ← EReal.coe_mul, ← coe_sum, ← EReal.coe_add, ← EReal.coe_sub, ← EReal.coe_neg]
  exact congrArg _ ((A.S n h).ref_dk i d)

theorem r214 (n : Fin 32) (h : Fin 4) (i : Fin 64) (j : Fin 64) : @Eq EReal ((val_main_v214 (F := Ideal) A.x0 A.x1 A.x2 A.x3 A.x4 A.x5 A.x6 A.x7) (ix4 n h i j)) (((A.S n h).dat i j * (A.S n h).b j * (A.S n h).qk i j + (if j.val < i.val then (A.S n h).dlr i j * (A.S n h).b j * (A.S n h).kk i j else 0) : ℝ)) := by
  have h0 := r175 A hA
  have h1 := r203 A hA
  have h2 := r37 A hA
  have h3 := r23
  unfold val_main_v214 val_main_v213 val_main_v207 val_main_v212 val_main_cst_30
  generalize (val_main_v175 (F := Ideal) A.x0 A.x1 A.x4 A.x7) = y0 at h0 ⊢
  generalize (val_main_v203 (F := Ideal) A.x1 A.x2 A.x3 A.x4 A.x5 A.x6) = y1 at h1 ⊢
  generalize (val_main_v37 (F := Ideal) A.x1) = y2 at h2 ⊢
  generalize (val_main_v23 (F := Ideal)) = y3 at h3 ⊢
  pointwise []
  rw [h0, h1, h2, h3]
  by_cases hh : j.val < i.val
  · simp only [if_pos hh, pick_true, ← EReal.coe_mul, ← EReal.coe_add]
  · simp only [if_neg hh, pick_false, add_zero]

theorem r219 (n : Fin 32) (h : Fin 4) (i : Fin 64) (j : Fin 64) : @Eq EReal ((val_main_v219 (F := Ideal) A.x0 A.x1 A.x2 A.x3 A.x4 A.x5 A.x6 A.x7) (ix4 n h i j)) (((A.S n h).ew i j : ℝ)) := by
  have h0 := r214 A hA
  have h1 := r32 A hA
  have h2 := r17
  unfold val_main_v219 val_main_v217 val_main_v216 val_main_v215 val_main_v218 val_main_cst_31 val_main_cst_32
  generalize (val_main_v214 (F := Ideal) A.x0 A.x1 A.x2 A.x3 A.x4 A.x5 A.x6 A.x7) = y0 at h0 ⊢
  generalize (val_main_v32 (F := Ideal) A.x3) = y1 at h1 ⊢
  generalize (val_main_v17 (F := Ideal)) = y2 at h2 ⊢
  pointwise []
  rw [h0, h1, h2]
  refine Eq.trans ?_ (congrArg _ ((A.S n h).ref_ew i j))
  by_cases hh : j.val ≤ i.val
  · simp only [if_pos hh, pick_true, ← EReal.coe_mul]
  · simp only [if_neg hh, pick_false]
    rfl

theorem r228 (n : Fin 32) (h : Fin 4) (i : Fin 64) : @Eq EReal ((val_main_v228 (F := Ideal) A.x0 A.x1 A.x2 A.x3 A.x4 A.x5 A.x6 A.x7 A.x8 A.x9 A.x10) (ix3 n h i)) (((A.S n h).dgc' i : ℝ)) := by
  have h0 := r198 A hA
  have h1 := r219 A hA
  unfold val_main_v228 val_main_v226 val_main_v225 val_main_v224 val_main_v223 val_main_v222 val_main_v227 val_main_v221 val_main_v220 val_main_cst_33 val_main_cst_34 val_main_cst_35 val_main_cst_36
  generalize (val_main_v198 (F := Ideal) A.x0 A.x1 A.x3 A.x4 A.x5 A.x6 A.x8 A.x9 A.x10) = y0 at h0 ⊢
  generalize (val_main_v219 (F := Ideal) A.x0 A.x1 A.x2 A.x3 A.x4 A.x5 A.x6 A.x7) = y1 at h1 ⊢
  pointwise []
  simp only [h0, h1, Fin.sum_univ_one, ← EReal.coe_mul, ← coe_sum, ← EReal.coe_add, ← EReal.coe_sub, ← EReal.coe_neg]
  exact congrArg _ ((A.S n h).ref_dgc i)

theorem r229 (n : Fin 32) (h : Fin 4) (i : Fin 64) : @Eq EReal ((val_main_v229 (F := Ideal) A.x0 A.x1 A.x2 A.x3 A.x4 A.x5 A.x6 A.x7 A.x8 A.x9 A.x10) (ix3 n h i)) ((A.S n h).dg i : ℝ) := by
  have h0 := r228 A hA n h
  unfold val_main_v229
  generalize (val_main_v228 (F := Ideal) A.x0 A.x1 A.x2 A.x3 A.x4 A.x5 A.x6 A.x7 A.x8 A.x9 A.x10) = y at h0 ⊢
  refine (rev_sum y _ (fun _ => zero_real _) _ _ n h i).trans ?_
  simp only [h0]
  unfold In.dg
  rw [coe_sum]
  refine Finset.sum_congr rfl fun j _ => ?_
  split_ifs
  · rfl
  · rfl

/-! The five results. -/

theorem ref_dq (r : Fin 2048) (s : Fin 512) : @Eq EReal ((val_main_v239 (F := Ideal) A.x1 A.x3 A.x4 A.x7 A.x8) (ix2 r s)) ((A.S ⟨r.val / 64, by omega⟩ ⟨s.val / 128, by omega⟩).dq ⟨r.val % 64, by omega⟩ ⟨s.val % 128, by omega⟩ : ℝ) := by
  have h0 := r179 A hA
  unfold val_main_v239 val_main_v238
  generalize (val_main_v179 (F := Ideal) A.x1 A.x3 A.x4 A.x7 A.x8) = y0 at h0 ⊢
  refine Eq.trans ?_ (h0 _ _ _ _)
  pointwise []

theorem ref_dk (r : Fin 2048) (s : Fin 512) : @Eq EReal ((val_main_v237 (F := Ideal) A.x0 A.x1 A.x2 A.x3 A.x4 A.x5 A.x6 A.x7 A.x9) (ix2 r s)) ((A.S ⟨r.val / 64, by omega⟩ ⟨s.val / 128, by omega⟩).dk ⟨r.val % 64, by omega⟩ ⟨s.val % 128, by omega⟩ : ℝ) := by
  have h0 := r211 A hA
  unfold val_main_v237 val_main_v236
  generalize (val_main_v211 (F := Ideal) A.x0 A.x1 A.x2 A.x3 A.x4 A.x5 A.x6 A.x7 A.x9) = y0 at h0 ⊢
  refine Eq.trans ?_ (h0 _ _ _ _)
  pointwise []

theorem ref_dv (r : Fin 2048) (s : Fin 512) : @Eq EReal ((val_main_v235 (F := Ideal) A.x1 A.x3 A.x4 A.x5 A.x6) (ix2 r s)) ((A.S ⟨r.val / 64, by omega⟩ ⟨s.val / 128, by omega⟩).dv ⟨r.val % 64, by omega⟩ ⟨s.val % 128, by omega⟩ : ℝ) := by
  have h0 := r187 A hA
  unfold val_main_v235 val_main_v234
  generalize (val_main_v187 (F := Ideal) A.x1 A.x3 A.x4 A.x5 A.x6) = y0 at h0 ⊢
  refine Eq.trans ?_ (h0 _ _ _ _)
  pointwise []

theorem ref_dg (r : Fin 2048) (l : Fin 128) : @Eq EReal ((val_main_v241 (F := Ideal) A.x0 A.x1 A.x2 A.x3 A.x4 A.x5 A.x6 A.x7 A.x8 A.x9 A.x10) (ix2 r l)) ((if h : l.val < 4 then (A.S ⟨r.val / 64, by omega⟩ ⟨l.val, h⟩).dg ⟨r.val % 64, by omega⟩ else 0 : ℝ)) := by
  have h0 := r229 A hA
  unfold val_main_v241 val_main_v231 val_main_v230 val_main_v240 val_main_cst_37
  generalize (val_main_v229 (F := Ideal) A.x0 A.x1 A.x2 A.x3 A.x4 A.x5 A.x6 A.x7 A.x8 A.x9 A.x10) = y0 at h0 ⊢
  pointwise []
  by_cases hl : l.val < 4
  · rw [dif_pos hl, dif_pos hl]
    exact h0 _ _ _
  · rw [dif_neg hl, dif_neg hl]
    rfl

theorem ref_dbeta (r : Fin 2048) (l : Fin 128) : @Eq EReal ((val_main_v243 (F := Ideal) A.x0 A.x1 A.x2 A.x3 A.x4 A.x5 A.x6 A.x7 A.x9) (ix2 r l)) ((if h : l.val < 4 then (A.S ⟨r.val / 64, by omega⟩ ⟨l.val, h⟩).dbeta ⟨r.val % 64, by omega⟩ else 0 : ℝ)) := by
  have h0 := r205 A hA
  unfold val_main_v243 val_main_v233 val_main_v232 val_main_v242 val_main_cst_38
  generalize (val_main_v205 (F := Ideal) A.x0 A.x1 A.x2 A.x3 A.x4 A.x5 A.x6 A.x7 A.x9) = y0 at h0 ⊢
  pointwise []
  by_cases hl : l.val < 4
  · rw [dif_pos hl, dif_pos hl]
    exact h0 _ _ _
  · rw [dif_neg hl, dif_neg hl]
    rfl

end Chunk

end
-- ==== Proof.Chunk.Claim.lean ====
module

public import proofs.«01_k».proof.Proof.Chunk.Value
public import proofs.«01_k».proof.Proof.Chunk.Ref
public import proofs.«01_k».proof.Proof.Gen.ChunkK.Frame
public import proofs.«01_k».proof.Proof.Gen.ChunkRIdeal.Run
public import proofs.«01_k».proof.Defs

@[expose] public section

set_option maxRecDepth 16384

noncomputable section

namespace Cert.Proof.Chunk

open Idealize.ShloMosaic Idealize.SL.Sem

theorem frame_k : Cert.quiescent_ChunkK (hChunkK := Cert.ChunkK.Gen.facts) := fun m ρ _ => Cert.ChunkK.Gen.frame m ρ

theorem frame_ki : Cert.quiescent_ChunkKIdeal (hChunkKIdeal := Cert.ChunkKIdeal.Gen.facts) := fun m ρ _ => Cert.ChunkKIdeal.Gen.frame m ρ

theorem frame_kip [h : Cert.Pre_chunk_finite.Facts] : Cert.quiescent_ChunkKIdeal_pre_chunk_finite (hChunkKIdeal := Cert.ChunkKIdeal.Gen.facts) (hPre_chunk_finite := h) :=
  fun m ρ _ => Cert.ChunkKIdeal.Gen.frame m ρ

theorem frame_r : Cert.quiescent_ChunkRIdeal (hChunkRIdeal := Cert.ChunkRIdeal.Gen.facts) := fun m g _ =>
  (θ_run _ _ _).mono (fun r h => ⟨fun c => (h c).2.2.2.2.2, Idealize.ShloMosaic.sem_eq_zero_of_no_sems (by decide) r.2⟩) (Cert.ChunkRIdeal.Value.run m g)

theorem frame_rp [h : Cert.Pre_chunk_finite.Facts] : Cert.quiescent_ChunkRIdeal_pre_chunk_finite (hChunkRIdeal := Cert.ChunkRIdeal.Gen.facts) (hPre_chunk_finite := h) :=
  fun m g _ => frame_r m g trivial

theorem ok [h : Cert.Pre_chunk_finite.Facts] (m : (ℓ : Loc Cert.ChunkKIdeal.nD Cert.ChunkKIdeal.τ Cert.ChunkKIdeal.sig) → Buf (Elt Ideal) ℓ) (hpre : Cert.Pre_ChunkKIdeal_chunk_finite m) (c : Dev Cert.ChunkKIdeal.nD) :
    (Cert.ChunkKIdeal.Value.args m c).Ok := by
  obtain ⟨p0, p1, p2, p3, p4, p5, p6, p7, p8, p9, p10⟩ := hpre c
  exact ⟨Reals.fin_of_pre _ _ (fun _ => rfl) p0, Reals.fin_of_pre _ _ (fun _ => rfl) p1, Reals.fin_of_pre _ _ (fun _ => rfl) p2, Reals.fin_of_pre _ _ (fun _ => rfl) p3, Reals.fin_of_pre _ _ (fun _ => rfl) p4, Reals.fin_of_pre _ _ (fun _ => rfl) p5, Reals.fin_of_pre _ _ (fun _ => rfl) p6, Reals.fin_of_pre _ _ (fun _ => rfl) p7, Reals.fin_of_pre _ _ (fun _ => rfl) p8, Reals.fin_of_pre _ _ (fun _ => rfl) p9, Reals.fin_of_pre _ _ (fun _ => rfl) p10⟩

set_option maxHeartbeats 1600000 in
theorem algebraic [h : Cert.Pre_chunk_finite.Facts] :
    Cert.algebraic_ChunkKIdeal_ChunkRIdeal_pre_chunk_finite (hChunkKIdeal := Cert.ChunkKIdeal.Gen.facts) (hChunkRIdeal := Cert.ChunkRIdeal.Gen.facts) (hPre_chunk_finite := h) := by
  pair_intro
  · run_from Cert.ChunkKIdeal.Value.run_blocks m g
  · have hA := ok m hpre
    refine (θ_run _ _ _).mono (fun r h c => ?_) (Cert.ChunkRIdeal.Value.run m' g')
    obtain ⟨h0, h1, h2, h3, h4, hk⟩ := h c
    obtain ⟨a0, a1, a2, a3, a4, a5, a6, a7, a8, a9, a10⟩ := hagree c
    refine ⟨h0.trans ((Cert.ChunkRIdeal.Read.val_main_v239_eq _).trans ?_), h1.trans ((Cert.ChunkRIdeal.Read.val_main_v237_eq _).trans ?_), h2.trans ((Cert.ChunkRIdeal.Read.val_main_v235_eq _).trans ?_), h3.trans ((Cert.ChunkRIdeal.Read.val_main_v241_eq _).trans ?_), h4.trans ((Cert.ChunkRIdeal.Read.val_main_v243_eq _).trans ?_), hk⟩
    · show Cert.ChunkRIdeal.Read.val_main_v239 (F := Ideal) (m' (c.tc.loc Cert.ChunkRIdeal.main_arg1)) (m' (c.tc.loc Cert.ChunkRIdeal.main_arg3)) (m' (c.tc.loc Cert.ChunkRIdeal.main_arg4)) (m' (c.tc.loc Cert.ChunkRIdeal.main_arg7)) (m' (c.tc.loc Cert.ChunkRIdeal.main_arg8)) = _
      rw [a1, a3, a4, a7, a8]
      refine Eq.trans (funext fun y => ?_) (Cert.ChunkKIdeal.Value.final13 m hA c).symm
      idx_vars y
      exact _root_.Chunk.ref_dq (Cert.ChunkKIdeal.Value.args m c) (hA c) _ _
    · show Cert.ChunkRIdeal.Read.val_main_v237 (F := Ideal) (m' (c.tc.loc Cert.ChunkRIdeal.main_arg0)) (m' (c.tc.loc Cert.ChunkRIdeal.main_arg1)) (m' (c.tc.loc Cert.ChunkRIdeal.main_arg2)) (m' (c.tc.loc Cert.ChunkRIdeal.main_arg3)) (m' (c.tc.loc Cert.ChunkRIdeal.main_arg4)) (m' (c.tc.loc Cert.ChunkRIdeal.main_arg5)) (m' (c.tc.loc Cert.ChunkRIdeal.main_arg6)) (m' (c.tc.loc Cert.ChunkRIdeal.main_arg7)) (m' (c.tc.loc Cert.ChunkRIdeal.main_arg9)) = _
      rw [a0, a1, a2, a3, a4, a5, a6, a7, a9]
      refine Eq.trans (funext fun y => ?_) (Cert.ChunkKIdeal.Value.final14 m hA c).symm
      idx_vars y
      exact _root_.Chunk.ref_dk (Cert.ChunkKIdeal.Value.args m c) (hA c) _ _
    · show Cert.ChunkRIdeal.Read.val_main_v235 (F := Ideal) (m' (c.tc.loc Cert.ChunkRIdeal.main_arg1)) (m' (c.tc.loc Cert.ChunkRIdeal.main_arg3)) (m' (c.tc.loc Cert.ChunkRIdeal.main_arg4)) (m' (c.tc.loc Cert.ChunkRIdeal.main_arg5)) (m' (c.tc.loc Cert.ChunkRIdeal.main_arg6)) = _
      rw [a1, a3, a4, a5, a6]
      refine Eq.trans (funext fun y => ?_) (Cert.ChunkKIdeal.Value.final15 m hA c).symm
      idx_vars y
      exact _root_.Chunk.ref_dv (Cert.ChunkKIdeal.Value.args m c) (hA c) _ _
    · show Cert.ChunkRIdeal.Read.val_main_v241 (F := Ideal) (m' (c.tc.loc Cert.ChunkRIdeal.main_arg0)) (m' (c.tc.loc Cert.ChunkRIdeal.main_arg1)) (m' (c.tc.loc Cert.ChunkRIdeal.main_arg2)) (m' (c.tc.loc Cert.ChunkRIdeal.main_arg3)) (m' (c.tc.loc Cert.ChunkRIdeal.main_arg4)) (m' (c.tc.loc Cert.ChunkRIdeal.main_arg5)) (m' (c.tc.loc Cert.ChunkRIdeal.main_arg6)) (m' (c.tc.loc Cert.ChunkRIdeal.main_arg7)) (m' (c.tc.loc Cert.ChunkRIdeal.main_arg8)) (m' (c.tc.loc Cert.ChunkRIdeal.main_arg9)) (m' (c.tc.loc Cert.ChunkRIdeal.main_arg10)) = _
      rw [a0, a1, a2, a3, a4, a5, a6, a7, a8, a9, a10]
      refine Eq.trans (funext fun y => ?_) (Cert.ChunkKIdeal.Value.final16 m hA c).symm
      idx_vars y
      exact _root_.Chunk.ref_dg (Cert.ChunkKIdeal.Value.args m c) (hA c) _ _
    · show Cert.ChunkRIdeal.Read.val_main_v243 (F := Ideal) (m' (c.tc.loc Cert.ChunkRIdeal.main_arg0)) (m' (c.tc.loc Cert.ChunkRIdeal.main_arg1)) (m' (c.tc.loc Cert.ChunkRIdeal.main_arg2)) (m' (c.tc.loc Cert.ChunkRIdeal.main_arg3)) (m' (c.tc.loc Cert.ChunkRIdeal.main_arg4)) (m' (c.tc.loc Cert.ChunkRIdeal.main_arg5)) (m' (c.tc.loc Cert.ChunkRIdeal.main_arg6)) (m' (c.tc.loc Cert.ChunkRIdeal.main_arg7)) (m' (c.tc.loc Cert.ChunkRIdeal.main_arg9)) = _
      rw [a0, a1, a2, a3, a4, a5, a6, a7, a9]
      refine Eq.trans (funext fun y => ?_) (Cert.ChunkKIdeal.Value.final17 m hA c).symm
      idx_vars y
      exact _root_.Chunk.ref_dbeta (Cert.ChunkKIdeal.Value.args m c) (hA c) _ _

end Cert.Proof.Chunk

end
-- ==== Proof.Delta.Text.lean ====
module

public import proofs.«01_k».proof.Proof.Gen.DeltaKIdeal.Frame

@[expose] public section

set_option maxRecDepth 16384

noncomputable section

namespace Cert.DeltaKIdeal.Gen

open Idealize.ShloMosaic Idealize.ShloMosaic.TcCoe

variable {F : FTy → Type} [FloatOps F]

/-- What the body loads for one chunk: the operands of the four heads stacked on one another. -/
structure Ld (F : FTy → Type) where
  (q k v g b : FVec F S256x128 .f32)

/-! Its matrix operations, each written once. -/

def zeros : FVec F S256x256 .f32 := broadcast S256x256 (Scalar.ofBits .f32 0x00000000#32 : F .f32)
def ones : FVec F S256x256 .f32 := broadcast S256x256 (Scalar.ofBits .f32 0x3F800000#32 : F .f32)

/-- Rows times rows. -/
def nt (a b : FVec F S256x128 .f32) : FVec F S256x256 .f32 :=
  matmul dot_S256x128_S256x128_S256x256_1_1_0_0_n_n none (truncf .bf16 a bitsLt_bf16_f32) (truncf .bf16 b bitsLt_bf16_f32) (constant S256x256 .f32 0x00000000#32)

/-- Rows times columns. -/
def nn (a b : FVec F S256x256 .f32) : FVec F S256x256 .f32 :=
  matmul dot_S256x256_S256x256_S256x256_1_0_0_1_n_n none (truncf .bf16 a bitsLt_bf16_f32) (truncf .bf16 b bitsLt_bf16_f32) (constant S256x256 .f32 0x00000000#32)

/-- One factor more of the product for the inverse. -/
def grow (t p : FVec F S256x256 .f32) : FVec F S256x256 .f32 := addf t (nn t p)

/-- What a narrower word leaves of a matrix. -/
def rest (a : FVec F S256x256 .f32) : FVec F S256x256 .f32 := subf a (extf .f32 (truncf .bf16 a bitsLt_bf16_f32) bitsLt_bf16_f32)

/-- The heads' columns apart: a head's rows keep its own columns. -/
def headed : IVec S256x512 1 :=
  cmpi .eq (muli (andi (iota .tc S256x512 32 [0] iota_S256x512_d0_w32) (broadcast S256x512 4294967232#32)) (broadcast S256x512 2#32))
    (andi (iota .tc S256x512 32 [1] iota_S256x512_d1_w32) (broadcast S256x512 4294967168#32))

def wide (x : FVec F S256x128 .f32) : FVec F S256x512 .bf16 :=
  truncf .bf16 (select headed (concatenate S256x512 1 [⟨S256x128, x⟩, ⟨S256x128, x⟩, ⟨S256x128, x⟩, ⟨S256x128, x⟩] concatenates_S256x128_S256x128_S256x128_S256x128_S256x512_d1)
    (broadcast S256x512 (Scalar.ofBits .f32 0x00000000#32 : F .f32))) bitsLt_bf16_f32

/-- One row of the stacked heads, for all the rows of its head. -/
def lastOf (o : Fin 2 → ℕ) (hs : S256x128.Slices o S1x128) (g : FVec F S256x128 .f32) : FVec F S64x128 .f32 :=
  broadcastTo S64x128 (shapeCast S1x128 (extractStridedSlice S1x128 o g hs) shapeCasts_S1x128_S1x128) broadcasts_S1x128_S64x128

namespace Ld

variable (L : Ld F)

/-! What one chunk's part of the body computes, in the order of its text. -/

def gg : FVec F S256x256 .f32 := concatenate S256x256 1 [⟨S256x128, L.g⟩, ⟨S256x128, L.g⟩] concatenates_S256x128_S256x128_S256x256_d1
def dec : FVec F S256x256 .f32 := select k0_pay3 (exp (select k0_pay3 (subf L.gg (transpose S256x256 [1, 0] L.gg transposes_S256x256_p1_0_S256x256)) zeros)) zeros
def bt : FVec F S256x256 .f32 := transpose S256x256 [1, 0] (concatenate S256x256 1 [⟨S256x128, L.b⟩, ⟨S256x128, L.b⟩] concatenates_S256x128_S256x128_S256x256_d1) transposes_S256x256_p1_0_S256x256
def kk : FVec F S256x256 .f32 := nt L.k L.k
def qk : FVec F S256x256 .f32 := nt L.q L.k
def p0 : FVec F S256x256 .f32 := subf zeros (select k0_pay4 (mulf (mulf L.dec L.kk) L.bt) zeros)
def p1 : FVec F S256x256 .f32 := nn L.p0 L.p0
def p2 : FVec F S256x256 .f32 := nn L.p1 L.p1
def p3 : FVec F S256x256 .f32 := nn L.p2 L.p2
def p4 : FVec F S256x256 .f32 := nn L.p3 L.p3
def p5 : FVec F S256x256 .f32 := nn L.p4 L.p4
def t0 : FVec F S256x256 .f32 := addf (select k0_pay5 ones zeros) L.p0
def t1 : FVec F S256x256 .f32 := grow L.t0 L.p1
def t2 : FVec F S256x256 .f32 := grow L.t1 L.p2
def t3 : FVec F S256x256 .f32 := grow L.t2 L.p3
def t4 : FVec F S256x256 .f32 := grow L.t3 L.p4
def t : FVec F S256x256 .f32 := grow L.t4 L.p5
def kd : FVec F S256x128 .f32 := mulf (exp L.g) L.k
def rhs : FVec F S256x256 .f32 := concatenate S256x256 1 [⟨S256x128, L.v⟩, ⟨S256x128, L.kd⟩] concatenates_S256x128_S256x128_S256x256_d1
def sol : FVec F S256x256 .f32 := addf (nn L.t L.rhs) (addf (nn (rest L.t) L.rhs) (nn L.t (rest L.rhs)))
def uv : FVec F S256x128 .f32 := extractStridedSlice S256x128 ![0, 0] L.sol slices_S256x256_o0_0_S256x128
def wk : FVec F S256x128 .f32 := extractStridedSlice S256x128 ![0, 128] L.sol slices_S256x256_o0_128_S256x128
def att : FVec F S256x256 .f32 := mulf (mulf L.dec L.qk) L.bt
def qd : FVec F S256x128 .f32 := mulf L.q (exp L.g)
def lasts : FVec F S256x128 .f32 :=
  concatenate S256x128 0 [⟨S64x128, lastOf ![63, 0] slices_S256x128_o63_0_S1x128 L.g⟩, ⟨S64x128, lastOf ![127, 0] slices_S256x128_o127_0_S1x128 L.g⟩,
    ⟨S64x128, lastOf ![191, 0] slices_S256x128_o191_0_S1x128 L.g⟩, ⟨S64x128, lastOf ![255, 0] slices_S256x128_o255_0_S1x128 L.g⟩] concatenates_S64x128_S64x128_S64x128_S64x128_S256x128_d0
def ke : FVec F S256x128 .f32 := mulf (mulf L.k (exp (subf L.lasts L.g))) L.b

end Ld

/-- One head's rows of the stacked heads. -/
def sl0 (v : FVec F S256x128 .f32) : FVec F S64x128 .f32 := extractStridedSlice S64x128 ![0, 0] v slices_S256x128_o0_0_S64x128
def sl1 (v : FVec F S256x128 .f32) : FVec F S64x128 .f32 := extractStridedSlice S64x128 ![64, 0] v slices_S256x128_o64_0_S64x128
def sl2 (v : FVec F S256x128 .f32) : FVec F S64x128 .f32 := extractStridedSlice S64x128 ![128, 0] v slices_S256x128_o128_0_S64x128
def sl3 (v : FVec F S256x128 .f32) : FVec F S64x128 .f32 := extractStridedSlice S64x128 ![192, 0] v slices_S256x128_o192_0_S64x128

variable (x0 : Vec F S256x512 .f32) (x1 : Vec F S256x512 .f32) (x2 : Vec F S256x512 .f32) (x3 : Vec F S256x512 .f32) (x4 : Vec F S256x512 .f32)

/-- What is loaded for chunk 0 of a block. -/
def ld0 : Ld F where
  q := k0_pay6 (View.ld x0 r0_0) (View.ld x0 r0_1) (View.ld x0 r0_2) (View.ld x0 r0_3)
  k := k0_pay7 (View.ld x1 r0_0) (View.ld x1 r0_1) (View.ld x1 r0_2) (View.ld x1 r0_3)
  v := k0_pay8 (View.ld x2 r0_0) (View.ld x2 r0_1) (View.ld x2 r0_2) (View.ld x2 r0_3)
  g := k0_pay10 (k0_pay9 (View.ld x3 r0_0)) (View.ld x3 r0_1) (View.ld x3 r0_2) (View.ld x3 r0_3)
  b := k0_pay11 (View.ld x4 r0_0) (View.ld x4 r0_1) (View.ld x4 r0_2) (View.ld x4 r0_3)

/-- What is loaded for chunk 1 of a block. -/
def ld1 : Ld F where
  q := k0_pay6 (View.ld x0 r0_6) (View.ld x0 r0_7) (View.ld x0 r0_8) (View.ld x0 r0_9)
  k := k0_pay7 (View.ld x1 r0_6) (View.ld x1 r0_7) (View.ld x1 r0_8) (View.ld x1 r0_9)
  v := k0_pay8 (View.ld x2 r0_6) (View.ld x2 r0_7) (View.ld x2 r0_8) (View.ld x2 r0_9)
  g := k0_pay10 (k0_pay9 (View.ld x3 r0_6)) (View.ld x3 r0_7) (View.ld x3 r0_8) (View.ld x3 r0_9)
  b := k0_pay11 (View.ld x4 r0_6) (View.ld x4 r0_7) (View.ld x4 r0_8) (View.ld x4 r0_9)

/-- What is loaded for chunk 2 of a block. -/
def ld2 : Ld F where
  q := k0_pay6 (View.ld x0 r0_12) (View.ld x0 r0_13) (View.ld x0 r0_14) (View.ld x0 r0_15)
  k := k0_pay7 (View.ld x1 r0_12) (View.ld x1 r0_13) (View.ld x1 r0_14) (View.ld x1 r0_15)
  v := k0_pay8 (View.ld x2 r0_12) (View.ld x2 r0_13) (View.ld x2 r0_14) (View.ld x2 r0_15)
  g := k0_pay10 (k0_pay9 (View.ld x3 r0_12)) (View.ld x3 r0_13) (View.ld x3 r0_14) (View.ld x3 r0_15)
  b := k0_pay11 (View.ld x4 r0_12) (View.ld x4 r0_13) (View.ld x4 r0_14) (View.ld x4 r0_15)

/-- What is loaded for chunk 3 of a block. -/
def ld3 : Ld F where
  q := k0_pay6 (View.ld x0 r0_18) (View.ld x0 r0_19) (View.ld x0 r0_20) (View.ld x0 r0_21)
  k := k0_pay7 (View.ld x1 r0_18) (View.ld x1 r0_19) (View.ld x1 r0_20) (View.ld x1 r0_21)
  v := k0_pay8 (View.ld x2 r0_18) (View.ld x2 r0_19) (View.ld x2 r0_20) (View.ld x2 r0_21)
  g := k0_pay10 (k0_pay9 (View.ld x3 r0_18)) (View.ld x3 r0_19) (View.ld x3 r0_20) (View.ld x3 r0_21)
  b := k0_pay11 (View.ld x4 r0_18) (View.ld x4 r0_19) (View.ld x4 r0_20) (View.ld x4 r0_21)

/-! The stores of the seven results, through the text above. -/

theorem out5_eq : out0_5 x0 x1 x2 x3 x4 = View.canon [⟨r0_21, sl3 (ld3 x0 x1 x2 x3 x4).uv⟩, ⟨r0_20, sl2 (ld3 x0 x1 x2 x3 x4).uv⟩, ⟨r0_19, sl1 (ld3 x0 x1 x2 x3 x4).uv⟩, ⟨r0_18, sl0 (ld3 x0 x1 x2 x3 x4).uv⟩, ⟨r0_15, sl3 (ld2 x0 x1 x2 x3 x4).uv⟩, ⟨r0_14, sl2 (ld2 x0 x1 x2 x3 x4).uv⟩, ⟨r0_13, sl1 (ld2 x0 x1 x2 x3 x4).uv⟩, ⟨r0_12, sl0 (ld2 x0 x1 x2 x3 x4).uv⟩, ⟨r0_9, sl3 (ld1 x0 x1 x2 x3 x4).uv⟩, ⟨r0_8, sl2 (ld1 x0 x1 x2 x3 x4).uv⟩, ⟨r0_7, sl1 (ld1 x0 x1 x2 x3 x4).uv⟩, ⟨r0_6, sl0 (ld1 x0 x1 x2 x3 x4).uv⟩, ⟨r0_3, sl3 (ld0 x0 x1 x2 x3 x4).uv⟩, ⟨r0_2, sl2 (ld0 x0 x1 x2 x3 x4).uv⟩, ⟨r0_1, sl1 (ld0 x0 x1 x2 x3 x4).uv⟩, ⟨r0_0, sl0 (ld0 x0 x1 x2 x3 x4).uv⟩] := rfl

theorem out6_eq : out0_6 x0 x1 x2 x3 x4 = View.canon [⟨r0_21, sl3 (ld3 x0 x1 x2 x3 x4).wk⟩, ⟨r0_20, sl2 (ld3 x0 x1 x2 x3 x4).wk⟩, ⟨r0_19, sl1 (ld3 x0 x1 x2 x3 x4).wk⟩, ⟨r0_18, sl0 (ld3 x0 x1 x2 x3 x4).wk⟩, ⟨r0_15, sl3 (ld2 x0 x1 x2 x3 x4).wk⟩, ⟨r0_14, sl2 (ld2 x0 x1 x2 x3 x4).wk⟩, ⟨r0_13, sl1 (ld2 x0 x1 x2 x3 x4).wk⟩, ⟨r0_12, sl0 (ld2 x0 x1 x2 x3 x4).wk⟩, ⟨r0_9, sl3 (ld1 x0 x1 x2 x3 x4).wk⟩, ⟨r0_8, sl2 (ld1 x0 x1 x2 x3 x4).wk⟩, ⟨r0_7, sl1 (ld1 x0 x1 x2 x3 x4).wk⟩, ⟨r0_6, sl0 (ld1 x0 x1 x2 x3 x4).wk⟩, ⟨r0_3, sl3 (ld0 x0 x1 x2 x3 x4).wk⟩, ⟨r0_2, sl2 (ld0 x0 x1 x2 x3 x4).wk⟩, ⟨r0_1, sl1 (ld0 x0 x1 x2 x3 x4).wk⟩, ⟨r0_0, sl0 (ld0 x0 x1 x2 x3 x4).wk⟩] := rfl

theorem out7_eq : out0_7 x0 x1 x2 x3 x4 = View.canon [⟨r0_22, (ld3 x0 x1 x2 x3 x4).att⟩, ⟨r0_16, (ld2 x0 x1 x2 x3 x4).att⟩, ⟨r0_10, (ld1 x0 x1 x2 x3 x4).att⟩, ⟨r0_4, (ld0 x0 x1 x2 x3 x4).att⟩] := rfl

theorem out8_eq : out0_8 x0 x1 x2 x3 x4 = View.canon [⟨r0_22, (ld3 x0 x1 x2 x3 x4).t⟩, ⟨r0_16, (ld2 x0 x1 x2 x3 x4).t⟩, ⟨r0_10, (ld1 x0 x1 x2 x3 x4).t⟩, ⟨r0_4, (ld0 x0 x1 x2 x3 x4).t⟩] := rfl

theorem out9_eq : out0_9 x0 x1 x2 x3 x4 = View.canon [⟨r0_23, wide (ld3 x0 x1 x2 x3 x4).wk⟩, ⟨r0_17, wide (ld2 x0 x1 x2 x3 x4).wk⟩, ⟨r0_11, wide (ld1 x0 x1 x2 x3 x4).wk⟩, ⟨r0_5, wide (ld0 x0 x1 x2 x3 x4).wk⟩] := rfl

theorem out10_eq : out0_10 x0 x1 x2 x3 x4 = View.canon [⟨r0_23, wide (ld3 x0 x1 x2 x3 x4).qd⟩, ⟨r0_17, wide (ld2 x0 x1 x2 x3 x4).qd⟩, ⟨r0_11, wide (ld1 x0 x1 x2 x3 x4).qd⟩, ⟨r0_5, wide (ld0 x0 x1 x2 x3 x4).qd⟩] := rfl

theorem out11_eq : out0_11 x0 x1 x2 x3 x4 = View.canon [⟨r0_23, wide (ld3 x0 x1 x2 x3 x4).ke⟩, ⟨r0_17, wide (ld2 x0 x1 x2 x3 x4).ke⟩, ⟨r0_11, wide (ld1 x0 x1 x2 x3 x4).ke⟩, ⟨r0_5, wide (ld0 x0 x1 x2 x3 x4).ke⟩] := rfl

end Cert.DeltaKIdeal.Gen

end
-- ==== Proof.Delta.Point.lean ====
module

public import proofs.«01_k».proof.Proof.Delta.Text
public import proofs.«01_k».proof.Proof.Chunk.Point

@[expose] public section

set_option maxRecDepth 16384

noncomputable section

open Idealize.ShloMosaic Idealize.ShloMosaic.TcCoe Idealize.SL.Sem

namespace Cert.DeltaKIdeal.Value

open Cert.DeltaKIdeal Cert.DeltaKIdeal.Gen

open Reals
open Chunk (In Mat squared)
open Cert.ChunkKIdeal.Value (row own own_self own_ne sum_rows sum_own sub_self_of own_real sel_true sel_false cat_at rows_of own_mul own_mul_of own_add own_symm)

theorem m3_at (h h' : Fin 4) (i j : Fin 64) : k0_pay3 (ix2 (row h i) (row h' j)) = if h = h' ∧ j.val ≤ i.val then 1#1 else 0#1 :=
  Cert.ChunkKIdeal.Value.m3_at h h' i j

theorem m4_at (h h' : Fin 4) (i j : Fin 64) : k0_pay4 (ix2 (row h i) (row h' j)) = if h = h' ∧ j.val < i.val then 1#1 else 0#1 :=
  Cert.ChunkKIdeal.Value.m4_at h h' i j

theorem ofNat_eq_at (a b : ℕ) (ha : a < 256) (hb : b < 256) : IntOp.cmpi .eq (BitVec.ofNat 32 a) (BitVec.ofNat 32 b) = if a = b then 1#1 else 0#1 := by
  have e : IntOp.cmpi .eq (BitVec.ofNat 32 a) (BitVec.ofNat 32 b) = BitVec.ofBool (BitVec.ofNat 32 a == BitVec.ofNat 32 b) := rfl
  rw [e]
  by_cases h : a = b
  · subst h; simp
  · have hn : BitVec.ofNat 32 a ≠ BitVec.ofNat 32 b := fun hh => h (by
      have := congrArg BitVec.toNat hh
      rw [BitVec.toNat_ofNat, BitVec.toNat_ofNat] at this
      omega)
    rw [beq_eq_false_iff_ne.mpr hn, if_neg h]
    rfl

theorem m5_at (h h' : Fin 4) (i j : Fin 64) : k0_pay5 (ix2 (row h i) (row h' j)) = if h = h' ∧ i = j then 1#1 else 0#1 := by
  pointwise [k0_pay5]
  rw [ofNat_eq_at _ _ (row h i).isLt (row h' j).isLt]
  have : (row h i).val = (row h' j).val ↔ h = h' ∧ i = j := by
    show 64 * h.val + i.val = 64 * h'.val + j.val ↔ _
    rw [Fin.ext_iff, Fin.ext_iff]
    omega
  simp only [this]

/-! Matrices of the stacked heads. -/

theorem nt_at (a b : FVec Ideal S256x128 .f32) (r s : Fin 256) : @Eq EReal (nt a b (ix2 r s)) (∑ d : Fin 128, @id EReal (a (ix2 r d)) * @id EReal (b (ix2 s d))) := by
  pointwise [nt]
  rfl

theorem nn_at (a b : FVec Ideal S256x256 .f32) (r s : Fin 256) : @Eq EReal (nn a b (ix2 r s)) (∑ x : Fin 256, @id EReal (a (ix2 r x)) * @id EReal (b (ix2 x s))) := by
  pointwise [nn]
  rfl

/-- A block-diagonal matrix of the heads. -/
def Has (a : FVec Ideal S256x256 .f32) (A : Fin 4 → Mat) : Prop := ∀ h h' i j, @Eq EReal (a (ix2 (row h i) (row h' j))) (own h h' (A h i j))

theorem Has.nn {a b : FVec Ideal S256x256 .f32} {A B : Fin 4 → Mat} (ha : Has a A) (hb : Has b B) : Has (nn a b) fun h => A h * B h := by
  intro h h' i j
  rw [nn_at]
  have key : ∀ h'' l, @Eq EReal (@id EReal (a (ix2 (row h i) (row h'' l))) * @id EReal (b (ix2 (row h'' l) (row h' j)))) (own h h'' (A h i l) * own h'' h' (B h'' l j)) :=
    fun h'' l => congrArg₂ _ (ha h h'' i l) (hb h'' h' l j)
  by_cases e : h = h'
  · subst e
    rw [own_self]
    refine (?_ : _ = (((A h * B h) i j : ℝ) : EReal))
    rw [Matrix.mul_apply]
    refine sum_own h _ (fun l => A h i l * B h l j) fun h'' l => ?_
    rw [key]
    by_cases e : h = h''
    · subst e
      rw [own_mul]
    · rw [own_ne e, own_ne e, zero_mul]
  · rw [own_ne e, sum_rows]
    refine Finset.sum_eq_zero fun h'' _ => Finset.sum_eq_zero fun l _ => ?_
    rw [key]
    by_cases e' : h = h''
    · subst e'
      rw [own_ne e, mul_zero]
    · rw [own_ne e', zero_mul]

theorem Has.add {a b : FVec Ideal S256x256 .f32} {A B : Fin 4 → Mat} (ha : Has a A) (hb : Has b B) : Has (addf a b) fun h => A h + B h := by
  intro h h' i j
  have h1 := ha h h' i j
  have h2 := hb h h' i j
  pointwise []
  rw [h1, h2]
  exact own_add _ _ _ _

theorem Has.grow {a b : FVec Ideal S256x256 .f32} {A B : Fin 4 → Mat} (ha : Has a A) (hb : Has b B) : Has (grow a b) fun h => A h + A h * B h :=
  ha.add (ha.nn hb)

/-- Of exact numbers a narrower word leaves nothing. -/
theorem rest_at (a : FVec Ideal S256x256 .f32) (ha : ∀ r s, IsReal (a (ix2 r s))) (r s : Fin 256) : @Eq EReal (rest a (ix2 r s)) 0 := by
  pointwise [rest]
  exact sub_self_of _ (ha r s)

/-- The chunk's loads are these reals. -/
structure Is (L : Ld Ideal) (S : Fin 4 → In) : Prop where
  q : ∀ h i d, @Eq EReal (L.q (ix2 (row h i) d)) ((S h).q i d : ℝ)
  k : ∀ h i d, @Eq EReal (L.k (ix2 (row h i) d)) ((S h).k i d : ℝ)
  v : ∀ h i d, @Eq EReal (L.v (ix2 (row h i) d)) ((S h).v i d : ℝ)
  g : ∀ h i d, @Eq EReal (L.g (ix2 (row h i) d)) ((S h).gc i : ℝ)
  b : ∀ h i d, @Eq EReal (L.b (ix2 (row h i) d)) ((S h).b i : ℝ)
  T : ∀ h, (S h).T = squared (-(S h).low)

variable {L : Ld Ideal} {S : Fin 4 → In} (H : Is L S)

include H

theorem dec_at : Has L.dec fun h => (S h).dec := by
  intro h h' i j
  have hm := m3_at h h' i j
  have hg := H.g
  unfold Ld.dec Ld.gg
  generalize k0_pay3 = m at hm ⊢
  generalize L.g = v at hg ⊢
  pointwise [zeros]
  rw [hm]
  by_cases e : h = h'
  · subst e
    rw [own_self]
    unfold In.dec
    by_cases c : j.val ≤ i.val
    · rw [if_pos ⟨rfl, c⟩, if_pos c, sel_true, sel_true, ← Ideal.exp_coe, EReal.coe_sub]
      refine congrArg Ideal.exp (congrArg₂ _ ?_ ?_)
      · split_ifs <;> exact hg _ _ _
      · split_ifs <;> exact hg _ _ _
    · rw [if_neg (fun a => c a.2), if_neg c, sel_false]
      rfl
  · rw [own_ne e, if_neg (fun a => e a.1), sel_false]

theorem bt_at (r : Fin 256) (h : Fin 4) (j : Fin 64) : @Eq EReal (L.bt (ix2 r (row h j))) ((S h).b j : ℝ) := by
  have hb := H.b
  unfold Ld.bt
  generalize L.b = v at hb ⊢
  pointwise []
  split_ifs <;> exact hb _ _ _

theorem kk_at (h : Fin 4) (i j : Fin 64) : @Eq EReal (L.kk (ix2 (row h i) (row h j))) ((S h).kk i j : ℝ) := by
  unfold Ld.kk In.kk
  rw [nt_at, coe_sum]
  exact Finset.sum_congr rfl fun d _ => (congrArg₂ _ (H.k h i d) (H.k h j d)).trans (EReal.coe_mul _ _).symm

theorem qk_at (h : Fin 4) (i j : Fin 64) : @Eq EReal (L.qk (ix2 (row h i) (row h j))) ((S h).qk i j : ℝ) := by
  unfold Ld.qk In.qk
  rw [nt_at, coe_sum]
  exact Finset.sum_congr rfl fun d _ => (congrArg₂ _ (H.q h i d) (H.k h j d)).trans (EReal.coe_mul _ _).symm

theorem p0_at : Has L.p0 fun h => -(S h).low := by
  intro h h' i j
  have hm := m4_at h h' i j
  have h1 := dec_at H h h' i j
  have h2 := kk_at H h i j
  have h3 := bt_at H (row h i) h' j
  unfold Ld.p0
  generalize k0_pay4 = m at hm ⊢
  generalize L.dec = v1 at h1 ⊢
  generalize L.kk = v2 at h2 ⊢
  generalize L.bt = v3 at h3 ⊢
  pointwise [zeros]
  rw [hm, Matrix.neg_apply]
  by_cases e : h = h'
  · subst e
    rw [own_self]
    unfold In.low
    by_cases c : j.val < i.val
    · rw [if_pos ⟨rfl, c⟩, if_pos c, sel_true, h1, h2, h3, own_self, ← EReal.coe_mul, ← EReal.coe_mul, EReal.coe_neg, zero_sub]
    · rw [if_neg (fun a => c a.2), if_neg c, sel_false, neg_zero, sub_zero]
      rfl
  · rw [own_ne e, if_neg (fun a => e a.1), sel_false, sub_zero]

theorem t0_at : Has L.t0 fun h => 1 + -(S h).low := by
  refine Has.add (fun h h' i j => ?_) (p0_at H)
  have hm := m5_at h h' i j
  generalize k0_pay5 = m at hm ⊢
  pointwise [zeros, ones]
  rw [hm]
  by_cases e : h = h'
  · subst e
    rw [own_self]
    by_cases c : i = j
    · subst c
      rw [if_pos ⟨rfl, rfl⟩, sel_true, Matrix.one_apply_eq]
      rfl
    · rw [if_neg (fun a => c a.2), sel_false, Matrix.one_apply_ne c]
      rfl
  · rw [own_ne e, if_neg (fun a => e a.1), sel_false]

/-- The inverse. -/
theorem t_at : Has L.t fun h => (S h).T := by
  have p0 := p0_at H
  have p1 : Has L.p1 _ := p0.nn p0
  have p2 : Has L.p2 _ := p1.nn p1
  have p3 : Has L.p3 _ := p2.nn p2
  have p4 : Has L.p4 _ := p3.nn p3
  have p5 : Has L.p5 _ := p4.nn p4
  have t1 : Has L.t1 _ := (t0_at H).grow p1
  have t2 : Has L.t2 _ := t1.grow p2
  have t3 : Has L.t3 _ := t2.grow p3
  have t4 : Has L.t4 _ := t3.grow p4
  have t5 : Has L.t _ := t4.grow p5
  have e : (fun h => (S h).T) = fun h => squared (-(S h).low) := funext H.T
  rw [e]
  exact t5

theorem kd_at (h : Fin 4) (i : Fin 64) (d : Fin 128) : @Eq EReal (L.kd (ix2 (row h i) d)) ((S h).gam i * (S h).k i d : ℝ) := by
  have h1 := H.g h i d
  have h2 := H.k h i d
  unfold Ld.kd
  generalize L.g = v1 at h1 ⊢
  generalize L.k = v2 at h2 ⊢
  pointwise []
  rw [h1, h2, EReal.coe_mul]
  exact congrArg (· * _) (Ideal.exp_coe _)

theorem rhs_at (h : Fin 4) (i : Fin 64) (d : Fin 256) : @Eq EReal (L.rhs (ix2 (row h i) d)) (Chunk.cat ((S h).v i) (fun d => (S h).gam i * (S h).k i d) d : ℝ) := by
  have h1 := H.v h i
  have h2 := kd_at H h i
  unfold Ld.rhs
  generalize L.v = v1 at h1 ⊢
  generalize L.kd = v2 at h2 ⊢
  pointwise []
  exact cat_at (fun d => v1 (ix2 (row h i) d)) (fun d => v2 (ix2 (row h i) d)) _ _ h1 h2 d

theorem sol_at (h : Fin 4) (i : Fin 64) (d : Fin 256) :
    @Eq EReal (L.sol (ix2 (row h i) d)) ((∑ j, (S h).T i j * Chunk.cat ((S h).v j) (fun d => (S h).gam j * (S h).k j d) d : ℝ)) := by
  have h1 := t_at H
  have h2 := rhs_at H
  have r1 : ∀ r s, IsReal (L.t (ix2 r s)) := fun r s => rows_of (fun r => IsReal (L.t (ix2 r s))) (fun h i => rows_of (fun s => IsReal (L.t (ix2 (row h i) s))) (fun h' j => by rw [h1]; exact own_real _ _ _) s) r
  have r2 : ∀ r s, IsReal (L.rhs (ix2 r s)) := fun r s => rows_of (fun r => IsReal (L.rhs (ix2 r s))) (fun h i => by rw [h2]; exact ⟨_, rfl⟩) r
  have z1 := rest_at L.t r1
  have z2 := rest_at L.rhs r2
  have e1 : @Eq EReal (nn L.t L.rhs (ix2 (row h i) d)) ((∑ j, (S h).T i j * Chunk.cat ((S h).v j) (fun d => (S h).gam j * (S h).k j d) d : ℝ)) := by
    rw [nn_at]
    refine sum_own h _ _ fun h' j => ?_
    refine (congrArg₂ _ (h1 h h' i j) (h2 h' j d)).trans ?_
    exact own_mul_of _ _ _ _ _ fun e => by rw [← e]
  have e2 : @Eq EReal (nn (rest L.t) L.rhs (ix2 (row h i) d)) 0 := by
    rw [nn_at]
    exact Finset.sum_eq_zero fun x _ => (congrArg (· * _) (z1 _ x)).trans (zero_mul _)
  have e3 : @Eq EReal (nn L.t (rest L.rhs) (ix2 (row h i) d)) 0 := by
    rw [nn_at]
    exact Finset.sum_eq_zero fun x _ => (congrArg (_ * ·) (z2 x _)).trans (mul_zero _)
  unfold Ld.sol
  generalize nn L.t L.rhs = v1 at e1 ⊢
  generalize nn (rest L.t) L.rhs = v2 at e2 ⊢
  generalize nn L.t (rest L.rhs) = v3 at e3 ⊢
  pointwise []
  rw [e1, e2, e3, add_zero, add_zero]

theorem uv_at (h : Fin 4) (i : Fin 64) (d : Fin 128) : @Eq EReal (L.uv (ix2 (row h i) d)) ((S h).uv i d : ℝ) := by
  have hs := sol_at H h i (Chunk.lo d)
  unfold Ld.uv In.uv
  generalize L.sol = v at hs ⊢
  pointwise []
  simp only [Chunk.cat_lo] at hs
  exact hs

theorem wk_at (h : Fin 4) (i : Fin 64) (d : Fin 128) : @Eq EReal (L.wk (ix2 (row h i) d)) ((S h).wk i d : ℝ) := by
  have hs := sol_at H h i (Chunk.hi d)
  unfold Ld.wk In.wk
  generalize L.sol = v at hs ⊢
  pointwise []
  simp only [Chunk.cat_hi] at hs
  exact hs

theorem att_at : Has L.att fun h i j => (S h).dec i j * (S h).qk i j * (S h).b j := by
  intro h h' i j
  have h1 := dec_at H h h' i j
  have h2 := qk_at H h i j
  have h3 := bt_at H (row h i) h' j
  unfold Ld.att
  generalize L.dec = v1 at h1 ⊢
  generalize L.qk = v2 at h2 ⊢
  generalize L.bt = v3 at h3 ⊢
  pointwise []
  rw [h1, h3, own_mul_of h h' _ _ _ (fun e => by rw [← e, h2])]
  exact own_mul_of _ _ _ _ _ fun e => by rw [e]

theorem qd_at (h : Fin 4) (i : Fin 64) (d : Fin 128) : @Eq EReal (L.qd (ix2 (row h i) d)) ((S h).gam i * (S h).q i d : ℝ) := by
  have h1 := H.g h i d
  have h2 := H.q h i d
  unfold Ld.qd
  generalize L.g = v1 at h1 ⊢
  generalize L.q = v2 at h2 ⊢
  pointwise []
  rw [h1, h2, Ideal.exp_coe, mul_comm, EReal.coe_mul]
  rfl

theorem ke_at (h : Fin 4) (i : Fin 64) (d : Fin 128) : @Eq EReal (L.ke (ix2 (row h i) d)) ((S h).k i d * ((S h).e i * (S h).b i) : ℝ) := by
  have hg := H.g
  have h1 := H.k h i d
  have h2 := H.b h i d
  unfold Ld.ke Ld.lasts In.e
  generalize L.g = v at hg ⊢
  generalize L.k = v1 at h1 ⊢
  generalize L.b = v2 at h2 ⊢
  pointwise [lastOf]
  rw [hg h i d, h1, h2, ← mul_assoc, EReal.coe_mul, EReal.coe_mul, ← Ideal.exp_coe, EReal.coe_sub, ← hg h 63 d]
  refine congrArg (_ * Ideal.exp · * _) (congrArg (· - _) ?_)
  have hr : (row h i).val = 64 * h.val + i.val := rfl
  have hi := i.isLt
  fin_cases h
  · rw [dif_pos (by rw [hr]; show 64 * 0 + i.val < 64; omega)]
    rfl
  · rw [dif_neg (by rw [hr]; show ¬ (64 * 1 + i.val < 64); omega), dif_pos (by rw [hr]; show 64 * 1 + i.val - 64 < 64; omega)]
    rfl
  · rw [dif_neg (by rw [hr]; show ¬ (64 * 2 + i.val < 64); omega), dif_neg (by rw [hr]; show ¬ (64 * 2 + i.val - 64 < 64); omega), dif_pos (by rw [hr]; show 64 * 2 + i.val - 64 - 64 < 64; omega)]
    rfl
  · rw [dif_neg (by rw [hr]; show ¬ (64 * 3 + i.val < 64); omega), dif_neg (by rw [hr]; show ¬ (64 * 3 + i.val - 64 < 64); omega), dif_neg (by rw [hr]; show ¬ (64 * 3 + i.val - 64 - 64 < 64); omega)]
    rfl

/-! The heads' columns apart. -/

omit H in
theorem hrow_at : ∀ r : Fin 256, IntOp.muli (IntOp.andi (BitVec.ofNat 32 r.val) 4294967232#32) 2#32 = BitVec.ofNat 32 (128 * (r.val / 64)) := by
  decide +kernel

omit H in
theorem hcol_at : ∀ s : Fin 512, IntOp.andi (BitVec.ofNat 32 s.val) 4294967168#32 = BitVec.ofNat 32 (128 * (s.val / 128)) := by
  decide +kernel

omit H in
theorem heq_at : ∀ h h' : Fin 4, IntOp.cmpi .eq (BitVec.ofNat 32 (128 * h.val)) (BitVec.ofNat 32 (128 * h'.val)) = if h = h' then 1#1 else 0#1 := by
  decide +kernel

omit H in
theorem headed_at (h h' : Fin 4) (i : Fin 64) (d : Fin 128) (s : Fin 512) (hs : s.val = 128 * h'.val + d.val) : headed (ix2 (row h i) s) = if h = h' then 1#1 else 0#1 := by
  pointwise [headed]
  rw [hrow_at, hcol_at, show (row h i).val / 64 = h.val by show (64 * h.val + i.val) / 64 = _; omega, show s.val / 128 = h'.val by omega, heq_at]

omit H in
theorem wide_at (x : FVec Ideal S256x128 .f32) (X : Fin 4 → Fin 64 → Fin 128 → ℝ) (hx : ∀ h i d, @Eq EReal (x (ix2 (row h i) d)) (X h i d : ℝ))
    (h h' : Fin 4) (i : Fin 64) (d : Fin 128) (s : Fin 512) (hs : s.val = 128 * h'.val + d.val) : @Eq EReal (wide (F := Ideal) x (ix2 (row h i) s)) (own h h' (X h i d)) := by
  have hm := headed_at h h' i d s hs
  unfold wide
  generalize headed = m at hm ⊢
  pointwise []
  rw [hm]
  by_cases e : h = h'
  · subst e
    rw [if_pos rfl, sel_true, own_self, ← hx h i d]
    have hd := d.isLt
    have hs' := s.isLt
    have c : ∀ a : Fin 128, a.val = s.val - 128 * h.val → x (ix2 (row h i) a) = x (ix2 (row h i) d) := fun a ha => by rw [show a = d from Fin.ext (by omega)]
    split_ifs <;> exact c _ (by show _ = _; simp only []; omega)
  · rw [if_neg e, sel_false, own_ne e]

end Cert.DeltaKIdeal.Value

end
-- ==== Proof.Delta.Blocks.lean ====
module

public import proofs.«01_k».proof.Proof.Delta.Point
public import proofs.«01_k».proof.Proof.Chunk.Value
public import proofs.«01_k».proof.Proof.Gen.DeltaKIdeal.Value

@[expose] public section

set_option maxRecDepth 16384

noncomputable section

open Idealize.ShloMosaic Idealize.ShloMosaic.TcCoe Idealize.SL.Sem
open Idealize.ShloMosaic.Pipeline (Dat)

namespace Cert.DeltaKIdeal.Value

open Cert.DeltaKIdeal Cert.DeltaKIdeal.Gen

open Reals
open Chunk (Mat In at2 col squared)
open Cert.ChunkKIdeal.Value (row own at4 four_at at2_eq at2_div at2_mod at2_join col_div col_mod)

variable (m : (ℓ : Loc nD τ sig) → Buf (Elt Ideal) ℓ)

/-- The arguments as launched; the cotangents are not there. -/
def args (c : Dev nD) : Chunk.Arr where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := fun _ => (0 : EReal)
  x6 := fun _ => (0 : EReal)
  x7 := fun _ => (0 : EReal)
  x8 := fun _ => (0 : EReal)
  x9 := fun _ => (0 : EReal)
  x10 := fun _ => (0 : EReal)

/-- Every window's block at a point: the point's own. -/
theorem idx : ∀ t : Fin cfg0.N, win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![t.val, 0] ∧ win0_8.index t = ![t.val, 0] ∧
    win0_9.index t = ![t.val, 0] ∧ win0_10.index t = ![t.val, 0] ∧ win0_11.index t = ![t.val, 0] ∧ t.val < 8 :=
  (by decide +kernel : ∀ t : Fin grid0.N, _)

theorem v2_eq (c : Dev nD) : V m c main_v2 = (args m c).gc := by
  unfold V hostOps0 hostOps0_1 hostOps0_2
  after_reads_simp
  rfl

theorem v7_eq (c : Dev nD) : V m c main_v7 = (shapeCast S2048x512 (transpose S32x64x4x128 [0, 2, 1, 3] (broadcastInDim S32x4x64x128 ![0, 1, 2] bcast_S32x4x64_S32x4x64x128_0_1_2 (show FVec Ideal S32x4x64 .f32 from V m c main_v2)) transposes_S32x4x64x128_S32x64x4x128_0_2_1_3) shapeCasts_S32x64x4x128_S2048x512 : FVec Ideal S2048x512 .f32) := by
  unfold V hostOps0 hostOps0_1 hostOps0_2
  after_reads_simp
  rfl

theorem blk0 (c : Dev nD) (t : Fin cfg0.N) (r : Fin 256) (l : Fin 512) (r' : Fin 2048) (hr : r'.val = 256 * t.val + r.val) :
    @Eq EReal ((iblk m c 0 t : FVec Ideal S256x512 .f32) (ix2 r l)) ((args m c).x0 (ix2 r' l)) := by
  unfold args
  blk_ext [iblk, V, idx t]

theorem blk1 (c : Dev nD) (t : Fin cfg0.N) (r : Fin 256) (l : Fin 512) (r' : Fin 2048) (hr : r'.val = 256 * t.val + r.val) :
    @Eq EReal ((iblk m c 1 t : FVec Ideal S256x512 .f32) (ix2 r l)) ((args m c).x1 (ix2 r' l)) := by
  unfold args
  blk_ext [iblk, V, idx t]

theorem blk2 (c : Dev nD) (t : Fin cfg0.N) (r : Fin 256) (l : Fin 512) (r' : Fin 2048) (hr : r'.val = 256 * t.val + r.val) :
    @Eq EReal ((iblk m c 2 t : FVec Ideal S256x512 .f32) (ix2 r l)) ((args m c).x2 (ix2 r' l)) := by
  unfold args
  blk_ext [iblk, V, idx t]

theorem blk3 (c : Dev nD) (t : Fin cfg0.N) (r : Fin 256) (l : Fin 512) (r' : Fin 2048) (hr : r'.val = 256 * t.val + r.val) :
    @Eq EReal ((iblk m c 3 t : FVec Ideal S256x512 .f32) (ix2 r l)) ((show FVec Ideal S2048x512 .f32 from V m c main_v7) (ix2 r' l)) := by
  show _ = (V m c main_v7 : FVec Ideal S2048x512 .f32) (ix2 r' l)
  unfold iblk
  generalize V m c = v
  blk_ext [idx t]

theorem blk4 (c : Dev nD) (t : Fin cfg0.N) (r : Fin 256) (l : Fin 512) (r' : Fin 2048) (hr : r'.val = 256 * t.val + r.val) :
    @Eq EReal ((iblk m c 4 t : FVec Ideal S256x512 .f32) (ix2 r l)) ((show FVec Ideal S2048x512 .f32 from V m c main_v10) (ix2 r' l)) := by
  show _ = (V m c main_v10 : FVec Ideal S2048x512 .f32) (ix2 r' l)
  unfold iblk
  generalize V m c = v
  blk_ext [idx t]

theorem pay6_eq (a b c d : FVec Ideal S64x128 .f32) : k0_pay6 (F := Ideal) a b c d = Cert.ChunkKIdeal.Gen.k0_pay5 a b c d := rfl
theorem pay7_eq (a b c d : FVec Ideal S64x128 .f32) : k0_pay7 (F := Ideal) a b c d = Cert.ChunkKIdeal.Gen.k0_pay5 a b c d := rfl
theorem pay8_eq (a b c d : FVec Ideal S64x128 .f32) : k0_pay8 (F := Ideal) a b c d = Cert.ChunkKIdeal.Gen.k0_pay5 a b c d := rfl

theorem pay10_eq (a b c d : FVec Ideal S64x128 .f32) : k0_pay10 (F := Ideal) (k0_pay9 a) b c d = Cert.ChunkKIdeal.Gen.k0_pay5 a b c d := by
  unfold k0_pay10 k0_pay9
  rw [shapeCast_self a, shapeCast_self b, shapeCast_self c, shapeCast_self d]
  rfl

theorem pay11_eq (a b c d : FVec Ideal S64x128 .f32) : k0_pay11 (F := Ideal) a b c d = Cert.ChunkKIdeal.Gen.k0_pay5 a b c d := by
  unfold k0_pay11
  rw [shapeCast_self a, shapeCast_self b, shapeCast_self c, shapeCast_self d]
  rfl

/-- What a block's five operands hold, chunk by chunk. -/
structure Blk (x0 x1 x2 x3 x4 : FVec Ideal S256x512 .f32) (S : Fin 4 → Fin 4 → In) : Prop where
  q : ∀ k h i d, @Eq EReal (x0 (ix2 (at4 k i) (col h d))) ((S k h).q i d : ℝ)
  k : ∀ k h i d, @Eq EReal (x1 (ix2 (at4 k i) (col h d))) ((S k h).k i d : ℝ)
  v : ∀ k h i d, @Eq EReal (x2 (ix2 (at4 k i) (col h d))) ((S k h).v i d : ℝ)
  g : ∀ k h i d, @Eq EReal (x3 (ix2 (at4 k i) (col h d))) ((S k h).gc i : ℝ)
  b : ∀ k h i d, @Eq EReal (x4 (ix2 (at4 k i) (col h d))) ((S k h).b i : ℝ)
  T : ∀ k h, (S k h).T = squared (-(S k h).low)

section

variable {x0 x1 x2 x3 x4 : FVec Ideal S256x512 .f32} {S : Fin 4 → Fin 4 → In} (B : Blk x0 x1 x2 x3 x4 S)

include B

theorem is0 : Is (ld0 x0 x1 x2 x3 x4) (S 0) where
  q h i d := (congrFun (pay6_eq _ _ _ _) _).trans (four_at _ 0 (fun h i d => (S 0 h).q i d) (B.q 0) 0 rfl _ _ _ _ h i d)
  k h i d := (congrFun (pay7_eq _ _ _ _) _).trans (four_at _ 0 (fun h i d => (S 0 h).k i d) (B.k 0) 0 rfl _ _ _ _ h i d)
  v h i d := (congrFun (pay8_eq _ _ _ _) _).trans (four_at _ 0 (fun h i d => (S 0 h).v i d) (B.v 0) 0 rfl _ _ _ _ h i d)
  g h i d := (congrFun (pay10_eq _ _ _ _) _).trans (four_at _ 0 (fun h i d => (S 0 h).gc i) (B.g 0) 0 rfl _ _ _ _ h i d)
  b h i d := (congrFun (pay11_eq _ _ _ _) _).trans (four_at _ 0 (fun h i d => (S 0 h).b i) (B.b 0) 0 rfl _ _ _ _ h i d)
  T := B.T 0

theorem is1 : Is (ld1 x0 x1 x2 x3 x4) (S 1) where
  q h i d := (congrFun (pay6_eq _ _ _ _) _).trans (four_at _ 1 (fun h i d => (S 1 h).q i d) (B.q 1) 64 rfl _ _ _ _ h i d)
  k h i d := (congrFun (pay7_eq _ _ _ _) _).trans (four_at _ 1 (fun h i d => (S 1 h).k i d) (B.k 1) 64 rfl _ _ _ _ h i d)
  v h i d := (congrFun (pay8_eq _ _ _ _) _).trans (four_at _ 1 (fun h i d => (S 1 h).v i d) (B.v 1) 64 rfl _ _ _ _ h i d)
  g h i d := (congrFun (pay10_eq _ _ _ _) _).trans (four_at _ 1 (fun h i d => (S 1 h).gc i) (B.g 1) 64 rfl _ _ _ _ h i d)
  b h i d := (congrFun (pay11_eq _ _ _ _) _).trans (four_at _ 1 (fun h i d => (S 1 h).b i) (B.b 1) 64 rfl _ _ _ _ h i d)
  T := B.T 1

theorem is2 : Is (ld2 x0 x1 x2 x3 x4) (S 2) where
  q h i d := (congrFun (pay6_eq _ _ _ _) _).trans (four_at _ 2 (fun h i d => (S 2 h).q i d) (B.q 2) 128 rfl _ _ _ _ h i d)
  k h i d := (congrFun (pay7_eq _ _ _ _) _).trans (four_at _ 2 (fun h i d => (S 2 h).k i d) (B.k 2) 128 rfl _ _ _ _ h i d)
  v h i d := (congrFun (pay8_eq _ _ _ _) _).trans (four_at _ 2 (fun h i d => (S 2 h).v i d) (B.v 2) 128 rfl _ _ _ _ h i d)
  g h i d := (congrFun (pay10_eq _ _ _ _) _).trans (four_at _ 2 (fun h i d => (S 2 h).gc i) (B.g 2) 128 rfl _ _ _ _ h i d)
  b h i d := (congrFun (pay11_eq _ _ _ _) _).trans (four_at _ 2 (fun h i d => (S 2 h).b i) (B.b 2) 128 rfl _ _ _ _ h i d)
  T := B.T 2

theorem is3 : Is (ld3 x0 x1 x2 x3 x4) (S 3) where
  q h i d := (congrFun (pay6_eq _ _ _ _) _).trans (four_at _ 3 (fun h i d => (S 3 h).q i d) (B.q 3) 192 rfl _ _ _ _ h i d)
  k h i d := (congrFun (pay7_eq _ _ _ _) _).trans (four_at _ 3 (fun h i d => (S 3 h).k i d) (B.k 3) 192 rfl _ _ _ _ h i d)
  v h i d := (congrFun (pay8_eq _ _ _ _) _).trans (four_at _ 3 (fun h i d => (S 3 h).v i d) (B.v 3) 192 rfl _ _ _ _ h i d)
  g h i d := (congrFun (pay10_eq _ _ _ _) _).trans (four_at _ 3 (fun h i d => (S 3 h).gc i) (B.g 3) 192 rfl _ _ _ _ h i d)
  b h i d := (congrFun (pay11_eq _ _ _ _) _).trans (four_at _ 3 (fun h i d => (S 3 h).b i) (B.b 3) 192 rfl _ _ _ _ h i d)
  T := B.T 3

end

/-- Chunk `k` of a point's block. -/
def chunk (t : Fin cfg0.N) (k : Fin 4) : Fin 32 := ⟨4 * t.val + k.val, by have : t.val < 8 := t.isLt; omega⟩

theorem at2_at4 (t : Fin cfg0.N) (k : Fin 4) (i : Fin 64) : (at2 (chunk t k) i).val = 256 * t.val + (at4 k i).val := by
  show 64 * (4 * t.val + k.val) + i.val = 256 * t.val + (64 * k.val + i.val)
  omega

variable (hA : ∀ c, (args m c).Ok)
include hA

theorem gcr_at (c : Dev nD) (n : Fin 32) (h : Fin 4) (i : Fin 64) (d : Fin 128) :
    @Eq EReal ((show FVec Ideal S2048x512 .f32 from V m c main_v7) (ix2 (at2 n i) (col h d))) (((args m c).S n h).gc i : ℝ) := by
  have e := v7_eq m c
  have g := Chunk.gc_real _ (hA c)
  rw [← v2_eq m c] at g
  generalize V m c main_v7 = y at e ⊢
  generalize V m c main_v2 = x at e g ⊢
  subst e
  refine Eq.trans ?_ (g n h i)
  pointwise []
  rw [at2_div, col_div, at2_mod]

theorem br_at (c : Dev nD) (n : Fin 32) (h : Fin 4) (i : Fin 64) (d : Fin 128) :
    @Eq EReal ((show FVec Ideal S2048x512 .f32 from V m c main_v10) (ix2 (at2 n i) (col h d))) (((args m c).S n h).b i : ℝ) := by
  refine Eq.trans ?_ (Chunk.b_real _ (hA c) n h i)
  show (V m c main_v10 : FVec Ideal S2048x512 .f32) _ = _
  unfold V hostOps0 hostOps0_1 hostOps0_2
  after_reads_at
  rw [at2_join, col_div]
  rfl

theorem blk_is (c : Dev nD) (t : Fin cfg0.N) : Blk (iblk m c 0 t) (iblk m c 1 t) (iblk m c 2 t) (iblk m c 3 t) (iblk m c 4 t) (fun k h => (args m c).S (chunk t k) h) where
  q k h i d := (blk0 m c t _ _ _ (at2_at4 t k i)).trans (Chunk.q_real _ (hA c) _ h i d)
  k k h i d := (blk1 m c t _ _ _ (at2_at4 t k i)).trans (Chunk.k_real _ (hA c) _ h i d)
  v k h i d := (blk2 m c t _ _ _ (at2_at4 t k i)).trans (Chunk.v_real _ (hA c) _ h i d)
  g k h i d := (blk3 m c t _ _ _ (at2_at4 t k i)).trans (gcr_at m hA c _ h i d)
  b k h i d := (blk4 m c t _ _ _ (at2_at4 t k i)).trans (br_at m hA c _ h i d)
  T k h := Chunk.Arr.S_T' _ _ _

end Cert.DeltaKIdeal.Value

end
-- ==== Proof.Delta.Value.lean ====
module

public import proofs.«01_k».proof.Proof.Delta.Blocks

@[expose] public section

set_option maxRecDepth 16384

noncomputable section

open Idealize.ShloMosaic Idealize.ShloMosaic.TcCoe Idealize.SL.Sem
open Idealize.ShloMosaic.Pipeline (Dat)

namespace Cert.DeltaKIdeal.Value

open Cert.DeltaKIdeal Cert.DeltaKIdeal.Gen

open Reals
open Chunk (Mat In at2 col squared)
open Cert.ChunkKIdeal.Value (row own at4 piece of_row in_row of_col in_col)

theorem block_wide (D0 D1 D2 D3 : FVec Ideal S256x128 .f32) (X : Fin 4 → Fin 4 → Fin 64 → Fin 128 → ℝ) (g0 : ∀ h i d, @Eq EReal (D0 (ix2 (row h i) d)) (X 0 h i d : ℝ))
    (g1 : ∀ h i d, @Eq EReal (D1 (ix2 (row h i) d)) (X 1 h i d : ℝ)) (g2 : ∀ h i d, @Eq EReal (D2 (ix2 (row h i) d)) (X 2 h i d : ℝ))
    (g3 : ∀ h i d, @Eq EReal (D3 (ix2 (row h i) d)) (X 3 h i d : ℝ)) (y : S256x512.Idx) (k h : Fin 4) (i : Fin 64) (d : Fin 128) (e0 : (y 0 : ℕ) = 64 * k.val + i.val) (e1 : (y 1 : ℕ) = 128 * h.val + d.val) :
    @Eq EReal ((View.canon (Val := Elt Ideal) (s := S256x512) (e := .f32) [⟨r0_21, sl3 (F := Ideal) D3⟩, ⟨r0_20, sl2 (F := Ideal) D3⟩, ⟨r0_19, sl1 (F := Ideal) D3⟩, ⟨r0_18, sl0 (F := Ideal) D3⟩, ⟨r0_15, sl3 (F := Ideal) D2⟩, ⟨r0_14, sl2 (F := Ideal) D2⟩, ⟨r0_13, sl1 (F := Ideal) D2⟩, ⟨r0_12, sl0 (F := Ideal) D2⟩, ⟨r0_9, sl3 (F := Ideal) D1⟩, ⟨r0_8, sl2 (F := Ideal) D1⟩, ⟨r0_7, sl1 (F := Ideal) D1⟩, ⟨r0_6, sl0 (F := Ideal) D1⟩, ⟨r0_3, sl3 (F := Ideal) D0⟩, ⟨r0_2, sl2 (F := Ideal) D0⟩, ⟨r0_1, sl1 (F := Ideal) D0⟩, ⟨r0_0, sl0 (F := Ideal) D0⟩] : FVec Ideal S256x512 .f32) y) (X k h i d : ℝ) :=
  Cert.ChunkKIdeal.Value.block_wide D0 D1 D2 D3 X g0 g1 g2 g3 y k h i d e0 e1

theorem wide_block_at (t : Fin cfg0.N) (D0 D1 D2 D3 : FVec Ideal S256x128 .f32) (X : Fin 4 → Fin 4 → Fin 64 → Fin 128 → ℝ) (Z : Fin 32 → Fin 4 → Fin 64 → Fin 128 → ℝ)
    (hX : ∀ k h i d, X k h i d = Z (chunk t k) h i d) (g0 : ∀ h i d, @Eq EReal (D0 (ix2 (row h i) d)) (X 0 h i d : ℝ))
    (g1 : ∀ h i d, @Eq EReal (D1 (ix2 (row h i) d)) (X 1 h i d : ℝ)) (g2 : ∀ h i d, @Eq EReal (D2 (ix2 (row h i) d)) (X 2 h i d : ℝ))
    (g3 : ∀ h i d, @Eq EReal (D3 (ix2 (row h i) d)) (X 3 h i d : ℝ)) (y : S256x512.Idx) (r : Fin 2048) (s : Fin 512) (e0 : r.val = 256 * t.val + (y 0 : ℕ)) (e1 : s.val = (y 1 : ℕ)) :
    @Eq EReal ((View.canon (Val := Elt Ideal) (s := S256x512) (e := .f32) [⟨r0_21, sl3 (F := Ideal) D3⟩, ⟨r0_20, sl2 (F := Ideal) D3⟩, ⟨r0_19, sl1 (F := Ideal) D3⟩, ⟨r0_18, sl0 (F := Ideal) D3⟩, ⟨r0_15, sl3 (F := Ideal) D2⟩, ⟨r0_14, sl2 (F := Ideal) D2⟩, ⟨r0_13, sl1 (F := Ideal) D2⟩, ⟨r0_12, sl0 (F := Ideal) D2⟩, ⟨r0_9, sl3 (F := Ideal) D1⟩, ⟨r0_8, sl2 (F := Ideal) D1⟩, ⟨r0_7, sl1 (F := Ideal) D1⟩, ⟨r0_6, sl0 (F := Ideal) D1⟩, ⟨r0_3, sl3 (F := Ideal) D0⟩, ⟨r0_2, sl2 (F := Ideal) D0⟩, ⟨r0_1, sl1 (F := Ideal) D0⟩, ⟨r0_0, sl0 (F := Ideal) D0⟩] : FVec Ideal S256x512 .f32) y) (Z (of_row r) (of_col s) (in_row r) (in_col s) : ℝ) := by
  have ht : t.val < 8 := t.isLt
  have h0 : (y 0 : ℕ) < 256 := (y 0).isLt
  have h1 : (y 1 : ℕ) < 512 := (y 1).isLt
  refine (block_wide D0 D1 D2 D3 X g0 g1 g2 g3 y ⟨(y 0 : ℕ) / 64, by omega⟩ (of_col s) (in_row r) (in_col s) ?_ ?_).trans ?_
  · show (y 0 : ℕ) = 64 * ((y 0 : ℕ) / 64) + r.val % 64; omega
  · show (y 1 : ℕ) = 128 * (s.val / 128) + s.val % 128; omega
  · rw [hX, show chunk t ⟨(y 0 : ℕ) / 64, by omega⟩ = of_row r from Fin.ext (by show 4 * t.val + (y 0 : ℕ) / 64 = r.val / 64; omega)]

/-! Where a stacked row's and a head's column's numbers are. -/

def st_chunk (r : Fin 8192) : Fin 32 := ⟨r.val / 256, by omega⟩
def st_head (r : Fin 8192) : Fin 4 := ⟨r.val / 64 % 4, by omega⟩
def st_row (r : Fin 8192) : Fin 64 := ⟨r.val % 64, by omega⟩
def sq_head (s : Fin 256) : Fin 4 := ⟨s.val / 64, by omega⟩
def sq_col (s : Fin 256) : Fin 64 := ⟨s.val % 64, by omega⟩

theorem block_sq (D0 D1 D2 D3 : FVec Ideal S256x256 .f32) (X : Fin 4 → Fin 4 → Fin 64 → Fin 64 → ℝ) (g0 : ∀ h h' i j, @Eq EReal (D0 (ix2 (row h i) (row h' j))) (own h h' (X 0 h i j)))
    (g1 : ∀ h h' i j, @Eq EReal (D1 (ix2 (row h i) (row h' j))) (own h h' (X 1 h i j))) (g2 : ∀ h h' i j, @Eq EReal (D2 (ix2 (row h i) (row h' j))) (own h h' (X 2 h i j))) (g3 : ∀ h h' i j, @Eq EReal (D3 (ix2 (row h i) (row h' j))) (own h h' (X 3 h i j)))
    (y : S1024x256.Idx) (k h h' : Fin 4) (i : Fin 64) (j : Fin 64) (e0 : (y 0 : ℕ) = 256 * k.val + 64 * h.val + i.val) (e1 : (y 1 : ℕ) = 64 * h'.val + j.val) :
    @Eq EReal ((View.canon (Val := Elt Ideal) (s := S1024x256) (e := .f32) [⟨r0_22, D3⟩, ⟨r0_16, D2⟩, ⟨r0_10, D1⟩, ⟨r0_4, D0⟩] : FVec Ideal S1024x256 .f32) y) (own h h' (X k h i j)) := by
  have hd : ∀ (v : FVec Ideal S256x256 .f32) (K : Fin 4) (g : ∀ h h' i j, @Eq EReal (v (ix2 (row h i) (row h' j))) (own h h' (X K h i j))) (x0 : Fin 256) (x1 : Fin 256) (a b : ℕ) (h0 : a = 256 * K.val + x0.val) (h1 : b = x1.val)
      (e0 : a = 256 * k.val + 64 * h.val + i.val) (e1 : b = 64 * h'.val + j.val), @Eq EReal (v (ix2 x0 x1)) (own h h' (X k h i j)) := by
    intro v K g x0 x1 a b h0 h1 e0 e1
    obtain rfl : k = K := Fin.ext (by omega)
    obtain rfl : x0 = row h i := Fin.ext (by show _ = 64 * h.val + i.val; omega)
    obtain rfl : x1 = row h' j := Fin.ext (by show _ = 64 * h'.val + j.val; omega)
    exact g _ _ _ _
  canon_tiles x h using (cover0_7 (F := Ideal) _ _ _ _ y)
  · idx_vars x; exact hd _ 3 g3 _ _ _ _ (h0.trans (by first | rfl | exact (Nat.zero_add _).symm)) h1 e0 e1
  · idx_vars x; exact hd _ 2 g2 _ _ _ _ (h0.trans (by first | rfl | exact (Nat.zero_add _).symm)) h1 e0 e1
  · idx_vars x; exact hd _ 1 g1 _ _ _ _ (h0.trans (by first | rfl | exact (Nat.zero_add _).symm)) h1 e0 e1
  · idx_vars x; exact hd _ 0 g0 _ _ _ _ (h0.trans (by first | rfl | exact (Nat.zero_add _).symm)) h1 e0 e1

theorem sq_block_at (t : Fin cfg0.N) (D0 D1 D2 D3 : FVec Ideal S256x256 .f32) (X : Fin 4 → Fin 4 → Fin 64 → Fin 64 → ℝ) (Z : Fin 32 → Fin 4 → Fin 64 → Fin 64 → ℝ)
    (hX : ∀ k h i j, X k h i j = Z (chunk t k) h i j) (g0 : ∀ h h' i j, @Eq EReal (D0 (ix2 (row h i) (row h' j))) (own h h' (X 0 h i j)))
    (g1 : ∀ h h' i j, @Eq EReal (D1 (ix2 (row h i) (row h' j))) (own h h' (X 1 h i j))) (g2 : ∀ h h' i j, @Eq EReal (D2 (ix2 (row h i) (row h' j))) (own h h' (X 2 h i j))) (g3 : ∀ h h' i j, @Eq EReal (D3 (ix2 (row h i) (row h' j))) (own h h' (X 3 h i j)))
    (y : S1024x256.Idx) (r : Fin 8192) (s : Fin 256) (e0 : r.val = 1024 * t.val + (y 0 : ℕ)) (e1 : s.val = (y 1 : ℕ)) :
    @Eq EReal ((View.canon (Val := Elt Ideal) (s := S1024x256) (e := .f32) [⟨r0_22, D3⟩, ⟨r0_16, D2⟩, ⟨r0_10, D1⟩, ⟨r0_4, D0⟩] : FVec Ideal S1024x256 .f32) y) (own (st_head r) (sq_head s) (Z (st_chunk r) (st_head r) (st_row r) (sq_col s))) := by
  have ht : t.val < 8 := t.isLt
  have h0 : (y 0 : ℕ) < 1024 := (y 0).isLt
  have h1 : (y 1 : ℕ) < 256 := (y 1).isLt
  refine (block_sq D0 D1 D2 D3 X g0 g1 g2 g3 y ⟨(y 0 : ℕ) / 256, by omega⟩ (st_head r) (sq_head s) (st_row r) (sq_col s) ?_ ?_).trans ?_
  · show (y 0 : ℕ) = 256 * ((y 0 : ℕ) / 256) + 64 * (r.val / 64 % 4) + r.val % 64; omega
  · show (y 1 : ℕ) = 64 * (s.val / 64) + s.val % 64; omega
  · rw [hX, show chunk t ⟨(y 0 : ℕ) / 256, by omega⟩ = st_chunk r from Fin.ext (by show 4 * t.val + (y 0 : ℕ) / 256 = r.val / 256; omega)]

theorem block_hd (D0 D1 D2 D3 : FVec Ideal S256x512 .bf16) (X : Fin 4 → Fin 4 → Fin 64 → Fin 128 → ℝ) (g0 : ∀ (h h' : Fin 4) (i : Fin 64) (j : Fin 128) (s : Fin 512), s.val = 128 * h'.val + j.val → @Eq EReal (D0 (ix2 (row h i) s)) (own h h' (X 0 h i j)))
    (g1 : ∀ (h h' : Fin 4) (i : Fin 64) (j : Fin 128) (s : Fin 512), s.val = 128 * h'.val + j.val → @Eq EReal (D1 (ix2 (row h i) s)) (own h h' (X 1 h i j))) (g2 : ∀ (h h' : Fin 4) (i : Fin 64) (j : Fin 128) (s : Fin 512), s.val = 128 * h'.val + j.val → @Eq EReal (D2 (ix2 (row h i) s)) (own h h' (X 2 h i j))) (g3 : ∀ (h h' : Fin 4) (i : Fin 64) (j : Fin 128) (s : Fin 512), s.val = 128 * h'.val + j.val → @Eq EReal (D3 (ix2 (row h i) s)) (own h h' (X 3 h i j)))
    (y : S1024x512.Idx) (k h h' : Fin 4) (i : Fin 64) (j : Fin 128) (e0 : (y 0 : ℕ) = 256 * k.val + 64 * h.val + i.val) (e1 : (y 1 : ℕ) = 128 * h'.val + j.val) :
    @Eq EReal ((View.canon (Val := Elt Ideal) (s := S1024x512) (e := .bf16) [⟨r0_23, D3⟩, ⟨r0_17, D2⟩, ⟨r0_11, D1⟩, ⟨r0_5, D0⟩] : FVec Ideal S1024x512 .bf16) y) (own h h' (X k h i j)) := by
  have hd : ∀ (v : FVec Ideal S256x512 .bf16) (K : Fin 4) (g : ∀ (h h' : Fin 4) (i : Fin 64) (j : Fin 128) (s : Fin 512), s.val = 128 * h'.val + j.val → @Eq EReal (v (ix2 (row h i) s)) (own h h' (X K h i j))) (x0 : Fin 256) (x1 : Fin 512) (a b : ℕ) (h0 : a = 256 * K.val + x0.val) (h1 : b = x1.val)
      (e0 : a = 256 * k.val + 64 * h.val + i.val) (e1 : b = 128 * h'.val + j.val), @Eq EReal (v (ix2 x0 x1)) (own h h' (X k h i j)) := by
    intro v K g x0 x1 a b h0 h1 e0 e1
    obtain rfl : k = K := Fin.ext (by omega)
    obtain rfl : x0 = row h i := Fin.ext (by show _ = 64 * h.val + i.val; omega)
    exact g _ _ _ _ _ (by omega)
  canon_tiles x h using (cover0_9 (F := Ideal) _ _ _ _ y)
  · idx_vars x; exact hd _ 3 g3 _ _ _ _ (h0.trans (by first | rfl | exact (Nat.zero_add _).symm)) h1 e0 e1
  · idx_vars x; exact hd _ 2 g2 _ _ _ _ (h0.trans (by first | rfl | exact (Nat.zero_add _).symm)) h1 e0 e1
  · idx_vars x; exact hd _ 1 g1 _ _ _ _ (h0.trans (by first | rfl | exact (Nat.zero_add _).symm)) h1 e0 e1
  · idx_vars x; exact hd _ 0 g0 _ _ _ _ (h0.trans (by first | rfl | exact (Nat.zero_add _).symm)) h1 e0 e1

theorem hd_block_at (t : Fin cfg0.N) (D0 D1 D2 D3 : FVec Ideal S256x512 .bf16) (X : Fin 4 → Fin 4 → Fin 64 → Fin 128 → ℝ) (Z : Fin 32 → Fin 4 → Fin 64 → Fin 128 → ℝ)
    (hX : ∀ k h i j, X k h i j = Z (chunk t k) h i j) (g0 : ∀ (h h' : Fin 4) (i : Fin 64) (j : Fin 128) (s : Fin 512), s.val = 128 * h'.val + j.val → @Eq EReal (D0 (ix2 (row h i) s)) (own h h' (X 0 h i j)))
    (g1 : ∀ (h h' : Fin 4) (i : Fin 64) (j : Fin 128) (s : Fin 512), s.val = 128 * h'.val + j.val → @Eq EReal (D1 (ix2 (row h i) s)) (own h h' (X 1 h i j))) (g2 : ∀ (h h' : Fin 4) (i : Fin 64) (j : Fin 128) (s : Fin 512), s.val = 128 * h'.val + j.val → @Eq EReal (D2 (ix2 (row h i) s)) (own h h' (X 2 h i j))) (g3 : ∀ (h h' : Fin 4) (i : Fin 64) (j : Fin 128) (s : Fin 512), s.val = 128 * h'.val + j.val → @Eq EReal (D3 (ix2 (row h i) s)) (own h h' (X 3 h i j)))
    (y : S1024x512.Idx) (r : Fin 8192) (s : Fin 512) (e0 : r.val = 1024 * t.val + (y 0 : ℕ)) (e1 : s.val = (y 1 : ℕ)) :
    @Eq EReal ((View.canon (Val := Elt Ideal) (s := S1024x512) (e := .bf16) [⟨r0_23, D3⟩, ⟨r0_17, D2⟩, ⟨r0_11, D1⟩, ⟨r0_5, D0⟩] : FVec Ideal S1024x512 .bf16) y) (own (st_head r) (of_col s) (Z (st_chunk r) (st_head r) (st_row r) (in_col s))) := by
  have ht : t.val < 8 := t.isLt
  have h0 : (y 0 : ℕ) < 1024 := (y 0).isLt
  have h1 : (y 1 : ℕ) < 512 := (y 1).isLt
  refine (block_hd D0 D1 D2 D3 X g0 g1 g2 g3 y ⟨(y 0 : ℕ) / 256, by omega⟩ (st_head r) (of_col s) (st_row r) (in_col s) ?_ ?_).trans ?_
  · show (y 0 : ℕ) = 256 * ((y 0 : ℕ) / 256) + 64 * (r.val / 64 % 4) + r.val % 64; omega
  · show (y 1 : ℕ) = 128 * (s.val / 128) + s.val % 128; omega
  · rw [hX, show chunk t ⟨(y 0 : ℕ) / 256, by omega⟩ = st_chunk r from Fin.ext (by show 4 * t.val + (y 0 : ℕ) / 256 = r.val / 256; omega)]

/-! The seven results. -/

variable (m : (ℓ : Loc nD τ sig) → Buf (Elt Ideal) ℓ) (hA : ∀ c, (args m c).Ok)
include hA

theorem final5 (c : Dev nD) : (dats m 0 c).arrAt 5 cfg0.N = fun y => ((((args m c).S (of_row (y 0)) (of_col (y 1))).uv (in_row (y 0)) (in_col (y 1)) : ℝ) : EReal) := by
  refine (dats m 0 c).arrAt_eq_of_covers 5 _ (by decide +kernel) fun t _ y => ?_
  blk_simp
  rw [after0_5]
  have e0 : ((((View.whole main_v11_0).slice (win0_5.rect t)).emb y 0 : Fin _) : ℕ) = 256 * t.val + y 0 := by blk_simp [idx t]; omega
  have e1 : ((((View.whole main_v11_0).slice (win0_5.rect t)).emb y 1 : Fin _) : ℕ) = y 1 := by blk_simp [idx t]
  rw [out5_eq]
  have hB := blk_is m hA c t
  exact wide_block_at t _ _ _ _ (fun k h i d => ((args m c).S (chunk t k) h).uv i d) (fun n h i d => ((args m c).S n h).uv i d) (fun k h i d => rfl)
    (uv_at (is0 hB)) (uv_at (is1 hB)) (uv_at (is2 hB)) (uv_at (is3 hB)) y _ _ e0 e1

theorem final6 (c : Dev nD) : (dats m 0 c).arrAt 6 cfg0.N = fun y => ((((args m c).S (of_row (y 0)) (of_col (y 1))).wk (in_row (y 0)) (in_col (y 1)) : ℝ) : EReal) := by
  refine (dats m 0 c).arrAt_eq_of_covers 6 _ (by decide +kernel) fun t _ y => ?_
  blk_simp
  rw [after0_6]
  have e0 : ((((View.whole main_v11_1).slice (win0_6.rect t)).emb y 0 : Fin _) : ℕ) = 256 * t.val + y 0 := by blk_simp [idx t]; omega
  have e1 : ((((View.whole main_v11_1).slice (win0_6.rect t)).emb y 1 : Fin _) : ℕ) = y 1 := by blk_simp [idx t]
  rw [out6_eq]
  have hB := blk_is m hA c t
  exact wide_block_at t _ _ _ _ (fun k h i d => ((args m c).S (chunk t k) h).wk i d) (fun n h i d => ((args m c).S n h).wk i d) (fun k h i d => rfl)
    (wk_at (is0 hB)) (wk_at (is1 hB)) (wk_at (is2 hB)) (wk_at (is3 hB)) y _ _ e0 e1

theorem final7 (c : Dev nD) : (dats m 0 c).arrAt 7 cfg0.N = fun y => own (st_head (y 0)) (sq_head (y 1)) (((args m c).S (st_chunk (y 0)) (st_head (y 0))).dec (st_row (y 0)) (sq_col (y 1)) * ((args m c).S (st_chunk (y 0)) (st_head (y 0))).qk (st_row (y 0)) (sq_col (y 1)) * ((args m c).S (st_chunk (y 0)) (st_head (y 0))).b (sq_col (y 1))) := by
  refine (dats m 0 c).arrAt_eq_of_covers 7 _ (by decide +kernel) fun t _ y => ?_
  blk_simp
  rw [after0_7]
  have e0 : ((((View.whole main_v11_2).slice (win0_7.rect t)).emb y 0 : Fin _) : ℕ) = 1024 * t.val + y 0 := by blk_simp [idx t]; omega
  have e1 : ((((View.whole main_v11_2).slice (win0_7.rect t)).emb y 1 : Fin _) : ℕ) = y 1 := by blk_simp [idx t]
  rw [out7_eq]
  have hB := blk_is m hA c t
  exact sq_block_at t _ _ _ _ (fun k h i d => ((args m c).S (chunk t k) h).dec i d * ((args m c).S (chunk t k) h).qk i d * ((args m c).S (chunk t k) h).b d) (fun n h i d => ((args m c).S n h).dec i d * ((args m c).S n h).qk i d * ((args m c).S n h).b d) (fun k h i d => rfl)
    (att_at (is0 hB)) (att_at (is1 hB)) (att_at (is2 hB)) (att_at (is3 hB)) y _ _ e0 e1

theorem final8 (c : Dev nD) : (dats m 0 c).arrAt 8 cfg0.N = fun y => own (st_head (y 0)) (sq_head (y 1)) (((args m c).S (st_chunk (y 0)) (st_head (y 0))).T (st_row (y 0)) (sq_col (y 1))) := by
  refine (dats m 0 c).arrAt_eq_of_covers 8 _ (by decide +kernel) fun t _ y => ?_
  blk_simp
  rw [after0_8]
  have e0 : ((((View.whole main_v11_3).slice (win0_8.rect t)).emb y 0 : Fin _) : ℕ) = 1024 * t.val + y 0 := by blk_simp [idx t]; omega
  have e1 : ((((View.whole main_v11_3).slice (win0_8.rect t)).emb y 1 : Fin _) : ℕ) = y 1 := by blk_simp [idx t]
  rw [out8_eq]
  have hB := blk_is m hA c t
  exact sq_block_at t _ _ _ _ (fun k h i d => ((args m c).S (chunk t k) h).T i d) (fun n h i d => ((args m c).S n h).T i d) (fun k h i d => rfl)
    (t_at (is0 hB)) (t_at (is1 hB)) (t_at (is2 hB)) (t_at (is3 hB)) y _ _ e0 e1

theorem final9 (c : Dev nD) : (dats m 0 c).arrAt 9 cfg0.N = fun y => own (st_head (y 0)) (of_col (y 1)) (((args m c).S (st_chunk (y 0)) (st_head (y 0))).wk (st_row (y 0)) (in_col (y 1))) := by
  refine (dats m 0 c).arrAt_eq_of_covers 9 _ (by decide +kernel) fun t _ y => ?_
  blk_simp
  rw [after0_9]
  have e0 : ((((View.whole main_v11_4).slice (win0_9.rect t)).emb y 0 : Fin _) : ℕ) = 1024 * t.val + y 0 := by blk_simp [idx t]; omega
  have e1 : ((((View.whole main_v11_4).slice (win0_9.rect t)).emb y 1 : Fin _) : ℕ) = y 1 := by blk_simp [idx t]
  rw [out9_eq]
  have hB := blk_is m hA c t
  exact hd_block_at t _ _ _ _ (fun k h i d => ((args m c).S (chunk t k) h).wk i d) (fun n h i d => ((args m c).S n h).wk i d) (fun k h i d => rfl)
    (wide_at _ (fun h i d => ((args m c).S (chunk t 0) h).wk i d) (wk_at (is0 hB))) (wide_at _ (fun h i d => ((args m c).S (chunk t 1) h).wk i d) (wk_at (is1 hB))) (wide_at _ (fun h i d => ((args m c).S (chunk t 2) h).wk i d) (wk_at (is2 hB))) (wide_at _ (fun h i d => ((args m c).S (chunk t 3) h).wk i d) (wk_at (is3 hB))) y _ _ e0 e1

theorem final10 (c : Dev nD) : (dats m 0 c).arrAt 10 cfg0.N = fun y => own (st_head (y 0)) (of_col (y 1)) (((args m c).S (st_chunk (y 0)) (st_head (y 0))).gam (st_row (y 0)) * ((args m c).S (st_chunk (y 0)) (st_head (y 0))).q (st_row (y 0)) (in_col (y 1))) := by
  refine (dats m 0 c).arrAt_eq_of_covers 10 _ (by decide +kernel) fun t _ y => ?_
  blk_simp
  rw [after0_10]
  have e0 : ((((View.whole main_v11_5).slice (win0_10.rect t)).emb y 0 : Fin _) : ℕ) = 1024 * t.val + y 0 := by blk_simp [idx t]; omega
  have e1 : ((((View.whole main_v11_5).slice (win0_10.rect t)).emb y 1 : Fin _) : ℕ) = y 1 := by blk_simp [idx t]
  rw [out10_eq]
  have hB := blk_is m hA c t
  exact hd_block_at t _ _ _ _ (fun k h i d => ((args m c).S (chunk t k) h).gam i * ((args m c).S (chunk t k) h).q i d) (fun n h i d => ((args m c).S n h).gam i * ((args m c).S n h).q i d) (fun k h i d => rfl)
    (wide_at _ (fun h i d => ((args m c).S (chunk t 0) h).gam i * ((args m c).S (chunk t 0) h).q i d) (qd_at (is0 hB))) (wide_at _ (fun h i d => ((args m c).S (chunk t 1) h).gam i * ((args m c).S (chunk t 1) h).q i d) (qd_at (is1 hB))) (wide_at _ (fun h i d => ((args m c).S (chunk t 2) h).gam i * ((args m c).S (chunk t 2) h).q i d) (qd_at (is2 hB))) (wide_at _ (fun h i d => ((args m c).S (chunk t 3) h).gam i * ((args m c).S (chunk t 3) h).q i d) (qd_at (is3 hB))) y _ _ e0 e1

theorem final11 (c : Dev nD) : (dats m 0 c).arrAt 11 cfg0.N = fun y => own (st_head (y 0)) (of_col (y 1)) (((args m c).S (st_chunk (y 0)) (st_head (y 0))).k (st_row (y 0)) (in_col (y 1)) * (((args m c).S (st_chunk (y 0)) (st_head (y 0))).e (st_row (y 0)) * ((args m c).S (st_chunk (y 0)) (st_head (y 0))).b (st_row (y 0)))) := by
  refine (dats m 0 c).arrAt_eq_of_covers 11 _ (by decide +kernel) fun t _ y => ?_
  blk_simp
  rw [after0_11]
  have e0 : ((((View.whole main_v11_6).slice (win0_11.rect t)).emb y 0 : Fin _) : ℕ) = 1024 * t.val + y 0 := by blk_simp [idx t]; omega
  have e1 : ((((View.whole main_v11_6).slice (win0_11.rect t)).emb y 1 : Fin _) : ℕ) = y 1 := by blk_simp [idx t]
  rw [out11_eq]
  have hB := blk_is m hA c t
  exact hd_block_at t _ _ _ _ (fun k h i d => ((args m c).S (chunk t k) h).k i d * (((args m c).S (chunk t k) h).e i * ((args m c).S (chunk t k) h).b i)) (fun n h i d => ((args m c).S n h).k i d * (((args m c).S n h).e i * ((args m c).S n h).b i)) (fun k h i d => rfl)
    (wide_at _ (fun h i d => ((args m c).S (chunk t 0) h).k i d * (((args m c).S (chunk t 0) h).e i * ((args m c).S (chunk t 0) h).b i)) (ke_at (is0 hB))) (wide_at _ (fun h i d => ((args m c).S (chunk t 1) h).k i d * (((args m c).S (chunk t 1) h).e i * ((args m c).S (chunk t 1) h).b i)) (ke_at (is1 hB))) (wide_at _ (fun h i d => ((args m c).S (chunk t 2) h).k i d * (((args m c).S (chunk t 2) h).e i * ((args m c).S (chunk t 2) h).b i)) (ke_at (is2 hB))) (wide_at _ (fun h i d => ((args m c).S (chunk t 3) h).k i d * (((args m c).S (chunk t 3) h).e i * ((args m c).S (chunk t 3) h).b i)) (ke_at (is3 hB))) y _ _ e0 e1

end Cert.DeltaKIdeal.Value

end
-- ==== Proof.Delta.Ref.lean ====
module

public import proofs.«01_k».proof.Proof.Gen.DeltaRIdeal.Read
public import proofs.«01_k».proof.Proof.Chunk.Ref
public import proofs.«01_k».proof.Proof.Delta.Value

@[expose] public section

set_option maxRecDepth 16384

noncomputable section

open Idealize.ShloMosaic Idealize.ShloMosaic.TcCoe

namespace Delta

open Cert.DeltaRIdeal Cert.DeltaRIdeal.Gen Cert.DeltaRIdeal.Read
open Reals
open Chunk (Arr Mat In at2 col lo hi cat cat_lo cat_hi pick_true pick_false)
open Cert.ChunkKIdeal.Value (own own_self own_ne of_row in_row of_col in_col)
open Cert.DeltaKIdeal.Value (st_chunk st_head st_row sq_head sq_col)

variable (A : Arr)

/-! Up to the solved system the reference's arrays are those of the gradient's reference. -/

theorem same1 : (val_main_v1 (F := Ideal) A.x0) = (Cert.ChunkRIdeal.Read.val_main_v1 (F := Ideal) A.x0) := rfl
theorem same3 : (val_main_v3 (F := Ideal) A.x1) = (Cert.ChunkRIdeal.Read.val_main_v3 (F := Ideal) A.x1) := rfl
theorem same7 : (val_main_v7 (F := Ideal) A.x4) = (Cert.ChunkRIdeal.Read.val_main_v7 (F := Ideal) A.x4) := rfl
theorem same10 : (val_main_v10 (F := Ideal) A.x3) = (Cert.ChunkRIdeal.Read.val_main_v10 (F := Ideal) A.x3) := rfl
theorem same32 : (val_main_v32 (F := Ideal) A.x3) = (Cert.ChunkRIdeal.Read.val_main_v33 (F := Ideal) A.x3) := rfl
theorem same40 : (val_main_v40 (F := Ideal) A.x3) = (Cert.ChunkRIdeal.Read.val_main_v43 (F := Ideal) A.x3) := rfl
theorem same117 : (val_main_v117 (F := Ideal) A.x1 A.x3 A.x4) = (Cert.ChunkRIdeal.Read.val_main_v120 (F := Ideal) A.x1 A.x3 A.x4) := rfl
theorem same118 : (val_main_v118 (F := Ideal) A.x1 A.x2 A.x3 A.x4) = (Cert.ChunkRIdeal.Read.val_main_v121 (F := Ideal) A.x1 A.x2 A.x3 A.x4) := rfl
theorem same121 : (val_main_v121 (F := Ideal) A.x0 A.x1) = (Cert.ChunkRIdeal.Read.val_main_v126 (F := Ideal) A.x0 A.x1) := rfl

theorem word_head : ∀ h h' : Fin 4, IntOp.cmpi .eq (BitVec.ofNat 32 h.val + 0#32) (BitVec.ofNat 32 h'.val) = if h = h' then 1#1 else 0#1 := by
  decide +kernel

/-- A head's own columns. -/
theorem r144 (h h' : Fin 4) : @Eq (BitVec 1) (val_main_v144 (F := Ideal) (ix2 h h')) (if h = h' then 1#1 else 0#1) := by
  rw [← word_head]
  unfold val_main_v144
  pointwise [val_main_v140, val_main_v141, val_main_v142, val_main_v143, val_main_c_13]
  rfl

variable (hA : A.Ok)
include hA

theorem r1 (n : Fin 32) (h : Fin 4) (i : Fin 64) (d : Fin 128) : @Eq EReal ((val_main_v1 (F := Ideal) A.x0) (ix4 n h i d)) (((A.S n h).q i d : ℝ)) := by
  rw [same1]
  exact Chunk.r1 A hA n h i d

theorem r3 (n : Fin 32) (h : Fin 4) (i : Fin 64) (d : Fin 128) : @Eq EReal ((val_main_v3 (F := Ideal) A.x1) (ix4 n h i d)) (((A.S n h).k i d : ℝ)) := by
  rw [same3]
  exact Chunk.r3 A hA n h i d

theorem r7 (n : Fin 32) (h : Fin 4) (i : Fin 64) : @Eq EReal ((val_main_v7 (F := Ideal) A.x4) (ix3 n h i)) (((A.S n h).b i : ℝ)) := by
  rw [same7]
  exact Chunk.r7 A hA n h i

theorem r10 (n : Fin 32) (h : Fin 4) (i : Fin 64) : @Eq EReal ((val_main_v10 (F := Ideal) A.x3) (ix3 n h i)) (((A.S n h).gc i : ℝ)) := by
  rw [same10]
  exact Chunk.r10' A hA n h i

theorem r32 (n : Fin 32) (h : Fin 4) (i : Fin 64) (j : Fin 64) : @Eq EReal ((val_main_v32 (F := Ideal) A.x3) (ix4 n h i j)) (((A.S n h).dec i j : ℝ)) := by
  rw [same32]
  exact Chunk.r33 A hA n h i j

theorem r40 (n : Fin 32) (h : Fin 4) (i : Fin 64) : @Eq EReal ((val_main_v40 (F := Ideal) A.x3) (ix4 n h i 0)) (((A.S n h).gam i : ℝ)) := by
  rw [same40]
  exact Chunk.r43 A hA n h i

theorem r117 (n : Fin 32) (h : Fin 4) (i : Fin 64) (j : Fin 64) : @Eq EReal ((val_main_v117 (F := Ideal) A.x1 A.x3 A.x4) (ix4 n h i j)) (((A.S n h).T i j : ℝ)) := by
  rw [same117]
  exact Chunk.r120 A hA n h i j

theorem r118 (n : Fin 32) (h : Fin 4) (i : Fin 64) (D : Fin 256) : @Eq EReal ((val_main_v118 (F := Ideal) A.x1 A.x2 A.x3 A.x4) (ix4 n h i D)) (((A.S n h).sol i D : ℝ)) := by
  rw [same118]
  exact Chunk.r121 A hA n h i D

theorem r121 (n : Fin 32) (h : Fin 4) (i : Fin 64) (j : Fin 64) : @Eq EReal ((val_main_v121 (F := Ideal) A.x0 A.x1) (ix4 n h i j)) (((A.S n h).qk i j : ℝ)) := by
  rw [same121]
  exact Chunk.r126 A hA n h i j

theorem r119 (n : Fin 32) (h : Fin 4) (i : Fin 64) (d : Fin 128) : @Eq EReal ((val_main_v119 (F := Ideal) A.x1 A.x2 A.x3 A.x4) (ix4 n h i d)) (((A.S n h).uv i d : ℝ)) := by
  have h0 := r118 A hA
  unfold val_main_v119
  generalize (val_main_v118 (F := Ideal) A.x1 A.x2 A.x3 A.x4) = y0 at h0 ⊢
  pointwise []
  refine (h0 _ _ _ _).trans (congrArg _ ?_)
  exact cat_lo _ _ d

theorem r120 (n : Fin 32) (h : Fin 4) (i : Fin 64) (d : Fin 128) : @Eq EReal ((val_main_v120 (F := Ideal) A.x1 A.x2 A.x3 A.x4) (ix4 n h i d)) (((A.S n h).wk i d : ℝ)) := by
  have h0 := r118 A hA
  unfold val_main_v120
  generalize (val_main_v118 (F := Ideal) A.x1 A.x2 A.x3 A.x4) = y0 at h0 ⊢
  pointwise []
  refine Eq.trans (congrArg y0 (congrArg (ix4 n h i) ?_)) ((h0 n h i (hi d)).trans (congrArg _ ?_))
  · exact Fin.ext rfl
  · exact cat_hi _ _ d

theorem r125 (n : Fin 32) (h : Fin 4) (i : Fin 64) (j : Fin 64) : @Eq EReal ((val_main_v125 (F := Ideal) A.x0 A.x1 A.x3 A.x4) (ix4 n h i j)) (((A.S n h).dec i j * (A.S n h).qk i j * (A.S n h).b j : ℝ)) := by
  have h0 := r32 A hA
  have h1 := r121 A hA
  have h2 := r7 A hA
  unfold val_main_v125 val_main_v122 val_main_v124 val_main_v123
  generalize (val_main_v32 (F := Ideal) A.x3) = y0 at h0 ⊢
  generalize (val_main_v121 (F := Ideal) A.x0 A.x1) = y1 at h1 ⊢
  generalize (val_main_v7 (F := Ideal) A.x4) = y2 at h2 ⊢
  pointwise []
  simp only [h0, h1, h2, Fin.sum_univ_one, ← EReal.coe_mul, ← coe_sum, ← EReal.coe_add, ← EReal.coe_sub, ← EReal.coe_neg]

theorem r127 (n : Fin 32) (h : Fin 4) (i : Fin 64) (d : Fin 128) : @Eq EReal ((val_main_v127 (F := Ideal) A.x0 A.x3) (ix4 n h i d)) (((A.S n h).gam i * (A.S n h).q i d : ℝ)) := by
  have h0 := r40 A hA
  have h1 := r1 A hA
  unfold val_main_v127 val_main_v126
  generalize (val_main_v40 (F := Ideal) A.x3) = y0 at h0 ⊢
  generalize (val_main_v1 (F := Ideal) A.x0) = y1 at h1 ⊢
  pointwise []
  simp only [h0, h1, Fin.sum_univ_one, ← EReal.coe_mul, ← coe_sum, ← EReal.coe_add, ← EReal.coe_sub, ← EReal.coe_neg]

theorem r132 (n : Fin 32) (h : Fin 4) (i : Fin 64) : @Eq EReal ((val_main_v132 (F := Ideal) A.x3 A.x4) (ix3 n h i)) (((A.S n h).e i * (A.S n h).b i : ℝ)) := by
  have h0 := r10 A hA
  have h1 := r7 A hA
  unfold val_main_v132 val_main_v131 val_main_v130 val_main_v129 val_main_v128
  generalize (val_main_v10 (F := Ideal) A.x3) = y0 at h0 ⊢
  generalize (val_main_v7 (F := Ideal) A.x4) = y1 at h1 ⊢
  pointwise []
  rw [h0, h0, h1, ← EReal.coe_sub, Ideal.exp_coe, ← EReal.coe_mul]
  rfl

theorem r135 (n : Fin 32) (h : Fin 4) (i : Fin 64) (d : Fin 128) : @Eq EReal ((val_main_v135 (F := Ideal) A.x1 A.x3 A.x4) (ix4 n h i d)) (((A.S n h).k i d * ((A.S n h).e i * (A.S n h).b i) : ℝ)) := by
  have h0 := r3 A hA
  have h1 := r132 A hA
  unfold val_main_v135 val_main_v134 val_main_v133
  generalize (val_main_v3 (F := Ideal) A.x1) = y0 at h0 ⊢
  generalize (val_main_v132 (F := Ideal) A.x3 A.x4) = y1 at h1 ⊢
  pointwise []
  simp only [h0, h1, Fin.sum_univ_one, ← EReal.coe_mul, ← coe_sum, ← EReal.coe_add, ← EReal.coe_sub, ← EReal.coe_neg]

theorem ref_uv (r : Fin 2048) (s : Fin 512) : @Eq EReal ((val_main_v137 (F := Ideal) A.x1 A.x2 A.x3 A.x4) (ix2 r s)) ((A.S (of_row r) (of_col s)).uv (in_row r) (in_col s) : ℝ) := by
  have h0 := r119 A hA
  unfold val_main_v137 val_main_v136
  generalize (val_main_v119 (F := Ideal) A.x1 A.x2 A.x3 A.x4) = y0 at h0 ⊢
  refine Eq.trans ?_ (h0 _ _ _ _)
  pointwise []
  rfl

theorem ref_wk (r : Fin 2048) (s : Fin 512) : @Eq EReal ((val_main_v139 (F := Ideal) A.x1 A.x2 A.x3 A.x4) (ix2 r s)) ((A.S (of_row r) (of_col s)).wk (in_row r) (in_col s) : ℝ) := by
  have h0 := r120 A hA
  unfold val_main_v139 val_main_v138
  generalize (val_main_v120 (F := Ideal) A.x1 A.x2 A.x3 A.x4) = y0 at h0 ⊢
  refine Eq.trans ?_ (h0 _ _ _ _)
  pointwise []
  rfl

theorem ref_att (r : Fin 8192) (s : Fin 256) : @Eq EReal ((val_main_v151 (F := Ideal) A.x0 A.x1 A.x3 A.x4) (ix2 r s))
    (own (st_head r) (sq_head s) ((A.S (st_chunk r) (st_head r)).dec (st_row r) (sq_col s) * (A.S (st_chunk r) (st_head r)).qk (st_row r) (sq_col s) * (A.S (st_chunk r) (st_head r)).b (sq_col s))) := by
  have h0 := r125 A hA (st_chunk r) (st_head r) (st_row r) (sq_col s)
  have hw : @Eq (BitVec 1) (val_main_v144 (F := Ideal) (ix2 (st_head r) (sq_head s))) _ := r144 (st_head r) (sq_head s)
  unfold val_main_v151 val_main_v150 val_main_v148 val_main_v147 val_main_v149 val_main_cst_14 val_main_v146 val_main_v145
  generalize (val_main_v125 (F := Ideal) A.x0 A.x1 A.x3 A.x4) = y0 at h0 ⊢
  generalize (val_main_v144 (F := Ideal)) = w at hw ⊢
  have e : @Eq EReal (Scalar.select (w (ix2 (st_head r) (sq_head s))) (y0 (ix4 (st_chunk r) (st_head r) (st_row r) (sq_col s))) (Ideal.ofBits .f32 0x00000000#32))
      (own (st_head r) (sq_head s) ((A.S (st_chunk r) (st_head r)).dec (st_row r) (sq_col s) * (A.S (st_chunk r) (st_head r)).qk (st_row r) (sq_col s) * (A.S (st_chunk r) (st_head r)).b (sq_col s))) := by
    rw [hw, h0]
    by_cases hh : st_head r = sq_head s
    · rw [if_pos hh, pick_true]
      exact (if_pos hh).symm
    · rw [if_neg hh, pick_false, own_ne hh]
      simp [Ideal.ofBits, Ideal.ieee]
  refine Eq.trans ?_ e
  pointwise []
  rfl

theorem ref_t (r : Fin 8192) (s : Fin 256) : @Eq EReal ((val_main_v163 (F := Ideal) A.x1 A.x3 A.x4) (ix2 r s))
    (own (st_head r) (sq_head s) ((A.S (st_chunk r) (st_head r)).T (st_row r) (sq_col s))) := by
  have h0 := r117 A hA (st_chunk r) (st_head r) (st_row r) (sq_col s)
  have hw : @Eq (BitVec 1) (val_main_v156 (F := Ideal) (ix2 (st_head r) (sq_head s))) _ := r144 (st_head r) (sq_head s)
  unfold val_main_v163 val_main_v162 val_main_v160 val_main_v159 val_main_v161 val_main_cst_16 val_main_v158 val_main_v157
  generalize (val_main_v117 (F := Ideal) A.x1 A.x3 A.x4) = y0 at h0 ⊢
  generalize (val_main_v156 (F := Ideal)) = w at hw ⊢
  have e : @Eq EReal (Scalar.select (w (ix2 (st_head r) (sq_head s))) (y0 (ix4 (st_chunk r) (st_head r) (st_row r) (sq_col s))) (Ideal.ofBits .f32 0x00000000#32))
      (own (st_head r) (sq_head s) ((A.S (st_chunk r) (st_head r)).T (st_row r) (sq_col s))) := by
    rw [hw, h0]
    by_cases hh : st_head r = sq_head s
    · rw [if_pos hh, pick_true]
      exact (if_pos hh).symm
    · rw [if_neg hh, pick_false, own_ne hh]
      simp [Ideal.ofBits, Ideal.ieee]
  refine Eq.trans ?_ e
  pointwise []
  rfl

theorem ref_wkb (r : Fin 8192) (s : Fin 512) : @Eq EReal ((val_main_v176 (F := Ideal) A.x1 A.x2 A.x3 A.x4) (ix2 r s))
    (own (st_head r) (of_col s) ((A.S (st_chunk r) (st_head r)).wk (st_row r) (in_col s))) := by
  have h0 := r120 A hA (st_chunk r) (st_head r) (st_row r) (in_col s)
  have hw : @Eq (BitVec 1) (val_main_v168 (F := Ideal) (ix2 (st_head r) (of_col s))) _ := r144 (st_head r) (of_col s)
  unfold val_main_v176 val_main_v175 val_main_v174 val_main_v172 val_main_v171 val_main_v173 val_main_cst_18 val_main_v170 val_main_v169
  generalize (val_main_v120 (F := Ideal) A.x1 A.x2 A.x3 A.x4) = y0 at h0 ⊢
  generalize (val_main_v168 (F := Ideal)) = w at hw ⊢
  have e : @Eq EReal (Scalar.select (w (ix2 (st_head r) (of_col s))) (y0 (ix4 (st_chunk r) (st_head r) (st_row r) (in_col s))) (Ideal.ofBits .f32 0x00000000#32))
      (own (st_head r) (of_col s) ((A.S (st_chunk r) (st_head r)).wk (st_row r) (in_col s))) := by
    rw [hw, h0]
    by_cases hh : st_head r = of_col s
    · rw [if_pos hh, pick_true]
      exact (if_pos hh).symm
    · rw [if_neg hh, pick_false, own_ne hh]
      simp [Ideal.ofBits, Ideal.ieee]
  refine Eq.trans ?_ e
  pointwise []
  rfl

theorem ref_qdb (r : Fin 8192) (s : Fin 512) : @Eq EReal ((val_main_v189 (F := Ideal) A.x0 A.x3) (ix2 r s))
    (own (st_head r) (of_col s) ((A.S (st_chunk r) (st_head r)).gam (st_row r) * (A.S (st_chunk r) (st_head r)).q (st_row r) (in_col s))) := by
  have h0 := r127 A hA (st_chunk r) (st_head r) (st_row r) (in_col s)
  have hw : @Eq (BitVec 1) (val_main_v181 (F := Ideal) (ix2 (st_head r) (of_col s))) _ := r144 (st_head r) (of_col s)
  unfold val_main_v189 val_main_v188 val_main_v187 val_main_v185 val_main_v184 val_main_v186 val_main_cst_20 val_main_v183 val_main_v182
  generalize (val_main_v127 (F := Ideal) A.x0 A.x3) = y0 at h0 ⊢
  generalize (val_main_v181 (F := Ideal)) = w at hw ⊢
  have e : @Eq EReal (Scalar.select (w (ix2 (st_head r) (of_col s))) (y0 (ix4 (st_chunk r) (st_head r) (st_row r) (in_col s))) (Ideal.ofBits .f32 0x00000000#32))
      (own (st_head r) (of_col s) ((A.S (st_chunk r) (st_head r)).gam (st_row r) * (A.S (st_chunk r) (st_head r)).q (st_row r) (in_col s))) := by
    rw [hw, h0]
    by_cases hh : st_head r = of_col s
    · rw [if_pos hh, pick_true]
      exact (if_pos hh).symm
    · rw [if_neg hh, pick_false, own_ne hh]
      simp [Ideal.ofBits, Ideal.ieee]
  refine Eq.trans ?_ e
  pointwise []
  rfl

theorem ref_keb (r : Fin 8192) (s : Fin 512) : @Eq EReal ((val_main_v202 (F := Ideal) A.x1 A.x3 A.x4) (ix2 r s))
    (own (st_head r) (of_col s) ((A.S (st_chunk r) (st_head r)).k (st_row r) (in_col s) * ((A.S (st_chunk r) (st_head r)).e (st_row r) * (A.S (st_chunk r) (st_head r)).b (st_row r)))) := by
  have h0 := r135 A hA (st_chunk r) (st_head r) (st_row r) (in_col s)
  have hw : @Eq (BitVec 1) (val_main_v194 (F := Ideal) (ix2 (st_head r) (of_col s))) _ := r144 (st_head r) (of_col s)
  unfold val_main_v202 val_main_v201 val_main_v200 val_main_v198 val_main_v197 val_main_v199 val_main_cst_22 val_main_v196 val_main_v195
  generalize (val_main_v135 (F := Ideal) A.x1 A.x3 A.x4) = y0 at h0 ⊢
  generalize (val_main_v194 (F := Ideal)) = w at hw ⊢
  have e : @Eq EReal (Scalar.select (w (ix2 (st_head r) (of_col s))) (y0 (ix4 (st_chunk r) (st_head r) (st_row r) (in_col s))) (Ideal.ofBits .f32 0x00000000#32))
      (own (st_head r) (of_col s) ((A.S (st_chunk r) (st_head r)).k (st_row r) (in_col s) * ((A.S (st_chunk r) (st_head r)).e (st_row r) * (A.S (st_chunk r) (st_head r)).b (st_row r)))) := by
    rw [hw, h0]
    by_cases hh : st_head r = of_col s
    · rw [if_pos hh, pick_true]
      exact (if_pos hh).symm
    · rw [if_neg hh, pick_false, own_ne hh]
      simp [Ideal.ofBits, Ideal.ieee]
  refine Eq.trans ?_ e
  pointwise []
  rfl

end Delta

end
-- ==== Proof.Delta.Claim.lean ====
module

public import proofs.«01_k».proof.Proof.Delta.Ref
public import proofs.«01_k».proof.Proof.Gen.DeltaK.Frame
public import proofs.«01_k».proof.Proof.Gen.DeltaRIdeal.Run
public import proofs.«01_k».proof.Defs

@[expose] public section

set_option maxRecDepth 16384

noncomputable section

namespace Cert.Proof.Delta

open Idealize.ShloMosaic Idealize.SL.Sem

theorem frame_k : Cert.quiescent_DeltaK (hDeltaK := Cert.DeltaK.Gen.facts) := fun m ρ _ => Cert.DeltaK.Gen.frame m ρ

theorem frame_ki : Cert.quiescent_DeltaKIdeal (hDeltaKIdeal := Cert.DeltaKIdeal.Gen.facts) := fun m ρ _ => Cert.DeltaKIdeal.Gen.frame m ρ

theorem frame_kip [h : Cert.Pre_delta_finite.Facts] : Cert.quiescent_DeltaKIdeal_pre_delta_finite (hDeltaKIdeal := Cert.DeltaKIdeal.Gen.facts) (hPre_delta_finite := h) :=
  fun m ρ _ => Cert.DeltaKIdeal.Gen.frame m ρ

theorem frame_r : Cert.quiescent_DeltaRIdeal (hDeltaRIdeal := Cert.DeltaRIdeal.Gen.facts) := fun m g _ =>
  (θ_run _ _ _).mono (fun r h => ⟨fun c => (h c).2.2.2.2.2.2.2, Idealize.ShloMosaic.sem_eq_zero_of_no_sems (by decide) r.2⟩) (Cert.DeltaRIdeal.Value.run m g)

theorem frame_rp [h : Cert.Pre_delta_finite.Facts] : Cert.quiescent_DeltaRIdeal_pre_delta_finite (hDeltaRIdeal := Cert.DeltaRIdeal.Gen.facts) (hPre_delta_finite := h) :=
  fun m g _ => frame_r m g trivial

theorem ok [h : Cert.Pre_delta_finite.Facts] (m : (ℓ : Loc Cert.DeltaKIdeal.nD Cert.DeltaKIdeal.τ Cert.DeltaKIdeal.sig) → Buf (Elt Ideal) ℓ) (hpre : Cert.Pre_DeltaKIdeal_delta_finite m) (c : Dev Cert.DeltaKIdeal.nD) :
    (Cert.DeltaKIdeal.Value.args m c).Ok := by
  obtain ⟨p0, p1, p2, p3, p4⟩ := hpre c
  exact ⟨Reals.fin_of_pre _ _ (fun _ => rfl) p0, Reals.fin_of_pre _ _ (fun _ => rfl) p1, Reals.fin_of_pre _ _ (fun _ => rfl) p2, Reals.fin_of_pre _ _ (fun _ => rfl) p3, Reals.fin_of_pre _ _ (fun _ => rfl) p4,
    fun _ => Reals.IsReal.zero, fun _ => Reals.IsReal.zero, fun _ => Reals.IsReal.zero, fun _ => Reals.IsReal.zero, fun _ => Reals.IsReal.zero, fun _ => Reals.IsReal.zero⟩

set_option maxHeartbeats 1600000 in
theorem algebraic [h : Cert.Pre_delta_finite.Facts] :
    Cert.algebraic_DeltaKIdeal_DeltaRIdeal_pre_delta_finite (hDeltaKIdeal := Cert.DeltaKIdeal.Gen.facts) (hDeltaRIdeal := Cert.DeltaRIdeal.Gen.facts) (hPre_delta_finite := h) := by
  pair_intro
  · run_from Cert.DeltaKIdeal.Value.run_blocks m g
  · have hA := ok m hpre
    refine (θ_run _ _ _).mono (fun r h c => ?_) (Cert.DeltaRIdeal.Value.run m' g')
    obtain ⟨h0, h1, h2, h3, h4, h5, h6, hk⟩ := h c
    obtain ⟨a0, a1, a2, a3, a4⟩ := hagree c
    refine ⟨h0.trans ((Cert.DeltaRIdeal.Read.val_main_v137_eq _).trans ?_), h1.trans ((Cert.DeltaRIdeal.Read.val_main_v139_eq _).trans ?_), h2.trans ((Cert.DeltaRIdeal.Read.val_main_v151_eq _).trans ?_), h3.trans ((Cert.DeltaRIdeal.Read.val_main_v163_eq _).trans ?_), h4.trans ((Cert.DeltaRIdeal.Read.val_main_v176_eq _).trans ?_), h5.trans ((Cert.DeltaRIdeal.Read.val_main_v189_eq _).trans ?_), h6.trans ((Cert.DeltaRIdeal.Read.val_main_v202_eq _).trans ?_), hk⟩
    · show Cert.DeltaRIdeal.Read.val_main_v137 (F := Ideal) (m' (c.tc.loc Cert.DeltaRIdeal.main_arg1)) (m' (c.tc.loc Cert.DeltaRIdeal.main_arg2)) (m' (c.tc.loc Cert.DeltaRIdeal.main_arg3)) (m' (c.tc.loc Cert.DeltaRIdeal.main_arg4)) = _
      rw [a1, a2, a3, a4]
      refine Eq.trans (funext fun y => ?_) (Cert.DeltaKIdeal.Value.final5 m hA c).symm
      idx_vars y
      exact _root_.Delta.ref_uv (Cert.DeltaKIdeal.Value.args m c) (hA c) _ _
    · show Cert.DeltaRIdeal.Read.val_main_v139 (F := Ideal) (m' (c.tc.loc Cert.DeltaRIdeal.main_arg1)) (m' (c.tc.loc Cert.DeltaRIdeal.main_arg2)) (m' (c.tc.loc Cert.DeltaRIdeal.main_arg3)) (m' (c.tc.loc Cert.DeltaRIdeal.main_arg4)) = _
      rw [a1, a2, a3, a4]
      refine Eq.trans (funext fun y => ?_) (Cert.DeltaKIdeal.Value.final6 m hA c).symm
      idx_vars y
      exact _root_.Delta.ref_wk (Cert.DeltaKIdeal.Value.args m c) (hA c) _ _
    · show Cert.DeltaRIdeal.Read.val_main_v151 (F := Ideal) (m' (c.tc.loc Cert.DeltaRIdeal.main_arg0)) (m' (c.tc.loc Cert.DeltaRIdeal.main_arg1)) (m' (c.tc.loc Cert.DeltaRIdeal.main_arg3)) (m' (c.tc.loc Cert.DeltaRIdeal.main_arg4)) = _
      rw [a0, a1, a3, a4]
      refine Eq.trans (funext fun y => ?_) (Cert.DeltaKIdeal.Value.final7 m hA c).symm
      idx_vars y
      exact _root_.Delta.ref_att (Cert.DeltaKIdeal.Value.args m c) (hA c) _ _
    · show Cert.DeltaRIdeal.Read.val_main_v163 (F := Ideal) (m' (c.tc.loc Cert.DeltaRIdeal.main_arg1)) (m' (c.tc.loc Cert.DeltaRIdeal.main_arg3)) (m' (c.tc.loc Cert.DeltaRIdeal.main_arg4)) = _
      rw [a1, a3, a4]
      refine Eq.trans (funext fun y => ?_) (Cert.DeltaKIdeal.Value.final8 m hA c).symm
      idx_vars y
      exact _root_.Delta.ref_t (Cert.DeltaKIdeal.Value.args m c) (hA c) _ _
    · show Cert.DeltaRIdeal.Read.val_main_v176 (F := Ideal) (m' (c.tc.loc Cert.DeltaRIdeal.main_arg1)) (m' (c.tc.loc Cert.DeltaRIdeal.main_arg2)) (m' (c.tc.loc Cert.DeltaRIdeal.main_arg3)) (m' (c.tc.loc Cert.DeltaRIdeal.main_arg4)) = _
      rw [a1, a2, a3, a4]
      refine Eq.trans (funext fun y => ?_) (Cert.DeltaKIdeal.Value.final9 m hA c).symm
      idx_vars y
      exact _root_.Delta.ref_wkb (Cert.DeltaKIdeal.Value.args m c) (hA c) _ _
    · show Cert.DeltaRIdeal.Read.val_main_v189 (F := Ideal) (m' (c.tc.loc Cert.DeltaRIdeal.main_arg0)) (m' (c.tc.loc Cert.DeltaRIdeal.main_arg3)) = _
      rw [a0, a3]
      refine Eq.trans (funext fun y => ?_) (Cert.DeltaKIdeal.Value.final10 m hA c).symm
      idx_vars y
      exact _root_.Delta.ref_qdb (Cert.DeltaKIdeal.Value.args m c) (hA c) _ _
    · show Cert.DeltaRIdeal.Read.val_main_v202 (F := Ideal) (m' (c.tc.loc Cert.DeltaRIdeal.main_arg1)) (m' (c.tc.loc Cert.DeltaRIdeal.main_arg3)) (m' (c.tc.loc Cert.DeltaRIdeal.main_arg4)) = _
      rw [a1, a3, a4]
      refine Eq.trans (funext fun y => ?_) (Cert.DeltaKIdeal.Value.final11 m hA c).symm
      idx_vars y
      exact _root_.Delta.ref_keb (Cert.DeltaKIdeal.Value.args m c) (hA c) _ _

end Cert.Proof.Delta

end
-- ==== Proof.lean ====
module

public import proofs.«01_k».proof.Defs
public import proofs.«01_k».proof.Proof.Gen.ConvK.Frame
public import proofs.«01_k».proof.Proof.Gen.ConvKIdeal.Value
public import proofs.«01_k».proof.Proof.Gen.ConvRIdeal.Run
public import proofs.«01_k».proof.Proof.Gen.ConvRIdeal.Read
public import proofs.«01_k».proof.Proof.Conv.Claim
public import proofs.«01_k».proof.Proof.Gen.PrepK.Frame
public import proofs.«01_k».proof.Proof.Gen.PrepKIdeal.Value
public import proofs.«01_k».proof.Proof.Gen.PrepRIdeal.Run
public import proofs.«01_k».proof.Proof.Gen.PrepRIdeal.Read
public import proofs.«01_k».proof.Proof.Prep.Claim
public import proofs.«01_k».proof.Proof.Gen.Pre_prep_finite
public import proofs.«01_k».proof.Proof.Gen.UpK.Frame
public import proofs.«01_k».proof.Proof.Gen.UpKIdeal.Value
public import proofs.«01_k».proof.Proof.Gen.UpRIdeal.Run
public import proofs.«01_k».proof.Proof.Gen.UpRIdeal.Read
public import proofs.«01_k».proof.Proof.Up.Claim
public import proofs.«01_k».proof.Proof.Gen.Pre_up_finite
public import proofs.«01_k».proof.Proof.Gen.FfnK.Frame
public import proofs.«01_k».proof.Proof.Gen.FfnKIdeal.Frame
public import proofs.«01_k».proof.Proof.Gen.FfnRIdeal.Run
public import proofs.«01_k».proof.Proof.Gen.FfnRIdeal.Read
public import proofs.«01_k».proof.Proof.Ffn.Claim
public import proofs.«01_k».proof.Proof.Gen.Pre_ffnb_finite
public import proofs.«01_k».proof.Proof.Gen.LossK.Frame
public import proofs.«01_k».proof.Proof.Gen.LossKIdeal.Frame
public import proofs.«01_k».proof.Proof.Gen.LossRIdeal.Run
public import proofs.«01_k».proof.Proof.Gen.LossRIdeal.Read
public import proofs.«01_k».proof.Proof.Loss.Claim
public import proofs.«01_k».proof.Proof.Gen.Pre_loss_finite
public import proofs.«01_k».proof.Proof.Gen.ChunkK.Frame
public import proofs.«01_k».proof.Proof.Gen.ChunkKIdeal.Value
public import proofs.«01_k».proof.Proof.Gen.ChunkRIdeal.Run
public import proofs.«01_k».proof.Proof.Gen.ChunkRIdeal.Read
public import proofs.«01_k».proof.Proof.Chunk.Claim
public import proofs.«01_k».proof.Proof.Gen.Pre_chunk_finite
public import proofs.«01_k».proof.Proof.Gen.DeltaK.Frame
public import proofs.«01_k».proof.Proof.Gen.DeltaKIdeal.Value
public import proofs.«01_k».proof.Proof.Gen.DeltaRIdeal.Run
public import proofs.«01_k».proof.Proof.Gen.DeltaRIdeal.Read
public import proofs.«01_k».proof.Proof.Delta.Claim
public import proofs.«01_k».proof.Proof.Gen.Pre_delta_finite
public import Idealize.ShloMosaic.Adequacy
public import Idealize.ShloMosaic.Init

@[expose] public section

noncomputable section

namespace Cert.Proof

theorem claim : Cert.Claim :=
  ⟨Cert.ConvK.Gen.facts, Cert.ConvKIdeal.Gen.facts, Cert.ConvRIdeal.Gen.facts, Cert.PrepK.Gen.facts, Cert.PrepKIdeal.Gen.facts, Cert.PrepRIdeal.Gen.facts, Cert.UpK.Gen.facts, Cert.UpKIdeal.Gen.facts, Cert.UpRIdeal.Gen.facts, Cert.FfnK.Gen.facts, Cert.FfnKIdeal.Gen.facts, Cert.FfnRIdeal.Gen.facts, Cert.LossK.Gen.facts, Cert.LossKIdeal.Gen.facts, Cert.LossRIdeal.Gen.facts, Cert.ChunkK.Gen.facts, Cert.ChunkKIdeal.Gen.facts, Cert.ChunkRIdeal.Gen.facts, Cert.DeltaK.Gen.facts, Cert.DeltaKIdeal.Gen.facts, Cert.DeltaRIdeal.Gen.facts, Cert.Pre_prep_finite.Gen.facts, Cert.Pre_up_finite.Gen.facts, Cert.Pre_ffnb_finite.Gen.facts, Cert.Pre_loss_finite.Gen.facts, Cert.Pre_chunk_finite.Gen.facts, Cert.Pre_delta_finite.Gen.facts,
  Conv.frame_k, Conv.frame_ki, Conv.frame_r, Prep.frame_k, Prep.frame_ki, Prep.frame_kip, Prep.frame_r, Prep.frame_rp, Up.frame_k, Up.frame_ki, Up.frame_kip, Up.frame_r, Up.frame_rp, Ffn.frame_k, Ffn.frame_ki, Ffn.frame_kip, Ffn.frame_r, Ffn.frame_rp, Loss.frame_k, Loss.frame_ki, Loss.frame_kip, Loss.frame_r, Loss.frame_rp, Chunk.frame_k, Chunk.frame_ki, Chunk.frame_kip, Chunk.frame_r, Chunk.frame_rp, Delta.frame_k, Delta.frame_ki, Delta.frame_kip, Delta.frame_r, Delta.frame_rp,
  trivial, Conv.algebraic, trivial, Prep.algebraic, trivial, Up.algebraic, trivial, Ffn.algebraic, trivial, Loss.algebraic, trivial, Chunk.algebraic, trivial, Delta.algebraic⟩

end Cert.Proof

end
